-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13))) = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_finite [hPre_finite : Cert.Pre_finite.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_finite.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7)) (m ((c.tc : Thread Cert.MixerReferenceIdeal.nD Cert.MixerReferenceIdeal.τ).loc Cert.MixerReferenceIdeal.main_arg8)) (m ((c.tc : Thread Cert.MixerReferenceIdeal.nD Cert.MixerReferenceIdeal.τ).loc Cert.MixerReferenceIdeal.main_arg9)) (m ((c.tc : Thread Cert.MixerReferenceIdeal.nD Cert.MixerReferenceIdeal.τ).loc Cert.MixerReferenceIdeal.main_arg10)) (m ((c.tc : Thread Cert.MixerReferenceIdeal.nD Cert.MixerReferenceIdeal.τ).loc Cert.MixerReferenceIdeal.main_arg11)) (m ((c.tc : Thread Cert.MixerReferenceIdeal.nD Cert.MixerReferenceIdeal.τ).loc Cert.MixerReferenceIdeal.main_arg12)) (m ((c.tc : Thread Cert.MixerReferenceIdeal.nD Cert.MixerReferenceIdeal.τ).loc Cert.MixerReferenceIdeal.main_arg13))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13))
      ∧ r.2.sem = fun _ => 0)

def quiescent_MixerReferenceIdeal_pre_finite [hMixerReferenceIdeal : Cert.MixerReferenceIdeal.Facts] [hPre_finite : Cert.Pre_finite.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_finite m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Mixer_MixerIdeal : Prop :=
  IdealRules.named_const.Statement Cert.MixerIdeal.κ "neg_log2e" .f32 0xBFB8AA3B#32 ((-((Real.log 2)⁻¹) : ℝ) : EReal)
  ∧ IdealRules.named_const.Statement Cert.MixerIdeal.κ "log2e" .f32 0x3FB8AA3B#32 (((Real.log 2)⁻¹ : ℝ) : EReal)
  ∧ IdealRules.named_const.Statement Cert.MixerIdeal.κ "neg_big" .f32 0xF149F2CA#32 ⊥

def algebraic_MixerIdeal_MixerReferenceIdeal_pre_finite [hMixerIdeal : Cert.MixerIdeal.Facts] [hMixerReferenceIdeal : Cert.MixerReferenceIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal_finite m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)
      ∧ m' ((c.tc : Thread Cert.MixerReferenceIdeal.nD Cert.MixerReferenceIdeal.τ).loc Cert.MixerReferenceIdeal.main_arg9) = m ((c.tc : Thread Cert.MixerIdeal.nD Cert.MixerIdeal.τ).loc Cert.MixerIdeal.main_arg9)
      ∧ m' ((c.tc : Thread Cert.MixerReferenceIdeal.nD Cert.MixerReferenceIdeal.τ).loc Cert.MixerReferenceIdeal.main_arg10) = m ((c.tc : Thread Cert.MixerIdeal.nD Cert.MixerIdeal.τ).loc Cert.MixerIdeal.main_arg10)
      ∧ m' ((c.tc : Thread Cert.MixerReferenceIdeal.nD Cert.MixerReferenceIdeal.τ).loc Cert.MixerReferenceIdeal.main_arg11) = m ((c.tc : Thread Cert.MixerIdeal.nD Cert.MixerIdeal.τ).loc Cert.MixerIdeal.main_arg11)
      ∧ m' ((c.tc : Thread Cert.MixerReferenceIdeal.nD Cert.MixerReferenceIdeal.τ).loc Cert.MixerReferenceIdeal.main_arg12) = m ((c.tc : Thread Cert.MixerIdeal.nD Cert.MixerIdeal.τ).loc Cert.MixerIdeal.main_arg12)
      ∧ m' ((c.tc : Thread Cert.MixerReferenceIdeal.nD Cert.MixerReferenceIdeal.τ).loc Cert.MixerReferenceIdeal.main_arg13) = m ((c.tc : Thread Cert.MixerIdeal.nD Cert.MixerIdeal.τ).loc Cert.MixerIdeal.main_arg13)) →
    ∃ (v0 : (c : Dev Cert.MixerIdeal.nD) → Buf (Elt Ideal) ((c.tc : Thread Cert.MixerIdeal.nD Cert.MixerIdeal.τ).loc Cert.MixerIdeal.main_v25_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v25_1) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v128) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11)
          ∧ r.2.mem ((c.tc : Thread Cert.MixerReferenceIdeal.nD Cert.MixerReferenceIdeal.τ).loc Cert.MixerReferenceIdeal.main_arg12) = m' ((c.tc : Thread Cert.MixerReferenceIdeal.nD Cert.MixerReferenceIdeal.τ).loc Cert.MixerReferenceIdeal.main_arg12)
          ∧ r.2.mem ((c.tc : Thread Cert.MixerReferenceIdeal.nD Cert.MixerReferenceIdeal.τ).loc Cert.MixerReferenceIdeal.main_arg13) = m' ((c.tc : Thread Cert.MixerReferenceIdeal.nD Cert.MixerReferenceIdeal.τ).loc Cert.MixerReferenceIdeal.main_arg13))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v19) = v0 c
          ∧ r.2.mem ((c.tc : Thread Cert.OutProjReferenceIdeal.nD Cert.OutProjReferenceIdeal.τ).loc Cert.OutProjReferenceIdeal.main_v34) = v1 c
          ∧ r.2.mem ((c.tc : Thread Cert.OutProjReferenceIdeal.nD Cert.OutProjReferenceIdeal.τ).loc Cert.OutProjReferenceIdeal.main_v36) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def preserves_Ffn_FfnIdeal : Prop :=
  IdealRules.named_const.Statement Cert.FfnIdeal.κ "neg_log2e" .f32 0xBFB8AA3B#32 ((-((Real.log 2)⁻¹) : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v23) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hMixer : Cert.Mixer.Facts) (hMixerIdeal : Cert.MixerIdeal.Facts) (hMixerReferenceIdeal : Cert.MixerReferenceIdeal.Facts) (hOutProj : Cert.OutProj.Facts) (hOutProjIdeal : Cert.OutProjIdeal.Facts) (hOutProjReferenceIdeal : Cert.OutProjReferenceIdeal.Facts) (hFfn : Cert.Ffn.Facts) (hFfnIdeal : Cert.FfnIdeal.Facts) (hFfnReferenceIdeal : Cert.FfnReferenceIdeal.Facts) (hPre_finite : Cert.Pre_finite.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerReferenceIdeal (hMixerReferenceIdeal := hMixerReferenceIdeal)
    ∧ quiescent_MixerReferenceIdeal_pre_finite (hMixerReferenceIdeal := hMixerReferenceIdeal) (hPre_finite := hPre_finite)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Mixer_MixerIdeal
    ∧ algebraic_MixerIdeal_MixerReferenceIdeal_pre_finite (hMixerIdeal := hMixerIdeal) (hMixerReferenceIdeal := hMixerReferenceIdeal) (hPre_finite := hPre_finite)
    ∧ preserves_OutProj_OutProjIdeal
    ∧ algebraic_OutProjIdeal_OutProjReferenceIdeal (hOutProjIdeal := hOutProjIdeal) (hOutProjReferenceIdeal := hOutProjReferenceIdeal)
    ∧ preserves_Ffn_FfnIdeal
    ∧ algebraic_FfnIdeal_FfnReferenceIdeal (hFfnIdeal := hFfnIdeal) (hFfnReferenceIdeal := hFfnReferenceIdeal)
-- ==== Pre_finite.lean ====
abbrev S2x8192x2048 : Shape := ⟨3, ![2, 8192, 2048]⟩
abbrev S1x2048 : Shape := ⟨2, ![1, 2048]⟩
abbrev S1x2048x6672 : Shape := ⟨3, ![1, 2048, 6672]⟩
abbrev S2x1024 : Shape := ⟨2, ![2, 1024]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x2048x5632 : Shape := ⟨3, ![1, 2048, 5632]⟩
abbrev S1x2048x2048 : Shape := ⟨3, ![1, 2048, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x6672 : S_.BroadcastsInDim S1x2048x6672 (![] : Fin 0 → Fin S1x2048x6672.rank)
  reducesTo_S1x2048x6672_S_d0_1_2 : S1x2048x6672.ReducesTo [0, 1, 2] S_
  bcast_S_S1x4x1536 : S_.BroadcastsInDim S1x4x1536 (![] : Fin 0 → Fin S1x4x1536.rank)
  reducesTo_S1x4x1536_S_d0_1_2 : S1x4x1536.ReducesTo [0, 1, 2] S_
  bcast_S_S1x1536 : S_.BroadcastsInDim S1x1536 (![] : Fin 0 → Fin S1x1536.rank)
  reducesTo_S1x1536_S_d0_1 : S1x1536.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg5 : FVec F S1x1536 .f32) (main_arg6 : FVec F S1x16 .f32) (main_arg7 : FVec F S1x16 .f32) (main_v13 : IVec S_ 1) (main_v16 : IVec S1x4x1536 1) : IVec S_ 1 :=
  let main_c_5 : IVec S_ 1 := constantI S_ 1 1#1
  let main_v17 : IVec S_ 1 := (fun x v => Host.reduce IntOp.andi x v reducesTo_S1x4x1536_S_d0_1_2 h_S_) main_v16 main_c_5
  let main_v18 : IVec S_ 1 := andi main_v13 main_v17
  let main_v19 : FVec F S1x1536 .f32 := Host.absf main_arg5
  let main_cst_6 : FVec F S_ .f32 := constant S_ .f32 0x7F800000#32
  let main_v20 : FVec F S1x1536 .f32 := broadcastInDim S1x1536 ![] bcast_S_S1x1536 main_cst_6
  let main_v21 : IVec S1x1536 1 := cmpf .olt main_v19 main_v20
  let main_c_7 : IVec S_ 1 := constantI S_ 1 1#1
  let main_v22 : IVec S_ 1 := (fun x v => Host.reduce IntOp.andi x v reducesTo_S1x1536_S_d0_1 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1x16 .f32 := Host.absf main_arg7
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  main_v33

def fn {F : FTy → Type} [FloatOps F] (main_arg0 : FVec F S2x8192x2048 .f32) (main_arg1 : FVec F S1x2048 .f32) (main_arg2 : FVec F S1x2048x6672 .f32) (main_arg3 : FVec F S2x1024 .f32) (main_arg4 : FVec F S1x4x1536 .f32) (main_arg5 : FVec F S1x1536 .f32) (main_arg6 : FVec F S1x16 .f32) (main_arg7 : FVec F S1x16 .f32) (main_arg8 : FVec F S1x16 .f32) (main_arg9 : FVec F S1x1024 .f32) (main_arg10 : FVec F S1x1024 .f32) (main_arg11 : FVec F S1x2048x5632 .f32) (main_arg12 : FVec F S1x2048x5632 .f32) (main_arg13 : FVec F S1x2048x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x6672 .f32 := Host.absf main_arg2
  let main_cst_2 : FVec F S_ .f32 := constant S_ .f32 0x7F800000#32
  let main_v10 : FVec F S1x2048x6672 .f32 := broadcastInDim S1x2048x6672 ![] bcast_S_S1x2048x6672 main_cst_2
  let main_v11 : IVec S1x2048x6672 1 := cmpf .olt main_v9 main_v10
  let main_c_3 : IVec S_ 1 := constantI S_ 1 1#1
  let main_v12 : IVec S_ 1 := (fun x v => Host.reduce IntOp.andi x v reducesTo_S1x2048x6672_S_d0_1_2 h_S_) main_v11 main_c_3
  let main_v13 : IVec S_ 1 := andi main_v8 main_v12
  let main_v14 : FVec F S1x4x1536 .f32 := Host.absf main_arg4
  let main_cst_4 : FVec F S_ .f32 := constant S_ .f32 0x7F800000#32
  let main_v15 : FVec F S1x4x1536 .f32 := broadcastInDim S1x4x1536 ![] bcast_S_S1x4x1536 main_cst_4
  let main_v16 : IVec S1x4x1536 1 := cmpf .olt main_v14 main_v15
  fn_part1 (F := F) main_arg5 main_arg6 main_arg7 main_v13 main_v16
-- ==== Mixer.lean ====
abbrev S2x8192x2048 : Shape := ⟨3, ![2, 8192, 2048]⟩
abbrev S1x2048 : Shape := ⟨2, ![1, 2048]⟩
abbrev S1x2048x6672 : Shape := ⟨3, ![1, 2048, 6672]⟩
abbrev S2x1024 : Shape := ⟨2, ![2, 1024]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x2048x5632 : Shape := ⟨3, ![1, 2048, 5632]⟩
abbrev S1x2048x2048 : Shape := ⟨3, ![1, 2048, 2048]⟩
abbrev S16384x2048 : Shape := ⟨2, ![16384, 2048]⟩
abbrev S2048 : Shape := ⟨1, ![2048]⟩
abbrev S2048x6672 : Shape := ⟨2, ![2048, 6672]⟩
abbrev S1024 : Shape := ⟨1, ![1024]⟩
abbrev S4x1536 : Shape := ⟨2, ![4, 1536]⟩
abbrev S1536 : Shape := ⟨1, ![1536]⟩
abbrev S16 : Shape := ⟨1, ![16]⟩
abbrev S_ : Shape := ⟨0, ![]⟩
abbrev S128 : Shape := ⟨1, ![128]⟩
abbrev S1x128 : Shape := ⟨2, ![1, 128]⟩
abbrev S16x64 : Shape := ⟨2, ![16, 64]⟩
abbrev S2048x5632 : Shape := ⟨2, ![2048, 5632]⟩
abbrev S2048x2048 : Shape := ⟨2, ![2048, 2048]⟩
abbrev S16384x1024 : Shape := ⟨2, ![16384, 1024]⟩
abbrev S256x2048 : Shape := ⟨2, ![256, 2048]⟩
abbrev S32x5632 : Shape := ⟨2, ![32, 5632]⟩
abbrev S32x2048 : Shape := ⟨2, ![32, 2048]⟩
abbrev S256x1024 : Shape := ⟨2, ![256, 1024]⟩
abbrev S8x128x128 : Shape := ⟨3, ![8, 128, 128]⟩
abbrev S128x128 : Shape := ⟨2, ![128, 128]⟩
abbrev S12x264x128 : Shape := ⟨3, ![12, 264, 128]⟩
abbrev S2x128x512 : Shape := ⟨3, ![2, 128, 512]⟩
abbrev S256x6784 : Shape := ⟨2, ![256, 6784]⟩
abbrev S2048x128 : Shape := ⟨2, ![2048, 128]⟩
abbrev S2048x16 : Shape := ⟨2, ![2048, 16]⟩
abbrev S12x8x128 : Shape := ⟨3, ![12, 8, 128]⟩
abbrev S256 : Shape := ⟨1, ![256]⟩
abbrev S256x1 : Shape := ⟨2, ![256, 1]⟩
abbrev S256x2688 : Shape := ⟨2, ![256, 2688]⟩
abbrev S256x1536 : Shape := ⟨2, ![256, 1536]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S256x512 : Shape := ⟨2, ![256, 512]⟩
abbrev S2048x256 : Shape := ⟨2, ![2048, 256]⟩
abbrev S256x256 : Shape := ⟨2, ![256, 256]⟩
abbrev S128x256 : Shape := ⟨2, ![128, 256]⟩
abbrev S1x256 : Shape := ⟨2, ![1, 256]⟩
abbrev S1x128x512 : Shape := ⟨3, ![1, 128, 512]⟩
abbrev S128x512 : Shape := ⟨2, ![128, 512]⟩
abbrev S1x512 : Shape := ⟨2, ![1, 512]⟩
abbrev S1x128x128 : Shape := ⟨3, ![1, 128, 128]⟩
abbrev S1024x128 : Shape := ⟨2, ![1024, 128]⟩
abbrev S128x8x128 : Shape := ⟨3, ![128, 8, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S512x128 : Shape := ⟨2, ![512, 128]⟩
abbrev S64x128 : Shape := ⟨2, ![64, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x4x8x128 : Shape := ⟨4, ![16, 4, 8, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S8x8x8x128 : Shape := ⟨4, ![8, 8, 8, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S4x2x8x128 : Shape := ⟨4, ![4, 2, 8, 128]⟩
abbrev S4x1x8x128 : Shape := ⟨4, ![4, 1, 8, 128]⟩
abbrev S4x8x128 : Shape := ⟨3, ![4, 8, 128]⟩
abbrev S4x16x8x128 : Shape := ⟨4, ![4, 16, 8, 128]⟩
abbrev S1x1x128 : Shape := ⟨3, ![1, 1, 128]⟩

abbrev nBuf : Space → Nat
  | .hbm => 48
  | .vmem => 35
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x6672, .f32⟩
  | .hbm, ⟨3, _⟩ => ⟨S2x1024, .f32⟩
  | .hbm, ⟨4, _⟩ => ⟨S1x4x1536, .f32⟩
  | .hbm, ⟨5, _⟩ => ⟨S1x1536, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x1024, .f32⟩
  | .hbm, ⟨10, _⟩ => ⟨S1x1024, .f32⟩
  | .hbm, ⟨11, _⟩ => ⟨S1x2048x5632, .f32⟩
  | .hbm, ⟨12, _⟩ => ⟨S1x2048x5632, .f32⟩
  | .hbm, ⟨13, _⟩ => ⟨S1x2048x2048, .f32⟩
  | .hbm, ⟨14, _⟩ => ⟨S16384x2048, .f32⟩
  | .hbm, ⟨15, _⟩ => ⟨S2048, .f32⟩
  | .hbm, ⟨16, _⟩ => ⟨S1x2048, .f32⟩
  | .hbm, ⟨17, _⟩ => ⟨S2048x6672, .f32⟩
  | .hbm, ⟨18, _⟩ => ⟨S2048x6672, .bf16⟩
  | .hbm, ⟨19, _⟩ => ⟨S1024, .f32⟩
  | .hbm, ⟨20, _⟩ => ⟨S1x1024, .f32⟩
  | .hbm, ⟨21, _⟩ => ⟨S4x1536, .f32⟩
  | .hbm, ⟨22, _⟩ => ⟨S1536, .f32⟩
  | .hbm, ⟨23, _⟩ => ⟨S1x1536, .f32⟩
  | .hbm, ⟨24, _⟩ => ⟨S16, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S16, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S16, .f32⟩
  | .hbm, ⟨35, _⟩ => ⟨S16x64, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S2048x5632, .f32⟩
  | .hbm, ⟨41, _⟩ => ⟨S2048x5632, .f32⟩
  | .hbm, ⟨42, _⟩ => ⟨S2048x2048, .f32⟩
  | .hbm, ⟨43, _⟩ => ⟨S16384x1024, .bf16⟩
  | .hbm, ⟨44, _⟩ => ⟨S16384x1024, .bf16⟩
  | .hbm, ⟨45, _⟩ => ⟨S2048x5632, .bf16⟩
  | .hbm, ⟨46, _⟩ => ⟨S2048x5632, .bf16⟩
  | .hbm, ⟨47, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6672, .bf16⟩
  | .local _ .vmem, ⟨4, _⟩ => ⟨S2x1024, .f32⟩
  | .local _ .vmem, ⟨5, _⟩ => ⟨S1x1024, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S32x5632, .f32⟩
  | .local _ .vmem, ⟨13, _⟩ => ⟨S32x5632, .f32⟩
  | .local _ .vmem, ⟨14, _⟩ => ⟨S32x5632, .f32⟩
  | .local _ .vmem, ⟨15, _⟩ => ⟨S32x5632, .f32⟩
  | .local _ .vmem, ⟨16, _⟩ => ⟨S32x2048, .f32⟩
  | .local _ .vmem, ⟨17, _⟩ => ⟨S32x2048, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S32x5632, .bf16⟩
  | .local _ .vmem, ⟨23, _⟩ => ⟨S32x5632, .bf16⟩
  | .local _ .vmem, ⟨24, _⟩ => ⟨S32x5632, .bf16⟩
  | .local _ .vmem, ⟨25, _⟩ => ⟨S32x5632, .bf16⟩
  | .local _ .vmem, ⟨26, _⟩ => ⟨S32x2048, .bf16⟩
  | .local _ .vmem, ⟨27, _⟩ => ⟨S32x2048, .bf16⟩
  | .local _ .vmem, ⟨28, _⟩ => ⟨S8x128x128, .f32⟩
  | .local _ .vmem, ⟨29, _⟩ => ⟨S128x128, .i32⟩
  | .local _ .vmem, ⟨30, _⟩ => ⟨S1x1024, .f32⟩
  | .local _ .vmem, ⟨31, _⟩ => ⟨S12x264x128, .f32⟩
  | .local _ .vmem, ⟨32, _⟩ => ⟨S2x128x512, .f32⟩
  | .local _ .vmem, ⟨33, _⟩ => ⟨S256x6784, .f32⟩
  | .local _ .vmem, ⟨34, _⟩ => ⟨S2048x128, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v25_3 : Ref sig .tc := ⟨.hbm, 46, rfl⟩
abbrev main_v25_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6672 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixerIdeal.lean ====
variable {F : FTy → Type} [FloatOps F] [Named F]
def κ : String → Option EReal := fun
  | "log2e" => some (((Real.log 2)⁻¹ : ℝ) : EReal)
  | "neg_big" => some ⊥
  | "neg_log2e" => some ((-((Real.log 2)⁻¹) : ℝ) : EReal)
  | _ => none
-- ==== MixerReferenceIdeal.lean ====
abbrev S2x8192x2048 : Shape := ⟨3, ![2, 8192, 2048]⟩
abbrev S1x2048 : Shape := ⟨2, ![1, 2048]⟩
abbrev S1x2048x6672 : Shape := ⟨3, ![1, 2048, 6672]⟩
abbrev S2x1024 : Shape := ⟨2, ![2, 1024]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x2048x5632 : Shape := ⟨3, ![1, 2048, 5632]⟩
abbrev S1x2048x2048 : Shape := ⟨3, ![1, 2048, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6672 : Shape := ⟨2, ![2048, 6672]⟩
abbrev S2x8192x6672 : Shape := ⟨3, ![2, 8192, 6672]⟩
abbrev S2x8192x1024 : Shape := ⟨3, ![2, 8192, 1024]⟩
abbrev S2x8192x1536 : Shape := ⟨3, ![2, 8192, 1536]⟩
abbrev S2x8192x16 : Shape := ⟨3, ![2, 8192, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x8195x1536 : Shape := ⟨3, ![2, 8195, 1536]⟩
abbrev S1x1x1536 : Shape := ⟨3, ![1, 1, 1536]⟩
abbrev S2x8192x2x8x64 : Shape := ⟨5, ![2, 8192, 2, 8, 64]⟩
abbrev S2x8192x256 : Shape := ⟨3, ![2, 8192, 256]⟩
abbrev S2x8192x2x128 : Shape := ⟨4, ![2, 8192, 2, 128]⟩
abbrev S1x1x16 : Shape := ⟨3, ![1, 1, 16]⟩
abbrev S2x8192x2x8 : Shape := ⟨4, ![2, 8192, 2, 8]⟩
abbrev S2x8 : Shape := ⟨2, ![2, 8]⟩
abbrev S2x8192x2x8x1 : Shape := ⟨5, ![2, 8192, 2, 8, 1]⟩
abbrev S1x1x2x8 : Shape := ⟨4, ![1, 1, 2, 8]⟩
abbrev S8192x8192 : Shape := ⟨2, ![8192, 8192]⟩
abbrev S2x2x8x8192 : Shape := ⟨4, ![2, 2, 8, 8192]⟩
abbrev S8192x8192x1x1 : Shape := ⟨4, ![8192, 8192, 1, 1]⟩
abbrev S2x8192x1x2x8 : Shape := ⟨5, ![2, 8192, 1, 2, 8]⟩
abbrev S2x1x8192x2x8 : Shape := ⟨5, ![2, 1, 8192, 2, 8]⟩
abbrev S2x8192x8192x2x8 : Shape := ⟨5, ![2, 8192, 8192, 2, 8]⟩
abbrev S2x2x8192x8192 : Shape := ⟨4, ![2, 2, 8192, 8192]⟩
abbrev S2x8192x8192x2 : Shape := ⟨4, ![2, 8192, 8192, 2]⟩
abbrev S2x8192x8192x2x1 : Shape := ⟨5, ![2, 8192, 8192, 2, 1]⟩
abbrev S2x2x8x64x8192 : Shape := ⟨5, ![2, 2, 8, 64, 8192]⟩
abbrev S2x8x1 : Shape := ⟨3, ![2, 8, 1]⟩
abbrev S1x1x2x8x1 : Shape := ⟨5, ![1, 1, 2, 8, 1]⟩
abbrev S2x8192x2x512 : Shape := ⟨4, ![2, 8192, 2, 512]⟩
abbrev S2x8192x2 : Shape := ⟨3, ![2, 8192, 2]⟩
abbrev S2x8192x2x1 : Shape := ⟨4, ![2, 8192, 2, 1]⟩
abbrev S1x1x1024 : Shape := ⟨3, ![1, 1, 1024]⟩
abbrev S16384x1024 : Shape := ⟨2, ![16384, 1024]⟩

abbrev nBuf : Space → Nat
  | .hbm => 194
  | .vmem => 0
  | .smem => 0
  | _ => 0

abbrev hbmTy0_0 (i : Nat) : BufTy := match i % 128 with
  | 0 => ⟨S2x8192x2048, .f32⟩
  | 1 => ⟨S1x2048, .f32⟩
  | 2 => ⟨S1x2048x6672, .f32⟩
  | 3 => ⟨S2x1024, .f32⟩
  | 4 => ⟨S1x4x1536, .f32⟩
  | 5 => ⟨S1x1536, .f32⟩
  | 6 => ⟨S1x16, .f32⟩
  | 7 => ⟨S1x16, .f32⟩
  | 8 => ⟨S1x16, .f32⟩
  | 9 => ⟨S1x1024, .f32⟩
  | 10 => ⟨S1x1024, .f32⟩
  | 11 => ⟨S1x2048x5632, .f32⟩
  | 12 => ⟨S1x2048x5632, .f32⟩
  | 13 => ⟨S1x2048x2048, .f32⟩
  | 14 => ⟨S2048, .f32⟩
  | 15 => ⟨S2x8192x2048, .f32⟩
  | 16 => ⟨S_, .f32⟩
  | 17 => ⟨S2x8192, .f32⟩
  | 18 => ⟨S2x8192x1, .f32⟩
  | 19 => ⟨S_, .f32⟩
  | 20 => ⟨S2x8192x1, .f32⟩
  | 21 => ⟨S2x8192x1, .f32⟩
  | 22 => ⟨S_, .f32⟩
  | 23 => ⟨S2x8192x1, .f32⟩
  | 24 => ⟨S2x8192x1, .f32⟩
  | 25 => ⟨S2x8192x1, .f32⟩
  | 26 => ⟨S2x8192x2048, .f32⟩
  | 27 => ⟨S2x8192x2048, .f32⟩
  | 28 => ⟨S1x1x2048, .f32⟩
  | 29 => ⟨S2x8192x2048, .f32⟩
  | 30 => ⟨S2x8192x2048, .f32⟩
  | 31 => ⟨S2048x6672, .f32⟩
  | 32 => ⟨S2x8192x6672, .f32⟩
  | 33 => ⟨S2x8192x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1536, .f32⟩
  | 39 => ⟨S2x8192x16, .f32⟩
  | 40 => ⟨S4x1536, .f32⟩
  | 41 => ⟨S1536, .f32⟩
  | 42 => ⟨S16, .f32⟩
  | 43 => ⟨S16, .f32⟩
  | 44 => ⟨S16, .f32⟩
  | 45 => ⟨S1024, .f32⟩
  | 46 => ⟨S_, .i32⟩
  | 47 => ⟨S_, .f32⟩
  | 48 => ⟨S2x8195x1536, .f32⟩
  | 49 => ⟨S1x1536, .f32⟩
  | 50 => ⟨S1536, .f32⟩
  | 51 => ⟨S2x8192x1536, .f32⟩
  | 52 => ⟨S1x1x1536, .f32⟩
  | 53 => ⟨S2x8192x1536, .f32⟩
  | 54 => ⟨S2x8192x1536, .f32⟩
  | 55 => ⟨S_, .f32⟩
  | 56 => ⟨S2x8192x1536, .f32⟩
  | 57 => ⟨S2x8192x1536, .f32⟩
  | 58 => ⟨S1x1536, .f32⟩
  | 59 => ⟨S1536, .f32⟩
  | 60 => ⟨S2x8192x1536, .f32⟩
  | 61 => ⟨S1x1x1536, .f32⟩
  | 62 => ⟨S2x8192x1536, .f32⟩
  | 63 => ⟨S2x8192x1536, .f32⟩
  | 64 => ⟨S2x8192x1536, .f32⟩
  | 65 => ⟨S1x1536, .f32⟩
  | 66 => ⟨S1536, .f32⟩
  | 67 => ⟨S2x8192x1536, .f32⟩
  | 68 => ⟨S1x1x1536, .f32⟩
  | 69 => ⟨S2x8192x1536, .f32⟩
  | 70 => ⟨S2x8192x1536, .f32⟩
  | 71 => ⟨S2x8192x1536, .f32⟩
  | 72 => ⟨S1x1536, .f32⟩
  | 73 => ⟨S1536, .f32⟩
  | 74 => ⟨S2x8192x1536, .f32⟩
  | 75 => ⟨S1x1x1536, .f32⟩
  | 76 => ⟨S2x8192x1536, .f32⟩
  | 77 => ⟨S2x8192x1536, .f32⟩
  | 78 => ⟨S2x8192x1536, .f32⟩
  | 79 => ⟨S1x1x1536, .f32⟩
  | 80 => ⟨S2x8192x1536, .f32⟩
  | 81 => ⟨S2x8192x1536, .f32⟩
  | 82 => ⟨S2x8192x1536, .f32⟩
  | 83 => ⟨S2x8192x1536, .f32⟩
  | 84 => ⟨S_, .f32⟩
  | 85 => ⟨S2x8192x1536, .f32⟩
  | 86 => ⟨S2x8192x1536, .f32⟩
  | 87 => ⟨S_, .f32⟩
  | 88 => ⟨S2x8192x1536, .f32⟩
  | 89 => ⟨S2x8192x1536, .f32⟩
  | 90 => ⟨S2x8192x1536, .f32⟩
  | 91 => ⟨S2x8192x1024, .f32⟩
  | 92 => ⟨S2x8192x2x8x64, .f32⟩
  | 93 => ⟨S2x8192x256, .f32⟩
  | 94 => ⟨S2x8192x2x128, .f32⟩
  | 95 => ⟨S2x8192x256, .f32⟩
  | 96 => ⟨S2x8192x2x128, .f32⟩
  | 97 => ⟨S1x1x16, .f32⟩
  | 98 => ⟨S2x8192x16, .f32⟩
  | 99 => ⟨S2x8192x16, .f32⟩
  | 100 => ⟨S_, .f32⟩
  | 101 => ⟨S2x8192x16, .f32⟩
  | 102 => ⟨S2x8192x16, .f32⟩
  | 103 => ⟨S2x8192x16, .f32⟩
  | 104 => ⟨S2x8192x16, .f32⟩
  | 105 => ⟨S2x8192x16, .i1⟩
  | 106 => ⟨S2x8192x16, .f32⟩
  | 107 => ⟨S2x8192x16, .f32⟩
  | 108 => ⟨S2x8192x16, .f32⟩
  | 109 => ⟨S2x8192x16, .f32⟩
  | 110 => ⟨S2x8192x16, .f32⟩
  | 111 => ⟨S2x8192x16, .f32⟩
  | 112 => ⟨S2x8192x16, .f32⟩
  | 113 => ⟨S2x8192x16, .f32⟩
  | 114 => ⟨S2x8192x2x8, .f32⟩
  | 115 => ⟨S16, .f32⟩
  | 116 => ⟨S2x8, .f32⟩
  | 117 => ⟨S2x8, .f32⟩
  | 118 => ⟨S2x8192x2x8x1, .f32⟩
  | 119 => ⟨S2x8192x2x8x64, .f32⟩
  | 120 => ⟨S2x8192x2x8x64, .f32⟩
  | 121 => ⟨S1x1x2x8, .f32⟩
  | 122 => ⟨S2x8192x2x8, .f32⟩
  | 123 => ⟨S2x8192x2x8, .f32⟩
  | 124 => ⟨S_, .i1⟩
  | 125 => ⟨S8192x8192, .i1⟩
  | 126 => ⟨S8192x8192, .i32⟩
  | 127 => ⟨S_, .i32⟩
  | _ => ⟨S2x8192x2048, .f32⟩

abbrev hbmTy0_1 (i : Nat) : BufTy := match i % 128 with
  | 0 => ⟨S8192x8192, .i32⟩
  | 1 => ⟨S8192x8192, .i32⟩
  | 2 => ⟨S8192x8192, .i32⟩
  | 3 => ⟨S8192x8192, .i1⟩
  | 4 => ⟨S_, .i1⟩
  | 5 => ⟨S8192x8192, .i1⟩
  | 6 => ⟨S8192x8192, .i1⟩
  | 7 => ⟨S8192x8192, .f32⟩
  | 8 => ⟨S2x2x8x8192, .f32⟩
  | 9 => ⟨S2x8192x2x8, .f32⟩
  | 10 => ⟨S8192x8192x1x1, .i1⟩
  | 11 => ⟨S2x8192x1x2x8, .f32⟩
  | 12 => ⟨S2x1x8192x2x8, .f32⟩
  | 13 => ⟨S2x8192x8192x2x8, .f32⟩
  | 14 => ⟨S2x8192x8192x2x8, .f32⟩
  | 15 => ⟨S2x8192x8192x2x8, .f32⟩
  | 16 => ⟨S_, .f32⟩
  | 17 => ⟨S_, .f32⟩
  | 18 => ⟨S2x8192x8192x2x8, .i1⟩
  | 19 => ⟨S2x8192x8192x2x8, .f32⟩
  | 20 => ⟨S2x8192x8192x2x8, .f32⟩
  | 21 => ⟨S2x8192x8192x2x8, .f32⟩
  | 22 => ⟨S2x2x8192x8192, .f32⟩
  | 23 => ⟨S2x8192x8192x2, .f32⟩
  | 24 => ⟨S2x8192x8192x2x1, .f32⟩
  | 25 => ⟨S2x8192x8192x2x8, .f32⟩
  | 26 => ⟨S2x8192x8192x2x8, .f32⟩
  | 27 => ⟨S2x2x8x64x8192, .f32⟩
  | 28 => ⟨S2x8192x2x8x64, .f32⟩
  | 29 => ⟨S2x8, .f32⟩
  | 30 => ⟨S2x8x1, .f32⟩
  | 31 => ⟨S1x1x2x8x1, .f32⟩
  | 32 => ⟨S2x8192x2x8x64, .f32⟩
  | 33 => ⟨S2x8192x2x8x64, .f32⟩
  | 34 => ⟨S2x8192x2x8x64, .f32⟩
  | 35 => ⟨S2x8192x1024, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S_, .f32⟩
  | 42 => ⟨S2x8192x1024, .f32⟩
  | 43 => ⟨S2x8192x1024, .f32⟩
  | 44 => ⟨S2x8192x1024, .f32⟩
  | 45 => ⟨S2x8192x1024, .f32⟩
  | 46 => ⟨S2x8192x2x512, .f32⟩
  | 47 => ⟨S2x8192x2x512, .f32⟩
  | 48 => ⟨S_, .f32⟩
  | 49 => ⟨S2x8192x2, .f32⟩
  | 50 => ⟨S2x8192x2x1, .f32⟩
  | 51 => ⟨S_, .f32⟩
  | 52 => ⟨S2x8192x2x1, .f32⟩
  | 53 => ⟨S2x8192x2x1, .f32⟩
  | 54 => ⟨S_, .f32⟩
  | 55 => ⟨S2x8192x2x1, .f32⟩
  | 56 => ⟨S2x8192x2x1, .f32⟩
  | 57 => ⟨S2x8192x2x1, .f32⟩
  | 58 => ⟨S2x8192x2x512, .f32⟩
  | 59 => ⟨S2x8192x2x512, .f32⟩
  | 60 => ⟨S2x8192x1024, .f32⟩
  | 61 => ⟨S1x1x1024, .f32⟩
  | 62 => ⟨S2x8192x1024, .f32⟩
  | 63 => ⟨S2x8192x1024, .f32⟩
  | 64 => ⟨S16384x1024, .f32⟩
  | 65 => ⟨S16384x1024, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_3 : Ref sig .tc := ⟨.hbm, 124, rfl⟩
abbrev main_v83 : Ref sig .tc := ⟨.hbm, 125, rfl⟩
abbrev main_call3_v0 : Ref sig .tc := ⟨.hbm, 126, rfl⟩
abbrev main_call3_c : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_c_0 : Ref sig .tc := ⟨.hbm, 132, rfl⟩
abbrev main_call3_v5 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_4 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_5 : Ref sig .tc := ⟨.hbm, 176, rfl⟩
abbrev main_v114 : Ref sig .tc := ⟨.hbm, 177, rfl⟩
abbrev main_v115 : Ref sig .tc := ⟨.hbm, 178, rfl⟩
abbrev main_cst_6 : Ref sig .tc := ⟨.hbm, 179, rfl⟩
abbrev main_v116 : Ref sig .tc := ⟨.hbm, 180, rfl⟩
abbrev main_v117 : Ref sig .tc := ⟨.hbm, 181, rfl⟩
abbrev main_cst_7 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩

abbrev nD : Nat := 1
abbrev τ : Topo := Topo.v7x

variable {F : FTy → Type} [FloatOps F]
-- ==== OutProj.lean ====
abbrev S16384x1024 : Shape := ⟨2, ![16384, 1024]⟩
abbrev S1x2048x2048 : Shape := ⟨3, ![1, 2048, 2048]⟩
abbrev S2x8192x2048 : Shape := ⟨3, ![2, 8192, 2048]⟩
abbrev S1x2048 : Shape := ⟨2, ![1, 2048]⟩
abbrev S1x5632x2048 : Shape := ⟨3, ![1, 5632, 2048]⟩
abbrev S16384x2048 : Shape := ⟨2, ![16384, 2048]⟩
abbrev S2048x2048 : Shape := ⟨2, ![2048, 2048]⟩
abbrev S2048 : Shape := ⟨1, ![2048]⟩
abbrev S5632x2048 : Shape := ⟨2, ![5632, 2048]⟩
abbrev S512x1024 : Shape := ⟨2, ![512, 1024]⟩
abbrev S1024x2048 : Shape := ⟨2, ![1024, 2048]⟩
abbrev S512x2048 : Shape := ⟨2, ![512, 2048]⟩
abbrev S176x2048 : Shape := ⟨2, ![176, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S2x8192x2048, .f32⟩
  | .hbm, ⟨4, _⟩ => ⟨S1x2048, .f32⟩
  | .hbm, ⟨5, _⟩ => ⟨S1x2048, .f32⟩
  | .hbm, ⟨6, _⟩ => ⟨S1x5632x2048, .f32⟩
  | .hbm, ⟨7, _⟩ => ⟨S16384x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S5632x2048, .f32⟩
  | .hbm, ⟨15, _⟩ => ⟨S16384x2048, .f32⟩
  | .hbm, ⟨16, _⟩ => ⟨S16384x2048, .bf16⟩
  | .hbm, ⟨17, _⟩ => ⟨S5632x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S176x2048, .f32⟩
  | .local _ .vmem, ⟨11, _⟩ => ⟨S176x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S176x2048, .bf16⟩
  | .local _ .vmem, ⟨17, _⟩ => ⟨S176x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjReferenceIdeal.lean ====
abbrev S16384x1024 : Shape := ⟨2, ![16384, 1024]⟩
abbrev S1x2048x2048 : Shape := ⟨3, ![1, 2048, 2048]⟩
abbrev S2x8192x2048 : Shape := ⟨3, ![2, 8192, 2048]⟩
abbrev S1x2048 : Shape := ⟨2, ![1, 2048]⟩
abbrev S1x5632x2048 : Shape := ⟨3, ![1, 5632, 2048]⟩
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S5632x2048 : Shape := ⟨2, ![5632, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S2x8192x2048, .f32⟩
  | .hbm, ⟨4, _⟩ => ⟨S1x2048, .f32⟩
  | .hbm, ⟨5, _⟩ => ⟨S1x2048, .f32⟩
  | .hbm, ⟨6, _⟩ => ⟨S1x5632x2048, .f32⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S2048x2048, .f32⟩
  | .hbm, ⟨11, _⟩ => ⟨S16384x2048, .f32⟩
  | .hbm, ⟨12, _⟩ => ⟨S2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .bf16⟩
  | .hbm, ⟨48, _⟩ => ⟨S5632x2048, .f32⟩
  | .hbm, ⟨49, _⟩ => ⟨S5632x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ffn.lean ====
abbrev S16384x2048 : Shape := ⟨2, ![16384, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S1024x256 : Shape := ⟨2, ![1024, 256]⟩
abbrev S2048x512 : Shape := ⟨2, ![2048, 512]⟩
abbrev S512x2048 : Shape := ⟨2, ![512, 2048]⟩
abbrev S2048x256 : Shape := ⟨2, ![2048, 256]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .f32⟩
  | .local _ .vmem, ⟨3, _⟩ => ⟨S1024x256, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v15 : BitVec 32 := Scalar.muli arg1 c256_i32
  v15
def k0_off1 (i : grid0.Coords) : Fin 2 → Nat :=
  let c0_7 : Index := 0#32
  let arg1 : BitVec 32 := BitVec.ofNat 32 (i 1).val
  let c256_i32 : BitVec 32 := 256#32
  let v15 : BitVec 32 := Scalar.muli arg1 c256_i32
  let v16 : BitVec 32 := v15
  let v17 : Index := Scalar.indexCast v16
  ![0, v17.toNat]
def k0_cond2 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c0_i32_2 : BitVec 32 := 0#32
  let v6 : BitVec 1 := Scalar.cmpi .sgt arg1 c0_i32_2
  let c10_i32 : BitVec 32 := 10#32
  let v7 : BitVec 1 := Scalar.cmpi .slt arg1 c10_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c10_i32_4 : BitVec 32 := 10#32
  let v11 : BitVec 1 := Scalar.cmpi .eq arg1 c10_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
variable {F : FTy → Type} [FloatOps F] [Named F]
def κ : String → Option EReal := fun
  | "neg_log2e" => some ((-((Real.log 2)⁻¹) : ℝ) : EReal)
  | _ => none
-- ==== FfnReferenceIdeal.lean ====
abbrev S16384x2048 : Shape := ⟨2, ![16384, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S16384x5632 : Shape := ⟨2, ![16384, 5632]⟩
abbrev S_ : Shape := ⟨0, ![]⟩
abbrev S5632x2048 : Shape := ⟨2, ![5632, 2048]⟩
abbrev S2048 : Shape := ⟨1, ![2048]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S16384x2048, .f32⟩
  | .hbm, ⟨7, _⟩ => ⟨S2048x5632, .f32⟩
  | .hbm, ⟨8, _⟩ => ⟨S16384x5632, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S_, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S2048x5632, .f32⟩
  | .hbm, ⟨19, _⟩ => ⟨S16384x5632, .f32⟩
  | .hbm, ⟨20, _⟩ => ⟨S16384x5632, .f32⟩
  | .hbm, ⟨21, _⟩ => ⟨S5632x2048, .f32⟩
  | .hbm, ⟨22, _⟩ => ⟨S16384x2048, .f32⟩
  | .hbm, ⟨23, _⟩ => ⟨S2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.SsdTerms.lean ====
module

public import proofs.«01_k».proof.Proof.Gen.MixerIdeal.Skeleton
public import Idealize.ShloMosaic.Lib.Pointwise

/-!
# The state space step as a term of its loads

One step of the branch reads the projection of a chunk, the convolution's weights and taps, the step size and decay
parameters, the skip, the norm weight and the state. Everything it stores is a term of these.
-/

@[expose] public section

set_option maxRecDepth 16384

noncomputable section

namespace Cert.MixerIdeal.Terms

open Cert.MixerIdeal Cert.MixerIdeal.Gen
open Idealize.ShloMosaic Idealize.ShloMosaic.TcCoe

/-- The loads of a step: the projection, for each slab of the convolution its bias, weights and taps, and the rest. -/
structure Loads where
  pj : Vec Ideal S256x2688 .f32
  bias : Fin 12 → Vec Ideal S1x128 .f32
  w : Fin 12 → Fin 4 → Vec Ideal S1x128 .f32
  tap : Fin 12 → Fin 4 → Vec Ideal S1x256x128 .f32
  dtb : Vec Ideal S1x128 .f32
  al : Vec Ideal S1x128 .f32
  ds0 : Vec Ideal S1x512 .f32
  ds1 : Vec Ideal S1x512 .f32
  nw0 : Vec Ideal S1x512 .f32
  nw1 : Vec Ideal S1x512 .f32
  st0 : Vec Ideal S1x128x512 .f32
  st1 : Vec Ideal S1x128x512 .f32

def v40 (L : Loads) : FVec Ideal S256x1024 .f32 := k0_pay22 (F := Ideal) L.pj
def v63 (L : Loads) : FVec Ideal S256x128 .f32 := k0_pay26 (F := Ideal) (L.bias 0) (L.w 0 0) (L.tap 0 0) (L.w 0 1) (L.tap 0 1)
def v65 (L : Loads) : FVec Ideal S1x128 .f32 := k0_pay27 (F := Ideal) (L.w 0 2)
def v90 (L : Loads) : FVec Ideal S256x128 .f32 := k0_pay29 (F := Ideal) (v63 L) (v65 L) (L.tap 0 2) (L.w 0 3) (L.tap 0 3)
def v96 (L : Loads) : FVec Ideal S1x128 .f32 := k0_pay31 (F := Ideal) (L.bias 1)
def v98 (L : Loads) : FVec Ideal S1x128 .f32 := k0_pay32 (F := Ideal) (L.w 1 0)
def v125 (L : Loads) : FVec Ideal S256x128 .f32 := k0_pay33 (F := Ideal) (v96 L) (v98 L) (L.tap 1 0) (L.w 1 1) (L.tap 1 1) (L.w 1 2) (L.tap 1 2) (L.w 1 3) (L.tap 1 3)
def v133 (L : Loads) : FVec Ideal S256x128 .f32 := k0_pay35 (F := Ideal) (v96 L) (v98 L) (L.tap 1 0) (L.w 1 1) (L.tap 1 1) (L.w 1 2) (L.tap 1 2) (L.w 1 3) (L.tap 1 3)
def v134 (L : Loads) : FVec Ideal S256x128 .f32 := k0_pay36 (F := Ideal)
def v138 (L : Loads) : FVec Ideal S256x128 .f32 := k0_pay37 (F := Ideal) (v125 L) (v133 L) (v134 L)
def v166 (L : Loads) : FVec Ideal S256x128 .f32 := k0_pay39 (F := Ideal) (L.bias 2) (L.w 2 0) (L.tap 2 0) (L.w 2 1) (L.tap 2 1) (L.w 2 2) (L.tap 2 2)
def v168 (L : Loads) : FVec Ideal S1x128 .f32 := k0_pay40 (F := Ideal) (L.w 2 3)
def v186 (L : Loads) : FVec Ideal S256x128 .f32 := k0_pay42 (F := Ideal) (v166 L) (v168 L) (L.tap 2 3)
def v200 (L : Loads) : FVec Ideal S256x128 .f32 := k0_pay44 (F := Ideal) (L.bias 3) (L.w 3 0) (L.tap 3 0)
def v202 (L : Loads) : FVec Ideal S1x128 .f32 := k0_pay45 (F := Ideal) (L.w 3 1)
def v234 (L : Loads) : FVec Ideal S256x128 .f32 := k0_pay47 (F := Ideal) (v200 L) (v202 L) (L.tap 3 1) (L.w 3 2) (L.tap 3 2) (L.w 3 3) (L.tap 3 3)
def v619 (L : Loads) : FVec Ideal S256x512 .f32 := k0_pay93 (F := Ideal) (v90 L) (v138 L) (v186 L) (v234 L)
def v649 (L : Loads) : IVec S256x256 1 := k0_pay99
def v653 (L : Loads) : FVec Ideal S256x256 .bf16 := k0_pay100 (F := Ideal)
def v42 (L : Loads) : FVec Ideal S256x128 .f32 := k0_pay24 (F := Ideal) L.pj
def v654 (L : Loads) : FVec Ideal S256x128 .bf16 := k0_pay101 (F := Ideal) (v42 L) L.dtb L.al
def v657 (L : Loads) : FVec Ideal S256x128 .bf16 := k0_pay103 (F := Ideal) (v42 L) L.dtb L.al
def v659 (L : Loads) : FVec Ideal S256x128 .f32 := k0_pay104 (F := Ideal) (v42 L) L.dtb L.al
def v667 (L : Loads) : FVec Ideal S256x128 .f32 := k0_pay105 (F := Ideal) (v653 L) (v654 L) (v657 L) (v659 L)
def v668 (L : Loads) : FVec Ideal S128x256 .f32 := k0_pay106 (F := Ideal) (v653 L) (v654 L) (v657 L) (v659 L)
def v677 (L : Loads) : IVec S256x128 1 := k0_pay108
def v639 (L : Loads) : FVec Ideal S256x128 .f32 := k0_pay97 (F := Ideal) (v42 L) L.dtb
def v741 (L : Loads) : FVec Ideal S256x128 .f32 := k0_pay116 (F := Ideal) (v639 L) (v677 L)
def v748 (L : Loads) : FVec Ideal S256x128 .f32 := k0_pay117 (F := Ideal) (v639 L) (v677 L)
def v755 (L : Loads) : FVec Ideal S256x128 .f32 := k0_pay118 (F := Ideal) (v639 L) (v677 L)
def v762 (L : Loads) : FVec Ideal S256x128 .f32 := k0_pay119 (F := Ideal) (v639 L) (v677 L)
def v769 (L : Loads) : FVec Ideal S256x128 .f32 := k0_pay120 (F := Ideal) (v639 L) (v677 L)
def v800 (L : Loads) : FVec Ideal S256x512 .bf16 := k0_pay124 (F := Ideal) (v619 L) (v639 L) (v677 L) (v741 L) (v748 L) (v755 L) (v762 L) (v769 L)
def v440 (L : Loads) : FVec Ideal S256x128 .f32 := k0_pay72 (F := Ideal) (L.bias 8) (L.w 8 0) (L.tap 8 0)
def v442 (L : Loads) : FVec Ideal S1x128 .f32 := k0_pay73 (F := Ideal) (L.w 8 1)
def v474 (L : Loads) : FVec Ideal S256x128 .f32 := k0_pay75 (F := Ideal) (v440 L) (v442 L) (L.tap 8 1) (L.w 8 2) (L.tap 8 2) (L.w 8 3) (L.tap 8 3)
def v509 (L : Loads) : FVec Ideal S256x128 .f32 := k0_pay77 (F := Ideal) (L.bias 9) (L.w 9 0) (L.tap 9 0) (L.w 9 1) (L.tap 9 1) (L.w 9 2) (L.tap 9 2) (L.w 9 3) (L.tap 9 3)
def v522 (L : Loads) : FVec Ideal S256x128 .f32 := k0_pay80 (F := Ideal) (v509 L)
def v543 (L : Loads) : FVec Ideal S256x128 .f32 := k0_pay82 (F := Ideal) (L.bias 10) (L.w 10 0) (L.tap 10 0) (L.w 10 1) (L.tap 10 1)
def v545 (L : Loads) : FVec Ideal S1x128 .f32 := k0_pay83 (F := Ideal) (L.w 10 2)
def v570 (L : Loads) : FVec Ideal S256x128 .f32 := k0_pay85 (F := Ideal) (v543 L) (v545 L) (L.tap 10 2) (L.w 10 3) (L.tap 10 3)
def v576 (L : Loads) : FVec Ideal S1x128 .f32 := k0_pay87 (F := Ideal) (L.bias 11)
def v578 (L : Loads) : FVec Ideal S1x128 .f32 := k0_pay88 (F := Ideal) (L.w 11 0)
def v605 (L : Loads) : FVec Ideal S256x128 .f32 := k0_pay89 (F := Ideal) (v576 L) (v578 L) (L.tap 11 0) (L.w 11 1) (L.tap 11 1) (L.w 11 2) (L.tap 11 2) (L.w 11 3) (L.tap 11 3)
def v613 (L : Loads) : FVec Ideal S256x128 .f32 := k0_pay91 (F := Ideal) (v576 L) (v578 L) (L.tap 11 0) (L.w 11 1) (L.tap 11 1) (L.w 11 2) (L.tap 11 2) (L.w 11 3) (L.tap 11 3)
def v614 (L : Loads) : FVec Ideal S256x128 .f32 := k0_pay92 (F := Ideal)
def v621 (L : Loads) : FVec Ideal S256x512 .f32 := k0_pay95 (F := Ideal) (v474 L) (v522 L) (v570 L) (v605 L) (v613 L) (v614 L)
def v805 (L : Loads) : FVec Ideal S256x256 .f32 := k0_pay127 (F := Ideal) (v621 L)
def v812 (L : Loads) : FVec Ideal S256x128 .bf16 := k0_pay129 (F := Ideal) (v619 L) (v639 L) (v677 L) (v741 L) (v748 L) (v755 L) (v762 L) (v769 L)
def v817 (L : Loads) : FVec Ideal S256x256 .f32 := k0_pay130 (F := Ideal) (v667 L) (v668 L)
def v840 (L : Loads) : FVec Ideal S256x128 .f32 := k0_pay131 (F := Ideal) (v649 L) (v667 L) (v668 L) (v677 L) (v805 L) (v812 L) (v817 L) (Named.named κ "neg_big" 0xF149F2CA#32)
def v847 (L : Loads) : FVec Ideal S256x128 .bf16 := k0_pay133 (F := Ideal) (v800 L)
def v860 (L : Loads) : FVec Ideal S256x128 .f32 := k0_pay134 (F := Ideal) (v649 L) (v667 L) (v668 L) (v677 L) (v800 L) (v805 L)
def v862 (L : Loads) : FVec Ideal S1x256 .f32 := k0_pay135 (F := Ideal) (v668 L)
def v863 (L : Loads) : FVec Ideal S256x256 .f32 := k0_pay136 (F := Ideal) (v667 L)
def v875 (L : Loads) : FVec Ideal S256x128 .f32 := k0_pay137 (F := Ideal) (v649 L) (v677 L) (v805 L) (v847 L) (v860 L) (v862 L) (v863 L)
def v895 (L : Loads) : FVec Ideal S256x128 .f32 := k0_pay140 (F := Ideal) (v649 L) (v667 L) (v668 L) (v677 L) (v800 L) (v805 L)
def v905 (L : Loads) : FVec Ideal S256x256 .bf16 := k0_pay141 (F := Ideal) (v649 L) (v667 L) (v668 L) (v805 L)
def v908 (L : Loads) : FVec Ideal S256x128 .bf16 := k0_pay142 (F := Ideal) (v677 L) (v800 L)
def v946 (L : Loads) : FVec Ideal S256x512 .f32 := k0_pay144 (F := Ideal) (v649 L) (v667 L) (v668 L) (v677 L) (v800 L) (v805 L) (v840 L) (v875 L) (v895 L) (v905 L) (v908 L)
def v684 (L : Loads) : FVec Ideal S256x128 .f32 := k0_pay109 (F := Ideal) (v653 L) (v654 L) (v657 L) (v659 L)
def v691 (L : Loads) : FVec Ideal S256x128 .f32 := k0_pay110 (F := Ideal) (v653 L) (v654 L) (v657 L) (v659 L)
def v698 (L : Loads) : FVec Ideal S256x128 .f32 := k0_pay111 (F := Ideal) (v653 L) (v654 L) (v657 L) (v659 L)
def v705 (L : Loads) : FVec Ideal S256x128 .f32 := k0_pay112 (F := Ideal) (v653 L) (v654 L) (v657 L) (v659 L)
def v707 (L : Loads) : FVec Ideal S256x1 .f32 := k0_pay113 (F := Ideal) (v653 L) (v654 L) (v657 L) (v659 L)
def v709 (L : Loads) : FVec Ideal S256x128 .f32 := k0_pay114 (F := Ideal) (v653 L) (v654 L) (v657 L) (v659 L)
def v734 (L : Loads) : FVec Ideal S256x1024 .f32 := k0_pay115 (F := Ideal) (v667 L) (v677 L) (v684 L) (v691 L) (v698 L) (v705 L) (v707 L) (v709 L)
def v949 (L : Loads) : FVec Ideal S256x512 .f32 := k0_pay146 (F := Ideal) (v734 L)
def v803 (L : Loads) : FVec Ideal S256x128 .bf16 := k0_pay126 (F := Ideal) (v621 L)
def v951 (L : Loads) : FVec Ideal S256x512 .f32 := k0_pay147 (F := Ideal) (v803 L) L.st0
def v995 (L : Loads) : FVec Ideal S256x512 .f32 := k0_pay149 (F := Ideal) (v40 L) (v619 L) (v946 L) (v949 L) (v951 L) L.ds0
def v1000 (L : Loads) : FVec Ideal S256x512 .bf16 := k0_pay150 (F := Ideal) (v995 L) L.nw0
def v269 (L : Loads) : FVec Ideal S256x128 .f32 := k0_pay49 (F := Ideal) (L.bias 4) (L.w 4 0) (L.tap 4 0) (L.w 4 1) (L.tap 4 1) (L.w 4 2) (L.tap 4 2) (L.w 4 3) (L.tap 4 3)
def v282 (L : Loads) : FVec Ideal S256x128 .f32 := k0_pay52 (F := Ideal) (v269 L)
def v303 (L : Loads) : FVec Ideal S256x128 .f32 := k0_pay54 (F := Ideal) (L.bias 5) (L.w 5 0) (L.tap 5 0) (L.w 5 1) (L.tap 5 1)
def v305 (L : Loads) : FVec Ideal S1x128 .f32 := k0_pay55 (F := Ideal) (L.w 5 2)
def v330 (L : Loads) : FVec Ideal S256x128 .f32 := k0_pay57 (F := Ideal) (v303 L) (v305 L) (L.tap 5 2) (L.w 5 3) (L.tap 5 3)
def v336 (L : Loads) : FVec Ideal S1x128 .f32 := k0_pay59 (F := Ideal) (L.bias 6)
def v338 (L : Loads) : FVec Ideal S1x128 .f32 := k0_pay60 (F := Ideal) (L.w 6 0)
def v365 (L : Loads) : FVec Ideal S256x128 .f32 := k0_pay61 (F := Ideal) (v336 L) (v338 L) (L.tap 6 0) (L.w 6 1) (L.tap 6 1) (L.w 6 2) (L.tap 6 2) (L.w 6 3) (L.tap 6 3)
def v373 (L : Loads) : FVec Ideal S256x128 .f32 := k0_pay63 (F := Ideal) (v336 L) (v338 L) (L.tap 6 0) (L.w 6 1) (L.tap 6 1) (L.w 6 2) (L.tap 6 2) (L.w 6 3) (L.tap 6 3)
def v374 (L : Loads) : FVec Ideal S256x128 .f32 := k0_pay64 (F := Ideal)
def v378 (L : Loads) : FVec Ideal S256x128 .f32 := k0_pay65 (F := Ideal) (v365 L) (v373 L) (v374 L)
def v406 (L : Loads) : FVec Ideal S256x128 .f32 := k0_pay67 (F := Ideal) (L.bias 7) (L.w 7 0) (L.tap 7 0) (L.w 7 1) (L.tap 7 1) (L.w 7 2) (L.tap 7 2)
def v408 (L : Loads) : FVec Ideal S1x128 .f32 := k0_pay68 (F := Ideal) (L.w 7 3)
def v426 (L : Loads) : FVec Ideal S256x128 .f32 := k0_pay70 (F := Ideal) (v406 L) (v408 L) (L.tap 7 3)
def v620 (L : Loads) : FVec Ideal S256x512 .f32 := k0_pay94 (F := Ideal) (v282 L) (v330 L) (v378 L) (v426 L)
def v1007 (L : Loads) : FVec Ideal S256x128 .bf16 := k0_pay154 (F := Ideal) (v621 L)
def v1009 (L : Loads) : FVec Ideal S256x256 .f32 := k0_pay155 (F := Ideal) (v621 L)
def v791 (L : Loads) : FVec Ideal S256x1024 .f32 := k0_pay121 (F := Ideal) (v639 L) (v677 L) (v741 L) (v748 L) (v755 L) (v762 L) (v769 L)
def v1016 (L : Loads) : FVec Ideal S256x128 .bf16 := k0_pay157 (F := Ideal) (v620 L) (v791 L)
def v1029 (L : Loads) : FVec Ideal S256x128 .f32 := k0_pay158 (F := Ideal) (v620 L) (v621 L) (v649 L) (v667 L) (v668 L) (v677 L) (v791 L)
def v1039 (L : Loads) : FVec Ideal S256x256 .bf16 := k0_pay159 (F := Ideal) (v621 L) (v649 L) (v667 L) (v668 L)
def v1040 (L : Loads) : IVec S256x128 1 := k0_pay160 (v677 L)
def v1041 (L : Loads) : FVec Ideal S256x128 .bf16 := k0_pay161 (F := Ideal)
def v1044 (L : Loads) : FVec Ideal S256x128 .f32 := k0_pay162 (F := Ideal) (v1016 L) (v1029 L) (v1039 L) (v1040 L) (v1041 L)
def v1004 (L : Loads) : FVec Ideal S256x512 .bf16 := k0_pay152 (F := Ideal) (v620 L) (v791 L)
def v1079 (L : Loads) : FVec Ideal S256x128 .f32 := k0_pay164 (F := Ideal) (v649 L) (v667 L) (v668 L) (v677 L) (v1004 L) (v1009 L)
def v1114 (L : Loads) : FVec Ideal S256x128 .f32 := k0_pay167 (F := Ideal) (v649 L) (v667 L) (v668 L) (v677 L) (v1004 L) (v1009 L)
def v1121 (L : Loads) : FVec Ideal S256x128 .bf16 := k0_pay169 (F := Ideal) (v1004 L)
def v1130 (L : Loads) : FVec Ideal S256x256 .f32 := k0_pay170 (F := Ideal) (v649 L) (v667 L) (v668 L) (v1009 L)
def v1163 (L : Loads) : FVec Ideal S256x512 .f32 := k0_pay173 (F := Ideal) (v620 L) (v649 L) (v667 L) (v668 L) (v677 L) (v734 L) (v1007 L) (v1009 L) (v1044 L) (v1079 L) (v1114 L) (v1121 L) (v1130 L) L.st1 L.ds1
def v1204 (L : Loads) : FVec Ideal S256x512 .bf16 := k0_pay176 (F := Ideal) (v40 L) (v1163 L) L.nw1
def v799 (L : Loads) : FVec Ideal S256x512 .f32 := k0_pay123 (F := Ideal) (v619 L) (v639 L) (v677 L) (v741 L) (v748 L) (v755 L) (v762 L) (v769 L)
def v801 (L : Loads) : FVec Ideal S256x128 .f32 := k0_pay125 (F := Ideal) (v621 L)
def v948 (L : Loads) : FVec Ideal S128x512 .f32 := k0_pay145 (F := Ideal) L.st0
def v975 (L : Loads) : FVec Ideal S1x128x512 .f32 := k0_pay148 (F := Ideal) (v799 L) (v801 L) (v948 L) (v949 L)
def v1003 (L : Loads) : FVec Ideal S256x512 .f32 := k0_pay151 (F := Ideal) (v620 L) (v791 L)
def v1005 (L : Loads) : FVec Ideal S256x128 .f32 := k0_pay153 (F := Ideal) (v621 L)
def v1176 (L : Loads) : FVec Ideal S128x512 .f32 := k0_pay174 (F := Ideal) (v734 L) (v1003 L) (v1005 L) L.st1
def v1179 (L : Loads) : FVec Ideal S1x128x512 .f32 := k0_pay175 (F := Ideal) (v1176 L)

end Cert.MixerIdeal.Terms

end
-- ==== Proof.SsdConv.lean ====
module

public import proofs.«01_k».proof.Proof.SsdTerms
import Idealize.ShloMosaic.Lib.Pipeline.ValueKit

/-!
# The convolution of a step, entry by entry
-/

@[expose] public section

set_option maxRecDepth 16384

noncomputable section

namespace Cert.MixerIdeal.Terms

open Cert.MixerIdeal Cert.MixerIdeal.Gen
open Idealize.ShloMosaic Idealize.ShloMosaic.TcCoe

/-- The gate as the kernel computes it. -/
def gate (y : EReal) : EReal := y * Ideal.div 1 (1 + (FloatOps.exp2 (F := Ideal) (φ := .f32) (y * (Named.named κ "neg_log2e" 0xBFB8AA3B#32 : Ideal .f32) : EReal) : EReal))

/-- A slab's bias and four weighted taps. -/
def taps (L : Loads) (s : Fin 12) (r : Fin 256) (l : Fin 128) : EReal :=
  L.bias s (ix2 0 l) + L.w s 0 (ix2 0 l) * L.tap s 0 (ix3 0 r l) + L.w s 1 (ix2 0 l) * L.tap s 1 (ix3 0 r l)
    + L.w s 2 (ix2 0 l) * L.tap s 2 (ix3 0 r l) + L.w s 3 (ix2 0 l) * L.tap s 3 (ix3 0 r l)

/-- Slab 0 of the convolution, gated. -/
theorem slab0 (L : Loads) (r : Fin 256) (l : Fin 128) : v90 L (ix2 r l) = gate (taps L 0 r l) := by
  pointwise [gate, taps, v90, v63, v65, k0_pay29, k0_pay26, k0_pay27]

/-- Slab 1 of the convolution, gated. -/
theorem slab1 (L : Loads) (r : Fin 256) (l : Fin 128) : v138 L (ix2 r l) = gate (taps L 1 r l) := by
  pointwise [gate, taps, v138, v125, v96, v98, v133, v134, k0_pay37, k0_pay33, k0_pay31, k0_pay32, k0_pay35, k0_pay36]

/-- Slab 2 of the convolution, gated. -/
theorem slab2 (L : Loads) (r : Fin 256) (l : Fin 128) : v186 L (ix2 r l) = gate (taps L 2 r l) := by
  pointwise [gate, taps, v186, v166, v168, k0_pay42, k0_pay39, k0_pay40]

/-- Slab 3 of the convolution, gated. -/
theorem slab3 (L : Loads) (r : Fin 256) (l : Fin 128) : v234 L (ix2 r l) = gate (taps L 3 r l) := by
  pointwise [gate, taps, v234, v200, v202, k0_pay47, k0_pay44, k0_pay45]

/-- Slab 4 of the convolution, gated. -/
theorem slab4 (L : Loads) (r : Fin 256) (l : Fin 128) : v282 L (ix2 r l) = gate (taps L 4 r l) := by
  pointwise [gate, taps, v282, v269, k0_pay52, k0_pay49]

/-- Slab 5 of the convolution, gated. -/
theorem slab5 (L : Loads) (r : Fin 256) (l : Fin 128) : v330 L (ix2 r l) = gate (taps L 5 r l) := by
  pointwise [gate, taps, v330, v303, v305, k0_pay57, k0_pay54, k0_pay55]

/-- Slab 6 of the convolution, gated. -/
theorem slab6 (L : Loads) (r : Fin 256) (l : Fin 128) : v378 L (ix2 r l) = gate (taps L 6 r l) := by
  pointwise [gate, taps, v378, v365, v336, v338, v373, v374, k0_pay65, k0_pay61, k0_pay59, k0_pay60, k0_pay63, k0_pay64]

/-- Slab 7 of the convolution, gated. -/
theorem slab7 (L : Loads) (r : Fin 256) (l : Fin 128) : v426 L (ix2 r l) = gate (taps L 7 r l) := by
  pointwise [gate, taps, v426, v406, v408, k0_pay70, k0_pay67, k0_pay68]

/-- Slab 8 of the convolution, gated. -/
theorem slab8 (L : Loads) (r : Fin 256) (l : Fin 128) : v474 L (ix2 r l) = gate (taps L 8 r l) := by
  pointwise [gate, taps, v474, v440, v442, k0_pay75, k0_pay72, k0_pay73]

/-- Slab 9 of the convolution, gated. -/
theorem slab9 (L : Loads) (r : Fin 256) (l : Fin 128) : v522 L (ix2 r l) = gate (taps L 9 r l) := by
  pointwise [gate, taps, v522, v509, k0_pay80, k0_pay77]

/-- Slab 10 of the convolution, gated. -/
theorem slab10 (L : Loads) (r : Fin 256) (l : Fin 128) : v570 L (ix2 r l) = gate (taps L 10 r l) := by
  pointwise [gate, taps, v570, v543, v545, k0_pay85, k0_pay82, k0_pay83]

/-- Slab 11 of the convolution, gated. -/
theorem slab11 (L : Loads) (r : Fin 256) (l : Fin 128) : (mulf (v605 L) (divf (broadcast S256x128 (Scalar.ofBits .f32 0x3F800000#32)) (addf (v614 L) (v613 L))) : FVec Ideal S256x128 .f32) (ix2 r l) = gate (taps L 11 r l) := by
  pointwise [gate, taps, k0_pay89, v605, v576, v578, v613, v614, k0_pay89, k0_pay87, k0_pay88, k0_pay91, k0_pay92]

end Cert.MixerIdeal.Terms

end
-- ==== Proof.SsdMath.lean ====
module

public import Idealize.ShloMosaic.Lib.Pointwise

/-!
# The state space sum, chunk by chunk

For one head and one channel: decays `a`, inputs `X`, and the vectors `B` and `C` of 128 entries. The output at a time
is the sum over the times up to it of `⟨C t, B s⟩ * exp (a_{s+1} + … + a_t) * X s`. Cut into chunks of 256, it is the sum
over the chunk's own times plus what a state carried from chunk to chunk gives.
-/

@[expose] public section

noncomputable section

namespace Cert.Ssd

open Finset

/-- A sum over the indices up to one of them, as a sum over a range. -/
theorem sum_fin_le {M : Type} [AddCommMonoid M] (N r : ℕ) (hr : r < N) (f : ℕ → M) :
    (∑ u : Fin N, if u.val ≤ r then f u.val else 0) = ∑ u ∈ range (r + 1), f u := by
  rw [Fin.sum_univ_eq_sum_range (fun u => if u ≤ r then f u else 0) N, ← Finset.sum_filter]
  refine Finset.sum_congr (Finset.ext fun u => ?_) fun _ _ => rfl
  simp only [mem_filter, mem_range]
  omega

variable (a X : ℕ → ℝ) (B C : ℕ → Fin 128 → ℝ)

/-- The sum of the decays up to and at a time. -/
def cum (t : ℕ) : ℝ := ∑ s ∈ range (t + 1), a s

/-- The sum of a chunk's decays up to and at its row `r`. -/
def loc (j r : ℕ) : ℝ := ∑ u ∈ range (r + 1), a (256 * j + u)

/-- The output at a time. -/
def out (t : ℕ) : ℝ := ∑ s ∈ range (t + 1), (∑ n, C t n * B s n) * Real.exp (cum a t - cum a s) * X s

/-- The state at the start of chunk `j`. -/
def state : ℕ → Fin 128 → ℝ
  | 0, _ => 0
  | j + 1, n => state j n * Real.exp (loc a j 255)
      + ∑ u ∈ range 256, B (256 * j + u) n * (X (256 * j + u) * Real.exp (loc a j 255 - loc a j u))

theorem cum_split (j r : ℕ) : cum a (256 * j + r) = (∑ s ∈ range (256 * j), a s) + loc a j r := by
  unfold cum loc
  rw [show 256 * j + r + 1 = 256 * j + (r + 1) from rfl, Finset.sum_range_add]

/-- The state is the sum over the times before the chunk. -/
theorem state_eq (j : ℕ) (n : Fin 128) :
    state a X B j n = ∑ s ∈ range (256 * j), B s n * (X s * Real.exp ((∑ s ∈ range (256 * j), a s) - cum a s)) := by
  induction j with
  | zero => simp [state]
  | succ j ih =>
    have e : (∑ s ∈ range (256 * (j + 1)), a s) = (∑ s ∈ range (256 * j), a s) + loc a j 255 := by
      rw [show 256 * (j + 1) = 256 * j + 256 from rfl, Finset.sum_range_add]
      rfl
    rw [state, ih, Finset.sum_mul, e, show range (256 * (j + 1)) = range (256 * j + 256) from rfl, Finset.sum_range_add]
    congr 1
    · refine Finset.sum_congr rfl fun s _ => ?_
      rw [mul_assoc, mul_assoc, ← Real.exp_add]
      congr 3
      ring
    · refine Finset.sum_congr rfl fun u _ => ?_
      rw [cum_split]
      congr 3
      ring

/-- The chunk's own sum and what the state gives are the output. -/
theorem chunk (j r : ℕ) :
    (∑ u ∈ range (r + 1), (∑ n, C (256 * j + r) n * B (256 * j + u) n) * Real.exp (loc a j r - loc a j u) * X (256 * j + u))
      + (∑ n, C (256 * j + r) n * state a X B j n) * Real.exp (loc a j r) = out a X B C (256 * j + r) := by
  have h1 : (∑ n, C (256 * j + r) n * state a X B j n) * Real.exp (loc a j r)
      = ∑ s ∈ range (256 * j), (∑ n, C (256 * j + r) n * B s n) * Real.exp (cum a (256 * j + r) - cum a s) * X s := by
    simp only [state_eq, Finset.mul_sum, Finset.sum_mul]
    refine Finset.sum_comm.trans ?_
    refine Finset.sum_congr rfl fun s _ => ?_
    refine Finset.sum_congr rfl fun n _ => ?_
    have e : cum a (256 * j + r) - cum a s = ((∑ s ∈ range (256 * j), a s) - cum a s) + loc a j r := by
      rw [cum_split]
      ring
    rw [e, Real.exp_add]
    ring
  have h2 : (∑ u ∈ range (r + 1), (∑ n, C (256 * j + r) n * B (256 * j + u) n) * Real.exp (loc a j r - loc a j u) * X (256 * j + u))
      = ∑ u ∈ range (r + 1), (∑ n, C (256 * j + r) n * B (256 * j + u) n)
          * Real.exp (cum a (256 * j + r) - cum a (256 * j + u)) * X (256 * j + u) := by
    refine Finset.sum_congr rfl fun u _ => ?_
    rw [cum_split, cum_split, add_sub_add_left_eq_sub]
  rw [h1, h2, out, show 256 * j + r + 1 = 256 * j + (r + 1) from rfl,
    Finset.sum_range_add _ (256 * j) (r + 1), add_comm]

end Cert.Ssd
-- ==== Proof.RowNorm.lean ====
/-
  The row arithmetic that the two tail kernels and their references share, over the extended reals: the
  reciprocal root mean square of a row of 2048 entries.
-/
module

public import Idealize.ShloMosaic.Lib.Pointwise

@[expose] public section

noncomputable section

namespace Cert.RowNorm

open Idealize.ShloMosaic

/-- `1 / sqrt(mean(f²) + eps)` of a row of 2048 entries, the mean a sum divided by 2048. -/
def rstd (f : Fin 2048 → EReal) : EReal :=
  Ideal.rsqrt (Ideal.div (∑ k, f k * f k) (Ideal.ofBits FTy.f32 0x45000000#32) + Ideal.ofBits FTy.f32 0x358637BD#32)

end Cert.RowNorm
-- ==== Proof.SsdRows.lean ====
module

public import proofs.«01_k».proof.Proof.SsdMath
public import proofs.«01_k».proof.Proof.RowNorm

/-!
# The state space branch of the mixer, row by row

What the branch computes at a batch, a time and a column, over the extended reals: the normalised row, its projection,
the causal convolution of four taps, the gated values, the step sizes, the decays, the sum over the earlier times and
the gated norm. Where the inputs are real numbers everything up to the sum is real.
-/

@[expose] public section

noncomputable section

namespace Cert.Ssd

open Idealize.ShloMosaic Cert.RowNorm

/-- An extended real that is a real number. -/
def IsReal (x : EReal) : Prop := ∃ r : ℝ, x = (r : EReal)

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (max x y) := by
  rcases max_choice x y with h | h <;> rw [h] <;> assumption

theorem sum {ι : Type} (s : Finset ι) (f : ι → EReal) (hf : ∀ i, IsReal (f i)) : IsReal (∑ i ∈ s, f i) := by
  classical
  induction s using Finset.induction_on with
  | empty => simpa using zero
  | insert a s ha ih => rw [Finset.sum_insert ha]; exact (hf a).add ih

theorem exp {x : EReal} (hx : IsReal x) : IsReal (Ideal.exp x) := by
  obtain ⟨a, rfl⟩ := hx; exact ⟨_, Ideal.exp_coe a⟩

theorem neg {x : EReal} (hx : IsReal x) : IsReal (-x) := by
  obtain ⟨a, rfl⟩ := hx; exact ⟨-a, (EReal.coe_neg a).symm⟩

theorem eq {x : EReal} (hx : IsReal x) : x = (x.toReal : EReal) := by
  obtain ⟨a, rfl⟩ := hx; rfl

theorem div {x : EReal} (hx : IsReal x) {y : ℝ} (hy : y ≠ 0) : IsReal (Ideal.div x (y : EReal)) := by
  rw [Ideal.div_coe hy]; exact hx.mul (coe _)

end IsReal

/-- Sums of real numbers, inside the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The gate `x / (1 + exp(-x))`. -/
def silu (x : EReal) : EReal := x * Ideal.div 1 (1 + Ideal.exp (-x))

theorem IsReal.silu {x : EReal} (hx : IsReal x) : IsReal (silu x) := by
  refine hx.mul ?_
  obtain ⟨a, rfl⟩ := hx
  rw [← EReal.coe_neg, Ideal.exp_coe, show (1 : EReal) = ((1 : ℝ) : EReal) from rfl, ← EReal.coe_add]
  exact (IsReal.coe 1).div (by positivity)

theorem IsReal.rstd {f : Fin 2048 → EReal} (hf : ∀ k, IsReal (f k)) : IsReal (rstd f) := by
  unfold RowNorm.rstd
  have h1 : Ideal.ofBits FTy.f32 0x45000000#32 = ((2048 : ℝ) : EReal) := by
    simp [Ideal.ofBits, Ideal.ieee, -EReal.coe_mul]; norm_num
  have h2 : ∃ e : ℝ, 0 < e ∧ Ideal.ofBits FTy.f32 0x358637BD#32 = (e : EReal) := by
    refine ⟨(Ideal.ofBits FTy.f32 0x358637BD#32).toReal, ?_, ?_⟩ <;>
    · simp [Ideal.ofBits, Ideal.ieee, -EReal.coe_mul]
  obtain ⟨e, he, h2⟩ := h2
  have hs : ∃ s : ℝ, 0 ≤ s ∧ (∑ k, f k * f k) = (s : EReal) := by
    refine ⟨∑ k, (f k).toReal * (f k).toReal, Finset.sum_nonneg fun k _ => mul_self_nonneg _, ?_⟩
    rw [coe_sum]
    exact Finset.sum_congr rfl fun k _ => by rw [EReal.coe_mul, ← (hf k).eq]
  obtain ⟨s, hs0, hs⟩ := hs
  rw [hs, h1, h2, Ideal.div_coe (by norm_num), ← EReal.coe_mul, ← EReal.coe_add, Ideal.rsqrt_coe]
  have : 0 < s * (1 / 2048) + e := by positivity
  rw [if_neg (not_lt.mpr this.le), if_neg this.ne']
  exact IsReal.coe _

/-- The branch's inputs: the rows, the weights of the norm and the projection, of the convolution, of the step sizes
and decays, the skip, and the weight of the last norm. -/
structure In where
  x : ℕ → ℕ → Fin 2048 → EReal
  pw : Fin 2048 → EReal
  w : Fin 2048 → ℕ → EReal
  cw : ℕ → ℕ → EReal
  cb : ℕ → EReal
  dtb : ℕ → EReal
  al : ℕ → EReal
  ds : ℕ → EReal
  nw : ℕ → EReal

namespace In

variable (I : In)

/-- The inputs that the recurrence reads are real numbers. -/
structure Real : Prop where
  x : ∀ b l k, IsReal (I.x b l k)
  pw : ∀ k, IsReal (I.pw k)
  w : ∀ k n, IsReal (I.w k n)
  cw : ∀ k c, IsReal (I.cw k c)
  cb : ∀ c, IsReal (I.cb c)
  dtb : ∀ h, IsReal (I.dtb h)
  al : ∀ h, IsReal (I.al h)

/-- The projection of a normalised row. -/
def proj (b l n : ℕ) : EReal := ∑ k, I.x b l k * rstd (I.x b l) * I.pw k * I.w k n

/-- What the convolution reads eight rows after time zero: nothing before the first row. -/
def pre (b m c : ℕ) : EReal := if m < 8 then 0 else I.proj b (m - 8) (5120 + c)

/-- The causal convolution of four taps. -/
def conv (b l c : ℕ) : EReal :=
  I.cb c + I.cw 0 c * I.pre b (l + 5) c + I.cw 1 c * I.pre b (l + 6) c + I.cw 2 c * I.pre b (l + 7) c + I.cw 3 c * I.pre b (l + 8) c

/-- The convolution, gated: the values, then the two groups' inputs and outputs of the state. -/
def act (b l c : ℕ) : EReal := silu (I.conv b l c)

/-- A head's step size. -/
def dt (b l h : ℕ) : EReal :=
  max (I.proj b l (6656 + h) + I.dtb h) 0
    + Ideal.log1p (Ideal.exp (0 - max (I.proj b l (6656 + h) + I.dtb h) (-(I.proj b l (6656 + h) + I.dtb h))))

/-- A head's decay. -/
def a (b l h : ℕ) : EReal := I.dt b l h * (0 - Ideal.exp (I.al h))

/-- The decay, the stepped value and the state's input and output, as real numbers of the time. -/
def aR (b h l : ℕ) : ℝ := (I.a b l h).toReal
def XR (b c l : ℕ) : ℝ := (I.act b l c * I.dt b l (c / 64)).toReal
def BR (b g l : ℕ) (n : Fin 128) : ℝ := (I.act b l (1024 + 128 * g + n.val)).toReal
def CR (b g l : ℕ) (n : Fin 128) : ℝ := (I.act b l (1280 + 128 * g + n.val)).toReal

/-- The sum over the earlier times. -/
def core (b l c : ℕ) : ℝ := out (I.aR b (c / 64)) (I.XR b c) (I.BR b (c / 512)) (I.CR b (c / 512)) l

/-- With the skip, and gated. -/
def yz (b l c : ℕ) : EReal := ((I.core b l c : EReal) + I.ds (c / 64) * I.act b l c) * silu (I.proj b l (4096 + c))

/-- Normalised over its group of 512 columns. -/
def res (b l c : ℕ) : EReal :=
  I.yz b l c * Ideal.rsqrt (Ideal.div (∑ k : Fin 512, I.yz b l (512 * (c / 512) + k.val) * I.yz b l (512 * (c / 512) + k.val)) (Ideal.ofBits FTy.f32 0x44000000#32)
    + Ideal.ofBits FTy.f32 0x358637BD#32) * I.nw c

variable {I} (hI : I.Real)
include hI

theorem proj_real (b l n : ℕ) : IsReal (I.proj b l n) :=
  IsReal.sum _ _ fun k => (((hI.x b l k).mul (IsReal.rstd (hI.x b l))).mul (hI.pw k)).mul (hI.w k n)

theorem pre_real (b m c : ℕ) : IsReal (I.pre b m c) := by
  unfold pre; split
  · exact IsReal.zero
  · exact proj_real hI _ _ _

theorem act_real (b l c : ℕ) : IsReal (I.act b l c) :=
  IsReal.silu (((((hI.cb c).add ((hI.cw 0 c).mul (pre_real hI _ _ _))).add ((hI.cw 1 c).mul (pre_real hI _ _ _))).add
    ((hI.cw 2 c).mul (pre_real hI _ _ _))).add ((hI.cw 3 c).mul (pre_real hI _ _ _)))

theorem dt_real (b l h : ℕ) : IsReal (I.dt b l h) := by
  have hv : IsReal (I.proj b l (6656 + h) + I.dtb h) := (proj_real hI _ _ _).add (hI.dtb h)
  unfold dt
  generalize I.proj b l (6656 + h) + I.dtb h = v at hv ⊢
  refine (hv.max IsReal.zero).add ?_
  have hw : IsReal (0 - max v (-v)) := IsReal.zero.sub (hv.max hv.neg)
  generalize 0 - max v (-v) = u at hw ⊢
  obtain ⟨r, rfl⟩ := hw
  show IsReal (Ideal.log (1 + Ideal.exp (r : EReal)))
  rw [Ideal.exp_coe, show (1 : EReal) = ((1 : ℝ) : EReal) from rfl, ← EReal.coe_add, Ideal.log_coe]
  have : 0 < 1 + _root_.Real.exp r := by positivity
  rw [if_neg (not_le.mpr this)]
  exact IsReal.coe _

theorem a_real (b l h : ℕ) : IsReal (I.a b l h) := (dt_real hI b l h).mul (IsReal.zero.sub (hI.al h).exp)

theorem a_coe (b l h : ℕ) : I.a b l h = (I.aR b h l : EReal) := (a_real hI b l h).eq
theorem X_coe (b l c : ℕ) : I.act b l c * I.dt b l (c / 64) = (I.XR b c l : EReal) := ((act_real hI b l c).mul (dt_real hI b l _)).eq
theorem B_coe (b g l : ℕ) (n : Fin 128) : I.act b l (1024 + 128 * g + n.val) = (I.BR b g l n : EReal) := (act_real hI b l _).eq
theorem C_coe (b g l : ℕ) (n : Fin 128) : I.act b l (1280 + 128 * g + n.val) = (I.CR b g l n : EReal) := (act_real hI b l _).eq

end In

end Cert.Ssd

end
-- ==== Proof.SsdStep.lean ====
module

public import proofs.«01_k».proof.Proof.SsdConv
public import proofs.«01_k».proof.Proof.SsdRows
import Idealize.ShloMosaic.Lib.Pipeline.ValueKit

/-!
# One step of the state space branch, entry by entry

Where the loads are the branch's at chunk `j` of batch `b`, the step's stores are the branch's: the two groups of 512
columns of the output and the two groups' states at the start of the next chunk.
-/

@[expose] public section

set_option maxRecDepth 16384

noncomputable section

namespace Cert.MixerIdeal.Terms

open Cert.MixerIdeal Cert.MixerIdeal.Gen Cert.Ssd
open Idealize.ShloMosaic Idealize.ShloMosaic.TcCoe

/-! ## The named constants and the masks -/

theorem neg_log2e_val : Named.named (F := Ideal) (φ := .f32) κ "neg_log2e" 0xBFB8AA3B#32 = ((-((Real.log 2)⁻¹) : ℝ) : EReal) :=
  IdealRules.named_const.ideal_named_scalar _ _ _ _ rfl

theorem log2e_val : Named.named (F := Ideal) (φ := .f32) κ "log2e" 0x3FB8AA3B#32 = (((Real.log 2)⁻¹ : ℝ) : EReal) :=
  IdealRules.named_const.ideal_named_scalar _ _ _ _ rfl

theorem neg_big_val : Named.named (F := Ideal) (φ := .f32) κ "neg_big" 0xF149F2CA#32 = (⊥ : EReal) :=
  IdealRules.named_const.ideal_named_scalar _ _ _ _ rfl

theorem two_rpow (x : ℝ) : Real.rpow 2 (x * (Real.log 2)⁻¹) = Real.exp x := by
  have hl : (0 : ℝ) < Real.log 2 := Real.log_pos one_lt_two
  show (2 : ℝ) ^ (x * (Real.log 2)⁻¹) = Real.exp x
  rw [Real.rpow_def_of_pos two_pos]
  refine congrArg _ ?_
  field_simp

theorem exp2_neg (x : EReal) :
    FloatOps.exp2 (F := Ideal) (φ := .f32) (x * Named.named (F := Ideal) (φ := .f32) κ "neg_log2e" 0xBFB8AA3B#32) = Ideal.exp (-x) := by
  have hneg : -((Real.log 2)⁻¹) < 0 := neg_lt_zero.mpr (inv_pos.mpr (Real.log_pos one_lt_two))
  rw [neg_log2e_val]
  show Ideal.exp2 _ = _
  induction x with
  | bot => rw [EReal.bot_mul_coe_of_neg hneg, EReal.neg_bot, Ideal.exp2_top, Ideal.exp_top]
  | top => rw [EReal.top_mul_coe_of_neg hneg, EReal.neg_top, Ideal.exp2_bot, Ideal.exp_bot]
  | coe x =>
    rw [← EReal.coe_mul, ← EReal.coe_neg, Ideal.exp2_coe, Ideal.exp_coe, mul_neg, ← neg_mul, two_rpow]

theorem gate_eq (y : EReal) : gate y = silu y := by
  unfold gate silu
  rw [exp2_neg]

/-- A multiple by `log2 e`, raised. -/
theorem exp2_log (p : ℝ) :
    FloatOps.exp2 (F := Ideal) (φ := .f32) ((p : EReal) * Named.named (F := Ideal) (φ := .f32) κ "log2e" 0x3FB8AA3B#32) = (Real.exp p : EReal) := by
  rw [log2e_val, ← EReal.coe_mul]
  exact (Ideal.exp2_coe _).trans (by rw [two_rpow])

theorem exp2_diff (p q : ℝ) :
    FloatOps.exp2 (F := Ideal) (φ := .f32) ((p : EReal) * Named.named (F := Ideal) (φ := .f32) κ "log2e" 0x3FB8AA3B#32
      - (q : EReal) * Named.named (F := Ideal) (φ := .f32) κ "log2e" 0x3FB8AA3B#32) = (Real.exp (p - q) : EReal) := by
  rw [log2e_val, ← EReal.coe_mul, ← EReal.coe_mul, ← EReal.coe_sub, ← sub_mul]
  exact (Ideal.exp2_coe _).trans (by rw [two_rpow])

theorem sel_lt (c : Fin 128) (a b : EReal) : Scalar.select (IntOp.cmpi .slt (BitVec.ofNat 32 c.val) 64#32) a b = if c.val < 64 then a else b := by
  have : IntOp.cmpi .slt (BitVec.ofNat 32 c.val) 64#32 = if c.val < 64 then 1#1 else 0#1 := by revert c; decide +kernel
  rw [this, Scalar.select_def]
  by_cases h : c.val < 64
  · rw [if_pos h, if_pos h]; exact if_pos rfl
  · rw [if_neg h, if_neg h]; exact if_neg (by decide)

theorem sel_nlt (c : Fin 128) (a b : EReal) : Scalar.select (IntOp.xori (IntOp.cmpi .slt (BitVec.ofNat 32 c.val) 64#32) 1#1) a b = if c.val < 64 then b else a := by
  have : IntOp.xori (IntOp.cmpi .slt (BitVec.ofNat 32 c.val) 64#32) 1#1 = if c.val < 64 then 0#1 else 1#1 := by revert c; decide +kernel
  rw [this, Scalar.select_def]
  by_cases h : c.val < 64
  · rw [if_pos h, if_pos h]; exact if_neg (by decide)
  · rw [if_neg h, if_neg h]; exact if_pos rfl

theorem sel_ge (r x : Fin 256) (a b : EReal) : Scalar.select (IntOp.cmpi .sge (BitVec.ofNat 32 r.val) (BitVec.ofNat 32 x.val)) a b = if x.val ≤ r.val then a else b := by
  have : IntOp.cmpi .sge (BitVec.ofNat 32 r.val) (BitVec.ofNat 32 x.val) = if x.val ≤ r.val then 1#1 else 0#1 := by
    have hb : ∀ y : Fin 256, (BitVec.ofNat 32 y.val).toInt = y.val := by decide +kernel
    show BitVec.ofBool ((BitVec.ofNat 32 x.val).sle (BitVec.ofNat 32 r.val)) = _
    simp only [BitVec.sle, hb]
    by_cases h : x.val ≤ r.val <;> simp [h]
  rw [this, Scalar.select_def]
  by_cases h : x.val ≤ r.val
  · rw [if_pos h, if_pos h]; exact if_pos rfl
  · rw [if_neg h, if_neg h]; exact if_neg (by decide)

theorem mask_at (r : Fin 256) (l : Fin 128) : k0_pay108 (ix2 r l) = IntOp.cmpi .slt (BitVec.ofNat 32 l.val) 64#32 := by
  pointwise [k0_pay108]

/-! ## Concatenations -/

/-- Four slabs side by side, -/
theorem cat4 (a b c d : FVec Ideal S256x128 .f32) (f : ℕ → EReal) (r : Fin 256) (ha : ∀ l : Fin 128, a (ix2 r l) = f l.val)
    (hb : ∀ l : Fin 128, b (ix2 r l) = f (128 + l.val)) (hc : ∀ l : Fin 128, c (ix2 r l) = f (256 + l.val)) (hd : ∀ l : Fin 128, d (ix2 r l) = f (384 + l.val))
    (k : Fin 512) : k0_pay93 (F := Ideal) a b c d (ix2 r k) = f k.val := by
  pointwise [k0_pay93]
  by_cases h0 : k.val < 128
  · exact (dif_pos h0).trans ((ha _).trans (congrArg f (by dsimp only)))
  refine (dif_neg h0).trans ?_
  by_cases h1 : k.val - 128 < 128
  · exact (dif_pos h1).trans ((hb _).trans (congrArg f (by dsimp only; omega)))
  refine (dif_neg h1).trans ?_
  by_cases h2 : k.val - 128 - 128 < 128
  · exact (dif_pos h2).trans ((hc _).trans (congrArg f (by dsimp only; omega)))
  refine (dif_neg h2).trans ?_
  exact (hd _).trans (congrArg f (by dsimp only; omega))

/-- the last of them a product, -/
theorem cat4' (a b c x y z : FVec Ideal S256x128 .f32) (f : ℕ → EReal) (r : Fin 256) (ha : ∀ l : Fin 128, a (ix2 r l) = f l.val)
    (hb : ∀ l : Fin 128, b (ix2 r l) = f (128 + l.val)) (hc : ∀ l : Fin 128, c (ix2 r l) = f (256 + l.val))
    (hd : ∀ l : Fin 128, (mulf x (divf (broadcast S256x128 (Scalar.ofBits .f32 0x3F800000#32)) (addf z y)) : FVec Ideal S256x128 .f32) (ix2 r l) = f (384 + l.val))
    (k : Fin 512) : k0_pay95 (F := Ideal) a b c x y z (ix2 r k) = f k.val := by
  rw [show k0_pay95 (F := Ideal) a b c x y z = k0_pay93 (F := Ideal) a b c (mulf x (divf (broadcast S256x128 (Scalar.ofBits .f32 0x3F800000#32)) (addf z y))) from rfl]
  exact cat4 _ _ _ _ f r ha hb hc hd k

/-- and eight pairs of heads, each head's column over its 64 columns. -/
theorem cat8 (w : FVec Ideal S256x128 .f32) (m : IVec S256x128 1) (a b c d e : FVec Ideal S256x128 .f32) (f : ℕ → EReal) (r : Fin 256)
    (hm : ∀ (l : Fin 128) (p q : EReal), Scalar.select (m (ix2 r l)) p q = if l.val < 64 then p else q) (hw : ∀ h : Fin 128, h.val < 16 → w (ix2 r h) = f h.val)
    (ha : ∀ l : Fin 128, a (ix2 r l) = f (l.val / 64)) (hb : ∀ l : Fin 128, b (ix2 r l) = f (2 + l.val / 64)) (hc : ∀ l : Fin 128, c (ix2 r l) = f (4 + l.val / 64))
    (hd : ∀ l : Fin 128, d (ix2 r l) = f (6 + l.val / 64)) (he : ∀ l : Fin 128, e (ix2 r l) = f (8 + l.val / 64)) (k : Fin 1024) :
    k0_pay121 (F := Ideal) w m a b c d e (ix2 r k) = f (k.val / 64) := by
  pointwise [k0_pay121]
  have h10 : w (ix2 r 10) = f 10 := hw 10 (by decide)
  have h11 : w (ix2 r 11) = f 11 := hw 11 (by decide)
  have h12 : w (ix2 r 12) = f 12 := hw 12 (by decide)
  have h13 : w (ix2 r 13) = f 13 := hw 13 (by decide)
  have h14 : w (ix2 r 14) = f 14 := hw 14 (by decide)
  have h15 : w (ix2 r 15) = f 15 := hw 15 (by decide)
  have hs : ∀ (l : Fin 128) (p q n : ℕ), (l.val < 64 → p = n) → (¬ l.val < 64 → q = n) → Scalar.select (m (ix2 r l)) (f p) (f q) = f n := fun l p q n hp hq => by
    rw [hm]
    by_cases h : l.val < 64
    · rw [if_pos h, hp h]
    · rw [if_neg h, hq h]
  rw [h10, h11, h12, h13, h14, h15]
  by_cases h0 : k.val < 128
  · exact (dif_pos h0).trans ((ha _).trans (congrArg f (by dsimp only)))
  refine (dif_neg h0).trans ?_
  by_cases h1 : k.val - 128 < 128
  · exact (dif_pos h1).trans ((hb _).trans (congrArg f (by dsimp only; omega)))
  refine (dif_neg h1).trans ?_
  by_cases h2 : k.val - 128 - 128 < 128
  · exact (dif_pos h2).trans ((hc _).trans (congrArg f (by dsimp only; omega)))
  refine (dif_neg h2).trans ?_
  by_cases h3 : k.val - 128 - 128 - 128 < 128
  · exact (dif_pos h3).trans ((hd _).trans (congrArg f (by dsimp only; omega)))
  refine (dif_neg h3).trans ?_
  by_cases h4 : k.val - 128 - 128 - 128 - 128 < 128
  · exact (dif_pos h4).trans ((he _).trans (congrArg f (by dsimp only; omega)))
  refine (dif_neg h4).trans ?_
  by_cases h5 : k.val - 128 - 128 - 128 - 128 - 128 < 128
  · exact (dif_pos h5).trans (hs _ _ _ _ (fun h => by dsimp only at h; omega) (fun h => by dsimp only at h; omega))
  refine (dif_neg h5).trans ?_
  by_cases h6 : k.val - 128 - 128 - 128 - 128 - 128 - 128 < 128
  · exact (dif_pos h6).trans (hs _ _ _ _ (fun h => by dsimp only at h; omega) (fun h => by dsimp only at h; omega))
  refine (dif_neg h6).trans ?_
  exact hs _ _ _ _ (fun h => by dsimp only at h; omega) (fun h => by dsimp only at h; omega)

/-! ## The step -/

/-- The loads are the branch's at chunk `j` of batch `b`. -/
structure Good (L : Loads) (I : In) (b j : ℕ) : Prop where
  pj : ∀ (r : Fin 256) (q : Fin 2688), q.val < 2576 → L.pj (ix2 r q) = I.proj b (256 * j + r.val) (4096 + q.val)
  bias : ∀ (s : Fin 12) (l : Fin 128), L.bias s (ix2 0 l) = I.cb (128 * s.val + l.val)
  w : ∀ (s : Fin 12) (k : Fin 4) (l : Fin 128), L.w s k (ix2 0 l) = I.cw k.val (128 * s.val + l.val)
  tap : ∀ (s : Fin 12) (k : Fin 4) (r : Fin 256) (l : Fin 128), L.tap s k (ix3 0 r l) = I.pre b (256 * j + (5 + k.val + r.val)) (128 * s.val + l.val)
  dtb : ∀ h : Fin 128, h.val < 16 → L.dtb (ix2 0 h) = I.dtb h.val
  al : ∀ h : Fin 128, h.val < 16 → L.al (ix2 0 h) = I.al h.val
  ds0 : ∀ c : Fin 512, L.ds0 (ix2 0 c) = I.ds (c.val / 64)
  ds1 : ∀ c : Fin 512, L.ds1 (ix2 0 c) = I.ds ((512 + c.val) / 64)
  nw0 : ∀ c : Fin 512, L.nw0 (ix2 0 c) = I.nw c.val
  nw1 : ∀ c : Fin 512, L.nw1 (ix2 0 c) = I.nw (512 + c.val)
  st0 : ∀ (n : Fin 128) (c : Fin 512), L.st0 (ix3 0 n c) = (state (I.aR b (c.val / 64)) (I.XR b c.val) (I.BR b 0) j n : EReal)
  st1 : ∀ (n : Fin 128) (c : Fin 512), L.st1 (ix3 0 n c) = (state (I.aR b ((512 + c.val) / 64)) (I.XR b (512 + c.val)) (I.BR b 1) j n : EReal)

section

variable {L : Loads} {I : In} {b j : ℕ} (hL : Good L I b j) (hI : I.Real)

section
include hL

theorem gate_at (s : Fin 12) (r : Fin 256) (l : Fin 128) : gate (taps L s r l) = I.act b (256 * j + r.val) (128 * s.val + l.val) := by
  rw [gate_eq]
  unfold taps In.act In.conv
  rw [hL.bias, hL.w, hL.w, hL.w, hL.w, hL.tap, hL.tap, hL.tap, hL.tap]
  have e : ∀ k : Fin 4, 256 * j + (5 + k.val + r.val) = 256 * j + r.val + (5 + k.val) := fun k => by omega
  rw [e, e, e, e]
  rfl

theorem v619_at (r : Fin 256) (c : Fin 512) : v619 L (ix2 r c) = I.act b (256 * j + r.val) c.val := by
  refine cat4 _ _ _ _ (I.act b (256 * j + r.val)) r (fun l => ?_) (fun l => ?_) (fun l => ?_) (fun l => ?_) c
  · exact ((slab0 L r l).trans (gate_at hL 0 r l)).trans (congrArg _ (by simp))
  · exact (slab1 L r l).trans (gate_at hL 1 r l)
  · exact (slab2 L r l).trans (gate_at hL 2 r l)
  · exact (slab3 L r l).trans (gate_at hL 3 r l)

theorem v620_at (r : Fin 256) (c : Fin 512) : v620 L (ix2 r c) = I.act b (256 * j + r.val) (512 + c.val) := by
  refine cat4 _ _ _ _ (fun k => I.act b (256 * j + r.val) (512 + k)) r (fun l => ?_) (fun l => ?_) (fun l => ?_) (fun l => ?_) c
  · exact (slab4 L r l).trans (gate_at hL 4 r l)
  · exact ((slab5 L r l).trans (gate_at hL 5 r l)).trans (congrArg _ (by show 128 * 5 + l.val = 512 + (128 + l.val); omega))
  · exact ((slab6 L r l).trans (gate_at hL 6 r l)).trans (congrArg _ (by show 128 * 6 + l.val = 512 + (256 + l.val); omega))
  · exact ((slab7 L r l).trans (gate_at hL 7 r l)).trans (congrArg _ (by show 128 * 7 + l.val = 512 + (384 + l.val); omega))

theorem v621_at (r : Fin 256) (c : Fin 512) : v621 L (ix2 r c) = I.act b (256 * j + r.val) (1024 + c.val) := by
  refine cat4' _ _ _ _ _ _ (fun k => I.act b (256 * j + r.val) (1024 + k)) r (fun l => ?_) (fun l => ?_) (fun l => ?_) (fun l => ?_) c
  · exact (slab8 L r l).trans (gate_at hL 8 r l)
  · exact ((slab9 L r l).trans (gate_at hL 9 r l)).trans (congrArg _ (by show 128 * 9 + l.val = 1024 + (128 + l.val); omega))
  · exact ((slab10 L r l).trans (gate_at hL 10 r l)).trans (congrArg _ (by show 128 * 10 + l.val = 1024 + (256 + l.val); omega))
  · exact ((slab11 L r l).trans (gate_at hL 11 r l)).trans (congrArg _ (by show 128 * 11 + l.val = 1024 + (384 + l.val); omega))

theorem v639_at (r : Fin 256) (h : Fin 128) (hh : h.val < 16) : v639 L (ix2 r h) = I.dt b (256 * j + r.val) h.val := by
  pointwise [v639, v42, k0_pay24, k0_pay97]
  have e := hL.pj r ⟨2560 + h.val, by omega⟩ (by show 2560 + h.val < 2576; omega)
  rw [e, hL.dtb h hh, show 4096 + (2560 + h.val) = 6656 + h.val by omega]
  rfl

theorem pay98_at (r : Fin 256) (h : Fin 128) (hh : h.val < 16) : k0_pay98 (F := Ideal) (v42 L) L.dtb L.al (ix2 r h) = I.a b (256 * j + r.val) h.val := by
  have e : k0_pay97 (F := Ideal) (v42 L) L.dtb (ix2 r h) = I.dt b (256 * j + r.val) h.val := v639_at hL r h hh
  unfold k0_pay98
  generalize k0_pay97 (F := Ideal) (v42 L) L.dtb = d at e ⊢
  pointwise
  rw [e, hL.al h hh]
  rfl

theorem v791_at (r : Fin 256) (c : Fin 1024) : v791 L (ix2 r c) = I.dt b (256 * j + r.val) (c.val / 64) := by
  have hd := v639_at hL r
  refine cat8 (v639 L) k0_pay108 (v741 L) (v748 L) (v755 L) (v762 L) (v769 L) (I.dt b (256 * j + r.val)) r (fun l p q => by rw [mask_at]; exact sel_lt l p q) hd ?_ ?_ ?_ ?_ ?_ c
  all_goals
    intro l
    first | unfold v741 k0_pay116 | unfold v748 k0_pay117 | unfold v755 k0_pay118 | unfold v762 k0_pay119 | unfold v769 k0_pay120
    generalize v639 L = w at hd ⊢
    pointwise [v677, k0_pay108]
    rw [sel_lt, hd _ (by decide), hd _ (by decide)]
    split_ifs with h64 <;> exact congrArg (I.dt b (256 * j + r.val)) (by dsimp; omega)

end

include hL hI

theorem v654_at (r : Fin 256) (h : Fin 128) (hh : h.val < 16) : v654 L (ix2 r h) = (I.aR b h.val (256 * j + r.val) : EReal) :=
  (pay98_at hL r h hh).trans (In.a_coe hI b _ h.val)

theorem v657_at (r : Fin 256) (h : Fin 128) (hh : h.val < 16) : v657 L (ix2 r h) = 0 := by
  have e : v657 L (ix2 r h) = k0_pay98 (F := Ideal) (v42 L) L.dtb L.al (ix2 r h) - k0_pay98 (F := Ideal) (v42 L) L.dtb L.al (ix2 r h) := by
    pointwise [v657, k0_pay103, k0_pay102, k0_pay101]
  rw [e, pay98_at hL r h hh, In.a_coe hI b _ h.val, ← EReal.coe_sub, sub_self]
  rfl

theorem v659_at (r : Fin 256) (h : Fin 128) (hh : h.val < 16) : v659 L (ix2 r h) = 0 := by
  have e : v659 L (ix2 r h) = v657 L (ix2 r h) - v657 L (ix2 r h) := rfl
  rw [e, v657_at hL hI r h hh]
  simp

/-- The running decays, scaled. -/
theorem v667_at (r : Fin 256) (h : Fin 128) (hh : h.val < 16) :
    v667 L (ix2 r h) = (loc (I.aR b h.val) j r.val : EReal) * Named.named (F := Ideal) (φ := .f32) κ "log2e" 0x3FB8AA3B#32 := by
  have e : v667 L (ix2 r h) = (∑ x, Scalar.select (IntOp.cmpi .sge (BitVec.ofNat 32 r.val) (BitVec.ofNat 32 x.val)) (v654 L (ix2 x h)) 0
      + ∑ x, Scalar.select (IntOp.cmpi .sge (BitVec.ofNat 32 r.val) (BitVec.ofNat 32 x.val)) (v657 L (ix2 x h)) 0
      + ∑ x, Scalar.select (IntOp.cmpi .sge (BitVec.ofNat 32 r.val) (BitVec.ofNat 32 x.val)) (v659 L (ix2 x h)) 0)
        * Named.named (F := Ideal) (φ := .f32) κ "log2e" 0x3FB8AA3B#32 := by
    pointwise [v667, k0_pay105, v653, k0_pay100, k0_pay99]
  rw [e]
  refine congrArg (· * _) ?_
  have z1 : ∀ x : Fin 256, Scalar.select (IntOp.cmpi .sge (BitVec.ofNat 32 r.val) (BitVec.ofNat 32 x.val)) (v657 L (ix2 x h)) 0 = 0 := fun x => by
    rw [v657_at hL hI x h hh, sel_ge, ite_self]
  have z2 : ∀ x : Fin 256, Scalar.select (IntOp.cmpi .sge (BitVec.ofNat 32 r.val) (BitVec.ofNat 32 x.val)) (v659 L (ix2 x h)) 0 = 0 := fun x => by
    rw [v659_at hL hI x h hh, sel_ge, ite_self]
  have z0 : ∀ x : Fin 256, Scalar.select (IntOp.cmpi .sge (BitVec.ofNat 32 r.val) (BitVec.ofNat 32 x.val)) (v654 L (ix2 x h)) 0
      = if x.val ≤ r.val then (I.aR b h.val (256 * j + x.val) : EReal) else 0 := fun x => by rw [v654_at hL hI x h hh, sel_ge]
  rw [Finset.sum_congr rfl fun x _ => z0 x, Finset.sum_congr rfl fun x _ => z1 x, Finset.sum_congr rfl fun x _ => z2 x, Finset.sum_const_zero, add_zero, add_zero,
    sum_fin_le 256 r.val r.isLt (fun u => (I.aR b h.val (256 * j + u) : EReal)), ← coe_sum]
  rfl

theorem v668_at (h : Fin 128) (hh : h.val < 16) (r : Fin 256) :
    v668 L (ix2 h r) = (loc (I.aR b h.val) j r.val : EReal) * Named.named (F := Ideal) (φ := .f32) κ "log2e" 0x3FB8AA3B#32 := by
  have e : v668 L (ix2 h r) = v667 L (ix2 r h) := by
    unfold v668 k0_pay106
    rw [show k0_pay105 (F := Ideal) (v653 L) (v654 L) (v657 L) (v659 L) = v667 L from rfl]
    generalize v667 L = w
    pointwise
  rw [e, v667_at hL hI r h hh]

theorem v734_at (r : Fin 256) (c : Fin 1024) :
    v734 L (ix2 r c) = (loc (I.aR b (c.val / 64)) j r.val : EReal) * Named.named (F := Ideal) (φ := .f32) κ "log2e" 0x3FB8AA3B#32 := by
  have hd := v667_at hL hI r
  have e : v734 L = k0_pay121 (F := Ideal) (v667 L) k0_pay108 (v684 L) (v691 L) (v698 L) (v705 L)
      (select k0_pay108 (v709 L) (broadcastTo S256x128 (shapeCast S256x1 (v707 L) shapeCasts_S256x1_S256x1) broadcasts_S256x1_S256x128)) := rfl
  rw [e]
  refine cat8 (v667 L) k0_pay108 _ _ _ _ _ (fun h => (loc (I.aR b h) j r.val : EReal) * Named.named (F := Ideal) (φ := .f32) κ "log2e" 0x3FB8AA3B#32) r (fun l p q => by rw [mask_at]; exact sel_lt l p q) hd ?_ ?_ ?_ ?_ ?_ c
  all_goals
    intro l
    first | unfold v684 k0_pay109 | unfold v691 k0_pay110 | unfold v698 k0_pay111 | unfold v705 k0_pay112 | unfold v709 k0_pay114 v707 k0_pay113
    rw [show k0_pay105 (F := Ideal) (v653 L) (v654 L) (v657 L) (v659 L) = v667 L from rfl]
    generalize v667 L = w at hd ⊢
    pointwise [k0_pay108]
    rw [sel_lt, hd _ (by decide), hd _ (by decide)]
    split_ifs with h64 <;>
      exact congrArg (fun h => (loc (I.aR b h) j r.val : EReal) * Named.named (F := Ideal) (φ := .f32) κ "log2e" 0x3FB8AA3B#32) (by dsimp; omega)

/-- The stepped values of the first group, -/
theorem v799_at (r : Fin 256) (c : Fin 512) : v799 L (ix2 r c) = (I.XR b c.val (256 * j + r.val) : EReal) := by
  have e : v799 L (ix2 r c) = v619 L (ix2 r c) * v791 L (ix2 r ⟨c.val, by omega⟩) := by
    unfold v799 k0_pay123
    rw [show k0_pay121 (F := Ideal) (v639 L) (v677 L) (v741 L) (v748 L) (v755 L) (v762 L) (v769 L) = v791 L from rfl]
    generalize v791 L = w
    pointwise
  rw [e, v619_at hL, v791_at hL, In.X_coe hI]

theorem v800_at (r : Fin 256) (c : Fin 512) : v800 L (ix2 r c) = (I.XR b c.val (256 * j + r.val) : EReal) := v799_at hL hI r c

/-- and of the second. -/
theorem v1003_at (r : Fin 256) (c : Fin 512) : v1003 L (ix2 r c) = (I.XR b (512 + c.val) (256 * j + r.val) : EReal) := by
  have e : v1003 L (ix2 r c) = v620 L (ix2 r c) * v791 L (ix2 r ⟨512 + c.val, by omega⟩) := by
    pointwise [v1003, k0_pay151]
  rw [e, v620_at hL, v791_at hL, In.X_coe hI]

theorem v1004_at (r : Fin 256) (c : Fin 512) : v1004 L (ix2 r c) = (I.XR b (512 + c.val) (256 * j + r.val) : EReal) := v1003_at hL hI r c

theorem b_at (g : ℕ) (r : Fin 256) (n : Fin 128) (c : Fin 512) (hc : c.val = 128 * g + n.val) : v621 L (ix2 r c) = (I.BR b g (256 * j + r.val) n : EReal) := by
  rw [v621_at hL, hc, ← add_assoc, In.B_coe hI]

theorem c_at (g : ℕ) (r : Fin 256) (n : Fin 128) (c : Fin 512) (hc : c.val = 256 + 128 * g + n.val) : v621 L (ix2 r c) = (I.CR b g (256 * j + r.val) n : EReal) := by
  rw [v621_at hL, hc, ← In.C_coe hI]
  exact congrArg _ (by omega)

omit hL hI in
/-- A product of sums of real numbers. -/
theorem dot_coe {ι : Type} [Fintype ι] (f g : ι → EReal) (p q : ι → ℝ) (hf : ∀ n, f n = (p n : EReal)) (hg : ∀ n, g n = (q n : EReal)) :
    ∑ n, f n * g n = ((∑ n, p n * q n : ℝ) : EReal) := by
  rw [coe_sum]
  exact Finset.sum_congr rfl fun n _ => by rw [hf, hg, EReal.coe_mul]

theorem v805_at (r x : Fin 256) : v805 L (ix2 r x) = ((∑ n, I.CR b 0 (256 * j + r.val) n * I.BR b 0 (256 * j + x.val) n : ℝ) : EReal) := by
  have e : v805 L (ix2 r x) = ∑ n : Fin 128, v621 L (ix2 r ⟨256 + n.val, by omega⟩) * v621 L (ix2 x ⟨n.val, by omega⟩) := by
    pointwise [v805, k0_pay127, k0_pay126, k0_pay125]
  rw [e]
  exact dot_coe _ _ _ _ (fun n => c_at hL hI 0 r n _ (by simp)) (fun n => b_at hL hI 0 x n _ (by simp))

theorem v1009_at (r x : Fin 256) : v1009 L (ix2 r x) = ((∑ n, I.CR b 1 (256 * j + r.val) n * I.BR b 1 (256 * j + x.val) n : ℝ) : EReal) := by
  have e : v1009 L (ix2 r x) = ∑ n : Fin 128, v621 L (ix2 r ⟨384 + n.val, by omega⟩) * v621 L (ix2 x ⟨128 + n.val, by omega⟩) := by
    pointwise [v1009, k0_pay155, k0_pay154, k0_pay153]
  rw [e]
  exact dot_coe _ _ _ _ (fun n => c_at hL hI 1 r n _ (by simp)) (fun n => b_at hL hI 1 x n _ (by simp))

/-- A chunk's own part of the sum at a row and a column. -/
def _root_.Cert.Ssd.In.diag (I : In) (b j r c : ℕ) : ℝ :=
  ∑ u ∈ Finset.range (r + 1), (∑ n, I.CR b (c / 512) (256 * j + r) n * I.BR b (c / 512) (256 * j + u) n)
    * Real.exp (loc (I.aR b (c / 64)) j r - loc (I.aR b (c / 64)) j u) * I.XR b c (256 * j + u)

/-- The decayed products of one head. -/
theorem half (h : Fin 128) (hh : h.val < 16) (r : Fin 256) (G V : Fin 256 → EReal) (g X : ℕ → ℝ) (hG : ∀ x, G x = (g x.val : EReal)) (hV : ∀ x, V x = (X x.val : EReal)) :
    ∑ x : Fin 256, G x * FloatOps.exp2 (F := Ideal) (φ := .f32) (Scalar.select (IntOp.cmpi .sge (BitVec.ofNat 32 r.val) (BitVec.ofNat 32 x.val))
        (v667 L (ix2 r h) - v668 L (ix2 h x)) (Named.named (F := Ideal) (φ := .f32) κ "neg_big" 0xF149F2CA#32)) * V x
      = ((∑ u ∈ Finset.range (r.val + 1), g u * Real.exp (loc (I.aR b h.val) j r.val - loc (I.aR b h.val) j u) * X u : ℝ) : EReal) := by
  rw [coe_sum, ← sum_fin_le 256 r.val r.isLt]
  refine Finset.sum_congr rfl fun x _ => ?_
  rw [hG, hV, v667_at hL hI r h hh, v668_at hL hI h hh x]
  refine (congrArg (fun y : EReal => (g x.val : EReal) * FloatOps.exp2 (F := Ideal) (φ := .f32) y * (X x.val : EReal)) (sel_ge r x _ _)).trans ?_
  split_ifs with hx
  · rw [exp2_diff, ← EReal.coe_mul, ← EReal.coe_mul]
  · rw [neg_big_val]
    show (g x.val : EReal) * Ideal.exp2 ⊥ * (X x.val : EReal) = 0
    rw [Ideal.exp2_bot, mul_zero, zero_mul]

/-- A pair of heads: the first over the first 64 columns and the second over the others. -/
theorem tile (q : ℕ) (hq : q < 8) (h0 h1 : Fin 128) (e0 : h0.val = 2 * q) (e1 : h1.val = 2 * q + 1) (r : Fin 256) (l : Fin 128) (G V : Fin 256 → EReal)
    (hG : ∀ x, G x = ((∑ n, I.CR b (q / 4) (256 * j + r.val) n * I.BR b (q / 4) (256 * j + x.val) n : ℝ) : EReal))
    (hV : ∀ x, V x = (I.XR b (128 * q + l.val) (256 * j + x.val) : EReal)) :
    (∑ x : Fin 256, Scalar.select (IntOp.cmpi .slt (BitVec.ofNat 32 l.val) 64#32) (G x * FloatOps.exp2 (F := Ideal) (φ := .f32) (Scalar.select (IntOp.cmpi .sge (BitVec.ofNat 32 r.val) (BitVec.ofNat 32 x.val))
        (v667 L (ix2 r h0) - v668 L (ix2 h0 x)) (Named.named (F := Ideal) (φ := .f32) κ "neg_big" 0xF149F2CA#32)) * V x) 0)
    + (∑ x : Fin 256, Scalar.select (IntOp.xori (IntOp.cmpi .slt (BitVec.ofNat 32 l.val) 64#32) 1#1) (G x * FloatOps.exp2 (F := Ideal) (φ := .f32) (Scalar.select (IntOp.cmpi .sge (BitVec.ofNat 32 r.val) (BitVec.ofNat 32 x.val))
        (v667 L (ix2 r h1) - v668 L (ix2 h1 x)) (Named.named (F := Ideal) (φ := .f32) κ "neg_big" 0xF149F2CA#32)) * V x) 0)
      = (I.diag b j r.val (128 * q + l.val) : EReal) := by
  rw [Finset.sum_congr rfl fun x _ => sel_lt l _ _, Finset.sum_congr rfl fun x _ => sel_nlt l _ _]
  unfold In.diag
  have e512 : (128 * q + l.val) / 512 = q / 4 := by omega
  rw [e512]
  by_cases hl : l.val < 64
  · simp only [if_pos hl, Finset.sum_const_zero, add_zero]
    rw [half hL hI h0 (by omega) r G V (fun u => ∑ n, I.CR b (q / 4) (256 * j + r.val) n * I.BR b (q / 4) (256 * j + u) n) (fun u => I.XR b (128 * q + l.val) (256 * j + u)) hG hV,
      show (128 * q + l.val) / 64 = h0.val by omega]
  · simp only [if_neg hl, Finset.sum_const_zero, zero_add]
    rw [half hL hI h1 (by omega) r G V (fun u => ∑ n, I.CR b (q / 4) (256 * j + r.val) n * I.BR b (q / 4) (256 * j + u) n) (fun u => I.XR b (128 * q + l.val) (256 * j + u)) hG hV,
      show (128 * q + l.val) / 64 = h1.val by omega]

theorem v840_at (r : Fin 256) (l : Fin 128) : v840 L (ix2 r l) = (I.diag b j r.val l.val : EReal) := by
  have t := tile hL hI 0 (by decide) 0 1 rfl rfl r l (fun x => v805 L (ix2 r x)) (fun x => v812 L (ix2 x l)) (fun x => v805_at hL hI r x) (fun x => by
    have e : v812 L (ix2 x l) = v800 L (ix2 x ⟨l.val, by omega⟩) := by
      unfold v812 k0_pay129
      rw [show k0_pay124 (F := Ideal) (v619 L) (v639 L) (v677 L) (v741 L) (v748 L) (v755 L) (v762 L) (v769 L) = v800 L from rfl]
      generalize v800 L = w
      pointwise
    rw [e, v800_at hL hI]
    simp)
  pointwise [v840, k0_pay131, v649, k0_pay99, v677, k0_pay108, v817, k0_pay130]
  simpa using t

theorem v875_at (r : Fin 256) (l : Fin 128) : v875 L (ix2 r l) = (I.diag b j r.val (128 + l.val) : EReal) := by
  have t := tile hL hI 1 (by decide) 2 3 rfl rfl r l (fun x => v805 L (ix2 r x)) (fun x => v800 L (ix2 x ⟨128 + l.val, by omega⟩)) (fun x => v805_at hL hI r x) (fun x => v800_at hL hI x _)
  pointwise [v875, k0_pay137, v649, k0_pay99, v677, k0_pay108, v847, v860, v862, v863, k0_pay133, k0_pay134, k0_pay135, k0_pay136]
  exact t

/-- The first group's own part of the sums. -/
theorem v946_at (r : Fin 256) (c : Fin 512) : v946 L (ix2 r c) = (I.diag b j r.val c.val : EReal) := by
  unfold v946 k0_pay144
  refine cat4 (v840 L) (v875 L) _ _ (fun k => (I.diag b j r.val k : EReal)) r (fun l => v840_at hL hI r l) (fun l => v875_at hL hI r l) (fun l => ?_) (fun l => ?_) c
  · have t := tile hL hI 2 (by decide) 4 5 rfl rfl r l (fun x => v805 L (ix2 r x)) (fun x => v800 L (ix2 x ⟨256 + l.val, by omega⟩)) (fun x => v805_at hL hI r x) (fun x => v800_at hL hI x _)
    pointwise [v895, v905, v908, k0_pay139, k0_pay140, k0_pay141, k0_pay142, v649, k0_pay99, v677, k0_pay108]
    exact t
  · have t := tile hL hI 3 (by decide) 6 7 rfl rfl r l (fun x => v805 L (ix2 r x)) (fun x => v800 L (ix2 x ⟨384 + l.val, by omega⟩)) (fun x => v805_at hL hI r x) (fun x => v800_at hL hI x _)
    pointwise [v649, k0_pay99, v677, k0_pay108]
    exact t

theorem v1044_at (r : Fin 256) (l : Fin 128) : v1044 L (ix2 r l) = (I.diag b j r.val (512 + l.val) : EReal) := by
  have t := tile hL hI 4 (by decide) 8 9 rfl rfl r l (fun x => v1009 L (ix2 r x)) (fun x => v1004 L (ix2 x ⟨l.val, by omega⟩)) (fun x => v1009_at hL hI r x) (fun x => v1004_at hL hI x _)
  have e1 : k0_pay155 (F := Ideal) (v621 L) = v1009 L := rfl
  have e2 : k0_pay152 (F := Ideal) (v620 L) (v791 L) = v1004 L := rfl
  unfold v1044 k0_pay162 v1029 k0_pay158 v1039 k0_pay159 v1016 k0_pay157 v1040 k0_pay160 v1041 k0_pay161
  rw [e1, e2]
  pointwise [v649, k0_pay99, v677, k0_pay108]
  exact t

theorem v1079_at (r : Fin 256) (l : Fin 128) : v1079 L (ix2 r l) = (I.diag b j r.val (512 + (128 + l.val)) : EReal) := by
  have t := tile hL hI 5 (by decide) 10 11 rfl rfl r l (fun x => v1009 L (ix2 r x)) (fun x => v1004 L (ix2 x ⟨128 + l.val, by omega⟩)) (fun x => v1009_at hL hI r x) (fun x => (v1004_at hL hI x _).trans (congrArg (fun k => (I.XR b k (256 * j + x.val) : EReal)) (by dsimp only; omega)))
  rw [← add_assoc]
  pointwise [v1079, k0_pay164, v649, k0_pay99, v677, k0_pay108]
  exact t

theorem v1114_at (r : Fin 256) (l : Fin 128) : v1114 L (ix2 r l) = (I.diag b j r.val (512 + (256 + l.val)) : EReal) := by
  have t := tile hL hI 6 (by decide) 12 13 rfl rfl r l (fun x => v1009 L (ix2 r x)) (fun x => v1004 L (ix2 x ⟨256 + l.val, by omega⟩)) (fun x => v1009_at hL hI r x) (fun x => (v1004_at hL hI x _).trans (congrArg (fun k => (I.XR b k (256 * j + x.val) : EReal)) (by dsimp only; omega)))
  rw [← add_assoc]
  pointwise [v1114, k0_pay167, v649, k0_pay99, v677, k0_pay108]
  exact t

/-- The last pair of heads. -/
def pair15 (L : Loads) : FVec Ideal S256x128 .f32 :=
  addf (matmul dot_S256x256_S256x128_S256x128_1_0_0_1_n_n none (truncf .bf16 (v1130 L) bitsLt_bf16_f32) (select (v677 L) (v1121 L) (broadcast S256x128 (Scalar.ofBits .bf16 0x0000#16))) (constant S256x128 .f32 0x00000000#32)) (matmul dot_S256x256_S256x128_S256x128_1_0_0_1_n_n none (truncf .bf16 (mulf (v1009 L) (exp2 (select (v649 L) (subf (broadcastTo S256x256 (extractStridedSlice S256x1 ![0, 15] (v667 L) slices_S256x128_o0_15_S256x1) broadcasts_S256x1_S256x256) (broadcastTo S256x256 (extractStridedSlice S1x256 ![15, 0] (v668 L) slices_S128x256_o15_0_S1x256) broadcasts_S1x256_S256x256)) (broadcast S256x256 (Named.named κ "neg_big" 0xF149F2CA#32))))) bitsLt_bf16_f32) (select (xori (v677 L) (constantI S256x128 1 1#1)) (v1121 L) (broadcast S256x128 (Scalar.ofBits .bf16 0x0000#16))) (constant S256x128 .f32 0x00000000#32))

theorem pair15_at (r : Fin 256) (l : Fin 128) : pair15 L (ix2 r l) = (I.diag b j r.val (512 + (384 + l.val)) : EReal) := by
  have t := tile hL hI 7 (by decide) 14 15 rfl rfl r l (fun x => v1009 L (ix2 r x)) (fun x => v1004 L (ix2 x ⟨384 + l.val, by omega⟩)) (fun x => v1009_at hL hI r x) (fun x => (v1004_at hL hI x _).trans (congrArg (fun k => (I.XR b k (256 * j + x.val) : EReal)) (by dsimp only; omega)))
  rw [← add_assoc]
  pointwise [pair15, v1121, k0_pay169, v1130, k0_pay170, v649, k0_pay99, v677, k0_pay108]
  exact t

/-- What the state gives, decayed to a row. -/
theorem off (g : ℕ) (r : Fin 256) (k : Fin 1024) (Cv S : Fin 128 → EReal) (hC : ∀ n, Cv n = (I.CR b g (256 * j + r.val) n : EReal))
    (hS : ∀ n, S n = (state (I.aR b (k.val / 64)) (I.XR b k.val) (I.BR b g) j n : EReal)) (hk : k.val / 512 = g) :
    (I.diag b j r.val k.val : EReal) + (∑ n, Cv n * S n) * FloatOps.exp2 (F := Ideal) (φ := .f32) (v734 L (ix2 r k)) = (I.core b (256 * j + r.val) k.val : EReal) := by
  rw [v734_at hL hI, exp2_log, dot_coe _ _ _ _ hC hS, ← EReal.coe_mul, ← EReal.coe_add]
  refine congrArg _ ?_
  unfold In.diag In.core
  rw [hk]
  exact chunk _ _ _ _ j r.val

theorem new_state (g : ℕ) (n : Fin 128) (k : Fin 1024) (s : EReal) (Bv X : Fin 256 → EReal) (hs : s = (state (I.aR b (k.val / 64)) (I.XR b k.val) (I.BR b g) j n : EReal))
    (hB : ∀ x, Bv x = (I.BR b g (256 * j + x.val) n : EReal)) (hX : ∀ x, X x = (I.XR b k.val (256 * j + x.val) : EReal)) :
    s * FloatOps.exp2 (F := Ideal) (φ := .f32) (v734 L (ix2 255 k))
      + ∑ x : Fin 256, Bv x * (X x * FloatOps.exp2 (F := Ideal) (φ := .f32) (v734 L (ix2 255 k) - v734 L (ix2 x k)))
      = (state (I.aR b (k.val / 64)) (I.XR b k.val) (I.BR b g) (j + 1) n : EReal) := by
  have h255 : ((255 : Fin 256).val) = 255 := rfl
  rw [hs, v734_at hL hI, exp2_log, state, EReal.coe_add, EReal.coe_mul, h255]
  refine congrArg _ ?_
  rw [coe_sum, ← Fin.sum_univ_eq_sum_range (fun u => ((I.BR b g (256 * j + u) n * (I.XR b k.val (256 * j + u)
    * Real.exp (loc (I.aR b (k.val / 64)) j 255 - loc (I.aR b (k.val / 64)) j u)) : ℝ) : EReal)) 256]
  refine Finset.sum_congr rfl fun x _ => ?_
  rw [hB, hX, v734_at hL hI, exp2_diff, EReal.coe_mul, EReal.coe_mul]

theorem v975_at (n : Fin 128) (c : Fin 512) : v975 L (ix3 0 n c) = (state (I.aR b (c.val / 64)) (I.XR b c.val) (I.BR b 0) (j + 1) n : EReal) := by
  have t := new_state hL hI 0 n ⟨c.val, by omega⟩ _ (fun x => v621 L (ix2 x ⟨n.val, by omega⟩)) (fun x => v799 L (ix2 x c)) (hL.st0 n c) (fun x => b_at hL hI 0 x n _ (by simp)) (fun x => v799_at hL hI x c)
  pointwise [v975, k0_pay148, v948, k0_pay145, v801, k0_pay125, v949, k0_pay146]
  exact t

theorem v1179_at (n : Fin 128) (c : Fin 512) :
    v1179 L (ix3 0 n c) = (state (I.aR b ((512 + c.val) / 64)) (I.XR b (512 + c.val)) (I.BR b 1) (j + 1) n : EReal) := by
  have t := new_state hL hI 1 n ⟨512 + c.val, by omega⟩ _ (fun x => v621 L (ix2 x ⟨128 + n.val, by omega⟩)) (fun x => v1003 L (ix2 x c)) (hL.st1 n c) (fun x => b_at hL hI 1 x n _ (by simp)) (fun x => v1003_at hL hI x c)
  pointwise [v1179, k0_pay175, v1176, k0_pay174, k0_pay171, k0_pay172, v1005, k0_pay153]
  exact t

/-- The sums of the first group, -/
theorem sum0_at (r : Fin 256) (c : Fin 512) : v946 L (ix2 r c) + v951 L (ix2 r c) * FloatOps.exp2 (F := Ideal) (φ := .f32) (v734 L (ix2 r ⟨c.val, by omega⟩)) = (I.core b (256 * j + r.val) c.val : EReal) := by
  have e : v951 L (ix2 r c) = ∑ n, v803 L (ix2 r n) * L.st0 (ix3 0 n c) := by
    pointwise [v951, k0_pay147, k0_pay145]
  rw [e, v946_at hL hI]
  refine off hL hI 0 r ⟨c.val, by omega⟩ _ _ (fun n => ?_) (fun n => hL.st0 n c) (by dsimp only; omega)
  pointwise [v803, k0_pay126]
  exact c_at hL hI 0 r n _ (by simp)

/-- the second group's with the skip. -/
theorem v1163_at (r : Fin 256) (c : Fin 512) :
    v1163 L (ix2 r c) = (I.core b (256 * j + r.val) (512 + c.val) : EReal) + I.ds ((512 + c.val) / 64) * I.act b (256 * j + r.val) (512 + c.val) := by
  have e : v1163 L = addf (addf (k0_pay93 (F := Ideal) (v1044 L) (v1079 L) (v1114 L) (pair15 L)) (mulf (matmul dot_S256x128_S128x512_S256x512_1_0_0_1_n_n none (v1007 L) (truncf .bf16 (k0_pay171 L.st1) bitsLt_bf16_f32) (constant S256x512 .f32 0x00000000#32)) (exp2 (k0_pay172 (v734 L))))) (mulf (broadcastTo S256x512 (shapeCast S1x512 L.ds1 shapeCasts_S1x512_S1x512) broadcasts_S1x512_S256x512) (v620 L)) := rfl
  have hc : k0_pay93 (F := Ideal) (v1044 L) (v1079 L) (v1114 L) (pair15 L) (ix2 r c) = (I.diag b j r.val (512 + c.val) : EReal) :=
    cat4 _ _ _ _ (fun k => (I.diag b j r.val (512 + k) : EReal)) r (fun l => v1044_at hL hI r l) (fun l => v1079_at hL hI r l) (fun l => v1114_at hL hI r l) (fun l => pair15_at hL hI r l) c
  rw [e]
  generalize k0_pay93 (F := Ideal) (v1044 L) (v1079 L) (v1114 L) (pair15 L) = w at hc ⊢
  pointwise [k0_pay171, k0_pay172]
  rw [hc, hL.ds1, v620_at hL]
  refine congrArg (· + _) ?_
  refine off hL hI 1 r ⟨512 + c.val, by omega⟩ (fun n => v1007 L (ix2 r n)) (fun n => L.st1 (ix3 0 n c)) (fun n => ?_) (fun n => hL.st1 n c) (by dsimp only; omega)
  pointwise [v1007, k0_pay154]
  exact c_at hL hI 1 r n _ (by simp)

omit hI in
theorem z_at (r : Fin 256) (c : Fin 1024) : v40 L (ix2 r c) = I.proj b (256 * j + r.val) (4096 + c.val) := by
  have e : v40 L (ix2 r c) = L.pj (ix2 r ⟨c.val, by omega⟩) := by pointwise [v40, k0_pay22]
  rw [e]
  exact hL.pj r _ (by dsimp only; omega)

/-- The first group's stored columns, -/
theorem v1000_at (r : Fin 256) (c : Fin 512) : v1000 L (ix2 r c) = I.res b (256 * j + r.val) c.val := by
  have e : ∀ c : Fin 512, (v946 L (ix2 r c) + v951 L (ix2 r c) * FloatOps.exp2 (F := Ideal) (φ := .f32) (v734 L (ix2 r ⟨c.val, by omega⟩)) + L.ds0 (ix2 0 c) * v619 L (ix2 r c))
      * gate (v40 L (ix2 r ⟨c.val, by omega⟩)) = I.yz b (256 * j + r.val) c.val := fun c => by
    rw [sum0_at hL hI, hL.ds0, v619_at hL, gate_eq, z_at hL]
    rfl
  pointwise [v1000, k0_pay150, v995, k0_pay149, v949, k0_pay146]
  rw [hL.nw0]
  unfold In.res
  have e0 : 512 * (c.val / 512) = 0 := by omega
  rw [e0]
  refine congrArg₂ (· * ·) (congrArg₂ (· * ·) (e c) (congrArg (fun s => Ideal.rsqrt (Ideal.div s (Ideal.ofBits FTy.f32 0x44000000#32) + Ideal.ofBits FTy.f32 0x358637BD#32)) ?_)) rfl
  have e' := fun x : Fin 512 => (e x).trans (congrArg (I.yz b (256 * j + r.val)) (Nat.zero_add x.val).symm)
  exact Finset.sum_congr rfl fun x _ => congrArg₂ (· * ·) (e' x) (e' x)

/-- and the second's. -/
theorem v1204_at (r : Fin 256) (c : Fin 512) : v1204 L (ix2 r c) = I.res b (256 * j + r.val) (512 + c.val) := by
  have e : ∀ c : Fin 512, v1163 L (ix2 r c) * gate (v40 L (ix2 r ⟨512 + c.val, by omega⟩)) = I.yz b (256 * j + r.val) (512 + c.val) := fun c => by
    rw [v1163_at hL hI, gate_eq, z_at hL]
    rfl
  pointwise [v1204, k0_pay176]
  rw [hL.nw1]
  unfold In.res
  have e0 : 512 * ((512 + c.val) / 512) = 512 := by omega
  rw [e0]
  refine congrArg₂ (· * ·) (congrArg₂ (· * ·) (e c) (congrArg (fun s => Ideal.rsqrt (Ideal.div s (Ideal.ofBits FTy.f32 0x44000000#32) + Ideal.ofBits FTy.f32 0x358637BD#32)) ?_)) rfl
  exact Finset.sum_congr rfl fun x _ => congrArg₂ (· * ·) (e x) (e x)

end

end Cert.MixerIdeal.Terms

end
-- ==== Proof.XBuf.lean ====
module

public import proofs.«01_k».proof.Proof.Gen.MixerIdeal.Skeleton
public import Idealize.ShloMosaic.Lib.Pipeline.ValueKit
public import Idealize.ShloMosaic.Lib.Pointwise
public import Idealize.ShloMosaic.Lib.VecWindow
public import Idealize.ShloMosaic.Lib.WritesUnit

/-!
# The convolution's buffer

The buffer holds twelve slabs of 128 columns, each of eight rows kept from the chunk before and the 256 rows of this
chunk. The slabs are filled one after the other; a slab's last eight rows become its first once it has been read.
-/

@[expose] public section

set_option maxRecDepth 16384

noncomputable section

namespace Cert.MixerIdeal.XBuf

open Cert.MixerIdeal Cert.MixerIdeal.Gen
open Idealize.ShloMosaic Idealize.ShloMosaic.TcCoe

variable {sig : RefSig} {κ : Kind} {sp : Space} {e : EltTy}

/-- A load at offsets of a buffer of two axes, -/
theorem load2 {n0 n1 : ℕ} (v : View sig κ sp (⟨2, ![n0, n1]⟩ : Shape) e) (f : v.ty.Contents (Elt Ideal)) (a b k0 k1 : ℕ)
    (inb : ∀ i, (![k0, k1] : Fin 2 → ℕ) i + (![a, b] : Fin 2 → ℕ) i ≤ (⟨2, ![n0, n1]⟩ : Shape).size i) (r : Fin a) (d : Fin b) :
    v.readAt (Elt Ideal) (Rect.unit (s := ⟨2, ![n0, n1]⟩) ![k0, k1] ![a, b] inb).toLoadRect f (ix2 r d)
      = v.read (Elt Ideal) f (ix2 ⟨k0 + r.val, by have : k0 + a ≤ n0 := inb 0; omega⟩ ⟨k1 + d.val, by have : k1 + b ≤ n1 := inb 1; omega⟩) := by
  refine congrArg (v.read (Elt Ideal) f) (funext fun i => ?_)
  match i with
  | 0 => exact Fin.ext (by show k0 + 1 * r.val = k0 + r.val; rw [Nat.one_mul])
  | 1 => exact Fin.ext (by show k1 + 1 * d.val = k1 + d.val; rw [Nat.one_mul])

/-- and of three. -/
theorem load3 {n0 n1 n2 : ℕ} (v : View sig κ sp (⟨3, ![n0, n1, n2]⟩ : Shape) e) (f : v.ty.Contents (Elt Ideal)) (a b c k0 k1 k2 : ℕ)
    (inb : ∀ i, (![k0, k1, k2] : Fin 3 → ℕ) i + (![a, b, c] : Fin 3 → ℕ) i ≤ (⟨3, ![n0, n1, n2]⟩ : Shape).size i) (r : Fin a) (d : Fin b) (l : Fin c) :
    v.readAt (Elt Ideal) (Rect.unit (s := ⟨3, ![n0, n1, n2]⟩) ![k0, k1, k2] ![a, b, c] inb).toLoadRect f (ix3 r d l)
      = v.read (Elt Ideal) f (ix3 ⟨k0 + r.val, by have : k0 + a ≤ n0 := inb 0; omega⟩ ⟨k1 + d.val, by have : k1 + b ≤ n1 := inb 1; omega⟩
        ⟨k2 + l.val, by have : k2 + c ≤ n2 := inb 2; omega⟩) := by
  refine congrArg (v.read (Elt Ideal) f) (funext fun i => ?_)
  match i with
  | 0 => exact Fin.ext (by show k0 + 1 * r.val = k0 + r.val; rw [Nat.one_mul])
  | 1 => exact Fin.ext (by show k1 + 1 * d.val = k1 + d.val; rw [Nat.one_mul])
  | 2 => exact Fin.ext (by show k2 + 1 * l.val = k2 + l.val; rw [Nat.one_mul])

/-- A store at offsets of a buffer of two axes, read inside, -/
theorem in2 {n0 n1 : ℕ} (v : View sig κ sp (⟨2, ![n0, n1]⟩ : Shape) e) (f : v.ty.Contents (Elt Ideal)) (a b k0 k1 : ℕ)
    (inb : ∀ i, (![k0, k1] : Fin 2 → ℕ) i + (![a, b] : Fin 2 → ℕ) i ≤ (⟨2, ![n0, n1]⟩ : Shape).size i)
    (w : (⟨2, ![a, b]⟩ : Shape).Idx → Elt Ideal e) (L : List (View.Piece (Elt Ideal) (⟨2, ![n0, n1]⟩ : Shape) e)) (r : Fin n0) (d : Fin n1)
    (hr : k0 ≤ r.val ∧ r.val < k0 + a) (hd : k1 ≤ d.val ∧ d.val < k1 + b) :
    v.read (Elt Ideal) (v.writes (Elt Ideal) f ((⟨Rect.unit (s := ⟨2, ![n0, n1]⟩) ![k0, k1] ![a, b] inb, w⟩ : View.Piece (Elt Ideal) _ e) :: L)) (ix2 r d)
      = w (ix2 ⟨r.val - k0, by omega⟩ ⟨d.val - k1, by omega⟩) :=
  View.read_writes_cons_unit_of_mem v f inb w L (ix2 r d) (ix2 ⟨r.val - k0, by omega⟩ ⟨d.val - k1, by omega⟩) rfl fun i => by
    match i with
    | 0 => show r.val = k0 + (r.val - k0); omega
    | 1 => show d.val = k1 + (d.val - k1); omega

/-- and beside its columns. -/
theorem out2 {n0 n1 : ℕ} (v : View sig κ sp (⟨2, ![n0, n1]⟩ : Shape) e) (f : v.ty.Contents (Elt Ideal)) (a b k0 k1 : ℕ)
    (inb : ∀ i, (![k0, k1] : Fin 2 → ℕ) i + (![a, b] : Fin 2 → ℕ) i ≤ (⟨2, ![n0, n1]⟩ : Shape).size i)
    (w : (⟨2, ![a, b]⟩ : Shape).Idx → Elt Ideal e) (L : List (View.Piece (Elt Ideal) (⟨2, ![n0, n1]⟩ : Shape) e)) (r : Fin n0) (d : Fin n1)
    (hd : d.val < k1 ∨ k1 + b ≤ d.val) :
    v.read (Elt Ideal) (v.writes (Elt Ideal) f ((⟨Rect.unit (s := ⟨2, ![n0, n1]⟩) ![k0, k1] ![a, b] inb, w⟩ : View.Piece (Elt Ideal) _ e) :: L)) (ix2 r d)
      = v.read (Elt Ideal) (v.writes (Elt Ideal) f L) (ix2 r d) :=
  View.read_writes_cons_unit_of_not_mem v f inb w L (ix2 r d) rfl 1 hd

/-- A store at offsets of a buffer of three axes, read inside, -/
theorem in3 {n0 n1 n2 : ℕ} (v : View sig κ sp (⟨3, ![n0, n1, n2]⟩ : Shape) e) (f : v.ty.Contents (Elt Ideal)) (a b c k0 k1 k2 : ℕ)
    (inb : ∀ i, (![k0, k1, k2] : Fin 3 → ℕ) i + (![a, b, c] : Fin 3 → ℕ) i ≤ (⟨3, ![n0, n1, n2]⟩ : Shape).size i)
    (w : (⟨3, ![a, b, c]⟩ : Shape).Idx → Elt Ideal e) (L : List (View.Piece (Elt Ideal) (⟨3, ![n0, n1, n2]⟩ : Shape) e)) (r : Fin n0) (d : Fin n1) (l : Fin n2)
    (hr : k0 ≤ r.val ∧ r.val < k0 + a) (hd : k1 ≤ d.val ∧ d.val < k1 + b) (hl : k2 ≤ l.val ∧ l.val < k2 + c) :
    v.read (Elt Ideal) (v.writes (Elt Ideal) f ((⟨Rect.unit (s := ⟨3, ![n0, n1, n2]⟩) ![k0, k1, k2] ![a, b, c] inb, w⟩ : View.Piece (Elt Ideal) _ e) :: L)) (ix3 r d l)
      = w (ix3 ⟨r.val - k0, by omega⟩ ⟨d.val - k1, by omega⟩ ⟨l.val - k2, by omega⟩) :=
  View.read_writes_cons_unit_of_mem v f inb w L (ix3 r d l) (ix3 ⟨r.val - k0, by omega⟩ ⟨d.val - k1, by omega⟩ ⟨l.val - k2, by omega⟩) rfl fun i => by
    match i with
    | 0 => show r.val = k0 + (r.val - k0); omega
    | 1 => show d.val = k1 + (d.val - k1); omega
    | 2 => show l.val = k2 + (l.val - k2); omega

/-- and beside its slabs or its rows. -/
theorem out3 {n0 n1 n2 : ℕ} (v : View sig κ sp (⟨3, ![n0, n1, n2]⟩ : Shape) e) (f : v.ty.Contents (Elt Ideal)) (a b c k0 k1 k2 : ℕ)
    (inb : ∀ i, (![k0, k1, k2] : Fin 3 → ℕ) i + (![a, b, c] : Fin 3 → ℕ) i ≤ (⟨3, ![n0, n1, n2]⟩ : Shape).size i)
    (w : (⟨3, ![a, b, c]⟩ : Shape).Idx → Elt Ideal e) (L : List (View.Piece (Elt Ideal) (⟨3, ![n0, n1, n2]⟩ : Shape) e)) (r : Fin n0) (d : Fin n1) (l : Fin n2)
    (h : (r.val < k0 ∨ k0 + a ≤ r.val) ∨ (d.val < k1 ∨ k1 + b ≤ d.val)) :
    v.read (Elt Ideal) (v.writes (Elt Ideal) f ((⟨Rect.unit (s := ⟨3, ![n0, n1, n2]⟩) ![k0, k1, k2] ![a, b, c] inb, w⟩ : View.Piece (Elt Ideal) _ e) :: L)) (ix3 r d l)
      = v.read (Elt Ideal) (v.writes (Elt Ideal) f L) (ix3 r d l) := by
  rcases h with h | h
  · exact View.read_writes_cons_unit_of_not_mem v f inb w L (ix3 r d l) rfl 0 h
  · exact View.read_writes_cons_unit_of_not_mem v f inb w L (ix3 r d l) rfl 1 h

variable (V : View sig κ sp S12x264x128 .f32)

/-- The buffer as slab `k` is about to be read: its rows and those of the slabs before it are this chunk's, the slabs
before it have kept their last rows for the next chunk, and from slab `k` on the first eight rows are those the buffer
came with. -/
structure Filled (f : V.ty.Contents (Elt Ideal)) (L : List (View.Piece (Elt Ideal) S12x264x128 .f32)) (k : ℕ) (X : ℕ → ℕ → ℕ → EReal) (hd : Prop) : Prop where
  rows : ∀ (s : Fin 12) (d : Fin 264) (l : Fin 128), s.val ≤ k → 8 ≤ d.val → V.read (Elt Ideal) (V.writes (Elt Ideal) f L) (ix3 s d l) = X s.val d.val l.val
  kept : ∀ (s : Fin 12) (d : Fin 264) (l : Fin 128), s.val < k → d.val < 8 → V.read (Elt Ideal) (V.writes (Elt Ideal) f L) (ix3 s d l) = X s.val (256 + d.val) l.val
  head : hd → ∀ (s : Fin 12) (d : Fin 264) (l : Fin 128), k ≤ s.val → d.val < 8 → V.read (Elt Ideal) (V.writes (Elt Ideal) f L) (ix3 s d l) = X s.val d.val l.val

variable {V} {X : ℕ → ℕ → ℕ → EReal} {f : V.ty.Contents (Elt Ideal)} {L : List (View.Piece (Elt Ideal) S12x264x128 .f32)}

/-- The first slab over a list that leaves the first rows alone. -/
theorem Filled.first {hd : Prop} (inb : ∀ i, (![0, 8, 0] : Fin 3 → ℕ) i + (![1, 256, 128] : Fin 3 → ℕ) i ≤ S12x264x128.size i) (w : Vec Ideal S1x256x128 .f32)
    (hw : ∀ (d : Fin 256) (l : Fin 128), w (ix3 0 d l) = X 0 (8 + d.val) l.val)
    (hh : hd → ∀ (s : Fin 12) (d : Fin 264) (l : Fin 128), d.val < 8 → V.read (Elt Ideal) (V.writes (Elt Ideal) f L) (ix3 s d l) = X s.val d.val l.val) :
    Filled V f ((⟨Rect.unit (s := S12x264x128) ![0, 8, 0] ![1, 256, 128] inb, w⟩ : View.Piece (Elt Ideal) S12x264x128 .f32) :: L) 0 X hd where
  rows s d l hs h8 := by
    have hs0 : s = 0 := Fin.ext (Nat.le_zero.mp hs)
    subst hs0
    refine (in3 V f 1 256 128 0 8 0 inb w L 0 d l (by decide) (by omega) (by omega)).trans ?_
    have := hw ⟨d.val - 8, by omega⟩ l
    rw [show 8 + (d.val - 8) = d.val by omega] at this
    exact this
  kept s d l hs := absurd hs (Nat.not_lt_zero _)
  head h s d l hs h8 := (out3 V f 1 256 128 0 8 0 inb w L s d l (by omega)).trans (hh h s d l h8)

/-- The next slab: the slab before keeps its last rows. -/
theorem Filled.next {hd : Prop} {k : ℕ} (hk : k < 11) (h : Filled V f L k X hd)
    (inb : ∀ i, (![k + 1, 8, 0] : Fin 3 → ℕ) i + (![1, 256, 128] : Fin 3 → ℕ) i ≤ S12x264x128.size i) (w : Vec Ideal S1x256x128 .f32)
    (inb' : ∀ i, (![k, 0, 0] : Fin 3 → ℕ) i + (![1, 8, 128] : Fin 3 → ℕ) i ≤ S12x264x128.size i) (w' : Vec Ideal S1x8x128 .f32)
    (hw : ∀ (d : Fin 256) (l : Fin 128), w (ix3 0 d l) = X (k + 1) (8 + d.val) l.val)
    (hw' : ∀ (d : Fin 8) (l : Fin 128), w' (ix3 0 d l) = X k (256 + d.val) l.val) :
    Filled V f ((⟨Rect.unit (s := S12x264x128) ![k + 1, 8, 0] ![1, 256, 128] inb, w⟩ : View.Piece (Elt Ideal) S12x264x128 .f32)
      :: (⟨Rect.unit (s := S12x264x128) ![k, 0, 0] ![1, 8, 128] inb', w'⟩ : View.Piece (Elt Ideal) S12x264x128 .f32) :: L) (k + 1) X hd where
  rows s d l hs h8 := by
    by_cases hsk : s.val = k + 1
    · refine (in3 V f 1 256 128 (k + 1) 8 0 inb w _ s d l (by omega) (by omega) (by omega)).trans ?_
      have := hw ⟨d.val - 8, by omega⟩ l
      rw [show 8 + (d.val - 8) = d.val by omega, ← hsk] at this
      refine Eq.trans (congrArg w ?_) this
      exact congrArg (fun q => ix3 q (⟨d.val - 8, by omega⟩ : Fin 256) l) (Fin.ext (by show s.val - (k + 1) = 0; omega))
    · refine (out3 V f 1 256 128 (k + 1) 8 0 inb w _ s d l (by omega)).trans ?_
      refine (out3 V f 1 8 128 k 0 0 inb' w' _ s d l (by omega)).trans ?_
      exact h.rows s d l (by omega) h8
  kept s d l hs h8 := by
    refine (out3 V f 1 256 128 (k + 1) 8 0 inb w _ s d l (by omega)).trans ?_
    by_cases hsk : s.val = k
    · refine (in3 V f 1 8 128 k 0 0 inb' w' _ s d l (by omega) (by omega) (by omega)).trans ?_
      have := hw' ⟨d.val, h8⟩ l
      rw [← hsk] at this
      refine Eq.trans (congrArg w' ?_) this
      exact congrArg (fun q => ix3 q (⟨d.val, h8⟩ : Fin 8) l) (Fin.ext (by show s.val - k = 0; omega))
    · refine (out3 V f 1 8 128 k 0 0 inb' w' _ s d l (by omega)).trans ?_
      exact h.kept s d l (by omega) h8
  head hh s d l hs h8 := by
    refine (out3 V f 1 256 128 (k + 1) 8 0 inb w _ s d l (by omega)).trans ?_
    refine (out3 V f 1 8 128 k 0 0 inb' w' _ s d l (by omega)).trans ?_
    exact h.head hh s d l (by omega) h8

/-- After the last slab every slab has kept its last rows. -/
theorem Filled.last {hd : Prop} (h : Filled V f L 11 X hd)
    (inb' : ∀ i, (![11, 0, 0] : Fin 3 → ℕ) i + (![1, 8, 128] : Fin 3 → ℕ) i ≤ S12x264x128.size i) (w' : Vec Ideal S1x8x128 .f32)
    (hw' : ∀ (d : Fin 8) (l : Fin 128), w' (ix3 0 d l) = X 11 (256 + d.val) l.val) (s : Fin 12) (d : Fin 264) (l : Fin 128) (h8 : d.val < 8) :
    V.read (Elt Ideal) (V.writes (Elt Ideal) f ((⟨Rect.unit (s := S12x264x128) ![11, 0, 0] ![1, 8, 128] inb', w'⟩ : View.Piece (Elt Ideal) S12x264x128 .f32) :: L)) (ix3 s d l)
      = X s.val (256 + d.val) l.val := by
  by_cases hsk : s.val = 11
  · refine (in3 V f 1 8 128 11 0 0 inb' w' _ s d l (by omega) (by omega) (by omega)).trans ?_
    have := hw' ⟨d.val, h8⟩ l
    rw [← hsk] at this
    refine Eq.trans (congrArg w' ?_) this
    exact congrArg (fun q => ix3 q (⟨d.val, h8⟩ : Fin 8) l) (Fin.ext (by show s.val - 11 = 0; omega))
  · refine (out3 V f 1 8 128 11 0 0 inb' w' _ s d l (by omega)).trans ?_
    exact h.kept s d l (by omega) h8

/-- A load of slab `k`'s rows from row `o` on, where the rows before the eighth are known, -/
theorem Filled.tap {hd : Prop} {k : ℕ} (h : Filled V f L k X hd) (hh : hd) (o : ℕ) (ho : o ≤ 8) (hk : k < 12)
    (inb : ∀ i, (![k, o, 0] : Fin 3 → ℕ) i + (![1, 256, 128] : Fin 3 → ℕ) i ≤ S12x264x128.size i) (d : Fin 256) (l : Fin 128) :
    V.readAt (Elt Ideal) (Rect.unit (s := S12x264x128) ![k, o, 0] ![1, 256, 128] inb).toLoadRect (V.writes (Elt Ideal) f L) (ix3 0 d l)
      = X k (o + d.val) l.val := by
  refine (load3 V _ 1 256 128 k o 0 inb 0 d l).trans ?_
  by_cases h8 : 8 ≤ o + d.val
  · have := h.rows ⟨k, hk⟩ ⟨o + d.val, by omega⟩ l le_rfl h8
    exact Eq.trans (congrArg _ (congrArg₂ (fun p q => ix3 p (⟨o + d.val, by omega⟩ : Fin 264) q) (Fin.ext (by show k + 0 = k; omega)) (Fin.ext (by show 0 + l.val = l.val; omega)))) this
  · have := h.head hh ⟨k, hk⟩ ⟨o + d.val, by omega⟩ l le_rfl (by show o + d.val < 8; omega)
    exact Eq.trans (congrArg _ (congrArg₂ (fun p q => ix3 p (⟨o + d.val, by omega⟩ : Fin 264) q) (Fin.ext (by show k + 0 = k; omega)) (Fin.ext (by show 0 + l.val = l.val; omega)))) this

/-- from the eighth row on whatever they are, -/
theorem Filled.tap8 {hd : Prop} {k : ℕ} (h : Filled V f L k X hd) (hk : k < 12)
    (inb : ∀ i, (![k, 8, 0] : Fin 3 → ℕ) i + (![1, 256, 128] : Fin 3 → ℕ) i ≤ S12x264x128.size i) (d : Fin 256) (l : Fin 128) :
    V.readAt (Elt Ideal) (Rect.unit (s := S12x264x128) ![k, 8, 0] ![1, 256, 128] inb).toLoadRect (V.writes (Elt Ideal) f L) (ix3 0 d l)
      = X k (8 + d.val) l.val := by
  refine (load3 V _ 1 256 128 k 8 0 inb 0 d l).trans ?_
  have := h.rows ⟨k, hk⟩ ⟨8 + d.val, by omega⟩ l le_rfl (by show 8 ≤ 8 + d.val; omega)
  exact Eq.trans (congrArg _ (congrArg₂ (fun p q => ix3 p (⟨8 + d.val, by omega⟩ : Fin 264) q) (Fin.ext (by show k + 0 = k; omega)) (Fin.ext (by show 0 + l.val = l.val; omega)))) this

/-- and of its last eight rows. -/
theorem Filled.tail {hd : Prop} {k : ℕ} (h : Filled V f L k X hd) (hk : k < 12)
    (inb : ∀ i, (![k, 256, 0] : Fin 3 → ℕ) i + (![1, 8, 128] : Fin 3 → ℕ) i ≤ S12x264x128.size i) (d : Fin 8) (l : Fin 128) :
    V.readAt (Elt Ideal) (Rect.unit (s := S12x264x128) ![k, 256, 0] ![1, 8, 128] inb).toLoadRect (V.writes (Elt Ideal) f L) (ix3 0 d l)
      = X k (256 + d.val) l.val := by
  refine (load3 V _ 1 8 128 k 256 0 inb 0 d l).trans ?_
  have := h.rows ⟨k, hk⟩ ⟨256 + d.val, by omega⟩ l le_rfl (by show 8 ≤ 256 + d.val; omega)
  exact Eq.trans (congrArg _ (congrArg₂ (fun p q => ix3 p (⟨256 + d.val, by omega⟩ : Fin 264) q) (Fin.ext (by show k + 0 = k; omega)) (Fin.ext (by show 0 + l.val = l.val; omega)))) this

end Cert.MixerIdeal.XBuf

end
-- ==== Proof.SsdArgs.lean ====
module

public import proofs.«01_k».proof.Proof.SsdStep
public import proofs.«01_k».proof.Proof.XBuf

/-!
# What a point of the state space branch is given
-/

@[expose] public section

noncomputable section

namespace Cert.MixerIdeal.Terms

open Cert.MixerIdeal Cert.MixerIdeal.Gen Cert.Ssd
open Idealize.ShloMosaic Idealize.ShloMosaic.TcCoe

/-- Four values, -/
def of4 {α : Type*} (a0 a1 a2 a3 : α) : Fin 4 → α
  | 0 => a0 | 1 => a1 | 2 => a2 | 3 => a3

theorem of4_all {α : Type*} {a0 a1 a2 a3 : α} {p : Fin 4 → α → Prop} (h0 : p 0 a0) (h1 : p 1 a1) (h2 : p 2 a2) (h3 : p 3 a3) : ∀ k, p k (of4 a0 a1 a2 a3 k)
  | 0 => h0 | 1 => h1 | 2 => h2 | 3 => h3

/-- and twelve. -/
def of12 {α : Type*} (a0 a1 a2 a3 a4 a5 a6 a7 a8 a9 a10 a11 : α) : Fin 12 → α
  | 0 => a0 | 1 => a1 | 2 => a2 | 3 => a3 | 4 => a4 | 5 => a5 | 6 => a6 | 7 => a7 | 8 => a8 | 9 => a9 | 10 => a10 | 11 => a11

theorem of12_all {α : Type*} {a0 a1 a2 a3 a4 a5 a6 a7 a8 a9 a10 a11 : α} {p : Fin 12 → α → Prop} (h0 : p 0 a0) (h1 : p 1 a1) (h2 : p 2 a2) (h3 : p 3 a3) (h4 : p 4 a4) (h5 : p 5 a5) (h6 : p 6 a6) (h7 : p 7 a7) (h8 : p 8 a8) (h9 : p 9 a9) (h10 : p 10 a10) (h11 : p 11 a11) :
    ∀ k, p k (of12 a0 a1 a2 a3 a4 a5 a6 a7 a8 a9 a10 a11 k)
  | 0 => h0 | 1 => h1 | 2 => h2 | 3 => h3 | 4 => h4 | 5 => h5 | 6 => h6 | 7 => h7 | 8 => h8 | 9 => h9 | 10 => h10 | 11 => h11

/-- The operands that every point reads are the branch's parameters. -/
structure Args (I : In) (x5 : Vec Ideal S4x1536 .f32) (x6 : Vec Ideal S1x1536 .f32) (x7 x8 : Vec Ideal S1x128 .f32) (x9 x10 : Vec Ideal S1x1024 .f32) : Prop where
  cw : ∀ (k : Fin 4) (c : Fin 1536), x5 (ix2 k c) = I.cw k.val c.val
  cb : ∀ c : Fin 1536, x6 (ix2 0 c) = I.cb c.val
  dtb : ∀ h : Fin 128, h.val < 16 → x7 (ix2 0 h) = I.dtb h.val
  al : ∀ h : Fin 128, h.val < 16 → x8 (ix2 0 h) = I.al h.val
  ds : ∀ c : Fin 1024, x9 (ix2 0 c) = I.ds (c.val / 64)
  nw : ∀ c : Fin 1024, x10 (ix2 0 c) = I.nw c.val

/-- The projection's buffer holds chunk `j` of sequence `b`. -/
def PjOk (I : In) (b j : ℕ) (xs5 : Vec Ideal S256x6784 .f32) : Prop :=
  ∀ (r : Fin 256) (q : Fin 2688), q.val < 2576 → xs5 (ix2 r ⟨4096 + q.val, by omega⟩) = I.proj b (256 * j + r.val) (4096 + q.val)

/-- The taps' first rows are the last of the chunk before. -/
def HeadOk (I : In) (b j : ℕ) (xs3 : Vec Ideal S12x264x128 .f32) : Prop :=
  ∀ (s : Fin 12) (d : Fin 264) (l : Fin 128), d.val < 8 → xs3 (ix3 s d l) = I.pre b (256 * j + d.val) (128 * s.val + l.val)

/-- The state is the sequence's after `j` chunks. -/
def StateOk (I : In) (b j : ℕ) (xs4 : Vec Ideal S2x128x512 .f32) : Prop :=
  ∀ (g : Fin 2) (n : Fin 128) (c : Fin 512),
    xs4 (ix3 g n c) = (state (I.aR b ((512 * g.val + c.val) / 64)) (I.XR b (512 * g.val + c.val)) (I.BR b g.val) j n : EReal)

end Cert.MixerIdeal.Terms

end
-- ==== Proof.SsdProj.lean ====
module

public import proofs.«01_k».proof.Proof.SsdArgs

/-!
# The projection of a chunk

A point multiplies its normalised rows with the weights' columns, 256 at a time and 128 for the last; here are the
columns from 4096 on, which the state space branch reads at the next point.
-/

@[expose] public section

set_option maxRecDepth 65536

noncomputable section

namespace Cert.MixerIdeal.Proj

open Cert.MixerIdeal Cert.MixerIdeal.Gen Cert.MixerIdeal.XBuf Cert.RowNorm
open Idealize.ShloMosaic Idealize.ShloMosaic.TcCoe

/-- The normalised rows. -/
def hrow (x : Vec Ideal S256x2048 .f32) (p : Vec Ideal S1x2048 .f32) (r : Fin 256) (k : Fin 2048) : EReal :=
  x (ix2 r k) * rstd (fun k => x (ix2 r k)) * p (ix2 0 k)

theorem dot256 (h : FVec Ideal S256x2048 .bf16) (w : FVec Ideal S2048x256 .bf16) (r : Fin 256) (c : Fin 256) :
    matmul (F := Ideal) dot_S256x2048_S2048x256_S256x256_1_0_0_1_n_n none h w (constant S256x256 .f32 0x00000000#32) (ix2 r c)
      = ∑ k, h (ix2 r k) * w (ix2 k c) := by
  pointwise

theorem dot128 (h : FVec Ideal S256x2048 .bf16) (w : FVec Ideal S2048x128 .bf16) (r : Fin 256) (c : Fin 128) :
    matmul (F := Ideal) dot_S256x2048_S2048x128_S256x128_1_0_0_1_n_n none h w (constant S256x128 .f32 0x00000000#32) (ix2 r c)
      = ∑ k, h (ix2 r k) * w (ix2 k c) := by
  pointwise

theorem cat (a b : FVec Ideal S2048x128 .bf16) (hc : Shape.Concatenates [S2048x128, S2048x128] S2048x256 1) (k : Fin 2048) (c : Fin 256) (W : ℕ → EReal) (col : ℕ)
    (ha : ∀ l : Fin 128, a (ix2 k l) = W (col + l.val)) (hb : ∀ l : Fin 128, b (ix2 k l) = W (col + 128 + l.val)) :
    concatenate S2048x256 1 [⟨S2048x128, a⟩, ⟨S2048x128, b⟩] hc (ix2 k c) = W (col + c.val) := by
  pointwise
  by_cases h : c.val < 128
  · exact (dif_pos h).trans (ha ⟨c.val, h⟩)
  · refine (dif_neg h).trans ((hb ⟨c.val - 128, by omega⟩).trans (congrArg W ?_))
    dsimp only
    omega

/-- A load of 128 of the weights' columns. -/
theorem cols (v : View sig .tc .vmem S2048x6672 .bf16) (f : v.ty.Contents (Elt Ideal)) (x2 : Vec Ideal S2048x6672 .bf16) (hx : v.read (Elt Ideal) f = x2) (col : ℕ) (hcol : col + 128 ≤ 6672)
    (inb : ∀ i, (![0, col] : Fin 2 → ℕ) i + (![2048, 128] : Fin 2 → ℕ) i ≤ S2048x6672.size i) (k : Fin 2048) (l : Fin 128) :
    v.readAt (Elt Ideal) (Rect.unit (s := S2048x6672) ![0, col] ![2048, 128] inb).toLoadRect f (ix2 k l) = x2 (ix2 k ⟨col + l.val, by omega⟩) := by
  refine (load2 v f 2048 128 0 col inb k l).trans ?_
  rw [hx]
  exact congrArg (fun q => x2 (ix2 q _)) (Fin.ext (Nat.zero_add k.val))

/-- The columns stored so far, from the 4096th on. -/
theorem more {v : View sig .tc .vmem S256x6784 .f32} {f : v.ty.Contents (Elt Ideal)} {L : List (View.Piece (Elt Ideal) S256x6784 .f32)} {G : Fin 256 → ℕ → EReal} (col : ℕ)
    (h : ∀ (r : Fin 256) (n : Fin 6784), 4096 ≤ n.val → n.val < col → v.read (Elt Ideal) (v.writes (Elt Ideal) f L) (ix2 r n) = G r n.val) (b : ℕ)
    (inb : ∀ i, (![0, col] : Fin 2 → ℕ) i + (![256, b] : Fin 2 → ℕ) i ≤ S256x6784.size i) (w : (⟨2, ![256, b]⟩ : Shape).Idx → EReal) (m : ℕ) (hm : m ≤ b)
    (hw : ∀ (r : Fin 256) (c : Fin b), c.val < m → w (ix2 r c) = G r (col + c.val)) :
    ∀ (r : Fin 256) (n : Fin 6784), 4096 ≤ n.val → n.val < col + m
      → v.read (Elt Ideal) (v.writes (Elt Ideal) f ((⟨Rect.unit (s := S256x6784) ![0, col] ![256, b] inb, w⟩ : View.Piece (Elt Ideal) S256x6784 .f32) :: L)) (ix2 r n) = G r n.val := by
  intro r n hn hlt
  by_cases hc : n.val < col
  · exact (out2 v f 256 b 0 col inb w L r n (by omega)).trans (h r n hn hc)
  · refine (in2 v f 256 b 0 col inb w L r n (by omega) (by omega)).trans ?_
    refine Eq.trans (congrArg w (congrArg₂ ix2 (Fin.ext (Nat.sub_zero r.val)) rfl)) ((hw r ⟨n.val - col, by omega⟩ (by dsimp only; omega)).trans ?_)
    exact congrArg (G r) (by dsimp only; omega)

/-- The stores of those columns, from the last to the first. -/
theorem stored (v : View sig .tc .vmem S256x6784 .f32) (f : v.ty.Contents (Elt Ideal)) (L : List (View.Piece (Elt Ideal) S256x6784 .f32)) (G : Fin 256 → ℕ → EReal)
    (p0 p1 p2 p3 p4 p5 p6 p7 p8 p9 : (⟨2, ![256, 256]⟩ : Shape).Idx → EReal) (p10 : (⟨2, ![256, 128]⟩ : Shape).Idx → EReal)
    (h0 : ∀ r n : Fin 256, p0 (ix2 r n) = G r (4096 + n.val)) (h1 : ∀ r n : Fin 256, p1 (ix2 r n) = G r (4352 + n.val)) (h2 : ∀ r n : Fin 256, p2 (ix2 r n) = G r (4608 + n.val)) (h3 : ∀ r n : Fin 256, p3 (ix2 r n) = G r (4864 + n.val)) (h4 : ∀ r n : Fin 256, p4 (ix2 r n) = G r (5120 + n.val)) (h5 : ∀ r n : Fin 256, p5 (ix2 r n) = G r (5376 + n.val)) (h6 : ∀ r n : Fin 256, p6 (ix2 r n) = G r (5632 + n.val)) (h7 : ∀ r n : Fin 256, p7 (ix2 r n) = G r (5888 + n.val)) (h8 : ∀ r n : Fin 256, p8 (ix2 r n) = G r (6144 + n.val)) (h9 : ∀ r n : Fin 256, p9 (ix2 r n) = G r (6400 + n.val))
    (h10 : ∀ (r : Fin 256) (n : Fin 128), n.val < 16 → p10 (ix2 r n) = G r (6656 + n.val)) (r : Fin 256) (n : Fin 6784) (hlo : 4096 ≤ n.val) (hhi : n.val < 6672) :
    v.read (Elt Ideal) (v.writes (Elt Ideal) f (⟨Rect.unit (s := S256x6784) ![0, 6656] ![256, 128] inb_S256x6784_S256x128_0_6656, p10⟩ ::
      ⟨Rect.unit (s := S256x6784) ![0, 6400] ![256, 256] inb_S256x6784_S256x256_0_6400, p9⟩ ::
      ⟨Rect.unit (s := S256x6784) ![0, 6144] ![256, 256] inb_S256x6784_S256x256_0_6144, p8⟩ ::
      ⟨Rect.unit (s := S256x6784) ![0, 5888] ![256, 256] inb_S256x6784_S256x256_0_5888, p7⟩ ::
      ⟨Rect.unit (s := S256x6784) ![0, 5632] ![256, 256] inb_S256x6784_S256x256_0_5632, p6⟩ ::
      ⟨Rect.unit (s := S256x6784) ![0, 5376] ![256, 256] inb_S256x6784_S256x256_0_5376, p5⟩ ::
      ⟨Rect.unit (s := S256x6784) ![0, 5120] ![256, 256] inb_S256x6784_S256x256_0_5120, p4⟩ ::
      ⟨Rect.unit (s := S256x6784) ![0, 4864] ![256, 256] inb_S256x6784_S256x256_0_4864, p3⟩ ::
      ⟨Rect.unit (s := S256x6784) ![0, 4608] ![256, 256] inb_S256x6784_S256x256_0_4608, p2⟩ ::
      ⟨Rect.unit (s := S256x6784) ![0, 4352] ![256, 256] inb_S256x6784_S256x256_0_4352, p1⟩ ::
      ⟨Rect.unit (s := S256x6784) ![0, 4096] ![256, 256] inb_S256x6784_S256x256_0_4096, p0⟩ :: L)) (ix2 r n) = G r n.val := by
  have g0 := more (v := v) (f := f) (G := G) (L := L) 4096 (fun r n h1 h2 => absurd h1 (by omega)) 256 inb_S256x6784_S256x256_0_4096 p0 256 le_rfl (fun r n _ => h0 r n)
  have g1 := more (v := v) (f := f) (G := G) 4352 g0 256 inb_S256x6784_S256x256_0_4352 p1 256 le_rfl (fun r n _ => h1 r n)
  have g2 := more (v := v) (f := f) (G := G) 4608 g1 256 inb_S256x6784_S256x256_0_4608 p2 256 le_rfl (fun r n _ => h2 r n)
  have g3 := more (v := v) (f := f) (G := G) 4864 g2 256 inb_S256x6784_S256x256_0_4864 p3 256 le_rfl (fun r n _ => h3 r n)
  have g4 := more (v := v) (f := f) (G := G) 5120 g3 256 inb_S256x6784_S256x256_0_5120 p4 256 le_rfl (fun r n _ => h4 r n)
  have g5 := more (v := v) (f := f) (G := G) 5376 g4 256 inb_S256x6784_S256x256_0_5376 p5 256 le_rfl (fun r n _ => h5 r n)
  have g6 := more (v := v) (f := f) (G := G) 5632 g5 256 inb_S256x6784_S256x256_0_5632 p6 256 le_rfl (fun r n _ => h6 r n)
  have g7 := more (v := v) (f := f) (G := G) 5888 g6 256 inb_S256x6784_S256x256_0_5888 p7 256 le_rfl (fun r n _ => h7 r n)
  have g8 := more (v := v) (f := f) (G := G) 6144 g7 256 inb_S256x6784_S256x256_0_6144 p8 256 le_rfl (fun r n _ => h8 r n)
  have g9 := more (v := v) (f := f) (G := G) 6400 g8 256 inb_S256x6784_S256x256_0_6400 p9 256 le_rfl (fun r n _ => h9 r n)
  exact more 6656 g9 128 inb_S256x6784_S256x128_0_6656 p10 16 (by decide) h10 r n hlo hhi

/-- A row of the chunk, projected. -/
theorem hrow_sum {x0 : Vec Ideal S256x2048 .f32} {x1 : Vec Ideal S1x2048 .f32} {I : Ssd.In} {b j : ℕ} (hx0 : ∀ (r : Fin 256) (k : Fin 2048), x0 (ix2 r k) = I.x b (256 * j + r.val) k)
    (hx1 : ∀ k : Fin 2048, x1 (ix2 0 k) = I.pw k) (r : Fin 256) (n : ℕ) : ∑ k, hrow x0 x1 r k * I.w k n = I.proj b (256 * j + r.val) n := by
  have e : (fun k => x0 (ix2 r k)) = I.x b (256 * j + r.val) := funext (hx0 r)
  unfold Ssd.In.proj hrow
  rw [e]
  exact Finset.sum_congr rfl fun k _ => by rw [hx0, hx1]

end Cert.MixerIdeal.Proj

end
-- ==== Proof.SsdProjA.lean ====
module

public import proofs.«01_k».proof.Proof.SsdProj
public import proofs.«01_k».proof.Proof.Gen.MixerIdeal.Frame.RunA

/-!
# The projection that a point leaves, the first point
-/

@[expose] public section

set_option maxRecDepth 65536

noncomputable section

namespace Cert.MixerIdeal.Gen.kernelRun0_A

open Cert.MixerIdeal Cert.MixerIdeal.Gen Cert.MixerIdeal.XBuf Cert.MixerIdeal.Terms Cert.MixerIdeal.Proj Cert.Ssd Cert.RowNorm
open Idealize.ShloMosaic Idealize.ShloMosaic.TcCoe

section

variable {c : Dev nD} {arg1 : Memref sig .tc .vmem S256x2048 .f32} {harg1 : arg1.IsWhole} {arg2 : Memref sig .tc .vmem S1x2048 .f32} {harg2 : arg2.IsWhole} {arg3 : Memref sig .tc .vmem S2048x6672 .bf16} {harg3 : arg3.IsWhole} {arg26 : Memref sig .tc .vmem S2048x128 .bf16} {harg26 : arg26.IsWhole} {x0 : Vec Ideal S256x2048 .f32} {x1 : Vec Ideal S1x2048 .f32} {x2 : Vec Ideal S2048x6672 .bf16} {xs6 : Vec Ideal S2048x128 .bf16}
  {W : Fin 2048 → ℕ → EReal}

theorem row_at (r : Fin 256) (k : Fin 2048) : ((sl.v38 (F := Ideal) c arg1 harg1 arg2 harg2 x0 x1)) (ix2 r k) = hrow x0 x1 r k := by
  have e1 : (sl.v23 (F := Ideal) c arg1 harg1 x0) = x0 := by
    unfold sl.v23
    rw [shapeCast_self, View.readAt_full, Memref.IsWhole.read_unread]
  have e2 : (sl.v35 (F := Ideal) c arg2 harg2 x1) = x1 := by
    unfold sl.v35
    rw [shapeCast_self, View.readAt_full, Memref.IsWhole.read_unread]
  unfold sl.v38 sl.v37 sl.v33 sl.v36 sl.v32 sl.v31 sl.v30 sl.v28 sl.v26 sl.v25 sl.v24 sl.v27 sl.v29 sl.cst_17 sl.cst_18
  rw [e1, e2]
  pointwise
  rfl

theorem cols4096_at (hW : ∀ (k : Fin 2048) (n : Fin 6672), x2 (ix2 k n) = W k n.val) (r : Fin 256) (n : Fin 256) :
    ((sl.v4446 (F := Ideal) c arg1 harg1 arg2 harg2 arg3 harg3 x0 x1 x2)) (ix2 r n) = ∑ k, hrow x0 x1 r k * W k (4096 + n.val) := by
  have e : ((sl.v4446 (F := Ideal) c arg1 harg1 arg2 harg2 arg3 harg3 x0 x1 x2)) (ix2 r n) = ((sl.v2112 (F := Ideal) c arg1 harg1 arg2 harg2 arg3 harg3 x0 x1 x2)) (ix2 r n) := by pointwise [sl.v4446]
  rw [e]
  refine (dot256 _ _ r n).trans (Finset.sum_congr rfl fun k _ => congrArg₂ (· * ·) (row_at r k) ?_)
  refine cat _ _ _ k n (W k) 4096 (fun l => ?_) (fun l => ?_)
  · have e1 : ((sl.v2108 (F := Ideal) c arg3 harg3 x2)) (ix2 k l) = arg3.view.readAt (Elt Ideal) (Rect.unit (s := S2048x6672) ![0, 4096] S2048x128.size inb_S2048x6672_S2048x128_0_4096).toLoadRect (harg3.unread x2) (ix2 k l) := by
      unfold sl.v2108
      rw [shapeCast_self]
    exact e1.trans ((cols arg3.view _ x2 (Memref.IsWhole.read_unread _ _) 4096 (by decide) _ k l).trans (hW k _))
  · have e1 : ((sl.v2110 (F := Ideal) c arg3 harg3 x2)) (ix2 k l) = arg3.view.readAt (Elt Ideal) (Rect.unit (s := S2048x6672) ![0, 4224] S2048x128.size inb_S2048x6672_S2048x128_0_4224).toLoadRect (harg3.unread x2) (ix2 k l) := by
      unfold sl.v2110
      rw [shapeCast_self]
    exact e1.trans ((cols arg3.view _ x2 (Memref.IsWhole.read_unread _ _) 4224 (by decide) _ k l).trans (hW k _))

theorem cols4352_at (hW : ∀ (k : Fin 2048) (n : Fin 6672), x2 (ix2 k n) = W k n.val) (r : Fin 256) (n : Fin 256) :
    ((sl.v4449 (F := Ideal) c arg1 harg1 arg2 harg2 arg3 harg3 x0 x1 x2)) (ix2 r n) = ∑ k, hrow x0 x1 r k * W k (4352 + n.val) := by
  have e : ((sl.v4449 (F := Ideal) c arg1 harg1 arg2 harg2 arg3 harg3 x0 x1 x2)) (ix2 r n) = ((sl.v2329 (F := Ideal) c arg1 harg1 arg2 harg2 arg3 harg3 x0 x1 x2)) (ix2 r n) := by pointwise [sl.v4449]
  rw [e]
  refine (dot256 _ _ r n).trans (Finset.sum_congr rfl fun k _ => congrArg₂ (· * ·) (row_at r k) ?_)
  refine cat _ _ _ k n (W k) 4352 (fun l => ?_) (fun l => ?_)
  · have e1 : ((sl.v2325 (F := Ideal) c arg3 harg3 x2)) (ix2 k l) = arg3.view.readAt (Elt Ideal) (Rect.unit (s := S2048x6672) ![0, 4352] S2048x128.size inb_S2048x6672_S2048x128_0_4352).toLoadRect (harg3.unread x2) (ix2 k l) := by
      unfold sl.v2325
      rw [shapeCast_self]
    exact e1.trans ((cols arg3.view _ x2 (Memref.IsWhole.read_unread _ _) 4352 (by decide) _ k l).trans (hW k _))
  · have e1 : ((sl.v2327 (F := Ideal) c arg3 harg3 x2)) (ix2 k l) = arg3.view.readAt (Elt Ideal) (Rect.unit (s := S2048x6672) ![0, 4480] S2048x128.size inb_S2048x6672_S2048x128_0_4480).toLoadRect (harg3.unread x2) (ix2 k l) := by
      unfold sl.v2327
      rw [shapeCast_self]
    exact e1.trans ((cols arg3.view _ x2 (Memref.IsWhole.read_unread _ _) 4480 (by decide) _ k l).trans (hW k _))

theorem cols4608_at (hW : ∀ (k : Fin 2048) (n : Fin 6672), x2 (ix2 k n) = W k n.val) (r : Fin 256) (n : Fin 256) :
    ((sl.v4452 (F := Ideal) c arg1 harg1 arg2 harg2 arg3 harg3 x0 x1 x2)) (ix2 r n) = ∑ k, hrow x0 x1 r k * W k (4608 + n.val) := by
  have e : ((sl.v4452 (F := Ideal) c arg1 harg1 arg2 harg2 arg3 harg3 x0 x1 x2)) (ix2 r n) = ((sl.v2546 (F := Ideal) c arg1 harg1 arg2 harg2 arg3 harg3 x0 x1 x2)) (ix2 r n) := by pointwise [sl.v4452]
  rw [e]
  refine (dot256 _ _ r n).trans (Finset.sum_congr rfl fun k _ => congrArg₂ (· * ·) (row_at r k) ?_)
  refine cat _ _ _ k n (W k) 4608 (fun l => ?_) (fun l => ?_)
  · have e1 : ((sl.v2542 (F := Ideal) c arg3 harg3 x2)) (ix2 k l) = arg3.view.readAt (Elt Ideal) (Rect.unit (s := S2048x6672) ![0, 4608] S2048x128.size inb_S2048x6672_S2048x128_0_4608).toLoadRect (harg3.unread x2) (ix2 k l) := by
      unfold sl.v2542
      rw [shapeCast_self]
    exact e1.trans ((cols arg3.view _ x2 (Memref.IsWhole.read_unread _ _) 4608 (by decide) _ k l).trans (hW k _))
  · have e1 : ((sl.v2544 (F := Ideal) c arg3 harg3 x2)) (ix2 k l) = arg3.view.readAt (Elt Ideal) (Rect.unit (s := S2048x6672) ![0, 4736] S2048x128.size inb_S2048x6672_S2048x128_0_4736).toLoadRect (harg3.unread x2) (ix2 k l) := by
      unfold sl.v2544
      rw [shapeCast_self]
    exact e1.trans ((cols arg3.view _ x2 (Memref.IsWhole.read_unread _ _) 4736 (by decide) _ k l).trans (hW k _))

theorem cols4864_at (hW : ∀ (k : Fin 2048) (n : Fin 6672), x2 (ix2 k n) = W k n.val) (r : Fin 256) (n : Fin 256) :
    (k0_pay742 (F := Ideal) (sl.v2616 (F := Ideal) c arg1 harg1 arg2 harg2 arg3 harg3 x0 x1 x2)) (ix2 r n) = ∑ k, hrow x0 x1 r k * W k (4864 + n.val) := by
  have e : (k0_pay742 (F := Ideal) (sl.v2616 (F := Ideal) c arg1 harg1 arg2 harg2 arg3 harg3 x0 x1 x2)) (ix2 r n) = ((sl.v2616 (F := Ideal) c arg1 harg1 arg2 harg2 arg3 harg3 x0 x1 x2)) (ix2 r n) := by pointwise [k0_pay742]
  rw [e]
  refine (dot256 _ _ r n).trans (Finset.sum_congr rfl fun k _ => congrArg₂ (· * ·) (row_at r k) ?_)
  refine cat _ _ _ k n (W k) 4864 (fun l => ?_) (fun l => ?_)
  · have e1 : ((sl.v2612 (F := Ideal) c arg3 harg3 x2)) (ix2 k l) = arg3.view.readAt (Elt Ideal) (Rect.unit (s := S2048x6672) ![0, 4864] S2048x128.size inb_S2048x6672_S2048x128_0_4864).toLoadRect (harg3.unread x2) (ix2 k l) := by
      unfold sl.v2612
      rw [shapeCast_self]
    exact e1.trans ((cols arg3.view _ x2 (Memref.IsWhole.read_unread _ _) 4864 (by decide) _ k l).trans (hW k _))
  · have e1 : ((sl.v2614 (F := Ideal) c arg3 harg3 x2)) (ix2 k l) = arg3.view.readAt (Elt Ideal) (Rect.unit (s := S2048x6672) ![0, 4992] S2048x128.size inb_S2048x6672_S2048x128_0_4992).toLoadRect (harg3.unread x2) (ix2 k l) := by
      unfold sl.v2614
      rw [shapeCast_self]
    exact e1.trans ((cols arg3.view _ x2 (Memref.IsWhole.read_unread _ _) 4992 (by decide) _ k l).trans (hW k _))

theorem cols5120_at (hW : ∀ (k : Fin 2048) (n : Fin 6672), x2 (ix2 k n) = W k n.val) (r : Fin 256) (n : Fin 256) :
    (k0_pay743 (F := Ideal) (sl.v3013 (F := Ideal) c arg1 harg1 arg2 harg2 arg3 harg3 x0 x1 x2)) (ix2 r n) = ∑ k, hrow x0 x1 r k * W k (5120 + n.val) := by
  have e : (k0_pay743 (F := Ideal) (sl.v3013 (F := Ideal) c arg1 harg1 arg2 harg2 arg3 harg3 x0 x1 x2)) (ix2 r n) = ((sl.v3013 (F := Ideal) c arg1 harg1 arg2 harg2 arg3 harg3 x0 x1 x2)) (ix2 r n) := by pointwise [k0_pay743]
  rw [e]
  refine (dot256 _ _ r n).trans (Finset.sum_congr rfl fun k _ => congrArg₂ (· * ·) (row_at r k) ?_)
  refine cat _ _ _ k n (W k) 5120 (fun l => ?_) (fun l => ?_)
  · have e1 : ((sl.v3009 (F := Ideal) c arg3 harg3 x2)) (ix2 k l) = arg3.view.readAt (Elt Ideal) (Rect.unit (s := S2048x6672) ![0, 5120] S2048x128.size inb_S2048x6672_S2048x128_0_5120).toLoadRect (harg3.unread x2) (ix2 k l) := by
      unfold sl.v3009
      rw [shapeCast_self]
    exact e1.trans ((cols arg3.view _ x2 (Memref.IsWhole.read_unread _ _) 5120 (by decide) _ k l).trans (hW k _))
  · have e1 : ((sl.v3011 (F := Ideal) c arg3 harg3 x2)) (ix2 k l) = arg3.view.readAt (Elt Ideal) (Rect.unit (s := S2048x6672) ![0, 5248] S2048x128.size inb_S2048x6672_S2048x128_0_5248).toLoadRect (harg3.unread x2) (ix2 k l) := by
      unfold sl.v3011
      rw [shapeCast_self]
    exact e1.trans ((cols arg3.view _ x2 (Memref.IsWhole.read_unread _ _) 5248 (by decide) _ k l).trans (hW k _))

theorem cols5376_at (hW : ∀ (k : Fin 2048) (n : Fin 6672), x2 (ix2 k n) = W k n.val) (r : Fin 256) (n : Fin 256) :
    ((sl.r_151 (F := Ideal) c arg1 harg1 arg2 harg2 arg3 harg3 x0 x1 x2)) (ix2 r n) = ∑ k, hrow x0 x1 r k * W k (5376 + n.val) := by
  have e : ((sl.r_151 (F := Ideal) c arg1 harg1 arg2 harg2 arg3 harg3 x0 x1 x2)) (ix2 r n) = ((sl.v3105 (F := Ideal) c arg1 harg1 arg2 harg2 arg3 harg3 x0 x1 x2)) (ix2 r n) := by pointwise [sl.r_151, k0_pay744]
  rw [e]
  refine (dot256 _ _ r n).trans (Finset.sum_congr rfl fun k _ => congrArg₂ (· * ·) (row_at r k) ?_)
  refine cat _ _ _ k n (W k) 5376 (fun l => ?_) (fun l => ?_)
  · have e1 : ((sl.v3101 (F := Ideal) c arg3 harg3 x2)) (ix2 k l) = arg3.view.readAt (Elt Ideal) (Rect.unit (s := S2048x6672) ![0, 5376] S2048x128.size inb_S2048x6672_S2048x128_0_5376).toLoadRect (harg3.unread x2) (ix2 k l) := by
      unfold sl.v3101
      rw [shapeCast_self]
    exact e1.trans ((cols arg3.view _ x2 (Memref.IsWhole.read_unread _ _) 5376 (by decide) _ k l).trans (hW k _))
  · have e1 : ((sl.v3103 (F := Ideal) c arg3 harg3 x2)) (ix2 k l) = arg3.view.readAt (Elt Ideal) (Rect.unit (s := S2048x6672) ![0, 5504] S2048x128.size inb_S2048x6672_S2048x128_0_5504).toLoadRect (harg3.unread x2) (ix2 k l) := by
      unfold sl.v3103
      rw [shapeCast_self]
    exact e1.trans ((cols arg3.view _ x2 (Memref.IsWhole.read_unread _ _) 5504 (by decide) _ k l).trans (hW k _))

theorem cols5632_at (hW : ∀ (k : Fin 2048) (n : Fin 6672), x2 (ix2 k n) = W k n.val) (r : Fin 256) (n : Fin 256) :
    (k0_pay1 (F := Ideal) (sl.v3193 (F := Ideal) c arg1 harg1 arg2 harg2 arg3 harg3 x0 x1 x2)) (ix2 r n) = ∑ k, hrow x0 x1 r k * W k (5632 + n.val) := by
  have e : (k0_pay1 (F := Ideal) (sl.v3193 (F := Ideal) c arg1 harg1 arg2 harg2 arg3 harg3 x0 x1 x2)) (ix2 r n) = ((sl.v3193 (F := Ideal) c arg1 harg1 arg2 harg2 arg3 harg3 x0 x1 x2)) (ix2 r n) := by pointwise [k0_pay1]
  rw [e]
  refine (dot256 _ _ r n).trans (Finset.sum_congr rfl fun k _ => congrArg₂ (· * ·) (row_at r k) ?_)
  refine cat _ _ _ k n (W k) 5632 (fun l => ?_) (fun l => ?_)
  · have e1 : ((sl.v3189 (F := Ideal) c arg3 harg3 x2)) (ix2 k l) = arg3.view.readAt (Elt Ideal) (Rect.unit (s := S2048x6672) ![0, 5632] S2048x128.size inb_S2048x6672_S2048x128_0_5632).toLoadRect (harg3.unread x2) (ix2 k l) := by
      unfold sl.v3189
      rw [shapeCast_self]
    exact e1.trans ((cols arg3.view _ x2 (Memref.IsWhole.read_unread _ _) 5632 (by decide) _ k l).trans (hW k _))
  · have e1 : ((sl.v3191 (F := Ideal) c arg3 harg3 x2)) (ix2 k l) = arg3.view.readAt (Elt Ideal) (Rect.unit (s := S2048x6672) ![0, 5760] S2048x128.size inb_S2048x6672_S2048x128_0_5760).toLoadRect (harg3.unread x2) (ix2 k l) := by
      unfold sl.v3191
      rw [shapeCast_self]
    exact e1.trans ((cols arg3.view _ x2 (Memref.IsWhole.read_unread _ _) 5760 (by decide) _ k l).trans (hW k _))

theorem cols5888_at (hW : ∀ (k : Fin 2048) (n : Fin 6672), x2 (ix2 k n) = W k n.val) (r : Fin 256) (n : Fin 256) :
    (k0_pay2 (F := Ideal) (sl.v3281 (F := Ideal) c arg1 harg1 arg2 harg2 arg3 harg3 x0 x1 x2)) (ix2 r n) = ∑ k, hrow x0 x1 r k * W k (5888 + n.val) := by
  have e : (k0_pay2 (F := Ideal) (sl.v3281 (F := Ideal) c arg1 harg1 arg2 harg2 arg3 harg3 x0 x1 x2)) (ix2 r n) = ((sl.v3281 (F := Ideal) c arg1 harg1 arg2 harg2 arg3 harg3 x0 x1 x2)) (ix2 r n) := by pointwise [k0_pay2]
  rw [e]
  refine (dot256 _ _ r n).trans (Finset.sum_congr rfl fun k _ => congrArg₂ (· * ·) (row_at r k) ?_)
  refine cat _ _ _ k n (W k) 5888 (fun l => ?_) (fun l => ?_)
  · have e1 : ((sl.v3277 (F := Ideal) c arg3 harg3 x2)) (ix2 k l) = arg3.view.readAt (Elt Ideal) (Rect.unit (s := S2048x6672) ![0, 5888] S2048x128.size inb_S2048x6672_S2048x128_0_5888).toLoadRect (harg3.unread x2) (ix2 k l) := by
      unfold sl.v3277
      rw [shapeCast_self]
    exact e1.trans ((cols arg3.view _ x2 (Memref.IsWhole.read_unread _ _) 5888 (by decide) _ k l).trans (hW k _))
  · have e1 : ((sl.v3279 (F := Ideal) c arg3 harg3 x2)) (ix2 k l) = arg3.view.readAt (Elt Ideal) (Rect.unit (s := S2048x6672) ![0, 6016] S2048x128.size inb_S2048x6672_S2048x128_0_6016).toLoadRect (harg3.unread x2) (ix2 k l) := by
      unfold sl.v3279
      rw [shapeCast_self]
    exact e1.trans ((cols arg3.view _ x2 (Memref.IsWhole.read_unread _ _) 6016 (by decide) _ k l).trans (hW k _))

theorem cols6144_at (hW : ∀ (k : Fin 2048) (n : Fin 6672), x2 (ix2 k n) = W k n.val) (r : Fin 256) (n : Fin 256) :
    (k0_pay3 (F := Ideal) (sl.v3498 (F := Ideal) c arg1 harg1 arg2 harg2 arg3 harg3 x0 x1 x2)) (ix2 r n) = ∑ k, hrow x0 x1 r k * W k (6144 + n.val) := by
  have e : (k0_pay3 (F := Ideal) (sl.v3498 (F := Ideal) c arg1 harg1 arg2 harg2 arg3 harg3 x0 x1 x2)) (ix2 r n) = ((sl.v3498 (F := Ideal) c arg1 harg1 arg2 harg2 arg3 harg3 x0 x1 x2)) (ix2 r n) := by pointwise [k0_pay3]
  rw [e]
  refine (dot256 _ _ r n).trans (Finset.sum_congr rfl fun k _ => congrArg₂ (· * ·) (row_at r k) ?_)
  refine cat _ _ _ k n (W k) 6144 (fun l => ?_) (fun l => ?_)
  · have e1 : ((sl.v3494 (F := Ideal) c arg3 harg3 x2)) (ix2 k l) = arg3.view.readAt (Elt Ideal) (Rect.unit (s := S2048x6672) ![0, 6144] S2048x128.size inb_S2048x6672_S2048x128_0_6144).toLoadRect (harg3.unread x2) (ix2 k l) := by
      unfold sl.v3494
      rw [shapeCast_self]
    exact e1.trans ((cols arg3.view _ x2 (Memref.IsWhole.read_unread _ _) 6144 (by decide) _ k l).trans (hW k _))
  · have e1 : ((sl.v3496 (F := Ideal) c arg3 harg3 x2)) (ix2 k l) = arg3.view.readAt (Elt Ideal) (Rect.unit (s := S2048x6672) ![0, 6272] S2048x128.size inb_S2048x6672_S2048x128_0_6272).toLoadRect (harg3.unread x2) (ix2 k l) := by
      unfold sl.v3496
      rw [shapeCast_self]
    exact e1.trans ((cols arg3.view _ x2 (Memref.IsWhole.read_unread _ _) 6272 (by decide) _ k l).trans (hW k _))

theorem cols6400_at (hW : ∀ (k : Fin 2048) (n : Fin 6672), x2 (ix2 k n) = W k n.val) (r : Fin 256) (n : Fin 256) :
    (k0_pay4 (F := Ideal) (sl.v3715 (F := Ideal) c arg1 harg1 arg2 harg2 arg3 harg3 x0 x1 x2)) (ix2 r n) = ∑ k, hrow x0 x1 r k * W k (6400 + n.val) := by
  have e : (k0_pay4 (F := Ideal) (sl.v3715 (F := Ideal) c arg1 harg1 arg2 harg2 arg3 harg3 x0 x1 x2)) (ix2 r n) = ((sl.v3715 (F := Ideal) c arg1 harg1 arg2 harg2 arg3 harg3 x0 x1 x2)) (ix2 r n) := by pointwise [k0_pay4]
  rw [e]
  refine (dot256 _ _ r n).trans (Finset.sum_congr rfl fun k _ => congrArg₂ (· * ·) (row_at r k) ?_)
  refine cat _ _ _ k n (W k) 6400 (fun l => ?_) (fun l => ?_)
  · have e1 : ((sl.v3711 (F := Ideal) c arg3 harg3 x2)) (ix2 k l) = arg3.view.readAt (Elt Ideal) (Rect.unit (s := S2048x6672) ![0, 6400] S2048x128.size inb_S2048x6672_S2048x128_0_6400).toLoadRect (harg3.unread x2) (ix2 k l) := by
      unfold sl.v3711
      rw [shapeCast_self]
    exact e1.trans ((cols arg3.view _ x2 (Memref.IsWhole.read_unread _ _) 6400 (by decide) _ k l).trans (hW k _))
  · have e1 : ((sl.v3713 (F := Ideal) c arg3 harg3 x2)) (ix2 k l) = arg3.view.readAt (Elt Ideal) (Rect.unit (s := S2048x6672) ![0, 6528] S2048x128.size inb_S2048x6672_S2048x128_0_6528).toLoadRect (harg3.unread x2) (ix2 k l) := by
      unfold sl.v3713
      rw [shapeCast_self]
    exact e1.trans ((cols arg3.view _ x2 (Memref.IsWhole.read_unread _ _) 6528 (by decide) _ k l).trans (hW k _))

/-- The first point keeps the last 16 columns of the weights, padded. -/
theorem kept_at (v : View sig .tc .vmem S2048x128 .bf16) (f : v.ty.Contents (Elt Ideal)) (hW : ∀ (k : Fin 2048) (n : Fin 6672), x2 (ix2 k n) = W k n.val) (k : Fin 2048) (n : Fin 128) (hn : n.val < 16) :
    v.read (Elt Ideal) (v.writes (Elt Ideal) f (sl.HS6_2 (F := Ideal) c arg3 harg3 x2)) (ix2 k n) = W k (6656 + n.val) := by
  refine (in2 v f 2048 16 0 0 _ _ _ k n (by omega) (by omega)).trans ?_
  have e : (sl.v4489 (F := Ideal) c arg3 harg3 x2) = arg3.view.readAt (Elt Ideal) (Rect.unit (s := S2048x6672) ![0, 6656] S2048x16.size inb_S2048x6672_S2048x16_0_6656).toLoadRect (harg3.unread x2) := by
    unfold sl.v4489 sl.v4486
    rw [shapeCast_self, shapeCast_self]
  rw [e]
  refine (load2 arg3.view _ 2048 16 0 6656 _ _ _).trans ?_
  rw [Memref.IsWhole.read_unread]
  refine (hW _ _).trans (congrArg₂ W (Fin.ext ?_) ?_)
  · show 0 + (k.val - 0) = k.val
    omega
  · show 6656 + (n.val - 0) = 6656 + n.val
    omega

theorem cols6656_at (hW : ∀ (k : Fin 2048) (n : Fin 6672), x2 (ix2 k n) = W k n.val) (r : Fin 256) (n : Fin 128) (hn : n.val < 16) :
    (k0_pay5 (F := Ideal) (sl.v3928 (F := Ideal) c arg1 harg1 arg2 harg2 arg3 harg3 arg26 x0 x1 x2)) (ix2 r n) = ∑ k, hrow x0 x1 r k * W k (6656 + n.val) := by
  have e : (k0_pay5 (F := Ideal) (sl.v3928 (F := Ideal) c arg1 harg1 arg2 harg2 arg3 harg3 arg26 x0 x1 x2)) (ix2 r n) = ((sl.v3928 (F := Ideal) c arg1 harg1 arg2 harg2 arg3 harg3 arg26 x0 x1 x2)) (ix2 r n) := by pointwise [k0_pay5]
  rw [e]
  refine (dot128 _ _ r n).trans (Finset.sum_congr rfl fun k _ => congrArg₂ (· * ·) (row_at r k) ?_)
  exact (load2 arg26.view _ 2048 128 0 0 _ k n).trans (Eq.trans (congrArg _ (congrArg₂ ix2 (Fin.ext (Nat.zero_add k.val)) (Fin.ext (Nat.zero_add n.val)))) (kept_at arg26.view arg26.view.junk hW k n hn))

end

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6672 .bf16) (harg3 : arg3.IsWhole) (arg4 : Memref sig .tc .vmem S2x1024 .f32) (harg4 : arg4.IsWhole) (arg5 : Memref sig .tc .vmem S1x1024 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S32x5632 .f32) (harg12 : arg12.IsWhole) (arg13 : Memref sig .tc .vmem S32x5632 .f32) (harg13 : arg13.IsWhole) (arg14 : Memref sig .tc .vmem S32x2048 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S32x5632 .bf16) (harg17 : arg17.IsWhole) (arg18 : Memref sig .tc .vmem S32x5632 .bf16) (harg18 : arg18.IsWhole) (arg19 : Memref sig .tc .vmem S32x2048 .bf16) (harg19 : arg19.IsWhole) (arg20 : Memref sig .tc .vmem S8x128x128 .f32) (harg20 : arg20.IsWhole) (arg21 : Memref sig .tc .vmem S128x128 .i32) (harg21 : arg21.IsWhole) (arg22 : Memref sig .tc .vmem S1x1024 .f32) (harg22 : arg22.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (arg26 : Memref sig .tc .vmem S2048x128 .bf16) (harg26 : arg26.IsWhole) (hc0 : cond0_0 i) (hc1 : cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32)

theorem proj_eq : ∃ L : List (View.Piece (Elt Ideal) S256x6784 .f32), (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 ).2.2.2.2.2.2.2.2.2.2.1
    = ⟨Rect.unit (s := S256x6784) ![0, 6656] ![256, 128] inb_S256x6784_S256x128_0_6656, k0_pay5 (F := Ideal) (sl.v3928 (F := Ideal) c arg1 harg1 arg2 harg2 arg3 harg3 arg26 x0 x1 x2)⟩ ::
      ⟨Rect.unit (s := S256x6784) ![0, 6400] ![256, 256] inb_S256x6784_S256x256_0_6400, k0_pay4 (F := Ideal) (sl.v3715 (F := Ideal) c arg1 harg1 arg2 harg2 arg3 harg3 x0 x1 x2)⟩ ::
      ⟨Rect.unit (s := S256x6784) ![0, 6144] ![256, 256] inb_S256x6784_S256x256_0_6144, k0_pay3 (F := Ideal) (sl.v3498 (F := Ideal) c arg1 harg1 arg2 harg2 arg3 harg3 x0 x1 x2)⟩ ::
      ⟨Rect.unit (s := S256x6784) ![0, 5888] ![256, 256] inb_S256x6784_S256x256_0_5888, k0_pay2 (F := Ideal) (sl.v3281 (F := Ideal) c arg1 harg1 arg2 harg2 arg3 harg3 x0 x1 x2)⟩ ::
      ⟨Rect.unit (s := S256x6784) ![0, 5632] ![256, 256] inb_S256x6784_S256x256_0_5632, k0_pay1 (F := Ideal) (sl.v3193 (F := Ideal) c arg1 harg1 arg2 harg2 arg3 harg3 x0 x1 x2)⟩ ::
      ⟨Rect.unit (s := S256x6784) ![0, 5376] ![256, 256] inb_S256x6784_S256x256_0_5376, (sl.r_151 (F := Ideal) c arg1 harg1 arg2 harg2 arg3 harg3 x0 x1 x2)⟩ ::
      ⟨Rect.unit (s := S256x6784) ![0, 5120] ![256, 256] inb_S256x6784_S256x256_0_5120, k0_pay743 (F := Ideal) (sl.v3013 (F := Ideal) c arg1 harg1 arg2 harg2 arg3 harg3 x0 x1 x2)⟩ ::
      ⟨Rect.unit (s := S256x6784) ![0, 4864] ![256, 256] inb_S256x6784_S256x256_0_4864, k0_pay742 (F := Ideal) (sl.v2616 (F := Ideal) c arg1 harg1 arg2 harg2 arg3 harg3 x0 x1 x2)⟩ ::
      ⟨Rect.unit (s := S256x6784) ![0, 4608] ![256, 256] inb_S256x6784_S256x256_0_4608, (sl.v4452 (F := Ideal) c arg1 harg1 arg2 harg2 arg3 harg3 x0 x1 x2)⟩ ::
      ⟨Rect.unit (s := S256x6784) ![0, 4352] ![256, 256] inb_S256x6784_S256x256_0_4352, (sl.v4449 (F := Ideal) c arg1 harg1 arg2 harg2 arg3 harg3 x0 x1 x2)⟩ ::
      ⟨Rect.unit (s := S256x6784) ![0, 4096] ![256, 256] inb_S256x6784_S256x256_0_4096, (sl.v4446 (F := Ideal) c arg1 harg1 arg2 harg2 arg3 harg3 x0 x1 x2)⟩ :: L := ⟨_, rfl⟩

/-- The projection that the point leaves. -/
theorem proj_at (W : Fin 2048 → ℕ → EReal) (hW : ∀ (k : Fin 2048) (n : Fin 6672), x2 (ix2 k n) = W k n.val) (r : Fin 256) (n : Fin 6784) (h1 : 4096 ≤ n.val) (h2 : n.val < 6672) (v : View sig .tc .vmem S256x6784 .f32) (f : v.ty.Contents (Elt Ideal)) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 ).2.2.2.2.2.2.2.2.2.2.1) (ix2 r n) = ∑ k, hrow x0 x1 r k * W k n.val := by
  refine Exists.elim (proj_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 ) fun L e => ?_
  refine (congrArg (fun Q => v.read (Elt Ideal) (v.writes (Elt Ideal) f Q) (ix2 r n)) e).trans ?_
  exact stored v f L (fun r n => ∑ k, hrow x0 x1 r k * W k n) _ _ _ _ _ _ _ _ _ _ _ (cols4096_at hW) (cols4352_at hW) (cols4608_at hW) (cols4864_at hW) (cols5120_at hW) (cols5376_at hW) (cols5632_at hW) (cols5888_at hW) (cols6144_at hW) (cols6400_at hW)
    (cols6656_at hW) r n h1 h2

theorem keep_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 ).2.2.2.2.2.2.2.2.2.2.2.1 = (sl.HS6_2 (F := Ideal) c arg3 harg3 x2) := rfl

end Cert.MixerIdeal.Gen.kernelRun0_A

end
-- ==== Proof.SsdPointA.lean ====
module

public import proofs.«01_k».proof.Proof.SsdProjA

/-!
# What the first point leaves
-/

@[expose] public section

set_option maxRecDepth 65536

noncomputable section

namespace Cert.MixerIdeal.Gen.kernelRun0_A

open Cert.MixerIdeal Cert.MixerIdeal.Gen Cert.MixerIdeal.XBuf Cert.MixerIdeal.Terms Cert.MixerIdeal.Proj Cert.Ssd Cert.RowNorm
open Idealize.ShloMosaic Idealize.ShloMosaic.TcCoe

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6672 .bf16) (harg3 : arg3.IsWhole) (arg4 : Memref sig .tc .vmem S2x1024 .f32) (harg4 : arg4.IsWhole) (arg5 : Memref sig .tc .vmem S1x1024 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S32x5632 .f32) (harg12 : arg12.IsWhole) (arg13 : Memref sig .tc .vmem S32x5632 .f32) (harg13 : arg13.IsWhole) (arg14 : Memref sig .tc .vmem S32x2048 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S32x5632 .bf16) (harg17 : arg17.IsWhole) (arg18 : Memref sig .tc .vmem S32x5632 .bf16) (harg18 : arg18.IsWhole) (arg19 : Memref sig .tc .vmem S32x2048 .bf16) (harg19 : arg19.IsWhole) (arg20 : Memref sig .tc .vmem S8x128x128 .f32) (harg20 : arg20.IsWhole) (arg21 : Memref sig .tc .vmem S128x128 .i32) (harg21 : arg21.IsWhole) (arg22 : Memref sig .tc .vmem S1x1024 .f32) (harg22 : arg22.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (arg26 : Memref sig .tc .vmem S2048x128 .bf16) (harg26 : arg26.IsWhole) (hc0 : cond0_0 i) (hc1 : cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32)

/-- The projection of the chunk that the point is given. -/
theorem pj_next (I : In) (b j : ℕ) (hx0 : ∀ (r : Fin 256) (k : Fin 2048), x0 (ix2 r k) = I.x b (256 * j + r.val) k) (hx1 : ∀ k : Fin 2048, x1 (ix2 0 k) = I.pw k) (hW : ∀ (k : Fin 2048) (n : Fin 6672), x2 (ix2 k n) = I.w k n.val) (v : View sig .tc .vmem S256x6784 .f32) (f : v.ty.Contents (Elt Ideal)) :
    PjOk I b j (v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 ).2.2.2.2.2.2.2.2.2.2.1)) := fun r q hq =>
  (proj_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13  I.w hW r ⟨4096 + q.val, by omega⟩ (by dsimp only; omega) (by dsimp only; omega) v f).trans (hrow_sum hx0 hx1 r _)

/-- The last columns of the weights, kept. -/
theorem keep_at (W : Fin 2048 → ℕ → EReal) (hW : ∀ (k : Fin 2048) (n : Fin 6672), x2 (ix2 k n) = W k n.val) (v : View sig .tc .vmem S2048x128 .bf16) (f : v.ty.Contents (Elt Ideal)) (k : Fin 2048) (n : Fin 128) (hn : n.val < 16) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 ).2.2.2.2.2.2.2.2.2.2.2.1) (ix2 k n) = W k (6656 + n.val) := by
  exact (congrArg (fun Q => v.read (Elt Ideal) (v.writes (Elt Ideal) f Q) (ix2 k n)) (keep_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 )).trans (kept_at v f hW k n hn)

end Cert.MixerIdeal.Gen.kernelRun0_A

end
-- ==== Proof.SsdLoadsB.lean ====
module

public import proofs.«01_k».proof.Proof.SsdArgs
public import proofs.«01_k».proof.Proof.Gen.MixerIdeal.Frame.RunB

/-!
# The state space step of a point that starts a sequence

The point clears the taps' first rows and the state.
-/

@[expose] public section

set_option maxRecDepth 65536

noncomputable section

namespace Cert.MixerIdeal.Gen.kernelRun0_B

open Cert.MixerIdeal Cert.MixerIdeal.Gen Cert.MixerIdeal.XBuf Cert.MixerIdeal.Terms Cert.Ssd
open Idealize.ShloMosaic Idealize.ShloMosaic.TcCoe

/-- The loads of the step. -/
def loads (c : Dev nD) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (xs5 : Vec Ideal S256x6784 .f32) : Loads where
  pj := arg25.view.readAt (Elt Ideal) (Rect.unit (s := S256x6784) ![0, 4096] S256x2688.size inb_S256x6784_S256x2688_0_4096).toLoadRect (harg25.unread xs5)
  bias := of12
    (arg7.view.readAt (Elt Ideal) (Rect.unit (s := S1x1536) ![0, 0] S1x128.size inb_S1x1536_S1x128_0_0).toLoadRect (harg7.unread x6))
    (arg7.view.readAt (Elt Ideal) (Rect.unit (s := S1x1536) ![0, 128] S1x128.size inb_S1x1536_S1x128_0_128).toLoadRect (harg7.unread x6))
    (arg7.view.readAt (Elt Ideal) (Rect.unit (s := S1x1536) ![0, 256] S1x128.size inb_S1x1536_S1x128_0_256).toLoadRect (harg7.unread x6))
    (arg7.view.readAt (Elt Ideal) (Rect.unit (s := S1x1536) ![0, 384] S1x128.size inb_S1x1536_S1x128_0_384).toLoadRect (harg7.unread x6))
    (arg7.view.readAt (Elt Ideal) (Rect.unit (s := S1x1536) ![0, 512] S1x128.size inb_S1x1536_S1x128_0_512).toLoadRect (harg7.unread x6))
    (arg7.view.readAt (Elt Ideal) (Rect.unit (s := S1x1536) ![0, 640] S1x128.size inb_S1x1536_S1x128_0_640).toLoadRect (harg7.unread x6))
    (arg7.view.readAt (Elt Ideal) (Rect.unit (s := S1x1536) ![0, 768] S1x128.size inb_S1x1536_S1x128_0_768).toLoadRect (harg7.unread x6))
    (arg7.view.readAt (Elt Ideal) (Rect.unit (s := S1x1536) ![0, 896] S1x128.size inb_S1x1536_S1x128_0_896).toLoadRect (harg7.unread x6))
    (arg7.view.readAt (Elt Ideal) (Rect.unit (s := S1x1536) ![0, 1024] S1x128.size inb_S1x1536_S1x128_0_1024).toLoadRect (harg7.unread x6))
    (arg7.view.readAt (Elt Ideal) (Rect.unit (s := S1x1536) ![0, 1152] S1x128.size inb_S1x1536_S1x128_0_1152).toLoadRect (harg7.unread x6))
    (arg7.view.readAt (Elt Ideal) (Rect.unit (s := S1x1536) ![0, 1280] S1x128.size inb_S1x1536_S1x128_0_1280).toLoadRect (harg7.unread x6))
    (arg7.view.readAt (Elt Ideal) (Rect.unit (s := S1x1536) ![0, 1408] S1x128.size inb_S1x1536_S1x128_0_1408).toLoadRect (harg7.unread x6))
  w := of12
    (of4 (arg6.view.readAt (Elt Ideal) (Rect.unit (s := S4x1536) ![0, 0] S1x128.size inb_S4x1536_S1x128_0_0).toLoadRect (harg6.unread x5)) (arg6.view.readAt (Elt Ideal) (Rect.unit (s := S4x1536) ![1, 0] S1x128.size inb_S4x1536_S1x128_1_0).toLoadRect (harg6.unread x5)) (arg6.view.readAt (Elt Ideal) (Rect.unit (s := S4x1536) ![2, 0] S1x128.size inb_S4x1536_S1x128_2_0).toLoadRect (harg6.unread x5)) (arg6.view.readAt (Elt Ideal) (Rect.unit (s := S4x1536) ![3, 0] S1x128.size inb_S4x1536_S1x128_3_0).toLoadRect (harg6.unread x5)))
    (of4 (arg6.view.readAt (Elt Ideal) (Rect.unit (s := S4x1536) ![0, 128] S1x128.size inb_S4x1536_S1x128_0_128).toLoadRect (harg6.unread x5)) (arg6.view.readAt (Elt Ideal) (Rect.unit (s := S4x1536) ![1, 128] S1x128.size inb_S4x1536_S1x128_1_128).toLoadRect (harg6.unread x5)) (arg6.view.readAt (Elt Ideal) (Rect.unit (s := S4x1536) ![2, 128] S1x128.size inb_S4x1536_S1x128_2_128).toLoadRect (harg6.unread x5)) (arg6.view.readAt (Elt Ideal) (Rect.unit (s := S4x1536) ![3, 128] S1x128.size inb_S4x1536_S1x128_3_128).toLoadRect (harg6.unread x5)))
    (of4 (arg6.view.readAt (Elt Ideal) (Rect.unit (s := S4x1536) ![0, 256] S1x128.size inb_S4x1536_S1x128_0_256).toLoadRect (harg6.unread x5)) (arg6.view.readAt (Elt Ideal) (Rect.unit (s := S4x1536) ![1, 256] S1x128.size inb_S4x1536_S1x128_1_256).toLoadRect (harg6.unread x5)) (arg6.view.readAt (Elt Ideal) (Rect.unit (s := S4x1536) ![2, 256] S1x128.size inb_S4x1536_S1x128_2_256).toLoadRect (harg6.unread x5)) (arg6.view.readAt (Elt Ideal) (Rect.unit (s := S4x1536) ![3, 256] S1x128.size inb_S4x1536_S1x128_3_256).toLoadRect (harg6.unread x5)))
    (of4 (arg6.view.readAt (Elt Ideal) (Rect.unit (s := S4x1536) ![0, 384] S1x128.size inb_S4x1536_S1x128_0_384).toLoadRect (harg6.unread x5)) (arg6.view.readAt (Elt Ideal) (Rect.unit (s := S4x1536) ![1, 384] S1x128.size inb_S4x1536_S1x128_1_384).toLoadRect (harg6.unread x5)) (arg6.view.readAt (Elt Ideal) (Rect.unit (s := S4x1536) ![2, 384] S1x128.size inb_S4x1536_S1x128_2_384).toLoadRect (harg6.unread x5)) (arg6.view.readAt (Elt Ideal) (Rect.unit (s := S4x1536) ![3, 384] S1x128.size inb_S4x1536_S1x128_3_384).toLoadRect (harg6.unread x5)))
    (of4 (arg6.view.readAt (Elt Ideal) (Rect.unit (s := S4x1536) ![0, 512] S1x128.size inb_S4x1536_S1x128_0_512).toLoadRect (harg6.unread x5)) (arg6.view.readAt (Elt Ideal) (Rect.unit (s := S4x1536) ![1, 512] S1x128.size inb_S4x1536_S1x128_1_512).toLoadRect (harg6.unread x5)) (arg6.view.readAt (Elt Ideal) (Rect.unit (s := S4x1536) ![2, 512] S1x128.size inb_S4x1536_S1x128_2_512).toLoadRect (harg6.unread x5)) (arg6.view.readAt (Elt Ideal) (Rect.unit (s := S4x1536) ![3, 512] S1x128.size inb_S4x1536_S1x128_3_512).toLoadRect (harg6.unread x5)))
    (of4 (arg6.view.readAt (Elt Ideal) (Rect.unit (s := S4x1536) ![0, 640] S1x128.size inb_S4x1536_S1x128_0_640).toLoadRect (harg6.unread x5)) (arg6.view.readAt (Elt Ideal) (Rect.unit (s := S4x1536) ![1, 640] S1x128.size inb_S4x1536_S1x128_1_640).toLoadRect (harg6.unread x5)) (arg6.view.readAt (Elt Ideal) (Rect.unit (s := S4x1536) ![2, 640] S1x128.size inb_S4x1536_S1x128_2_640).toLoadRect (harg6.unread x5)) (arg6.view.readAt (Elt Ideal) (Rect.unit (s := S4x1536) ![3, 640] S1x128.size inb_S4x1536_S1x128_3_640).toLoadRect (harg6.unread x5)))
    (of4 (arg6.view.readAt (Elt Ideal) (Rect.unit (s := S4x1536) ![0, 768] S1x128.size inb_S4x1536_S1x128_0_768).toLoadRect (harg6.unread x5)) (arg6.view.readAt (Elt Ideal) (Rect.unit (s := S4x1536) ![1, 768] S1x128.size inb_S4x1536_S1x128_1_768).toLoadRect (harg6.unread x5)) (arg6.view.readAt (Elt Ideal) (Rect.unit (s := S4x1536) ![2, 768] S1x128.size inb_S4x1536_S1x128_2_768).toLoadRect (harg6.unread x5)) (arg6.view.readAt (Elt Ideal) (Rect.unit (s := S4x1536) ![3, 768] S1x128.size inb_S4x1536_S1x128_3_768).toLoadRect (harg6.unread x5)))
    (of4 (arg6.view.readAt (Elt Ideal) (Rect.unit (s := S4x1536) ![0, 896] S1x128.size inb_S4x1536_S1x128_0_896).toLoadRect (harg6.unread x5)) (arg6.view.readAt (Elt Ideal) (Rect.unit (s := S4x1536) ![1, 896] S1x128.size inb_S4x1536_S1x128_1_896).toLoadRect (harg6.unread x5)) (arg6.view.readAt (Elt Ideal) (Rect.unit (s := S4x1536) ![2, 896] S1x128.size inb_S4x1536_S1x128_2_896).toLoadRect (harg6.unread x5)) (arg6.view.readAt (Elt Ideal) (Rect.unit (s := S4x1536) ![3, 896] S1x128.size inb_S4x1536_S1x128_3_896).toLoadRect (harg6.unread x5)))
    (of4 (arg6.view.readAt (Elt Ideal) (Rect.unit (s := S4x1536) ![0, 1024] S1x128.size inb_S4x1536_S1x128_0_1024).toLoadRect (harg6.unread x5)) (arg6.view.readAt (Elt Ideal) (Rect.unit (s := S4x1536) ![1, 1024] S1x128.size inb_S4x1536_S1x128_1_1024).toLoadRect (harg6.unread x5)) (arg6.view.readAt (Elt Ideal) (Rect.unit (s := S4x1536) ![2, 1024] S1x128.size inb_S4x1536_S1x128_2_1024).toLoadRect (harg6.unread x5)) (arg6.view.readAt (Elt Ideal) (Rect.unit (s := S4x1536) ![3, 1024] S1x128.size inb_S4x1536_S1x128_3_1024).toLoadRect (harg6.unread x5)))
    (of4 (arg6.view.readAt (Elt Ideal) (Rect.unit (s := S4x1536) ![0, 1152] S1x128.size inb_S4x1536_S1x128_0_1152).toLoadRect (harg6.unread x5)) (arg6.view.readAt (Elt Ideal) (Rect.unit (s := S4x1536) ![1, 1152] S1x128.size inb_S4x1536_S1x128_1_1152).toLoadRect (harg6.unread x5)) (arg6.view.readAt (Elt Ideal) (Rect.unit (s := S4x1536) ![2, 1152] S1x128.size inb_S4x1536_S1x128_2_1152).toLoadRect (harg6.unread x5)) (arg6.view.readAt (Elt Ideal) (Rect.unit (s := S4x1536) ![3, 1152] S1x128.size inb_S4x1536_S1x128_3_1152).toLoadRect (harg6.unread x5)))
    (of4 (arg6.view.readAt (Elt Ideal) (Rect.unit (s := S4x1536) ![0, 1280] S1x128.size inb_S4x1536_S1x128_0_1280).toLoadRect (harg6.unread x5)) (arg6.view.readAt (Elt Ideal) (Rect.unit (s := S4x1536) ![1, 1280] S1x128.size inb_S4x1536_S1x128_1_1280).toLoadRect (harg6.unread x5)) (arg6.view.readAt (Elt Ideal) (Rect.unit (s := S4x1536) ![2, 1280] S1x128.size inb_S4x1536_S1x128_2_1280).toLoadRect (harg6.unread x5)) (arg6.view.readAt (Elt Ideal) (Rect.unit (s := S4x1536) ![3, 1280] S1x128.size inb_S4x1536_S1x128_3_1280).toLoadRect (harg6.unread x5)))
    (of4 (arg6.view.readAt (Elt Ideal) (Rect.unit (s := S4x1536) ![0, 1408] S1x128.size inb_S4x1536_S1x128_0_1408).toLoadRect (harg6.unread x5)) (arg6.view.readAt (Elt Ideal) (Rect.unit (s := S4x1536) ![1, 1408] S1x128.size inb_S4x1536_S1x128_1_1408).toLoadRect (harg6.unread x5)) (arg6.view.readAt (Elt Ideal) (Rect.unit (s := S4x1536) ![2, 1408] S1x128.size inb_S4x1536_S1x128_2_1408).toLoadRect (harg6.unread x5)) (arg6.view.readAt (Elt Ideal) (Rect.unit (s := S4x1536) ![3, 1408] S1x128.size inb_S4x1536_S1x128_3_1408).toLoadRect (harg6.unread x5)))
  tap := of12
    (of4 (sl.v51 (F := Ideal) c arg23 arg25 harg25 xs5) (sl.v59 (F := Ideal) c arg23 arg25 harg25 xs5) (sl.v66 (F := Ideal) c arg23 arg25 harg25 xs5) (sl.v73 (F := Ideal) c arg23 arg25 harg25 xs5))
    (of4 (sl.v99 (F := Ideal) c arg23 arg25 harg25 xs5) (sl.v107 (F := Ideal) c arg23 arg25 harg25 xs5) (sl.v114 (F := Ideal) c arg23 arg25 harg25 xs5) (sl.v121 (F := Ideal) c arg23 arg25 harg25 xs5))
    (of4 (sl.v147 (F := Ideal) c arg23 arg25 harg25 xs5) (sl.v155 (F := Ideal) c arg23 arg25 harg25 xs5) (sl.v162 (F := Ideal) c arg23 arg25 harg25 xs5) (sl.v169 (F := Ideal) c arg23 arg25 harg25 xs5))
    (of4 (sl.v195 (F := Ideal) c arg23 arg25 harg25 xs5) (sl.v203 (F := Ideal) c arg23 arg25 harg25 xs5) (sl.v210 (F := Ideal) c arg23 arg25 harg25 xs5) (sl.v217 (F := Ideal) c arg23 arg25 harg25 xs5))
    (of4 (sl.v243 (F := Ideal) c arg23 arg25 harg25 xs5) (sl.v251 (F := Ideal) c arg23 arg25 harg25 xs5) (sl.v258 (F := Ideal) c arg23 arg25 harg25 xs5) (sl.v265 (F := Ideal) c arg23 arg25 harg25 xs5))
    (of4 (sl.v291 (F := Ideal) c arg23 arg25 harg25 xs5) (sl.v299 (F := Ideal) c arg23 arg25 harg25 xs5) (sl.v306 (F := Ideal) c arg23 arg25 harg25 xs5) (sl.v313 (F := Ideal) c arg23 arg25 harg25 xs5))
    (of4 (sl.v339 (F := Ideal) c arg23 arg25 harg25 xs5) (sl.v347 (F := Ideal) c arg23 arg25 harg25 xs5) (sl.v354 (F := Ideal) c arg23 arg25 harg25 xs5) (sl.v361 (F := Ideal) c arg23 arg25 harg25 xs5))
    (of4 (sl.v387 (F := Ideal) c arg23 arg25 harg25 xs5) (sl.v395 (F := Ideal) c arg23 arg25 harg25 xs5) (sl.v402 (F := Ideal) c arg23 arg25 harg25 xs5) (sl.v409 (F := Ideal) c arg23 arg25 harg25 xs5))
    (of4 (sl.v435 (F := Ideal) c arg23 arg25 harg25 xs5) (sl.v443 (F := Ideal) c arg23 arg25 harg25 xs5) (sl.v450 (F := Ideal) c arg23 arg25 harg25 xs5) (sl.v457 (F := Ideal) c arg23 arg25 harg25 xs5))
    (of4 (sl.v483 (F := Ideal) c arg23 arg25 harg25 xs5) (sl.v491 (F := Ideal) c arg23 arg25 harg25 xs5) (sl.v498 (F := Ideal) c arg23 arg25 harg25 xs5) (sl.v505 (F := Ideal) c arg23 arg25 harg25 xs5))
    (of4 (sl.v531 (F := Ideal) c arg23 arg25 harg25 xs5) (sl.v539 (F := Ideal) c arg23 arg25 harg25 xs5) (sl.v546 (F := Ideal) c arg23 arg25 harg25 xs5) (sl.v553 (F := Ideal) c arg23 arg25 harg25 xs5))
    (of4 (sl.v579 (F := Ideal) c arg23 arg25 harg25 xs5) (sl.v587 (F := Ideal) c arg23 arg25 harg25 xs5) (sl.v594 (F := Ideal) c arg23 arg25 harg25 xs5) (sl.v601 (F := Ideal) c arg23 arg25 harg25 xs5))
  dtb := arg8.view.readAt (Elt Ideal) (Rect.unit (s := S1x128) ![0, 0] S1x128.size inb_S1x128_S1x128_0_0).toLoadRect (harg8.unread x7)
  al := arg9.view.readAt (Elt Ideal) (Rect.unit (s := S1x128) ![0, 0] S1x128.size inb_S1x128_S1x128_0_0).toLoadRect (harg9.unread x8)
  ds0 := arg10.view.readAt (Elt Ideal) (Rect.unit (s := S1x1024) ![0, 0] S1x512.size inb_S1x1024_S1x512_0_0).toLoadRect (harg10.unread x9)
  ds1 := arg10.view.readAt (Elt Ideal) (Rect.unit (s := S1x1024) ![0, 512] S1x512.size inb_S1x1024_S1x512_0_512).toLoadRect (harg10.unread x9)
  nw0 := arg11.view.readAt (Elt Ideal) (Rect.unit (s := S1x1024) ![0, 0] S1x512.size inb_S1x1024_S1x512_0_0).toLoadRect (harg11.unread x10)
  nw1 := arg11.view.readAt (Elt Ideal) (Rect.unit (s := S1x1024) ![0, 512] S1x512.size inb_S1x1024_S1x512_0_512).toLoadRect (harg11.unread x10)
  st0 := (sl.v947 (F := Ideal) c arg24)
  st1 := (sl.v1151 (F := Ideal) c arg6 harg6 arg7 harg7 arg8 harg8 arg9 harg9 arg23 arg24 arg25 harg25 x5 x6 x7 x8 xs5)

end Cert.MixerIdeal.Gen.kernelRun0_B

end
-- ==== Proof.SsdRunB.lean ====
module

public import proofs.«01_k».proof.Proof.SsdLoadsB

/-!
# The loads of a state space step that starts a sequence

The convolution's taps are the projected rows of this chunk and the last rows of the chunk before.
-/

@[expose] public section

set_option maxRecDepth 65536

noncomputable section

namespace Cert.MixerIdeal.Gen.kernelRun0_B

open Cert.MixerIdeal Cert.MixerIdeal.Gen Cert.MixerIdeal.XBuf Cert.MixerIdeal.Terms Cert.Ssd
open Idealize.ShloMosaic Idealize.ShloMosaic.TcCoe

section

variable {c : Dev nD} {arg6 : Memref sig .tc .vmem S4x1536 .f32} {harg6 : arg6.IsWhole} {arg7 : Memref sig .tc .vmem S1x1536 .f32} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024 .f32} {harg10 : arg10.IsWhole} {arg11 : Memref sig .tc .vmem S1x1024 .f32} {harg11 : arg11.IsWhole} {arg23 : Memref sig .tc .vmem S12x264x128 .f32} {harg23 : arg23.IsWhole} {arg24 : Memref sig .tc .vmem S2x128x512 .f32} {harg24 : arg24.IsWhole} {arg25 : Memref sig .tc .vmem S256x6784 .f32} {harg25 : arg25.IsWhole} {x5 : Vec Ideal S4x1536 .f32} {x6 : Vec Ideal S1x1536 .f32} {x7 : Vec Ideal S1x128 .f32} {x8 : Vec Ideal S1x128 .f32} {x9 : Vec Ideal S1x1024 .f32} {x10 : Vec Ideal S1x1024 .f32} {xs5 : Vec Ideal S256x6784 .f32}
  {I : In} {b j : ℕ} (hj : j = 0) (A : Args I x5 x6 x7 x8 x9 x10) (hpj : PjOk I b j xs5)

include hj hpj

theorem pj_at (r : Fin 256) (q : Fin 2688) (hq : q.val < 2576) :
    arg25.view.readAt (Elt Ideal) (Rect.unit (s := S256x6784) ![0, 4096] S256x2688.size inb_S256x6784_S256x2688_0_4096).toLoadRect (harg25.unread xs5) (ix2 r q) = I.proj b (256 * j + r.val) (4096 + q.val) := by
  refine (load2 arg25.view _ 256 2688 0 4096 _ r q).trans ?_
  rw [Memref.IsWhole.read_unread]
  have := hpj r q hq
  exact (congrArg xs5 (congrArg₂ ix2 (Fin.ext (Nat.zero_add r.val)) rfl)).trans this

theorem slab_at (s : ℕ) (hs : s < 12) (d : Fin 256) (l : Fin 128) :
    (sl.v41 (F := Ideal) c arg25 harg25 xs5) (ix2 d ⟨128 * s + l.val, by omega⟩) = I.pre b (256 * j + (8 + d.val)) (128 * s + l.val) := by
  have e : (sl.v41 (F := Ideal) c arg25 harg25 xs5) (ix2 d ⟨128 * s + l.val, by omega⟩)
      = arg25.view.readAt (Elt Ideal) (Rect.unit (s := S256x6784) ![0, 4096] S256x2688.size inb_S256x6784_S256x2688_0_4096).toLoadRect (harg25.unread xs5) (ix2 d ⟨1024 + (128 * s + l.val), by omega⟩) := by
    unfold sl.v41
    pointwise
  rw [e, pj_at hj hpj d _ (by dsimp only; omega)]
  unfold In.pre
  rw [if_neg (by omega)]
  exact congrArg₂ (I.proj b) (by omega) (by dsimp only; omega)

theorem row0_at (d : Fin 256) (l : Fin 128) : ((sl.v46 (F := Ideal) c arg25 harg25 xs5)) (ix3 0 d l) = I.pre b (256 * j + (8 + d.val)) (0 + l.val) := by
  refine Eq.trans ?_ (slab_at (c := c) (harg25 := harg25) hj hpj 0 (by decide) d l)
  pointwise [sl.v46, sl.v43]

theorem filled0 (f : arg23.view.ty.Contents (Elt Ideal)) : Filled arg23.view f (sl.HS3_2 (F := Ideal) c arg25 harg25 xs5) 0 (fun s d l => I.pre b (256 * j + d) (128 * s + l)) True :=
  Filled.first _ _ (row0_at hj hpj) fun _ s d l h8 => by
    refine (in3 arg23.view f 12 8 128 0 0 0 _ _ [] s d l (by omega) (by omega) (by omega)).trans ?_
    have e : I.pre b (256 * j + d.val) (128 * s.val + l.val) = 0 := by
      unfold In.pre
      rw [hj, if_pos (by omega)]
    rw [e]
    unfold sl.v4488 sl.v4485 sl.cst_1540
    pointwise

theorem row1_at (d : Fin 256) (l : Fin 128) : (k0_pay30 (F := Ideal) (sl.v41 (F := Ideal) c arg25 harg25 xs5)) (ix3 0 d l) = I.pre b (256 * j + (8 + d.val)) (128 + l.val) := by
  refine Eq.trans ?_ (slab_at (c := c) (harg25 := harg25) hj hpj 1 (by decide) d l)
  pointwise [k0_pay30]

theorem keep1_at (d : Fin 8) (l : Fin 128) : (k0_pay28 (F := Ideal) (sl.v78 (F := Ideal) c arg23 arg25 harg25 xs5)) (ix3 0 d l) = I.pre b (256 * j + (256 + d.val)) (0 + l.val) := by
  have e : (k0_pay28 (F := Ideal) (sl.v78 (F := Ideal) c arg23 arg25 harg25 xs5)) (ix3 0 d l) = (sl.v78 (F := Ideal) c arg23 arg25 harg25 xs5) (ix3 0 d l) := by
    pointwise [k0_pay28]
  exact e.trans ((filled0 (c := c) (harg25 := harg25) hj hpj arg23.view.junk).tail (by decide) _ d l)

theorem filled1 (f : arg23.view.ty.Contents (Elt Ideal)) : Filled arg23.view f (sl.HS3_4 (F := Ideal) c arg23 arg25 harg25 xs5) 1 (fun s d l => I.pre b (256 * j + d) (128 * s + l)) True :=
  Filled.next (by decide) (filled0 hj hpj f) _ _ _ _ (row1_at hj hpj) (keep1_at hj hpj)

theorem row2_at (d : Fin 256) (l : Fin 128) : ((sl.v142 (F := Ideal) c arg25 harg25 xs5)) (ix3 0 d l) = I.pre b (256 * j + (8 + d.val)) (256 + l.val) := by
  refine Eq.trans ?_ (slab_at (c := c) (harg25 := harg25) hj hpj 2 (by decide) d l)
  pointwise [sl.v142, sl.v139]

theorem keep2_at (d : Fin 8) (l : Fin 128) : (k0_pay34 (F := Ideal) (sl.v126 (F := Ideal) c arg23 arg25 harg25 xs5)) (ix3 0 d l) = I.pre b (256 * j + (256 + d.val)) (128 + l.val) := by
  have e : (k0_pay34 (F := Ideal) (sl.v126 (F := Ideal) c arg23 arg25 harg25 xs5)) (ix3 0 d l) = (sl.v126 (F := Ideal) c arg23 arg25 harg25 xs5) (ix3 0 d l) := by
    pointwise [k0_pay34]
  exact e.trans ((filled1 (c := c) (harg25 := harg25) hj hpj arg23.view.junk).tail (by decide) _ d l)

theorem filled2 (f : arg23.view.ty.Contents (Elt Ideal)) : Filled arg23.view f (sl.HS3_6 (F := Ideal) c arg23 arg25 harg25 xs5) 2 (fun s d l => I.pre b (256 * j + d) (128 * s + l)) True :=
  Filled.next (by decide) (filled1 hj hpj f) _ _ _ _ (row2_at hj hpj) (keep2_at hj hpj)

theorem row3_at (d : Fin 256) (l : Fin 128) : (k0_pay43 (F := Ideal) (sl.v41 (F := Ideal) c arg25 harg25 xs5)) (ix3 0 d l) = I.pre b (256 * j + (8 + d.val)) (384 + l.val) := by
  refine Eq.trans ?_ (slab_at (c := c) (harg25 := harg25) hj hpj 3 (by decide) d l)
  pointwise [k0_pay43]

theorem keep3_at (d : Fin 8) (l : Fin 128) : (k0_pay41 (F := Ideal) (sl.v174 (F := Ideal) c arg23 arg25 harg25 xs5)) (ix3 0 d l) = I.pre b (256 * j + (256 + d.val)) (256 + l.val) := by
  have e : (k0_pay41 (F := Ideal) (sl.v174 (F := Ideal) c arg23 arg25 harg25 xs5)) (ix3 0 d l) = (sl.v174 (F := Ideal) c arg23 arg25 harg25 xs5) (ix3 0 d l) := by
    pointwise [k0_pay41]
  exact e.trans ((filled2 (c := c) (harg25 := harg25) hj hpj arg23.view.junk).tail (by decide) _ d l)

theorem filled3 (f : arg23.view.ty.Contents (Elt Ideal)) : Filled arg23.view f (sl.HS3_8 (F := Ideal) c arg23 arg25 harg25 xs5) 3 (fun s d l => I.pre b (256 * j + d) (128 * s + l)) True :=
  Filled.next (by decide) (filled2 hj hpj f) _ _ _ _ (row3_at hj hpj) (keep3_at hj hpj)

theorem row4_at (d : Fin 256) (l : Fin 128) : ((sl.r_9 (F := Ideal) c arg25 harg25 xs5)) (ix3 0 d l) = I.pre b (256 * j + (8 + d.val)) (512 + l.val) := by
  refine Eq.trans ?_ (slab_at (c := c) (harg25 := harg25) hj hpj 4 (by decide) d l)
  pointwise [sl.r_9, k0_pay48]

theorem keep4_at (d : Fin 8) (l : Fin 128) : (k0_pay46 (F := Ideal) (sl.v222 (F := Ideal) c arg23 arg25 harg25 xs5)) (ix3 0 d l) = I.pre b (256 * j + (256 + d.val)) (384 + l.val) := by
  have e : (k0_pay46 (F := Ideal) (sl.v222 (F := Ideal) c arg23 arg25 harg25 xs5)) (ix3 0 d l) = (sl.v222 (F := Ideal) c arg23 arg25 harg25 xs5) (ix3 0 d l) := by
    pointwise [k0_pay46]
  exact e.trans ((filled3 (c := c) (harg25 := harg25) hj hpj arg23.view.junk).tail (by decide) _ d l)

theorem filled4 (f : arg23.view.ty.Contents (Elt Ideal)) : Filled arg23.view f (sl.HS3_10 (F := Ideal) c arg23 arg25 harg25 xs5) 4 (fun s d l => I.pre b (256 * j + d) (128 * s + l)) True :=
  Filled.next (by decide) (filled3 hj hpj f) _ _ _ _ (row4_at hj hpj) (keep4_at hj hpj)

theorem row5_at (d : Fin 256) (l : Fin 128) : (k0_pay53 (F := Ideal) (sl.v41 (F := Ideal) c arg25 harg25 xs5)) (ix3 0 d l) = I.pre b (256 * j + (8 + d.val)) (640 + l.val) := by
  refine Eq.trans ?_ (slab_at (c := c) (harg25 := harg25) hj hpj 5 (by decide) d l)
  pointwise [k0_pay53]

theorem keep5_at (d : Fin 8) (l : Fin 128) : (k0_pay51 (F := Ideal) (sl.v271 (F := Ideal) c arg23 arg25 harg25 xs5)) (ix3 0 d l) = I.pre b (256 * j + (256 + d.val)) (512 + l.val) := by
  have e : (k0_pay51 (F := Ideal) (sl.v271 (F := Ideal) c arg23 arg25 harg25 xs5)) (ix3 0 d l) = (sl.v270 (F := Ideal) c arg23 arg25 harg25 xs5) (ix3 0 d l) := by
    pointwise [k0_pay51, sl.v271]
  exact e.trans ((filled4 (c := c) (harg25 := harg25) hj hpj arg23.view.junk).tail (by decide) _ d l)

theorem filled5 (f : arg23.view.ty.Contents (Elt Ideal)) : Filled arg23.view f (sl.HS3_12 (F := Ideal) c arg23 arg25 harg25 xs5) 5 (fun s d l => I.pre b (256 * j + d) (128 * s + l)) True :=
  Filled.next (by decide) (filled4 hj hpj f) _ _ _ _ (row5_at hj hpj) (keep5_at hj hpj)

theorem row6_at (d : Fin 256) (l : Fin 128) : (k0_pay58 (F := Ideal) (sl.v41 (F := Ideal) c arg25 harg25 xs5)) (ix3 0 d l) = I.pre b (256 * j + (8 + d.val)) (768 + l.val) := by
  refine Eq.trans ?_ (slab_at (c := c) (harg25 := harg25) hj hpj 6 (by decide) d l)
  pointwise [k0_pay58]

theorem keep6_at (d : Fin 8) (l : Fin 128) : (k0_pay56 (F := Ideal) (sl.v318 (F := Ideal) c arg23 arg25 harg25 xs5)) (ix3 0 d l) = I.pre b (256 * j + (256 + d.val)) (640 + l.val) := by
  have e : (k0_pay56 (F := Ideal) (sl.v318 (F := Ideal) c arg23 arg25 harg25 xs5)) (ix3 0 d l) = (sl.v318 (F := Ideal) c arg23 arg25 harg25 xs5) (ix3 0 d l) := by
    pointwise [k0_pay56]
  exact e.trans ((filled5 (c := c) (harg25 := harg25) hj hpj arg23.view.junk).tail (by decide) _ d l)

theorem filled6 (f : arg23.view.ty.Contents (Elt Ideal)) : Filled arg23.view f (sl.HS3_14 (F := Ideal) c arg23 arg25 harg25 xs5) 6 (fun s d l => I.pre b (256 * j + d) (128 * s + l)) True :=
  Filled.next (by decide) (filled5 hj hpj f) _ _ _ _ (row6_at hj hpj) (keep6_at hj hpj)

theorem row7_at (d : Fin 256) (l : Fin 128) : ((sl.v382 (F := Ideal) c arg25 harg25 xs5)) (ix3 0 d l) = I.pre b (256 * j + (8 + d.val)) (896 + l.val) := by
  refine Eq.trans ?_ (slab_at (c := c) (harg25 := harg25) hj hpj 7 (by decide) d l)
  pointwise [sl.v382, sl.v379]

theorem keep7_at (d : Fin 8) (l : Fin 128) : (k0_pay62 (F := Ideal) (sl.v366 (F := Ideal) c arg23 arg25 harg25 xs5)) (ix3 0 d l) = I.pre b (256 * j + (256 + d.val)) (768 + l.val) := by
  have e : (k0_pay62 (F := Ideal) (sl.v366 (F := Ideal) c arg23 arg25 harg25 xs5)) (ix3 0 d l) = (sl.v366 (F := Ideal) c arg23 arg25 harg25 xs5) (ix3 0 d l) := by
    pointwise [k0_pay62]
  exact e.trans ((filled6 (c := c) (harg25 := harg25) hj hpj arg23.view.junk).tail (by decide) _ d l)

theorem filled7 (f : arg23.view.ty.Contents (Elt Ideal)) : Filled arg23.view f (sl.HS3_16 (F := Ideal) c arg23 arg25 harg25 xs5) 7 (fun s d l => I.pre b (256 * j + d) (128 * s + l)) True :=
  Filled.next (by decide) (filled6 hj hpj f) _ _ _ _ (row7_at hj hpj) (keep7_at hj hpj)

theorem row8_at (d : Fin 256) (l : Fin 128) : (k0_pay71 (F := Ideal) (sl.v41 (F := Ideal) c arg25 harg25 xs5)) (ix3 0 d l) = I.pre b (256 * j + (8 + d.val)) (1024 + l.val) := by
  refine Eq.trans ?_ (slab_at (c := c) (harg25 := harg25) hj hpj 8 (by decide) d l)
  pointwise [k0_pay71]

theorem keep8_at (d : Fin 8) (l : Fin 128) : (k0_pay69 (F := Ideal) (sl.v414 (F := Ideal) c arg23 arg25 harg25 xs5)) (ix3 0 d l) = I.pre b (256 * j + (256 + d.val)) (896 + l.val) := by
  have e : (k0_pay69 (F := Ideal) (sl.v414 (F := Ideal) c arg23 arg25 harg25 xs5)) (ix3 0 d l) = (sl.v414 (F := Ideal) c arg23 arg25 harg25 xs5) (ix3 0 d l) := by
    pointwise [k0_pay69]
  exact e.trans ((filled7 (c := c) (harg25 := harg25) hj hpj arg23.view.junk).tail (by decide) _ d l)

theorem filled8 (f : arg23.view.ty.Contents (Elt Ideal)) : Filled arg23.view f (sl.HS3_18 (F := Ideal) c arg23 arg25 harg25 xs5) 8 (fun s d l => I.pre b (256 * j + d) (128 * s + l)) True :=
  Filled.next (by decide) (filled7 hj hpj f) _ _ _ _ (row8_at hj hpj) (keep8_at hj hpj)

theorem row9_at (d : Fin 256) (l : Fin 128) : ((sl.r_22 (F := Ideal) c arg25 harg25 xs5)) (ix3 0 d l) = I.pre b (256 * j + (8 + d.val)) (1152 + l.val) := by
  refine Eq.trans ?_ (slab_at (c := c) (harg25 := harg25) hj hpj 9 (by decide) d l)
  pointwise [sl.r_22, k0_pay76]

theorem keep9_at (d : Fin 8) (l : Fin 128) : (k0_pay74 (F := Ideal) (sl.v462 (F := Ideal) c arg23 arg25 harg25 xs5)) (ix3 0 d l) = I.pre b (256 * j + (256 + d.val)) (1024 + l.val) := by
  have e : (k0_pay74 (F := Ideal) (sl.v462 (F := Ideal) c arg23 arg25 harg25 xs5)) (ix3 0 d l) = (sl.v462 (F := Ideal) c arg23 arg25 harg25 xs5) (ix3 0 d l) := by
    pointwise [k0_pay74]
  exact e.trans ((filled8 (c := c) (harg25 := harg25) hj hpj arg23.view.junk).tail (by decide) _ d l)

theorem filled9 (f : arg23.view.ty.Contents (Elt Ideal)) : Filled arg23.view f (sl.HS3_20 (F := Ideal) c arg23 arg25 harg25 xs5) 9 (fun s d l => I.pre b (256 * j + d) (128 * s + l)) True :=
  Filled.next (by decide) (filled8 hj hpj f) _ _ _ _ (row9_at hj hpj) (keep9_at hj hpj)

theorem row10_at (d : Fin 256) (l : Fin 128) : (k0_pay81 (F := Ideal) (sl.v41 (F := Ideal) c arg25 harg25 xs5)) (ix3 0 d l) = I.pre b (256 * j + (8 + d.val)) (1280 + l.val) := by
  refine Eq.trans ?_ (slab_at (c := c) (harg25 := harg25) hj hpj 10 (by decide) d l)
  pointwise [k0_pay81]

theorem keep10_at (d : Fin 8) (l : Fin 128) : (k0_pay79 (F := Ideal) (sl.v511 (F := Ideal) c arg23 arg25 harg25 xs5)) (ix3 0 d l) = I.pre b (256 * j + (256 + d.val)) (1152 + l.val) := by
  have e : (k0_pay79 (F := Ideal) (sl.v511 (F := Ideal) c arg23 arg25 harg25 xs5)) (ix3 0 d l) = (sl.v510 (F := Ideal) c arg23 arg25 harg25 xs5) (ix3 0 d l) := by
    pointwise [k0_pay79, sl.v511]
  exact e.trans ((filled9 (c := c) (harg25 := harg25) hj hpj arg23.view.junk).tail (by decide) _ d l)

theorem filled10 (f : arg23.view.ty.Contents (Elt Ideal)) : Filled arg23.view f (sl.HS3_22 (F := Ideal) c arg23 arg25 harg25 xs5) 10 (fun s d l => I.pre b (256 * j + d) (128 * s + l)) True :=
  Filled.next (by decide) (filled9 hj hpj f) _ _ _ _ (row10_at hj hpj) (keep10_at hj hpj)

theorem row11_at (d : Fin 256) (l : Fin 128) : (k0_pay86 (F := Ideal) (sl.v41 (F := Ideal) c arg25 harg25 xs5)) (ix3 0 d l) = I.pre b (256 * j + (8 + d.val)) (1408 + l.val) := by
  refine Eq.trans ?_ (slab_at (c := c) (harg25 := harg25) hj hpj 11 (by decide) d l)
  pointwise [k0_pay86]

theorem keep11_at (d : Fin 8) (l : Fin 128) : (k0_pay84 (F := Ideal) (sl.v558 (F := Ideal) c arg23 arg25 harg25 xs5)) (ix3 0 d l) = I.pre b (256 * j + (256 + d.val)) (1280 + l.val) := by
  have e : (k0_pay84 (F := Ideal) (sl.v558 (F := Ideal) c arg23 arg25 harg25 xs5)) (ix3 0 d l) = (sl.v558 (F := Ideal) c arg23 arg25 harg25 xs5) (ix3 0 d l) := by
    pointwise [k0_pay84]
  exact e.trans ((filled10 (c := c) (harg25 := harg25) hj hpj arg23.view.junk).tail (by decide) _ d l)

theorem filled11 (f : arg23.view.ty.Contents (Elt Ideal)) : Filled arg23.view f (sl.HS3_24 (F := Ideal) c arg23 arg25 harg25 xs5) 11 (fun s d l => I.pre b (256 * j + d) (128 * s + l)) True :=
  Filled.next (by decide) (filled10 hj hpj f) _ _ _ _ (row11_at hj hpj) (keep11_at hj hpj)

omit hj hpj in
theorem cleared_at (g : Fin 2) (n : Fin 128) (k : Fin 512) :
    arg24.view.read (Elt Ideal) (arg24.view.writes (Elt Ideal) arg24.view.junk (sl.HS4_1 (F := Ideal))) (ix3 g n k) = 0 := by
  refine (in3 arg24.view _ 2 128 512 0 0 0 _ _ [] g n k (by omega) (by omega) (by omega)).trans ?_
  unfold sl.v4484 sl.v4481 sl.cst_1540
  pointwise

theorem bias0_at (A : Args I x5 x6 x7 x8 x9 x10) (l : Fin 128) : arg7.view.readAt (Elt Ideal) (Rect.unit (s := S1x1536) ![0, 0] S1x128.size inb_S1x1536_S1x128_0_0).toLoadRect (harg7.unread x6) (ix2 0 l) = I.cb (0 + l.val) :=
  (load2 arg7.view _ 1 128 0 0 _ 0 l).trans (by rw [Memref.IsWhole.read_unread]; exact (congrArg (fun q => x6 (ix2 0 q)) (Fin.ext (Nat.zero_add l.val))).trans ((A.cb ⟨l.val, by omega⟩).trans (congrArg I.cb (Nat.zero_add l.val).symm)))

theorem w0_0_at (A : Args I x5 x6 x7 x8 x9 x10) (l : Fin 128) : arg6.view.readAt (Elt Ideal) (Rect.unit (s := S4x1536) ![0, 0] S1x128.size inb_S4x1536_S1x128_0_0).toLoadRect (harg6.unread x5) (ix2 0 l) = I.cw 0 (0 + l.val) :=
  (load2 arg6.view _ 1 128 0 0 _ 0 l).trans (by rw [Memref.IsWhole.read_unread]; exact (congrArg (fun q => x5 (ix2 (0 : Fin 4) q)) (Fin.ext (Nat.zero_add l.val))).trans ((A.cw 0 ⟨l.val, by omega⟩).trans (congrArg (I.cw 0) (Nat.zero_add l.val).symm)))

theorem tap0_0_at (r : Fin 256) (l : Fin 128) : (sl.v51 (F := Ideal) c arg23 arg25 harg25 xs5) (ix3 0 r l) = I.pre b (256 * j + (5 + 0 + r.val)) (0 + l.val) :=
  (filled0 (c := c) (harg25 := harg25) hj hpj arg23.view.junk).tap trivial 5 (by decide) (by decide) _ r l

theorem w0_1_at (A : Args I x5 x6 x7 x8 x9 x10) (l : Fin 128) : arg6.view.readAt (Elt Ideal) (Rect.unit (s := S4x1536) ![1, 0] S1x128.size inb_S4x1536_S1x128_1_0).toLoadRect (harg6.unread x5) (ix2 0 l) = I.cw 1 (0 + l.val) :=
  (load2 arg6.view _ 1 128 1 0 _ 0 l).trans (by rw [Memref.IsWhole.read_unread]; exact (congrArg (fun q => x5 (ix2 (1 : Fin 4) q)) (Fin.ext (Nat.zero_add l.val))).trans ((A.cw 1 ⟨l.val, by omega⟩).trans (congrArg (I.cw 1) (Nat.zero_add l.val).symm)))

theorem tap0_1_at (r : Fin 256) (l : Fin 128) : (sl.v59 (F := Ideal) c arg23 arg25 harg25 xs5) (ix3 0 r l) = I.pre b (256 * j + (5 + 1 + r.val)) (0 + l.val) :=
  (filled0 (c := c) (harg25 := harg25) hj hpj arg23.view.junk).tap trivial 6 (by decide) (by decide) _ r l

theorem w0_2_at (A : Args I x5 x6 x7 x8 x9 x10) (l : Fin 128) : arg6.view.readAt (Elt Ideal) (Rect.unit (s := S4x1536) ![2, 0] S1x128.size inb_S4x1536_S1x128_2_0).toLoadRect (harg6.unread x5) (ix2 0 l) = I.cw 2 (0 + l.val) :=
  (load2 arg6.view _ 1 128 2 0 _ 0 l).trans (by rw [Memref.IsWhole.read_unread]; exact (congrArg (fun q => x5 (ix2 (2 : Fin 4) q)) (Fin.ext (Nat.zero_add l.val))).trans ((A.cw 2 ⟨l.val, by omega⟩).trans (congrArg (I.cw 2) (Nat.zero_add l.val).symm)))

theorem tap0_2_at (r : Fin 256) (l : Fin 128) : (sl.v66 (F := Ideal) c arg23 arg25 harg25 xs5) (ix3 0 r l) = I.pre b (256 * j + (5 + 2 + r.val)) (0 + l.val) :=
  (filled0 (c := c) (harg25 := harg25) hj hpj arg23.view.junk).tap trivial 7 (by decide) (by decide) _ r l

theorem w0_3_at (A : Args I x5 x6 x7 x8 x9 x10) (l : Fin 128) : arg6.view.readAt (Elt Ideal) (Rect.unit (s := S4x1536) ![3, 0] S1x128.size inb_S4x1536_S1x128_3_0).toLoadRect (harg6.unread x5) (ix2 0 l) = I.cw 3 (0 + l.val) :=
  (load2 arg6.view _ 1 128 3 0 _ 0 l).trans (by rw [Memref.IsWhole.read_unread]; exact (congrArg (fun q => x5 (ix2 (3 : Fin 4) q)) (Fin.ext (Nat.zero_add l.val))).trans ((A.cw 3 ⟨l.val, by omega⟩).trans (congrArg (I.cw 3) (Nat.zero_add l.val).symm)))

theorem tap0_3_at (r : Fin 256) (l : Fin 128) : (sl.v73 (F := Ideal) c arg23 arg25 harg25 xs5) (ix3 0 r l) = I.pre b (256 * j + (5 + 3 + r.val)) (0 + l.val) :=
  (filled0 (c := c) (harg25 := harg25) hj hpj arg23.view.junk).tap trivial 8 (by decide) (by decide) _ r l

theorem bias1_at (A : Args I x5 x6 x7 x8 x9 x10) (l : Fin 128) : arg7.view.readAt (Elt Ideal) (Rect.unit (s := S1x1536) ![0, 128] S1x128.size inb_S1x1536_S1x128_0_128).toLoadRect (harg7.unread x6) (ix2 0 l) = I.cb (128 + l.val) :=
  (load2 arg7.view _ 1 128 0 128 _ 0 l).trans (by rw [Memref.IsWhole.read_unread]; exact A.cb ⟨128 + l.val, by omega⟩)

theorem w1_0_at (A : Args I x5 x6 x7 x8 x9 x10) (l : Fin 128) : arg6.view.readAt (Elt Ideal) (Rect.unit (s := S4x1536) ![0, 128] S1x128.size inb_S4x1536_S1x128_0_128).toLoadRect (harg6.unread x5) (ix2 0 l) = I.cw 0 (128 + l.val) :=
  (load2 arg6.view _ 1 128 0 128 _ 0 l).trans (by rw [Memref.IsWhole.read_unread]; exact A.cw 0 ⟨128 + l.val, by omega⟩)

theorem tap1_0_at (r : Fin 256) (l : Fin 128) : (sl.v99 (F := Ideal) c arg23 arg25 harg25 xs5) (ix3 0 r l) = I.pre b (256 * j + (5 + 0 + r.val)) (128 + l.val) :=
  (filled1 (c := c) (harg25 := harg25) hj hpj arg23.view.junk).tap trivial 5 (by decide) (by decide) _ r l

theorem w1_1_at (A : Args I x5 x6 x7 x8 x9 x10) (l : Fin 128) : arg6.view.readAt (Elt Ideal) (Rect.unit (s := S4x1536) ![1, 128] S1x128.size inb_S4x1536_S1x128_1_128).toLoadRect (harg6.unread x5) (ix2 0 l) = I.cw 1 (128 + l.val) :=
  (load2 arg6.view _ 1 128 1 128 _ 0 l).trans (by rw [Memref.IsWhole.read_unread]; exact A.cw 1 ⟨128 + l.val, by omega⟩)

theorem tap1_1_at (r : Fin 256) (l : Fin 128) : (sl.v107 (F := Ideal) c arg23 arg25 harg25 xs5) (ix3 0 r l) = I.pre b (256 * j + (5 + 1 + r.val)) (128 + l.val) :=
  (filled1 (c := c) (harg25 := harg25) hj hpj arg23.view.junk).tap trivial 6 (by decide) (by decide) _ r l

theorem w1_2_at (A : Args I x5 x6 x7 x8 x9 x10) (l : Fin 128) : arg6.view.readAt (Elt Ideal) (Rect.unit (s := S4x1536) ![2, 128] S1x128.size inb_S4x1536_S1x128_2_128).toLoadRect (harg6.unread x5) (ix2 0 l) = I.cw 2 (128 + l.val) :=
  (load2 arg6.view _ 1 128 2 128 _ 0 l).trans (by rw [Memref.IsWhole.read_unread]; exact A.cw 2 ⟨128 + l.val, by omega⟩)

theorem tap1_2_at (r : Fin 256) (l : Fin 128) : (sl.v114 (F := Ideal) c arg23 arg25 harg25 xs5) (ix3 0 r l) = I.pre b (256 * j + (5 + 2 + r.val)) (128 + l.val) :=
  (filled1 (c := c) (harg25 := harg25) hj hpj arg23.view.junk).tap trivial 7 (by decide) (by decide) _ r l

theorem w1_3_at (A : Args I x5 x6 x7 x8 x9 x10) (l : Fin 128) : arg6.view.readAt (Elt Ideal) (Rect.unit (s := S4x1536) ![3, 128] S1x128.size inb_S4x1536_S1x128_3_128).toLoadRect (harg6.unread x5) (ix2 0 l) = I.cw 3 (128 + l.val) :=
  (load2 arg6.view _ 1 128 3 128 _ 0 l).trans (by rw [Memref.IsWhole.read_unread]; exact A.cw 3 ⟨128 + l.val, by omega⟩)

theorem tap1_3_at (r : Fin 256) (l : Fin 128) : (sl.v121 (F := Ideal) c arg23 arg25 harg25 xs5) (ix3 0 r l) = I.pre b (256 * j + (5 + 3 + r.val)) (128 + l.val) :=
  (filled1 (c := c) (harg25 := harg25) hj hpj arg23.view.junk).tap trivial 8 (by decide) (by decide) _ r l

theorem bias2_at (A : Args I x5 x6 x7 x8 x9 x10) (l : Fin 128) : arg7.view.readAt (Elt Ideal) (Rect.unit (s := S1x1536) ![0, 256] S1x128.size inb_S1x1536_S1x128_0_256).toLoadRect (harg7.unread x6) (ix2 0 l) = I.cb (256 + l.val) :=
  (load2 arg7.view _ 1 128 0 256 _ 0 l).trans (by rw [Memref.IsWhole.read_unread]; exact A.cb ⟨256 + l.val, by omega⟩)

theorem w2_0_at (A : Args I x5 x6 x7 x8 x9 x10) (l : Fin 128) : arg6.view.readAt (Elt Ideal) (Rect.unit (s := S4x1536) ![0, 256] S1x128.size inb_S4x1536_S1x128_0_256).toLoadRect (harg6.unread x5) (ix2 0 l) = I.cw 0 (256 + l.val) :=
  (load2 arg6.view _ 1 128 0 256 _ 0 l).trans (by rw [Memref.IsWhole.read_unread]; exact A.cw 0 ⟨256 + l.val, by omega⟩)

theorem tap2_0_at (r : Fin 256) (l : Fin 128) : (sl.v147 (F := Ideal) c arg23 arg25 harg25 xs5) (ix3 0 r l) = I.pre b (256 * j + (5 + 0 + r.val)) (256 + l.val) :=
  (filled2 (c := c) (harg25 := harg25) hj hpj arg23.view.junk).tap trivial 5 (by decide) (by decide) _ r l

theorem w2_1_at (A : Args I x5 x6 x7 x8 x9 x10) (l : Fin 128) : arg6.view.readAt (Elt Ideal) (Rect.unit (s := S4x1536) ![1, 256] S1x128.size inb_S4x1536_S1x128_1_256).toLoadRect (harg6.unread x5) (ix2 0 l) = I.cw 1 (256 + l.val) :=
  (load2 arg6.view _ 1 128 1 256 _ 0 l).trans (by rw [Memref.IsWhole.read_unread]; exact A.cw 1 ⟨256 + l.val, by omega⟩)

theorem tap2_1_at (r : Fin 256) (l : Fin 128) : (sl.v155 (F := Ideal) c arg23 arg25 harg25 xs5) (ix3 0 r l) = I.pre b (256 * j + (5 + 1 + r.val)) (256 + l.val) :=
  (filled2 (c := c) (harg25 := harg25) hj hpj arg23.view.junk).tap trivial 6 (by decide) (by decide) _ r l

theorem w2_2_at (A : Args I x5 x6 x7 x8 x9 x10) (l : Fin 128) : arg6.view.readAt (Elt Ideal) (Rect.unit (s := S4x1536) ![2, 256] S1x128.size inb_S4x1536_S1x128_2_256).toLoadRect (harg6.unread x5) (ix2 0 l) = I.cw 2 (256 + l.val) :=
  (load2 arg6.view _ 1 128 2 256 _ 0 l).trans (by rw [Memref.IsWhole.read_unread]; exact A.cw 2 ⟨256 + l.val, by omega⟩)

theorem tap2_2_at (r : Fin 256) (l : Fin 128) : (sl.v162 (F := Ideal) c arg23 arg25 harg25 xs5) (ix3 0 r l) = I.pre b (256 * j + (5 + 2 + r.val)) (256 + l.val) :=
  (filled2 (c := c) (harg25 := harg25) hj hpj arg23.view.junk).tap trivial 7 (by decide) (by decide) _ r l

theorem w2_3_at (A : Args I x5 x6 x7 x8 x9 x10) (l : Fin 128) : arg6.view.readAt (Elt Ideal) (Rect.unit (s := S4x1536) ![3, 256] S1x128.size inb_S4x1536_S1x128_3_256).toLoadRect (harg6.unread x5) (ix2 0 l) = I.cw 3 (256 + l.val) :=
  (load2 arg6.view _ 1 128 3 256 _ 0 l).trans (by rw [Memref.IsWhole.read_unread]; exact A.cw 3 ⟨256 + l.val, by omega⟩)

theorem tap2_3_at (r : Fin 256) (l : Fin 128) : (sl.v169 (F := Ideal) c arg23 arg25 harg25 xs5) (ix3 0 r l) = I.pre b (256 * j + (5 + 3 + r.val)) (256 + l.val) :=
  (filled2 (c := c) (harg25 := harg25) hj hpj arg23.view.junk).tap trivial 8 (by decide) (by decide) _ r l

theorem bias3_at (A : Args I x5 x6 x7 x8 x9 x10) (l : Fin 128) : arg7.view.readAt (Elt Ideal) (Rect.unit (s := S1x1536) ![0, 384] S1x128.size inb_S1x1536_S1x128_0_384).toLoadRect (harg7.unread x6) (ix2 0 l) = I.cb (384 + l.val) :=
  (load2 arg7.view _ 1 128 0 384 _ 0 l).trans (by rw [Memref.IsWhole.read_unread]; exact A.cb ⟨384 + l.val, by omega⟩)

theorem w3_0_at (A : Args I x5 x6 x7 x8 x9 x10) (l : Fin 128) : arg6.view.readAt (Elt Ideal) (Rect.unit (s := S4x1536) ![0, 384] S1x128.size inb_S4x1536_S1x128_0_384).toLoadRect (harg6.unread x5) (ix2 0 l) = I.cw 0 (384 + l.val) :=
  (load2 arg6.view _ 1 128 0 384 _ 0 l).trans (by rw [Memref.IsWhole.read_unread]; exact A.cw 0 ⟨384 + l.val, by omega⟩)

theorem tap3_0_at (r : Fin 256) (l : Fin 128) : (sl.v195 (F := Ideal) c arg23 arg25 harg25 xs5) (ix3 0 r l) = I.pre b (256 * j + (5 + 0 + r.val)) (384 + l.val) :=
  (filled3 (c := c) (harg25 := harg25) hj hpj arg23.view.junk).tap trivial 5 (by decide) (by decide) _ r l

theorem w3_1_at (A : Args I x5 x6 x7 x8 x9 x10) (l : Fin 128) : arg6.view.readAt (Elt Ideal) (Rect.unit (s := S4x1536) ![1, 384] S1x128.size inb_S4x1536_S1x128_1_384).toLoadRect (harg6.unread x5) (ix2 0 l) = I.cw 1 (384 + l.val) :=
  (load2 arg6.view _ 1 128 1 384 _ 0 l).trans (by rw [Memref.IsWhole.read_unread]; exact A.cw 1 ⟨384 + l.val, by omega⟩)

theorem tap3_1_at (r : Fin 256) (l : Fin 128) : (sl.v203 (F := Ideal) c arg23 arg25 harg25 xs5) (ix3 0 r l) = I.pre b (256 * j + (5 + 1 + r.val)) (384 + l.val) :=
  (filled3 (c := c) (harg25 := harg25) hj hpj arg23.view.junk).tap trivial 6 (by decide) (by decide) _ r l

theorem w3_2_at (A : Args I x5 x6 x7 x8 x9 x10) (l : Fin 128) : arg6.view.readAt (Elt Ideal) (Rect.unit (s := S4x1536) ![2, 384] S1x128.size inb_S4x1536_S1x128_2_384).toLoadRect (harg6.unread x5) (ix2 0 l) = I.cw 2 (384 + l.val) :=
  (load2 arg6.view _ 1 128 2 384 _ 0 l).trans (by rw [Memref.IsWhole.read_unread]; exact A.cw 2 ⟨384 + l.val, by omega⟩)

theorem tap3_2_at (r : Fin 256) (l : Fin 128) : (sl.v210 (F := Ideal) c arg23 arg25 harg25 xs5) (ix3 0 r l) = I.pre b (256 * j + (5 + 2 + r.val)) (384 + l.val) :=
  (filled3 (c := c) (harg25 := harg25) hj hpj arg23.view.junk).tap trivial 7 (by decide) (by decide) _ r l

theorem w3_3_at (A : Args I x5 x6 x7 x8 x9 x10) (l : Fin 128) : arg6.view.readAt (Elt Ideal) (Rect.unit (s := S4x1536) ![3, 384] S1x128.size inb_S4x1536_S1x128_3_384).toLoadRect (harg6.unread x5) (ix2 0 l) = I.cw 3 (384 + l.val) :=
  (load2 arg6.view _ 1 128 3 384 _ 0 l).trans (by rw [Memref.IsWhole.read_unread]; exact A.cw 3 ⟨384 + l.val, by omega⟩)

theorem tap3_3_at (r : Fin 256) (l : Fin 128) : (sl.v217 (F := Ideal) c arg23 arg25 harg25 xs5) (ix3 0 r l) = I.pre b (256 * j + (5 + 3 + r.val)) (384 + l.val) :=
  (filled3 (c := c) (harg25 := harg25) hj hpj arg23.view.junk).tap trivial 8 (by decide) (by decide) _ r l

theorem bias4_at (A : Args I x5 x6 x7 x8 x9 x10) (l : Fin 128) : arg7.view.readAt (Elt Ideal) (Rect.unit (s := S1x1536) ![0, 512] S1x128.size inb_S1x1536_S1x128_0_512).toLoadRect (harg7.unread x6) (ix2 0 l) = I.cb (512 + l.val) :=
  (load2 arg7.view _ 1 128 0 512 _ 0 l).trans (by rw [Memref.IsWhole.read_unread]; exact A.cb ⟨512 + l.val, by omega⟩)

theorem w4_0_at (A : Args I x5 x6 x7 x8 x9 x10) (l : Fin 128) : arg6.view.readAt (Elt Ideal) (Rect.unit (s := S4x1536) ![0, 512] S1x128.size inb_S4x1536_S1x128_0_512).toLoadRect (harg6.unread x5) (ix2 0 l) = I.cw 0 (512 + l.val) :=
  (load2 arg6.view _ 1 128 0 512 _ 0 l).trans (by rw [Memref.IsWhole.read_unread]; exact A.cw 0 ⟨512 + l.val, by omega⟩)

theorem tap4_0_at (r : Fin 256) (l : Fin 128) : (sl.v243 (F := Ideal) c arg23 arg25 harg25 xs5) (ix3 0 r l) = I.pre b (256 * j + (5 + 0 + r.val)) (512 + l.val) :=
  (filled4 (c := c) (harg25 := harg25) hj hpj arg23.view.junk).tap trivial 5 (by decide) (by decide) _ r l

theorem w4_1_at (A : Args I x5 x6 x7 x8 x9 x10) (l : Fin 128) : arg6.view.readAt (Elt Ideal) (Rect.unit (s := S4x1536) ![1, 512] S1x128.size inb_S4x1536_S1x128_1_512).toLoadRect (harg6.unread x5) (ix2 0 l) = I.cw 1 (512 + l.val) :=
  (load2 arg6.view _ 1 128 1 512 _ 0 l).trans (by rw [Memref.IsWhole.read_unread]; exact A.cw 1 ⟨512 + l.val, by omega⟩)

theorem tap4_1_at (r : Fin 256) (l : Fin 128) : (sl.v251 (F := Ideal) c arg23 arg25 harg25 xs5) (ix3 0 r l) = I.pre b (256 * j + (5 + 1 + r.val)) (512 + l.val) :=
  (filled4 (c := c) (harg25 := harg25) hj hpj arg23.view.junk).tap trivial 6 (by decide) (by decide) _ r l

theorem w4_2_at (A : Args I x5 x6 x7 x8 x9 x10) (l : Fin 128) : arg6.view.readAt (Elt Ideal) (Rect.unit (s := S4x1536) ![2, 512] S1x128.size inb_S4x1536_S1x128_2_512).toLoadRect (harg6.unread x5) (ix2 0 l) = I.cw 2 (512 + l.val) :=
  (load2 arg6.view _ 1 128 2 512 _ 0 l).trans (by rw [Memref.IsWhole.read_unread]; exact A.cw 2 ⟨512 + l.val, by omega⟩)

theorem tap4_2_at (r : Fin 256) (l : Fin 128) : (sl.v258 (F := Ideal) c arg23 arg25 harg25 xs5) (ix3 0 r l) = I.pre b (256 * j + (5 + 2 + r.val)) (512 + l.val) :=
  (filled4 (c := c) (harg25 := harg25) hj hpj arg23.view.junk).tap trivial 7 (by decide) (by decide) _ r l

theorem w4_3_at (A : Args I x5 x6 x7 x8 x9 x10) (l : Fin 128) : arg6.view.readAt (Elt Ideal) (Rect.unit (s := S4x1536) ![3, 512] S1x128.size inb_S4x1536_S1x128_3_512).toLoadRect (harg6.unread x5) (ix2 0 l) = I.cw 3 (512 + l.val) :=
  (load2 arg6.view _ 1 128 3 512 _ 0 l).trans (by rw [Memref.IsWhole.read_unread]; exact A.cw 3 ⟨512 + l.val, by omega⟩)

theorem tap4_3_at (r : Fin 256) (l : Fin 128) : (sl.v265 (F := Ideal) c arg23 arg25 harg25 xs5) (ix3 0 r l) = I.pre b (256 * j + (5 + 3 + r.val)) (512 + l.val) :=
  (filled4 (c := c) (harg25 := harg25) hj hpj arg23.view.junk).tap trivial 8 (by decide) (by decide) _ r l

theorem bias5_at (A : Args I x5 x6 x7 x8 x9 x10) (l : Fin 128) : arg7.view.readAt (Elt Ideal) (Rect.unit (s := S1x1536) ![0, 640] S1x128.size inb_S1x1536_S1x128_0_640).toLoadRect (harg7.unread x6) (ix2 0 l) = I.cb (640 + l.val) :=
  (load2 arg7.view _ 1 128 0 640 _ 0 l).trans (by rw [Memref.IsWhole.read_unread]; exact A.cb ⟨640 + l.val, by omega⟩)

theorem w5_0_at (A : Args I x5 x6 x7 x8 x9 x10) (l : Fin 128) : arg6.view.readAt (Elt Ideal) (Rect.unit (s := S4x1536) ![0, 640] S1x128.size inb_S4x1536_S1x128_0_640).toLoadRect (harg6.unread x5) (ix2 0 l) = I.cw 0 (640 + l.val) :=
  (load2 arg6.view _ 1 128 0 640 _ 0 l).trans (by rw [Memref.IsWhole.read_unread]; exact A.cw 0 ⟨640 + l.val, by omega⟩)

theorem tap5_0_at (r : Fin 256) (l : Fin 128) : (sl.v291 (F := Ideal) c arg23 arg25 harg25 xs5) (ix3 0 r l) = I.pre b (256 * j + (5 + 0 + r.val)) (640 + l.val) :=
  (filled5 (c := c) (harg25 := harg25) hj hpj arg23.view.junk).tap trivial 5 (by decide) (by decide) _ r l

theorem w5_1_at (A : Args I x5 x6 x7 x8 x9 x10) (l : Fin 128) : arg6.view.readAt (Elt Ideal) (Rect.unit (s := S4x1536) ![1, 640] S1x128.size inb_S4x1536_S1x128_1_640).toLoadRect (harg6.unread x5) (ix2 0 l) = I.cw 1 (640 + l.val) :=
  (load2 arg6.view _ 1 128 1 640 _ 0 l).trans (by rw [Memref.IsWhole.read_unread]; exact A.cw 1 ⟨640 + l.val, by omega⟩)

theorem tap5_1_at (r : Fin 256) (l : Fin 128) : (sl.v299 (F := Ideal) c arg23 arg25 harg25 xs5) (ix3 0 r l) = I.pre b (256 * j + (5 + 1 + r.val)) (640 + l.val) :=
  (filled5 (c := c) (harg25 := harg25) hj hpj arg23.view.junk).tap trivial 6 (by decide) (by decide) _ r l

theorem w5_2_at (A : Args I x5 x6 x7 x8 x9 x10) (l : Fin 128) : arg6.view.readAt (Elt Ideal) (Rect.unit (s := S4x1536) ![2, 640] S1x128.size inb_S4x1536_S1x128_2_640).toLoadRect (harg6.unread x5) (ix2 0 l) = I.cw 2 (640 + l.val) :=
  (load2 arg6.view _ 1 128 2 640 _ 0 l).trans (by rw [Memref.IsWhole.read_unread]; exact A.cw 2 ⟨640 + l.val, by omega⟩)

theorem tap5_2_at (r : Fin 256) (l : Fin 128) : (sl.v306 (F := Ideal) c arg23 arg25 harg25 xs5) (ix3 0 r l) = I.pre b (256 * j + (5 + 2 + r.val)) (640 + l.val) :=
  (filled5 (c := c) (harg25 := harg25) hj hpj arg23.view.junk).tap trivial 7 (by decide) (by decide) _ r l

theorem w5_3_at (A : Args I x5 x6 x7 x8 x9 x10) (l : Fin 128) : arg6.view.readAt (Elt Ideal) (Rect.unit (s := S4x1536) ![3, 640] S1x128.size inb_S4x1536_S1x128_3_640).toLoadRect (harg6.unread x5) (ix2 0 l) = I.cw 3 (640 + l.val) :=
  (load2 arg6.view _ 1 128 3 640 _ 0 l).trans (by rw [Memref.IsWhole.read_unread]; exact A.cw 3 ⟨640 + l.val, by omega⟩)

theorem tap5_3_at (r : Fin 256) (l : Fin 128) : (sl.v313 (F := Ideal) c arg23 arg25 harg25 xs5) (ix3 0 r l) = I.pre b (256 * j + (5 + 3 + r.val)) (640 + l.val) :=
  (filled5 (c := c) (harg25 := harg25) hj hpj arg23.view.junk).tap trivial 8 (by decide) (by decide) _ r l

theorem bias6_at (A : Args I x5 x6 x7 x8 x9 x10) (l : Fin 128) : arg7.view.readAt (Elt Ideal) (Rect.unit (s := S1x1536) ![0, 768] S1x128.size inb_S1x1536_S1x128_0_768).toLoadRect (harg7.unread x6) (ix2 0 l) = I.cb (768 + l.val) :=
  (load2 arg7.view _ 1 128 0 768 _ 0 l).trans (by rw [Memref.IsWhole.read_unread]; exact A.cb ⟨768 + l.val, by omega⟩)

theorem w6_0_at (A : Args I x5 x6 x7 x8 x9 x10) (l : Fin 128) : arg6.view.readAt (Elt Ideal) (Rect.unit (s := S4x1536) ![0, 768] S1x128.size inb_S4x1536_S1x128_0_768).toLoadRect (harg6.unread x5) (ix2 0 l) = I.cw 0 (768 + l.val) :=
  (load2 arg6.view _ 1 128 0 768 _ 0 l).trans (by rw [Memref.IsWhole.read_unread]; exact A.cw 0 ⟨768 + l.val, by omega⟩)

theorem tap6_0_at (r : Fin 256) (l : Fin 128) : (sl.v339 (F := Ideal) c arg23 arg25 harg25 xs5) (ix3 0 r l) = I.pre b (256 * j + (5 + 0 + r.val)) (768 + l.val) :=
  (filled6 (c := c) (harg25 := harg25) hj hpj arg23.view.junk).tap trivial 5 (by decide) (by decide) _ r l

theorem w6_1_at (A : Args I x5 x6 x7 x8 x9 x10) (l : Fin 128) : arg6.view.readAt (Elt Ideal) (Rect.unit (s := S4x1536) ![1, 768] S1x128.size inb_S4x1536_S1x128_1_768).toLoadRect (harg6.unread x5) (ix2 0 l) = I.cw 1 (768 + l.val) :=
  (load2 arg6.view _ 1 128 1 768 _ 0 l).trans (by rw [Memref.IsWhole.read_unread]; exact A.cw 1 ⟨768 + l.val, by omega⟩)

theorem tap6_1_at (r : Fin 256) (l : Fin 128) : (sl.v347 (F := Ideal) c arg23 arg25 harg25 xs5) (ix3 0 r l) = I.pre b (256 * j + (5 + 1 + r.val)) (768 + l.val) :=
  (filled6 (c := c) (harg25 := harg25) hj hpj arg23.view.junk).tap trivial 6 (by decide) (by decide) _ r l

theorem w6_2_at (A : Args I x5 x6 x7 x8 x9 x10) (l : Fin 128) : arg6.view.readAt (Elt Ideal) (Rect.unit (s := S4x1536) ![2, 768] S1x128.size inb_S4x1536_S1x128_2_768).toLoadRect (harg6.unread x5) (ix2 0 l) = I.cw 2 (768 + l.val) :=
  (load2 arg6.view _ 1 128 2 768 _ 0 l).trans (by rw [Memref.IsWhole.read_unread]; exact A.cw 2 ⟨768 + l.val, by omega⟩)

theorem tap6_2_at (r : Fin 256) (l : Fin 128) : (sl.v354 (F := Ideal) c arg23 arg25 harg25 xs5) (ix3 0 r l) = I.pre b (256 * j + (5 + 2 + r.val)) (768 + l.val) :=
  (filled6 (c := c) (harg25 := harg25) hj hpj arg23.view.junk).tap trivial 7 (by decide) (by decide) _ r l

theorem w6_3_at (A : Args I x5 x6 x7 x8 x9 x10) (l : Fin 128) : arg6.view.readAt (Elt Ideal) (Rect.unit (s := S4x1536) ![3, 768] S1x128.size inb_S4x1536_S1x128_3_768).toLoadRect (harg6.unread x5) (ix2 0 l) = I.cw 3 (768 + l.val) :=
  (load2 arg6.view _ 1 128 3 768 _ 0 l).trans (by rw [Memref.IsWhole.read_unread]; exact A.cw 3 ⟨768 + l.val, by omega⟩)

theorem tap6_3_at (r : Fin 256) (l : Fin 128) : (sl.v361 (F := Ideal) c arg23 arg25 harg25 xs5) (ix3 0 r l) = I.pre b (256 * j + (5 + 3 + r.val)) (768 + l.val) :=
  (filled6 (c := c) (harg25 := harg25) hj hpj arg23.view.junk).tap trivial 8 (by decide) (by decide) _ r l

theorem bias7_at (A : Args I x5 x6 x7 x8 x9 x10) (l : Fin 128) : arg7.view.readAt (Elt Ideal) (Rect.unit (s := S1x1536) ![0, 896] S1x128.size inb_S1x1536_S1x128_0_896).toLoadRect (harg7.unread x6) (ix2 0 l) = I.cb (896 + l.val) :=
  (load2 arg7.view _ 1 128 0 896 _ 0 l).trans (by rw [Memref.IsWhole.read_unread]; exact A.cb ⟨896 + l.val, by omega⟩)

theorem w7_0_at (A : Args I x5 x6 x7 x8 x9 x10) (l : Fin 128) : arg6.view.readAt (Elt Ideal) (Rect.unit (s := S4x1536) ![0, 896] S1x128.size inb_S4x1536_S1x128_0_896).toLoadRect (harg6.unread x5) (ix2 0 l) = I.cw 0 (896 + l.val) :=
  (load2 arg6.view _ 1 128 0 896 _ 0 l).trans (by rw [Memref.IsWhole.read_unread]; exact A.cw 0 ⟨896 + l.val, by omega⟩)

theorem tap7_0_at (r : Fin 256) (l : Fin 128) : (sl.v387 (F := Ideal) c arg23 arg25 harg25 xs5) (ix3 0 r l) = I.pre b (256 * j + (5 + 0 + r.val)) (896 + l.val) :=
  (filled7 (c := c) (harg25 := harg25) hj hpj arg23.view.junk).tap trivial 5 (by decide) (by decide) _ r l

theorem w7_1_at (A : Args I x5 x6 x7 x8 x9 x10) (l : Fin 128) : arg6.view.readAt (Elt Ideal) (Rect.unit (s := S4x1536) ![1, 896] S1x128.size inb_S4x1536_S1x128_1_896).toLoadRect (harg6.unread x5) (ix2 0 l) = I.cw 1 (896 + l.val) :=
  (load2 arg6.view _ 1 128 1 896 _ 0 l).trans (by rw [Memref.IsWhole.read_unread]; exact A.cw 1 ⟨896 + l.val, by omega⟩)

theorem tap7_1_at (r : Fin 256) (l : Fin 128) : (sl.v395 (F := Ideal) c arg23 arg25 harg25 xs5) (ix3 0 r l) = I.pre b (256 * j + (5 + 1 + r.val)) (896 + l.val) :=
  (filled7 (c := c) (harg25 := harg25) hj hpj arg23.view.junk).tap trivial 6 (by decide) (by decide) _ r l

theorem w7_2_at (A : Args I x5 x6 x7 x8 x9 x10) (l : Fin 128) : arg6.view.readAt (Elt Ideal) (Rect.unit (s := S4x1536) ![2, 896] S1x128.size inb_S4x1536_S1x128_2_896).toLoadRect (harg6.unread x5) (ix2 0 l) = I.cw 2 (896 + l.val) :=
  (load2 arg6.view _ 1 128 2 896 _ 0 l).trans (by rw [Memref.IsWhole.read_unread]; exact A.cw 2 ⟨896 + l.val, by omega⟩)

theorem tap7_2_at (r : Fin 256) (l : Fin 128) : (sl.v402 (F := Ideal) c arg23 arg25 harg25 xs5) (ix3 0 r l) = I.pre b (256 * j + (5 + 2 + r.val)) (896 + l.val) :=
  (filled7 (c := c) (harg25 := harg25) hj hpj arg23.view.junk).tap trivial 7 (by decide) (by decide) _ r l

theorem w7_3_at (A : Args I x5 x6 x7 x8 x9 x10) (l : Fin 128) : arg6.view.readAt (Elt Ideal) (Rect.unit (s := S4x1536) ![3, 896] S1x128.size inb_S4x1536_S1x128_3_896).toLoadRect (harg6.unread x5) (ix2 0 l) = I.cw 3 (896 + l.val) :=
  (load2 arg6.view _ 1 128 3 896 _ 0 l).trans (by rw [Memref.IsWhole.read_unread]; exact A.cw 3 ⟨896 + l.val, by omega⟩)

theorem tap7_3_at (r : Fin 256) (l : Fin 128) : (sl.v409 (F := Ideal) c arg23 arg25 harg25 xs5) (ix3 0 r l) = I.pre b (256 * j + (5 + 3 + r.val)) (896 + l.val) :=
  (filled7 (c := c) (harg25 := harg25) hj hpj arg23.view.junk).tap trivial 8 (by decide) (by decide) _ r l

theorem bias8_at (A : Args I x5 x6 x7 x8 x9 x10) (l : Fin 128) : arg7.view.readAt (Elt Ideal) (Rect.unit (s := S1x1536) ![0, 1024] S1x128.size inb_S1x1536_S1x128_0_1024).toLoadRect (harg7.unread x6) (ix2 0 l) = I.cb (1024 + l.val) :=
  (load2 arg7.view _ 1 128 0 1024 _ 0 l).trans (by rw [Memref.IsWhole.read_unread]; exact A.cb ⟨1024 + l.val, by omega⟩)

theorem w8_0_at (A : Args I x5 x6 x7 x8 x9 x10) (l : Fin 128) : arg6.view.readAt (Elt Ideal) (Rect.unit (s := S4x1536) ![0, 1024] S1x128.size inb_S4x1536_S1x128_0_1024).toLoadRect (harg6.unread x5) (ix2 0 l) = I.cw 0 (1024 + l.val) :=
  (load2 arg6.view _ 1 128 0 1024 _ 0 l).trans (by rw [Memref.IsWhole.read_unread]; exact A.cw 0 ⟨1024 + l.val, by omega⟩)

theorem tap8_0_at (r : Fin 256) (l : Fin 128) : (sl.v435 (F := Ideal) c arg23 arg25 harg25 xs5) (ix3 0 r l) = I.pre b (256 * j + (5 + 0 + r.val)) (1024 + l.val) :=
  (filled8 (c := c) (harg25 := harg25) hj hpj arg23.view.junk).tap trivial 5 (by decide) (by decide) _ r l

theorem w8_1_at (A : Args I x5 x6 x7 x8 x9 x10) (l : Fin 128) : arg6.view.readAt (Elt Ideal) (Rect.unit (s := S4x1536) ![1, 1024] S1x128.size inb_S4x1536_S1x128_1_1024).toLoadRect (harg6.unread x5) (ix2 0 l) = I.cw 1 (1024 + l.val) :=
  (load2 arg6.view _ 1 128 1 1024 _ 0 l).trans (by rw [Memref.IsWhole.read_unread]; exact A.cw 1 ⟨1024 + l.val, by omega⟩)

theorem tap8_1_at (r : Fin 256) (l : Fin 128) : (sl.v443 (F := Ideal) c arg23 arg25 harg25 xs5) (ix3 0 r l) = I.pre b (256 * j + (5 + 1 + r.val)) (1024 + l.val) :=
  (filled8 (c := c) (harg25 := harg25) hj hpj arg23.view.junk).tap trivial 6 (by decide) (by decide) _ r l

theorem w8_2_at (A : Args I x5 x6 x7 x8 x9 x10) (l : Fin 128) : arg6.view.readAt (Elt Ideal) (Rect.unit (s := S4x1536) ![2, 1024] S1x128.size inb_S4x1536_S1x128_2_1024).toLoadRect (harg6.unread x5) (ix2 0 l) = I.cw 2 (1024 + l.val) :=
  (load2 arg6.view _ 1 128 2 1024 _ 0 l).trans (by rw [Memref.IsWhole.read_unread]; exact A.cw 2 ⟨1024 + l.val, by omega⟩)

theorem tap8_2_at (r : Fin 256) (l : Fin 128) : (sl.v450 (F := Ideal) c arg23 arg25 harg25 xs5) (ix3 0 r l) = I.pre b (256 * j + (5 + 2 + r.val)) (1024 + l.val) :=
  (filled8 (c := c) (harg25 := harg25) hj hpj arg23.view.junk).tap trivial 7 (by decide) (by decide) _ r l

theorem w8_3_at (A : Args I x5 x6 x7 x8 x9 x10) (l : Fin 128) : arg6.view.readAt (Elt Ideal) (Rect.unit (s := S4x1536) ![3, 1024] S1x128.size inb_S4x1536_S1x128_3_1024).toLoadRect (harg6.unread x5) (ix2 0 l) = I.cw 3 (1024 + l.val) :=
  (load2 arg6.view _ 1 128 3 1024 _ 0 l).trans (by rw [Memref.IsWhole.read_unread]; exact A.cw 3 ⟨1024 + l.val, by omega⟩)

theorem tap8_3_at (r : Fin 256) (l : Fin 128) : (sl.v457 (F := Ideal) c arg23 arg25 harg25 xs5) (ix3 0 r l) = I.pre b (256 * j + (5 + 3 + r.val)) (1024 + l.val) :=
  (filled8 (c := c) (harg25 := harg25) hj hpj arg23.view.junk).tap trivial 8 (by decide) (by decide) _ r l

theorem bias9_at (A : Args I x5 x6 x7 x8 x9 x10) (l : Fin 128) : arg7.view.readAt (Elt Ideal) (Rect.unit (s := S1x1536) ![0, 1152] S1x128.size inb_S1x1536_S1x128_0_1152).toLoadRect (harg7.unread x6) (ix2 0 l) = I.cb (1152 + l.val) :=
  (load2 arg7.view _ 1 128 0 1152 _ 0 l).trans (by rw [Memref.IsWhole.read_unread]; exact A.cb ⟨1152 + l.val, by omega⟩)

theorem w9_0_at (A : Args I x5 x6 x7 x8 x9 x10) (l : Fin 128) : arg6.view.readAt (Elt Ideal) (Rect.unit (s := S4x1536) ![0, 1152] S1x128.size inb_S4x1536_S1x128_0_1152).toLoadRect (harg6.unread x5) (ix2 0 l) = I.cw 0 (1152 + l.val) :=
  (load2 arg6.view _ 1 128 0 1152 _ 0 l).trans (by rw [Memref.IsWhole.read_unread]; exact A.cw 0 ⟨1152 + l.val, by omega⟩)

theorem tap9_0_at (r : Fin 256) (l : Fin 128) : (sl.v483 (F := Ideal) c arg23 arg25 harg25 xs5) (ix3 0 r l) = I.pre b (256 * j + (5 + 0 + r.val)) (1152 + l.val) :=
  (filled9 (c := c) (harg25 := harg25) hj hpj arg23.view.junk).tap trivial 5 (by decide) (by decide) _ r l

theorem w9_1_at (A : Args I x5 x6 x7 x8 x9 x10) (l : Fin 128) : arg6.view.readAt (Elt Ideal) (Rect.unit (s := S4x1536) ![1, 1152] S1x128.size inb_S4x1536_S1x128_1_1152).toLoadRect (harg6.unread x5) (ix2 0 l) = I.cw 1 (1152 + l.val) :=
  (load2 arg6.view _ 1 128 1 1152 _ 0 l).trans (by rw [Memref.IsWhole.read_unread]; exact A.cw 1 ⟨1152 + l.val, by omega⟩)

theorem tap9_1_at (r : Fin 256) (l : Fin 128) : (sl.v491 (F := Ideal) c arg23 arg25 harg25 xs5) (ix3 0 r l) = I.pre b (256 * j + (5 + 1 + r.val)) (1152 + l.val) :=
  (filled9 (c := c) (harg25 := harg25) hj hpj arg23.view.junk).tap trivial 6 (by decide) (by decide) _ r l

theorem w9_2_at (A : Args I x5 x6 x7 x8 x9 x10) (l : Fin 128) : arg6.view.readAt (Elt Ideal) (Rect.unit (s := S4x1536) ![2, 1152] S1x128.size inb_S4x1536_S1x128_2_1152).toLoadRect (harg6.unread x5) (ix2 0 l) = I.cw 2 (1152 + l.val) :=
  (load2 arg6.view _ 1 128 2 1152 _ 0 l).trans (by rw [Memref.IsWhole.read_unread]; exact A.cw 2 ⟨1152 + l.val, by omega⟩)

theorem tap9_2_at (r : Fin 256) (l : Fin 128) : (sl.v498 (F := Ideal) c arg23 arg25 harg25 xs5) (ix3 0 r l) = I.pre b (256 * j + (5 + 2 + r.val)) (1152 + l.val) :=
  (filled9 (c := c) (harg25 := harg25) hj hpj arg23.view.junk).tap trivial 7 (by decide) (by decide) _ r l

theorem w9_3_at (A : Args I x5 x6 x7 x8 x9 x10) (l : Fin 128) : arg6.view.readAt (Elt Ideal) (Rect.unit (s := S4x1536) ![3, 1152] S1x128.size inb_S4x1536_S1x128_3_1152).toLoadRect (harg6.unread x5) (ix2 0 l) = I.cw 3 (1152 + l.val) :=
  (load2 arg6.view _ 1 128 3 1152 _ 0 l).trans (by rw [Memref.IsWhole.read_unread]; exact A.cw 3 ⟨1152 + l.val, by omega⟩)

theorem tap9_3_at (r : Fin 256) (l : Fin 128) : (sl.v505 (F := Ideal) c arg23 arg25 harg25 xs5) (ix3 0 r l) = I.pre b (256 * j + (5 + 3 + r.val)) (1152 + l.val) :=
  (filled9 (c := c) (harg25 := harg25) hj hpj arg23.view.junk).tap trivial 8 (by decide) (by decide) _ r l

theorem bias10_at (A : Args I x5 x6 x7 x8 x9 x10) (l : Fin 128) : arg7.view.readAt (Elt Ideal) (Rect.unit (s := S1x1536) ![0, 1280] S1x128.size inb_S1x1536_S1x128_0_1280).toLoadRect (harg7.unread x6) (ix2 0 l) = I.cb (1280 + l.val) :=
  (load2 arg7.view _ 1 128 0 1280 _ 0 l).trans (by rw [Memref.IsWhole.read_unread]; exact A.cb ⟨1280 + l.val, by omega⟩)

theorem w10_0_at (A : Args I x5 x6 x7 x8 x9 x10) (l : Fin 128) : arg6.view.readAt (Elt Ideal) (Rect.unit (s := S4x1536) ![0, 1280] S1x128.size inb_S4x1536_S1x128_0_1280).toLoadRect (harg6.unread x5) (ix2 0 l) = I.cw 0 (1280 + l.val) :=
  (load2 arg6.view _ 1 128 0 1280 _ 0 l).trans (by rw [Memref.IsWhole.read_unread]; exact A.cw 0 ⟨1280 + l.val, by omega⟩)

theorem tap10_0_at (r : Fin 256) (l : Fin 128) : (sl.v531 (F := Ideal) c arg23 arg25 harg25 xs5) (ix3 0 r l) = I.pre b (256 * j + (5 + 0 + r.val)) (1280 + l.val) :=
  (filled10 (c := c) (harg25 := harg25) hj hpj arg23.view.junk).tap trivial 5 (by decide) (by decide) _ r l

theorem w10_1_at (A : Args I x5 x6 x7 x8 x9 x10) (l : Fin 128) : arg6.view.readAt (Elt Ideal) (Rect.unit (s := S4x1536) ![1, 1280] S1x128.size inb_S4x1536_S1x128_1_1280).toLoadRect (harg6.unread x5) (ix2 0 l) = I.cw 1 (1280 + l.val) :=
  (load2 arg6.view _ 1 128 1 1280 _ 0 l).trans (by rw [Memref.IsWhole.read_unread]; exact A.cw 1 ⟨1280 + l.val, by omega⟩)

theorem tap10_1_at (r : Fin 256) (l : Fin 128) : (sl.v539 (F := Ideal) c arg23 arg25 harg25 xs5) (ix3 0 r l) = I.pre b (256 * j + (5 + 1 + r.val)) (1280 + l.val) :=
  (filled10 (c := c) (harg25 := harg25) hj hpj arg23.view.junk).tap trivial 6 (by decide) (by decide) _ r l

theorem w10_2_at (A : Args I x5 x6 x7 x8 x9 x10) (l : Fin 128) : arg6.view.readAt (Elt Ideal) (Rect.unit (s := S4x1536) ![2, 1280] S1x128.size inb_S4x1536_S1x128_2_1280).toLoadRect (harg6.unread x5) (ix2 0 l) = I.cw 2 (1280 + l.val) :=
  (load2 arg6.view _ 1 128 2 1280 _ 0 l).trans (by rw [Memref.IsWhole.read_unread]; exact A.cw 2 ⟨1280 + l.val, by omega⟩)

theorem tap10_2_at (r : Fin 256) (l : Fin 128) : (sl.v546 (F := Ideal) c arg23 arg25 harg25 xs5) (ix3 0 r l) = I.pre b (256 * j + (5 + 2 + r.val)) (1280 + l.val) :=
  (filled10 (c := c) (harg25 := harg25) hj hpj arg23.view.junk).tap trivial 7 (by decide) (by decide) _ r l

theorem w10_3_at (A : Args I x5 x6 x7 x8 x9 x10) (l : Fin 128) : arg6.view.readAt (Elt Ideal) (Rect.unit (s := S4x1536) ![3, 1280] S1x128.size inb_S4x1536_S1x128_3_1280).toLoadRect (harg6.unread x5) (ix2 0 l) = I.cw 3 (1280 + l.val) :=
  (load2 arg6.view _ 1 128 3 1280 _ 0 l).trans (by rw [Memref.IsWhole.read_unread]; exact A.cw 3 ⟨1280 + l.val, by omega⟩)

theorem tap10_3_at (r : Fin 256) (l : Fin 128) : (sl.v553 (F := Ideal) c arg23 arg25 harg25 xs5) (ix3 0 r l) = I.pre b (256 * j + (5 + 3 + r.val)) (1280 + l.val) :=
  (filled10 (c := c) (harg25 := harg25) hj hpj arg23.view.junk).tap trivial 8 (by decide) (by decide) _ r l

theorem bias11_at (A : Args I x5 x6 x7 x8 x9 x10) (l : Fin 128) : arg7.view.readAt (Elt Ideal) (Rect.unit (s := S1x1536) ![0, 1408] S1x128.size inb_S1x1536_S1x128_0_1408).toLoadRect (harg7.unread x6) (ix2 0 l) = I.cb (1408 + l.val) :=
  (load2 arg7.view _ 1 128 0 1408 _ 0 l).trans (by rw [Memref.IsWhole.read_unread]; exact A.cb ⟨1408 + l.val, by omega⟩)

theorem w11_0_at (A : Args I x5 x6 x7 x8 x9 x10) (l : Fin 128) : arg6.view.readAt (Elt Ideal) (Rect.unit (s := S4x1536) ![0, 1408] S1x128.size inb_S4x1536_S1x128_0_1408).toLoadRect (harg6.unread x5) (ix2 0 l) = I.cw 0 (1408 + l.val) :=
  (load2 arg6.view _ 1 128 0 1408 _ 0 l).trans (by rw [Memref.IsWhole.read_unread]; exact A.cw 0 ⟨1408 + l.val, by omega⟩)

theorem tap11_0_at (r : Fin 256) (l : Fin 128) : (sl.v579 (F := Ideal) c arg23 arg25 harg25 xs5) (ix3 0 r l) = I.pre b (256 * j + (5 + 0 + r.val)) (1408 + l.val) :=
  (filled11 (c := c) (harg25 := harg25) hj hpj arg23.view.junk).tap trivial 5 (by decide) (by decide) _ r l

theorem w11_1_at (A : Args I x5 x6 x7 x8 x9 x10) (l : Fin 128) : arg6.view.readAt (Elt Ideal) (Rect.unit (s := S4x1536) ![1, 1408] S1x128.size inb_S4x1536_S1x128_1_1408).toLoadRect (harg6.unread x5) (ix2 0 l) = I.cw 1 (1408 + l.val) :=
  (load2 arg6.view _ 1 128 1 1408 _ 0 l).trans (by rw [Memref.IsWhole.read_unread]; exact A.cw 1 ⟨1408 + l.val, by omega⟩)

theorem tap11_1_at (r : Fin 256) (l : Fin 128) : (sl.v587 (F := Ideal) c arg23 arg25 harg25 xs5) (ix3 0 r l) = I.pre b (256 * j + (5 + 1 + r.val)) (1408 + l.val) :=
  (filled11 (c := c) (harg25 := harg25) hj hpj arg23.view.junk).tap trivial 6 (by decide) (by decide) _ r l

theorem w11_2_at (A : Args I x5 x6 x7 x8 x9 x10) (l : Fin 128) : arg6.view.readAt (Elt Ideal) (Rect.unit (s := S4x1536) ![2, 1408] S1x128.size inb_S4x1536_S1x128_2_1408).toLoadRect (harg6.unread x5) (ix2 0 l) = I.cw 2 (1408 + l.val) :=
  (load2 arg6.view _ 1 128 2 1408 _ 0 l).trans (by rw [Memref.IsWhole.read_unread]; exact A.cw 2 ⟨1408 + l.val, by omega⟩)

theorem tap11_2_at (r : Fin 256) (l : Fin 128) : (sl.v594 (F := Ideal) c arg23 arg25 harg25 xs5) (ix3 0 r l) = I.pre b (256 * j + (5 + 2 + r.val)) (1408 + l.val) :=
  (filled11 (c := c) (harg25 := harg25) hj hpj arg23.view.junk).tap trivial 7 (by decide) (by decide) _ r l

theorem w11_3_at (A : Args I x5 x6 x7 x8 x9 x10) (l : Fin 128) : arg6.view.readAt (Elt Ideal) (Rect.unit (s := S4x1536) ![3, 1408] S1x128.size inb_S4x1536_S1x128_3_1408).toLoadRect (harg6.unread x5) (ix2 0 l) = I.cw 3 (1408 + l.val) :=
  (load2 arg6.view _ 1 128 3 1408 _ 0 l).trans (by rw [Memref.IsWhole.read_unread]; exact A.cw 3 ⟨1408 + l.val, by omega⟩)

theorem tap11_3_at (r : Fin 256) (l : Fin 128) : (sl.v601 (F := Ideal) c arg23 arg25 harg25 xs5) (ix3 0 r l) = I.pre b (256 * j + (5 + 3 + r.val)) (1408 + l.val) :=
  (filled11 (c := c) (harg25 := harg25) hj hpj arg23.view.junk).tap trivial 8 (by decide) (by decide) _ r l

theorem dtb_at (A : Args I x5 x6 x7 x8 x9 x10) (h : Fin 128) (hh : h.val < 16) : arg8.view.readAt (Elt Ideal) (Rect.unit (s := S1x128) ![0, 0] S1x128.size inb_S1x128_S1x128_0_0).toLoadRect (harg8.unread x7) (ix2 0 h) = I.dtb h.val := (load2 arg8.view _ 1 128 0 0 _ 0 h).trans (by rw [Memref.IsWhole.read_unread]; exact (congrArg (fun q => x7 (ix2 0 q)) (Fin.ext (Nat.zero_add h.val))).trans (A.dtb h hh))

theorem al_at (A : Args I x5 x6 x7 x8 x9 x10) (h : Fin 128) (hh : h.val < 16) : arg9.view.readAt (Elt Ideal) (Rect.unit (s := S1x128) ![0, 0] S1x128.size inb_S1x128_S1x128_0_0).toLoadRect (harg9.unread x8) (ix2 0 h) = I.al h.val := (load2 arg9.view _ 1 128 0 0 _ 0 h).trans (by rw [Memref.IsWhole.read_unread]; exact (congrArg (fun q => x8 (ix2 0 q)) (Fin.ext (Nat.zero_add h.val))).trans (A.al h hh))

theorem ds0_at (A : Args I x5 x6 x7 x8 x9 x10) (k : Fin 512) : arg10.view.readAt (Elt Ideal) (Rect.unit (s := S1x1024) ![0, 0] S1x512.size inb_S1x1024_S1x512_0_0).toLoadRect (harg10.unread x9) (ix2 0 k) = I.ds (k.val / 64) := (load2 arg10.view _ 1 512 0 0 _ 0 k).trans (by rw [Memref.IsWhole.read_unread]; exact (congrArg (fun q => x9 (ix2 0 q)) (Fin.ext (Nat.zero_add k.val))).trans (A.ds ⟨k.val, by omega⟩))

theorem ds1_at (A : Args I x5 x6 x7 x8 x9 x10) (k : Fin 512) : arg10.view.readAt (Elt Ideal) (Rect.unit (s := S1x1024) ![0, 512] S1x512.size inb_S1x1024_S1x512_0_512).toLoadRect (harg10.unread x9) (ix2 0 k) = I.ds ((512 + k.val) / 64) := (load2 arg10.view _ 1 512 0 512 _ 0 k).trans (by rw [Memref.IsWhole.read_unread]; exact A.ds ⟨512 + k.val, by omega⟩)

theorem nw0_at (A : Args I x5 x6 x7 x8 x9 x10) (k : Fin 512) : arg11.view.readAt (Elt Ideal) (Rect.unit (s := S1x1024) ![0, 0] S1x512.size inb_S1x1024_S1x512_0_0).toLoadRect (harg11.unread x10) (ix2 0 k) = I.nw k.val := (load2 arg11.view _ 1 512 0 0 _ 0 k).trans (by rw [Memref.IsWhole.read_unread]; exact (congrArg (fun q => x10 (ix2 0 q)) (Fin.ext (Nat.zero_add k.val))).trans (A.nw ⟨k.val, by omega⟩))

theorem nw1_at (A : Args I x5 x6 x7 x8 x9 x10) (k : Fin 512) : arg11.view.readAt (Elt Ideal) (Rect.unit (s := S1x1024) ![0, 512] S1x512.size inb_S1x1024_S1x512_0_512).toLoadRect (harg11.unread x10) (ix2 0 k) = I.nw (512 + k.val) := (load2 arg11.view _ 1 512 0 512 _ 0 k).trans (by rw [Memref.IsWhole.read_unread]; exact A.nw ⟨512 + k.val, by omega⟩)

theorem good (A : Args I x5 x6 x7 x8 x9 x10) : Good (loads c arg6 harg6 arg7 harg7 arg8 harg8 arg9 harg9 arg10 harg10 arg11 harg11 arg23 harg23 arg24 harg24 arg25 harg25 x5 x6 x7 x8 x9 x10 xs5) I b j where
  pj := pj_at hj hpj
  bias := of12_all (p := fun (s : Fin 12) (v : Vec Ideal S1x128 .f32) => ∀ l : Fin 128, v (ix2 0 l) = I.cb (128 * s.val + l.val)) (bias0_at hj hpj A) (bias1_at hj hpj A) (bias2_at hj hpj A) (bias3_at hj hpj A) (bias4_at hj hpj A) (bias5_at hj hpj A) (bias6_at hj hpj A) (bias7_at hj hpj A) (bias8_at hj hpj A) (bias9_at hj hpj A) (bias10_at hj hpj A) (bias11_at hj hpj A)
  w := of12_all (p := fun (s : Fin 12) (v : Fin 4 → Vec Ideal S1x128 .f32) => ∀ (k : Fin 4) (l : Fin 128), v k (ix2 0 l) = I.cw k.val (128 * s.val + l.val)) (of4_all (p := fun (k : Fin 4) (v : Vec Ideal S1x128 .f32) => ∀ l : Fin 128, v (ix2 0 l) = I.cw k.val (128 * (0 : Fin 12).val + l.val)) (w0_0_at hj hpj A) (w0_1_at hj hpj A) (w0_2_at hj hpj A) (w0_3_at hj hpj A))
    (of4_all (p := fun (k : Fin 4) (v : Vec Ideal S1x128 .f32) => ∀ l : Fin 128, v (ix2 0 l) = I.cw k.val (128 * (1 : Fin 12).val + l.val)) (w1_0_at hj hpj A) (w1_1_at hj hpj A) (w1_2_at hj hpj A) (w1_3_at hj hpj A))
    (of4_all (p := fun (k : Fin 4) (v : Vec Ideal S1x128 .f32) => ∀ l : Fin 128, v (ix2 0 l) = I.cw k.val (128 * (2 : Fin 12).val + l.val)) (w2_0_at hj hpj A) (w2_1_at hj hpj A) (w2_2_at hj hpj A) (w2_3_at hj hpj A))
    (of4_all (p := fun (k : Fin 4) (v : Vec Ideal S1x128 .f32) => ∀ l : Fin 128, v (ix2 0 l) = I.cw k.val (128 * (3 : Fin 12).val + l.val)) (w3_0_at hj hpj A) (w3_1_at hj hpj A) (w3_2_at hj hpj A) (w3_3_at hj hpj A))
    (of4_all (p := fun (k : Fin 4) (v : Vec Ideal S1x128 .f32) => ∀ l : Fin 128, v (ix2 0 l) = I.cw k.val (128 * (4 : Fin 12).val + l.val)) (w4_0_at hj hpj A) (w4_1_at hj hpj A) (w4_2_at hj hpj A) (w4_3_at hj hpj A))
    (of4_all (p := fun (k : Fin 4) (v : Vec Ideal S1x128 .f32) => ∀ l : Fin 128, v (ix2 0 l) = I.cw k.val (128 * (5 : Fin 12).val + l.val)) (w5_0_at hj hpj A) (w5_1_at hj hpj A) (w5_2_at hj hpj A) (w5_3_at hj hpj A))
    (of4_all (p := fun (k : Fin 4) (v : Vec Ideal S1x128 .f32) => ∀ l : Fin 128, v (ix2 0 l) = I.cw k.val (128 * (6 : Fin 12).val + l.val)) (w6_0_at hj hpj A) (w6_1_at hj hpj A) (w6_2_at hj hpj A) (w6_3_at hj hpj A))
    (of4_all (p := fun (k : Fin 4) (v : Vec Ideal S1x128 .f32) => ∀ l : Fin 128, v (ix2 0 l) = I.cw k.val (128 * (7 : Fin 12).val + l.val)) (w7_0_at hj hpj A) (w7_1_at hj hpj A) (w7_2_at hj hpj A) (w7_3_at hj hpj A))
    (of4_all (p := fun (k : Fin 4) (v : Vec Ideal S1x128 .f32) => ∀ l : Fin 128, v (ix2 0 l) = I.cw k.val (128 * (8 : Fin 12).val + l.val)) (w8_0_at hj hpj A) (w8_1_at hj hpj A) (w8_2_at hj hpj A) (w8_3_at hj hpj A))
    (of4_all (p := fun (k : Fin 4) (v : Vec Ideal S1x128 .f32) => ∀ l : Fin 128, v (ix2 0 l) = I.cw k.val (128 * (9 : Fin 12).val + l.val)) (w9_0_at hj hpj A) (w9_1_at hj hpj A) (w9_2_at hj hpj A) (w9_3_at hj hpj A))
    (of4_all (p := fun (k : Fin 4) (v : Vec Ideal S1x128 .f32) => ∀ l : Fin 128, v (ix2 0 l) = I.cw k.val (128 * (10 : Fin 12).val + l.val)) (w10_0_at hj hpj A) (w10_1_at hj hpj A) (w10_2_at hj hpj A) (w10_3_at hj hpj A))
    (of4_all (p := fun (k : Fin 4) (v : Vec Ideal S1x128 .f32) => ∀ l : Fin 128, v (ix2 0 l) = I.cw k.val (128 * (11 : Fin 12).val + l.val)) (w11_0_at hj hpj A) (w11_1_at hj hpj A) (w11_2_at hj hpj A) (w11_3_at hj hpj A))
  tap := of12_all (p := fun (s : Fin 12) (v : Fin 4 → Vec Ideal S1x256x128 .f32) => ∀ (k : Fin 4) (r : Fin 256) (l : Fin 128), v k (ix3 0 r l) = I.pre b (256 * j + (5 + k.val + r.val)) (128 * s.val + l.val)) (of4_all (p := fun (k : Fin 4) (v : Vec Ideal S1x256x128 .f32) => ∀ (r : Fin 256) (l : Fin 128), v (ix3 0 r l) = I.pre b (256 * j + (5 + k.val + r.val)) (128 * (0 : Fin 12).val + l.val)) (tap0_0_at hj hpj) (tap0_1_at hj hpj) (tap0_2_at hj hpj) (tap0_3_at hj hpj))
    (of4_all (p := fun (k : Fin 4) (v : Vec Ideal S1x256x128 .f32) => ∀ (r : Fin 256) (l : Fin 128), v (ix3 0 r l) = I.pre b (256 * j + (5 + k.val + r.val)) (128 * (1 : Fin 12).val + l.val)) (tap1_0_at hj hpj) (tap1_1_at hj hpj) (tap1_2_at hj hpj) (tap1_3_at hj hpj))
    (of4_all (p := fun (k : Fin 4) (v : Vec Ideal S1x256x128 .f32) => ∀ (r : Fin 256) (l : Fin 128), v (ix3 0 r l) = I.pre b (256 * j + (5 + k.val + r.val)) (128 * (2 : Fin 12).val + l.val)) (tap2_0_at hj hpj) (tap2_1_at hj hpj) (tap2_2_at hj hpj) (tap2_3_at hj hpj))
    (of4_all (p := fun (k : Fin 4) (v : Vec Ideal S1x256x128 .f32) => ∀ (r : Fin 256) (l : Fin 128), v (ix3 0 r l) = I.pre b (256 * j + (5 + k.val + r.val)) (128 * (3 : Fin 12).val + l.val)) (tap3_0_at hj hpj) (tap3_1_at hj hpj) (tap3_2_at hj hpj) (tap3_3_at hj hpj))
    (of4_all (p := fun (k : Fin 4) (v : Vec Ideal S1x256x128 .f32) => ∀ (r : Fin 256) (l : Fin 128), v (ix3 0 r l) = I.pre b (256 * j + (5 + k.val + r.val)) (128 * (4 : Fin 12).val + l.val)) (tap4_0_at hj hpj) (tap4_1_at hj hpj) (tap4_2_at hj hpj) (tap4_3_at hj hpj))
    (of4_all (p := fun (k : Fin 4) (v : Vec Ideal S1x256x128 .f32) => ∀ (r : Fin 256) (l : Fin 128), v (ix3 0 r l) = I.pre b (256 * j + (5 + k.val + r.val)) (128 * (5 : Fin 12).val + l.val)) (tap5_0_at hj hpj) (tap5_1_at hj hpj) (tap5_2_at hj hpj) (tap5_3_at hj hpj))
    (of4_all (p := fun (k : Fin 4) (v : Vec Ideal S1x256x128 .f32) => ∀ (r : Fin 256) (l : Fin 128), v (ix3 0 r l) = I.pre b (256 * j + (5 + k.val + r.val)) (128 * (6 : Fin 12).val + l.val)) (tap6_0_at hj hpj) (tap6_1_at hj hpj) (tap6_2_at hj hpj) (tap6_3_at hj hpj))
    (of4_all (p := fun (k : Fin 4) (v : Vec Ideal S1x256x128 .f32) => ∀ (r : Fin 256) (l : Fin 128), v (ix3 0 r l) = I.pre b (256 * j + (5 + k.val + r.val)) (128 * (7 : Fin 12).val + l.val)) (tap7_0_at hj hpj) (tap7_1_at hj hpj) (tap7_2_at hj hpj) (tap7_3_at hj hpj))
    (of4_all (p := fun (k : Fin 4) (v : Vec Ideal S1x256x128 .f32) => ∀ (r : Fin 256) (l : Fin 128), v (ix3 0 r l) = I.pre b (256 * j + (5 + k.val + r.val)) (128 * (8 : Fin 12).val + l.val)) (tap8_0_at hj hpj) (tap8_1_at hj hpj) (tap8_2_at hj hpj) (tap8_3_at hj hpj))
    (of4_all (p := fun (k : Fin 4) (v : Vec Ideal S1x256x128 .f32) => ∀ (r : Fin 256) (l : Fin 128), v (ix3 0 r l) = I.pre b (256 * j + (5 + k.val + r.val)) (128 * (9 : Fin 12).val + l.val)) (tap9_0_at hj hpj) (tap9_1_at hj hpj) (tap9_2_at hj hpj) (tap9_3_at hj hpj))
    (of4_all (p := fun (k : Fin 4) (v : Vec Ideal S1x256x128 .f32) => ∀ (r : Fin 256) (l : Fin 128), v (ix3 0 r l) = I.pre b (256 * j + (5 + k.val + r.val)) (128 * (10 : Fin 12).val + l.val)) (tap10_0_at hj hpj) (tap10_1_at hj hpj) (tap10_2_at hj hpj) (tap10_3_at hj hpj))
    (of4_all (p := fun (k : Fin 4) (v : Vec Ideal S1x256x128 .f32) => ∀ (r : Fin 256) (l : Fin 128), v (ix3 0 r l) = I.pre b (256 * j + (5 + k.val + r.val)) (128 * (11 : Fin 12).val + l.val)) (tap11_0_at hj hpj) (tap11_1_at hj hpj) (tap11_2_at hj hpj) (tap11_3_at hj hpj))
  dtb := dtb_at hj hpj A
  al := al_at hj hpj A
  ds0 := ds0_at hj hpj A
  ds1 := ds1_at hj hpj A
  nw0 := nw0_at hj hpj A
  nw1 := nw1_at hj hpj A
  st0 n k := (load3 arg24.view _ 1 128 512 0 0 0 _ 0 n k).trans ((cleared_at _ _ _).trans (by rw [hj]; rfl))
  st1 n k := (load3 arg24.view _ 1 128 512 1 0 0 _ 0 n k).trans ((out3 arg24.view _ 1 128 512 0 0 0 _ _ _ _ _ _ (by left; right; decide)).trans ((cleared_at _ _ _).trans (by rw [hj]; rfl)))

end

end Cert.MixerIdeal.Gen.kernelRun0_B

end
-- ==== Proof.SsdEqB.lean ====
module

public import proofs.«01_k».proof.Proof.SsdLoadsB

/-!
# The step as the run leaves it, where a sequence starts

What the run stored of the branch is, value by value, the step's term of its loads.
-/

@[expose] public section

set_option maxRecDepth 65536

noncomputable section

namespace Cert.MixerIdeal.Gen.kernelRun0_B

open Cert.MixerIdeal Cert.MixerIdeal.Gen Cert.MixerIdeal.XBuf Cert.Ssd
open Idealize.ShloMosaic Idealize.ShloMosaic.TcCoe

/-- What the step is run on. -/
structure Ctx where
  c : Dev nD
  a6 : Memref sig .tc .vmem S4x1536 .f32
  w6 : a6.IsWhole
  a7 : Memref sig .tc .vmem S1x1536 .f32
  w7 : a7.IsWhole
  a8 : Memref sig .tc .vmem S1x128 .f32
  w8 : a8.IsWhole
  a9 : Memref sig .tc .vmem S1x128 .f32
  w9 : a9.IsWhole
  a10 : Memref sig .tc .vmem S1x1024 .f32
  w10 : a10.IsWhole
  a11 : Memref sig .tc .vmem S1x1024 .f32
  w11 : a11.IsWhole
  a23 : Memref sig .tc .vmem S12x264x128 .f32
  w23 : a23.IsWhole
  a24 : Memref sig .tc .vmem S2x128x512 .f32
  w24 : a24.IsWhole
  a25 : Memref sig .tc .vmem S256x6784 .f32
  w25 : a25.IsWhole
  x5 : Vec Ideal S4x1536 .f32
  x6 : Vec Ideal S1x1536 .f32
  x7 : Vec Ideal S1x128 .f32
  x8 : Vec Ideal S1x128 .f32
  x9 : Vec Ideal S1x1024 .f32
  x10 : Vec Ideal S1x1024 .f32
  xs5 : Vec Ideal S256x6784 .f32

variable (X : Ctx)

abbrev Ctx.L : Terms.Loads := loads X.c X.a6 X.w6 X.a7 X.w7 X.a8 X.w8 X.a9 X.w9 X.a10 X.w10 X.a11 X.w11 X.a23 X.w23 X.a24 X.w24 X.a25 X.w25 X.x5 X.x6 X.x7 X.x8 X.x9 X.x10 X.xs5

theorem e_v40 : sl.v40 (F := Ideal) X.c X.a25 X.w25 X.xs5 = Terms.v40 X.L := by
  simp only [sl.v40] <;> rfl

theorem e_v406 : sl.v406 (F := Ideal) X.c X.a6 X.w6 X.a7 X.w7 X.a23 X.a25 X.w25 X.x5 X.x6 X.xs5 = Terms.v406 X.L := by
  simp only [sl.v406, sl.v399, sl.v392, sl.v391, sl.v384, sl.v390, sl.v389, sl.v386, sl.v388, sl.v398, sl.v397, sl.v394, sl.v396, sl.v405, sl.v404, sl.v401, sl.v403] <;> rfl

theorem e_v408 : sl.v408 (F := Ideal) X.c X.a6 X.w6 X.x5 = Terms.v408 X.L := by
  simp only [sl.v408] <;> rfl

theorem e_r_18 : sl.r_18 (F := Ideal) X.c X.a6 X.w6 X.a7 X.w7 X.a23 X.a25 X.w25 X.x5 X.x6 X.xs5 = Terms.v426 X.L := by
  simp only [sl.r_18, e_v406 X, e_v408 X] <;> rfl

theorem e_r_14 : sl.r_14 (F := Ideal) X.c X.a7 X.w7 X.x6 = Terms.v336 X.L := by
  simp only [sl.r_14] <;> rfl

theorem e_r_15 : sl.r_15 (F := Ideal) X.c X.a6 X.w6 X.x5 = Terms.v338 X.L := by
  simp only [sl.r_15] <;> rfl

theorem e_r_16 : sl.r_16 (F := Ideal) X.c X.a6 X.w6 X.a7 X.w7 X.a23 X.a25 X.w25 X.x5 X.x6 X.xs5 = Terms.v365 X.L := by
  simp only [sl.r_16, e_r_14 X, e_r_15 X] <;> rfl

theorem e_r_17 : sl.r_17 (F := Ideal) X.c X.a6 X.w6 X.a7 X.w7 X.a23 X.a25 X.w25 X.x5 X.x6 X.xs5 = Terms.v373 X.L := by
  simp only [sl.r_17, e_r_14 X, e_r_15 X] <;> rfl

theorem e_v378 : sl.v378 (F := Ideal) X.c X.a6 X.w6 X.a7 X.w7 X.a23 X.a25 X.w25 X.x5 X.x6 X.xs5 = Terms.v378 X.L := by
  simp only [sl.v378, sl.v377, sl.v136, sl.cst_80, sl.v375, e_r_16 X, e_r_17 X] <;> rfl

theorem e_r_11 : sl.r_11 (F := Ideal) X.c X.a6 X.w6 X.a7 X.w7 X.a23 X.a25 X.w25 X.x5 X.x6 X.xs5 = Terms.v303 X.L := by
  simp only [sl.r_11] <;> rfl

theorem e_r_12 : sl.r_12 (F := Ideal) X.c X.a6 X.w6 X.x5 = Terms.v305 X.L := by
  simp only [sl.r_12] <;> rfl

theorem e_r_13 : sl.r_13 (F := Ideal) X.c X.a6 X.w6 X.a7 X.w7 X.a23 X.a25 X.w25 X.x5 X.x6 X.xs5 = Terms.v330 X.L := by
  simp only [sl.r_13, e_r_11 X, e_r_12 X] <;> rfl

theorem e_v269 : sl.v269 (F := Ideal) X.c X.a6 X.w6 X.a7 X.w7 X.a23 X.a25 X.w25 X.x5 X.x6 X.xs5 = Terms.v269 X.L := by
  simp only [sl.v269, sl.v262, sl.v255, sl.v248, sl.v247, sl.v240, sl.v246, sl.v245, sl.v242, sl.v244, sl.v254, sl.v253, sl.v250, sl.v252, sl.v261, sl.v260, sl.v257, sl.v259, sl.v268, sl.v267, sl.v264, sl.v266] <;> rfl

theorem e_r_10 : sl.r_10 (F := Ideal) X.c X.a6 X.w6 X.a7 X.w7 X.a23 X.a25 X.w25 X.x5 X.x6 X.xs5 = Terms.v282 X.L := by
  simp only [sl.r_10, e_v269 X] <;> rfl

theorem e_v620 : sl.v620 (F := Ideal) X.c X.a6 X.w6 X.a7 X.w7 X.a23 X.a25 X.w25 X.x5 X.x6 X.xs5 = Terms.v620 X.L := by
  have e : sl.v620 (F := Ideal) X.c X.a6 X.w6 X.a7 X.w7 X.a23 X.a25 X.w25 X.x5 X.x6 X.xs5 = k0_pay93 (F := Ideal) (sl.r_10 (F := Ideal) X.c X.a6 X.w6 X.a7 X.w7 X.a23 X.a25 X.w25 X.x5 X.x6 X.xs5) (sl.r_13 (F := Ideal) X.c X.a6 X.w6 X.a7 X.w7 X.a23 X.a25 X.w25 X.x5 X.x6 X.xs5) (sl.v378 (F := Ideal) X.c X.a6 X.w6 X.a7 X.w7 X.a23 X.a25 X.w25 X.x5 X.x6 X.xs5) (sl.r_18 (F := Ideal) X.c X.a6 X.w6 X.a7 X.w7 X.a23 X.a25 X.w25 X.x5 X.x6 X.xs5) := rfl
  rw [e, e_r_10 X, e_r_13 X, e_v378 X, e_r_18 X]
  rfl

theorem e_v653 : sl.v653 (F := Ideal)  = Terms.v653 X.L := by
  simp only [sl.v653, sl.v652, sl.v647, sl.v648, sl.v650, sl.cst_80, sl.v651, sl.cst_1540] <;> rfl

theorem e_v42 : sl.v42 (F := Ideal) X.c X.a25 X.w25 X.xs5 = Terms.v42 X.L := by
  simp only [sl.v42] <;> rfl

theorem e_v639 : sl.v639 (F := Ideal) X.c X.a8 X.w8 X.a25 X.w25 X.x7 X.xs5 = Terms.v639 X.L := by
  simp only [sl.v639, sl.v633, sl.v631, sl.v630, sl.v629, sl.v632, sl.cst_1540, sl.v638, sl.v637, sl.v636, sl.v634, e_v42 X] <;> rfl

theorem e_v654 : sl.v654 (F := Ideal) X.c X.a8 X.w8 X.a9 X.w9 X.a25 X.w25 X.x7 X.x8 X.xs5 = Terms.v654 X.L := by
  simp only [sl.v654, sl.v646, sl.v645, sl.v644, sl.v643, sl.cst_1540, sl.v642, sl.v641, e_v639 X] <;> rfl

theorem e_v657 : sl.v657 (F := Ideal) X.c X.a8 X.w8 X.a9 X.w9 X.a25 X.w25 X.x7 X.x8 X.xs5 = Terms.v657 X.L := by
  simp only [sl.v657, sl.v656, sl.v646, sl.v645, sl.v644, sl.v643, sl.cst_1540, sl.v642, sl.v641, sl.v655, e_v639 X, e_v654 X] <;> rfl

theorem e_v659 : sl.v659 (F := Ideal) X.c X.a8 X.w8 X.a9 X.w9 X.a25 X.w25 X.x7 X.x8 X.xs5 = Terms.v659 X.L := by
  simp only [sl.v659, sl.v656, sl.v646, sl.v645, sl.v644, sl.v643, sl.cst_1540, sl.v642, sl.v641, sl.v655, sl.v658, e_v639 X, e_v654 X, e_v657 X] <;> rfl

theorem e_r_31 : sl.r_31 (F := Ideal) X.c X.a8 X.w8 X.a9 X.w9 X.a25 X.w25 X.x7 X.x8 X.xs5 = Terms.v667 X.L := by
  simp only [sl.r_31, e_v653 X, e_v654 X, e_v657 X, e_v659 X] <;> rfl

theorem e_r_32 : sl.r_32 (F := Ideal) X.c X.a8 X.w8 X.a9 X.w9 X.a25 X.w25 X.x7 X.x8 X.xs5 = Terms.v668 X.L := by
  simp only [sl.r_32, e_v653 X, e_v654 X, e_v657 X, e_v659 X] <;> rfl

theorem e_r_39 : sl.r_39 (F := Ideal) X.c X.a8 X.w8 X.a9 X.w9 X.a25 X.w25 X.x7 X.x8 X.xs5 = Terms.v709 X.L := by
  simp only [sl.r_39, e_v653 X, e_v654 X, e_v657 X, e_v659 X] <;> rfl

theorem e_r_38 : sl.r_38 (F := Ideal) X.c X.a8 X.w8 X.a9 X.w9 X.a25 X.w25 X.x7 X.x8 X.xs5 = Terms.v707 X.L := by
  simp only [sl.r_38, e_v653 X, e_v654 X, e_v657 X, e_v659 X] <;> rfl

theorem e_r_36 : sl.r_36 (F := Ideal) X.c X.a8 X.w8 X.a9 X.w9 X.a25 X.w25 X.x7 X.x8 X.xs5 = Terms.v698 X.L := by
  simp only [sl.r_36, e_v653 X, e_v654 X, e_v657 X, e_v659 X] <;> rfl

theorem e_r_37 : sl.r_37 (F := Ideal) X.c X.a8 X.w8 X.a9 X.w9 X.a25 X.w25 X.x7 X.x8 X.xs5 = Terms.v705 X.L := by
  simp only [sl.r_37, e_v653 X, e_v654 X, e_v657 X, e_v659 X] <;> rfl

theorem e_r_34 : sl.r_34 (F := Ideal) X.c X.a8 X.w8 X.a9 X.w9 X.a25 X.w25 X.x7 X.x8 X.xs5 = Terms.v684 X.L := by
  simp only [sl.r_34, e_v653 X, e_v654 X, e_v657 X, e_v659 X] <;> rfl

theorem e_r_35 : sl.r_35 (F := Ideal) X.c X.a8 X.w8 X.a9 X.w9 X.a25 X.w25 X.x7 X.x8 X.xs5 = Terms.v691 X.L := by
  simp only [sl.r_35, e_v653 X, e_v654 X, e_v657 X, e_v659 X] <;> rfl

theorem e_v734 : sl.v734 (F := Ideal) X.c X.a8 X.w8 X.a9 X.w9 X.a25 X.w25 X.x7 X.x8 X.xs5 = Terms.v734 X.L := by
  simp only [sl.v734, sl.v726, sl.v723, sl.v722, sl.v720, sl.v725, sl.v724, sl.v721, sl.v733, sl.v730, sl.v729, sl.v727, sl.v732, sl.v731, sl.v728, sl.v712, sl.v711, sl.v710, sl.v719, sl.v716, sl.v715, sl.v713, sl.v718, sl.v717, sl.v714, e_r_31 X, e_r_39 X, e_r_38 X, e_r_36 X, e_r_37 X, e_r_34 X, e_r_35 X] <;> rfl

theorem e_r_27 : sl.r_27 (F := Ideal) X.c X.a7 X.w7 X.x6 = Terms.v576 X.L := by
  simp only [sl.r_27] <;> rfl

theorem e_r_28 : sl.r_28 (F := Ideal) X.c X.a6 X.w6 X.x5 = Terms.v578 X.L := by
  simp only [sl.r_28] <;> rfl

theorem e_r_29 : sl.r_29 (F := Ideal) X.c X.a6 X.w6 X.a7 X.w7 X.a23 X.a25 X.w25 X.x5 X.x6 X.xs5 = Terms.v605 X.L := by
  simp only [sl.r_29, e_r_27 X, e_r_28 X] <;> rfl

theorem e_r_30 : sl.r_30 (F := Ideal) X.c X.a6 X.w6 X.a7 X.w7 X.a23 X.a25 X.w25 X.x5 X.x6 X.xs5 = Terms.v613 X.L := by
  simp only [sl.r_30, e_r_27 X, e_r_28 X] <;> rfl

theorem e_r_24 : sl.r_24 (F := Ideal) X.c X.a6 X.w6 X.a7 X.w7 X.a23 X.a25 X.w25 X.x5 X.x6 X.xs5 = Terms.v543 X.L := by
  simp only [sl.r_24] <;> rfl

theorem e_r_25 : sl.r_25 (F := Ideal) X.c X.a6 X.w6 X.x5 = Terms.v545 X.L := by
  simp only [sl.r_25] <;> rfl

theorem e_r_26 : sl.r_26 (F := Ideal) X.c X.a6 X.w6 X.a7 X.w7 X.a23 X.a25 X.w25 X.x5 X.x6 X.xs5 = Terms.v570 X.L := by
  simp only [sl.r_26, e_r_24 X, e_r_25 X] <;> rfl

theorem e_v509 : sl.v509 (F := Ideal) X.c X.a6 X.w6 X.a7 X.w7 X.a23 X.a25 X.w25 X.x5 X.x6 X.xs5 = Terms.v509 X.L := by
  simp only [sl.v509, sl.v502, sl.v495, sl.v488, sl.v487, sl.v480, sl.v486, sl.v485, sl.v482, sl.v484, sl.v494, sl.v493, sl.v490, sl.v492, sl.v501, sl.v500, sl.v497, sl.v499, sl.v508, sl.v507, sl.v504, sl.v506] <;> rfl

theorem e_r_23 : sl.r_23 (F := Ideal) X.c X.a6 X.w6 X.a7 X.w7 X.a23 X.a25 X.w25 X.x5 X.x6 X.xs5 = Terms.v522 X.L := by
  simp only [sl.r_23, e_v509 X] <;> rfl

theorem e_r_19 : sl.r_19 (F := Ideal) X.c X.a6 X.w6 X.a7 X.w7 X.a23 X.a25 X.w25 X.x5 X.x6 X.xs5 = Terms.v440 X.L := by
  simp only [sl.r_19] <;> rfl

theorem e_r_20 : sl.r_20 (F := Ideal) X.c X.a6 X.w6 X.x5 = Terms.v442 X.L := by
  simp only [sl.r_20] <;> rfl

theorem e_r_21 : sl.r_21 (F := Ideal) X.c X.a6 X.w6 X.a7 X.w7 X.a23 X.a25 X.w25 X.x5 X.x6 X.xs5 = Terms.v474 X.L := by
  simp only [sl.r_21, e_r_19 X, e_r_20 X] <;> rfl

theorem e_v621 : sl.v621 (F := Ideal) X.c X.a6 X.w6 X.a7 X.w7 X.a23 X.a25 X.w25 X.x5 X.x6 X.xs5 = Terms.v621 X.L := by
  have e : sl.v621 (F := Ideal) X.c X.a6 X.w6 X.a7 X.w7 X.a23 X.a25 X.w25 X.x5 X.x6 X.xs5 = k0_pay93 (F := Ideal) (sl.r_21 (F := Ideal) X.c X.a6 X.w6 X.a7 X.w7 X.a23 X.a25 X.w25 X.x5 X.x6 X.xs5) (sl.r_23 (F := Ideal) X.c X.a6 X.w6 X.a7 X.w7 X.a23 X.a25 X.w25 X.x5 X.x6 X.xs5) (sl.r_26 (F := Ideal) X.c X.a6 X.w6 X.a7 X.w7 X.a23 X.a25 X.w25 X.x5 X.x6 X.xs5) (sl.v618 (F := Ideal) X.c X.a6 X.w6 X.a7 X.w7 X.a23 X.a25 X.w25 X.x5 X.x6 X.xs5) := rfl
  rw [e, e_r_21 X, e_r_23 X, e_r_26 X]
  simp only [sl.v618, sl.v617, sl.v136, sl.cst_80, sl.v615, e_r_29 X, e_r_30 X] <;> rfl

theorem e_r_71 : sl.r_71 (F := Ideal) X.c X.a6 X.w6 X.a7 X.w7 X.a23 X.a25 X.w25 X.x5 X.x6 X.xs5 = Terms.v1007 X.L := by
  simp only [sl.r_71, e_v621 X] <;> rfl

theorem e_r_72 : sl.r_72 (F := Ideal) X.c X.a6 X.w6 X.a7 X.w7 X.a23 X.a25 X.w25 X.x5 X.x6 X.xs5 = Terms.v1009 X.L := by
  simp only [sl.r_72, e_v621 X] <;> rfl

theorem e_v741 : sl.v741 (F := Ideal) X.c X.a8 X.w8 X.a25 X.w25 X.x7 X.xs5 = Terms.v741 X.L := by
  simp only [sl.v741, sl.v738, sl.v737, sl.v735, sl.v740, sl.v739, sl.v736, e_v639 X] <;> rfl

theorem e_v748 : sl.v748 (F := Ideal) X.c X.a8 X.w8 X.a25 X.w25 X.x7 X.xs5 = Terms.v748 X.L := by
  simp only [sl.v748, sl.v745, sl.v744, sl.v742, sl.v747, sl.v746, sl.v743, e_v639 X] <;> rfl

theorem e_v755 : sl.v755 (F := Ideal) X.c X.a8 X.w8 X.a25 X.w25 X.x7 X.xs5 = Terms.v755 X.L := by
  simp only [sl.v755, sl.v752, sl.v751, sl.v749, sl.v754, sl.v753, sl.v750, e_v639 X] <;> rfl

theorem e_v762 : sl.v762 (F := Ideal) X.c X.a8 X.w8 X.a25 X.w25 X.x7 X.xs5 = Terms.v762 X.L := by
  simp only [sl.v762, sl.v759, sl.v758, sl.v756, sl.v761, sl.v760, sl.v757, e_v639 X] <;> rfl

theorem e_v769 : sl.v769 (F := Ideal) X.c X.a8 X.w8 X.a25 X.w25 X.x7 X.xs5 = Terms.v769 X.L := by
  simp only [sl.v769, sl.v766, sl.v765, sl.v763, sl.v768, sl.v767, sl.v764, e_v639 X] <;> rfl

theorem e_r_40 : sl.r_40 (F := Ideal) X.c X.a8 X.w8 X.a25 X.w25 X.x7 X.xs5 = Terms.v791 X.L := by
  simp only [sl.r_40, e_v639 X, e_v741 X, e_v748 X, e_v755 X, e_v762 X, e_v769 X] <;> rfl

theorem e_r_74 : sl.r_74 (F := Ideal) X.c X.a6 X.w6 X.a7 X.w7 X.a8 X.w8 X.a23 X.a25 X.w25 X.x5 X.x6 X.x7 X.xs5 = Terms.v1016 X.L := by
  simp only [sl.r_74, e_v620 X, e_r_40 X] <;> rfl

theorem e_r_75 : sl.r_75 (F := Ideal) X.c X.a6 X.w6 X.a7 X.w7 X.a8 X.w8 X.a9 X.w9 X.a23 X.a25 X.w25 X.x5 X.x6 X.x7 X.x8 X.xs5 = Terms.v1029 X.L := by
  simp only [sl.r_75, sl.v647, sl.v648, e_v620 X, e_v621 X, e_r_31 X, e_r_32 X, e_r_40 X] <;> rfl

theorem e_r_76 : sl.r_76 (F := Ideal) X.c X.a6 X.w6 X.a7 X.w7 X.a8 X.w8 X.a9 X.w9 X.a23 X.a25 X.w25 X.x5 X.x6 X.x7 X.x8 X.xs5 = Terms.v1039 X.L := by
  simp only [sl.r_76, sl.v647, sl.v648, e_v621 X, e_r_31 X, e_r_32 X] <;> rfl

theorem e_r_77 : sl.r_77 (F := Ideal) X.c X.a6 X.w6 X.a7 X.w7 X.a8 X.w8 X.a9 X.w9 X.a23 X.a25 X.w25 X.x5 X.x6 X.x7 X.x8 X.xs5 = Terms.v1044 X.L := by
  simp only [sl.r_77, e_r_74 X, e_r_75 X, e_r_76 X] <;> rfl

theorem e_r_69 : sl.r_69 (F := Ideal) X.c X.a6 X.w6 X.a7 X.w7 X.a8 X.w8 X.a23 X.a25 X.w25 X.x5 X.x6 X.x7 X.xs5 = Terms.v1004 X.L := by
  simp only [sl.r_69, e_v620 X, e_r_40 X] <;> rfl

theorem e_r_79 : sl.r_79 (F := Ideal) X.c X.a6 X.w6 X.a7 X.w7 X.a8 X.w8 X.a9 X.w9 X.a23 X.a25 X.w25 X.x5 X.x6 X.x7 X.x8 X.xs5 = Terms.v1079 X.L := by
  simp only [sl.r_79, sl.v647, sl.v648, e_r_31 X, e_r_32 X, e_r_69 X, e_r_72 X] <;> rfl

theorem e_r_82 : sl.r_82 (F := Ideal) X.c X.a6 X.w6 X.a7 X.w7 X.a8 X.w8 X.a9 X.w9 X.a23 X.a25 X.w25 X.x5 X.x6 X.x7 X.x8 X.xs5 = Terms.v1114 X.L := by
  simp only [sl.r_82, sl.v647, sl.v648, e_r_31 X, e_r_32 X, e_r_69 X, e_r_72 X] <;> rfl

theorem e_r_84 : sl.r_84 (F := Ideal) X.c X.a6 X.w6 X.a7 X.w7 X.a8 X.w8 X.a23 X.a25 X.w25 X.x5 X.x6 X.x7 X.xs5 = Terms.v1121 X.L := by
  simp only [sl.r_84, e_r_69 X] <;> rfl

theorem e_r_85 : sl.r_85 (F := Ideal) X.c X.a6 X.w6 X.a7 X.w7 X.a8 X.w8 X.a9 X.w9 X.a23 X.a25 X.w25 X.x5 X.x6 X.x7 X.x8 X.xs5 = Terms.v1130 X.L := by
  simp only [sl.r_85, sl.v647, sl.v648, e_r_31 X, e_r_32 X, e_r_72 X] <;> rfl

theorem e_r_86 : sl.r_86 (F := Ideal) X.c X.a6 X.w6 X.a7 X.w7 X.a8 X.w8 X.a9 X.w9 X.a10 X.w10 X.a23 X.a24 X.a25 X.w25 X.x5 X.x6 X.x7 X.x8 X.x9 X.xs5 = Terms.v1163 X.L := by
  simp only [sl.r_86, sl.v647, sl.v648, e_v620 X, e_r_31 X, e_r_32 X, e_v734 X, e_r_71 X, e_r_72 X, e_r_77 X, e_r_79 X, e_r_82 X, e_r_84 X, e_r_85 X] <;> rfl

theorem e_r_6 : sl.r_6 (F := Ideal) X.c X.a6 X.w6 X.a7 X.w7 X.a23 X.a25 X.w25 X.x5 X.x6 X.xs5 = Terms.v200 X.L := by
  simp only [sl.r_6] <;> rfl

theorem e_r_7 : sl.r_7 (F := Ideal) X.c X.a6 X.w6 X.x5 = Terms.v202 X.L := by
  simp only [sl.r_7] <;> rfl

theorem e_r_8 : sl.r_8 (F := Ideal) X.c X.a6 X.w6 X.a7 X.w7 X.a23 X.a25 X.w25 X.x5 X.x6 X.xs5 = Terms.v234 X.L := by
  simp only [sl.r_8, e_r_6 X, e_r_7 X] <;> rfl

theorem e_v166 : sl.v166 (F := Ideal) X.c X.a6 X.w6 X.a7 X.w7 X.a23 X.a25 X.w25 X.x5 X.x6 X.xs5 = Terms.v166 X.L := by
  simp only [sl.v166, sl.v159, sl.v152, sl.v151, sl.v144, sl.v150, sl.v149, sl.v146, sl.v148, sl.v158, sl.v157, sl.v154, sl.v156, sl.v165, sl.v164, sl.v161, sl.v163] <;> rfl

theorem e_v168 : sl.v168 (F := Ideal) X.c X.a6 X.w6 X.x5 = Terms.v168 X.L := by
  simp only [sl.v168] <;> rfl

theorem e_r_5 : sl.r_5 (F := Ideal) X.c X.a6 X.w6 X.a7 X.w7 X.a23 X.a25 X.w25 X.x5 X.x6 X.xs5 = Terms.v186 X.L := by
  simp only [sl.r_5, e_v166 X, e_v168 X] <;> rfl

theorem e_r_1 : sl.r_1 (F := Ideal) X.c X.a7 X.w7 X.x6 = Terms.v96 X.L := by
  simp only [sl.r_1] <;> rfl

theorem e_r_2 : sl.r_2 (F := Ideal) X.c X.a6 X.w6 X.x5 = Terms.v98 X.L := by
  simp only [sl.r_2] <;> rfl

theorem e_r_3 : sl.r_3 (F := Ideal) X.c X.a6 X.w6 X.a7 X.w7 X.a23 X.a25 X.w25 X.x5 X.x6 X.xs5 = Terms.v125 X.L := by
  simp only [sl.r_3, e_r_1 X, e_r_2 X] <;> rfl

theorem e_r_4 : sl.r_4 (F := Ideal) X.c X.a6 X.w6 X.a7 X.w7 X.a23 X.a25 X.w25 X.x5 X.x6 X.xs5 = Terms.v133 X.L := by
  simp only [sl.r_4, e_r_1 X, e_r_2 X] <;> rfl

theorem e_v138 : sl.v138 (F := Ideal) X.c X.a6 X.w6 X.a7 X.w7 X.a23 X.a25 X.w25 X.x5 X.x6 X.xs5 = Terms.v138 X.L := by
  simp only [sl.v138, sl.v137, sl.v136, sl.cst_80, sl.v135, e_r_3 X, e_r_4 X] <;> rfl

theorem e_v63 : sl.v63 (F := Ideal) X.c X.a6 X.w6 X.a7 X.w7 X.a23 X.a25 X.w25 X.x5 X.x6 X.xs5 = Terms.v63 X.L := by
  simp only [sl.v63, sl.v56, sl.v55, sl.v48, sl.v54, sl.v53, sl.v50, sl.v52, sl.v62, sl.v61, sl.v58, sl.v60] <;> rfl

theorem e_v65 : sl.v65 (F := Ideal) X.c X.a6 X.w6 X.x5 = Terms.v65 X.L := by
  simp only [sl.v65] <;> rfl

theorem e_r : sl.r (F := Ideal) X.c X.a6 X.w6 X.a7 X.w7 X.a23 X.a25 X.w25 X.x5 X.x6 X.xs5 = Terms.v90 X.L := by
  simp only [sl.r, e_v63 X, e_v65 X] <;> rfl

theorem e_v619 : sl.v619 (F := Ideal) X.c X.a6 X.w6 X.a7 X.w7 X.a23 X.a25 X.w25 X.x5 X.x6 X.xs5 = Terms.v619 X.L := by
  have e : sl.v619 (F := Ideal) X.c X.a6 X.w6 X.a7 X.w7 X.a23 X.a25 X.w25 X.x5 X.x6 X.xs5 = k0_pay93 (F := Ideal) (sl.r (F := Ideal) X.c X.a6 X.w6 X.a7 X.w7 X.a23 X.a25 X.w25 X.x5 X.x6 X.xs5) (sl.v138 (F := Ideal) X.c X.a6 X.w6 X.a7 X.w7 X.a23 X.a25 X.w25 X.x5 X.x6 X.xs5) (sl.r_5 (F := Ideal) X.c X.a6 X.w6 X.a7 X.w7 X.a23 X.a25 X.w25 X.x5 X.x6 X.xs5) (sl.r_8 (F := Ideal) X.c X.a6 X.w6 X.a7 X.w7 X.a23 X.a25 X.w25 X.x5 X.x6 X.xs5) := rfl
  rw [e, e_r X, e_v138 X, e_r_5 X, e_r_8 X]
  rfl

theorem e_r_43 : sl.r_43 (F := Ideal) X.c X.a6 X.w6 X.a7 X.w7 X.a8 X.w8 X.a23 X.a25 X.w25 X.x5 X.x6 X.x7 X.xs5 = Terms.v800 X.L := by
  simp only [sl.r_43, e_v619 X, e_v639 X, e_v741 X, e_v748 X, e_v755 X, e_v762 X, e_v769 X] <;> rfl

theorem e_r_46 : sl.r_46 (F := Ideal) X.c X.a6 X.w6 X.a7 X.w7 X.a23 X.a25 X.w25 X.x5 X.x6 X.xs5 = Terms.v805 X.L := by
  simp only [sl.r_46, e_v621 X] <;> rfl

theorem e_r_48 : sl.r_48 (F := Ideal) X.c X.a6 X.w6 X.a7 X.w7 X.a8 X.w8 X.a23 X.a25 X.w25 X.x5 X.x6 X.x7 X.xs5 = Terms.v812 X.L := by
  simp only [sl.r_48, e_v619 X, e_v639 X, e_v741 X, e_v748 X, e_v755 X, e_v762 X, e_v769 X] <;> rfl

theorem e_r_49 : sl.r_49 (F := Ideal) X.c X.a8 X.w8 X.a9 X.w9 X.a25 X.w25 X.x7 X.x8 X.xs5 = Terms.v817 X.L := by
  simp only [sl.r_49, e_r_31 X, e_r_32 X] <;> rfl

theorem e_r_50 : sl.r_50 (F := Ideal) X.c X.a6 X.w6 X.a7 X.w7 X.a8 X.w8 X.a9 X.w9 X.a23 X.a25 X.w25 X.x5 X.x6 X.x7 X.x8 X.xs5 = Terms.v840 X.L := by
  simp only [sl.r_50, sl.v647, sl.v648, sl.cst_438, e_r_31 X, e_r_32 X, e_r_46 X, e_r_48 X, e_r_49 X] <;> rfl

theorem e_r_52 : sl.r_52 (F := Ideal) X.c X.a6 X.w6 X.a7 X.w7 X.a8 X.w8 X.a23 X.a25 X.w25 X.x5 X.x6 X.x7 X.xs5 = Terms.v847 X.L := by
  simp only [sl.r_52, e_r_43 X] <;> rfl

theorem e_r_53 : sl.r_53 (F := Ideal) X.c X.a6 X.w6 X.a7 X.w7 X.a8 X.w8 X.a9 X.w9 X.a23 X.a25 X.w25 X.x5 X.x6 X.x7 X.x8 X.xs5 = Terms.v860 X.L := by
  simp only [sl.r_53, sl.v647, sl.v648, e_r_31 X, e_r_32 X, e_r_43 X, e_r_46 X] <;> rfl

theorem e_r_54 : sl.r_54 (F := Ideal) X.c X.a8 X.w8 X.a9 X.w9 X.a25 X.w25 X.x7 X.x8 X.xs5 = Terms.v862 X.L := by
  simp only [sl.r_54, e_r_32 X] <;> rfl

theorem e_r_55 : sl.r_55 (F := Ideal) X.c X.a8 X.w8 X.a9 X.w9 X.a25 X.w25 X.x7 X.x8 X.xs5 = Terms.v863 X.L := by
  simp only [sl.r_55, e_r_31 X] <;> rfl

theorem e_r_56 : sl.r_56 (F := Ideal) X.c X.a6 X.w6 X.a7 X.w7 X.a8 X.w8 X.a9 X.w9 X.a23 X.a25 X.w25 X.x5 X.x6 X.x7 X.x8 X.xs5 = Terms.v875 X.L := by
  simp only [sl.r_56, sl.v647, sl.v648, e_r_46 X, e_r_52 X, e_r_53 X, e_r_54 X, e_r_55 X] <;> rfl

theorem e_r_58 : sl.r_58 (F := Ideal) X.c X.a6 X.w6 X.a7 X.w7 X.a8 X.w8 X.a9 X.w9 X.a23 X.a25 X.w25 X.x5 X.x6 X.x7 X.x8 X.xs5 = Terms.v895 X.L := by
  simp only [sl.r_58, sl.v647, sl.v648, e_r_31 X, e_r_32 X, e_r_43 X, e_r_46 X] <;> rfl

theorem e_r_59 : sl.r_59 (F := Ideal) X.c X.a6 X.w6 X.a7 X.w7 X.a8 X.w8 X.a9 X.w9 X.a23 X.a25 X.w25 X.x5 X.x6 X.x7 X.x8 X.xs5 = Terms.v905 X.L := by
  simp only [sl.r_59, sl.v647, sl.v648, e_r_31 X, e_r_32 X, e_r_46 X] <;> rfl

theorem e_r_60 : sl.r_60 (F := Ideal) X.c X.a6 X.w6 X.a7 X.w7 X.a8 X.w8 X.a23 X.a25 X.w25 X.x5 X.x6 X.x7 X.xs5 = Terms.v908 X.L := by
  simp only [sl.r_60, e_r_43 X] <;> rfl

theorem e_r_62 : sl.r_62 (F := Ideal) X.c X.a6 X.w6 X.a7 X.w7 X.a8 X.w8 X.a9 X.w9 X.a23 X.a25 X.w25 X.x5 X.x6 X.x7 X.x8 X.xs5 = Terms.v946 X.L := by
  simp only [sl.r_62, sl.v647, sl.v648, e_r_31 X, e_r_32 X, e_r_43 X, e_r_46 X, e_r_50 X, e_r_56 X, e_r_58 X, e_r_59 X, e_r_60 X] <;> rfl

theorem e_r_64 : sl.r_64 (F := Ideal) X.c X.a8 X.w8 X.a9 X.w9 X.a25 X.w25 X.x7 X.x8 X.xs5 = Terms.v949 X.L := by
  simp only [sl.r_64, e_v734 X] <;> rfl

theorem e_r_45 : sl.r_45 (F := Ideal) X.c X.a6 X.w6 X.a7 X.w7 X.a23 X.a25 X.w25 X.x5 X.x6 X.xs5 = Terms.v803 X.L := by
  simp only [sl.r_45, e_v621 X] <;> rfl

theorem e_r_65 : sl.r_65 (F := Ideal) X.c X.a6 X.w6 X.a7 X.w7 X.a23 X.a24 X.a25 X.w25 X.x5 X.x6 X.xs5 = Terms.v951 X.L := by
  simp only [sl.r_65, e_r_45 X] <;> rfl

theorem e_r_66 : sl.r_66 (F := Ideal) X.c X.a6 X.w6 X.a7 X.w7 X.a8 X.w8 X.a9 X.w9 X.a10 X.w10 X.a23 X.a24 X.a25 X.w25 X.x5 X.x6 X.x7 X.x8 X.x9 X.xs5 = Terms.v995 X.L := by
  simp only [sl.r_66, e_v40 X, e_v619 X, e_r_62 X, e_r_64 X, e_r_65 X] <;> rfl

theorem e_r_68 : sl.r_68 (F := Ideal) X.c X.a6 X.w6 X.a7 X.w7 X.a8 X.w8 X.a23 X.a25 X.w25 X.x5 X.x6 X.x7 X.xs5 = Terms.v1003 X.L := by
  simp only [sl.r_68, e_v620 X, e_r_40 X] <;> rfl

theorem e_r_70 : sl.r_70 (F := Ideal) X.c X.a6 X.w6 X.a7 X.w7 X.a23 X.a25 X.w25 X.x5 X.x6 X.xs5 = Terms.v1005 X.L := by
  simp only [sl.r_70, e_v621 X] <;> rfl

theorem e_r_87 : sl.r_87 (F := Ideal) X.c X.a6 X.w6 X.a7 X.w7 X.a8 X.w8 X.a9 X.w9 X.a23 X.a24 X.a25 X.w25 X.x5 X.x6 X.x7 X.x8 X.xs5 = Terms.v1176 X.L := by
  simp only [sl.r_87, e_v734 X, e_r_68 X, e_r_70 X] <;> rfl

theorem e_r_42 : sl.r_42 (F := Ideal) X.c X.a6 X.w6 X.a7 X.w7 X.a8 X.w8 X.a23 X.a25 X.w25 X.x5 X.x6 X.x7 X.xs5 = Terms.v799 X.L := by
  simp only [sl.r_42, e_v619 X, e_v639 X, e_v741 X, e_v748 X, e_v755 X, e_v762 X, e_v769 X] <;> rfl

theorem e_r_44 : sl.r_44 (F := Ideal) X.c X.a6 X.w6 X.a7 X.w7 X.a23 X.a25 X.w25 X.x5 X.x6 X.xs5 = Terms.v801 X.L := by
  simp only [sl.r_44, e_v621 X] <;> rfl

theorem e_r_63 : sl.r_63 (F := Ideal) X.c X.a24 = Terms.v948 X.L := by
  simp only [sl.r_63] <;> rfl

variable (c : Dev nD) (i : grid0.Coords) (a1 : Memref sig .tc .vmem S256x2048 .f32) (w1 : a1.IsWhole) (a2 : Memref sig .tc .vmem S1x2048 .f32) (w2 : a2.IsWhole) (a3 : Memref sig .tc .vmem S2048x6672 .bf16) (w3 : a3.IsWhole) (a4 : Memref sig .tc .vmem S2x1024 .f32) (w4 : a4.IsWhole) (a5 : Memref sig .tc .vmem S1x1024 .f32) (w5 : a5.IsWhole) (a6 : Memref sig .tc .vmem S4x1536 .f32) (w6 : a6.IsWhole) (a7 : Memref sig .tc .vmem S1x1536 .f32) (w7 : a7.IsWhole) (a8 : Memref sig .tc .vmem S1x128 .f32) (w8 : a8.IsWhole) (a9 : Memref sig .tc .vmem S1x128 .f32) (w9 : a9.IsWhole) (a10 : Memref sig .tc .vmem S1x1024 .f32) (w10 : a10.IsWhole) (a11 : Memref sig .tc .vmem S1x1024 .f32) (w11 : a11.IsWhole) (a12 : Memref sig .tc .vmem S32x5632 .f32) (w12 : a12.IsWhole) (a13 : Memref sig .tc .vmem S32x5632 .f32) (w13 : a13.IsWhole) (a14 : Memref sig .tc .vmem S32x2048 .f32) (w14 : a14.IsWhole) (a15 : Memref sig .tc .vmem S256x1024 .bf16) (w15 : a15.IsWhole) (a16 : Memref sig .tc .vmem S256x1024 .bf16) (w16 : a16.IsWhole) (a17 : Memref sig .tc .vmem S32x5632 .bf16) (w17 : a17.IsWhole) (a18 : Memref sig .tc .vmem S32x5632 .bf16) (w18 : a18.IsWhole) (a19 : Memref sig .tc .vmem S32x2048 .bf16) (w19 : a19.IsWhole) (a20 : Memref sig .tc .vmem S8x128x128 .f32) (w20 : a20.IsWhole) (a21 : Memref sig .tc .vmem S128x128 .i32) (w21 : a21.IsWhole) (a22 : Memref sig .tc .vmem S1x1024 .f32) (w22 : a22.IsWhole) (a23 : Memref sig .tc .vmem S12x264x128 .f32) (w23 : a23.IsWhole) (a24 : Memref sig .tc .vmem S2x128x512 .f32) (w24 : a24.IsWhole) (a25 : Memref sig .tc .vmem S256x6784 .f32) (w25 : a25.IsWhole) (a26 : Memref sig .tc .vmem S2048x128 .bf16) (w26 : a26.IsWhole) (hc0 : ¬cond0_0 i) (hc1 : cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32) (xs1 : Vec Ideal S128x128 .i32) (xs2 : Vec Ideal S1x1024 .f32) (xs5 : Vec Ideal S256x6784 .f32) (xs6 : Vec Ideal S2048x128 .bf16)

set_option maxHeartbeats 1000000 in
/-- What the point stores of the branch is the step's term, -/
theorem out_eq :
    (kernelRun0_B (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs1 xs2 xs5 xs6).2.1
      = [⟨Rect.unit (s := S256x1024) ![0, 512] S256x512.size inb_S256x1024_S256x512_0_512, Terms.v1204 (loads c a6 w6 a7 w7 a8 w8 a9 w9 a10 w10 a11 w11 a23 w23 a24 w24 a25 w25 x5 x6 x7 x8 x9 x10 xs5)⟩,
        ⟨Rect.unit (s := S256x1024) ![0, 0] S256x512.size inb_S256x1024_S256x512_0_0, Terms.v1000 (loads c a6 w6 a7 w7 a8 w8 a9 w9 a10 w10 a11 w11 a23 w23 a24 w24 a25 w25 x5 x6 x7 x8 x9 x10 xs5)⟩] := by
  have e : (kernelRun0_B (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs1 xs2 xs5 xs6).2.1
      = [⟨Rect.unit (s := S256x1024) ![0, 512] S256x512.size inb_S256x1024_S256x512_0_512, k0_pay176 (F := Ideal) (sl.v40 (F := Ideal) c a25 w25 xs5) (sl.r_86 (F := Ideal) c a6 w6 a7 w7 a8 w8 a9 w9 a10 w10 a23 a24 a25 w25 x5 x6 x7 x8 x9 xs5) (a11.view.readAt (Elt Ideal) (Rect.unit (s := S1x1024) ![0, 512] S1x512.size inb_S1x1024_S1x512_0_512).toLoadRect (w11.unread x10))⟩,
        ⟨Rect.unit (s := S256x1024) ![0, 0] S256x512.size inb_S256x1024_S256x512_0_0, k0_pay150 (F := Ideal) (sl.r_66 (F := Ideal) c a6 w6 a7 w7 a8 w8 a9 w9 a10 w10 a23 a24 a25 w25 x5 x6 x7 x8 x9 xs5) (sl.r_67 (F := Ideal) c a11 w11 x10)⟩] := rfl
  rw [e]
  have e1 := e_v40 ⟨c, a6, w6, a7, w7, a8, w8, a9, w9, a10, w10, a11, w11, a23, w23, a24, w24, a25, w25, x5, x6, x7, x8, x9, x10, xs5⟩
  have e2 := e_r_86 ⟨c, a6, w6, a7, w7, a8, w8, a9, w9, a10, w10, a11, w11, a23, w23, a24, w24, a25, w25, x5, x6, x7, x8, x9, x10, xs5⟩
  have e3 := e_r_66 ⟨c, a6, w6, a7, w7, a8, w8, a9, w9, a10, w10, a11, w11, a23, w23, a24, w24, a25, w25, x5, x6, x7, x8, x9, x10, xs5⟩
  dsimp only at e1 e2 e3
  rw [e1, e2, e3]
  rfl

set_option maxHeartbeats 1000000 in
/-- so is the state it leaves, -/
theorem state_eq :
    (kernelRun0_B (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs1 xs2 xs5 xs6).2.2.2.2.2.2.2.2.2.1
      = [⟨Rect.unit (s := S2x128x512) ![1, 0, 0] S1x128x512.size inb_S2x128x512_S1x128x512_1_0_0, Terms.v1179 (loads c a6 w6 a7 w7 a8 w8 a9 w9 a10 w10 a11 w11 a23 w23 a24 w24 a25 w25 x5 x6 x7 x8 x9 x10 xs5)⟩,
        ⟨Rect.unit (s := S2x128x512) ![0, 0, 0] S1x128x512.size inb_S2x128x512_S1x128x512_0_0_0, Terms.v975 (loads c a6 w6 a7 w7 a8 w8 a9 w9 a10 w10 a11 w11 a23 w23 a24 w24 a25 w25 x5 x6 x7 x8 x9 x10 xs5)⟩,
        ⟨Rect.unit (s := S2x128x512) ![0, 0, 0] S2x128x512.size inb_S2x128x512_S2x128x512_0_0_0, sl.v4484 (F := Ideal)⟩] := by
  have e : (kernelRun0_B (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs1 xs2 xs5 xs6).2.2.2.2.2.2.2.2.2.1
      = [⟨Rect.unit (s := S2x128x512) ![1, 0, 0] S1x128x512.size inb_S2x128x512_S1x128x512_1_0_0, k0_pay175 (F := Ideal) (sl.r_87 (F := Ideal) c a6 w6 a7 w7 a8 w8 a9 w9 a23 a24 a25 w25 x5 x6 x7 x8 xs5)⟩,
        ⟨Rect.unit (s := S2x128x512) ![0, 0, 0] S1x128x512.size inb_S2x128x512_S1x128x512_0_0_0, k0_pay148 (F := Ideal) (sl.r_42 (F := Ideal) c a6 w6 a7 w7 a8 w8 a23 a25 w25 x5 x6 x7 xs5) (sl.r_44 (F := Ideal) c a6 w6 a7 w7 a23 a25 w25 x5 x6 xs5) (sl.r_63 (F := Ideal) c a24) (sl.r_64 (F := Ideal) c a8 w8 a9 w9 a25 w25 x7 x8 xs5)⟩,
        ⟨Rect.unit (s := S2x128x512) ![0, 0, 0] S2x128x512.size inb_S2x128x512_S2x128x512_0_0_0, sl.v4484 (F := Ideal)⟩] := rfl
  rw [e]
  have e1 := e_r_87 ⟨c, a6, w6, a7, w7, a8, w8, a9, w9, a10, w10, a11, w11, a23, w23, a24, w24, a25, w25, x5, x6, x7, x8, x9, x10, xs5⟩
  have e2 := e_r_42 ⟨c, a6, w6, a7, w7, a8, w8, a9, w9, a10, w10, a11, w11, a23, w23, a24, w24, a25, w25, x5, x6, x7, x8, x9, x10, xs5⟩
  have e3 := e_r_44 ⟨c, a6, w6, a7, w7, a8, w8, a9, w9, a10, w10, a11, w11, a23, w23, a24, w24, a25, w25, x5, x6, x7, x8, x9, x10, xs5⟩
  have e4 := e_r_63 ⟨c, a6, w6, a7, w7, a8, w8, a9, w9, a10, w10, a11, w11, a23, w23, a24, w24, a25, w25, x5, x6, x7, x8, x9, x10, xs5⟩
  have e5 := e_r_64 ⟨c, a6, w6, a7, w7, a8, w8, a9, w9, a10, w10, a11, w11, a23, w23, a24, w24, a25, w25, x5, x6, x7, x8, x9, x10, xs5⟩
  dsimp only at e1 e2 e3 e4 e5
  rw [e1, e2, e3, e4, e5]
  rfl

set_option maxHeartbeats 1000000 in
/-- and the convolution's buffer ends with its last slab's last rows moved. -/
theorem buf_eq :
    (kernelRun0_B (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs1 xs2 xs5 xs6).2.2.2.2.2.2.2.2.1
      = ⟨Rect.unit (s := S12x264x128) ![11, 0, 0] S1x8x128.size inb_S12x264x128_S1x8x128_11_0_0, k0_pay90 (F := Ideal) (sl.v606 (F := Ideal) c a23 a25 w25 xs5)⟩ :: (sl.HS3_24 (F := Ideal) c a23 a25 w25 xs5) := rfl

end Cert.MixerIdeal.Gen.kernelRun0_B

end
-- ==== Proof.SsdProjB.lean ====
module

public import proofs.«01_k».proof.Proof.SsdProj
public import proofs.«01_k».proof.Proof.Gen.MixerIdeal.Frame.RunB

/-!
# The projection that a point leaves, a point that starts a sequence
-/

@[expose] public section

set_option maxRecDepth 65536

noncomputable section

namespace Cert.MixerIdeal.Gen.kernelRun0_B

open Cert.MixerIdeal Cert.MixerIdeal.Gen Cert.MixerIdeal.XBuf Cert.MixerIdeal.Terms Cert.MixerIdeal.Proj Cert.Ssd Cert.RowNorm
open Idealize.ShloMosaic Idealize.ShloMosaic.TcCoe

section

variable {c : Dev nD} {arg1 : Memref sig .tc .vmem S256x2048 .f32} {harg1 : arg1.IsWhole} {arg2 : Memref sig .tc .vmem S1x2048 .f32} {harg2 : arg2.IsWhole} {arg3 : Memref sig .tc .vmem S2048x6672 .bf16} {harg3 : arg3.IsWhole} {arg26 : Memref sig .tc .vmem S2048x128 .bf16} {harg26 : arg26.IsWhole} {x0 : Vec Ideal S256x2048 .f32} {x1 : Vec Ideal S1x2048 .f32} {x2 : Vec Ideal S2048x6672 .bf16} {xs6 : Vec Ideal S2048x128 .bf16}
  {W : Fin 2048 → ℕ → EReal}

theorem row_at (r : Fin 256) (k : Fin 2048) : ((sl.v38 (F := Ideal) c arg1 harg1 arg2 harg2 x0 x1)) (ix2 r k) = hrow x0 x1 r k := by
  have e1 : (sl.v23 (F := Ideal) c arg1 harg1 x0) = x0 := by
    unfold sl.v23
    rw [shapeCast_self, View.readAt_full, Memref.IsWhole.read_unread]
  have e2 : (sl.v35 (F := Ideal) c arg2 harg2 x1) = x1 := by
    unfold sl.v35
    rw [shapeCast_self, View.readAt_full, Memref.IsWhole.read_unread]
  unfold sl.v38 sl.v37 sl.v33 sl.v36 sl.v32 sl.v31 sl.v30 sl.v28 sl.v26 sl.v25 sl.v24 sl.v27 sl.v29 sl.cst_17 sl.cst_18
  rw [e1, e2]
  pointwise
  rfl

theorem cols4096_at (hW : ∀ (k : Fin 2048) (n : Fin 6672), x2 (ix2 k n) = W k n.val) (r : Fin 256) (n : Fin 256) :
    ((sl.v4446 (F := Ideal) c arg1 harg1 arg2 harg2 arg3 harg3 x0 x1 x2)) (ix2 r n) = ∑ k, hrow x0 x1 r k * W k (4096 + n.val) := by
  have e : ((sl.v4446 (F := Ideal) c arg1 harg1 arg2 harg2 arg3 harg3 x0 x1 x2)) (ix2 r n) = ((sl.v2112 (F := Ideal) c arg1 harg1 arg2 harg2 arg3 harg3 x0 x1 x2)) (ix2 r n) := by pointwise [sl.v4446]
  rw [e]
  refine (dot256 _ _ r n).trans (Finset.sum_congr rfl fun k _ => congrArg₂ (· * ·) (row_at r k) ?_)
  refine cat _ _ _ k n (W k) 4096 (fun l => ?_) (fun l => ?_)
  · have e1 : ((sl.v2108 (F := Ideal) c arg3 harg3 x2)) (ix2 k l) = arg3.view.readAt (Elt Ideal) (Rect.unit (s := S2048x6672) ![0, 4096] S2048x128.size inb_S2048x6672_S2048x128_0_4096).toLoadRect (harg3.unread x2) (ix2 k l) := by
      unfold sl.v2108
      rw [shapeCast_self]
    exact e1.trans ((cols arg3.view _ x2 (Memref.IsWhole.read_unread _ _) 4096 (by decide) _ k l).trans (hW k _))
  · have e1 : ((sl.v2110 (F := Ideal) c arg3 harg3 x2)) (ix2 k l) = arg3.view.readAt (Elt Ideal) (Rect.unit (s := S2048x6672) ![0, 4224] S2048x128.size inb_S2048x6672_S2048x128_0_4224).toLoadRect (harg3.unread x2) (ix2 k l) := by
      unfold sl.v2110
      rw [shapeCast_self]
    exact e1.trans ((cols arg3.view _ x2 (Memref.IsWhole.read_unread _ _) 4224 (by decide) _ k l).trans (hW k _))

theorem cols4352_at (hW : ∀ (k : Fin 2048) (n : Fin 6672), x2 (ix2 k n) = W k n.val) (r : Fin 256) (n : Fin 256) :
    ((sl.v4449 (F := Ideal) c arg1 harg1 arg2 harg2 arg3 harg3 x0 x1 x2)) (ix2 r n) = ∑ k, hrow x0 x1 r k * W k (4352 + n.val) := by
  have e : ((sl.v4449 (F := Ideal) c arg1 harg1 arg2 harg2 arg3 harg3 x0 x1 x2)) (ix2 r n) = ((sl.v2329 (F := Ideal) c arg1 harg1 arg2 harg2 arg3 harg3 x0 x1 x2)) (ix2 r n) := by pointwise [sl.v4449]
  rw [e]
  refine (dot256 _ _ r n).trans (Finset.sum_congr rfl fun k _ => congrArg₂ (· * ·) (row_at r k) ?_)
  refine cat _ _ _ k n (W k) 4352 (fun l => ?_) (fun l => ?_)
  · have e1 : ((sl.v2325 (F := Ideal) c arg3 harg3 x2)) (ix2 k l) = arg3.view.readAt (Elt Ideal) (Rect.unit (s := S2048x6672) ![0, 4352] S2048x128.size inb_S2048x6672_S2048x128_0_4352).toLoadRect (harg3.unread x2) (ix2 k l) := by
      unfold sl.v2325
      rw [shapeCast_self]
    exact e1.trans ((cols arg3.view _ x2 (Memref.IsWhole.read_unread _ _) 4352 (by decide) _ k l).trans (hW k _))
  · have e1 : ((sl.v2327 (F := Ideal) c arg3 harg3 x2)) (ix2 k l) = arg3.view.readAt (Elt Ideal) (Rect.unit (s := S2048x6672) ![0, 4480] S2048x128.size inb_S2048x6672_S2048x128_0_4480).toLoadRect (harg3.unread x2) (ix2 k l) := by
      unfold sl.v2327
      rw [shapeCast_self]
    exact e1.trans ((cols arg3.view _ x2 (Memref.IsWhole.read_unread _ _) 4480 (by decide) _ k l).trans (hW k _))

theorem cols4608_at (hW : ∀ (k : Fin 2048) (n : Fin 6672), x2 (ix2 k n) = W k n.val) (r : Fin 256) (n : Fin 256) :
    ((sl.v4452 (F := Ideal) c arg1 harg1 arg2 harg2 arg3 harg3 x0 x1 x2)) (ix2 r n) = ∑ k, hrow x0 x1 r k * W k (4608 + n.val) := by
  have e : ((sl.v4452 (F := Ideal) c arg1 harg1 arg2 harg2 arg3 harg3 x0 x1 x2)) (ix2 r n) = ((sl.v2546 (F := Ideal) c arg1 harg1 arg2 harg2 arg3 harg3 x0 x1 x2)) (ix2 r n) := by pointwise [sl.v4452]
  rw [e]
  refine (dot256 _ _ r n).trans (Finset.sum_congr rfl fun k _ => congrArg₂ (· * ·) (row_at r k) ?_)
  refine cat _ _ _ k n (W k) 4608 (fun l => ?_) (fun l => ?_)
  · have e1 : ((sl.v2542 (F := Ideal) c arg3 harg3 x2)) (ix2 k l) = arg3.view.readAt (Elt Ideal) (Rect.unit (s := S2048x6672) ![0, 4608] S2048x128.size inb_S2048x6672_S2048x128_0_4608).toLoadRect (harg3.unread x2) (ix2 k l) := by
      unfold sl.v2542
      rw [shapeCast_self]
    exact e1.trans ((cols arg3.view _ x2 (Memref.IsWhole.read_unread _ _) 4608 (by decide) _ k l).trans (hW k _))
  · have e1 : ((sl.v2544 (F := Ideal) c arg3 harg3 x2)) (ix2 k l) = arg3.view.readAt (Elt Ideal) (Rect.unit (s := S2048x6672) ![0, 4736] S2048x128.size inb_S2048x6672_S2048x128_0_4736).toLoadRect (harg3.unread x2) (ix2 k l) := by
      unfold sl.v2544
      rw [shapeCast_self]
    exact e1.trans ((cols arg3.view _ x2 (Memref.IsWhole.read_unread _ _) 4736 (by decide) _ k l).trans (hW k _))

theorem cols4864_at (hW : ∀ (k : Fin 2048) (n : Fin 6672), x2 (ix2 k n) = W k n.val) (r : Fin 256) (n : Fin 256) :
    (k0_pay742 (F := Ideal) (sl.v2616 (F := Ideal) c arg1 harg1 arg2 harg2 arg3 harg3 x0 x1 x2)) (ix2 r n) = ∑ k, hrow x0 x1 r k * W k (4864 + n.val) := by
  have e : (k0_pay742 (F := Ideal) (sl.v2616 (F := Ideal) c arg1 harg1 arg2 harg2 arg3 harg3 x0 x1 x2)) (ix2 r n) = ((sl.v2616 (F := Ideal) c arg1 harg1 arg2 harg2 arg3 harg3 x0 x1 x2)) (ix2 r n) := by pointwise [k0_pay742]
  rw [e]
  refine (dot256 _ _ r n).trans (Finset.sum_congr rfl fun k _ => congrArg₂ (· * ·) (row_at r k) ?_)
  refine cat _ _ _ k n (W k) 4864 (fun l => ?_) (fun l => ?_)
  · have e1 : ((sl.v2612 (F := Ideal) c arg3 harg3 x2)) (ix2 k l) = arg3.view.readAt (Elt Ideal) (Rect.unit (s := S2048x6672) ![0, 4864] S2048x128.size inb_S2048x6672_S2048x128_0_4864).toLoadRect (harg3.unread x2) (ix2 k l) := by
      unfold sl.v2612
      rw [shapeCast_self]
    exact e1.trans ((cols arg3.view _ x2 (Memref.IsWhole.read_unread _ _) 4864 (by decide) _ k l).trans (hW k _))
  · have e1 : ((sl.v2614 (F := Ideal) c arg3 harg3 x2)) (ix2 k l) = arg3.view.readAt (Elt Ideal) (Rect.unit (s := S2048x6672) ![0, 4992] S2048x128.size inb_S2048x6672_S2048x128_0_4992).toLoadRect (harg3.unread x2) (ix2 k l) := by
      unfold sl.v2614
      rw [shapeCast_self]
    exact e1.trans ((cols arg3.view _ x2 (Memref.IsWhole.read_unread _ _) 4992 (by decide) _ k l).trans (hW k _))

theorem cols5120_at (hW : ∀ (k : Fin 2048) (n : Fin 6672), x2 (ix2 k n) = W k n.val) (r : Fin 256) (n : Fin 256) :
    (k0_pay743 (F := Ideal) (sl.v3013 (F := Ideal) c arg1 harg1 arg2 harg2 arg3 harg3 x0 x1 x2)) (ix2 r n) = ∑ k, hrow x0 x1 r k * W k (5120 + n.val) := by
  have e : (k0_pay743 (F := Ideal) (sl.v3013 (F := Ideal) c arg1 harg1 arg2 harg2 arg3 harg3 x0 x1 x2)) (ix2 r n) = ((sl.v3013 (F := Ideal) c arg1 harg1 arg2 harg2 arg3 harg3 x0 x1 x2)) (ix2 r n) := by pointwise [k0_pay743]
  rw [e]
  refine (dot256 _ _ r n).trans (Finset.sum_congr rfl fun k _ => congrArg₂ (· * ·) (row_at r k) ?_)
  refine cat _ _ _ k n (W k) 5120 (fun l => ?_) (fun l => ?_)
  · have e1 : ((sl.v3009 (F := Ideal) c arg3 harg3 x2)) (ix2 k l) = arg3.view.readAt (Elt Ideal) (Rect.unit (s := S2048x6672) ![0, 5120] S2048x128.size inb_S2048x6672_S2048x128_0_5120).toLoadRect (harg3.unread x2) (ix2 k l) := by
      unfold sl.v3009
      rw [shapeCast_self]
    exact e1.trans ((cols arg3.view _ x2 (Memref.IsWhole.read_unread _ _) 5120 (by decide) _ k l).trans (hW k _))
  · have e1 : ((sl.v3011 (F := Ideal) c arg3 harg3 x2)) (ix2 k l) = arg3.view.readAt (Elt Ideal) (Rect.unit (s := S2048x6672) ![0, 5248] S2048x128.size inb_S2048x6672_S2048x128_0_5248).toLoadRect (harg3.unread x2) (ix2 k l) := by
      unfold sl.v3011
      rw [shapeCast_self]
    exact e1.trans ((cols arg3.view _ x2 (Memref.IsWhole.read_unread _ _) 5248 (by decide) _ k l).trans (hW k _))

theorem cols5376_at (hW : ∀ (k : Fin 2048) (n : Fin 6672), x2 (ix2 k n) = W k n.val) (r : Fin 256) (n : Fin 256) :
    ((sl.r_192 (F := Ideal) c arg1 harg1 arg2 harg2 arg3 harg3 x0 x1 x2)) (ix2 r n) = ∑ k, hrow x0 x1 r k * W k (5376 + n.val) := by
  have e : ((sl.r_192 (F := Ideal) c arg1 harg1 arg2 harg2 arg3 harg3 x0 x1 x2)) (ix2 r n) = ((sl.v3105 (F := Ideal) c arg1 harg1 arg2 harg2 arg3 harg3 x0 x1 x2)) (ix2 r n) := by pointwise [sl.r_192, k0_pay744]
  rw [e]
  refine (dot256 _ _ r n).trans (Finset.sum_congr rfl fun k _ => congrArg₂ (· * ·) (row_at r k) ?_)
  refine cat _ _ _ k n (W k) 5376 (fun l => ?_) (fun l => ?_)
  · have e1 : ((sl.v3101 (F := Ideal) c arg3 harg3 x2)) (ix2 k l) = arg3.view.readAt (Elt Ideal) (Rect.unit (s := S2048x6672) ![0, 5376] S2048x128.size inb_S2048x6672_S2048x128_0_5376).toLoadRect (harg3.unread x2) (ix2 k l) := by
      unfold sl.v3101
      rw [shapeCast_self]
    exact e1.trans ((cols arg3.view _ x2 (Memref.IsWhole.read_unread _ _) 5376 (by decide) _ k l).trans (hW k _))
  · have e1 : ((sl.v3103 (F := Ideal) c arg3 harg3 x2)) (ix2 k l) = arg3.view.readAt (Elt Ideal) (Rect.unit (s := S2048x6672) ![0, 5504] S2048x128.size inb_S2048x6672_S2048x128_0_5504).toLoadRect (harg3.unread x2) (ix2 k l) := by
      unfold sl.v3103
      rw [shapeCast_self]
    exact e1.trans ((cols arg3.view _ x2 (Memref.IsWhole.read_unread _ _) 5504 (by decide) _ k l).trans (hW k _))

theorem cols5632_at (hW : ∀ (k : Fin 2048) (n : Fin 6672), x2 (ix2 k n) = W k n.val) (r : Fin 256) (n : Fin 256) :
    (k0_pay1 (F := Ideal) (sl.v3193 (F := Ideal) c arg1 harg1 arg2 harg2 arg3 harg3 x0 x1 x2)) (ix2 r n) = ∑ k, hrow x0 x1 r k * W k (5632 + n.val) := by
  have e : (k0_pay1 (F := Ideal) (sl.v3193 (F := Ideal) c arg1 harg1 arg2 harg2 arg3 harg3 x0 x1 x2)) (ix2 r n) = ((sl.v3193 (F := Ideal) c arg1 harg1 arg2 harg2 arg3 harg3 x0 x1 x2)) (ix2 r n) := by pointwise [k0_pay1]
  rw [e]
  refine (dot256 _ _ r n).trans (Finset.sum_congr rfl fun k _ => congrArg₂ (· * ·) (row_at r k) ?_)
  refine cat _ _ _ k n (W k) 5632 (fun l => ?_) (fun l => ?_)
  · have e1 : ((sl.v3189 (F := Ideal) c arg3 harg3 x2)) (ix2 k l) = arg3.view.readAt (Elt Ideal) (Rect.unit (s := S2048x6672) ![0, 5632] S2048x128.size inb_S2048x6672_S2048x128_0_5632).toLoadRect (harg3.unread x2) (ix2 k l) := by
      unfold sl.v3189
      rw [shapeCast_self]
    exact e1.trans ((cols arg3.view _ x2 (Memref.IsWhole.read_unread _ _) 5632 (by decide) _ k l).trans (hW k _))
  · have e1 : ((sl.v3191 (F := Ideal) c arg3 harg3 x2)) (ix2 k l) = arg3.view.readAt (Elt Ideal) (Rect.unit (s := S2048x6672) ![0, 5760] S2048x128.size inb_S2048x6672_S2048x128_0_5760).toLoadRect (harg3.unread x2) (ix2 k l) := by
      unfold sl.v3191
      rw [shapeCast_self]
    exact e1.trans ((cols arg3.view _ x2 (Memref.IsWhole.read_unread _ _) 5760 (by decide) _ k l).trans (hW k _))

theorem cols5888_at (hW : ∀ (k : Fin 2048) (n : Fin 6672), x2 (ix2 k n) = W k n.val) (r : Fin 256) (n : Fin 256) :
    (k0_pay2 (F := Ideal) (sl.v3281 (F := Ideal) c arg1 harg1 arg2 harg2 arg3 harg3 x0 x1 x2)) (ix2 r n) = ∑ k, hrow x0 x1 r k * W k (5888 + n.val) := by
  have e : (k0_pay2 (F := Ideal) (sl.v3281 (F := Ideal) c arg1 harg1 arg2 harg2 arg3 harg3 x0 x1 x2)) (ix2 r n) = ((sl.v3281 (F := Ideal) c arg1 harg1 arg2 harg2 arg3 harg3 x0 x1 x2)) (ix2 r n) := by pointwise [k0_pay2]
  rw [e]
  refine (dot256 _ _ r n).trans (Finset.sum_congr rfl fun k _ => congrArg₂ (· * ·) (row_at r k) ?_)
  refine cat _ _ _ k n (W k) 5888 (fun l => ?_) (fun l => ?_)
  · have e1 : ((sl.v3277 (F := Ideal) c arg3 harg3 x2)) (ix2 k l) = arg3.view.readAt (Elt Ideal) (Rect.unit (s := S2048x6672) ![0, 5888] S2048x128.size inb_S2048x6672_S2048x128_0_5888).toLoadRect (harg3.unread x2) (ix2 k l) := by
      unfold sl.v3277
      rw [shapeCast_self]
    exact e1.trans ((cols arg3.view _ x2 (Memref.IsWhole.read_unread _ _) 5888 (by decide) _ k l).trans (hW k _))
  · have e1 : ((sl.v3279 (F := Ideal) c arg3 harg3 x2)) (ix2 k l) = arg3.view.readAt (Elt Ideal) (Rect.unit (s := S2048x6672) ![0, 6016] S2048x128.size inb_S2048x6672_S2048x128_0_6016).toLoadRect (harg3.unread x2) (ix2 k l) := by
      unfold sl.v3279
      rw [shapeCast_self]
    exact e1.trans ((cols arg3.view _ x2 (Memref.IsWhole.read_unread _ _) 6016 (by decide) _ k l).trans (hW k _))

theorem cols6144_at (hW : ∀ (k : Fin 2048) (n : Fin 6672), x2 (ix2 k n) = W k n.val) (r : Fin 256) (n : Fin 256) :
    (k0_pay3 (F := Ideal) (sl.v3498 (F := Ideal) c arg1 harg1 arg2 harg2 arg3 harg3 x0 x1 x2)) (ix2 r n) = ∑ k, hrow x0 x1 r k * W k (6144 + n.val) := by
  have e : (k0_pay3 (F := Ideal) (sl.v3498 (F := Ideal) c arg1 harg1 arg2 harg2 arg3 harg3 x0 x1 x2)) (ix2 r n) = ((sl.v3498 (F := Ideal) c arg1 harg1 arg2 harg2 arg3 harg3 x0 x1 x2)) (ix2 r n) := by pointwise [k0_pay3]
  rw [e]
  refine (dot256 _ _ r n).trans (Finset.sum_congr rfl fun k _ => congrArg₂ (· * ·) (row_at r k) ?_)
  refine cat _ _ _ k n (W k) 6144 (fun l => ?_) (fun l => ?_)
  · have e1 : ((sl.v3494 (F := Ideal) c arg3 harg3 x2)) (ix2 k l) = arg3.view.readAt (Elt Ideal) (Rect.unit (s := S2048x6672) ![0, 6144] S2048x128.size inb_S2048x6672_S2048x128_0_6144).toLoadRect (harg3.unread x2) (ix2 k l) := by
      unfold sl.v3494
      rw [shapeCast_self]
    exact e1.trans ((cols arg3.view _ x2 (Memref.IsWhole.read_unread _ _) 6144 (by decide) _ k l).trans (hW k _))
  · have e1 : ((sl.v3496 (F := Ideal) c arg3 harg3 x2)) (ix2 k l) = arg3.view.readAt (Elt Ideal) (Rect.unit (s := S2048x6672) ![0, 6272] S2048x128.size inb_S2048x6672_S2048x128_0_6272).toLoadRect (harg3.unread x2) (ix2 k l) := by
      unfold sl.v3496
      rw [shapeCast_self]
    exact e1.trans ((cols arg3.view _ x2 (Memref.IsWhole.read_unread _ _) 6272 (by decide) _ k l).trans (hW k _))

theorem cols6400_at (hW : ∀ (k : Fin 2048) (n : Fin 6672), x2 (ix2 k n) = W k n.val) (r : Fin 256) (n : Fin 256) :
    (k0_pay4 (F := Ideal) (sl.v3715 (F := Ideal) c arg1 harg1 arg2 harg2 arg3 harg3 x0 x1 x2)) (ix2 r n) = ∑ k, hrow x0 x1 r k * W k (6400 + n.val) := by
  have e : (k0_pay4 (F := Ideal) (sl.v3715 (F := Ideal) c arg1 harg1 arg2 harg2 arg3 harg3 x0 x1 x2)) (ix2 r n) = ((sl.v3715 (F := Ideal) c arg1 harg1 arg2 harg2 arg3 harg3 x0 x1 x2)) (ix2 r n) := by pointwise [k0_pay4]
  rw [e]
  refine (dot256 _ _ r n).trans (Finset.sum_congr rfl fun k _ => congrArg₂ (· * ·) (row_at r k) ?_)
  refine cat _ _ _ k n (W k) 6400 (fun l => ?_) (fun l => ?_)
  · have e1 : ((sl.v3711 (F := Ideal) c arg3 harg3 x2)) (ix2 k l) = arg3.view.readAt (Elt Ideal) (Rect.unit (s := S2048x6672) ![0, 6400] S2048x128.size inb_S2048x6672_S2048x128_0_6400).toLoadRect (harg3.unread x2) (ix2 k l) := by
      unfold sl.v3711
      rw [shapeCast_self]
    exact e1.trans ((cols arg3.view _ x2 (Memref.IsWhole.read_unread _ _) 6400 (by decide) _ k l).trans (hW k _))
  · have e1 : ((sl.v3713 (F := Ideal) c arg3 harg3 x2)) (ix2 k l) = arg3.view.readAt (Elt Ideal) (Rect.unit (s := S2048x6672) ![0, 6528] S2048x128.size inb_S2048x6672_S2048x128_0_6528).toLoadRect (harg3.unread x2) (ix2 k l) := by
      unfold sl.v3713
      rw [shapeCast_self]
    exact e1.trans ((cols arg3.view _ x2 (Memref.IsWhole.read_unread _ _) 6528 (by decide) _ k l).trans (hW k _))

theorem cols6656_at (hS : ∀ (k : Fin 2048) (n : Fin 128), n.val < 16 → xs6 (ix2 k n) = W k (6656 + n.val)) (r : Fin 256) (n : Fin 128) (hn : n.val < 16) :
    (k0_pay5 (F := Ideal) (sl.v3928 (F := Ideal) c arg1 harg1 arg2 harg2 arg26 harg26 x0 x1 xs6)) (ix2 r n) = ∑ k, hrow x0 x1 r k * W k (6656 + n.val) := by
  have e : (k0_pay5 (F := Ideal) (sl.v3928 (F := Ideal) c arg1 harg1 arg2 harg2 arg26 harg26 x0 x1 xs6)) (ix2 r n) = ((sl.v3928 (F := Ideal) c arg1 harg1 arg2 harg2 arg26 harg26 x0 x1 xs6)) (ix2 r n) := by pointwise [k0_pay5]
  rw [e]
  refine (dot128 _ _ r n).trans (Finset.sum_congr rfl fun k _ => congrArg₂ (· * ·) (row_at r k) ?_)
  exact (load2 arg26.view _ 2048 128 0 0 _ k n).trans (by rw [Memref.IsWhole.read_unread]; exact (congrArg xs6 (congrArg₂ ix2 (Fin.ext (Nat.zero_add k.val)) (Fin.ext (Nat.zero_add n.val)))).trans (hS k n hn))

end

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6672 .bf16) (harg3 : arg3.IsWhole) (arg4 : Memref sig .tc .vmem S2x1024 .f32) (harg4 : arg4.IsWhole) (arg5 : Memref sig .tc .vmem S1x1024 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S32x5632 .f32) (harg12 : arg12.IsWhole) (arg13 : Memref sig .tc .vmem S32x5632 .f32) (harg13 : arg13.IsWhole) (arg14 : Memref sig .tc .vmem S32x2048 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S32x5632 .bf16) (harg17 : arg17.IsWhole) (arg18 : Memref sig .tc .vmem S32x5632 .bf16) (harg18 : arg18.IsWhole) (arg19 : Memref sig .tc .vmem S32x2048 .bf16) (harg19 : arg19.IsWhole) (arg20 : Memref sig .tc .vmem S8x128x128 .f32) (harg20 : arg20.IsWhole) (arg21 : Memref sig .tc .vmem S128x128 .i32) (harg21 : arg21.IsWhole) (arg22 : Memref sig .tc .vmem S1x1024 .f32) (harg22 : arg22.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (arg26 : Memref sig .tc .vmem S2048x128 .bf16) (harg26 : arg26.IsWhole) (hc0 : ¬cond0_0 i) (hc1 : cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32) (xs1 : Vec Ideal S128x128 .i32) (xs2 : Vec Ideal S1x1024 .f32) (xs5 : Vec Ideal S256x6784 .f32) (xs6 : Vec Ideal S2048x128 .bf16)

theorem proj_eq : ∃ L : List (View.Piece (Elt Ideal) S256x6784 .f32), (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6).2.2.2.2.2.2.2.2.2.2.1
    = ⟨Rect.unit (s := S256x6784) ![0, 6656] ![256, 128] inb_S256x6784_S256x128_0_6656, k0_pay5 (F := Ideal) (sl.v3928 (F := Ideal) c arg1 harg1 arg2 harg2 arg26 harg26 x0 x1 xs6)⟩ ::
      ⟨Rect.unit (s := S256x6784) ![0, 6400] ![256, 256] inb_S256x6784_S256x256_0_6400, k0_pay4 (F := Ideal) (sl.v3715 (F := Ideal) c arg1 harg1 arg2 harg2 arg3 harg3 x0 x1 x2)⟩ ::
      ⟨Rect.unit (s := S256x6784) ![0, 6144] ![256, 256] inb_S256x6784_S256x256_0_6144, k0_pay3 (F := Ideal) (sl.v3498 (F := Ideal) c arg1 harg1 arg2 harg2 arg3 harg3 x0 x1 x2)⟩ ::
      ⟨Rect.unit (s := S256x6784) ![0, 5888] ![256, 256] inb_S256x6784_S256x256_0_5888, k0_pay2 (F := Ideal) (sl.v3281 (F := Ideal) c arg1 harg1 arg2 harg2 arg3 harg3 x0 x1 x2)⟩ ::
      ⟨Rect.unit (s := S256x6784) ![0, 5632] ![256, 256] inb_S256x6784_S256x256_0_5632, k0_pay1 (F := Ideal) (sl.v3193 (F := Ideal) c arg1 harg1 arg2 harg2 arg3 harg3 x0 x1 x2)⟩ ::
      ⟨Rect.unit (s := S256x6784) ![0, 5376] ![256, 256] inb_S256x6784_S256x256_0_5376, (sl.r_192 (F := Ideal) c arg1 harg1 arg2 harg2 arg3 harg3 x0 x1 x2)⟩ ::
      ⟨Rect.unit (s := S256x6784) ![0, 5120] ![256, 256] inb_S256x6784_S256x256_0_5120, k0_pay743 (F := Ideal) (sl.v3013 (F := Ideal) c arg1 harg1 arg2 harg2 arg3 harg3 x0 x1 x2)⟩ ::
      ⟨Rect.unit (s := S256x6784) ![0, 4864] ![256, 256] inb_S256x6784_S256x256_0_4864, k0_pay742 (F := Ideal) (sl.v2616 (F := Ideal) c arg1 harg1 arg2 harg2 arg3 harg3 x0 x1 x2)⟩ ::
      ⟨Rect.unit (s := S256x6784) ![0, 4608] ![256, 256] inb_S256x6784_S256x256_0_4608, (sl.v4452 (F := Ideal) c arg1 harg1 arg2 harg2 arg3 harg3 x0 x1 x2)⟩ ::
      ⟨Rect.unit (s := S256x6784) ![0, 4352] ![256, 256] inb_S256x6784_S256x256_0_4352, (sl.v4449 (F := Ideal) c arg1 harg1 arg2 harg2 arg3 harg3 x0 x1 x2)⟩ ::
      ⟨Rect.unit (s := S256x6784) ![0, 4096] ![256, 256] inb_S256x6784_S256x256_0_4096, (sl.v4446 (F := Ideal) c arg1 harg1 arg2 harg2 arg3 harg3 x0 x1 x2)⟩ :: L := ⟨_, rfl⟩

/-- The projection that the point leaves. -/
theorem proj_at (W : Fin 2048 → ℕ → EReal) (hW : ∀ (k : Fin 2048) (n : Fin 6672), x2 (ix2 k n) = W k n.val) (hS : ∀ (k : Fin 2048) (n : Fin 128), n.val < 16 → xs6 (ix2 k n) = W k (6656 + n.val)) (r : Fin 256) (n : Fin 6784) (h1 : 4096 ≤ n.val) (h2 : n.val < 6672) (v : View sig .tc .vmem S256x6784 .f32) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6).2.2.2.2.2.2.2.2.2.2.1) (ix2 r n) = ∑ k, hrow x0 x1 r k * W k n.val := by
  refine Exists.elim (proj_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6) fun L e => ?_
  refine (congrArg (fun Q => v.read (Elt Ideal) (v.writes (Elt Ideal) f Q) (ix2 r n)) e).trans ?_
  exact stored v f L (fun r n => ∑ k, hrow x0 x1 r k * W k n) _ _ _ _ _ _ _ _ _ _ _ (cols4096_at hW) (cols4352_at hW) (cols4608_at hW) (cols4864_at hW) (cols5120_at hW) (cols5376_at hW) (cols5632_at hW) (cols5888_at hW) (cols6144_at hW) (cols6400_at hW)
    (cols6656_at hS) r n h1 h2

end Cert.MixerIdeal.Gen.kernelRun0_B

end
-- ==== Proof.SsdPointB.lean ====
module

public import proofs.«01_k».proof.Proof.SsdRunB
public import proofs.«01_k».proof.Proof.SsdEqB
public import proofs.«01_k».proof.Proof.SsdProjB

/-!
# What a point that starts a sequence leaves
-/

@[expose] public section

set_option maxRecDepth 65536

noncomputable section

namespace Cert.MixerIdeal.Gen.kernelRun0_B

open Cert.MixerIdeal Cert.MixerIdeal.Gen Cert.MixerIdeal.XBuf Cert.MixerIdeal.Terms Cert.MixerIdeal.Proj Cert.Ssd Cert.RowNorm
open Idealize.ShloMosaic Idealize.ShloMosaic.TcCoe

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6672 .bf16) (harg3 : arg3.IsWhole) (arg4 : Memref sig .tc .vmem S2x1024 .f32) (harg4 : arg4.IsWhole) (arg5 : Memref sig .tc .vmem S1x1024 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S32x5632 .f32) (harg12 : arg12.IsWhole) (arg13 : Memref sig .tc .vmem S32x5632 .f32) (harg13 : arg13.IsWhole) (arg14 : Memref sig .tc .vmem S32x2048 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S32x5632 .bf16) (harg17 : arg17.IsWhole) (arg18 : Memref sig .tc .vmem S32x5632 .bf16) (harg18 : arg18.IsWhole) (arg19 : Memref sig .tc .vmem S32x2048 .bf16) (harg19 : arg19.IsWhole) (arg20 : Memref sig .tc .vmem S8x128x128 .f32) (harg20 : arg20.IsWhole) (arg21 : Memref sig .tc .vmem S128x128 .i32) (harg21 : arg21.IsWhole) (arg22 : Memref sig .tc .vmem S1x1024 .f32) (harg22 : arg22.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (arg26 : Memref sig .tc .vmem S2048x128 .bf16) (harg26 : arg26.IsWhole) (hc0 : ¬cond0_0 i) (hc1 : cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32) (xs1 : Vec Ideal S128x128 .i32) (xs2 : Vec Ideal S1x1024 .f32) (xs5 : Vec Ideal S256x6784 .f32) (xs6 : Vec Ideal S2048x128 .bf16) (I : In) (b j : ℕ)

/-- The projection of the chunk that the point is given. -/
theorem pj_next (hx0 : ∀ (r : Fin 256) (k : Fin 2048), x0 (ix2 r k) = I.x b (256 * j + r.val) k) (hx1 : ∀ k : Fin 2048, x1 (ix2 0 k) = I.pw k) (hW : ∀ (k : Fin 2048) (n : Fin 6672), x2 (ix2 k n) = I.w k n.val) (hS : ∀ (k : Fin 2048) (n : Fin 128), n.val < 16 → xs6 (ix2 k n) = I.w k (6656 + n.val)) (v : View sig .tc .vmem S256x6784 .f32) (f : v.ty.Contents (Elt Ideal)) :
    PjOk I b j (v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6).2.2.2.2.2.2.2.2.2.2.1)) := fun r q hq =>
  (proj_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6 I.w hW hS r ⟨4096 + q.val, by omega⟩ (by dsimp only; omega) (by dsimp only; omega) v f).trans (hrow_sum hx0 hx1 r _)

/-- The rows of the branch's output. -/
theorem out_at (hj : j = 0) (hpj : PjOk I b j xs5) (A : Args I x5 x6 x7 x8 x9 x10) (hI : I.Real) (v : View sig .tc .vmem S256x1024 .bf16) (f : v.ty.Contents (Elt Ideal)) (r : Fin 256) (n : Fin 1024) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6).2.1) (ix2 r n) = I.res b (256 * j + r.val) n.val := by
  refine (congrArg (fun Q => v.read (Elt Ideal) (v.writes (Elt Ideal) f Q) (ix2 r n)) (out_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6)).trans ?_
  by_cases h : n.val < 512
  · refine (out2 v f 256 512 0 512 _ _ _ r n (by omega)).trans ((in2 v f 256 512 0 0 _ _ [] r n (by omega) (by omega)).trans ?_)
    exact Eq.trans (congrArg _ (congrArg₂ ix2 (Fin.ext (Nat.sub_zero r.val)) (Fin.ext (Nat.sub_zero n.val)))) (v1000_at (good hj hpj A) hI r ⟨n.val, h⟩)
  · refine (in2 v f 256 512 0 512 _ _ _ r n (by omega) (by omega)).trans ?_
    refine Eq.trans (congrArg _ (congrArg₂ ix2 (Fin.ext (Nat.sub_zero r.val)) rfl)) ((v1204_at (good hj hpj A) hI r ⟨n.val - 512, by omega⟩).trans ?_)
    exact congrArg _ (by dsimp only; omega)

/-- The state after the chunk. -/
theorem state_at (hj : j = 0) (hpj : PjOk I b j xs5) (A : Args I x5 x6 x7 x8 x9 x10) (hI : I.Real) (v : View sig .tc .vmem S2x128x512 .f32) (f : v.ty.Contents (Elt Ideal)) :
    StateOk I b (j + 1) (v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6).2.2.2.2.2.2.2.2.2.1)) := by
  intro g n k
  refine (congrArg (fun Q => v.read (Elt Ideal) (v.writes (Elt Ideal) f Q) (ix3 g n k)) (state_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6)).trans ?_
  by_cases h : g.val = 0
  · have hg : g = 0 := Fin.ext h
    subst hg
    refine (out3 v f 1 128 512 1 0 0 _ _ _ 0 n k (Or.inl (Or.inl (by decide)))).trans ((in3 v f 1 128 512 0 0 0 _ _ _ 0 n k (by decide) (by omega) (by omega)).trans ?_)
    refine Eq.trans (congrArg _ (congrArg₂ (ix3 (0 : Fin 1)) (Fin.ext (Nat.sub_zero n.val)) (Fin.ext (Nat.sub_zero k.val)))) ((v975_at (good hj hpj A) hI n k).trans ?_)
    rw [show 512 * (0 : Fin 2).val + k.val = k.val from Nat.zero_add _]
    rfl
  · have hg : g = 1 := Fin.ext (by show g.val = 1; omega)
    subst hg
    refine (in3 v f 1 128 512 1 0 0 _ _ _ 1 n k (by decide) (by omega) (by omega)).trans ?_
    exact Eq.trans (congrArg _ (congrArg₂ (ix3 (0 : Fin 1)) (Fin.ext (Nat.sub_zero n.val)) (Fin.ext (Nat.sub_zero k.val)))) (v1179_at (good hj hpj A) hI n k)

section

variable {c : Dev nD} {arg23 : Memref sig .tc .vmem S12x264x128 .f32} {arg25 : Memref sig .tc .vmem S256x6784 .f32} {harg25 : arg25.IsWhole} {xs5 : Vec Ideal S256x6784 .f32}
  {I : In} {b j : ℕ} (hj : j = 0) (hpj : PjOk I b j xs5)

include hj hpj

theorem keep12_at (d : Fin 8) (l : Fin 128) : (k0_pay90 (F := Ideal) (sl.v606 (F := Ideal) c arg23 arg25 harg25 xs5)) (ix3 0 d l) = I.pre b (256 * j + (256 + d.val)) (1408 + l.val) := by
  have e : (k0_pay90 (F := Ideal) (sl.v606 (F := Ideal) c arg23 arg25 harg25 xs5)) (ix3 0 d l) = (sl.v606 (F := Ideal) c arg23 arg25 harg25 xs5) (ix3 0 d l) := by
    pointwise [k0_pay90]
  exact e.trans ((filled11 hj hpj arg23.view.junk).tail (by decide) _ d l)

end

/-- The taps' first rows for the next chunk. -/
theorem head_at (hj : j = 0) (hpj : PjOk I b j xs5) (f : arg23.view.ty.Contents (Elt Ideal)) :
    HeadOk I b (j + 1) (arg23.view.read (Elt Ideal) (arg23.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6).2.2.2.2.2.2.2.2.1)) := by
  intro s d l h8
  refine (congrArg (fun Q => arg23.view.read (Elt Ideal) (arg23.view.writes (Elt Ideal) f Q) (ix3 s d l)) (buf_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs1 xs2 xs5 xs6)).trans ?_
  refine ((filled11 hj hpj f).last _ _ (keep12_at (arg23 := arg23) (harg25 := harg25) hj hpj) s d l h8).trans ?_
  exact congrArg₂ (I.pre b) (by omega) rfl

end Cert.MixerIdeal.Gen.kernelRun0_B

end
-- ==== Proof.SsdLoadsC.lean ====
module

public import proofs.«01_k».proof.Proof.SsdArgs
public import proofs.«01_k».proof.Proof.Gen.MixerIdeal.Frame.RunC

/-!
# The state space step of a point that carries on a chunk

The taps' first rows and the state are those the point before left.
-/

@[expose] public section

set_option maxRecDepth 65536

noncomputable section

namespace Cert.MixerIdeal.Gen.kernelRun0_C

open Cert.MixerIdeal Cert.MixerIdeal.Gen Cert.MixerIdeal.XBuf Cert.MixerIdeal.Terms Cert.Ssd
open Idealize.ShloMosaic Idealize.ShloMosaic.TcCoe

/-- The loads of the step. -/
def loads (c : Dev nD) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (xs3 : Vec Ideal S12x264x128 .f32) (xs4 : Vec Ideal S2x128x512 .f32) (xs5 : Vec Ideal S256x6784 .f32) : Loads where
  pj := arg25.view.readAt (Elt Ideal) (Rect.unit (s := S256x6784) ![0, 4096] S256x2688.size inb_S256x6784_S256x2688_0_4096).toLoadRect (harg25.unread xs5)
  bias := of12
    (arg7.view.readAt (Elt Ideal) (Rect.unit (s := S1x1536) ![0, 0] S1x128.size inb_S1x1536_S1x128_0_0).toLoadRect (harg7.unread x6))
    (arg7.view.readAt (Elt Ideal) (Rect.unit (s := S1x1536) ![0, 128] S1x128.size inb_S1x1536_S1x128_0_128).toLoadRect (harg7.unread x6))
    (arg7.view.readAt (Elt Ideal) (Rect.unit (s := S1x1536) ![0, 256] S1x128.size inb_S1x1536_S1x128_0_256).toLoadRect (harg7.unread x6))
    (arg7.view.readAt (Elt Ideal) (Rect.unit (s := S1x1536) ![0, 384] S1x128.size inb_S1x1536_S1x128_0_384).toLoadRect (harg7.unread x6))
    (arg7.view.readAt (Elt Ideal) (Rect.unit (s := S1x1536) ![0, 512] S1x128.size inb_S1x1536_S1x128_0_512).toLoadRect (harg7.unread x6))
    (arg7.view.readAt (Elt Ideal) (Rect.unit (s := S1x1536) ![0, 640] S1x128.size inb_S1x1536_S1x128_0_640).toLoadRect (harg7.unread x6))
    (arg7.view.readAt (Elt Ideal) (Rect.unit (s := S1x1536) ![0, 768] S1x128.size inb_S1x1536_S1x128_0_768).toLoadRect (harg7.unread x6))
    (arg7.view.readAt (Elt Ideal) (Rect.unit (s := S1x1536) ![0, 896] S1x128.size inb_S1x1536_S1x128_0_896).toLoadRect (harg7.unread x6))
    (arg7.view.readAt (Elt Ideal) (Rect.unit (s := S1x1536) ![0, 1024] S1x128.size inb_S1x1536_S1x128_0_1024).toLoadRect (harg7.unread x6))
    (arg7.view.readAt (Elt Ideal) (Rect.unit (s := S1x1536) ![0, 1152] S1x128.size inb_S1x1536_S1x128_0_1152).toLoadRect (harg7.unread x6))
    (arg7.view.readAt (Elt Ideal) (Rect.unit (s := S1x1536) ![0, 1280] S1x128.size inb_S1x1536_S1x128_0_1280).toLoadRect (harg7.unread x6))
    (arg7.view.readAt (Elt Ideal) (Rect.unit (s := S1x1536) ![0, 1408] S1x128.size inb_S1x1536_S1x128_0_1408).toLoadRect (harg7.unread x6))
  w := of12
    (of4 (arg6.view.readAt (Elt Ideal) (Rect.unit (s := S4x1536) ![0, 0] S1x128.size inb_S4x1536_S1x128_0_0).toLoadRect (harg6.unread x5)) (arg6.view.readAt (Elt Ideal) (Rect.unit (s := S4x1536) ![1, 0] S1x128.size inb_S4x1536_S1x128_1_0).toLoadRect (harg6.unread x5)) (arg6.view.readAt (Elt Ideal) (Rect.unit (s := S4x1536) ![2, 0] S1x128.size inb_S4x1536_S1x128_2_0).toLoadRect (harg6.unread x5)) (arg6.view.readAt (Elt Ideal) (Rect.unit (s := S4x1536) ![3, 0] S1x128.size inb_S4x1536_S1x128_3_0).toLoadRect (harg6.unread x5)))
    (of4 (arg6.view.readAt (Elt Ideal) (Rect.unit (s := S4x1536) ![0, 128] S1x128.size inb_S4x1536_S1x128_0_128).toLoadRect (harg6.unread x5)) (arg6.view.readAt (Elt Ideal) (Rect.unit (s := S4x1536) ![1, 128] S1x128.size inb_S4x1536_S1x128_1_128).toLoadRect (harg6.unread x5)) (arg6.view.readAt (Elt Ideal) (Rect.unit (s := S4x1536) ![2, 128] S1x128.size inb_S4x1536_S1x128_2_128).toLoadRect (harg6.unread x5)) (arg6.view.readAt (Elt Ideal) (Rect.unit (s := S4x1536) ![3, 128] S1x128.size inb_S4x1536_S1x128_3_128).toLoadRect (harg6.unread x5)))
    (of4 (arg6.view.readAt (Elt Ideal) (Rect.unit (s := S4x1536) ![0, 256] S1x128.size inb_S4x1536_S1x128_0_256).toLoadRect (harg6.unread x5)) (arg6.view.readAt (Elt Ideal) (Rect.unit (s := S4x1536) ![1, 256] S1x128.size inb_S4x1536_S1x128_1_256).toLoadRect (harg6.unread x5)) (arg6.view.readAt (Elt Ideal) (Rect.unit (s := S4x1536) ![2, 256] S1x128.size inb_S4x1536_S1x128_2_256).toLoadRect (harg6.unread x5)) (arg6.view.readAt (Elt Ideal) (Rect.unit (s := S4x1536) ![3, 256] S1x128.size inb_S4x1536_S1x128_3_256).toLoadRect (harg6.unread x5)))
    (of4 (arg6.view.readAt (Elt Ideal) (Rect.unit (s := S4x1536) ![0, 384] S1x128.size inb_S4x1536_S1x128_0_384).toLoadRect (harg6.unread x5)) (arg6.view.readAt (Elt Ideal) (Rect.unit (s := S4x1536) ![1, 384] S1x128.size inb_S4x1536_S1x128_1_384).toLoadRect (harg6.unread x5)) (arg6.view.readAt (Elt Ideal) (Rect.unit (s := S4x1536) ![2, 384] S1x128.size inb_S4x1536_S1x128_2_384).toLoadRect (harg6.unread x5)) (arg6.view.readAt (Elt Ideal) (Rect.unit (s := S4x1536) ![3, 384] S1x128.size inb_S4x1536_S1x128_3_384).toLoadRect (harg6.unread x5)))
    (of4 (arg6.view.readAt (Elt Ideal) (Rect.unit (s := S4x1536) ![0, 512] S1x128.size inb_S4x1536_S1x128_0_512).toLoadRect (harg6.unread x5)) (arg6.view.readAt (Elt Ideal) (Rect.unit (s := S4x1536) ![1, 512] S1x128.size inb_S4x1536_S1x128_1_512).toLoadRect (harg6.unread x5)) (arg6.view.readAt (Elt Ideal) (Rect.unit (s := S4x1536) ![2, 512] S1x128.size inb_S4x1536_S1x128_2_512).toLoadRect (harg6.unread x5)) (arg6.view.readAt (Elt Ideal) (Rect.unit (s := S4x1536) ![3, 512] S1x128.size inb_S4x1536_S1x128_3_512).toLoadRect (harg6.unread x5)))
    (of4 (arg6.view.readAt (Elt Ideal) (Rect.unit (s := S4x1536) ![0, 640] S1x128.size inb_S4x1536_S1x128_0_640).toLoadRect (harg6.unread x5)) (arg6.view.readAt (Elt Ideal) (Rect.unit (s := S4x1536) ![1, 640] S1x128.size inb_S4x1536_S1x128_1_640).toLoadRect (harg6.unread x5)) (arg6.view.readAt (Elt Ideal) (Rect.unit (s := S4x1536) ![2, 640] S1x128.size inb_S4x1536_S1x128_2_640).toLoadRect (harg6.unread x5)) (arg6.view.readAt (Elt Ideal) (Rect.unit (s := S4x1536) ![3, 640] S1x128.size inb_S4x1536_S1x128_3_640).toLoadRect (harg6.unread x5)))
    (of4 (arg6.view.readAt (Elt Ideal) (Rect.unit (s := S4x1536) ![0, 768] S1x128.size inb_S4x1536_S1x128_0_768).toLoadRect (harg6.unread x5)) (arg6.view.readAt (Elt Ideal) (Rect.unit (s := S4x1536) ![1, 768] S1x128.size inb_S4x1536_S1x128_1_768).toLoadRect (harg6.unread x5)) (arg6.view.readAt (Elt Ideal) (Rect.unit (s := S4x1536) ![2, 768] S1x128.size inb_S4x1536_S1x128_2_768).toLoadRect (harg6.unread x5)) (arg6.view.readAt (Elt Ideal) (Rect.unit (s := S4x1536) ![3, 768] S1x128.size inb_S4x1536_S1x128_3_768).toLoadRect (harg6.unread x5)))
    (of4 (arg6.view.readAt (Elt Ideal) (Rect.unit (s := S4x1536) ![0, 896] S1x128.size inb_S4x1536_S1x128_0_896).toLoadRect (harg6.unread x5)) (arg6.view.readAt (Elt Ideal) (Rect.unit (s := S4x1536) ![1, 896] S1x128.size inb_S4x1536_S1x128_1_896).toLoadRect (harg6.unread x5)) (arg6.view.readAt (Elt Ideal) (Rect.unit (s := S4x1536) ![2, 896] S1x128.size inb_S4x1536_S1x128_2_896).toLoadRect (harg6.unread x5)) (arg6.view.readAt (Elt Ideal) (Rect.unit (s := S4x1536) ![3, 896] S1x128.size inb_S4x1536_S1x128_3_896).toLoadRect (harg6.unread x5)))
    (of4 (arg6.view.readAt (Elt Ideal) (Rect.unit (s := S4x1536) ![0, 1024] S1x128.size inb_S4x1536_S1x128_0_1024).toLoadRect (harg6.unread x5)) (arg6.view.readAt (Elt Ideal) (Rect.unit (s := S4x1536) ![1, 1024] S1x128.size inb_S4x1536_S1x128_1_1024).toLoadRect (harg6.unread x5)) (arg6.view.readAt (Elt Ideal) (Rect.unit (s := S4x1536) ![2, 1024] S1x128.size inb_S4x1536_S1x128_2_1024).toLoadRect (harg6.unread x5)) (arg6.view.readAt (Elt Ideal) (Rect.unit (s := S4x1536) ![3, 1024] S1x128.size inb_S4x1536_S1x128_3_1024).toLoadRect (harg6.unread x5)))
    (of4 (arg6.view.readAt (Elt Ideal) (Rect.unit (s := S4x1536) ![0, 1152] S1x128.size inb_S4x1536_S1x128_0_1152).toLoadRect (harg6.unread x5)) (arg6.view.readAt (Elt Ideal) (Rect.unit (s := S4x1536) ![1, 1152] S1x128.size inb_S4x1536_S1x128_1_1152).toLoadRect (harg6.unread x5)) (arg6.view.readAt (Elt Ideal) (Rect.unit (s := S4x1536) ![2, 1152] S1x128.size inb_S4x1536_S1x128_2_1152).toLoadRect (harg6.unread x5)) (arg6.view.readAt (Elt Ideal) (Rect.unit (s := S4x1536) ![3, 1152] S1x128.size inb_S4x1536_S1x128_3_1152).toLoadRect (harg6.unread x5)))
    (of4 (arg6.view.readAt (Elt Ideal) (Rect.unit (s := S4x1536) ![0, 1280] S1x128.size inb_S4x1536_S1x128_0_1280).toLoadRect (harg6.unread x5)) (arg6.view.readAt (Elt Ideal) (Rect.unit (s := S4x1536) ![1, 1280] S1x128.size inb_S4x1536_S1x128_1_1280).toLoadRect (harg6.unread x5)) (arg6.view.readAt (Elt Ideal) (Rect.unit (s := S4x1536) ![2, 1280] S1x128.size inb_S4x1536_S1x128_2_1280).toLoadRect (harg6.unread x5)) (arg6.view.readAt (Elt Ideal) (Rect.unit (s := S4x1536) ![3, 1280] S1x128.size inb_S4x1536_S1x128_3_1280).toLoadRect (harg6.unread x5)))
    (of4 (arg6.view.readAt (Elt Ideal) (Rect.unit (s := S4x1536) ![0, 1408] S1x128.size inb_S4x1536_S1x128_0_1408).toLoadRect (harg6.unread x5)) (arg6.view.readAt (Elt Ideal) (Rect.unit (s := S4x1536) ![1, 1408] S1x128.size inb_S4x1536_S1x128_1_1408).toLoadRect (harg6.unread x5)) (arg6.view.readAt (Elt Ideal) (Rect.unit (s := S4x1536) ![2, 1408] S1x128.size inb_S4x1536_S1x128_2_1408).toLoadRect (harg6.unread x5)) (arg6.view.readAt (Elt Ideal) (Rect.unit (s := S4x1536) ![3, 1408] S1x128.size inb_S4x1536_S1x128_3_1408).toLoadRect (harg6.unread x5)))
  tap := of12
    (of4 (sl.v51 (F := Ideal) c arg23 harg23 arg25 harg25 xs3 xs5) (sl.v59 (F := Ideal) c arg23 harg23 arg25 harg25 xs3 xs5) (sl.v66 (F := Ideal) c arg23 harg23 arg25 harg25 xs3 xs5) (sl.v73 (F := Ideal) c arg23 arg25 harg25 xs5))
    (of4 (sl.v99 (F := Ideal) c arg23 harg23 arg25 harg25 xs3 xs5) (sl.v107 (F := Ideal) c arg23 harg23 arg25 harg25 xs3 xs5) (sl.v114 (F := Ideal) c arg23 harg23 arg25 harg25 xs3 xs5) (sl.v121 (F := Ideal) c arg23 arg25 harg25 xs5))
    (of4 (sl.v147 (F := Ideal) c arg23 harg23 arg25 harg25 xs3 xs5) (sl.v155 (F := Ideal) c arg23 harg23 arg25 harg25 xs3 xs5) (sl.v162 (F := Ideal) c arg23 harg23 arg25 harg25 xs3 xs5) (sl.v169 (F := Ideal) c arg23 arg25 harg25 xs5))
    (of4 (sl.v195 (F := Ideal) c arg23 harg23 arg25 harg25 xs3 xs5) (sl.v203 (F := Ideal) c arg23 harg23 arg25 harg25 xs3 xs5) (sl.v210 (F := Ideal) c arg23 harg23 arg25 harg25 xs3 xs5) (sl.v217 (F := Ideal) c arg23 arg25 harg25 xs5))
    (of4 (sl.v243 (F := Ideal) c arg23 harg23 arg25 harg25 xs3 xs5) (sl.v251 (F := Ideal) c arg23 harg23 arg25 harg25 xs3 xs5) (sl.v258 (F := Ideal) c arg23 harg23 arg25 harg25 xs3 xs5) (sl.v265 (F := Ideal) c arg23 arg25 harg25 xs5))
    (of4 (sl.v291 (F := Ideal) c arg23 harg23 arg25 harg25 xs3 xs5) (sl.v299 (F := Ideal) c arg23 harg23 arg25 harg25 xs3 xs5) (sl.v306 (F := Ideal) c arg23 harg23 arg25 harg25 xs3 xs5) (sl.v313 (F := Ideal) c arg23 arg25 harg25 xs5))
    (of4 (sl.v339 (F := Ideal) c arg23 harg23 arg25 harg25 xs3 xs5) (sl.v347 (F := Ideal) c arg23 harg23 arg25 harg25 xs3 xs5) (sl.v354 (F := Ideal) c arg23 harg23 arg25 harg25 xs3 xs5) (sl.v361 (F := Ideal) c arg23 arg25 harg25 xs5))
    (of4 (sl.v387 (F := Ideal) c arg23 harg23 arg25 harg25 xs3 xs5) (sl.v395 (F := Ideal) c arg23 harg23 arg25 harg25 xs3 xs5) (sl.v402 (F := Ideal) c arg23 harg23 arg25 harg25 xs3 xs5) (sl.v409 (F := Ideal) c arg23 arg25 harg25 xs5))
    (of4 (sl.v435 (F := Ideal) c arg23 harg23 arg25 harg25 xs3 xs5) (sl.v443 (F := Ideal) c arg23 harg23 arg25 harg25 xs3 xs5) (sl.v450 (F := Ideal) c arg23 harg23 arg25 harg25 xs3 xs5) (sl.v457 (F := Ideal) c arg23 arg25 harg25 xs5))
    (of4 (sl.v483 (F := Ideal) c arg23 harg23 arg25 harg25 xs3 xs5) (sl.v491 (F := Ideal) c arg23 harg23 arg25 harg25 xs3 xs5) (sl.v498 (F := Ideal) c arg23 harg23 arg25 harg25 xs3 xs5) (sl.v505 (F := Ideal) c arg23 arg25 harg25 xs5))
    (of4 (sl.v531 (F := Ideal) c arg23 harg23 arg25 harg25 xs3 xs5) (sl.v539 (F := Ideal) c arg23 harg23 arg25 harg25 xs3 xs5) (sl.v546 (F := Ideal) c arg23 harg23 arg25 harg25 xs3 xs5) (sl.v553 (F := Ideal) c arg23 arg25 harg25 xs5))
    (of4 (sl.v579 (F := Ideal) c arg23 harg23 arg25 harg25 xs3 xs5) (sl.v587 (F := Ideal) c arg23 harg23 arg25 harg25 xs3 xs5) (sl.v594 (F := Ideal) c arg23 harg23 arg25 harg25 xs3 xs5) (sl.v601 (F := Ideal) c arg23 arg25 harg25 xs5))
  dtb := arg8.view.readAt (Elt Ideal) (Rect.unit (s := S1x128) ![0, 0] S1x128.size inb_S1x128_S1x128_0_0).toLoadRect (harg8.unread x7)
  al := arg9.view.readAt (Elt Ideal) (Rect.unit (s := S1x128) ![0, 0] S1x128.size inb_S1x128_S1x128_0_0).toLoadRect (harg9.unread x8)
  ds0 := arg10.view.readAt (Elt Ideal) (Rect.unit (s := S1x1024) ![0, 0] S1x512.size inb_S1x1024_S1x512_0_0).toLoadRect (harg10.unread x9)
  ds1 := arg10.view.readAt (Elt Ideal) (Rect.unit (s := S1x1024) ![0, 512] S1x512.size inb_S1x1024_S1x512_0_512).toLoadRect (harg10.unread x9)
  nw0 := arg11.view.readAt (Elt Ideal) (Rect.unit (s := S1x1024) ![0, 0] S1x512.size inb_S1x1024_S1x512_0_0).toLoadRect (harg11.unread x10)
  nw1 := arg11.view.readAt (Elt Ideal) (Rect.unit (s := S1x1024) ![0, 512] S1x512.size inb_S1x1024_S1x512_0_512).toLoadRect (harg11.unread x10)
  st0 := arg24.view.readAt (Elt Ideal) (Rect.unit (s := S2x128x512) ![0, 0, 0] S1x128x512.size inb_S2x128x512_S1x128x512_0_0_0).toLoadRect (harg24.unread xs4)
  st1 := (sl.v1151 (F := Ideal) c arg24 harg24 xs4)

end Cert.MixerIdeal.Gen.kernelRun0_C

end
-- ==== Proof.SsdRunC.lean ====
module

public import proofs.«01_k».proof.Proof.SsdLoadsC

/-!
# The loads of a state space step that carries on a chunk

The convolution's taps are the projected rows of this chunk and the last rows of the chunk before.
-/

@[expose] public section

set_option maxRecDepth 65536

noncomputable section

namespace Cert.MixerIdeal.Gen.kernelRun0_C

open Cert.MixerIdeal Cert.MixerIdeal.Gen Cert.MixerIdeal.XBuf Cert.MixerIdeal.Terms Cert.Ssd
open Idealize.ShloMosaic Idealize.ShloMosaic.TcCoe

section

variable {c : Dev nD} {arg6 : Memref sig .tc .vmem S4x1536 .f32} {harg6 : arg6.IsWhole} {arg7 : Memref sig .tc .vmem S1x1536 .f32} {harg7 : arg7.IsWhole} {arg8 : Memref sig .tc .vmem S1x128 .f32} {harg8 : arg8.IsWhole} {arg9 : Memref sig .tc .vmem S1x128 .f32} {harg9 : arg9.IsWhole} {arg10 : Memref sig .tc .vmem S1x1024 .f32} {harg10 : arg10.IsWhole} {arg11 : Memref sig .tc .vmem S1x1024 .f32} {harg11 : arg11.IsWhole} {arg23 : Memref sig .tc .vmem S12x264x128 .f32} {harg23 : arg23.IsWhole} {arg24 : Memref sig .tc .vmem S2x128x512 .f32} {harg24 : arg24.IsWhole} {arg25 : Memref sig .tc .vmem S256x6784 .f32} {harg25 : arg25.IsWhole} {x5 : Vec Ideal S4x1536 .f32} {x6 : Vec Ideal S1x1536 .f32} {x7 : Vec Ideal S1x128 .f32} {x8 : Vec Ideal S1x128 .f32} {x9 : Vec Ideal S1x1024 .f32} {x10 : Vec Ideal S1x1024 .f32} {xs3 : Vec Ideal S12x264x128 .f32} {xs4 : Vec Ideal S2x128x512 .f32} {xs5 : Vec Ideal S256x6784 .f32}
  {I : In} {b j : ℕ} (hj : True) (A : Args I x5 x6 x7 x8 x9 x10) (hpj : PjOk I b j xs5)

include hj hpj

theorem pj_at (r : Fin 256) (q : Fin 2688) (hq : q.val < 2576) :
    arg25.view.readAt (Elt Ideal) (Rect.unit (s := S256x6784) ![0, 4096] S256x2688.size inb_S256x6784_S256x2688_0_4096).toLoadRect (harg25.unread xs5) (ix2 r q) = I.proj b (256 * j + r.val) (4096 + q.val) := by
  refine (load2 arg25.view _ 256 2688 0 4096 _ r q).trans ?_
  rw [Memref.IsWhole.read_unread]
  have := hpj r q hq
  exact (congrArg xs5 (congrArg₂ ix2 (Fin.ext (Nat.zero_add r.val)) rfl)).trans this

theorem slab_at (s : ℕ) (hs : s < 12) (d : Fin 256) (l : Fin 128) :
    (sl.v41 (F := Ideal) c arg25 harg25 xs5) (ix2 d ⟨128 * s + l.val, by omega⟩) = I.pre b (256 * j + (8 + d.val)) (128 * s + l.val) := by
  have e : (sl.v41 (F := Ideal) c arg25 harg25 xs5) (ix2 d ⟨128 * s + l.val, by omega⟩)
      = arg25.view.readAt (Elt Ideal) (Rect.unit (s := S256x6784) ![0, 4096] S256x2688.size inb_S256x6784_S256x2688_0_4096).toLoadRect (harg25.unread xs5) (ix2 d ⟨1024 + (128 * s + l.val), by omega⟩) := by
    unfold sl.v41
    pointwise
  rw [e, pj_at hj hpj d _ (by dsimp only; omega)]
  unfold In.pre
  rw [if_neg (by omega)]
  exact congrArg₂ (I.proj b) (by omega) (by dsimp only; omega)

theorem row0_at (d : Fin 256) (l : Fin 128) : ((sl.v46 (F := Ideal) c arg25 harg25 xs5)) (ix3 0 d l) = I.pre b (256 * j + (8 + d.val)) (0 + l.val) := by
  refine Eq.trans ?_ (slab_at (c := c) (harg25 := harg25) hj hpj 0 (by decide) d l)
  pointwise [sl.v46, sl.v43]

theorem filled0 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_1 (F := Ideal) c arg25 harg25 xs5) 0 (fun s d l => I.pre b (256 * j + d) (128 * s + l)) hd :=
  Filled.first _ _ (row0_at hj hpj) hh

theorem row1_at (d : Fin 256) (l : Fin 128) : (k0_pay30 (F := Ideal) (sl.v41 (F := Ideal) c arg25 harg25 xs5)) (ix3 0 d l) = I.pre b (256 * j + (8 + d.val)) (128 + l.val) := by
  refine Eq.trans ?_ (slab_at (c := c) (harg25 := harg25) hj hpj 1 (by decide) d l)
  pointwise [k0_pay30]

theorem keep1_at (d : Fin 8) (l : Fin 128) : (k0_pay28 (F := Ideal) (sl.v78 (F := Ideal) c arg23 arg25 harg25 xs5)) (ix3 0 d l) = I.pre b (256 * j + (256 + d.val)) (0 + l.val) := by
  have e : (k0_pay28 (F := Ideal) (sl.v78 (F := Ideal) c arg23 arg25 harg25 xs5)) (ix3 0 d l) = (sl.v78 (F := Ideal) c arg23 arg25 harg25 xs5) (ix3 0 d l) := by
    pointwise [k0_pay28]
  exact e.trans ((filled0 (c := c) (harg25 := harg25) hj hpj (hd := False) arg23.view.junk (fun h => h.elim)).tail (by decide) _ d l)

theorem filled1 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_3 (F := Ideal) c arg23 arg25 harg25 xs5) 1 (fun s d l => I.pre b (256 * j + d) (128 * s + l)) hd :=
  Filled.next (by decide) (filled0 hj hpj f hh) _ _ _ _ (row1_at hj hpj) (keep1_at hj hpj)

theorem row2_at (d : Fin 256) (l : Fin 128) : ((sl.v142 (F := Ideal) c arg25 harg25 xs5)) (ix3 0 d l) = I.pre b (256 * j + (8 + d.val)) (256 + l.val) := by
  refine Eq.trans ?_ (slab_at (c := c) (harg25 := harg25) hj hpj 2 (by decide) d l)
  pointwise [sl.v142, sl.v139]

theorem keep2_at (d : Fin 8) (l : Fin 128) : (k0_pay34 (F := Ideal) (sl.v126 (F := Ideal) c arg23 arg25 harg25 xs5)) (ix3 0 d l) = I.pre b (256 * j + (256 + d.val)) (128 + l.val) := by
  have e : (k0_pay34 (F := Ideal) (sl.v126 (F := Ideal) c arg23 arg25 harg25 xs5)) (ix3 0 d l) = (sl.v126 (F := Ideal) c arg23 arg25 harg25 xs5) (ix3 0 d l) := by
    pointwise [k0_pay34]
  exact e.trans ((filled1 (c := c) (harg25 := harg25) hj hpj (hd := False) arg23.view.junk (fun h => h.elim)).tail (by decide) _ d l)

theorem filled2 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_5 (F := Ideal) c arg23 arg25 harg25 xs5) 2 (fun s d l => I.pre b (256 * j + d) (128 * s + l)) hd :=
  Filled.next (by decide) (filled1 hj hpj f hh) _ _ _ _ (row2_at hj hpj) (keep2_at hj hpj)

theorem row3_at (d : Fin 256) (l : Fin 128) : (k0_pay43 (F := Ideal) (sl.v41 (F := Ideal) c arg25 harg25 xs5)) (ix3 0 d l) = I.pre b (256 * j + (8 + d.val)) (384 + l.val) := by
  refine Eq.trans ?_ (slab_at (c := c) (harg25 := harg25) hj hpj 3 (by decide) d l)
  pointwise [k0_pay43]

theorem keep3_at (d : Fin 8) (l : Fin 128) : (k0_pay41 (F := Ideal) (sl.v174 (F := Ideal) c arg23 arg25 harg25 xs5)) (ix3 0 d l) = I.pre b (256 * j + (256 + d.val)) (256 + l.val) := by
  have e : (k0_pay41 (F := Ideal) (sl.v174 (F := Ideal) c arg23 arg25 harg25 xs5)) (ix3 0 d l) = (sl.v174 (F := Ideal) c arg23 arg25 harg25 xs5) (ix3 0 d l) := by
    pointwise [k0_pay41]
  exact e.trans ((filled2 (c := c) (harg25 := harg25) hj hpj (hd := False) arg23.view.junk (fun h => h.elim)).tail (by decide) _ d l)

theorem filled3 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_7 (F := Ideal) c arg23 arg25 harg25 xs5) 3 (fun s d l => I.pre b (256 * j + d) (128 * s + l)) hd :=
  Filled.next (by decide) (filled2 hj hpj f hh) _ _ _ _ (row3_at hj hpj) (keep3_at hj hpj)

theorem row4_at (d : Fin 256) (l : Fin 128) : ((sl.r_9 (F := Ideal) c arg25 harg25 xs5)) (ix3 0 d l) = I.pre b (256 * j + (8 + d.val)) (512 + l.val) := by
  refine Eq.trans ?_ (slab_at (c := c) (harg25 := harg25) hj hpj 4 (by decide) d l)
  pointwise [sl.r_9, k0_pay48]

theorem keep4_at (d : Fin 8) (l : Fin 128) : (k0_pay46 (F := Ideal) (sl.v222 (F := Ideal) c arg23 arg25 harg25 xs5)) (ix3 0 d l) = I.pre b (256 * j + (256 + d.val)) (384 + l.val) := by
  have e : (k0_pay46 (F := Ideal) (sl.v222 (F := Ideal) c arg23 arg25 harg25 xs5)) (ix3 0 d l) = (sl.v222 (F := Ideal) c arg23 arg25 harg25 xs5) (ix3 0 d l) := by
    pointwise [k0_pay46]
  exact e.trans ((filled3 (c := c) (harg25 := harg25) hj hpj (hd := False) arg23.view.junk (fun h => h.elim)).tail (by decide) _ d l)

theorem filled4 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_9 (F := Ideal) c arg23 arg25 harg25 xs5) 4 (fun s d l => I.pre b (256 * j + d) (128 * s + l)) hd :=
  Filled.next (by decide) (filled3 hj hpj f hh) _ _ _ _ (row4_at hj hpj) (keep4_at hj hpj)

theorem row5_at (d : Fin 256) (l : Fin 128) : (k0_pay53 (F := Ideal) (sl.v41 (F := Ideal) c arg25 harg25 xs5)) (ix3 0 d l) = I.pre b (256 * j + (8 + d.val)) (640 + l.val) := by
  refine Eq.trans ?_ (slab_at (c := c) (harg25 := harg25) hj hpj 5 (by decide) d l)
  pointwise [k0_pay53]

theorem keep5_at (d : Fin 8) (l : Fin 128) : (k0_pay51 (F := Ideal) (sl.v271 (F := Ideal) c arg23 arg25 harg25 xs5)) (ix3 0 d l) = I.pre b (256 * j + (256 + d.val)) (512 + l.val) := by
  have e : (k0_pay51 (F := Ideal) (sl.v271 (F := Ideal) c arg23 arg25 harg25 xs5)) (ix3 0 d l) = (sl.v270 (F := Ideal) c arg23 arg25 harg25 xs5) (ix3 0 d l) := by
    pointwise [k0_pay51, sl.v271]
  exact e.trans ((filled4 (c := c) (harg25 := harg25) hj hpj (hd := False) arg23.view.junk (fun h => h.elim)).tail (by decide) _ d l)

theorem filled5 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_11 (F := Ideal) c arg23 arg25 harg25 xs5) 5 (fun s d l => I.pre b (256 * j + d) (128 * s + l)) hd :=
  Filled.next (by decide) (filled4 hj hpj f hh) _ _ _ _ (row5_at hj hpj) (keep5_at hj hpj)

theorem row6_at (d : Fin 256) (l : Fin 128) : (k0_pay58 (F := Ideal) (sl.v41 (F := Ideal) c arg25 harg25 xs5)) (ix3 0 d l) = I.pre b (256 * j + (8 + d.val)) (768 + l.val) := by
  refine Eq.trans ?_ (slab_at (c := c) (harg25 := harg25) hj hpj 6 (by decide) d l)
  pointwise [k0_pay58]

theorem keep6_at (d : Fin 8) (l : Fin 128) : (k0_pay56 (F := Ideal) (sl.v318 (F := Ideal) c arg23 arg25 harg25 xs5)) (ix3 0 d l) = I.pre b (256 * j + (256 + d.val)) (640 + l.val) := by
  have e : (k0_pay56 (F := Ideal) (sl.v318 (F := Ideal) c arg23 arg25 harg25 xs5)) (ix3 0 d l) = (sl.v318 (F := Ideal) c arg23 arg25 harg25 xs5) (ix3 0 d l) := by
    pointwise [k0_pay56]
  exact e.trans ((filled5 (c := c) (harg25 := harg25) hj hpj (hd := False) arg23.view.junk (fun h => h.elim)).tail (by decide) _ d l)

theorem filled6 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_13 (F := Ideal) c arg23 arg25 harg25 xs5) 6 (fun s d l => I.pre b (256 * j + d) (128 * s + l)) hd :=
  Filled.next (by decide) (filled5 hj hpj f hh) _ _ _ _ (row6_at hj hpj) (keep6_at hj hpj)

theorem row7_at (d : Fin 256) (l : Fin 128) : ((sl.v382 (F := Ideal) c arg25 harg25 xs5)) (ix3 0 d l) = I.pre b (256 * j + (8 + d.val)) (896 + l.val) := by
  refine Eq.trans ?_ (slab_at (c := c) (harg25 := harg25) hj hpj 7 (by decide) d l)
  pointwise [sl.v382, sl.v379]

theorem keep7_at (d : Fin 8) (l : Fin 128) : (k0_pay62 (F := Ideal) (sl.v366 (F := Ideal) c arg23 arg25 harg25 xs5)) (ix3 0 d l) = I.pre b (256 * j + (256 + d.val)) (768 + l.val) := by
  have e : (k0_pay62 (F := Ideal) (sl.v366 (F := Ideal) c arg23 arg25 harg25 xs5)) (ix3 0 d l) = (sl.v366 (F := Ideal) c arg23 arg25 harg25 xs5) (ix3 0 d l) := by
    pointwise [k0_pay62]
  exact e.trans ((filled6 (c := c) (harg25 := harg25) hj hpj (hd := False) arg23.view.junk (fun h => h.elim)).tail (by decide) _ d l)

theorem filled7 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_15 (F := Ideal) c arg23 arg25 harg25 xs5) 7 (fun s d l => I.pre b (256 * j + d) (128 * s + l)) hd :=
  Filled.next (by decide) (filled6 hj hpj f hh) _ _ _ _ (row7_at hj hpj) (keep7_at hj hpj)

theorem row8_at (d : Fin 256) (l : Fin 128) : (k0_pay71 (F := Ideal) (sl.v41 (F := Ideal) c arg25 harg25 xs5)) (ix3 0 d l) = I.pre b (256 * j + (8 + d.val)) (1024 + l.val) := by
  refine Eq.trans ?_ (slab_at (c := c) (harg25 := harg25) hj hpj 8 (by decide) d l)
  pointwise [k0_pay71]

theorem keep8_at (d : Fin 8) (l : Fin 128) : (k0_pay69 (F := Ideal) (sl.v414 (F := Ideal) c arg23 arg25 harg25 xs5)) (ix3 0 d l) = I.pre b (256 * j + (256 + d.val)) (896 + l.val) := by
  have e : (k0_pay69 (F := Ideal) (sl.v414 (F := Ideal) c arg23 arg25 harg25 xs5)) (ix3 0 d l) = (sl.v414 (F := Ideal) c arg23 arg25 harg25 xs5) (ix3 0 d l) := by
    pointwise [k0_pay69]
  exact e.trans ((filled7 (c := c) (harg25 := harg25) hj hpj (hd := False) arg23.view.junk (fun h => h.elim)).tail (by decide) _ d l)

theorem filled8 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_17 (F := Ideal) c arg23 arg25 harg25 xs5) 8 (fun s d l => I.pre b (256 * j + d) (128 * s + l)) hd :=
  Filled.next (by decide) (filled7 hj hpj f hh) _ _ _ _ (row8_at hj hpj) (keep8_at hj hpj)

theorem row9_at (d : Fin 256) (l : Fin 128) : ((sl.r_22 (F := Ideal) c arg25 harg25 xs5)) (ix3 0 d l) = I.pre b (256 * j + (8 + d.val)) (1152 + l.val) := by
  refine Eq.trans ?_ (slab_at (c := c) (harg25 := harg25) hj hpj 9 (by decide) d l)
  pointwise [sl.r_22, k0_pay76]

theorem keep9_at (d : Fin 8) (l : Fin 128) : (k0_pay74 (F := Ideal) (sl.v462 (F := Ideal) c arg23 arg25 harg25 xs5)) (ix3 0 d l) = I.pre b (256 * j + (256 + d.val)) (1024 + l.val) := by
  have e : (k0_pay74 (F := Ideal) (sl.v462 (F := Ideal) c arg23 arg25 harg25 xs5)) (ix3 0 d l) = (sl.v462 (F := Ideal) c arg23 arg25 harg25 xs5) (ix3 0 d l) := by
    pointwise [k0_pay74]
  exact e.trans ((filled8 (c := c) (harg25 := harg25) hj hpj (hd := False) arg23.view.junk (fun h => h.elim)).tail (by decide) _ d l)

theorem filled9 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_19 (F := Ideal) c arg23 arg25 harg25 xs5) 9 (fun s d l => I.pre b (256 * j + d) (128 * s + l)) hd :=
  Filled.next (by decide) (filled8 hj hpj f hh) _ _ _ _ (row9_at hj hpj) (keep9_at hj hpj)

theorem row10_at (d : Fin 256) (l : Fin 128) : (k0_pay81 (F := Ideal) (sl.v41 (F := Ideal) c arg25 harg25 xs5)) (ix3 0 d l) = I.pre b (256 * j + (8 + d.val)) (1280 + l.val) := by
  refine Eq.trans ?_ (slab_at (c := c) (harg25 := harg25) hj hpj 10 (by decide) d l)
  pointwise [k0_pay81]

theorem keep10_at (d : Fin 8) (l : Fin 128) : (k0_pay79 (F := Ideal) (sl.v511 (F := Ideal) c arg23 arg25 harg25 xs5)) (ix3 0 d l) = I.pre b (256 * j + (256 + d.val)) (1152 + l.val) := by
  have e : (k0_pay79 (F := Ideal) (sl.v511 (F := Ideal) c arg23 arg25 harg25 xs5)) (ix3 0 d l) = (sl.v510 (F := Ideal) c arg23 arg25 harg25 xs5) (ix3 0 d l) := by
    pointwise [k0_pay79, sl.v511]
  exact e.trans ((filled9 (c := c) (harg25 := harg25) hj hpj (hd := False) arg23.view.junk (fun h => h.elim)).tail (by decide) _ d l)

theorem filled10 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_21 (F := Ideal) c arg23 arg25 harg25 xs5) 10 (fun s d l => I.pre b (256 * j + d) (128 * s + l)) hd :=
  Filled.next (by decide) (filled9 hj hpj f hh) _ _ _ _ (row10_at hj hpj) (keep10_at hj hpj)

theorem row11_at (d : Fin 256) (l : Fin 128) : (k0_pay86 (F := Ideal) (sl.v41 (F := Ideal) c arg25 harg25 xs5)) (ix3 0 d l) = I.pre b (256 * j + (8 + d.val)) (1408 + l.val) := by
  refine Eq.trans ?_ (slab_at (c := c) (harg25 := harg25) hj hpj 11 (by decide) d l)
  pointwise [k0_pay86]

theorem keep11_at (d : Fin 8) (l : Fin 128) : (k0_pay84 (F := Ideal) (sl.v558 (F := Ideal) c arg23 arg25 harg25 xs5)) (ix3 0 d l) = I.pre b (256 * j + (256 + d.val)) (1280 + l.val) := by
  have e : (k0_pay84 (F := Ideal) (sl.v558 (F := Ideal) c arg23 arg25 harg25 xs5)) (ix3 0 d l) = (sl.v558 (F := Ideal) c arg23 arg25 harg25 xs5) (ix3 0 d l) := by
    pointwise [k0_pay84]
  exact e.trans ((filled10 (c := c) (harg25 := harg25) hj hpj (hd := False) arg23.view.junk (fun h => h.elim)).tail (by decide) _ d l)

theorem filled11 {hd : Prop} (f : arg23.view.ty.Contents (Elt Ideal)) (hh : hd → ∀ (s : Fin 12) (d : Fin 264) (l : Fin 128), d.val < 8 → arg23.view.read (Elt Ideal) f (ix3 s d l) = I.pre b (256 * j + d.val) (128 * s.val + l.val)) : Filled arg23.view f (sl.HS3_23 (F := Ideal) c arg23 arg25 harg25 xs5) 11 (fun s d l => I.pre b (256 * j + d) (128 * s + l)) hd :=
  Filled.next (by decide) (filled10 hj hpj f hh) _ _ _ _ (row11_at hj hpj) (keep11_at hj hpj)

theorem bias0_at (A : Args I x5 x6 x7 x8 x9 x10) (l : Fin 128) : arg7.view.readAt (Elt Ideal) (Rect.unit (s := S1x1536) ![0, 0] S1x128.size inb_S1x1536_S1x128_0_0).toLoadRect (harg7.unread x6) (ix2 0 l) = I.cb (0 + l.val) :=
  (load2 arg7.view _ 1 128 0 0 _ 0 l).trans (by rw [Memref.IsWhole.read_unread]; exact (congrArg (fun q => x6 (ix2 0 q)) (Fin.ext (Nat.zero_add l.val))).trans ((A.cb ⟨l.val, by omega⟩).trans (congrArg I.cb (Nat.zero_add l.val).symm)))

theorem w0_0_at (A : Args I x5 x6 x7 x8 x9 x10) (l : Fin 128) : arg6.view.readAt (Elt Ideal) (Rect.unit (s := S4x1536) ![0, 0] S1x128.size inb_S4x1536_S1x128_0_0).toLoadRect (harg6.unread x5) (ix2 0 l) = I.cw 0 (0 + l.val) :=
  (load2 arg6.view _ 1 128 0 0 _ 0 l).trans (by rw [Memref.IsWhole.read_unread]; exact (congrArg (fun q => x5 (ix2 (0 : Fin 4) q)) (Fin.ext (Nat.zero_add l.val))).trans ((A.cw 0 ⟨l.val, by omega⟩).trans (congrArg (I.cw 0) (Nat.zero_add l.val).symm)))

theorem tap0_0_at (hhd : HeadOk I b j xs3) (hst : StateOk I b j xs4) (r : Fin 256) (l : Fin 128) : (sl.v51 (F := Ideal) c arg23 harg23 arg25 harg25 xs3 xs5) (ix3 0 r l) = I.pre b (256 * j + (5 + 0 + r.val)) (0 + l.val) :=
  (filled0 (c := c) (harg25 := harg25) hj hpj (harg23.unread xs3) (hd := True) (fun _ s d l h8 => by rw [Memref.IsWhole.read_unread]; exact hhd s d l h8)).tap trivial 5 (by decide) (by decide) _ r l

theorem w0_1_at (A : Args I x5 x6 x7 x8 x9 x10) (l : Fin 128) : arg6.view.readAt (Elt Ideal) (Rect.unit (s := S4x1536) ![1, 0] S1x128.size inb_S4x1536_S1x128_1_0).toLoadRect (harg6.unread x5) (ix2 0 l) = I.cw 1 (0 + l.val) :=
  (load2 arg6.view _ 1 128 1 0 _ 0 l).trans (by rw [Memref.IsWhole.read_unread]; exact (congrArg (fun q => x5 (ix2 (1 : Fin 4) q)) (Fin.ext (Nat.zero_add l.val))).trans ((A.cw 1 ⟨l.val, by omega⟩).trans (congrArg (I.cw 1) (Nat.zero_add l.val).symm)))

theorem tap0_1_at (hhd : HeadOk I b j xs3) (hst : StateOk I b j xs4) (r : Fin 256) (l : Fin 128) : (sl.v59 (F := Ideal) c arg23 harg23 arg25 harg25 xs3 xs5) (ix3 0 r l) = I.pre b (256 * j + (5 + 1 + r.val)) (0 + l.val) :=
  (filled0 (c := c) (harg25 := harg25) hj hpj (harg23.unread xs3) (hd := True) (fun _ s d l h8 => by rw [Memref.IsWhole.read_unread]; exact hhd s d l h8)).tap trivial 6 (by decide) (by decide) _ r l

theorem w0_2_at (A : Args I x5 x6 x7 x8 x9 x10) (l : Fin 128) : arg6.view.readAt (Elt Ideal) (Rect.unit (s := S4x1536) ![2, 0] S1x128.size inb_S4x1536_S1x128_2_0).toLoadRect (harg6.unread x5) (ix2 0 l) = I.cw 2 (0 + l.val) :=
  (load2 arg6.view _ 1 128 2 0 _ 0 l).trans (by rw [Memref.IsWhole.read_unread]; exact (congrArg (fun q => x5 (ix2 (2 : Fin 4) q)) (Fin.ext (Nat.zero_add l.val))).trans ((A.cw 2 ⟨l.val, by omega⟩).trans (congrArg (I.cw 2) (Nat.zero_add l.val).symm)))

theorem tap0_2_at (hhd : HeadOk I b j xs3) (hst : StateOk I b j xs4) (r : Fin 256) (l : Fin 128) : (sl.v66 (F := Ideal) c arg23 harg23 arg25 harg25 xs3 xs5) (ix3 0 r l) = I.pre b (256 * j + (5 + 2 + r.val)) (0 + l.val) :=
  (filled0 (c := c) (harg25 := harg25) hj hpj (harg23.unread xs3) (hd := True) (fun _ s d l h8 => by rw [Memref.IsWhole.read_unread]; exact hhd s d l h8)).tap trivial 7 (by decide) (by decide) _ r l

theorem w0_3_at (A : Args I x5 x6 x7 x8 x9 x10) (l : Fin 128) : arg6.view.readAt (Elt Ideal) (Rect.unit (s := S4x1536) ![3, 0] S1x128.size inb_S4x1536_S1x128_3_0).toLoadRect (harg6.unread x5) (ix2 0 l) = I.cw 3 (0 + l.val) :=
  (load2 arg6.view _ 1 128 3 0 _ 0 l).trans (by rw [Memref.IsWhole.read_unread]; exact (congrArg (fun q => x5 (ix2 (3 : Fin 4) q)) (Fin.ext (Nat.zero_add l.val))).trans ((A.cw 3 ⟨l.val, by omega⟩).trans (congrArg (I.cw 3) (Nat.zero_add l.val).symm)))

theorem tap0_3_at (hhd : HeadOk I b j xs3) (hst : StateOk I b j xs4) (r : Fin 256) (l : Fin 128) : (sl.v73 (F := Ideal) c arg23 arg25 harg25 xs5) (ix3 0 r l) = I.pre b (256 * j + (5 + 3 + r.val)) (0 + l.val) :=
  (filled0 (c := c) (harg25 := harg25) hj hpj (hd := False) arg23.view.junk (fun h => h.elim)).tap8 (by decide) _ r l

theorem bias1_at (A : Args I x5 x6 x7 x8 x9 x10) (l : Fin 128) : arg7.view.readAt (Elt Ideal) (Rect.unit (s := S1x1536) ![0, 128] S1x128.size inb_S1x1536_S1x128_0_128).toLoadRect (harg7.unread x6) (ix2 0 l) = I.cb (128 + l.val) :=
  (load2 arg7.view _ 1 128 0 128 _ 0 l).trans (by rw [Memref.IsWhole.read_unread]; exact A.cb ⟨128 + l.val, by omega⟩)

theorem w1_0_at (A : Args I x5 x6 x7 x8 x9 x10) (l : Fin 128) : arg6.view.readAt (Elt Ideal) (Rect.unit (s := S4x1536) ![0, 128] S1x128.size inb_S4x1536_S1x128_0_128).toLoadRect (harg6.unread x5) (ix2 0 l) = I.cw 0 (128 + l.val) :=
  (load2 arg6.view _ 1 128 0 128 _ 0 l).trans (by rw [Memref.IsWhole.read_unread]; exact A.cw 0 ⟨128 + l.val, by omega⟩)

theorem tap1_0_at (hhd : HeadOk I b j xs3) (hst : StateOk I b j xs4) (r : Fin 256) (l : Fin 128) : (sl.v99 (F := Ideal) c arg23 harg23 arg25 harg25 xs3 xs5) (ix3 0 r l) = I.pre b (256 * j + (5 + 0 + r.val)) (128 + l.val) :=
  (filled1 (c := c) (harg25 := harg25) hj hpj (harg23.unread xs3) (hd := True) (fun _ s d l h8 => by rw [Memref.IsWhole.read_unread]; exact hhd s d l h8)).tap trivial 5 (by decide) (by decide) _ r l

theorem w1_1_at (A : Args I x5 x6 x7 x8 x9 x10) (l : Fin 128) : arg6.view.readAt (Elt Ideal) (Rect.unit (s := S4x1536) ![1, 128] S1x128.size inb_S4x1536_S1x128_1_128).toLoadRect (harg6.unread x5) (ix2 0 l) = I.cw 1 (128 + l.val) :=
  (load2 arg6.view _ 1 128 1 128 _ 0 l).trans (by rw [Memref.IsWhole.read_unread]; exact A.cw 1 ⟨128 + l.val, by omega⟩)

theorem tap1_1_at (hhd : HeadOk I b j xs3) (hst : StateOk I b j xs4) (r : Fin 256) (l : Fin 128) : (sl.v107 (F := Ideal) c arg23 harg23 arg25 harg25 xs3 xs5) (ix3 0 r l) = I.pre b (256 * j + (5 + 1 + r.val)) (128 + l.val) :=
  (filled1 (c := c) (harg25 := harg25) hj hpj (harg23.unread xs3) (hd := True) (fun _ s d l h8 => by rw [Memref.IsWhole.read_unread]; exact hhd s d l h8)).tap trivial 6 (by decide) (by decide) _ r l

theorem w1_2_at (A : Args I x5 x6 x7 x8 x9 x10) (l : Fin 128) : arg6.view.readAt (Elt Ideal) (Rect.unit (s := S4x1536) ![2, 128] S1x128.size inb_S4x1536_S1x128_2_128).toLoadRect (harg6.unread x5) (ix2 0 l) = I.cw 2 (128 + l.val) :=
  (load2 arg6.view _ 1 128 2 128 _ 0 l).trans (by rw [Memref.IsWhole.read_unread]; exact A.cw 2 ⟨128 + l.val, by omega⟩)

theorem tap1_2_at (hhd : HeadOk I b j xs3) (hst : StateOk I b j xs4) (r : Fin 256) (l : Fin 128) : (sl.v114 (F := Ideal) c arg23 harg23 arg25 harg25 xs3 xs5) (ix3 0 r l) = I.pre b (256 * j + (5 + 2 + r.val)) (128 + l.val) :=
  (filled1 (c := c) (harg25 := harg25) hj hpj (harg23.unread xs3) (hd := True) (fun _ s d l h8 => by rw [Memref.IsWhole.read_unread]; exact hhd s d l h8)).tap trivial 7 (by decide) (by decide) _ r l

theorem w1_3_at (A : Args I x5 x6 x7 x8 x9 x10) (l : Fin 128) : arg6.view.readAt (Elt Ideal) (Rect.unit (s := S4x1536) ![3, 128] S1x128.size inb_S4x1536_S1x128_3_128).toLoadRect (harg6.unread x5) (ix2 0 l) = I.cw 3 (128 + l.val) :=
  (load2 arg6.view _ 1 128 3 128 _ 0 l).trans (by rw [Memref.IsWhole.read_unread]; exact A.cw 3 ⟨128 + l.val, by omega⟩)

theorem tap1_3_at (hhd : HeadOk I b j xs3) (hst : StateOk I b j xs4) (r : Fin 256) (l : Fin 128) : (sl.v121 (F := Ideal) c arg23 arg25 harg25 xs5) (ix3 0 r l) = I.pre b (256 * j + (5 + 3 + r.val)) (128 + l.val) :=
  (filled1 (c := c) (harg25 := harg25) hj hpj (hd := False) arg23.view.junk (fun h => h.elim)).tap8 (by decide) _ r l

theorem bias2_at (A : Args I x5 x6 x7 x8 x9 x10) (l : Fin 128) : arg7.view.readAt (Elt Ideal) (Rect.unit (s := S1x1536) ![0, 256] S1x128.size inb_S1x1536_S1x128_0_256).toLoadRect (harg7.unread x6) (ix2 0 l) = I.cb (256 + l.val) :=
  (load2 arg7.view _ 1 128 0 256 _ 0 l).trans (by rw [Memref.IsWhole.read_unread]; exact A.cb ⟨256 + l.val, by omega⟩)

theorem w2_0_at (A : Args I x5 x6 x7 x8 x9 x10) (l : Fin 128) : arg6.view.readAt (Elt Ideal) (Rect.unit (s := S4x1536) ![0, 256] S1x128.size inb_S4x1536_S1x128_0_256).toLoadRect (harg6.unread x5) (ix2 0 l) = I.cw 0 (256 + l.val) :=
  (load2 arg6.view _ 1 128 0 256 _ 0 l).trans (by rw [Memref.IsWhole.read_unread]; exact A.cw 0 ⟨256 + l.val, by omega⟩)

theorem tap2_0_at (hhd : HeadOk I b j xs3) (hst : StateOk I b j xs4) (r : Fin 256) (l : Fin 128) : (sl.v147 (F := Ideal) c arg23 harg23 arg25 harg25 xs3 xs5) (ix3 0 r l) = I.pre b (256 * j + (5 + 0 + r.val)) (256 + l.val) :=
  (filled2 (c := c) (harg25 := harg25) hj hpj (harg23.unread xs3) (hd := True) (fun _ s d l h8 => by rw [Memref.IsWhole.read_unread]; exact hhd s d l h8)).tap trivial 5 (by decide) (by decide) _ r l

theorem w2_1_at (A : Args I x5 x6 x7 x8 x9 x10) (l : Fin 128) : arg6.view.readAt (Elt Ideal) (Rect.unit (s := S4x1536) ![1, 256] S1x128.size inb_S4x1536_S1x128_1_256).toLoadRect (harg6.unread x5) (ix2 0 l) = I.cw 1 (256 + l.val) :=
  (load2 arg6.view _ 1 128 1 256 _ 0 l).trans (by rw [Memref.IsWhole.read_unread]; exact A.cw 1 ⟨256 + l.val, by omega⟩)

theorem tap2_1_at (hhd : HeadOk I b j xs3) (hst : StateOk I b j xs4) (r : Fin 256) (l : Fin 128) : (sl.v155 (F := Ideal) c arg23 harg23 arg25 harg25 xs3 xs5) (ix3 0 r l) = I.pre b (256 * j + (5 + 1 + r.val)) (256 + l.val) :=
  (filled2 (c := c) (harg25 := harg25) hj hpj (harg23.unread xs3) (hd := True) (fun _ s d l h8 => by rw [Memref.IsWhole.read_unread]; exact hhd s d l h8)).tap trivial 6 (by decide) (by decide) _ r l

theorem w2_2_at (A : Args I x5 x6 x7 x8 x9 x10) (l : Fin 128) : arg6.view.readAt (Elt Ideal) (Rect.unit (s := S4x1536) ![2, 256] S1x128.size inb_S4x1536_S1x128_2_256).toLoadRect (harg6.unread x5) (ix2 0 l) = I.cw 2 (256 + l.val) :=
  (load2 arg6.view _ 1 128 2 256 _ 0 l).trans (by rw [Memref.IsWhole.read_unread]; exact A.cw 2 ⟨256 + l.val, by omega⟩)

theorem tap2_2_at (hhd : HeadOk I b j xs3) (hst : StateOk I b j xs4) (r : Fin 256) (l : Fin 128) : (sl.v162 (F := Ideal) c arg23 harg23 arg25 harg25 xs3 xs5) (ix3 0 r l) = I.pre b (256 * j + (5 + 2 + r.val)) (256 + l.val) :=
  (filled2 (c := c) (harg25 := harg25) hj hpj (harg23.unread xs3) (hd := True) (fun _ s d l h8 => by rw [Memref.IsWhole.read_unread]; exact hhd s d l h8)).tap trivial 7 (by decide) (by decide) _ r l

theorem w2_3_at (A : Args I x5 x6 x7 x8 x9 x10) (l : Fin 128) : arg6.view.readAt (Elt Ideal) (Rect.unit (s := S4x1536) ![3, 256] S1x128.size inb_S4x1536_S1x128_3_256).toLoadRect (harg6.unread x5) (ix2 0 l) = I.cw 3 (256 + l.val) :=
  (load2 arg6.view _ 1 128 3 256 _ 0 l).trans (by rw [Memref.IsWhole.read_unread]; exact A.cw 3 ⟨256 + l.val, by omega⟩)

theorem tap2_3_at (hhd : HeadOk I b j xs3) (hst : StateOk I b j xs4) (r : Fin 256) (l : Fin 128) : (sl.v169 (F := Ideal) c arg23 arg25 harg25 xs5) (ix3 0 r l) = I.pre b (256 * j + (5 + 3 + r.val)) (256 + l.val) :=
  (filled2 (c := c) (harg25 := harg25) hj hpj (hd := False) arg23.view.junk (fun h => h.elim)).tap8 (by decide) _ r l

theorem bias3_at (A : Args I x5 x6 x7 x8 x9 x10) (l : Fin 128) : arg7.view.readAt (Elt Ideal) (Rect.unit (s := S1x1536) ![0, 384] S1x128.size inb_S1x1536_S1x128_0_384).toLoadRect (harg7.unread x6) (ix2 0 l) = I.cb (384 + l.val) :=
  (load2 arg7.view _ 1 128 0 384 _ 0 l).trans (by rw [Memref.IsWhole.read_unread]; exact A.cb ⟨384 + l.val, by omega⟩)

theorem w3_0_at (A : Args I x5 x6 x7 x8 x9 x10) (l : Fin 128) : arg6.view.readAt (Elt Ideal) (Rect.unit (s := S4x1536) ![0, 384] S1x128.size inb_S4x1536_S1x128_0_384).toLoadRect (harg6.unread x5) (ix2 0 l) = I.cw 0 (384 + l.val) :=
  (load2 arg6.view _ 1 128 0 384 _ 0 l).trans (by rw [Memref.IsWhole.read_unread]; exact A.cw 0 ⟨384 + l.val, by omega⟩)

theorem tap3_0_at (hhd : HeadOk I b j xs3) (hst : StateOk I b j xs4) (r : Fin 256) (l : Fin 128) : (sl.v195 (F := Ideal) c arg23 harg23 arg25 harg25 xs3 xs5) (ix3 0 r l) = I.pre b (256 * j + (5 + 0 + r.val)) (384 + l.val) :=
  (filled3 (c := c) (harg25 := harg25) hj hpj (harg23.unread xs3) (hd := True) (fun _ s d l h8 => by rw [Memref.IsWhole.read_unread]; exact hhd s d l h8)).tap trivial 5 (by decide) (by decide) _ r l

theorem w3_1_at (A : Args I x5 x6 x7 x8 x9 x10) (l : Fin 128) : arg6.view.readAt (Elt Ideal) (Rect.unit (s := S4x1536) ![1, 384] S1x128.size inb_S4x1536_S1x128_1_384).toLoadRect (harg6.unread x5) (ix2 0 l) = I.cw 1 (384 + l.val) :=
  (load2 arg6.view _ 1 128 1 384 _ 0 l).trans (by rw [Memref.IsWhole.read_unread]; exact A.cw 1 ⟨384 + l.val, by omega⟩)

theorem tap3_1_at (hhd : HeadOk I b j xs3) (hst : StateOk I b j xs4) (r : Fin 256) (l : Fin 128) : (sl.v203 (F := Ideal) c arg23 harg23 arg25 harg25 xs3 xs5) (ix3 0 r l) = I.pre b (256 * j + (5 + 1 + r.val)) (384 + l.val) :=
  (filled3 (c := c) (harg25 := harg25) hj hpj (harg23.unread xs3) (hd := True) (fun _ s d l h8 => by rw [Memref.IsWhole.read_unread]; exact hhd s d l h8)).tap trivial 6 (by decide) (by decide) _ r l

theorem w3_2_at (A : Args I x5 x6 x7 x8 x9 x10) (l : Fin 128) : arg6.view.readAt (Elt Ideal) (Rect.unit (s := S4x1536) ![2, 384] S1x128.size inb_S4x1536_S1x128_2_384).toLoadRect (harg6.unread x5) (ix2 0 l) = I.cw 2 (384 + l.val) :=
  (load2 arg6.view _ 1 128 2 384 _ 0 l).trans (by rw [Memref.IsWhole.read_unread]; exact A.cw 2 ⟨384 + l.val, by omega⟩)

theorem tap3_2_at (hhd : HeadOk I b j xs3) (hst : StateOk I b j xs4) (r : Fin 256) (l : Fin 128) : (sl.v210 (F := Ideal) c arg23 harg23 arg25 harg25 xs3 xs5) (ix3 0 r l) = I.pre b (256 * j + (5 + 2 + r.val)) (384 + l.val) :=
  (filled3 (c := c) (harg25 := harg25) hj hpj (harg23.unread xs3) (hd := True) (fun _ s d l h8 => by rw [Memref.IsWhole.read_unread]; exact hhd s d l h8)).tap trivial 7 (by decide) (by decide) _ r l

theorem w3_3_at (A : Args I x5 x6 x7 x8 x9 x10) (l : Fin 128) : arg6.view.readAt (Elt Ideal) (Rect.unit (s := S4x1536) ![3, 384] S1x128.size inb_S4x1536_S1x128_3_384).toLoadRect (harg6.unread x5) (ix2 0 l) = I.cw 3 (384 + l.val) :=
  (load2 arg6.view _ 1 128 3 384 _ 0 l).trans (by rw [Memref.IsWhole.read_unread]; exact A.cw 3 ⟨384 + l.val, by omega⟩)

theorem tap3_3_at (hhd : HeadOk I b j xs3) (hst : StateOk I b j xs4) (r : Fin 256) (l : Fin 128) : (sl.v217 (F := Ideal) c arg23 arg25 harg25 xs5) (ix3 0 r l) = I.pre b (256 * j + (5 + 3 + r.val)) (384 + l.val) :=
  (filled3 (c := c) (harg25 := harg25) hj hpj (hd := False) arg23.view.junk (fun h => h.elim)).tap8 (by decide) _ r l

theorem bias4_at (A : Args I x5 x6 x7 x8 x9 x10) (l : Fin 128) : arg7.view.readAt (Elt Ideal) (Rect.unit (s := S1x1536) ![0, 512] S1x128.size inb_S1x1536_S1x128_0_512).toLoadRect (harg7.unread x6) (ix2 0 l) = I.cb (512 + l.val) :=
  (load2 arg7.view _ 1 128 0 512 _ 0 l).trans (by rw [Memref.IsWhole.read_unread]; exact A.cb ⟨512 + l.val, by omega⟩)

theorem w4_0_at (A : Args I x5 x6 x7 x8 x9 x10) (l : Fin 128) : arg6.view.readAt (Elt Ideal) (Rect.unit (s := S4x1536) ![0, 512] S1x128.size inb_S4x1536_S1x128_0_512).toLoadRect (harg6.unread x5) (ix2 0 l) = I.cw 0 (512 + l.val) :=
  (load2 arg6.view _ 1 128 0 512 _ 0 l).trans (by rw [Memref.IsWhole.read_unread]; exact A.cw 0 ⟨512 + l.val, by omega⟩)

theorem tap4_0_at (hhd : HeadOk I b j xs3) (hst : StateOk I b j xs4) (r : Fin 256) (l : Fin 128) : (sl.v243 (F := Ideal) c arg23 harg23 arg25 harg25 xs3 xs5) (ix3 0 r l) = I.pre b (256 * j + (5 + 0 + r.val)) (512 + l.val) :=
  (filled4 (c := c) (harg25 := harg25) hj hpj (harg23.unread xs3) (hd := True) (fun _ s d l h8 => by rw [Memref.IsWhole.read_unread]; exact hhd s d l h8)).tap trivial 5 (by decide) (by decide) _ r l

theorem w4_1_at (A : Args I x5 x6 x7 x8 x9 x10) (l : Fin 128) : arg6.view.readAt (Elt Ideal) (Rect.unit (s := S4x1536) ![1, 512] S1x128.size inb_S4x1536_S1x128_1_512).toLoadRect (harg6.unread x5) (ix2 0 l) = I.cw 1 (512 + l.val) :=
  (load2 arg6.view _ 1 128 1 512 _ 0 l).trans (by rw [Memref.IsWhole.read_unread]; exact A.cw 1 ⟨512 + l.val, by omega⟩)

theorem tap4_1_at (hhd : HeadOk I b j xs3) (hst : StateOk I b j xs4) (r : Fin 256) (l : Fin 128) : (sl.v251 (F := Ideal) c arg23 harg23 arg25 harg25 xs3 xs5) (ix3 0 r l) = I.pre b (256 * j + (5 + 1 + r.val)) (512 + l.val) :=
  (filled4 (c := c) (harg25 := harg25) hj hpj (harg23.unread xs3) (hd := True) (fun _ s d l h8 => by rw [Memref.IsWhole.read_unread]; exact hhd s d l h8)).tap trivial 6 (by decide) (by decide) _ r l

theorem w4_2_at (A : Args I x5 x6 x7 x8 x9 x10) (l : Fin 128) : arg6.view.readAt (Elt Ideal) (Rect.unit (s := S4x1536) ![2, 512] S1x128.size inb_S4x1536_S1x128_2_512).toLoadRect (harg6.unread x5) (ix2 0 l) = I.cw 2 (512 + l.val) :=
  (load2 arg6.view _ 1 128 2 512 _ 0 l).trans (by rw [Memref.IsWhole.read_unread]; exact A.cw 2 ⟨512 + l.val, by omega⟩)

theorem tap4_2_at (hhd : HeadOk I b j xs3) (hst : StateOk I b j xs4) (r : Fin 256) (l : Fin 128) : (sl.v258 (F := Ideal) c arg23 harg23 arg25 harg25 xs3 xs5) (ix3 0 r l) = I.pre b (256 * j + (5 + 2 + r.val)) (512 + l.val) :=
  (filled4 (c := c) (harg25 := harg25) hj hpj (harg23.unread xs3) (hd := True) (fun _ s d l h8 => by rw [Memref.IsWhole.read_unread]; exact hhd s d l h8)).tap trivial 7 (by decide) (by decide) _ r l

theorem w4_3_at (A : Args I x5 x6 x7 x8 x9 x10) (l : Fin 128) : arg6.view.readAt (Elt Ideal) (Rect.unit (s := S4x1536) ![3, 512] S1x128.size inb_S4x1536_S1x128_3_512).toLoadRect (harg6.unread x5) (ix2 0 l) = I.cw 3 (512 + l.val) :=
  (load2 arg6.view _ 1 128 3 512 _ 0 l).trans (by rw [Memref.IsWhole.read_unread]; exact A.cw 3 ⟨512 + l.val, by omega⟩)

theorem tap4_3_at (hhd : HeadOk I b j xs3) (hst : StateOk I b j xs4) (r : Fin 256) (l : Fin 128) : (sl.v265 (F := Ideal) c arg23 arg25 harg25 xs5) (ix3 0 r l) = I.pre b (256 * j + (5 + 3 + r.val)) (512 + l.val) :=
  (filled4 (c := c) (harg25 := harg25) hj hpj (hd := False) arg23.view.junk (fun h => h.elim)).tap8 (by decide) _ r l

theorem bias5_at (A : Args I x5 x6 x7 x8 x9 x10) (l : Fin 128) : arg7.view.readAt (Elt Ideal) (Rect.unit (s := S1x1536) ![0, 640] S1x128.size inb_S1x1536_S1x128_0_640).toLoadRect (harg7.unread x6) (ix2 0 l) = I.cb (640 + l.val) :=
  (load2 arg7.view _ 1 128 0 640 _ 0 l).trans (by rw [Memref.IsWhole.read_unread]; exact A.cb ⟨640 + l.val, by omega⟩)

theorem w5_0_at (A : Args I x5 x6 x7 x8 x9 x10) (l : Fin 128) : arg6.view.readAt (Elt Ideal) (Rect.unit (s := S4x1536) ![0, 640] S1x128.size inb_S4x1536_S1x128_0_640).toLoadRect (harg6.unread x5) (ix2 0 l) = I.cw 0 (640 + l.val) :=
  (load2 arg6.view _ 1 128 0 640 _ 0 l).trans (by rw [Memref.IsWhole.read_unread]; exact A.cw 0 ⟨640 + l.val, by omega⟩)

theorem tap5_0_at (hhd : HeadOk I b j xs3) (hst : StateOk I b j xs4) (r : Fin 256) (l : Fin 128) : (sl.v291 (F := Ideal) c arg23 harg23 arg25 harg25 xs3 xs5) (ix3 0 r l) = I.pre b (256 * j + (5 + 0 + r.val)) (640 + l.val) :=
  (filled5 (c := c) (harg25 := harg25) hj hpj (harg23.unread xs3) (hd := True) (fun _ s d l h8 => by rw [Memref.IsWhole.read_unread]; exact hhd s d l h8)).tap trivial 5 (by decide) (by decide) _ r l

theorem w5_1_at (A : Args I x5 x6 x7 x8 x9 x10) (l : Fin 128) : arg6.view.readAt (Elt Ideal) (Rect.unit (s := S4x1536) ![1, 640] S1x128.size inb_S4x1536_S1x128_1_640).toLoadRect (harg6.unread x5) (ix2 0 l) = I.cw 1 (640 + l.val) :=
  (load2 arg6.view _ 1 128 1 640 _ 0 l).trans (by rw [Memref.IsWhole.read_unread]; exact A.cw 1 ⟨640 + l.val, by omega⟩)

theorem tap5_1_at (hhd : HeadOk I b j xs3) (hst : StateOk I b j xs4) (r : Fin 256) (l : Fin 128) : (sl.v299 (F := Ideal) c arg23 harg23 arg25 harg25 xs3 xs5) (ix3 0 r l) = I.pre b (256 * j + (5 + 1 + r.val)) (640 + l.val) :=
  (filled5 (c := c) (harg25 := harg25) hj hpj (harg23.unread xs3) (hd := True) (fun _ s d l h8 => by rw [Memref.IsWhole.read_unread]; exact hhd s d l h8)).tap trivial 6 (by decide) (by decide) _ r l

theorem w5_2_at (A : Args I x5 x6 x7 x8 x9 x10) (l : Fin 128) : arg6.view.readAt (Elt Ideal) (Rect.unit (s := S4x1536) ![2, 640] S1x128.size inb_S4x1536_S1x128_2_640).toLoadRect (harg6.unread x5) (ix2 0 l) = I.cw 2 (640 + l.val) :=
  (load2 arg6.view _ 1 128 2 640 _ 0 l).trans (by rw [Memref.IsWhole.read_unread]; exact A.cw 2 ⟨640 + l.val, by omega⟩)

theorem tap5_2_at (hhd : HeadOk I b j xs3) (hst : StateOk I b j xs4) (r : Fin 256) (l : Fin 128) : (sl.v306 (F := Ideal) c arg23 harg23 arg25 harg25 xs3 xs5) (ix3 0 r l) = I.pre b (256 * j + (5 + 2 + r.val)) (640 + l.val) :=
  (filled5 (c := c) (harg25 := harg25) hj hpj (harg23.unread xs3) (hd := True) (fun _ s d l h8 => by rw [Memref.IsWhole.read_unread]; exact hhd s d l h8)).tap trivial 7 (by decide) (by decide) _ r l

theorem w5_3_at (A : Args I x5 x6 x7 x8 x9 x10) (l : Fin 128) : arg6.view.readAt (Elt Ideal) (Rect.unit (s := S4x1536) ![3, 640] S1x128.size inb_S4x1536_S1x128_3_640).toLoadRect (harg6.unread x5) (ix2 0 l) = I.cw 3 (640 + l.val) :=
  (load2 arg6.view _ 1 128 3 640 _ 0 l).trans (by rw [Memref.IsWhole.read_unread]; exact A.cw 3 ⟨640 + l.val, by omega⟩)

theorem tap5_3_at (hhd : HeadOk I b j xs3) (hst : StateOk I b j xs4) (r : Fin 256) (l : Fin 128) : (sl.v313 (F := Ideal) c arg23 arg25 harg25 xs5) (ix3 0 r l) = I.pre b (256 * j + (5 + 3 + r.val)) (640 + l.val) :=
  (filled5 (c := c) (harg25 := harg25) hj hpj (hd := False) arg23.view.junk (fun h => h.elim)).tap8 (by decide) _ r l

theorem bias6_at (A : Args I x5 x6 x7 x8 x9 x10) (l : Fin 128) : arg7.view.readAt (Elt Ideal) (Rect.unit (s := S1x1536) ![0, 768] S1x128.size inb_S1x1536_S1x128_0_768).toLoadRect (harg7.unread x6) (ix2 0 l) = I.cb (768 + l.val) :=
  (load2 arg7.view _ 1 128 0 768 _ 0 l).trans (by rw [Memref.IsWhole.read_unread]; exact A.cb ⟨768 + l.val, by omega⟩)

theorem w6_0_at (A : Args I x5 x6 x7 x8 x9 x10) (l : Fin 128) : arg6.view.readAt (Elt Ideal) (Rect.unit (s := S4x1536) ![0, 768] S1x128.size inb_S4x1536_S1x128_0_768).toLoadRect (harg6.unread x5) (ix2 0 l) = I.cw 0 (768 + l.val) :=
  (load2 arg6.view _ 1 128 0 768 _ 0 l).trans (by rw [Memref.IsWhole.read_unread]; exact A.cw 0 ⟨768 + l.val, by omega⟩)

theorem tap6_0_at (hhd : HeadOk I b j xs3) (hst : StateOk I b j xs4) (r : Fin 256) (l : Fin 128) : (sl.v339 (F := Ideal) c arg23 harg23 arg25 harg25 xs3 xs5) (ix3 0 r l) = I.pre b (256 * j + (5 + 0 + r.val)) (768 + l.val) :=
  (filled6 (c := c) (harg25 := harg25) hj hpj (harg23.unread xs3) (hd := True) (fun _ s d l h8 => by rw [Memref.IsWhole.read_unread]; exact hhd s d l h8)).tap trivial 5 (by decide) (by decide) _ r l

theorem w6_1_at (A : Args I x5 x6 x7 x8 x9 x10) (l : Fin 128) : arg6.view.readAt (Elt Ideal) (Rect.unit (s := S4x1536) ![1, 768] S1x128.size inb_S4x1536_S1x128_1_768).toLoadRect (harg6.unread x5) (ix2 0 l) = I.cw 1 (768 + l.val) :=
  (load2 arg6.view _ 1 128 1 768 _ 0 l).trans (by rw [Memref.IsWhole.read_unread]; exact A.cw 1 ⟨768 + l.val, by omega⟩)

theorem tap6_1_at (hhd : HeadOk I b j xs3) (hst : StateOk I b j xs4) (r : Fin 256) (l : Fin 128) : (sl.v347 (F := Ideal) c arg23 harg23 arg25 harg25 xs3 xs5) (ix3 0 r l) = I.pre b (256 * j + (5 + 1 + r.val)) (768 + l.val) :=
  (filled6 (c := c) (harg25 := harg25) hj hpj (harg23.unread xs3) (hd := True) (fun _ s d l h8 => by rw [Memref.IsWhole.read_unread]; exact hhd s d l h8)).tap trivial 6 (by decide) (by decide) _ r l

theorem w6_2_at (A : Args I x5 x6 x7 x8 x9 x10) (l : Fin 128) : arg6.view.readAt (Elt Ideal) (Rect.unit (s := S4x1536) ![2, 768] S1x128.size inb_S4x1536_S1x128_2_768).toLoadRect (harg6.unread x5) (ix2 0 l) = I.cw 2 (768 + l.val) :=
  (load2 arg6.view _ 1 128 2 768 _ 0 l).trans (by rw [Memref.IsWhole.read_unread]; exact A.cw 2 ⟨768 + l.val, by omega⟩)

theorem tap6_2_at (hhd : HeadOk I b j xs3) (hst : StateOk I b j xs4) (r : Fin 256) (l : Fin 128) : (sl.v354 (F := Ideal) c arg23 harg23 arg25 harg25 xs3 xs5) (ix3 0 r l) = I.pre b (256 * j + (5 + 2 + r.val)) (768 + l.val) :=
  (filled6 (c := c) (harg25 := harg25) hj hpj (harg23.unread xs3) (hd := True) (fun _ s d l h8 => by rw [Memref.IsWhole.read_unread]; exact hhd s d l h8)).tap trivial 7 (by decide) (by decide) _ r l

theorem w6_3_at (A : Args I x5 x6 x7 x8 x9 x10) (l : Fin 128) : arg6.view.readAt (Elt Ideal) (Rect.unit (s := S4x1536) ![3, 768] S1x128.size inb_S4x1536_S1x128_3_768).toLoadRect (harg6.unread x5) (ix2 0 l) = I.cw 3 (768 + l.val) :=
  (load2 arg6.view _ 1 128 3 768 _ 0 l).trans (by rw [Memref.IsWhole.read_unread]; exact A.cw 3 ⟨768 + l.val, by omega⟩)

theorem tap6_3_at (hhd : HeadOk I b j xs3) (hst : StateOk I b j xs4) (r : Fin 256) (l : Fin 128) : (sl.v361 (F := Ideal) c arg23 arg25 harg25 xs5) (ix3 0 r l) = I.pre b (256 * j + (5 + 3 + r.val)) (768 + l.val) :=
  (filled6 (c := c) (harg25 := harg25) hj hpj (hd := False) arg23.view.junk (fun h => h.elim)).tap8 (by decide) _ r l

theorem bias7_at (A : Args I x5 x6 x7 x8 x9 x10) (l : Fin 128) : arg7.view.readAt (Elt Ideal) (Rect.unit (s := S1x1536) ![0, 896] S1x128.size inb_S1x1536_S1x128_0_896).toLoadRect (harg7.unread x6) (ix2 0 l) = I.cb (896 + l.val) :=
  (load2 arg7.view _ 1 128 0 896 _ 0 l).trans (by rw [Memref.IsWhole.read_unread]; exact A.cb ⟨896 + l.val, by omega⟩)

theorem w7_0_at (A : Args I x5 x6 x7 x8 x9 x10) (l : Fin 128) : arg6.view.readAt (Elt Ideal) (Rect.unit (s := S4x1536) ![0, 896] S1x128.size inb_S4x1536_S1x128_0_896).toLoadRect (harg6.unread x5) (ix2 0 l) = I.cw 0 (896 + l.val) :=
  (load2 arg6.view _ 1 128 0 896 _ 0 l).trans (by rw [Memref.IsWhole.read_unread]; exact A.cw 0 ⟨896 + l.val, by omega⟩)

theorem tap7_0_at (hhd : HeadOk I b j xs3) (hst : StateOk I b j xs4) (r : Fin 256) (l : Fin 128) : (sl.v387 (F := Ideal) c arg23 harg23 arg25 harg25 xs3 xs5) (ix3 0 r l) = I.pre b (256 * j + (5 + 0 + r.val)) (896 + l.val) :=
  (filled7 (c := c) (harg25 := harg25) hj hpj (harg23.unread xs3) (hd := True) (fun _ s d l h8 => by rw [Memref.IsWhole.read_unread]; exact hhd s d l h8)).tap trivial 5 (by decide) (by decide) _ r l

theorem w7_1_at (A : Args I x5 x6 x7 x8 x9 x10) (l : Fin 128) : arg6.view.readAt (Elt Ideal) (Rect.unit (s := S4x1536) ![1, 896] S1x128.size inb_S4x1536_S1x128_1_896).toLoadRect (harg6.unread x5) (ix2 0 l) = I.cw 1 (896 + l.val) :=
  (load2 arg6.view _ 1 128 1 896 _ 0 l).trans (by rw [Memref.IsWhole.read_unread]; exact A.cw 1 ⟨896 + l.val, by omega⟩)

theorem tap7_1_at (hhd : HeadOk I b j xs3) (hst : StateOk I b j xs4) (r : Fin 256) (l : Fin 128) : (sl.v395 (F := Ideal) c arg23 harg23 arg25 harg25 xs3 xs5) (ix3 0 r l) = I.pre b (256 * j + (5 + 1 + r.val)) (896 + l.val) :=
  (filled7 (c := c) (harg25 := harg25) hj hpj (harg23.unread xs3) (hd := True) (fun _ s d l h8 => by rw [Memref.IsWhole.read_unread]; exact hhd s d l h8)).tap trivial 6 (by decide) (by decide) _ r l

theorem w7_2_at (A : Args I x5 x6 x7 x8 x9 x10) (l : Fin 128) : arg6.view.readAt (Elt Ideal) (Rect.unit (s := S4x1536) ![2, 896] S1x128.size inb_S4x1536_S1x128_2_896).toLoadRect (harg6.unread x5) (ix2 0 l) = I.cw 2 (896 + l.val) :=
  (load2 arg6.view _ 1 128 2 896 _ 0 l).trans (by rw [Memref.IsWhole.read_unread]; exact A.cw 2 ⟨896 + l.val, by omega⟩)

theorem tap7_2_at (hhd : HeadOk I b j xs3) (hst : StateOk I b j xs4) (r : Fin 256) (l : Fin 128) : (sl.v402 (F := Ideal) c arg23 harg23 arg25 harg25 xs3 xs5) (ix3 0 r l) = I.pre b (256 * j + (5 + 2 + r.val)) (896 + l.val) :=
  (filled7 (c := c) (harg25 := harg25) hj hpj (harg23.unread xs3) (hd := True) (fun _ s d l h8 => by rw [Memref.IsWhole.read_unread]; exact hhd s d l h8)).tap trivial 7 (by decide) (by decide) _ r l

theorem w7_3_at (A : Args I x5 x6 x7 x8 x9 x10) (l : Fin 128) : arg6.view.readAt (Elt Ideal) (Rect.unit (s := S4x1536) ![3, 896] S1x128.size inb_S4x1536_S1x128_3_896).toLoadRect (harg6.unread x5) (ix2 0 l) = I.cw 3 (896 + l.val) :=
  (load2 arg6.view _ 1 128 3 896 _ 0 l).trans (by rw [Memref.IsWhole.read_unread]; exact A.cw 3 ⟨896 + l.val, by omega⟩)

theorem tap7_3_at (hhd : HeadOk I b j xs3) (hst : StateOk I b j xs4) (r : Fin 256) (l : Fin 128) : (sl.v409 (F := Ideal) c arg23 arg25 harg25 xs5) (ix3 0 r l) = I.pre b (256 * j + (5 + 3 + r.val)) (896 + l.val) :=
  (filled7 (c := c) (harg25 := harg25) hj hpj (hd := False) arg23.view.junk (fun h => h.elim)).tap8 (by decide) _ r l

theorem bias8_at (A : Args I x5 x6 x7 x8 x9 x10) (l : Fin 128) : arg7.view.readAt (Elt Ideal) (Rect.unit (s := S1x1536) ![0, 1024] S1x128.size inb_S1x1536_S1x128_0_1024).toLoadRect (harg7.unread x6) (ix2 0 l) = I.cb (1024 + l.val) :=
  (load2 arg7.view _ 1 128 0 1024 _ 0 l).trans (by rw [Memref.IsWhole.read_unread]; exact A.cb ⟨1024 + l.val, by omega⟩)

theorem w8_0_at (A : Args I x5 x6 x7 x8 x9 x10) (l : Fin 128) : arg6.view.readAt (Elt Ideal) (Rect.unit (s := S4x1536) ![0, 1024] S1x128.size inb_S4x1536_S1x128_0_1024).toLoadRect (harg6.unread x5) (ix2 0 l) = I.cw 0 (1024 + l.val) :=
  (load2 arg6.view _ 1 128 0 1024 _ 0 l).trans (by rw [Memref.IsWhole.read_unread]; exact A.cw 0 ⟨1024 + l.val, by omega⟩)

theorem tap8_0_at (hhd : HeadOk I b j xs3) (hst : StateOk I b j xs4) (r : Fin 256) (l : Fin 128) : (sl.v435 (F := Ideal) c arg23 harg23 arg25 harg25 xs3 xs5) (ix3 0 r l) = I.pre b (256 * j + (5 + 0 + r.val)) (1024 + l.val) :=
  (filled8 (c := c) (harg25 := harg25) hj hpj (harg23.unread xs3) (hd := True) (fun _ s d l h8 => by rw [Memref.IsWhole.read_unread]; exact hhd s d l h8)).tap trivial 5 (by decide) (by decide) _ r l

theorem w8_1_at (A : Args I x5 x6 x7 x8 x9 x10) (l : Fin 128) : arg6.view.readAt (Elt Ideal) (Rect.unit (s := S4x1536) ![1, 1024] S1x128.size inb_S4x1536_S1x128_1_1024).toLoadRect (harg6.unread x5) (ix2 0 l) = I.cw 1 (1024 + l.val) :=
  (load2 arg6.view _ 1 128 1 1024 _ 0 l).trans (by rw [Memref.IsWhole.read_unread]; exact A.cw 1 ⟨1024 + l.val, by omega⟩)

theorem tap8_1_at (hhd : HeadOk I b j xs3) (hst : StateOk I b j xs4) (r : Fin 256) (l : Fin 128) : (sl.v443 (F := Ideal) c arg23 harg23 arg25 harg25 xs3 xs5) (ix3 0 r l) = I.pre b (256 * j + (5 + 1 + r.val)) (1024 + l.val) :=
  (filled8 (c := c) (harg25 := harg25) hj hpj (harg23.unread xs3) (hd := True) (fun _ s d l h8 => by rw [Memref.IsWhole.read_unread]; exact hhd s d l h8)).tap trivial 6 (by decide) (by decide) _ r l

theorem w8_2_at (A : Args I x5 x6 x7 x8 x9 x10) (l : Fin 128) : arg6.view.readAt (Elt Ideal) (Rect.unit (s := S4x1536) ![2, 1024] S1x128.size inb_S4x1536_S1x128_2_1024).toLoadRect (harg6.unread x5) (ix2 0 l) = I.cw 2 (1024 + l.val) :=
  (load2 arg6.view _ 1 128 2 1024 _ 0 l).trans (by rw [Memref.IsWhole.read_unread]; exact A.cw 2 ⟨1024 + l.val, by omega⟩)

theorem tap8_2_at (hhd : HeadOk I b j xs3) (hst : StateOk I b j xs4) (r : Fin 256) (l : Fin 128) : (sl.v450 (F := Ideal) c arg23 harg23 arg25 harg25 xs3 xs5) (ix3 0 r l) = I.pre b (256 * j + (5 + 2 + r.val)) (1024 + l.val) :=
  (filled8 (c := c) (harg25 := harg25) hj hpj (harg23.unread xs3) (hd := True) (fun _ s d l h8 => by rw [Memref.IsWhole.read_unread]; exact hhd s d l h8)).tap trivial 7 (by decide) (by decide) _ r l

theorem w8_3_at (A : Args I x5 x6 x7 x8 x9 x10) (l : Fin 128) : arg6.view.readAt (Elt Ideal) (Rect.unit (s := S4x1536) ![3, 1024] S1x128.size inb_S4x1536_S1x128_3_1024).toLoadRect (harg6.unread x5) (ix2 0 l) = I.cw 3 (1024 + l.val) :=
  (load2 arg6.view _ 1 128 3 1024 _ 0 l).trans (by rw [Memref.IsWhole.read_unread]; exact A.cw 3 ⟨1024 + l.val, by omega⟩)

theorem tap8_3_at (hhd : HeadOk I b j xs3) (hst : StateOk I b j xs4) (r : Fin 256) (l : Fin 128) : (sl.v457 (F := Ideal) c arg23 arg25 harg25 xs5) (ix3 0 r l) = I.pre b (256 * j + (5 + 3 + r.val)) (1024 + l.val) :=
  (filled8 (c := c) (harg25 := harg25) hj hpj (hd := False) arg23.view.junk (fun h => h.elim)).tap8 (by decide) _ r l

theorem bias9_at (A : Args I x5 x6 x7 x8 x9 x10) (l : Fin 128) : arg7.view.readAt (Elt Ideal) (Rect.unit (s := S1x1536) ![0, 1152] S1x128.size inb_S1x1536_S1x128_0_1152).toLoadRect (harg7.unread x6) (ix2 0 l) = I.cb (1152 + l.val) :=
  (load2 arg7.view _ 1 128 0 1152 _ 0 l).trans (by rw [Memref.IsWhole.read_unread]; exact A.cb ⟨1152 + l.val, by omega⟩)

theorem w9_0_at (A : Args I x5 x6 x7 x8 x9 x10) (l : Fin 128) : arg6.view.readAt (Elt Ideal) (Rect.unit (s := S4x1536) ![0, 1152] S1x128.size inb_S4x1536_S1x128_0_1152).toLoadRect (harg6.unread x5) (ix2 0 l) = I.cw 0 (1152 + l.val) :=
  (load2 arg6.view _ 1 128 0 1152 _ 0 l).trans (by rw [Memref.IsWhole.read_unread]; exact A.cw 0 ⟨1152 + l.val, by omega⟩)

theorem tap9_0_at (hhd : HeadOk I b j xs3) (hst : StateOk I b j xs4) (r : Fin 256) (l : Fin 128) : (sl.v483 (F := Ideal) c arg23 harg23 arg25 harg25 xs3 xs5) (ix3 0 r l) = I.pre b (256 * j + (5 + 0 + r.val)) (1152 + l.val) :=
  (filled9 (c := c) (harg25 := harg25) hj hpj (harg23.unread xs3) (hd := True) (fun _ s d l h8 => by rw [Memref.IsWhole.read_unread]; exact hhd s d l h8)).tap trivial 5 (by decide) (by decide) _ r l

theorem w9_1_at (A : Args I x5 x6 x7 x8 x9 x10) (l : Fin 128) : arg6.view.readAt (Elt Ideal) (Rect.unit (s := S4x1536) ![1, 1152] S1x128.size inb_S4x1536_S1x128_1_1152).toLoadRect (harg6.unread x5) (ix2 0 l) = I.cw 1 (1152 + l.val) :=
  (load2 arg6.view _ 1 128 1 1152 _ 0 l).trans (by rw [Memref.IsWhole.read_unread]; exact A.cw 1 ⟨1152 + l.val, by omega⟩)

theorem tap9_1_at (hhd : HeadOk I b j xs3) (hst : StateOk I b j xs4) (r : Fin 256) (l : Fin 128) : (sl.v491 (F := Ideal) c arg23 harg23 arg25 harg25 xs3 xs5) (ix3 0 r l) = I.pre b (256 * j + (5 + 1 + r.val)) (1152 + l.val) :=
  (filled9 (c := c) (harg25 := harg25) hj hpj (harg23.unread xs3) (hd := True) (fun _ s d l h8 => by rw [Memref.IsWhole.read_unread]; exact hhd s d l h8)).tap trivial 6 (by decide) (by decide) _ r l

theorem w9_2_at (A : Args I x5 x6 x7 x8 x9 x10) (l : Fin 128) : arg6.view.readAt (Elt Ideal) (Rect.unit (s := S4x1536) ![2, 1152] S1x128.size inb_S4x1536_S1x128_2_1152).toLoadRect (harg6.unread x5) (ix2 0 l) = I.cw 2 (1152 + l.val) :=
  (load2 arg6.view _ 1 128 2 1152 _ 0 l).trans (by rw [Memref.IsWhole.read_unread]; exact A.cw 2 ⟨1152 + l.val, by omega⟩)

theorem tap9_2_at (hhd : HeadOk I b j xs3) (hst : StateOk I b j xs4) (r : Fin 256) (l : Fin 128) : (sl.v498 (F := Ideal) c arg23 harg23 arg25 harg25 xs3 xs5) (ix3 0 r l) = I.pre b (256 * j + (5 + 2 + r.val)) (1152 + l.val) :=
  (filled9 (c := c) (harg25 := harg25) hj hpj (harg23.unread xs3) (hd := True) (fun _ s d l h8 => by rw [Memref.IsWhole.read_unread]; exact hhd s d l h8)).tap trivial 7 (by decide) (by decide) _ r l

theorem w9_3_at (A : Args I x5 x6 x7 x8 x9 x10) (l : Fin 128) : arg6.view.readAt (Elt Ideal) (Rect.unit (s := S4x1536) ![3, 1152] S1x128.size inb_S4x1536_S1x128_3_1152).toLoadRect (harg6.unread x5) (ix2 0 l) = I.cw 3 (1152 + l.val) :=
  (load2 arg6.view _ 1 128 3 1152 _ 0 l).trans (by rw [Memref.IsWhole.read_unread]; exact A.cw 3 ⟨1152 + l.val, by omega⟩)

theorem tap9_3_at (hhd : HeadOk I b j xs3) (hst : StateOk I b j xs4) (r : Fin 256) (l : Fin 128) : (sl.v505 (F := Ideal) c arg23 arg25 harg25 xs5) (ix3 0 r l) = I.pre b (256 * j + (5 + 3 + r.val)) (1152 + l.val) :=
  (filled9 (c := c) (harg25 := harg25) hj hpj (hd := False) arg23.view.junk (fun h => h.elim)).tap8 (by decide) _ r l

theorem bias10_at (A : Args I x5 x6 x7 x8 x9 x10) (l : Fin 128) : arg7.view.readAt (Elt Ideal) (Rect.unit (s := S1x1536) ![0, 1280] S1x128.size inb_S1x1536_S1x128_0_1280).toLoadRect (harg7.unread x6) (ix2 0 l) = I.cb (1280 + l.val) :=
  (load2 arg7.view _ 1 128 0 1280 _ 0 l).trans (by rw [Memref.IsWhole.read_unread]; exact A.cb ⟨1280 + l.val, by omega⟩)

theorem w10_0_at (A : Args I x5 x6 x7 x8 x9 x10) (l : Fin 128) : arg6.view.readAt (Elt Ideal) (Rect.unit (s := S4x1536) ![0, 1280] S1x128.size inb_S4x1536_S1x128_0_1280).toLoadRect (harg6.unread x5) (ix2 0 l) = I.cw 0 (1280 + l.val) :=
  (load2 arg6.view _ 1 128 0 1280 _ 0 l).trans (by rw [Memref.IsWhole.read_unread]; exact A.cw 0 ⟨1280 + l.val, by omega⟩)

theorem tap10_0_at (hhd : HeadOk I b j xs3) (hst : StateOk I b j xs4) (r : Fin 256) (l : Fin 128) : (sl.v531 (F := Ideal) c arg23 harg23 arg25 harg25 xs3 xs5) (ix3 0 r l) = I.pre b (256 * j + (5 + 0 + r.val)) (1280 + l.val) :=
  (filled10 (c := c) (harg25 := harg25) hj hpj (harg23.unread xs3) (hd := True) (fun _ s d l h8 => by rw [Memref.IsWhole.read_unread]; exact hhd s d l h8)).tap trivial 5 (by decide) (by decide) _ r l

theorem w10_1_at (A : Args I x5 x6 x7 x8 x9 x10) (l : Fin 128) : arg6.view.readAt (Elt Ideal) (Rect.unit (s := S4x1536) ![1, 1280] S1x128.size inb_S4x1536_S1x128_1_1280).toLoadRect (harg6.unread x5) (ix2 0 l) = I.cw 1 (1280 + l.val) :=
  (load2 arg6.view _ 1 128 1 1280 _ 0 l).trans (by rw [Memref.IsWhole.read_unread]; exact A.cw 1 ⟨1280 + l.val, by omega⟩)

theorem tap10_1_at (hhd : HeadOk I b j xs3) (hst : StateOk I b j xs4) (r : Fin 256) (l : Fin 128) : (sl.v539 (F := Ideal) c arg23 harg23 arg25 harg25 xs3 xs5) (ix3 0 r l) = I.pre b (256 * j + (5 + 1 + r.val)) (1280 + l.val) :=
  (filled10 (c := c) (harg25 := harg25) hj hpj (harg23.unread xs3) (hd := True) (fun _ s d l h8 => by rw [Memref.IsWhole.read_unread]; exact hhd s d l h8)).tap trivial 6 (by decide) (by decide) _ r l

theorem w10_2_at (A : Args I x5 x6 x7 x8 x9 x10) (l : Fin 128) : arg6.view.readAt (Elt Ideal) (Rect.unit (s := S4x1536) ![2, 1280] S1x128.size inb_S4x1536_S1x128_2_1280).toLoadRect (harg6.unread x5) (ix2 0 l) = I.cw 2 (1280 + l.val) :=
  (load2 arg6.view _ 1 128 2 1280 _ 0 l).trans (by rw [Memref.IsWhole.read_unread]; exact A.cw 2 ⟨1280 + l.val, by omega⟩)

theorem tap10_2_at (hhd : HeadOk I b j xs3) (hst : StateOk I b j xs4) (r : Fin 256) (l : Fin 128) : (sl.v546 (F := Ideal) c arg23 harg23 arg25 harg25 xs3 xs5) (ix3 0 r l) = I.pre b (256 * j + (5 + 2 + r.val)) (1280 + l.val) :=
  (filled10 (c := c) (harg25 := harg25) hj hpj (harg23.unread xs3) (hd := True) (fun _ s d l h8 => by rw [Memref.IsWhole.read_unread]; exact hhd s d l h8)).tap trivial 7 (by decide) (by decide) _ r l

theorem w10_3_at (A : Args I x5 x6 x7 x8 x9 x10) (l : Fin 128) : arg6.view.readAt (Elt Ideal) (Rect.unit (s := S4x1536) ![3, 1280] S1x128.size inb_S4x1536_S1x128_3_1280).toLoadRect (harg6.unread x5) (ix2 0 l) = I.cw 3 (1280 + l.val) :=
  (load2 arg6.view _ 1 128 3 1280 _ 0 l).trans (by rw [Memref.IsWhole.read_unread]; exact A.cw 3 ⟨1280 + l.val, by omega⟩)

theorem tap10_3_at (hhd : HeadOk I b j xs3) (hst : StateOk I b j xs4) (r : Fin 256) (l : Fin 128) : (sl.v553 (F := Ideal) c arg23 arg25 harg25 xs5) (ix3 0 r l) = I.pre b (256 * j + (5 + 3 + r.val)) (1280 + l.val) :=
  (filled10 (c := c) (harg25 := harg25) hj hpj (hd := False) arg23.view.junk (fun h => h.elim)).tap8 (by decide) _ r l

theorem bias11_at (A : Args I x5 x6 x7 x8 x9 x10) (l : Fin 128) : arg7.view.readAt (Elt Ideal) (Rect.unit (s := S1x1536) ![0, 1408] S1x128.size inb_S1x1536_S1x128_0_1408).toLoadRect (harg7.unread x6) (ix2 0 l) = I.cb (1408 + l.val) :=
  (load2 arg7.view _ 1 128 0 1408 _ 0 l).trans (by rw [Memref.IsWhole.read_unread]; exact A.cb ⟨1408 + l.val, by omega⟩)

theorem w11_0_at (A : Args I x5 x6 x7 x8 x9 x10) (l : Fin 128) : arg6.view.readAt (Elt Ideal) (Rect.unit (s := S4x1536) ![0, 1408] S1x128.size inb_S4x1536_S1x128_0_1408).toLoadRect (harg6.unread x5) (ix2 0 l) = I.cw 0 (1408 + l.val) :=
  (load2 arg6.view _ 1 128 0 1408 _ 0 l).trans (by rw [Memref.IsWhole.read_unread]; exact A.cw 0 ⟨1408 + l.val, by omega⟩)

theorem tap11_0_at (hhd : HeadOk I b j xs3) (hst : StateOk I b j xs4) (r : Fin 256) (l : Fin 128) : (sl.v579 (F := Ideal) c arg23 harg23 arg25 harg25 xs3 xs5) (ix3 0 r l) = I.pre b (256 * j + (5 + 0 + r.val)) (1408 + l.val) :=
  (filled11 (c := c) (harg25 := harg25) hj hpj (harg23.unread xs3) (hd := True) (fun _ s d l h8 => by rw [Memref.IsWhole.read_unread]; exact hhd s d l h8)).tap trivial 5 (by decide) (by decide) _ r l

theorem w11_1_at (A : Args I x5 x6 x7 x8 x9 x10) (l : Fin 128) : arg6.view.readAt (Elt Ideal) (Rect.unit (s := S4x1536) ![1, 1408] S1x128.size inb_S4x1536_S1x128_1_1408).toLoadRect (harg6.unread x5) (ix2 0 l) = I.cw 1 (1408 + l.val) :=
  (load2 arg6.view _ 1 128 1 1408 _ 0 l).trans (by rw [Memref.IsWhole.read_unread]; exact A.cw 1 ⟨1408 + l.val, by omega⟩)

theorem tap11_1_at (hhd : HeadOk I b j xs3) (hst : StateOk I b j xs4) (r : Fin 256) (l : Fin 128) : (sl.v587 (F := Ideal) c arg23 harg23 arg25 harg25 xs3 xs5) (ix3 0 r l) = I.pre b (256 * j + (5 + 1 + r.val)) (1408 + l.val) :=
  (filled11 (c := c) (harg25 := harg25) hj hpj (harg23.unread xs3) (hd := True) (fun _ s d l h8 => by rw [Memref.IsWhole.read_unread]; exact hhd s d l h8)).tap trivial 6 (by decide) (by decide) _ r l

theorem w11_2_at (A : Args I x5 x6 x7 x8 x9 x10) (l : Fin 128) : arg6.view.readAt (Elt Ideal) (Rect.unit (s := S4x1536) ![2, 1408] S1x128.size inb_S4x1536_S1x128_2_1408).toLoadRect (harg6.unread x5) (ix2 0 l) = I.cw 2 (1408 + l.val) :=
  (load2 arg6.view _ 1 128 2 1408 _ 0 l).trans (by rw [Memref.IsWhole.read_unread]; exact A.cw 2 ⟨1408 + l.val, by omega⟩)

theorem tap11_2_at (hhd : HeadOk I b j xs3) (hst : StateOk I b j xs4) (r : Fin 256) (l : Fin 128) : (sl.v594 (F := Ideal) c arg23 harg23 arg25 harg25 xs3 xs5) (ix3 0 r l) = I.pre b (256 * j + (5 + 2 + r.val)) (1408 + l.val) :=
  (filled11 (c := c) (harg25 := harg25) hj hpj (harg23.unread xs3) (hd := True) (fun _ s d l h8 => by rw [Memref.IsWhole.read_unread]; exact hhd s d l h8)).tap trivial 7 (by decide) (by decide) _ r l

theorem w11_3_at (A : Args I x5 x6 x7 x8 x9 x10) (l : Fin 128) : arg6.view.readAt (Elt Ideal) (Rect.unit (s := S4x1536) ![3, 1408] S1x128.size inb_S4x1536_S1x128_3_1408).toLoadRect (harg6.unread x5) (ix2 0 l) = I.cw 3 (1408 + l.val) :=
  (load2 arg6.view _ 1 128 3 1408 _ 0 l).trans (by rw [Memref.IsWhole.read_unread]; exact A.cw 3 ⟨1408 + l.val, by omega⟩)

theorem tap11_3_at (hhd : HeadOk I b j xs3) (hst : StateOk I b j xs4) (r : Fin 256) (l : Fin 128) : (sl.v601 (F := Ideal) c arg23 arg25 harg25 xs5) (ix3 0 r l) = I.pre b (256 * j + (5 + 3 + r.val)) (1408 + l.val) :=
  (filled11 (c := c) (harg25 := harg25) hj hpj (hd := False) arg23.view.junk (fun h => h.elim)).tap8 (by decide) _ r l

theorem dtb_at (A : Args I x5 x6 x7 x8 x9 x10) (h : Fin 128) (hh : h.val < 16) : arg8.view.readAt (Elt Ideal) (Rect.unit (s := S1x128) ![0, 0] S1x128.size inb_S1x128_S1x128_0_0).toLoadRect (harg8.unread x7) (ix2 0 h) = I.dtb h.val := (load2 arg8.view _ 1 128 0 0 _ 0 h).trans (by rw [Memref.IsWhole.read_unread]; exact (congrArg (fun q => x7 (ix2 0 q)) (Fin.ext (Nat.zero_add h.val))).trans (A.dtb h hh))

theorem al_at (A : Args I x5 x6 x7 x8 x9 x10) (h : Fin 128) (hh : h.val < 16) : arg9.view.readAt (Elt Ideal) (Rect.unit (s := S1x128) ![0, 0] S1x128.size inb_S1x128_S1x128_0_0).toLoadRect (harg9.unread x8) (ix2 0 h) = I.al h.val := (load2 arg9.view _ 1 128 0 0 _ 0 h).trans (by rw [Memref.IsWhole.read_unread]; exact (congrArg (fun q => x8 (ix2 0 q)) (Fin.ext (Nat.zero_add h.val))).trans (A.al h hh))

theorem ds0_at (A : Args I x5 x6 x7 x8 x9 x10) (k : Fin 512) : arg10.view.readAt (Elt Ideal) (Rect.unit (s := S1x1024) ![0, 0] S1x512.size inb_S1x1024_S1x512_0_0).toLoadRect (harg10.unread x9) (ix2 0 k) = I.ds (k.val / 64) := (load2 arg10.view _ 1 512 0 0 _ 0 k).trans (by rw [Memref.IsWhole.read_unread]; exact (congrArg (fun q => x9 (ix2 0 q)) (Fin.ext (Nat.zero_add k.val))).trans (A.ds ⟨k.val, by omega⟩))

theorem ds1_at (A : Args I x5 x6 x7 x8 x9 x10) (k : Fin 512) : arg10.view.readAt (Elt Ideal) (Rect.unit (s := S1x1024) ![0, 512] S1x512.size inb_S1x1024_S1x512_0_512).toLoadRect (harg10.unread x9) (ix2 0 k) = I.ds ((512 + k.val) / 64) := (load2 arg10.view _ 1 512 0 512 _ 0 k).trans (by rw [Memref.IsWhole.read_unread]; exact A.ds ⟨512 + k.val, by omega⟩)

theorem nw0_at (A : Args I x5 x6 x7 x8 x9 x10) (k : Fin 512) : arg11.view.readAt (Elt Ideal) (Rect.unit (s := S1x1024) ![0, 0] S1x512.size inb_S1x1024_S1x512_0_0).toLoadRect (harg11.unread x10) (ix2 0 k) = I.nw k.val := (load2 arg11.view _ 1 512 0 0 _ 0 k).trans (by rw [Memref.IsWhole.read_unread]; exact (congrArg (fun q => x10 (ix2 0 q)) (Fin.ext (Nat.zero_add k.val))).trans (A.nw ⟨k.val, by omega⟩))

theorem nw1_at (A : Args I x5 x6 x7 x8 x9 x10) (k : Fin 512) : arg11.view.readAt (Elt Ideal) (Rect.unit (s := S1x1024) ![0, 512] S1x512.size inb_S1x1024_S1x512_0_512).toLoadRect (harg11.unread x10) (ix2 0 k) = I.nw (512 + k.val) := (load2 arg11.view _ 1 512 0 512 _ 0 k).trans (by rw [Memref.IsWhole.read_unread]; exact A.nw ⟨512 + k.val, by omega⟩)

theorem good (A : Args I x5 x6 x7 x8 x9 x10) (hhd : HeadOk I b j xs3) (hst : StateOk I b j xs4) : Good (loads c arg6 harg6 arg7 harg7 arg8 harg8 arg9 harg9 arg10 harg10 arg11 harg11 arg23 harg23 arg24 harg24 arg25 harg25 x5 x6 x7 x8 x9 x10 xs3 xs4 xs5) I b j where
  pj := pj_at hj hpj
  bias := of12_all (p := fun (s : Fin 12) (v : Vec Ideal S1x128 .f32) => ∀ l : Fin 128, v (ix2 0 l) = I.cb (128 * s.val + l.val)) (bias0_at hj hpj A) (bias1_at hj hpj A) (bias2_at hj hpj A) (bias3_at hj hpj A) (bias4_at hj hpj A) (bias5_at hj hpj A) (bias6_at hj hpj A) (bias7_at hj hpj A) (bias8_at hj hpj A) (bias9_at hj hpj A) (bias10_at hj hpj A) (bias11_at hj hpj A)
  w := of12_all (p := fun (s : Fin 12) (v : Fin 4 → Vec Ideal S1x128 .f32) => ∀ (k : Fin 4) (l : Fin 128), v k (ix2 0 l) = I.cw k.val (128 * s.val + l.val)) (of4_all (p := fun (k : Fin 4) (v : Vec Ideal S1x128 .f32) => ∀ l : Fin 128, v (ix2 0 l) = I.cw k.val (128 * (0 : Fin 12).val + l.val)) (w0_0_at hj hpj A) (w0_1_at hj hpj A) (w0_2_at hj hpj A) (w0_3_at hj hpj A))
    (of4_all (p := fun (k : Fin 4) (v : Vec Ideal S1x128 .f32) => ∀ l : Fin 128, v (ix2 0 l) = I.cw k.val (128 * (1 : Fin 12).val + l.val)) (w1_0_at hj hpj A) (w1_1_at hj hpj A) (w1_2_at hj hpj A) (w1_3_at hj hpj A))
    (of4_all (p := fun (k : Fin 4) (v : Vec Ideal S1x128 .f32) => ∀ l : Fin 128, v (ix2 0 l) = I.cw k.val (128 * (2 : Fin 12).val + l.val)) (w2_0_at hj hpj A) (w2_1_at hj hpj A) (w2_2_at hj hpj A) (w2_3_at hj hpj A))
    (of4_all (p := fun (k : Fin 4) (v : Vec Ideal S1x128 .f32) => ∀ l : Fin 128, v (ix2 0 l) = I.cw k.val (128 * (3 : Fin 12).val + l.val)) (w3_0_at hj hpj A) (w3_1_at hj hpj A) (w3_2_at hj hpj A) (w3_3_at hj hpj A))
    (of4_all (p := fun (k : Fin 4) (v : Vec Ideal S1x128 .f32) => ∀ l : Fin 128, v (ix2 0 l) = I.cw k.val (128 * (4 : Fin 12).val + l.val)) (w4_0_at hj hpj A) (w4_1_at hj hpj A) (w4_2_at hj hpj A) (w4_3_at hj hpj A))
    (of4_all (p := fun (k : Fin 4) (v : Vec Ideal S1x128 .f32) => ∀ l : Fin 128, v (ix2 0 l) = I.cw k.val (128 * (5 : Fin 12).val + l.val)) (w5_0_at hj hpj A) (w5_1_at hj hpj A) (w5_2_at hj hpj A) (w5_3_at hj hpj A))
    (of4_all (p := fun (k : Fin 4) (v : Vec Ideal S1x128 .f32) => ∀ l : Fin 128, v (ix2 0 l) = I.cw k.val (128 * (6 : Fin 12).val + l.val)) (w6_0_at hj hpj A) (w6_1_at hj hpj A) (w6_2_at hj hpj A) (w6_3_at hj hpj A))
    (of4_all (p := fun (k : Fin 4) (v : Vec Ideal S1x128 .f32) => ∀ l : Fin 128, v (ix2 0 l) = I.cw k.val (128 * (7 : Fin 12).val + l.val)) (w7_0_at hj hpj A) (w7_1_at hj hpj A) (w7_2_at hj hpj A) (w7_3_at hj hpj A))
    (of4_all (p := fun (k : Fin 4) (v : Vec Ideal S1x128 .f32) => ∀ l : Fin 128, v (ix2 0 l) = I.cw k.val (128 * (8 : Fin 12).val + l.val)) (w8_0_at hj hpj A) (w8_1_at hj hpj A) (w8_2_at hj hpj A) (w8_3_at hj hpj A))
    (of4_all (p := fun (k : Fin 4) (v : Vec Ideal S1x128 .f32) => ∀ l : Fin 128, v (ix2 0 l) = I.cw k.val (128 * (9 : Fin 12).val + l.val)) (w9_0_at hj hpj A) (w9_1_at hj hpj A) (w9_2_at hj hpj A) (w9_3_at hj hpj A))
    (of4_all (p := fun (k : Fin 4) (v : Vec Ideal S1x128 .f32) => ∀ l : Fin 128, v (ix2 0 l) = I.cw k.val (128 * (10 : Fin 12).val + l.val)) (w10_0_at hj hpj A) (w10_1_at hj hpj A) (w10_2_at hj hpj A) (w10_3_at hj hpj A))
    (of4_all (p := fun (k : Fin 4) (v : Vec Ideal S1x128 .f32) => ∀ l : Fin 128, v (ix2 0 l) = I.cw k.val (128 * (11 : Fin 12).val + l.val)) (w11_0_at hj hpj A) (w11_1_at hj hpj A) (w11_2_at hj hpj A) (w11_3_at hj hpj A))
  tap := of12_all (p := fun (s : Fin 12) (v : Fin 4 → Vec Ideal S1x256x128 .f32) => ∀ (k : Fin 4) (r : Fin 256) (l : Fin 128), v k (ix3 0 r l) = I.pre b (256 * j + (5 + k.val + r.val)) (128 * s.val + l.val)) (of4_all (p := fun (k : Fin 4) (v : Vec Ideal S1x256x128 .f32) => ∀ (r : Fin 256) (l : Fin 128), v (ix3 0 r l) = I.pre b (256 * j + (5 + k.val + r.val)) (128 * (0 : Fin 12).val + l.val)) (tap0_0_at hj hpj hhd hst) (tap0_1_at hj hpj hhd hst) (tap0_2_at hj hpj hhd hst) (tap0_3_at hj hpj hhd hst))
    (of4_all (p := fun (k : Fin 4) (v : Vec Ideal S1x256x128 .f32) => ∀ (r : Fin 256) (l : Fin 128), v (ix3 0 r l) = I.pre b (256 * j + (5 + k.val + r.val)) (128 * (1 : Fin 12).val + l.val)) (tap1_0_at hj hpj hhd hst) (tap1_1_at hj hpj hhd hst) (tap1_2_at hj hpj hhd hst) (tap1_3_at hj hpj hhd hst))
    (of4_all (p := fun (k : Fin 4) (v : Vec Ideal S1x256x128 .f32) => ∀ (r : Fin 256) (l : Fin 128), v (ix3 0 r l) = I.pre b (256 * j + (5 + k.val + r.val)) (128 * (2 : Fin 12).val + l.val)) (tap2_0_at hj hpj hhd hst) (tap2_1_at hj hpj hhd hst) (tap2_2_at hj hpj hhd hst) (tap2_3_at hj hpj hhd hst))
    (of4_all (p := fun (k : Fin 4) (v : Vec Ideal S1x256x128 .f32) => ∀ (r : Fin 256) (l : Fin 128), v (ix3 0 r l) = I.pre b (256 * j + (5 + k.val + r.val)) (128 * (3 : Fin 12).val + l.val)) (tap3_0_at hj hpj hhd hst) (tap3_1_at hj hpj hhd hst) (tap3_2_at hj hpj hhd hst) (tap3_3_at hj hpj hhd hst))
    (of4_all (p := fun (k : Fin 4) (v : Vec Ideal S1x256x128 .f32) => ∀ (r : Fin 256) (l : Fin 128), v (ix3 0 r l) = I.pre b (256 * j + (5 + k.val + r.val)) (128 * (4 : Fin 12).val + l.val)) (tap4_0_at hj hpj hhd hst) (tap4_1_at hj hpj hhd hst) (tap4_2_at hj hpj hhd hst) (tap4_3_at hj hpj hhd hst))
    (of4_all (p := fun (k : Fin 4) (v : Vec Ideal S1x256x128 .f32) => ∀ (r : Fin 256) (l : Fin 128), v (ix3 0 r l) = I.pre b (256 * j + (5 + k.val + r.val)) (128 * (5 : Fin 12).val + l.val)) (tap5_0_at hj hpj hhd hst) (tap5_1_at hj hpj hhd hst) (tap5_2_at hj hpj hhd hst) (tap5_3_at hj hpj hhd hst))
    (of4_all (p := fun (k : Fin 4) (v : Vec Ideal S1x256x128 .f32) => ∀ (r : Fin 256) (l : Fin 128), v (ix3 0 r l) = I.pre b (256 * j + (5 + k.val + r.val)) (128 * (6 : Fin 12).val + l.val)) (tap6_0_at hj hpj hhd hst) (tap6_1_at hj hpj hhd hst) (tap6_2_at hj hpj hhd hst) (tap6_3_at hj hpj hhd hst))
    (of4_all (p := fun (k : Fin 4) (v : Vec Ideal S1x256x128 .f32) => ∀ (r : Fin 256) (l : Fin 128), v (ix3 0 r l) = I.pre b (256 * j + (5 + k.val + r.val)) (128 * (7 : Fin 12).val + l.val)) (tap7_0_at hj hpj hhd hst) (tap7_1_at hj hpj hhd hst) (tap7_2_at hj hpj hhd hst) (tap7_3_at hj hpj hhd hst))
    (of4_all (p := fun (k : Fin 4) (v : Vec Ideal S1x256x128 .f32) => ∀ (r : Fin 256) (l : Fin 128), v (ix3 0 r l) = I.pre b (256 * j + (5 + k.val + r.val)) (128 * (8 : Fin 12).val + l.val)) (tap8_0_at hj hpj hhd hst) (tap8_1_at hj hpj hhd hst) (tap8_2_at hj hpj hhd hst) (tap8_3_at hj hpj hhd hst))
    (of4_all (p := fun (k : Fin 4) (v : Vec Ideal S1x256x128 .f32) => ∀ (r : Fin 256) (l : Fin 128), v (ix3 0 r l) = I.pre b (256 * j + (5 + k.val + r.val)) (128 * (9 : Fin 12).val + l.val)) (tap9_0_at hj hpj hhd hst) (tap9_1_at hj hpj hhd hst) (tap9_2_at hj hpj hhd hst) (tap9_3_at hj hpj hhd hst))
    (of4_all (p := fun (k : Fin 4) (v : Vec Ideal S1x256x128 .f32) => ∀ (r : Fin 256) (l : Fin 128), v (ix3 0 r l) = I.pre b (256 * j + (5 + k.val + r.val)) (128 * (10 : Fin 12).val + l.val)) (tap10_0_at hj hpj hhd hst) (tap10_1_at hj hpj hhd hst) (tap10_2_at hj hpj hhd hst) (tap10_3_at hj hpj hhd hst))
    (of4_all (p := fun (k : Fin 4) (v : Vec Ideal S1x256x128 .f32) => ∀ (r : Fin 256) (l : Fin 128), v (ix3 0 r l) = I.pre b (256 * j + (5 + k.val + r.val)) (128 * (11 : Fin 12).val + l.val)) (tap11_0_at hj hpj hhd hst) (tap11_1_at hj hpj hhd hst) (tap11_2_at hj hpj hhd hst) (tap11_3_at hj hpj hhd hst))
  dtb := dtb_at hj hpj A
  al := al_at hj hpj A
  ds0 := ds0_at hj hpj A
  ds1 := ds1_at hj hpj A
  nw0 := nw0_at hj hpj A
  nw1 := nw1_at hj hpj A
  st0 n k := (load3 arg24.view _ 1 128 512 0 0 0 _ 0 n k).trans (by
    rw [Memref.IsWhole.read_unread]
    refine Eq.trans (congrArg xs4 (congrArg₂ (fun p q => ix3 (0 : Fin 2) p q) (Fin.ext (Nat.zero_add n.val)) (Fin.ext (Nat.zero_add k.val)))) ?_
    simpa using hst 0 n k)
  st1 n k := (load3 arg24.view _ 1 128 512 1 0 0 _ 0 n k).trans (by
    rw [Memref.IsWhole.read_unread]
    refine Eq.trans (congrArg xs4 (congrArg₂ (fun p q => ix3 (1 : Fin 2) p q) (Fin.ext (Nat.zero_add n.val)) (Fin.ext (Nat.zero_add k.val)))) ?_
    simpa using hst 1 n k)

end

end Cert.MixerIdeal.Gen.kernelRun0_C

end
-- ==== Proof.SsdEqC.lean ====
module

public import proofs.«01_k».proof.Proof.SsdLoadsC

/-!
# The step as the run leaves it, where it carries on a chunk

What the run stored of the branch is, value by value, the step's term of its loads.
-/

@[expose] public section

set_option maxRecDepth 65536

noncomputable section

namespace Cert.MixerIdeal.Gen.kernelRun0_C

open Cert.MixerIdeal Cert.MixerIdeal.Gen Cert.MixerIdeal.XBuf Cert.Ssd
open Idealize.ShloMosaic Idealize.ShloMosaic.TcCoe

/-- What the step is run on. -/
structure Ctx where
  c : Dev nD
  a6 : Memref sig .tc .vmem S4x1536 .f32
  w6 : a6.IsWhole
  a7 : Memref sig .tc .vmem S1x1536 .f32
  w7 : a7.IsWhole
  a8 : Memref sig .tc .vmem S1x128 .f32
  w8 : a8.IsWhole
  a9 : Memref sig .tc .vmem S1x128 .f32
  w9 : a9.IsWhole
  a10 : Memref sig .tc .vmem S1x1024 .f32
  w10 : a10.IsWhole
  a11 : Memref sig .tc .vmem S1x1024 .f32
  w11 : a11.IsWhole
  a23 : Memref sig .tc .vmem S12x264x128 .f32
  w23 : a23.IsWhole
  a24 : Memref sig .tc .vmem S2x128x512 .f32
  w24 : a24.IsWhole
  a25 : Memref sig .tc .vmem S256x6784 .f32
  w25 : a25.IsWhole
  x5 : Vec Ideal S4x1536 .f32
  x6 : Vec Ideal S1x1536 .f32
  x7 : Vec Ideal S1x128 .f32
  x8 : Vec Ideal S1x128 .f32
  x9 : Vec Ideal S1x1024 .f32
  x10 : Vec Ideal S1x1024 .f32
  xs3 : Vec Ideal S12x264x128 .f32
  xs4 : Vec Ideal S2x128x512 .f32
  xs5 : Vec Ideal S256x6784 .f32

variable (X : Ctx)

abbrev Ctx.L : Terms.Loads := loads X.c X.a6 X.w6 X.a7 X.w7 X.a8 X.w8 X.a9 X.w9 X.a10 X.w10 X.a11 X.w11 X.a23 X.w23 X.a24 X.w24 X.a25 X.w25 X.x5 X.x6 X.x7 X.x8 X.x9 X.x10 X.xs3 X.xs4 X.xs5

theorem e_v40 : sl.v40 (F := Ideal) X.c X.a25 X.w25 X.xs5 = Terms.v40 X.L := by
  simp only [sl.v40] <;> rfl

theorem e_v406 : sl.v406 (F := Ideal) X.c X.a6 X.w6 X.a7 X.w7 X.a23 X.w23 X.a25 X.w25 X.x5 X.x6 X.xs3 X.xs5 = Terms.v406 X.L := by
  simp only [sl.v406, sl.v399, sl.v392, sl.v391, sl.v384, sl.v390, sl.v389, sl.v386, sl.v388, sl.v398, sl.v397, sl.v394, sl.v396, sl.v405, sl.v404, sl.v401, sl.v403] <;> rfl

theorem e_v408 : sl.v408 (F := Ideal) X.c X.a6 X.w6 X.x5 = Terms.v408 X.L := by
  simp only [sl.v408] <;> rfl

theorem e_r_18 : sl.r_18 (F := Ideal) X.c X.a6 X.w6 X.a7 X.w7 X.a23 X.w23 X.a25 X.w25 X.x5 X.x6 X.xs3 X.xs5 = Terms.v426 X.L := by
  simp only [sl.r_18, e_v406 X, e_v408 X] <;> rfl

theorem e_r_14 : sl.r_14 (F := Ideal) X.c X.a7 X.w7 X.x6 = Terms.v336 X.L := by
  simp only [sl.r_14] <;> rfl

theorem e_r_15 : sl.r_15 (F := Ideal) X.c X.a6 X.w6 X.x5 = Terms.v338 X.L := by
  simp only [sl.r_15] <;> rfl

theorem e_r_16 : sl.r_16 (F := Ideal) X.c X.a6 X.w6 X.a7 X.w7 X.a23 X.w23 X.a25 X.w25 X.x5 X.x6 X.xs3 X.xs5 = Terms.v365 X.L := by
  simp only [sl.r_16, e_r_14 X, e_r_15 X] <;> rfl

theorem e_r_17 : sl.r_17 (F := Ideal) X.c X.a6 X.w6 X.a7 X.w7 X.a23 X.w23 X.a25 X.w25 X.x5 X.x6 X.xs3 X.xs5 = Terms.v373 X.L := by
  simp only [sl.r_17, e_r_14 X, e_r_15 X] <;> rfl

theorem e_v378 : sl.v378 (F := Ideal) X.c X.a6 X.w6 X.a7 X.w7 X.a23 X.w23 X.a25 X.w25 X.x5 X.x6 X.xs3 X.xs5 = Terms.v378 X.L := by
  simp only [sl.v378, sl.v377, sl.v136, sl.cst_80, sl.v375, e_r_16 X, e_r_17 X] <;> rfl

theorem e_r_11 : sl.r_11 (F := Ideal) X.c X.a6 X.w6 X.a7 X.w7 X.a23 X.w23 X.a25 X.w25 X.x5 X.x6 X.xs3 X.xs5 = Terms.v303 X.L := by
  simp only [sl.r_11] <;> rfl

theorem e_r_12 : sl.r_12 (F := Ideal) X.c X.a6 X.w6 X.x5 = Terms.v305 X.L := by
  simp only [sl.r_12] <;> rfl

theorem e_r_13 : sl.r_13 (F := Ideal) X.c X.a6 X.w6 X.a7 X.w7 X.a23 X.w23 X.a25 X.w25 X.x5 X.x6 X.xs3 X.xs5 = Terms.v330 X.L := by
  simp only [sl.r_13, e_r_11 X, e_r_12 X] <;> rfl

theorem e_v269 : sl.v269 (F := Ideal) X.c X.a6 X.w6 X.a7 X.w7 X.a23 X.w23 X.a25 X.w25 X.x5 X.x6 X.xs3 X.xs5 = Terms.v269 X.L := by
  simp only [sl.v269, sl.v262, sl.v255, sl.v248, sl.v247, sl.v240, sl.v246, sl.v245, sl.v242, sl.v244, sl.v254, sl.v253, sl.v250, sl.v252, sl.v261, sl.v260, sl.v257, sl.v259, sl.v268, sl.v267, sl.v264, sl.v266] <;> rfl

theorem e_r_10 : sl.r_10 (F := Ideal) X.c X.a6 X.w6 X.a7 X.w7 X.a23 X.w23 X.a25 X.w25 X.x5 X.x6 X.xs3 X.xs5 = Terms.v282 X.L := by
  simp only [sl.r_10, e_v269 X] <;> rfl

theorem e_v620 : sl.v620 (F := Ideal) X.c X.a6 X.w6 X.a7 X.w7 X.a23 X.w23 X.a25 X.w25 X.x5 X.x6 X.xs3 X.xs5 = Terms.v620 X.L := by
  have e : sl.v620 (F := Ideal) X.c X.a6 X.w6 X.a7 X.w7 X.a23 X.w23 X.a25 X.w25 X.x5 X.x6 X.xs3 X.xs5 = k0_pay93 (F := Ideal) (sl.r_10 (F := Ideal) X.c X.a6 X.w6 X.a7 X.w7 X.a23 X.w23 X.a25 X.w25 X.x5 X.x6 X.xs3 X.xs5) (sl.r_13 (F := Ideal) X.c X.a6 X.w6 X.a7 X.w7 X.a23 X.w23 X.a25 X.w25 X.x5 X.x6 X.xs3 X.xs5) (sl.v378 (F := Ideal) X.c X.a6 X.w6 X.a7 X.w7 X.a23 X.w23 X.a25 X.w25 X.x5 X.x6 X.xs3 X.xs5) (sl.r_18 (F := Ideal) X.c X.a6 X.w6 X.a7 X.w7 X.a23 X.w23 X.a25 X.w25 X.x5 X.x6 X.xs3 X.xs5) := rfl
  rw [e, e_r_10 X, e_r_13 X, e_v378 X, e_r_18 X]
  rfl

theorem e_v653 : sl.v653 (F := Ideal)  = Terms.v653 X.L := by
  simp only [sl.v653, sl.v652, sl.v647, sl.v648, sl.v650, sl.cst_80, sl.v651, sl.cst_415] <;> rfl

theorem e_v42 : sl.v42 (F := Ideal) X.c X.a25 X.w25 X.xs5 = Terms.v42 X.L := by
  simp only [sl.v42] <;> rfl

theorem e_v639 : sl.v639 (F := Ideal) X.c X.a8 X.w8 X.a25 X.w25 X.x7 X.xs5 = Terms.v639 X.L := by
  simp only [sl.v639, sl.v633, sl.v631, sl.v630, sl.v629, sl.v632, sl.cst_415, sl.v638, sl.v637, sl.v636, sl.v634, e_v42 X] <;> rfl

theorem e_v654 : sl.v654 (F := Ideal) X.c X.a8 X.w8 X.a9 X.w9 X.a25 X.w25 X.x7 X.x8 X.xs5 = Terms.v654 X.L := by
  simp only [sl.v654, sl.v646, sl.v645, sl.v644, sl.v643, sl.cst_415, sl.v642, sl.v641, e_v639 X] <;> rfl

theorem e_v657 : sl.v657 (F := Ideal) X.c X.a8 X.w8 X.a9 X.w9 X.a25 X.w25 X.x7 X.x8 X.xs5 = Terms.v657 X.L := by
  simp only [sl.v657, sl.v656, sl.v646, sl.v645, sl.v644, sl.v643, sl.cst_415, sl.v642, sl.v641, sl.v655, e_v639 X, e_v654 X] <;> rfl

theorem e_v659 : sl.v659 (F := Ideal) X.c X.a8 X.w8 X.a9 X.w9 X.a25 X.w25 X.x7 X.x8 X.xs5 = Terms.v659 X.L := by
  simp only [sl.v659, sl.v656, sl.v646, sl.v645, sl.v644, sl.v643, sl.cst_415, sl.v642, sl.v641, sl.v655, sl.v658, e_v639 X, e_v654 X, e_v657 X] <;> rfl

theorem e_r_31 : sl.r_31 (F := Ideal) X.c X.a8 X.w8 X.a9 X.w9 X.a25 X.w25 X.x7 X.x8 X.xs5 = Terms.v667 X.L := by
  simp only [sl.r_31, e_v653 X, e_v654 X, e_v657 X, e_v659 X] <;> rfl

theorem e_r_32 : sl.r_32 (F := Ideal) X.c X.a8 X.w8 X.a9 X.w9 X.a25 X.w25 X.x7 X.x8 X.xs5 = Terms.v668 X.L := by
  simp only [sl.r_32, e_v653 X, e_v654 X, e_v657 X, e_v659 X] <;> rfl

theorem e_r_39 : sl.r_39 (F := Ideal) X.c X.a8 X.w8 X.a9 X.w9 X.a25 X.w25 X.x7 X.x8 X.xs5 = Terms.v709 X.L := by
  simp only [sl.r_39, e_v653 X, e_v654 X, e_v657 X, e_v659 X] <;> rfl

theorem e_r_38 : sl.r_38 (F := Ideal) X.c X.a8 X.w8 X.a9 X.w9 X.a25 X.w25 X.x7 X.x8 X.xs5 = Terms.v707 X.L := by
  simp only [sl.r_38, e_v653 X, e_v654 X, e_v657 X, e_v659 X] <;> rfl

theorem e_r_36 : sl.r_36 (F := Ideal) X.c X.a8 X.w8 X.a9 X.w9 X.a25 X.w25 X.x7 X.x8 X.xs5 = Terms.v698 X.L := by
  simp only [sl.r_36, e_v653 X, e_v654 X, e_v657 X, e_v659 X] <;> rfl

theorem e_r_37 : sl.r_37 (F := Ideal) X.c X.a8 X.w8 X.a9 X.w9 X.a25 X.w25 X.x7 X.x8 X.xs5 = Terms.v705 X.L := by
  simp only [sl.r_37, e_v653 X, e_v654 X, e_v657 X, e_v659 X] <;> rfl

theorem e_r_34 : sl.r_34 (F := Ideal) X.c X.a8 X.w8 X.a9 X.w9 X.a25 X.w25 X.x7 X.x8 X.xs5 = Terms.v684 X.L := by
  simp only [sl.r_34, e_v653 X, e_v654 X, e_v657 X, e_v659 X] <;> rfl

theorem e_r_35 : sl.r_35 (F := Ideal) X.c X.a8 X.w8 X.a9 X.w9 X.a25 X.w25 X.x7 X.x8 X.xs5 = Terms.v691 X.L := by
  simp only [sl.r_35, e_v653 X, e_v654 X, e_v657 X, e_v659 X] <;> rfl

theorem e_v734 : sl.v734 (F := Ideal) X.c X.a8 X.w8 X.a9 X.w9 X.a25 X.w25 X.x7 X.x8 X.xs5 = Terms.v734 X.L := by
  simp only [sl.v734, sl.v726, sl.v723, sl.v722, sl.v720, sl.v725, sl.v724, sl.v721, sl.v733, sl.v730, sl.v729, sl.v727, sl.v732, sl.v731, sl.v728, sl.v712, sl.v711, sl.v710, sl.v719, sl.v716, sl.v715, sl.v713, sl.v718, sl.v717, sl.v714, e_r_31 X, e_r_39 X, e_r_38 X, e_r_36 X, e_r_37 X, e_r_34 X, e_r_35 X] <;> rfl

theorem e_r_27 : sl.r_27 (F := Ideal) X.c X.a7 X.w7 X.x6 = Terms.v576 X.L := by
  simp only [sl.r_27] <;> rfl

theorem e_r_28 : sl.r_28 (F := Ideal) X.c X.a6 X.w6 X.x5 = Terms.v578 X.L := by
  simp only [sl.r_28] <;> rfl

theorem e_r_29 : sl.r_29 (F := Ideal) X.c X.a6 X.w6 X.a7 X.w7 X.a23 X.w23 X.a25 X.w25 X.x5 X.x6 X.xs3 X.xs5 = Terms.v605 X.L := by
  simp only [sl.r_29, e_r_27 X, e_r_28 X] <;> rfl

theorem e_r_30 : sl.r_30 (F := Ideal) X.c X.a6 X.w6 X.a7 X.w7 X.a23 X.w23 X.a25 X.w25 X.x5 X.x6 X.xs3 X.xs5 = Terms.v613 X.L := by
  simp only [sl.r_30, e_r_27 X, e_r_28 X] <;> rfl

theorem e_r_24 : sl.r_24 (F := Ideal) X.c X.a6 X.w6 X.a7 X.w7 X.a23 X.w23 X.a25 X.w25 X.x5 X.x6 X.xs3 X.xs5 = Terms.v543 X.L := by
  simp only [sl.r_24] <;> rfl

theorem e_r_25 : sl.r_25 (F := Ideal) X.c X.a6 X.w6 X.x5 = Terms.v545 X.L := by
  simp only [sl.r_25] <;> rfl

theorem e_r_26 : sl.r_26 (F := Ideal) X.c X.a6 X.w6 X.a7 X.w7 X.a23 X.w23 X.a25 X.w25 X.x5 X.x6 X.xs3 X.xs5 = Terms.v570 X.L := by
  simp only [sl.r_26, e_r_24 X, e_r_25 X] <;> rfl

theorem e_v509 : sl.v509 (F := Ideal) X.c X.a6 X.w6 X.a7 X.w7 X.a23 X.w23 X.a25 X.w25 X.x5 X.x6 X.xs3 X.xs5 = Terms.v509 X.L := by
  simp only [sl.v509, sl.v502, sl.v495, sl.v488, sl.v487, sl.v480, sl.v486, sl.v485, sl.v482, sl.v484, sl.v494, sl.v493, sl.v490, sl.v492, sl.v501, sl.v500, sl.v497, sl.v499, sl.v508, sl.v507, sl.v504, sl.v506] <;> rfl

theorem e_r_23 : sl.r_23 (F := Ideal) X.c X.a6 X.w6 X.a7 X.w7 X.a23 X.w23 X.a25 X.w25 X.x5 X.x6 X.xs3 X.xs5 = Terms.v522 X.L := by
  simp only [sl.r_23, e_v509 X] <;> rfl

theorem e_r_19 : sl.r_19 (F := Ideal) X.c X.a6 X.w6 X.a7 X.w7 X.a23 X.w23 X.a25 X.w25 X.x5 X.x6 X.xs3 X.xs5 = Terms.v440 X.L := by
  simp only [sl.r_19] <;> rfl

theorem e_r_20 : sl.r_20 (F := Ideal) X.c X.a6 X.w6 X.x5 = Terms.v442 X.L := by
  simp only [sl.r_20] <;> rfl

theorem e_r_21 : sl.r_21 (F := Ideal) X.c X.a6 X.w6 X.a7 X.w7 X.a23 X.w23 X.a25 X.w25 X.x5 X.x6 X.xs3 X.xs5 = Terms.v474 X.L := by
  simp only [sl.r_21, e_r_19 X, e_r_20 X] <;> rfl

theorem e_v621 : sl.v621 (F := Ideal) X.c X.a6 X.w6 X.a7 X.w7 X.a23 X.w23 X.a25 X.w25 X.x5 X.x6 X.xs3 X.xs5 = Terms.v621 X.L := by
  have e : sl.v621 (F := Ideal) X.c X.a6 X.w6 X.a7 X.w7 X.a23 X.w23 X.a25 X.w25 X.x5 X.x6 X.xs3 X.xs5 = k0_pay93 (F := Ideal) (sl.r_21 (F := Ideal) X.c X.a6 X.w6 X.a7 X.w7 X.a23 X.w23 X.a25 X.w25 X.x5 X.x6 X.xs3 X.xs5) (sl.r_23 (F := Ideal) X.c X.a6 X.w6 X.a7 X.w7 X.a23 X.w23 X.a25 X.w25 X.x5 X.x6 X.xs3 X.xs5) (sl.r_26 (F := Ideal) X.c X.a6 X.w6 X.a7 X.w7 X.a23 X.w23 X.a25 X.w25 X.x5 X.x6 X.xs3 X.xs5) (sl.v618 (F := Ideal) X.c X.a6 X.w6 X.a7 X.w7 X.a23 X.w23 X.a25 X.w25 X.x5 X.x6 X.xs3 X.xs5) := rfl
  rw [e, e_r_21 X, e_r_23 X, e_r_26 X]
  simp only [sl.v618, sl.v617, sl.v136, sl.cst_80, sl.v615, e_r_29 X, e_r_30 X] <;> rfl

theorem e_r_71 : sl.r_71 (F := Ideal) X.c X.a6 X.w6 X.a7 X.w7 X.a23 X.w23 X.a25 X.w25 X.x5 X.x6 X.xs3 X.xs5 = Terms.v1007 X.L := by
  simp only [sl.r_71, e_v621 X] <;> rfl

theorem e_r_72 : sl.r_72 (F := Ideal) X.c X.a6 X.w6 X.a7 X.w7 X.a23 X.w23 X.a25 X.w25 X.x5 X.x6 X.xs3 X.xs5 = Terms.v1009 X.L := by
  simp only [sl.r_72, e_v621 X] <;> rfl

theorem e_v741 : sl.v741 (F := Ideal) X.c X.a8 X.w8 X.a25 X.w25 X.x7 X.xs5 = Terms.v741 X.L := by
  simp only [sl.v741, sl.v738, sl.v737, sl.v735, sl.v740, sl.v739, sl.v736, e_v639 X] <;> rfl

theorem e_v748 : sl.v748 (F := Ideal) X.c X.a8 X.w8 X.a25 X.w25 X.x7 X.xs5 = Terms.v748 X.L := by
  simp only [sl.v748, sl.v745, sl.v744, sl.v742, sl.v747, sl.v746, sl.v743, e_v639 X] <;> rfl

theorem e_v755 : sl.v755 (F := Ideal) X.c X.a8 X.w8 X.a25 X.w25 X.x7 X.xs5 = Terms.v755 X.L := by
  simp only [sl.v755, sl.v752, sl.v751, sl.v749, sl.v754, sl.v753, sl.v750, e_v639 X] <;> rfl

theorem e_v762 : sl.v762 (F := Ideal) X.c X.a8 X.w8 X.a25 X.w25 X.x7 X.xs5 = Terms.v762 X.L := by
  simp only [sl.v762, sl.v759, sl.v758, sl.v756, sl.v761, sl.v760, sl.v757, e_v639 X] <;> rfl

theorem e_v769 : sl.v769 (F := Ideal) X.c X.a8 X.w8 X.a25 X.w25 X.x7 X.xs5 = Terms.v769 X.L := by
  simp only [sl.v769, sl.v766, sl.v765, sl.v763, sl.v768, sl.v767, sl.v764, e_v639 X] <;> rfl

theorem e_r_40 : sl.r_40 (F := Ideal) X.c X.a8 X.w8 X.a25 X.w25 X.x7 X.xs5 = Terms.v791 X.L := by
  simp only [sl.r_40, e_v639 X, e_v741 X, e_v748 X, e_v755 X, e_v762 X, e_v769 X] <;> rfl

theorem e_r_74 : sl.r_74 (F := Ideal) X.c X.a6 X.w6 X.a7 X.w7 X.a8 X.w8 X.a23 X.w23 X.a25 X.w25 X.x5 X.x6 X.x7 X.xs3 X.xs5 = Terms.v1016 X.L := by
  simp only [sl.r_74, e_v620 X, e_r_40 X] <;> rfl

theorem e_r_75 : sl.r_75 (F := Ideal) X.c X.a6 X.w6 X.a7 X.w7 X.a8 X.w8 X.a9 X.w9 X.a23 X.w23 X.a25 X.w25 X.x5 X.x6 X.x7 X.x8 X.xs3 X.xs5 = Terms.v1029 X.L := by
  simp only [sl.r_75, sl.v647, sl.v648, e_v620 X, e_v621 X, e_r_31 X, e_r_32 X, e_r_40 X] <;> rfl

theorem e_r_76 : sl.r_76 (F := Ideal) X.c X.a6 X.w6 X.a7 X.w7 X.a8 X.w8 X.a9 X.w9 X.a23 X.w23 X.a25 X.w25 X.x5 X.x6 X.x7 X.x8 X.xs3 X.xs5 = Terms.v1039 X.L := by
  simp only [sl.r_76, sl.v647, sl.v648, e_v621 X, e_r_31 X, e_r_32 X] <;> rfl

theorem e_r_77 : sl.r_77 (F := Ideal) X.c X.a6 X.w6 X.a7 X.w7 X.a8 X.w8 X.a9 X.w9 X.a23 X.w23 X.a25 X.w25 X.x5 X.x6 X.x7 X.x8 X.xs3 X.xs5 = Terms.v1044 X.L := by
  simp only [sl.r_77, e_r_74 X, e_r_75 X, e_r_76 X] <;> rfl

theorem e_r_69 : sl.r_69 (F := Ideal) X.c X.a6 X.w6 X.a7 X.w7 X.a8 X.w8 X.a23 X.w23 X.a25 X.w25 X.x5 X.x6 X.x7 X.xs3 X.xs5 = Terms.v1004 X.L := by
  simp only [sl.r_69, e_v620 X, e_r_40 X] <;> rfl

theorem e_r_79 : sl.r_79 (F := Ideal) X.c X.a6 X.w6 X.a7 X.w7 X.a8 X.w8 X.a9 X.w9 X.a23 X.w23 X.a25 X.w25 X.x5 X.x6 X.x7 X.x8 X.xs3 X.xs5 = Terms.v1079 X.L := by
  simp only [sl.r_79, sl.v647, sl.v648, e_r_31 X, e_r_32 X, e_r_69 X, e_r_72 X] <;> rfl

theorem e_r_82 : sl.r_82 (F := Ideal) X.c X.a6 X.w6 X.a7 X.w7 X.a8 X.w8 X.a9 X.w9 X.a23 X.w23 X.a25 X.w25 X.x5 X.x6 X.x7 X.x8 X.xs3 X.xs5 = Terms.v1114 X.L := by
  simp only [sl.r_82, sl.v647, sl.v648, e_r_31 X, e_r_32 X, e_r_69 X, e_r_72 X] <;> rfl

theorem e_r_84 : sl.r_84 (F := Ideal) X.c X.a6 X.w6 X.a7 X.w7 X.a8 X.w8 X.a23 X.w23 X.a25 X.w25 X.x5 X.x6 X.x7 X.xs3 X.xs5 = Terms.v1121 X.L := by
  simp only [sl.r_84, e_r_69 X] <;> rfl

theorem e_r_85 : sl.r_85 (F := Ideal) X.c X.a6 X.w6 X.a7 X.w7 X.a8 X.w8 X.a9 X.w9 X.a23 X.w23 X.a25 X.w25 X.x5 X.x6 X.x7 X.x8 X.xs3 X.xs5 = Terms.v1130 X.L := by
  simp only [sl.r_85, sl.v647, sl.v648, e_r_31 X, e_r_32 X, e_r_72 X] <;> rfl

theorem e_r_86 : sl.r_86 (F := Ideal) X.c X.a6 X.w6 X.a7 X.w7 X.a8 X.w8 X.a9 X.w9 X.a10 X.w10 X.a23 X.w23 X.a24 X.w24 X.a25 X.w25 X.x5 X.x6 X.x7 X.x8 X.x9 X.xs3 X.xs4 X.xs5 = Terms.v1163 X.L := by
  simp only [sl.r_86, sl.v647, sl.v648, e_v620 X, e_r_31 X, e_r_32 X, e_v734 X, e_r_71 X, e_r_72 X, e_r_77 X, e_r_79 X, e_r_82 X, e_r_84 X, e_r_85 X] <;> rfl

theorem e_r_6 : sl.r_6 (F := Ideal) X.c X.a6 X.w6 X.a7 X.w7 X.a23 X.w23 X.a25 X.w25 X.x5 X.x6 X.xs3 X.xs5 = Terms.v200 X.L := by
  simp only [sl.r_6] <;> rfl

theorem e_r_7 : sl.r_7 (F := Ideal) X.c X.a6 X.w6 X.x5 = Terms.v202 X.L := by
  simp only [sl.r_7] <;> rfl

theorem e_r_8 : sl.r_8 (F := Ideal) X.c X.a6 X.w6 X.a7 X.w7 X.a23 X.w23 X.a25 X.w25 X.x5 X.x6 X.xs3 X.xs5 = Terms.v234 X.L := by
  simp only [sl.r_8, e_r_6 X, e_r_7 X] <;> rfl

theorem e_v166 : sl.v166 (F := Ideal) X.c X.a6 X.w6 X.a7 X.w7 X.a23 X.w23 X.a25 X.w25 X.x5 X.x6 X.xs3 X.xs5 = Terms.v166 X.L := by
  simp only [sl.v166, sl.v159, sl.v152, sl.v151, sl.v144, sl.v150, sl.v149, sl.v146, sl.v148, sl.v158, sl.v157, sl.v154, sl.v156, sl.v165, sl.v164, sl.v161, sl.v163] <;> rfl

theorem e_v168 : sl.v168 (F := Ideal) X.c X.a6 X.w6 X.x5 = Terms.v168 X.L := by
  simp only [sl.v168] <;> rfl

theorem e_r_5 : sl.r_5 (F := Ideal) X.c X.a6 X.w6 X.a7 X.w7 X.a23 X.w23 X.a25 X.w25 X.x5 X.x6 X.xs3 X.xs5 = Terms.v186 X.L := by
  simp only [sl.r_5, e_v166 X, e_v168 X] <;> rfl

theorem e_r_1 : sl.r_1 (F := Ideal) X.c X.a7 X.w7 X.x6 = Terms.v96 X.L := by
  simp only [sl.r_1] <;> rfl

theorem e_r_2 : sl.r_2 (F := Ideal) X.c X.a6 X.w6 X.x5 = Terms.v98 X.L := by
  simp only [sl.r_2] <;> rfl

theorem e_r_3 : sl.r_3 (F := Ideal) X.c X.a6 X.w6 X.a7 X.w7 X.a23 X.w23 X.a25 X.w25 X.x5 X.x6 X.xs3 X.xs5 = Terms.v125 X.L := by
  simp only [sl.r_3, e_r_1 X, e_r_2 X] <;> rfl

theorem e_r_4 : sl.r_4 (F := Ideal) X.c X.a6 X.w6 X.a7 X.w7 X.a23 X.w23 X.a25 X.w25 X.x5 X.x6 X.xs3 X.xs5 = Terms.v133 X.L := by
  simp only [sl.r_4, e_r_1 X, e_r_2 X] <;> rfl

theorem e_v138 : sl.v138 (F := Ideal) X.c X.a6 X.w6 X.a7 X.w7 X.a23 X.w23 X.a25 X.w25 X.x5 X.x6 X.xs3 X.xs5 = Terms.v138 X.L := by
  simp only [sl.v138, sl.v137, sl.v136, sl.cst_80, sl.v135, e_r_3 X, e_r_4 X] <;> rfl

theorem e_v63 : sl.v63 (F := Ideal) X.c X.a6 X.w6 X.a7 X.w7 X.a23 X.w23 X.a25 X.w25 X.x5 X.x6 X.xs3 X.xs5 = Terms.v63 X.L := by
  simp only [sl.v63, sl.v56, sl.v55, sl.v48, sl.v54, sl.v53, sl.v50, sl.v52, sl.v62, sl.v61, sl.v58, sl.v60] <;> rfl

theorem e_v65 : sl.v65 (F := Ideal) X.c X.a6 X.w6 X.x5 = Terms.v65 X.L := by
  simp only [sl.v65] <;> rfl

theorem e_r : sl.r (F := Ideal) X.c X.a6 X.w6 X.a7 X.w7 X.a23 X.w23 X.a25 X.w25 X.x5 X.x6 X.xs3 X.xs5 = Terms.v90 X.L := by
  simp only [sl.r, e_v63 X, e_v65 X] <;> rfl

theorem e_v619 : sl.v619 (F := Ideal) X.c X.a6 X.w6 X.a7 X.w7 X.a23 X.w23 X.a25 X.w25 X.x5 X.x6 X.xs3 X.xs5 = Terms.v619 X.L := by
  have e : sl.v619 (F := Ideal) X.c X.a6 X.w6 X.a7 X.w7 X.a23 X.w23 X.a25 X.w25 X.x5 X.x6 X.xs3 X.xs5 = k0_pay93 (F := Ideal) (sl.r (F := Ideal) X.c X.a6 X.w6 X.a7 X.w7 X.a23 X.w23 X.a25 X.w25 X.x5 X.x6 X.xs3 X.xs5) (sl.v138 (F := Ideal) X.c X.a6 X.w6 X.a7 X.w7 X.a23 X.w23 X.a25 X.w25 X.x5 X.x6 X.xs3 X.xs5) (sl.r_5 (F := Ideal) X.c X.a6 X.w6 X.a7 X.w7 X.a23 X.w23 X.a25 X.w25 X.x5 X.x6 X.xs3 X.xs5) (sl.r_8 (F := Ideal) X.c X.a6 X.w6 X.a7 X.w7 X.a23 X.w23 X.a25 X.w25 X.x5 X.x6 X.xs3 X.xs5) := rfl
  rw [e, e_r X, e_v138 X, e_r_5 X, e_r_8 X]
  rfl

theorem e_r_43 : sl.r_43 (F := Ideal) X.c X.a6 X.w6 X.a7 X.w7 X.a8 X.w8 X.a23 X.w23 X.a25 X.w25 X.x5 X.x6 X.x7 X.xs3 X.xs5 = Terms.v800 X.L := by
  simp only [sl.r_43, e_v619 X, e_v639 X, e_v741 X, e_v748 X, e_v755 X, e_v762 X, e_v769 X] <;> rfl

theorem e_r_46 : sl.r_46 (F := Ideal) X.c X.a6 X.w6 X.a7 X.w7 X.a23 X.w23 X.a25 X.w25 X.x5 X.x6 X.xs3 X.xs5 = Terms.v805 X.L := by
  simp only [sl.r_46, e_v621 X] <;> rfl

theorem e_r_48 : sl.r_48 (F := Ideal) X.c X.a6 X.w6 X.a7 X.w7 X.a8 X.w8 X.a23 X.w23 X.a25 X.w25 X.x5 X.x6 X.x7 X.xs3 X.xs5 = Terms.v812 X.L := by
  simp only [sl.r_48, e_v619 X, e_v639 X, e_v741 X, e_v748 X, e_v755 X, e_v762 X, e_v769 X] <;> rfl

theorem e_r_49 : sl.r_49 (F := Ideal) X.c X.a8 X.w8 X.a9 X.w9 X.a25 X.w25 X.x7 X.x8 X.xs5 = Terms.v817 X.L := by
  simp only [sl.r_49, e_r_31 X, e_r_32 X] <;> rfl

theorem e_r_50 : sl.r_50 (F := Ideal) X.c X.a6 X.w6 X.a7 X.w7 X.a8 X.w8 X.a9 X.w9 X.a23 X.w23 X.a25 X.w25 X.x5 X.x6 X.x7 X.x8 X.xs3 X.xs5 = Terms.v840 X.L := by
  simp only [sl.r_50, sl.v647, sl.v648, sl.cst_438, e_r_31 X, e_r_32 X, e_r_46 X, e_r_48 X, e_r_49 X] <;> rfl

theorem e_r_52 : sl.r_52 (F := Ideal) X.c X.a6 X.w6 X.a7 X.w7 X.a8 X.w8 X.a23 X.w23 X.a25 X.w25 X.x5 X.x6 X.x7 X.xs3 X.xs5 = Terms.v847 X.L := by
  simp only [sl.r_52, e_r_43 X] <;> rfl

theorem e_r_53 : sl.r_53 (F := Ideal) X.c X.a6 X.w6 X.a7 X.w7 X.a8 X.w8 X.a9 X.w9 X.a23 X.w23 X.a25 X.w25 X.x5 X.x6 X.x7 X.x8 X.xs3 X.xs5 = Terms.v860 X.L := by
  simp only [sl.r_53, sl.v647, sl.v648, e_r_31 X, e_r_32 X, e_r_43 X, e_r_46 X] <;> rfl

theorem e_r_54 : sl.r_54 (F := Ideal) X.c X.a8 X.w8 X.a9 X.w9 X.a25 X.w25 X.x7 X.x8 X.xs5 = Terms.v862 X.L := by
  simp only [sl.r_54, e_r_32 X] <;> rfl

theorem e_r_55 : sl.r_55 (F := Ideal) X.c X.a8 X.w8 X.a9 X.w9 X.a25 X.w25 X.x7 X.x8 X.xs5 = Terms.v863 X.L := by
  simp only [sl.r_55, e_r_31 X] <;> rfl

theorem e_r_56 : sl.r_56 (F := Ideal) X.c X.a6 X.w6 X.a7 X.w7 X.a8 X.w8 X.a9 X.w9 X.a23 X.w23 X.a25 X.w25 X.x5 X.x6 X.x7 X.x8 X.xs3 X.xs5 = Terms.v875 X.L := by
  simp only [sl.r_56, sl.v647, sl.v648, e_r_46 X, e_r_52 X, e_r_53 X, e_r_54 X, e_r_55 X] <;> rfl

theorem e_r_58 : sl.r_58 (F := Ideal) X.c X.a6 X.w6 X.a7 X.w7 X.a8 X.w8 X.a9 X.w9 X.a23 X.w23 X.a25 X.w25 X.x5 X.x6 X.x7 X.x8 X.xs3 X.xs5 = Terms.v895 X.L := by
  simp only [sl.r_58, sl.v647, sl.v648, e_r_31 X, e_r_32 X, e_r_43 X, e_r_46 X] <;> rfl

theorem e_r_59 : sl.r_59 (F := Ideal) X.c X.a6 X.w6 X.a7 X.w7 X.a8 X.w8 X.a9 X.w9 X.a23 X.w23 X.a25 X.w25 X.x5 X.x6 X.x7 X.x8 X.xs3 X.xs5 = Terms.v905 X.L := by
  simp only [sl.r_59, sl.v647, sl.v648, e_r_31 X, e_r_32 X, e_r_46 X] <;> rfl

theorem e_r_60 : sl.r_60 (F := Ideal) X.c X.a6 X.w6 X.a7 X.w7 X.a8 X.w8 X.a23 X.w23 X.a25 X.w25 X.x5 X.x6 X.x7 X.xs3 X.xs5 = Terms.v908 X.L := by
  simp only [sl.r_60, e_r_43 X] <;> rfl

theorem e_r_62 : sl.r_62 (F := Ideal) X.c X.a6 X.w6 X.a7 X.w7 X.a8 X.w8 X.a9 X.w9 X.a23 X.w23 X.a25 X.w25 X.x5 X.x6 X.x7 X.x8 X.xs3 X.xs5 = Terms.v946 X.L := by
  simp only [sl.r_62, sl.v647, sl.v648, e_r_31 X, e_r_32 X, e_r_43 X, e_r_46 X, e_r_50 X, e_r_56 X, e_r_58 X, e_r_59 X, e_r_60 X] <;> rfl

theorem e_r_64 : sl.r_64 (F := Ideal) X.c X.a8 X.w8 X.a9 X.w9 X.a25 X.w25 X.x7 X.x8 X.xs5 = Terms.v949 X.L := by
  simp only [sl.r_64, e_v734 X] <;> rfl

theorem e_r_45 : sl.r_45 (F := Ideal) X.c X.a6 X.w6 X.a7 X.w7 X.a23 X.w23 X.a25 X.w25 X.x5 X.x6 X.xs3 X.xs5 = Terms.v803 X.L := by
  simp only [sl.r_45, e_v621 X] <;> rfl

theorem e_r_65 : sl.r_65 (F := Ideal) X.c X.a6 X.w6 X.a7 X.w7 X.a23 X.w23 X.a24 X.w24 X.a25 X.w25 X.x5 X.x6 X.xs3 X.xs4 X.xs5 = Terms.v951 X.L := by
  simp only [sl.r_65, e_r_45 X] <;> rfl

theorem e_r_66 : sl.r_66 (F := Ideal) X.c X.a6 X.w6 X.a7 X.w7 X.a8 X.w8 X.a9 X.w9 X.a10 X.w10 X.a23 X.w23 X.a24 X.w24 X.a25 X.w25 X.x5 X.x6 X.x7 X.x8 X.x9 X.xs3 X.xs4 X.xs5 = Terms.v995 X.L := by
  simp only [sl.r_66, e_v40 X, e_v619 X, e_r_62 X, e_r_64 X, e_r_65 X] <;> rfl

theorem e_r_68 : sl.r_68 (F := Ideal) X.c X.a6 X.w6 X.a7 X.w7 X.a8 X.w8 X.a23 X.w23 X.a25 X.w25 X.x5 X.x6 X.x7 X.xs3 X.xs5 = Terms.v1003 X.L := by
  simp only [sl.r_68, e_v620 X, e_r_40 X] <;> rfl

theorem e_r_70 : sl.r_70 (F := Ideal) X.c X.a6 X.w6 X.a7 X.w7 X.a23 X.w23 X.a25 X.w25 X.x5 X.x6 X.xs3 X.xs5 = Terms.v1005 X.L := by
  simp only [sl.r_70, e_v621 X] <;> rfl

theorem e_r_87 : sl.r_87 (F := Ideal) X.c X.a6 X.w6 X.a7 X.w7 X.a8 X.w8 X.a9 X.w9 X.a23 X.w23 X.a24 X.w24 X.a25 X.w25 X.x5 X.x6 X.x7 X.x8 X.xs3 X.xs4 X.xs5 = Terms.v1176 X.L := by
  simp only [sl.r_87, e_v734 X, e_r_68 X, e_r_70 X] <;> rfl

theorem e_r_42 : sl.r_42 (F := Ideal) X.c X.a6 X.w6 X.a7 X.w7 X.a8 X.w8 X.a23 X.w23 X.a25 X.w25 X.x5 X.x6 X.x7 X.xs3 X.xs5 = Terms.v799 X.L := by
  simp only [sl.r_42, e_v619 X, e_v639 X, e_v741 X, e_v748 X, e_v755 X, e_v762 X, e_v769 X] <;> rfl

theorem e_r_44 : sl.r_44 (F := Ideal) X.c X.a6 X.w6 X.a7 X.w7 X.a23 X.w23 X.a25 X.w25 X.x5 X.x6 X.xs3 X.xs5 = Terms.v801 X.L := by
  simp only [sl.r_44, e_v621 X] <;> rfl

theorem e_r_63 : sl.r_63 (F := Ideal) X.c X.a24 X.w24 X.xs4 = Terms.v948 X.L := by
  simp only [sl.r_63] <;> rfl

variable (c : Dev nD) (i : grid0.Coords) (a1 : Memref sig .tc .vmem S256x2048 .f32) (w1 : a1.IsWhole) (a2 : Memref sig .tc .vmem S1x2048 .f32) (w2 : a2.IsWhole) (a3 : Memref sig .tc .vmem S2048x6672 .bf16) (w3 : a3.IsWhole) (a4 : Memref sig .tc .vmem S2x1024 .f32) (w4 : a4.IsWhole) (a5 : Memref sig .tc .vmem S1x1024 .f32) (w5 : a5.IsWhole) (a6 : Memref sig .tc .vmem S4x1536 .f32) (w6 : a6.IsWhole) (a7 : Memref sig .tc .vmem S1x1536 .f32) (w7 : a7.IsWhole) (a8 : Memref sig .tc .vmem S1x128 .f32) (w8 : a8.IsWhole) (a9 : Memref sig .tc .vmem S1x128 .f32) (w9 : a9.IsWhole) (a10 : Memref sig .tc .vmem S1x1024 .f32) (w10 : a10.IsWhole) (a11 : Memref sig .tc .vmem S1x1024 .f32) (w11 : a11.IsWhole) (a12 : Memref sig .tc .vmem S32x5632 .f32) (w12 : a12.IsWhole) (a13 : Memref sig .tc .vmem S32x5632 .f32) (w13 : a13.IsWhole) (a14 : Memref sig .tc .vmem S32x2048 .f32) (w14 : a14.IsWhole) (a15 : Memref sig .tc .vmem S256x1024 .bf16) (w15 : a15.IsWhole) (a16 : Memref sig .tc .vmem S256x1024 .bf16) (w16 : a16.IsWhole) (a17 : Memref sig .tc .vmem S32x5632 .bf16) (w17 : a17.IsWhole) (a18 : Memref sig .tc .vmem S32x5632 .bf16) (w18 : a18.IsWhole) (a19 : Memref sig .tc .vmem S32x2048 .bf16) (w19 : a19.IsWhole) (a20 : Memref sig .tc .vmem S8x128x128 .f32) (w20 : a20.IsWhole) (a21 : Memref sig .tc .vmem S128x128 .i32) (w21 : a21.IsWhole) (a22 : Memref sig .tc .vmem S1x1024 .f32) (w22 : a22.IsWhole) (a23 : Memref sig .tc .vmem S12x264x128 .f32) (w23 : a23.IsWhole) (a24 : Memref sig .tc .vmem S2x128x512 .f32) (w24 : a24.IsWhole) (a25 : Memref sig .tc .vmem S256x6784 .f32) (w25 : a25.IsWhole) (a26 : Memref sig .tc .vmem S2048x128 .bf16) (w26 : a26.IsWhole) (hc0 : ¬cond0_0 i) (hc1 : ¬cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32) (xs0 : Vec Ideal S8x128x128 .f32) (xs1 : Vec Ideal S128x128 .i32) (xs2 : Vec Ideal S1x1024 .f32) (xs3 : Vec Ideal S12x264x128 .f32) (xs4 : Vec Ideal S2x128x512 .f32) (xs5 : Vec Ideal S256x6784 .f32) (xs6 : Vec Ideal S2048x128 .bf16)

set_option maxHeartbeats 1000000 in
/-- What the point stores of the branch is the step's term, -/
theorem out_eq :
    (kernelRun0_C (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs0 xs1 xs2 xs3 xs4 xs5 xs6).2.1
      = [⟨Rect.unit (s := S256x1024) ![0, 512] S256x512.size inb_S256x1024_S256x512_0_512, Terms.v1204 (loads c a6 w6 a7 w7 a8 w8 a9 w9 a10 w10 a11 w11 a23 w23 a24 w24 a25 w25 x5 x6 x7 x8 x9 x10 xs3 xs4 xs5)⟩,
        ⟨Rect.unit (s := S256x1024) ![0, 0] S256x512.size inb_S256x1024_S256x512_0_0, Terms.v1000 (loads c a6 w6 a7 w7 a8 w8 a9 w9 a10 w10 a11 w11 a23 w23 a24 w24 a25 w25 x5 x6 x7 x8 x9 x10 xs3 xs4 xs5)⟩] := by
  have e : (kernelRun0_C (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs0 xs1 xs2 xs3 xs4 xs5 xs6).2.1
      = [⟨Rect.unit (s := S256x1024) ![0, 512] S256x512.size inb_S256x1024_S256x512_0_512, k0_pay176 (F := Ideal) (sl.v40 (F := Ideal) c a25 w25 xs5) (sl.r_86 (F := Ideal) c a6 w6 a7 w7 a8 w8 a9 w9 a10 w10 a23 w23 a24 w24 a25 w25 x5 x6 x7 x8 x9 xs3 xs4 xs5) (a11.view.readAt (Elt Ideal) (Rect.unit (s := S1x1024) ![0, 512] S1x512.size inb_S1x1024_S1x512_0_512).toLoadRect (w11.unread x10))⟩,
        ⟨Rect.unit (s := S256x1024) ![0, 0] S256x512.size inb_S256x1024_S256x512_0_0, k0_pay150 (F := Ideal) (sl.r_66 (F := Ideal) c a6 w6 a7 w7 a8 w8 a9 w9 a10 w10 a23 w23 a24 w24 a25 w25 x5 x6 x7 x8 x9 xs3 xs4 xs5) (sl.r_67 (F := Ideal) c a11 w11 x10)⟩] := rfl
  rw [e]
  have e1 := e_v40 ⟨c, a6, w6, a7, w7, a8, w8, a9, w9, a10, w10, a11, w11, a23, w23, a24, w24, a25, w25, x5, x6, x7, x8, x9, x10, xs3, xs4, xs5⟩
  have e2 := e_r_86 ⟨c, a6, w6, a7, w7, a8, w8, a9, w9, a10, w10, a11, w11, a23, w23, a24, w24, a25, w25, x5, x6, x7, x8, x9, x10, xs3, xs4, xs5⟩
  have e3 := e_r_66 ⟨c, a6, w6, a7, w7, a8, w8, a9, w9, a10, w10, a11, w11, a23, w23, a24, w24, a25, w25, x5, x6, x7, x8, x9, x10, xs3, xs4, xs5⟩
  dsimp only at e1 e2 e3
  rw [e1, e2, e3]
  rfl

set_option maxHeartbeats 1000000 in
/-- so is the state it leaves, -/
theorem state_eq :
    (kernelRun0_C (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs0 xs1 xs2 xs3 xs4 xs5 xs6).2.2.2.2.2.2.2.2.2.1
      = [⟨Rect.unit (s := S2x128x512) ![1, 0, 0] S1x128x512.size inb_S2x128x512_S1x128x512_1_0_0, Terms.v1179 (loads c a6 w6 a7 w7 a8 w8 a9 w9 a10 w10 a11 w11 a23 w23 a24 w24 a25 w25 x5 x6 x7 x8 x9 x10 xs3 xs4 xs5)⟩,
        ⟨Rect.unit (s := S2x128x512) ![0, 0, 0] S1x128x512.size inb_S2x128x512_S1x128x512_0_0_0, Terms.v975 (loads c a6 w6 a7 w7 a8 w8 a9 w9 a10 w10 a11 w11 a23 w23 a24 w24 a25 w25 x5 x6 x7 x8 x9 x10 xs3 xs4 xs5)⟩] := by
  have e : (kernelRun0_C (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs0 xs1 xs2 xs3 xs4 xs5 xs6).2.2.2.2.2.2.2.2.2.1
      = [⟨Rect.unit (s := S2x128x512) ![1, 0, 0] S1x128x512.size inb_S2x128x512_S1x128x512_1_0_0, k0_pay175 (F := Ideal) (sl.r_87 (F := Ideal) c a6 w6 a7 w7 a8 w8 a9 w9 a23 w23 a24 w24 a25 w25 x5 x6 x7 x8 xs3 xs4 xs5)⟩,
        ⟨Rect.unit (s := S2x128x512) ![0, 0, 0] S1x128x512.size inb_S2x128x512_S1x128x512_0_0_0, k0_pay148 (F := Ideal) (sl.r_42 (F := Ideal) c a6 w6 a7 w7 a8 w8 a23 w23 a25 w25 x5 x6 x7 xs3 xs5) (sl.r_44 (F := Ideal) c a6 w6 a7 w7 a23 w23 a25 w25 x5 x6 xs3 xs5) (sl.r_63 (F := Ideal) c a24 w24 xs4) (sl.r_64 (F := Ideal) c a8 w8 a9 w9 a25 w25 x7 x8 xs5)⟩] := rfl
  rw [e]
  have e1 := e_r_87 ⟨c, a6, w6, a7, w7, a8, w8, a9, w9, a10, w10, a11, w11, a23, w23, a24, w24, a25, w25, x5, x6, x7, x8, x9, x10, xs3, xs4, xs5⟩
  have e2 := e_r_42 ⟨c, a6, w6, a7, w7, a8, w8, a9, w9, a10, w10, a11, w11, a23, w23, a24, w24, a25, w25, x5, x6, x7, x8, x9, x10, xs3, xs4, xs5⟩
  have e3 := e_r_44 ⟨c, a6, w6, a7, w7, a8, w8, a9, w9, a10, w10, a11, w11, a23, w23, a24, w24, a25, w25, x5, x6, x7, x8, x9, x10, xs3, xs4, xs5⟩
  have e4 := e_r_63 ⟨c, a6, w6, a7, w7, a8, w8, a9, w9, a10, w10, a11, w11, a23, w23, a24, w24, a25, w25, x5, x6, x7, x8, x9, x10, xs3, xs4, xs5⟩
  have e5 := e_r_64 ⟨c, a6, w6, a7, w7, a8, w8, a9, w9, a10, w10, a11, w11, a23, w23, a24, w24, a25, w25, x5, x6, x7, x8, x9, x10, xs3, xs4, xs5⟩
  dsimp only at e1 e2 e3 e4 e5
  rw [e1, e2, e3, e4, e5]
  rfl

set_option maxHeartbeats 1000000 in
/-- and the convolution's buffer ends with its last slab's last rows moved. -/
theorem buf_eq :
    (kernelRun0_C (F := Ideal) c i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 hc0 hc1 x0 x1 x2 x3 x4 x5 x6 x7 x8 x9 x10 x11 x12 x13 xs0 xs1 xs2 xs3 xs4 xs5 xs6).2.2.2.2.2.2.2.2.1
      = ⟨Rect.unit (s := S12x264x128) ![11, 0, 0] S1x8x128.size inb_S12x264x128_S1x8x128_11_0_0, k0_pay90 (F := Ideal) (sl.v606 (F := Ideal) c a23 a25 w25 xs5)⟩ :: (sl.HS3_23 (F := Ideal) c a23 a25 w25 xs5) := rfl

end Cert.MixerIdeal.Gen.kernelRun0_C

end
-- ==== Proof.SsdProjC.lean ====
module

public import proofs.«01_k».proof.Proof.SsdProj
public import proofs.«01_k».proof.Proof.Gen.MixerIdeal.Frame.RunC

/-!
# The projection that a point leaves, any other point
-/

@[expose] public section

set_option maxRecDepth 65536

noncomputable section

namespace Cert.MixerIdeal.Gen.kernelRun0_C

open Cert.MixerIdeal Cert.MixerIdeal.Gen Cert.MixerIdeal.XBuf Cert.MixerIdeal.Terms Cert.MixerIdeal.Proj Cert.Ssd Cert.RowNorm
open Idealize.ShloMosaic Idealize.ShloMosaic.TcCoe

section

variable {c : Dev nD} {arg1 : Memref sig .tc .vmem S256x2048 .f32} {harg1 : arg1.IsWhole} {arg2 : Memref sig .tc .vmem S1x2048 .f32} {harg2 : arg2.IsWhole} {arg3 : Memref sig .tc .vmem S2048x6672 .bf16} {harg3 : arg3.IsWhole} {arg26 : Memref sig .tc .vmem S2048x128 .bf16} {harg26 : arg26.IsWhole} {x0 : Vec Ideal S256x2048 .f32} {x1 : Vec Ideal S1x2048 .f32} {x2 : Vec Ideal S2048x6672 .bf16} {xs6 : Vec Ideal S2048x128 .bf16}
  {W : Fin 2048 → ℕ → EReal}

theorem row_at (r : Fin 256) (k : Fin 2048) : ((sl.v38 (F := Ideal) c arg1 harg1 arg2 harg2 x0 x1)) (ix2 r k) = hrow x0 x1 r k := by
  have e1 : (sl.v23 (F := Ideal) c arg1 harg1 x0) = x0 := by
    unfold sl.v23
    rw [shapeCast_self, View.readAt_full, Memref.IsWhole.read_unread]
  have e2 : (sl.v35 (F := Ideal) c arg2 harg2 x1) = x1 := by
    unfold sl.v35
    rw [shapeCast_self, View.readAt_full, Memref.IsWhole.read_unread]
  unfold sl.v38 sl.v37 sl.v33 sl.v36 sl.v32 sl.v31 sl.v30 sl.v28 sl.v26 sl.v25 sl.v24 sl.v27 sl.v29 sl.cst_17 sl.cst_18
  rw [e1, e2]
  pointwise
  rfl

theorem cols4096_at (hW : ∀ (k : Fin 2048) (n : Fin 6672), x2 (ix2 k n) = W k n.val) (r : Fin 256) (n : Fin 256) :
    ((sl.v4446 (F := Ideal) c arg1 harg1 arg2 harg2 arg3 harg3 x0 x1 x2)) (ix2 r n) = ∑ k, hrow x0 x1 r k * W k (4096 + n.val) := by
  have e : ((sl.v4446 (F := Ideal) c arg1 harg1 arg2 harg2 arg3 harg3 x0 x1 x2)) (ix2 r n) = ((sl.v2112 (F := Ideal) c arg1 harg1 arg2 harg2 arg3 harg3 x0 x1 x2)) (ix2 r n) := by pointwise [sl.v4446]
  rw [e]
  refine (dot256 _ _ r n).trans (Finset.sum_congr rfl fun k _ => congrArg₂ (· * ·) (row_at r k) ?_)
  refine cat _ _ _ k n (W k) 4096 (fun l => ?_) (fun l => ?_)
  · have e1 : ((sl.v2108 (F := Ideal) c arg3 harg3 x2)) (ix2 k l) = arg3.view.readAt (Elt Ideal) (Rect.unit (s := S2048x6672) ![0, 4096] S2048x128.size inb_S2048x6672_S2048x128_0_4096).toLoadRect (harg3.unread x2) (ix2 k l) := by
      unfold sl.v2108
      rw [shapeCast_self]
    exact e1.trans ((cols arg3.view _ x2 (Memref.IsWhole.read_unread _ _) 4096 (by decide) _ k l).trans (hW k _))
  · have e1 : ((sl.v2110 (F := Ideal) c arg3 harg3 x2)) (ix2 k l) = arg3.view.readAt (Elt Ideal) (Rect.unit (s := S2048x6672) ![0, 4224] S2048x128.size inb_S2048x6672_S2048x128_0_4224).toLoadRect (harg3.unread x2) (ix2 k l) := by
      unfold sl.v2110
      rw [shapeCast_self]
    exact e1.trans ((cols arg3.view _ x2 (Memref.IsWhole.read_unread _ _) 4224 (by decide) _ k l).trans (hW k _))

theorem cols4352_at (hW : ∀ (k : Fin 2048) (n : Fin 6672), x2 (ix2 k n) = W k n.val) (r : Fin 256) (n : Fin 256) :
    ((sl.v4449 (F := Ideal) c arg1 harg1 arg2 harg2 arg3 harg3 x0 x1 x2)) (ix2 r n) = ∑ k, hrow x0 x1 r k * W k (4352 + n.val) := by
  have e : ((sl.v4449 (F := Ideal) c arg1 harg1 arg2 harg2 arg3 harg3 x0 x1 x2)) (ix2 r n) = ((sl.v2329 (F := Ideal) c arg1 harg1 arg2 harg2 arg3 harg3 x0 x1 x2)) (ix2 r n) := by pointwise [sl.v4449]
  rw [e]
  refine (dot256 _ _ r n).trans (Finset.sum_congr rfl fun k _ => congrArg₂ (· * ·) (row_at r k) ?_)
  refine cat _ _ _ k n (W k) 4352 (fun l => ?_) (fun l => ?_)
  · have e1 : ((sl.v2325 (F := Ideal) c arg3 harg3 x2)) (ix2 k l) = arg3.view.readAt (Elt Ideal) (Rect.unit (s := S2048x6672) ![0, 4352] S2048x128.size inb_S2048x6672_S2048x128_0_4352).toLoadRect (harg3.unread x2) (ix2 k l) := by
      unfold sl.v2325
      rw [shapeCast_self]
    exact e1.trans ((cols arg3.view _ x2 (Memref.IsWhole.read_unread _ _) 4352 (by decide) _ k l).trans (hW k _))
  · have e1 : ((sl.v2327 (F := Ideal) c arg3 harg3 x2)) (ix2 k l) = arg3.view.readAt (Elt Ideal) (Rect.unit (s := S2048x6672) ![0, 4480] S2048x128.size inb_S2048x6672_S2048x128_0_4480).toLoadRect (harg3.unread x2) (ix2 k l) := by
      unfold sl.v2327
      rw [shapeCast_self]
    exact e1.trans ((cols arg3.view _ x2 (Memref.IsWhole.read_unread _ _) 4480 (by decide) _ k l).trans (hW k _))

theorem cols4608_at (hW : ∀ (k : Fin 2048) (n : Fin 6672), x2 (ix2 k n) = W k n.val) (r : Fin 256) (n : Fin 256) :
    ((sl.v4452 (F := Ideal) c arg1 harg1 arg2 harg2 arg3 harg3 x0 x1 x2)) (ix2 r n) = ∑ k, hrow x0 x1 r k * W k (4608 + n.val) := by
  have e : ((sl.v4452 (F := Ideal) c arg1 harg1 arg2 harg2 arg3 harg3 x0 x1 x2)) (ix2 r n) = ((sl.v2546 (F := Ideal) c arg1 harg1 arg2 harg2 arg3 harg3 x0 x1 x2)) (ix2 r n) := by pointwise [sl.v4452]
  rw [e]
  refine (dot256 _ _ r n).trans (Finset.sum_congr rfl fun k _ => congrArg₂ (· * ·) (row_at r k) ?_)
  refine cat _ _ _ k n (W k) 4608 (fun l => ?_) (fun l => ?_)
  · have e1 : ((sl.v2542 (F := Ideal) c arg3 harg3 x2)) (ix2 k l) = arg3.view.readAt (Elt Ideal) (Rect.unit (s := S2048x6672) ![0, 4608] S2048x128.size inb_S2048x6672_S2048x128_0_4608).toLoadRect (harg3.unread x2) (ix2 k l) := by
      unfold sl.v2542
      rw [shapeCast_self]
    exact e1.trans ((cols arg3.view _ x2 (Memref.IsWhole.read_unread _ _) 4608 (by decide) _ k l).trans (hW k _))
  · have e1 : ((sl.v2544 (F := Ideal) c arg3 harg3 x2)) (ix2 k l) = arg3.view.readAt (Elt Ideal) (Rect.unit (s := S2048x6672) ![0, 4736] S2048x128.size inb_S2048x6672_S2048x128_0_4736).toLoadRect (harg3.unread x2) (ix2 k l) := by
      unfold sl.v2544
      rw [shapeCast_self]
    exact e1.trans ((cols arg3.view _ x2 (Memref.IsWhole.read_unread _ _) 4736 (by decide) _ k l).trans (hW k _))

theorem cols4864_at (hW : ∀ (k : Fin 2048) (n : Fin 6672), x2 (ix2 k n) = W k n.val) (r : Fin 256) (n : Fin 256) :
    (k0_pay742 (F := Ideal) (sl.v2616 (F := Ideal) c arg1 harg1 arg2 harg2 arg3 harg3 x0 x1 x2)) (ix2 r n) = ∑ k, hrow x0 x1 r k * W k (4864 + n.val) := by
  have e : (k0_pay742 (F := Ideal) (sl.v2616 (F := Ideal) c arg1 harg1 arg2 harg2 arg3 harg3 x0 x1 x2)) (ix2 r n) = ((sl.v2616 (F := Ideal) c arg1 harg1 arg2 harg2 arg3 harg3 x0 x1 x2)) (ix2 r n) := by pointwise [k0_pay742]
  rw [e]
  refine (dot256 _ _ r n).trans (Finset.sum_congr rfl fun k _ => congrArg₂ (· * ·) (row_at r k) ?_)
  refine cat _ _ _ k n (W k) 4864 (fun l => ?_) (fun l => ?_)
  · have e1 : ((sl.v2612 (F := Ideal) c arg3 harg3 x2)) (ix2 k l) = arg3.view.readAt (Elt Ideal) (Rect.unit (s := S2048x6672) ![0, 4864] S2048x128.size inb_S2048x6672_S2048x128_0_4864).toLoadRect (harg3.unread x2) (ix2 k l) := by
      unfold sl.v2612
      rw [shapeCast_self]
    exact e1.trans ((cols arg3.view _ x2 (Memref.IsWhole.read_unread _ _) 4864 (by decide) _ k l).trans (hW k _))
  · have e1 : ((sl.v2614 (F := Ideal) c arg3 harg3 x2)) (ix2 k l) = arg3.view.readAt (Elt Ideal) (Rect.unit (s := S2048x6672) ![0, 4992] S2048x128.size inb_S2048x6672_S2048x128_0_4992).toLoadRect (harg3.unread x2) (ix2 k l) := by
      unfold sl.v2614
      rw [shapeCast_self]
    exact e1.trans ((cols arg3.view _ x2 (Memref.IsWhole.read_unread _ _) 4992 (by decide) _ k l).trans (hW k _))

theorem cols5120_at (hW : ∀ (k : Fin 2048) (n : Fin 6672), x2 (ix2 k n) = W k n.val) (r : Fin 256) (n : Fin 256) :
    (k0_pay743 (F := Ideal) (sl.v3013 (F := Ideal) c arg1 harg1 arg2 harg2 arg3 harg3 x0 x1 x2)) (ix2 r n) = ∑ k, hrow x0 x1 r k * W k (5120 + n.val) := by
  have e : (k0_pay743 (F := Ideal) (sl.v3013 (F := Ideal) c arg1 harg1 arg2 harg2 arg3 harg3 x0 x1 x2)) (ix2 r n) = ((sl.v3013 (F := Ideal) c arg1 harg1 arg2 harg2 arg3 harg3 x0 x1 x2)) (ix2 r n) := by pointwise [k0_pay743]
  rw [e]
  refine (dot256 _ _ r n).trans (Finset.sum_congr rfl fun k _ => congrArg₂ (· * ·) (row_at r k) ?_)
  refine cat _ _ _ k n (W k) 5120 (fun l => ?_) (fun l => ?_)
  · have e1 : ((sl.v3009 (F := Ideal) c arg3 harg3 x2)) (ix2 k l) = arg3.view.readAt (Elt Ideal) (Rect.unit (s := S2048x6672) ![0, 5120] S2048x128.size inb_S2048x6672_S2048x128_0_5120).toLoadRect (harg3.unread x2) (ix2 k l) := by
      unfold sl.v3009
      rw [shapeCast_self]
    exact e1.trans ((cols arg3.view _ x2 (Memref.IsWhole.read_unread _ _) 5120 (by decide) _ k l).trans (hW k _))
  · have e1 : ((sl.v3011 (F := Ideal) c arg3 harg3 x2)) (ix2 k l) = arg3.view.readAt (Elt Ideal) (Rect.unit (s := S2048x6672) ![0, 5248] S2048x128.size inb_S2048x6672_S2048x128_0_5248).toLoadRect (harg3.unread x2) (ix2 k l) := by
      unfold sl.v3011
      rw [shapeCast_self]
    exact e1.trans ((cols arg3.view _ x2 (Memref.IsWhole.read_unread _ _) 5248 (by decide) _ k l).trans (hW k _))

theorem cols5376_at (hW : ∀ (k : Fin 2048) (n : Fin 6672), x2 (ix2 k n) = W k n.val) (r : Fin 256) (n : Fin 256) :
    ((sl.r_192 (F := Ideal) c arg1 harg1 arg2 harg2 arg3 harg3 x0 x1 x2)) (ix2 r n) = ∑ k, hrow x0 x1 r k * W k (5376 + n.val) := by
  have e : ((sl.r_192 (F := Ideal) c arg1 harg1 arg2 harg2 arg3 harg3 x0 x1 x2)) (ix2 r n) = ((sl.v3105 (F := Ideal) c arg1 harg1 arg2 harg2 arg3 harg3 x0 x1 x2)) (ix2 r n) := by pointwise [sl.r_192, k0_pay744]
  rw [e]
  refine (dot256 _ _ r n).trans (Finset.sum_congr rfl fun k _ => congrArg₂ (· * ·) (row_at r k) ?_)
  refine cat _ _ _ k n (W k) 5376 (fun l => ?_) (fun l => ?_)
  · have e1 : ((sl.v3101 (F := Ideal) c arg3 harg3 x2)) (ix2 k l) = arg3.view.readAt (Elt Ideal) (Rect.unit (s := S2048x6672) ![0, 5376] S2048x128.size inb_S2048x6672_S2048x128_0_5376).toLoadRect (harg3.unread x2) (ix2 k l) := by
      unfold sl.v3101
      rw [shapeCast_self]
    exact e1.trans ((cols arg3.view _ x2 (Memref.IsWhole.read_unread _ _) 5376 (by decide) _ k l).trans (hW k _))
  · have e1 : ((sl.v3103 (F := Ideal) c arg3 harg3 x2)) (ix2 k l) = arg3.view.readAt (Elt Ideal) (Rect.unit (s := S2048x6672) ![0, 5504] S2048x128.size inb_S2048x6672_S2048x128_0_5504).toLoadRect (harg3.unread x2) (ix2 k l) := by
      unfold sl.v3103
      rw [shapeCast_self]
    exact e1.trans ((cols arg3.view _ x2 (Memref.IsWhole.read_unread _ _) 5504 (by decide) _ k l).trans (hW k _))

theorem cols5632_at (hW : ∀ (k : Fin 2048) (n : Fin 6672), x2 (ix2 k n) = W k n.val) (r : Fin 256) (n : Fin 256) :
    (k0_pay1 (F := Ideal) (sl.v3193 (F := Ideal) c arg1 harg1 arg2 harg2 arg3 harg3 x0 x1 x2)) (ix2 r n) = ∑ k, hrow x0 x1 r k * W k (5632 + n.val) := by
  have e : (k0_pay1 (F := Ideal) (sl.v3193 (F := Ideal) c arg1 harg1 arg2 harg2 arg3 harg3 x0 x1 x2)) (ix2 r n) = ((sl.v3193 (F := Ideal) c arg1 harg1 arg2 harg2 arg3 harg3 x0 x1 x2)) (ix2 r n) := by pointwise [k0_pay1]
  rw [e]
  refine (dot256 _ _ r n).trans (Finset.sum_congr rfl fun k _ => congrArg₂ (· * ·) (row_at r k) ?_)
  refine cat _ _ _ k n (W k) 5632 (fun l => ?_) (fun l => ?_)
  · have e1 : ((sl.v3189 (F := Ideal) c arg3 harg3 x2)) (ix2 k l) = arg3.view.readAt (Elt Ideal) (Rect.unit (s := S2048x6672) ![0, 5632] S2048x128.size inb_S2048x6672_S2048x128_0_5632).toLoadRect (harg3.unread x2) (ix2 k l) := by
      unfold sl.v3189
      rw [shapeCast_self]
    exact e1.trans ((cols arg3.view _ x2 (Memref.IsWhole.read_unread _ _) 5632 (by decide) _ k l).trans (hW k _))
  · have e1 : ((sl.v3191 (F := Ideal) c arg3 harg3 x2)) (ix2 k l) = arg3.view.readAt (Elt Ideal) (Rect.unit (s := S2048x6672) ![0, 5760] S2048x128.size inb_S2048x6672_S2048x128_0_5760).toLoadRect (harg3.unread x2) (ix2 k l) := by
      unfold sl.v3191
      rw [shapeCast_self]
    exact e1.trans ((cols arg3.view _ x2 (Memref.IsWhole.read_unread _ _) 5760 (by decide) _ k l).trans (hW k _))

theorem cols5888_at (hW : ∀ (k : Fin 2048) (n : Fin 6672), x2 (ix2 k n) = W k n.val) (r : Fin 256) (n : Fin 256) :
    (k0_pay2 (F := Ideal) (sl.v3281 (F := Ideal) c arg1 harg1 arg2 harg2 arg3 harg3 x0 x1 x2)) (ix2 r n) = ∑ k, hrow x0 x1 r k * W k (5888 + n.val) := by
  have e : (k0_pay2 (F := Ideal) (sl.v3281 (F := Ideal) c arg1 harg1 arg2 harg2 arg3 harg3 x0 x1 x2)) (ix2 r n) = ((sl.v3281 (F := Ideal) c arg1 harg1 arg2 harg2 arg3 harg3 x0 x1 x2)) (ix2 r n) := by pointwise [k0_pay2]
  rw [e]
  refine (dot256 _ _ r n).trans (Finset.sum_congr rfl fun k _ => congrArg₂ (· * ·) (row_at r k) ?_)
  refine cat _ _ _ k n (W k) 5888 (fun l => ?_) (fun l => ?_)
  · have e1 : ((sl.v3277 (F := Ideal) c arg3 harg3 x2)) (ix2 k l) = arg3.view.readAt (Elt Ideal) (Rect.unit (s := S2048x6672) ![0, 5888] S2048x128.size inb_S2048x6672_S2048x128_0_5888).toLoadRect (harg3.unread x2) (ix2 k l) := by
      unfold sl.v3277
      rw [shapeCast_self]
    exact e1.trans ((cols arg3.view _ x2 (Memref.IsWhole.read_unread _ _) 5888 (by decide) _ k l).trans (hW k _))
  · have e1 : ((sl.v3279 (F := Ideal) c arg3 harg3 x2)) (ix2 k l) = arg3.view.readAt (Elt Ideal) (Rect.unit (s := S2048x6672) ![0, 6016] S2048x128.size inb_S2048x6672_S2048x128_0_6016).toLoadRect (harg3.unread x2) (ix2 k l) := by
      unfold sl.v3279
      rw [shapeCast_self]
    exact e1.trans ((cols arg3.view _ x2 (Memref.IsWhole.read_unread _ _) 6016 (by decide) _ k l).trans (hW k _))

theorem cols6144_at (hW : ∀ (k : Fin 2048) (n : Fin 6672), x2 (ix2 k n) = W k n.val) (r : Fin 256) (n : Fin 256) :
    (k0_pay3 (F := Ideal) (sl.v3498 (F := Ideal) c arg1 harg1 arg2 harg2 arg3 harg3 x0 x1 x2)) (ix2 r n) = ∑ k, hrow x0 x1 r k * W k (6144 + n.val) := by
  have e : (k0_pay3 (F := Ideal) (sl.v3498 (F := Ideal) c arg1 harg1 arg2 harg2 arg3 harg3 x0 x1 x2)) (ix2 r n) = ((sl.v3498 (F := Ideal) c arg1 harg1 arg2 harg2 arg3 harg3 x0 x1 x2)) (ix2 r n) := by pointwise [k0_pay3]
  rw [e]
  refine (dot256 _ _ r n).trans (Finset.sum_congr rfl fun k _ => congrArg₂ (· * ·) (row_at r k) ?_)
  refine cat _ _ _ k n (W k) 6144 (fun l => ?_) (fun l => ?_)
  · have e1 : ((sl.v3494 (F := Ideal) c arg3 harg3 x2)) (ix2 k l) = arg3.view.readAt (Elt Ideal) (Rect.unit (s := S2048x6672) ![0, 6144] S2048x128.size inb_S2048x6672_S2048x128_0_6144).toLoadRect (harg3.unread x2) (ix2 k l) := by
      unfold sl.v3494
      rw [shapeCast_self]
    exact e1.trans ((cols arg3.view _ x2 (Memref.IsWhole.read_unread _ _) 6144 (by decide) _ k l).trans (hW k _))
  · have e1 : ((sl.v3496 (F := Ideal) c arg3 harg3 x2)) (ix2 k l) = arg3.view.readAt (Elt Ideal) (Rect.unit (s := S2048x6672) ![0, 6272] S2048x128.size inb_S2048x6672_S2048x128_0_6272).toLoadRect (harg3.unread x2) (ix2 k l) := by
      unfold sl.v3496
      rw [shapeCast_self]
    exact e1.trans ((cols arg3.view _ x2 (Memref.IsWhole.read_unread _ _) 6272 (by decide) _ k l).trans (hW k _))

theorem cols6400_at (hW : ∀ (k : Fin 2048) (n : Fin 6672), x2 (ix2 k n) = W k n.val) (r : Fin 256) (n : Fin 256) :
    (k0_pay4 (F := Ideal) (sl.v3715 (F := Ideal) c arg1 harg1 arg2 harg2 arg3 harg3 x0 x1 x2)) (ix2 r n) = ∑ k, hrow x0 x1 r k * W k (6400 + n.val) := by
  have e : (k0_pay4 (F := Ideal) (sl.v3715 (F := Ideal) c arg1 harg1 arg2 harg2 arg3 harg3 x0 x1 x2)) (ix2 r n) = ((sl.v3715 (F := Ideal) c arg1 harg1 arg2 harg2 arg3 harg3 x0 x1 x2)) (ix2 r n) := by pointwise [k0_pay4]
  rw [e]
  refine (dot256 _ _ r n).trans (Finset.sum_congr rfl fun k _ => congrArg₂ (· * ·) (row_at r k) ?_)
  refine cat _ _ _ k n (W k) 6400 (fun l => ?_) (fun l => ?_)
  · have e1 : ((sl.v3711 (F := Ideal) c arg3 harg3 x2)) (ix2 k l) = arg3.view.readAt (Elt Ideal) (Rect.unit (s := S2048x6672) ![0, 6400] S2048x128.size inb_S2048x6672_S2048x128_0_6400).toLoadRect (harg3.unread x2) (ix2 k l) := by
      unfold sl.v3711
      rw [shapeCast_self]
    exact e1.trans ((cols arg3.view _ x2 (Memref.IsWhole.read_unread _ _) 6400 (by decide) _ k l).trans (hW k _))
  · have e1 : ((sl.v3713 (F := Ideal) c arg3 harg3 x2)) (ix2 k l) = arg3.view.readAt (Elt Ideal) (Rect.unit (s := S2048x6672) ![0, 6528] S2048x128.size inb_S2048x6672_S2048x128_0_6528).toLoadRect (harg3.unread x2) (ix2 k l) := by
      unfold sl.v3713
      rw [shapeCast_self]
    exact e1.trans ((cols arg3.view _ x2 (Memref.IsWhole.read_unread _ _) 6528 (by decide) _ k l).trans (hW k _))

theorem cols6656_at (hS : ∀ (k : Fin 2048) (n : Fin 128), n.val < 16 → xs6 (ix2 k n) = W k (6656 + n.val)) (r : Fin 256) (n : Fin 128) (hn : n.val < 16) :
    (k0_pay5 (F := Ideal) (sl.v3928 (F := Ideal) c arg1 harg1 arg2 harg2 arg26 harg26 x0 x1 xs6)) (ix2 r n) = ∑ k, hrow x0 x1 r k * W k (6656 + n.val) := by
  have e : (k0_pay5 (F := Ideal) (sl.v3928 (F := Ideal) c arg1 harg1 arg2 harg2 arg26 harg26 x0 x1 xs6)) (ix2 r n) = ((sl.v3928 (F := Ideal) c arg1 harg1 arg2 harg2 arg26 harg26 x0 x1 xs6)) (ix2 r n) := by pointwise [k0_pay5]
  rw [e]
  refine (dot128 _ _ r n).trans (Finset.sum_congr rfl fun k _ => congrArg₂ (· * ·) (row_at r k) ?_)
  exact (load2 arg26.view _ 2048 128 0 0 _ k n).trans (by rw [Memref.IsWhole.read_unread]; exact (congrArg xs6 (congrArg₂ ix2 (Fin.ext (Nat.zero_add k.val)) (Fin.ext (Nat.zero_add n.val)))).trans (hS k n hn))

end

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6672 .bf16) (harg3 : arg3.IsWhole) (arg4 : Memref sig .tc .vmem S2x1024 .f32) (harg4 : arg4.IsWhole) (arg5 : Memref sig .tc .vmem S1x1024 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S32x5632 .f32) (harg12 : arg12.IsWhole) (arg13 : Memref sig .tc .vmem S32x5632 .f32) (harg13 : arg13.IsWhole) (arg14 : Memref sig .tc .vmem S32x2048 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S32x5632 .bf16) (harg17 : arg17.IsWhole) (arg18 : Memref sig .tc .vmem S32x5632 .bf16) (harg18 : arg18.IsWhole) (arg19 : Memref sig .tc .vmem S32x2048 .bf16) (harg19 : arg19.IsWhole) (arg20 : Memref sig .tc .vmem S8x128x128 .f32) (harg20 : arg20.IsWhole) (arg21 : Memref sig .tc .vmem S128x128 .i32) (harg21 : arg21.IsWhole) (arg22 : Memref sig .tc .vmem S1x1024 .f32) (harg22 : arg22.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (arg26 : Memref sig .tc .vmem S2048x128 .bf16) (harg26 : arg26.IsWhole) (hc0 : ¬cond0_0 i) (hc1 : ¬cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32) (xs0 : Vec Ideal S8x128x128 .f32) (xs1 : Vec Ideal S128x128 .i32) (xs2 : Vec Ideal S1x1024 .f32) (xs3 : Vec Ideal S12x264x128 .f32) (xs4 : Vec Ideal S2x128x512 .f32) (xs5 : Vec Ideal S256x6784 .f32) (xs6 : Vec Ideal S2048x128 .bf16)

theorem proj_eq : ∃ L : List (View.Piece (Elt Ideal) S256x6784 .f32), (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6).2.2.2.2.2.2.2.2.2.2.1
    = ⟨Rect.unit (s := S256x6784) ![0, 6656] ![256, 128] inb_S256x6784_S256x128_0_6656, k0_pay5 (F := Ideal) (sl.v3928 (F := Ideal) c arg1 harg1 arg2 harg2 arg26 harg26 x0 x1 xs6)⟩ ::
      ⟨Rect.unit (s := S256x6784) ![0, 6400] ![256, 256] inb_S256x6784_S256x256_0_6400, k0_pay4 (F := Ideal) (sl.v3715 (F := Ideal) c arg1 harg1 arg2 harg2 arg3 harg3 x0 x1 x2)⟩ ::
      ⟨Rect.unit (s := S256x6784) ![0, 6144] ![256, 256] inb_S256x6784_S256x256_0_6144, k0_pay3 (F := Ideal) (sl.v3498 (F := Ideal) c arg1 harg1 arg2 harg2 arg3 harg3 x0 x1 x2)⟩ ::
      ⟨Rect.unit (s := S256x6784) ![0, 5888] ![256, 256] inb_S256x6784_S256x256_0_5888, k0_pay2 (F := Ideal) (sl.v3281 (F := Ideal) c arg1 harg1 arg2 harg2 arg3 harg3 x0 x1 x2)⟩ ::
      ⟨Rect.unit (s := S256x6784) ![0, 5632] ![256, 256] inb_S256x6784_S256x256_0_5632, k0_pay1 (F := Ideal) (sl.v3193 (F := Ideal) c arg1 harg1 arg2 harg2 arg3 harg3 x0 x1 x2)⟩ ::
      ⟨Rect.unit (s := S256x6784) ![0, 5376] ![256, 256] inb_S256x6784_S256x256_0_5376, (sl.r_192 (F := Ideal) c arg1 harg1 arg2 harg2 arg3 harg3 x0 x1 x2)⟩ ::
      ⟨Rect.unit (s := S256x6784) ![0, 5120] ![256, 256] inb_S256x6784_S256x256_0_5120, k0_pay743 (F := Ideal) (sl.v3013 (F := Ideal) c arg1 harg1 arg2 harg2 arg3 harg3 x0 x1 x2)⟩ ::
      ⟨Rect.unit (s := S256x6784) ![0, 4864] ![256, 256] inb_S256x6784_S256x256_0_4864, k0_pay742 (F := Ideal) (sl.v2616 (F := Ideal) c arg1 harg1 arg2 harg2 arg3 harg3 x0 x1 x2)⟩ ::
      ⟨Rect.unit (s := S256x6784) ![0, 4608] ![256, 256] inb_S256x6784_S256x256_0_4608, (sl.v4452 (F := Ideal) c arg1 harg1 arg2 harg2 arg3 harg3 x0 x1 x2)⟩ ::
      ⟨Rect.unit (s := S256x6784) ![0, 4352] ![256, 256] inb_S256x6784_S256x256_0_4352, (sl.v4449 (F := Ideal) c arg1 harg1 arg2 harg2 arg3 harg3 x0 x1 x2)⟩ ::
      ⟨Rect.unit (s := S256x6784) ![0, 4096] ![256, 256] inb_S256x6784_S256x256_0_4096, (sl.v4446 (F := Ideal) c arg1 harg1 arg2 harg2 arg3 harg3 x0 x1 x2)⟩ :: L := ⟨_, rfl⟩

/-- The projection that the point leaves. -/
theorem proj_at (W : Fin 2048 → ℕ → EReal) (hW : ∀ (k : Fin 2048) (n : Fin 6672), x2 (ix2 k n) = W k n.val) (hS : ∀ (k : Fin 2048) (n : Fin 128), n.val < 16 → xs6 (ix2 k n) = W k (6656 + n.val)) (r : Fin 256) (n : Fin 6784) (h1 : 4096 ≤ n.val) (h2 : n.val < 6672) (v : View sig .tc .vmem S256x6784 .f32) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6).2.2.2.2.2.2.2.2.2.2.1) (ix2 r n) = ∑ k, hrow x0 x1 r k * W k n.val := by
  refine Exists.elim (proj_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6) fun L e => ?_
  refine (congrArg (fun Q => v.read (Elt Ideal) (v.writes (Elt Ideal) f Q) (ix2 r n)) e).trans ?_
  exact stored v f L (fun r n => ∑ k, hrow x0 x1 r k * W k n) _ _ _ _ _ _ _ _ _ _ _ (cols4096_at hW) (cols4352_at hW) (cols4608_at hW) (cols4864_at hW) (cols5120_at hW) (cols5376_at hW) (cols5632_at hW) (cols5888_at hW) (cols6144_at hW) (cols6400_at hW)
    (cols6656_at hS) r n h1 h2

end Cert.MixerIdeal.Gen.kernelRun0_C

end
-- ==== Proof.SsdPointC.lean ====
module

public import proofs.«01_k».proof.Proof.SsdRunC
public import proofs.«01_k».proof.Proof.SsdEqC
public import proofs.«01_k».proof.Proof.SsdProjC

/-!
# What any other point leaves
-/

@[expose] public section

set_option maxRecDepth 65536

noncomputable section

namespace Cert.MixerIdeal.Gen.kernelRun0_C

open Cert.MixerIdeal Cert.MixerIdeal.Gen Cert.MixerIdeal.XBuf Cert.MixerIdeal.Terms Cert.MixerIdeal.Proj Cert.Ssd Cert.RowNorm
open Idealize.ShloMosaic Idealize.ShloMosaic.TcCoe

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6672 .bf16) (harg3 : arg3.IsWhole) (arg4 : Memref sig .tc .vmem S2x1024 .f32) (harg4 : arg4.IsWhole) (arg5 : Memref sig .tc .vmem S1x1024 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S32x5632 .f32) (harg12 : arg12.IsWhole) (arg13 : Memref sig .tc .vmem S32x5632 .f32) (harg13 : arg13.IsWhole) (arg14 : Memref sig .tc .vmem S32x2048 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S32x5632 .bf16) (harg17 : arg17.IsWhole) (arg18 : Memref sig .tc .vmem S32x5632 .bf16) (harg18 : arg18.IsWhole) (arg19 : Memref sig .tc .vmem S32x2048 .bf16) (harg19 : arg19.IsWhole) (arg20 : Memref sig .tc .vmem S8x128x128 .f32) (harg20 : arg20.IsWhole) (arg21 : Memref sig .tc .vmem S128x128 .i32) (harg21 : arg21.IsWhole) (arg22 : Memref sig .tc .vmem S1x1024 .f32) (harg22 : arg22.IsWhole) (arg23 : Memref sig .tc .vmem S12x264x128 .f32) (harg23 : arg23.IsWhole) (arg24 : Memref sig .tc .vmem S2x128x512 .f32) (harg24 : arg24.IsWhole) (arg25 : Memref sig .tc .vmem S256x6784 .f32) (harg25 : arg25.IsWhole) (arg26 : Memref sig .tc .vmem S2048x128 .bf16) (harg26 : arg26.IsWhole) (hc0 : ¬cond0_0 i) (hc1 : ¬cond0_1 i) (x0 : Vec Ideal S256x2048 .f32) (x1 : Vec Ideal S1x2048 .f32) (x2 : Vec Ideal S2048x6672 .bf16) (x3 : Vec Ideal S2x1024 .f32) (x4 : Vec Ideal S1x1024 .f32) (x5 : Vec Ideal S4x1536 .f32) (x6 : Vec Ideal S1x1536 .f32) (x7 : Vec Ideal S1x128 .f32) (x8 : Vec Ideal S1x128 .f32) (x9 : Vec Ideal S1x1024 .f32) (x10 : Vec Ideal S1x1024 .f32) (x11 : Vec Ideal S32x5632 .f32) (x12 : Vec Ideal S32x5632 .f32) (x13 : Vec Ideal S32x2048 .f32) (xs0 : Vec Ideal S8x128x128 .f32) (xs1 : Vec Ideal S128x128 .i32) (xs2 : Vec Ideal S1x1024 .f32) (xs3 : Vec Ideal S12x264x128 .f32) (xs4 : Vec Ideal S2x128x512 .f32) (xs5 : Vec Ideal S256x6784 .f32) (xs6 : Vec Ideal S2048x128 .bf16) (I : In) (b j : ℕ)

/-- The projection of the chunk that the point is given. -/
theorem pj_next (hx0 : ∀ (r : Fin 256) (k : Fin 2048), x0 (ix2 r k) = I.x b (256 * j + r.val) k) (hx1 : ∀ k : Fin 2048, x1 (ix2 0 k) = I.pw k) (hW : ∀ (k : Fin 2048) (n : Fin 6672), x2 (ix2 k n) = I.w k n.val) (hS : ∀ (k : Fin 2048) (n : Fin 128), n.val < 16 → xs6 (ix2 k n) = I.w k (6656 + n.val)) (v : View sig .tc .vmem S256x6784 .f32) (f : v.ty.Contents (Elt Ideal)) :
    PjOk I b j (v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6).2.2.2.2.2.2.2.2.2.2.1)) := fun r q hq =>
  (proj_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6 I.w hW hS r ⟨4096 + q.val, by omega⟩ (by dsimp only; omega) (by dsimp only; omega) v f).trans (hrow_sum hx0 hx1 r _)

/-- The rows of the branch's output. -/
theorem out_at (hj : True) (hpj : PjOk I b j xs5) (A : Args I x5 x6 x7 x8 x9 x10) (hhd : HeadOk I b j xs3) (hst : StateOk I b j xs4) (hI : I.Real) (v : View sig .tc .vmem S256x1024 .bf16) (f : v.ty.Contents (Elt Ideal)) (r : Fin 256) (n : Fin 1024) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6).2.1) (ix2 r n) = I.res b (256 * j + r.val) n.val := by
  refine (congrArg (fun Q => v.read (Elt Ideal) (v.writes (Elt Ideal) f Q) (ix2 r n)) (out_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6)).trans ?_
  by_cases h : n.val < 512
  · refine (out2 v f 256 512 0 512 _ _ _ r n (by omega)).trans ((in2 v f 256 512 0 0 _ _ [] r n (by omega) (by omega)).trans ?_)
    exact Eq.trans (congrArg _ (congrArg₂ ix2 (Fin.ext (Nat.sub_zero r.val)) (Fin.ext (Nat.sub_zero n.val)))) (v1000_at (good hj hpj A hhd hst) hI r ⟨n.val, h⟩)
  · refine (in2 v f 256 512 0 512 _ _ _ r n (by omega) (by omega)).trans ?_
    refine Eq.trans (congrArg _ (congrArg₂ ix2 (Fin.ext (Nat.sub_zero r.val)) rfl)) ((v1204_at (good hj hpj A hhd hst) hI r ⟨n.val - 512, by omega⟩).trans ?_)
    exact congrArg _ (by dsimp only; omega)

/-- The state after the chunk. -/
theorem state_at (hj : True) (hpj : PjOk I b j xs5) (A : Args I x5 x6 x7 x8 x9 x10) (hhd : HeadOk I b j xs3) (hst : StateOk I b j xs4) (hI : I.Real) (v : View sig .tc .vmem S2x128x512 .f32) (f : v.ty.Contents (Elt Ideal)) :
    StateOk I b (j + 1) (v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6).2.2.2.2.2.2.2.2.2.1)) := by
  intro g n k
  refine (congrArg (fun Q => v.read (Elt Ideal) (v.writes (Elt Ideal) f Q) (ix3 g n k)) (state_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6)).trans ?_
  by_cases h : g.val = 0
  · have hg : g = 0 := Fin.ext h
    subst hg
    refine (out3 v f 1 128 512 1 0 0 _ _ _ 0 n k (Or.inl (Or.inl (by decide)))).trans ((in3 v f 1 128 512 0 0 0 _ _ _ 0 n k (by decide) (by omega) (by omega)).trans ?_)
    refine Eq.trans (congrArg _ (congrArg₂ (ix3 (0 : Fin 1)) (Fin.ext (Nat.sub_zero n.val)) (Fin.ext (Nat.sub_zero k.val)))) ((v975_at (good hj hpj A hhd hst) hI n k).trans ?_)
    rw [show 512 * (0 : Fin 2).val + k.val = k.val from Nat.zero_add _]
    rfl
  · have hg : g = 1 := Fin.ext (by show g.val = 1; omega)
    subst hg
    refine (in3 v f 1 128 512 1 0 0 _ _ _ 1 n k (by decide) (by omega) (by omega)).trans ?_
    exact Eq.trans (congrArg _ (congrArg₂ (ix3 (0 : Fin 1)) (Fin.ext (Nat.sub_zero n.val)) (Fin.ext (Nat.sub_zero k.val)))) (v1179_at (good hj hpj A hhd hst) hI n k)

section

variable {c : Dev nD} {arg23 : Memref sig .tc .vmem S12x264x128 .f32} {arg25 : Memref sig .tc .vmem S256x6784 .f32} {harg25 : arg25.IsWhole} {xs5 : Vec Ideal S256x6784 .f32}
  {I : In} {b j : ℕ} (hj : True) (hpj : PjOk I b j xs5)

include hj hpj

theorem keep12_at (d : Fin 8) (l : Fin 128) : (k0_pay90 (F := Ideal) (sl.v606 (F := Ideal) c arg23 arg25 harg25 xs5)) (ix3 0 d l) = I.pre b (256 * j + (256 + d.val)) (1408 + l.val) := by
  have e : (k0_pay90 (F := Ideal) (sl.v606 (F := Ideal) c arg23 arg25 harg25 xs5)) (ix3 0 d l) = (sl.v606 (F := Ideal) c arg23 arg25 harg25 xs5) (ix3 0 d l) := by
    pointwise [k0_pay90]
  exact e.trans ((filled11 (hd := False) hj hpj arg23.view.junk (fun h => h.elim)).tail (by decide) _ d l)

end

/-- The taps' first rows for the next chunk. -/
theorem head_at (hj : True) (hpj : PjOk I b j xs5) (f : arg23.view.ty.Contents (Elt Ideal)) :
    HeadOk I b (j + 1) (arg23.view.read (Elt Ideal) (arg23.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6).2.2.2.2.2.2.2.2.1)) := by
  intro s d l h8
  refine (congrArg (fun Q => arg23.view.read (Elt Ideal) (arg23.view.writes (Elt Ideal) f Q) (ix3 s d l)) (buf_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 xs0 xs1 xs2 xs3 xs4 xs5 xs6)).trans ?_
  refine ((filled11 (hd := False) hj hpj f (fun h => h.elim)).last _ _ (keep12_at (arg23 := arg23) (harg25 := harg25) hj hpj) s d l h8).trans ?_
  exact congrArg₂ (I.pre b) (by omega) rfl

end Cert.MixerIdeal.Gen.kernelRun0_C

end
-- ==== Proof.SsdHost.lean ====
module

public import proofs.«01_k».proof.Proof.Gen.MixerIdeal.Value
import Idealize.ShloMosaic.Lib.Pipeline.ValueKit
import Idealize.ShloMosaic.Lib.Pointwise
public import Idealize.ShloMosaic.Lib.Pointwise.Index

/-! # The mixer's operands as the kernel is entered

What the host operations before the kernel leave in the buffers it reads, at an index. -/

@[expose] public section

set_option maxRecDepth 16384

noncomputable section

namespace Cert.MixerIdeal.Ssd

open Idealize.ShloMosaic Idealize.ShloMosaic.TcCoe Idealize.SL.Sem Cert.MixerIdeal Cert.MixerIdeal.Gen

variable (m : (ℓ : Loc nD τ sig) → Buf (Elt Ideal) ℓ) (c : Dev nD)

theorem V0 (i : Fin 16384) (k : Fin 2048) : V m c main_v0 (ix2 i k)
    = m ((c : Thread nD τ).loc main_arg0) (ix3 ⟨i.val / 8192, by omega⟩ ⟨i.val % 8192, by omega⟩ k) := by
  simp only [V, hostOps0, hostOps0_1, hostOps0_2, hostOps0_3, hostOps0_4, List.flatten_cons, List.flatten_nil, List.append_nil, List.cons_append, List.nil_append]
  entry_read
  refine shapeCast_apply _ shapeCasts_S2x8192x2048_S16384x2048 (ix2 i k) (ix3 ⟨i.val / 8192, by omega⟩ ⟨i.val % 8192, by omega⟩ k) ?_
  rw [Shape.rowMajor_val_three, Shape.rowMajor_val_two]
  show (i.val / 8192 * 8192 + i.val % 8192) * 2048 + k.val = i.val * 2048 + k.val
  rw [Nat.div_add_mod']

theorem V2 (k : Fin 2048) : V m c main_v2 (ix2 0 k) = m ((c : Thread nD τ).loc main_arg1) (ix2 0 k) := by
  simp only [V, hostOps0, hostOps0_1, hostOps0_2, hostOps0_3, hostOps0_4, List.flatten_cons, List.flatten_nil, List.append_nil, List.cons_append, List.nil_append]
  entry_read
  pointwise

theorem V4 (k : Fin 2048) (n : Fin 6672) : V m c main_v4 (ix2 k n) = m ((c : Thread nD τ).loc main_arg2) (ix3 0 k n) := by
  simp only [V, hostOps0, hostOps0_1, hostOps0_2, hostOps0_3, hostOps0_4, List.flatten_cons, List.flatten_nil, List.append_nil, List.cons_append, List.nil_append]
  entry_read
  pointwise

theorem V12 (h : Fin 128) (hh : h.val < 16) : V m c main_v12 (ix2 0 h) = m ((c : Thread nD τ).loc main_arg6) (ix2 0 ⟨h.val, hh⟩) := by
  simp only [V, hostOps0, hostOps0_1, hostOps0_2, hostOps0_3, hostOps0_4, List.flatten_cons, List.flatten_nil, List.append_nil, List.cons_append, List.nil_append]
  entry_read
  pointwise
  show pad S128 ![0] ![112] ![0] (fun i : S16.Idx => m (c, Proc.tc.devRef main_arg6) (ix2 0 (i 0))) (sitofp (F := Ideal) FTy.f32 (constantI S_ 32 0#32))
    pads_S16_S128_01120 h_S_ (ix1 h) = _
  rw [pad_apply, dif_pos (fun a => match a with | 0 => ⟨Nat.zero_le _, Nat.mod_one _, by show (h.val - 0) / 1 < 16; omega⟩)]
  refine congrArg _ (funext fun a => ?_)
  match a with
  | 0 => rfl
  | 1 => exact Fin.ext (by show (h.val - 0) / 1 = h.val; omega)

theorem V15 (h : Fin 128) (hh : h.val < 16) : V m c main_v15 (ix2 0 h) = m ((c : Thread nD τ).loc main_arg7) (ix2 0 ⟨h.val, hh⟩) := by
  simp only [V, hostOps0, hostOps0_1, hostOps0_2, hostOps0_3, hostOps0_4, List.flatten_cons, List.flatten_nil, List.append_nil, List.cons_append, List.nil_append]
  entry_read
  pointwise
  show pad S128 ![0] ![112] ![0] (fun i : S16.Idx => m (c, Proc.tc.devRef main_arg7) (ix2 0 (i 0))) (sitofp (F := Ideal) FTy.f32 (constantI S_ 32 0#32))
    pads_S16_S128_01120 h_S_ (ix1 h) = _
  rw [pad_apply, dif_pos (fun a => match a with | 0 => ⟨Nat.zero_le _, Nat.mod_one _, by show (h.val - 0) / 1 < 16; omega⟩)]
  refine congrArg _ (funext fun a => ?_)
  match a with
  | 0 => rfl
  | 1 => exact Fin.ext (by show (h.val - 0) / 1 = h.val; omega)

theorem V19 (n : Fin 1024) : V m c main_v19 (ix2 0 n) = m ((c : Thread nD τ).loc main_arg8) (ix2 0 ⟨n.val / 64, by omega⟩) := by
  simp only [V, hostOps0, hostOps0_1, hostOps0_2, hostOps0_3, hostOps0_4, List.flatten_cons, List.flatten_nil, List.append_nil, List.cons_append, List.nil_append]
  entry_read
  pointwise

theorem V7 (k : Fin 4) (n : Fin 1536) : V m c main_v7 (ix2 k n) = m ((c : Thread nD τ).loc main_arg4) (ix3 0 k n) := by
  simp only [V, hostOps0, hostOps0_1, hostOps0_2, hostOps0_3, hostOps0_4, List.flatten_cons, List.flatten_nil, List.append_nil, List.cons_append, List.nil_append]
  entry_read
  pointwise

theorem V9 (n : Fin 1536) : V m c main_v9 (ix2 0 n) = m ((c : Thread nD τ).loc main_arg5) (ix2 0 n) := by
  simp only [V, hostOps0, hostOps0_1, hostOps0_2, hostOps0_3, hostOps0_4, List.flatten_cons, List.flatten_nil, List.append_nil, List.cons_append, List.nil_append]
  entry_read
  pointwise

theorem V21 (n : Fin 1024) : V m c main_v21 (ix2 0 n) = m ((c : Thread nD τ).loc main_arg10) (ix2 0 n) := by
  simp only [V, hostOps0, hostOps0_1, hostOps0_2, hostOps0_3, hostOps0_4, List.flatten_cons, List.flatten_nil, List.append_nil, List.cons_append, List.nil_append]
  entry_read
  pointwise

end Cert.MixerIdeal.Ssd
-- ==== Proof.SsdInput.lean ====
module

public import proofs.«01_k».proof.Proof.SsdRows
import Idealize.ShloMosaic.Lib.Pointwise
public import Idealize.ShloMosaic.Lib.Pointwise.Index

/-! # The mixer's operands as the recurrence's inputs

`Is` says that operands of the printed shapes hold a recurrence's inputs; `input` is the recurrence of given operands. -/

@[expose] public section

noncomputable section

namespace Cert.Ssd

open Idealize.ShloMosaic

/-- The operands that the recurrence reads hold its inputs. -/
structure Is (I : In) (x0 : (⟨3, ![2, 8192, 2048]⟩ : Shape).Idx → EReal) (x1 : (⟨2, ![1, 2048]⟩ : Shape).Idx → EReal)
    (x2 : (⟨3, ![1, 2048, 6672]⟩ : Shape).Idx → EReal) (x4 : (⟨3, ![1, 4, 1536]⟩ : Shape).Idx → EReal)
    (x5 : (⟨2, ![1, 1536]⟩ : Shape).Idx → EReal) (x6 x7 x8 : (⟨2, ![1, 16]⟩ : Shape).Idx → EReal)
    (x10 : (⟨2, ![1, 1024]⟩ : Shape).Idx → EReal) : Prop where
  x : ∀ (b : Fin 2) (l : Fin 8192) (k : Fin 2048), x0 (ix3 b l k) = I.x b.val l.val k
  pw : ∀ k : Fin 2048, x1 (ix2 0 k) = I.pw k
  w : ∀ (k : Fin 2048) (n : Fin 6672), x2 (ix3 0 k n) = I.w k n.val
  cw : ∀ (k : Fin 4) (c : Fin 1536), x4 (ix3 0 k c) = I.cw k.val c.val
  cb : ∀ c : Fin 1536, x5 (ix2 0 c) = I.cb c.val
  dtb : ∀ h : Fin 16, x6 (ix2 0 h) = I.dtb h.val
  al : ∀ h : Fin 16, x7 (ix2 0 h) = I.al h.val
  ds : ∀ h : Fin 16, x8 (ix2 0 h) = I.ds h.val
  nw : ∀ c : Fin 1024, x10 (ix2 0 c) = I.nw c.val

/-- The recurrence of given operands: outside their ranges its inputs are zero. -/
def input (x0 : (⟨3, ![2, 8192, 2048]⟩ : Shape).Idx → EReal) (x1 : (⟨2, ![1, 2048]⟩ : Shape).Idx → EReal)
    (x2 : (⟨3, ![1, 2048, 6672]⟩ : Shape).Idx → EReal) (x4 : (⟨3, ![1, 4, 1536]⟩ : Shape).Idx → EReal)
    (x5 : (⟨2, ![1, 1536]⟩ : Shape).Idx → EReal) (x6 x7 x8 : (⟨2, ![1, 16]⟩ : Shape).Idx → EReal)
    (x10 : (⟨2, ![1, 1024]⟩ : Shape).Idx → EReal) : In where
  x b l k := if h : b < 2 ∧ l < 8192 then x0 (ix3 ⟨b, h.1⟩ ⟨l, h.2⟩ k) else 0
  pw k := x1 (ix2 0 k)
  w k n := if h : n < 6672 then x2 (ix3 0 k ⟨n, h⟩) else 0
  cw k c := if h : k < 4 ∧ c < 1536 then x4 (ix3 0 ⟨k, h.1⟩ ⟨c, h.2⟩) else 0
  cb c := if h : c < 1536 then x5 (ix2 0 ⟨c, h⟩) else 0
  dtb n := if h : n < 16 then x6 (ix2 0 ⟨n, h⟩) else 0
  al n := if h : n < 16 then x7 (ix2 0 ⟨n, h⟩) else 0
  ds n := if h : n < 16 then x8 (ix2 0 ⟨n, h⟩) else 0
  nw c := if h : c < 1024 then x10 (ix2 0 ⟨c, h⟩) else 0

variable (x0 : (⟨3, ![2, 8192, 2048]⟩ : Shape).Idx → EReal) (x1 : (⟨2, ![1, 2048]⟩ : Shape).Idx → EReal)
    (x2 : (⟨3, ![1, 2048, 6672]⟩ : Shape).Idx → EReal) (x4 : (⟨3, ![1, 4, 1536]⟩ : Shape).Idx → EReal)
    (x5 : (⟨2, ![1, 1536]⟩ : Shape).Idx → EReal) (x6 x7 x8 : (⟨2, ![1, 16]⟩ : Shape).Idx → EReal)
    (x10 : (⟨2, ![1, 1024]⟩ : Shape).Idx → EReal)

theorem input_is : Is (input x0 x1 x2 x4 x5 x6 x7 x8 x10) x0 x1 x2 x4 x5 x6 x7 x8 x10 where
  x b l k := by
    show _ = dite _ _ _
    rw [dif_pos (⟨b.isLt, l.isLt⟩ : b.val < 2 ∧ l.val < 8192)]
  pw k := rfl
  w k n := by
    show _ = dite _ _ _
    rw [dif_pos n.isLt]
  cw k c := by
    show _ = dite _ _ _
    rw [dif_pos (⟨k.isLt, c.isLt⟩ : k.val < 4 ∧ c.val < 1536)]
  cb c := by
    show _ = dite _ _ _
    rw [dif_pos c.isLt]
  dtb h := by
    show _ = dite _ _ _
    rw [dif_pos h.isLt]
  al h := by
    show _ = dite _ _ _
    rw [dif_pos h.isLt]
  ds h := by
    show _ = dite _ _ _
    rw [dif_pos h.isLt]
  nw c := by
    show _ = dite _ _ _
    rw [dif_pos c.isLt]

theorem IsReal.dite {p : Prop} [Decidable p] {f : p → EReal} (h : ∀ q, IsReal (f q)) : IsReal (if q : p then f q else 0) := by
  by_cases q : p
  · rw [dif_pos q]; exact h q
  · rw [dif_neg q]; exact IsReal.zero

/-- Operands of real numbers are inputs of real numbers. -/
theorem input_real (h0 : ∀ i, IsReal (x0 i)) (h1 : ∀ i, IsReal (x1 i)) (h2 : ∀ i, IsReal (x2 i)) (h4 : ∀ i, IsReal (x4 i))
    (h5 : ∀ i, IsReal (x5 i)) (h6 : ∀ i, IsReal (x6 i)) (h7 : ∀ i, IsReal (x7 i)) :
    (input x0 x1 x2 x4 x5 x6 x7 x8 x10).Real where
  x b l k := IsReal.dite fun _ => h0 _
  pw k := h1 _
  w k n := IsReal.dite fun _ => h2 _
  cw k c := IsReal.dite fun _ => h4 _
  cb c := IsReal.dite fun _ => h5 _
  dtb h := IsReal.dite fun _ => h6 _
  al h := IsReal.dite fun _ => h7 _

end Cert.Ssd
-- ==== Proof.SsdBlocks.lean ====
module

public import proofs.«01_k».proof.Proof.SsdHost
public import proofs.«01_k».proof.Proof.SsdArgs
public import proofs.«01_k».proof.Proof.SsdInput
import Idealize.ShloMosaic.Lib.Pipeline.ValueKit
import Idealize.ShloMosaic.Lib.Pointwise

/-! # The mixer's blocks at a grid point

What the kernel's input windows hold at a grid point: the rows of one chunk, and the whole of each weight. -/

@[expose] public section

set_option maxRecDepth 16384

noncomputable section

namespace Cert.MixerIdeal.Ssd

open Idealize.ShloMosaic Idealize.ShloMosaic.TcCoe Idealize.SL.Sem Cert.Ssd Cert.MixerIdeal Cert.MixerIdeal.Gen

variable (m : (ℓ : Loc nD τ sig) → Buf (Elt Ideal) ℓ)

theorem idx (t : Fin grid0.N) : win0_0.index t = ![min t.val 63, 0] ∧ win0_1.index t = ![0, 0] ∧ win0_2.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_15.index t = ![t.val - 1, 0] := by
  revert t
  decide +kernel

variable (c : Dev nD) (t : Fin grid0.N)

theorem blk0 (ht : t.val ≤ 63) (r : Fin 256) (k : Fin 2048) :
    iblk m c 0 t (ix2 r k) = m ((c : Thread nD τ).loc main_arg0) (ix3 ⟨t.val / 32, by omega⟩ ⟨256 * (t.val % 32) + r.val, by omega⟩ k) := by
  have e : min t.val 63 = t.val := by omega
  show V m c main_v0 ((win0_0.blk t).view.emb (ix2 r k)) = _
  rw [show (win0_0.blk t).view.emb (ix2 r k) = ix2 ⟨256 * t.val + r.val, by omega⟩ k from by blk_ext [idx t, e]]
  refine (V0 m c _ _).trans (congrArg _ (funext fun a => match a with
    | 0 => Fin.ext (by show (256 * t.val + r.val) / 8192 = t.val / 32; omega)
    | 1 => Fin.ext (by show (256 * t.val + r.val) % 8192 = 256 * (t.val % 32) + r.val; omega)
    | 2 => rfl))

theorem blk1 (k : Fin 2048) : iblk m c 1 t (ix2 0 k) = m ((c : Thread nD τ).loc main_arg1) (ix2 0 k) := by
  show V m c main_v2 ((win0_1.blk t).view.emb (ix2 0 k)) = _
  rw [show (win0_1.blk t).view.emb (ix2 0 k) = ix2 0 k from by blk_ext [idx t]]
  exact V2 m c _

theorem blk2 (k : Fin 2048) (n : Fin 6672) : iblk m c 2 t (ix2 k n) = m ((c : Thread nD τ).loc main_arg2) (ix3 0 k n) := by
  show V m c main_v4 ((win0_2.blk t).view.emb (ix2 k n)) = _
  rw [show (win0_2.blk t).view.emb (ix2 k n) = ix2 k n from by blk_ext [idx t]]
  exact V4 m c _ _

theorem blk5 (k : Fin 4) (n : Fin 1536) : iblk m c 5 t (ix2 k n) = m ((c : Thread nD τ).loc main_arg4) (ix3 0 k n) := by
  show V m c main_v7 ((win0_5.blk t).view.emb (ix2 k n)) = _
  rw [show (win0_5.blk t).view.emb (ix2 k n) = ix2 k n from by blk_ext [idx t]]
  exact V7 m c _ _

theorem blk6 (n : Fin 1536) : iblk m c 6 t (ix2 0 n) = m ((c : Thread nD τ).loc main_arg5) (ix2 0 n) := by
  show V m c main_v9 ((win0_6.blk t).view.emb (ix2 0 n)) = _
  rw [show (win0_6.blk t).view.emb (ix2 0 n) = ix2 0 n from by blk_ext [idx t]]
  exact V9 m c _

theorem blk7 (h : Fin 128) (hh : h.val < 16) : iblk m c 7 t (ix2 0 h) = m ((c : Thread nD τ).loc main_arg6) (ix2 0 ⟨h.val, hh⟩) := by
  show V m c main_v12 ((win0_7.blk t).view.emb (ix2 0 h)) = _
  rw [show (win0_7.blk t).view.emb (ix2 0 h) = ix2 0 h from by blk_ext [idx t]]
  exact V12 m c h hh

theorem blk8 (h : Fin 128) (hh : h.val < 16) : iblk m c 8 t (ix2 0 h) = m ((c : Thread nD τ).loc main_arg7) (ix2 0 ⟨h.val, hh⟩) := by
  show V m c main_v15 ((win0_8.blk t).view.emb (ix2 0 h)) = _
  rw [show (win0_8.blk t).view.emb (ix2 0 h) = ix2 0 h from by blk_ext [idx t]]
  exact V15 m c h hh

theorem blk9 (n : Fin 1024) : iblk m c 9 t (ix2 0 n) = m ((c : Thread nD τ).loc main_arg8) (ix2 0 ⟨n.val / 64, by omega⟩) := by
  show V m c main_v19 ((win0_9.blk t).view.emb (ix2 0 n)) = _
  rw [show (win0_9.blk t).view.emb (ix2 0 n) = ix2 0 n from by blk_ext [idx t]]
  exact V19 m c _

theorem blk10 (n : Fin 1024) : iblk m c 10 t (ix2 0 n) = m ((c : Thread nD τ).loc main_arg10) (ix2 0 n) := by
  show V m c main_v21 ((win0_10.blk t).view.emb (ix2 0 n)) = _
  rw [show (win0_10.blk t).view.emb (ix2 0 n) = ix2 0 n from by blk_ext [idx t]]
  exact V21 m c _

end Cert.MixerIdeal.Ssd
-- ==== Proof.SsdValue.lean ====
module

public import proofs.«01_k».proof.Proof.SsdPointA
public import proofs.«01_k».proof.Proof.SsdPointB
public import proofs.«01_k».proof.Proof.SsdPointC
public import proofs.«01_k».proof.Proof.SsdBlocks

/-! # What the mixer's grid leaves in the branch's output

Point `t` of the grid projects chunk `t` and runs the recurrence over chunk `t - 1`. The invariant over the points says what
the carried buffers hold; the output array follows, a block for each point after the first. -/

@[expose] public section

set_option maxRecDepth 16384
set_option maxHeartbeats 1000000

noncomputable section

namespace Cert.MixerIdeal.Ssd

open Idealize.ShloMosaic Idealize.ShloMosaic.TcCoe Idealize.SL.Sem Cert.Ssd Cert.MixerIdeal Cert.MixerIdeal.Gen Cert.MixerIdeal.Terms

/-- What the carried buffers and the output's block hold after point `t`. -/
structure Inv (I : In) (t : ℕ) (o : Vec Ideal S256x1024 .bf16) (x3 : Vec Ideal S12x264x128 .f32) (x4 : Vec Ideal S2x128x512 .f32)
    (x5 : Vec Ideal S256x6784 .f32) (x6 : Vec Ideal S2048x128 .bf16) : Prop where
  keep : ∀ (k : Fin 2048) (n : Fin 128), n.val < 16 → x6 (ix2 k n) = I.w k (6656 + n.val)
  pj : t ≤ 63 → PjOk I (t / 32) (t % 32) x5
  head : 1 ≤ t → HeadOk I ((t - 1) / 32) ((t - 1) % 32 + 1) x3
  state : 1 ≤ t → StateOk I ((t - 1) / 32) ((t - 1) % 32 + 1) x4
  out : 1 ≤ t → ∀ (r : Fin 256) (n : Fin 1024), o (ix2 r n) = I.res ((t - 1) / 32) (256 * ((t - 1) % 32) + r.val) n.val

variable (m : (ℓ : Loc nD τ sig) → Buf (Elt Ideal) ℓ) (c : Dev nD) {I : In}
    (H : Is I (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg10)))

/-- The point before a point is a point. -/
theorem lt (t : Fin cfg0.N) : t.val - 1 < cfg0.N := Nat.lt_of_le_of_lt (Nat.sub_le _ _) t.isLt

/-- The invariant of what a point leaves. -/
abbrev At (I : In) (n : ℕ) (h : n < cfg0.N) : Prop :=
  Inv I n (outsAt0 m c n h).2.1 (outsAt0 m c n h).2.2.2.2.2.2.2.2.1 (outsAt0 m c n h).2.2.2.2.2.2.2.2.2.1
    (outsAt0 m c n h).2.2.2.2.2.2.2.2.2.2.1 (outsAt0 m c n h).2.2.2.2.2.2.2.2.2.2.2

include H

/-- The rows of a chunk, -/
theorem rows (t : Fin cfg0.N) (ht : t.val ≤ 63) (r : Fin 256) (k : Fin 2048) :
    iblk m c 0 t (ix2 r k) = I.x (t.val / 32) (256 * (t.val % 32) + r.val) k :=
  (blk0 m c t ht r k).trans (H.x _ _ _)

theorem weights (t : Fin cfg0.N) (k : Fin 2048) (n : Fin 6672) : iblk m c 2 t (ix2 k n) = I.w k n.val :=
  (blk2 m c t k n).trans (H.w _ _)

theorem norm1 (t : Fin cfg0.N) (k : Fin 2048) : iblk m c 1 t (ix2 0 k) = I.pw k :=
  (blk1 m c t k).trans (H.pw _)

/-- and the weights of the recurrence. -/
theorem args (t : Fin cfg0.N) : Args I (iblk m c 5 t) (iblk m c 6 t) (iblk m c 7 t) (iblk m c 8 t) (iblk m c 9 t) (iblk m c 10 t) where
  cw k n := (blk5 m c t k n).trans (H.cw _ _)
  cb n := (blk6 m c t n).trans (H.cb _)
  dtb h hh := (blk7 m c t h hh).trans (H.dtb _)
  al h hh := (blk8 m c t h hh).trans (H.al _)
  ds n := (blk9 m c t n).trans (H.ds _)
  nw n := (blk10 m c t n).trans (H.nw _)

/-! The first point projects the first chunk and keeps the last columns of the weight. -/

theorem keep_A (t : Fin cfg0.N) (h0 : t.val % 65 = 0) (h1 : (t.val % 65 = 0 ∨ t.val % 65 = 1 ∨ t.val % 65 = 33)) (k : Fin 2048) (n : Fin 128) (hn : n.val < 16) :
    sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 k n) = I.w k (6656 + n.val) := by
  delta sout0_A_6
  exact kernelRun0_A.keep_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) I.w (weights m c H t) VS0_6 VS0_6.junk k n hn

theorem pj_A (t : Fin cfg0.N) (h0 : t.val % 65 = 0) (h1 : (t.val % 65 = 0 ∨ t.val % 65 = 1 ∨ t.val % 65 = 33)) (h : t.val ≤ 63) :
    PjOk I (t.val / 32) (t.val % 32) (sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  delta sout0_A_5
  exact kernelRun0_A.pj_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) I _ _ (rows m c H t h) (norm1 m c H t) (weights m c H t) VS0_5 VS0_5.junk

/-! The second point of a sequence starts the recurrence, the others go on from the chunk before. -/

theorem keep_B (t : Fin cfg0.N) (h0 : ¬t.val % 65 = 0) (h1 : (t.val % 65 = 0 ∨ t.val % 65 = 1 ∨ t.val % 65 = 33)) (p : At m c I (t.val - 1) (lt t)) (k : Fin 2048) (n : Fin 128) (hn : n.val < 16) :
    sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2 (ix2 k n) = I.w k (6656 + n.val) := by
  delta sout0_B_6
  exact p.keep k n hn

theorem pj_B (t : Fin cfg0.N) (h0 : ¬t.val % 65 = 0) (h1 : (t.val % 65 = 0 ∨ t.val % 65 = 1 ∨ t.val % 65 = 33)) (p : At m c I (t.val - 1) (lt t)) (h : t.val ≤ 63) :
    PjOk I (t.val / 32) (t.val % 32) (sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2) := by
  delta sout0_B_5
  exact kernelRun0_B.pj_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2 I _ _ (rows m c H t h) (norm1 m c H t) (weights m c H t) p.keep VS0_5 VS0_5.junk

theorem head_B (t : Fin cfg0.N) (h0 : ¬t.val % 65 = 0) (h1 : (t.val % 65 = 0 ∨ t.val % 65 = 1 ∨ t.val % 65 = 33)) (pp : PjOk I ((t.val - 1) / 32) ((t.val - 1) % 32) (outsAt0 m c (t.val - 1) (lt t)).2.2.2.2.2.2.2.2.2.2.1) (hj : (t.val - 1) % 32 = 0) :
    HeadOk I ((t.val - 1) / 32) ((t.val - 1) % 32 + 1) (sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2) := by
  delta sout0_B_3
  exact kernelRun0_B.head_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2 I _ _ hj pp VS0_3.junk

theorem state_B (t : Fin cfg0.N) (h0 : ¬t.val % 65 = 0) (h1 : (t.val % 65 = 0 ∨ t.val % 65 = 1 ∨ t.val % 65 = 33)) (pp : PjOk I ((t.val - 1) / 32) ((t.val - 1) % 32) (outsAt0 m c (t.val - 1) (lt t)).2.2.2.2.2.2.2.2.2.2.1) (hj : (t.val - 1) % 32 = 0) (hI : I.Real) :
    StateOk I ((t.val - 1) / 32) ((t.val - 1) % 32 + 1) (sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2) := by
  delta sout0_B_4
  exact kernelRun0_B.state_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2 I _ _ hj pp (args m c H t) hI VS0_4 VS0_4.junk

theorem out_B (t : Fin cfg0.N) (h0 : ¬t.val % 65 = 0) (h1 : (t.val % 65 = 0 ∨ t.val % 65 = 1 ∨ t.val % 65 = 33)) (pp : PjOk I ((t.val - 1) / 32) ((t.val - 1) % 32) (outsAt0 m c (t.val - 1) (lt t)).2.2.2.2.2.2.2.2.2.2.1) (hj : (t.val - 1) % 32 = 0) (hI : I.Real) (r : Fin 256) (n : Fin 1024) :
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2 (ix2 r n) = I.res ((t.val - 1) / 32) (256 * ((t.val - 1) % 32) + r.val) n.val := by
  delta out0_B_15
  exact kernelRun0_B.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.2.1 (outsAt0 m c (t.val - 1) (lt t)).2.2.2.2.2.2.2.1 (outsAt0 m c (t.val - 1) (lt t)).2.2.2.2.2.2.2.2.2.2.1 (outsAt0 m c (t.val - 1) (lt t)).2.2.2.2.2.2.2.2.2.2.2 I _ _ hj pp (args m c H t) hI VO0_15 VO0_15.junk r n

theorem keep_C (t : Fin cfg0.N) (h0 : ¬t.val % 65 = 0) (h1 : ¬(t.val % 65 = 0 ∨ t.val % 65 = 1 ∨ t.val % 65 = 33)) (p : At m c I (t.val - 1) (lt t)) (k : Fin 2048) (n : Fin 128) (hn : n.val < 16) :
    sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2 (ix2 k n) = I.w k (6656 + n.val) := by
  delta sout0_C_6
  exact p.keep k n hn

theorem pj_C (t : Fin cfg0.N) (h0 : ¬t.val % 65 = 0) (h1 : ¬(t.val % 65 = 0 ∨ t.val % 65 = 1 ∨ t.val % 65 = 33)) (p : At m c I (t.val - 1) (lt t)) (h : t.val ≤ 63) :
    PjOk I (t.val / 32) (t.val % 32) (sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2) := by
  delta sout0_C_5
  exact kernelRun0_C.pj_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2 I _ _ (rows m c H t h) (norm1 m c H t) (weights m c H t) p.keep VS0_5 VS0_5.junk

theorem head_C (t : Fin cfg0.N) (h0 : ¬t.val % 65 = 0) (h1 : ¬(t.val % 65 = 0 ∨ t.val % 65 = 1 ∨ t.val % 65 = 33)) (pp : PjOk I ((t.val - 1) / 32) ((t.val - 1) % 32) (outsAt0 m c (t.val - 1) (lt t)).2.2.2.2.2.2.2.2.2.2.1)
    (ph : HeadOk I ((t.val - 1) / 32) ((t.val - 1) % 32) (outsAt0 m c (t.val - 1) (lt t)).2.2.2.2.2.2.2.2.1)
    (ps : StateOk I ((t.val - 1) / 32) ((t.val - 1) % 32) (outsAt0 m c (t.val - 1) (lt t)).2.2.2.2.2.2.2.2.2.1) :
    HeadOk I ((t.val - 1) / 32) ((t.val - 1) % 32 + 1) (sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2) := by
  delta sout0_C_3
  exact kernelRun0_C.head_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2 I _ _ trivial pp VS0_3.junk

theorem state_C (t : Fin cfg0.N) (h0 : ¬t.val % 65 = 0) (h1 : ¬(t.val % 65 = 0 ∨ t.val % 65 = 1 ∨ t.val % 65 = 33)) (pp : PjOk I ((t.val - 1) / 32) ((t.val - 1) % 32) (outsAt0 m c (t.val - 1) (lt t)).2.2.2.2.2.2.2.2.2.2.1)
    (ph : HeadOk I ((t.val - 1) / 32) ((t.val - 1) % 32) (outsAt0 m c (t.val - 1) (lt t)).2.2.2.2.2.2.2.2.1)
    (ps : StateOk I ((t.val - 1) / 32) ((t.val - 1) % 32) (outsAt0 m c (t.val - 1) (lt t)).2.2.2.2.2.2.2.2.2.1) (hI : I.Real) :
    StateOk I ((t.val - 1) / 32) ((t.val - 1) % 32 + 1) (sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2) := by
  delta sout0_C_4
  exact kernelRun0_C.state_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2 I _ _ trivial pp (args m c H t) ph ps hI VS0_4 VS0_4.junk

theorem out_C (t : Fin cfg0.N) (h0 : ¬t.val % 65 = 0) (h1 : ¬(t.val % 65 = 0 ∨ t.val % 65 = 1 ∨ t.val % 65 = 33)) (pp : PjOk I ((t.val - 1) / 32) ((t.val - 1) % 32) (outsAt0 m c (t.val - 1) (lt t)).2.2.2.2.2.2.2.2.2.2.1)
    (ph : HeadOk I ((t.val - 1) / 32) ((t.val - 1) % 32) (outsAt0 m c (t.val - 1) (lt t)).2.2.2.2.2.2.2.2.1)
    (ps : StateOk I ((t.val - 1) / 32) ((t.val - 1) % 32) (outsAt0 m c (t.val - 1) (lt t)).2.2.2.2.2.2.2.2.2.1) (hI : I.Real) (r : Fin 256) (n : Fin 1024) :
    out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2 (ix2 r n) = I.res ((t.val - 1) / 32) (256 * ((t.val - 1) % 32) + r.val) n.val := by
  delta out0_C_15
  exact kernelRun0_C.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (lt t)).2.2.2.2.2.1 (outsAt0 m c (t.val - 1) (lt t)).2.2.2.2.2.2.1 (outsAt0 m c (t.val - 1) (lt t)).2.2.2.2.2.2.2.1 (outsAt0 m c (t.val - 1) (lt t)).2.2.2.2.2.2.2.2.1 (outsAt0 m c (t.val - 1) (lt t)).2.2.2.2.2.2.2.2.2.1 (outsAt0 m c (t.val - 1) (lt t)).2.2.2.2.2.2.2.2.2.2.1 (outsAt0 m c (t.val - 1) (lt t)).2.2.2.2.2.2.2.2.2.2.2 I _ _ trivial pp (args m c H t) ph ps hI VO0_15 VO0_15.junk r n

omit H in
/-- The invariant from what a point's case names. -/
theorem at_of {n : ℕ} {h : n < cfg0.N} {o14 : Vec Ideal S256x1024 .bf16} {o15 : Vec Ideal S256x1024 .bf16} {o16 : Vec Ideal S32x5632 .bf16} {o17 : Vec Ideal S32x5632 .bf16} {o18 : Vec Ideal S32x2048 .bf16} {s0 : Vec Ideal S8x128x128 .f32} {s1 : Vec Ideal S128x128 .i32} {s2 : Vec Ideal S1x1024 .f32} {s3 : Vec Ideal S12x264x128 .f32} {s4 : Vec Ideal S2x128x512 .f32} {s5 : Vec Ideal S256x6784 .f32} {s6 : Vec Ideal S2048x128 .bf16}
    (e : outsAt0 m c n h = (o14, o15, o16, o17, o18, s0, s1, s2, s3, s4, s5, s6)) (k : Inv I n o15 s3 s4 s5 s6) : At m c I n h := by
  unfold At
  rw [e]
  exact k

omit H in
theorem num_B {n : ℕ} (hN : n < 65) (h0 : ¬n % 65 = 0) (h1 : n % 65 = 0 ∨ n % 65 = 1 ∨ n % 65 = 33) : (n - 1) % 32 = 0 ∧ n - 1 ≤ 63 := by
  omega

omit H in
theorem num_C {n : ℕ} (hN : n < 65) (h1 : ¬(n % 65 = 0 ∨ n % 65 = 1 ∨ n % 65 = 33)) :
    (n - 1 - 1) / 32 = (n - 1) / 32 ∧ (n - 1 - 1) % 32 + 1 = (n - 1) % 32 ∧ n - 1 ≤ 63 ∧ 1 ≤ n - 1 := by
  omega

theorem at_A (t : Fin cfg0.N) (h0 : t.val % 65 = 0) (h1 : (t.val % 65 = 0 ∨ t.val % 65 = 1 ∨ t.val % 65 = 33)) : At m c I t.val t.isLt := by
  have hN := lt_of_lt_of_eq t.isLt (show cfg0.N = 65 from N_0)
  have ht : ¬ 1 ≤ t.val := by omega
  exact at_of m c (outsAt0_A m c t h0 h1) {
    keep := keep_A m c H t h0 h1
    pj := pj_A m c H t h0 h1
    head := fun h => absurd h ht
    state := fun h => absurd h ht
    out := fun h => absurd h ht }

theorem at_B (hI : I.Real) (t : Fin cfg0.N) (h0 : ¬t.val % 65 = 0) (h1 : (t.val % 65 = 0 ∨ t.val % 65 = 1 ∨ t.val % 65 = 33))
    (p : At m c I (t.val - 1) (lt t)) : At m c I t.val t.isLt := by
  have hN := lt_of_lt_of_eq t.isLt (show cfg0.N = 65 from N_0)
  have hj := (num_B hN h0 h1).1
  have pp := p.pj (num_B hN h0 h1).2
  exact at_of m c (outsAt0_B m c t h0 h1) {
    keep := keep_B m c H t h0 h1 p
    pj := pj_B m c H t h0 h1 p
    head := fun _ => head_B m c H t h0 h1 pp hj
    state := fun _ => state_B m c H t h0 h1 pp hj hI
    out := fun _ => out_B m c H t h0 h1 pp hj hI }

theorem at_C (hI : I.Real) (t : Fin cfg0.N) (h0 : ¬t.val % 65 = 0) (h1 : ¬(t.val % 65 = 0 ∨ t.val % 65 = 1 ∨ t.val % 65 = 33))
    (p : At m c I (t.val - 1) (lt t)) : At m c I t.val t.isLt := by
  have hN := lt_of_lt_of_eq t.isLt (show cfg0.N = 65 from N_0)
  obtain ⟨e1, e2, l63, l1⟩ := num_C hN h1
  have pp := p.pj l63
  have ph := p.head l1
  have ps := p.state l1
  rw [e1, e2] at ph ps
  exact at_of m c (outsAt0_C m c t h0 h1) {
    keep := keep_C m c H t h0 h1 p
    pj := pj_C m c H t h0 h1 p
    head := fun _ => head_C m c H t h0 h1 pp ph ps
    state := fun _ => state_C m c H t h0 h1 pp ph ps hI
    out := fun _ => out_C m c H t h0 h1 pp ph ps hI }

/-- **The invariant holds after every point.** -/
theorem at_all (hI : I.Real) : ∀ (n : ℕ) (h : n < cfg0.N), At m c I n h
  | 0, h => at_A m c H ⟨0, h⟩ rfl (Or.inl rfl)
  | n + 1, h => by
    have hN := lt_of_lt_of_eq h (show cfg0.N = 65 from N_0)
    have p := at_all hI n (Nat.lt_of_succ_lt h)
    have h0 : ¬ (n + 1) % 65 = 0 := by omega
    by_cases h1 : ((n + 1) % 65 = 0 ∨ (n + 1) % 65 = 1 ∨ (n + 1) % 65 = 33)
    · exact at_B m c H hI ⟨n + 1, h⟩ h0 h1 p
    · exact at_C m c H hI ⟨n + 1, h⟩ h0 h1 p

omit H in
theorem flush_pos (t : Fin cfg0.N) : (cfg0.win 15).flush t = true → 1 ≤ t.val := by
  revert t
  decide +kernel

/-- **What the run leaves in the branch's output.** -/
theorem final15 (hI : I.Real) : (dats m 0 c).arrAt 15 cfg0.N
    = fun i => I.res ((i 0).val / 8192) ((i 0).val % 8192) (i 1).val := by
  refine (dats m 0 c).arrAt_eq_of_covers 15 _ (by decide +kernel) fun t hf y => ?_
  have ht := flush_pos t hf
  have hN := lt_of_lt_of_eq t.isLt (show cfg0.N = 65 from N_0)
  have k := (at_all m c H hI t.val t.isLt).out ht (y 0) (y 1)
  have hy : (y 0).val < 256 := (y 0).isLt
  blk_simp [idx t]
  rw [after0_15]
  refine (congrArg _ (eq_ix2 y)).trans (k.trans ?_)
  rw [show ((t.val - 1) * 256 + (y 0).val) / 8192 = (t.val - 1) / 32 by omega,
    show ((t.val - 1) * 256 + (y 0).val) % 8192 = 256 * ((t.val - 1) % 32) + (y 0).val by omega]

end Cert.MixerIdeal.Ssd
-- ==== Proof.SsdRef.lean ====
module

public import proofs.«01_k».proof.Proof.Gen.MixerReferenceIdeal.Read
public import proofs.«01_k».proof.Proof.SsdInput
import Idealize.ShloMosaic.Lib.Pipeline.ValueKit
import Idealize.ShloMosaic.Lib.Pointwise

/-! # What the reference of the mixer computes: up to the heads' decays

The reference's stages, read at an index, are the stages of the recurrence that `SsdRows` names. -/

@[expose] public section

set_option maxRecDepth 16384

noncomputable section

namespace Cert.MixerReferenceIdeal.Rows

open Idealize.ShloMosaic Cert.RowNorm Cert.Ssd Cert.MixerReferenceIdeal Cert.MixerReferenceIdeal.Gen Cert.MixerReferenceIdeal.Read

variable {I : In} {x0 : Vec Ideal S2x8192x2048 .f32} {x1 : Vec Ideal S1x2048 .f32} {x2 : Vec Ideal S1x2048x6672 .f32}
    {x4 : Vec Ideal S1x4x1536 .f32} {x5 : Vec Ideal S1x1536 .f32} {x6 x7 x8 : Vec Ideal S1x16 .f32} {x10 : Vec Ideal S1x1024 .f32}
    (H : Is I x0 x1 x2 x4 x5 x6 x7 x8 x10)
include H

/-- A normalised row, -/
theorem h_at (b : Fin 2) (l : Fin 8192) (k : Fin 2048) :
    val_main_v13 (F := Ideal) x0 x1 (ix3 b l k) = I.x b.val l.val k * rstd (I.x b.val l.val) * I.pw k := by
  have e2 : ∀ i : S2x8192.Idx, i = ix2 b l → val_main_v2 (F := Ideal) x0 i = ∑ q, I.x b.val l.val q * I.x b.val l.val q := by
    rintro _ rfl
    rw [val_main_v2_apply]
    refine (congrArg₂ (· + ·) ?_ (Finset.sum_congr rfl fun q _ => ?_)).trans (zero_add _)
    · show Ideal.ofBits .f32 0x00000000#32 = 0
      simp [Ideal.ofBits, Ideal.ieee, -EReal.coe_mul]
    · rw [show idx_main_v2 (ix2 b l) q = ix3 b l q from funext fun a => match a with | 0 => rfl | 1 => rfl | 2 => rfl, ← H.x]
      pointwise [val_main_v1]
  rw [← H.x, ← H.pw]
  unfold rstd
  rw [← e2 _ rfl]
  unfold val_main_v13 val_main_v12 val_main_v11 val_main_v10 val_main_v9 val_main_v8 val_main_v7 val_main_v6 val_main_v5 val_main_v4 val_main_v3
  generalize val_main_v2 (F := Ideal) x0 = y
  pointwise [val_main_v0, val_main_cst_0, val_main_cst_1]

/-- its projection, -/
theorem proj_at (b : Fin 2) (l : Fin 8192) (n : Fin 6672) :
    val_main_v15 (F := Ideal) x0 x1 x2 (ix3 b l n) = I.proj b.val l.val n.val := by
  rw [val_main_v15_apply]
  refine Finset.sum_congr rfl fun q _ => ?_
  rw [show lidx_main_v15 (ix3 b l n) q = ix3 b l q from funext fun a => match a with | 0 => rfl | 1 => rfl | 2 => rfl,
    show ridx_main_v15 (ix3 b l n) q = ix2 q n from funext fun a => match a with | 0 => rfl | 1 => rfl, h_at H, ← H.w]
  congr 1
  pointwise [val_main_v14]

/-- what the convolution reads, with three rows of zeros before the first, -/
theorem pad_at (b : Fin 2) (m : Fin 8195) (c : Fin 1536) :
    val_main_v29 (F := Ideal) x0 x1 x2 (ix3 b m c) = I.pre b.val (m.val + 5) c.val := by
  unfold val_main_v29 In.pre
  rw [pad_apply]
  by_cases hm : m.val < 3
  · rw [dif_neg (fun h => absurd (h 1).1 (by show ¬ 3 ≤ m.val; omega)), if_pos (by omega)]
    show (((0#32 : BitVec 32).toInt : ℝ) : EReal) = 0
    simp
  · rw [dif_pos (fun a => match a with
      | 0 => ⟨Nat.zero_le _, Nat.mod_one _, by show (b.val - 0) / 1 < 2; omega⟩
      | 1 => ⟨by show 3 ≤ m.val; omega, Nat.mod_one _, by show (m.val - 3) / 1 < 8192; omega⟩
      | 2 => ⟨Nat.zero_le _, Nat.mod_one _, by show (c.val - 0) / 1 < 1536; omega⟩), if_neg (by omega), val_main_v21_apply]
    have e := proj_at H b ⟨m.val - 3, by omega⟩ ⟨5120 + c.val, by omega⟩
    rw [show m.val + 5 - 8 = m.val - 3 by omega]
    refine Eq.trans (congrArg _ (funext fun a => ?_)) e
    match a with
    | 0 => exact Fin.ext (by show (b.val - 0) / 1 = b.val; omega)
    | 1 => exact Fin.ext (by show (m.val - 3) / 1 = m.val - 3; omega)
    | 2 => exact Fin.ext (by show 5120 + (c.val - 0) / 1 = 5120 + c.val; omega)

/-- the convolution, -/
theorem conv_at (b : Fin 2) (l : Fin 8192) (c : Fin 1536) :
    val_main_v61 (F := Ideal) x0 x1 x2 x4 x5 (ix3 b l c) = I.conv b.val l.val c.val := by
  have h0 := pad_at H b ⟨l.val, by omega⟩ c
  have h1 := pad_at H b ⟨l.val + 1, by omega⟩ c
  have h2 := pad_at H b ⟨l.val + 2, by omega⟩ c
  have h3 := pad_at H b ⟨l.val + 3, by omega⟩ c
  have w0 := H.cw 0 c
  have w1 := H.cw 1 c
  have w2 := H.cw 2 c
  have w3 := H.cw 3 c
  have hc := H.cb c
  unfold In.conv
  simp only [Nat.add_assoc, Nat.reduceAdd] at h0 h1 h2 h3
  rw [← h0, ← h1, ← h2, ← h3, ← hc]
  change _ = _ + I.cw (0 : Fin 4).val c.val * _ + I.cw (1 : Fin 4).val c.val * _ + I.cw (2 : Fin 4).val c.val * _ + I.cw (3 : Fin 4).val c.val * _
  rw [← w0, ← w1, ← w2, ← w3]
  have e : ∀ k : S2x8195x1536.Idx → EReal, ∀ p q r s z : EReal, (((0 + p) + q + r + s) + z) = z + p + q + r + s := fun _ p q r s z => by
    rw [zero_add]; abel
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30
  generalize val_main_v29 (F := Ideal) x0 x1 x2 = y
  rw [← e y]
  pointwise [val_main_v23, val_main_v24, val_main_cst_2]
  simp only [Nat.add_comm]

/-- and its gate; -/
theorem act_at (b : Fin 2) (l : Fin 8192) (c : Fin 1536) :
    val_main_v62 (F := Ideal) x0 x1 x2 x4 x5 (ix3 b l c) = I.act b.val l.val c.val := by
  have h := conv_at H b l c
  unfold In.act
  rw [← h]
  unfold val_main_v62 val_main_call1_v5 val_main_call1_v4 val_main_call1_v3 val_main_call1_v2 val_main_call1_v1 val_main_call1_v0
  generalize val_main_v61 (F := Ideal) x0 x1 x2 x4 x5 = y
  pointwise [val_main_call1_cst, val_main_call1_cst_0]
  rfl

/-- a head's step size, -/
theorem dt_at (b : Fin 2) (l : Fin 8192) (h : Fin 16) :
    val_main_v72 (F := Ideal) x0 x1 x2 x6 (ix3 b l h) = I.dt b.val l.val h.val := by
  have e : val_main_v71 (F := Ideal) x0 x1 x2 x6 (ix3 b l h) = I.proj b.val l.val (6656 + h.val) + I.dtb h.val := by
    have p := proj_at H b l ⟨6656 + h.val, by omega⟩
    rw [← H.dtb]
    refine Eq.trans ?_ (congrArg (· + _) p)
    unfold val_main_v71 val_main_v70 val_main_v69 val_main_v22
    generalize val_main_v15 (F := Ideal) x0 x1 x2 = y
    pointwise [val_main_v25]
  unfold In.dt
  rw [← e]
  unfold val_main_v72 val_main_call2_v11 val_main_call2_v10 val_main_call2_v9 val_main_call2_v8 val_main_call2_v7 val_main_call2_v6 val_main_call2_v5 val_main_call2_v4 val_main_call2_v3 val_main_call2_v2 val_main_call2_v1 val_main_call2_v0
  generalize val_main_v71 (F := Ideal) x0 x1 x2 x6 = y
  pointwise [val_main_call2_cst]
  rw [zero_sub, if_neg (fun h => h rfl)]
  rfl

/-- and its decay. -/
theorem a_at (b : Fin 2) (l : Fin 8192) (g : Fin 2) (h : Fin 8) :
    val_main_v82 (F := Ideal) x0 x1 x2 x6 x7 (ix4 b l g h) = I.a b.val l.val (8 * g.val + h.val) := by
  have e := dt_at H b l ⟨8 * g.val + h.val, by omega⟩
  have ea := H.al ⟨8 * g.val + h.val, by omega⟩
  unfold In.a
  rw [val_main_v82_apply, zero_sub]
  refine congrArg₂ (· * ·) ?_ ?_
  · rw [val_main_v73_apply, ← e]
    refine congrArg _ (funext fun a => ?_)
    match a with
    | 0 => exact Fin.ext (by show _ = b.val; simp [idx_main_v73]; omega)
    | 1 => exact Fin.ext (by show _ = l.val; simp [idx_main_v73]; omega)
    | 2 => exact Fin.ext (by show _ = 8 * g.val + h.val; simp [idx_main_v73]; omega)
  · rw [val_main_v81_apply, val_main_v80_apply, val_main_v76_apply, val_main_v75_apply, val_main_v74_apply, val_main_v26_apply, ← ea]
    show -(Ideal.exp _) = _
    refine congrArg (fun z => -(Ideal.exp (x7 z))) (funext fun a => ?_)
    match a with
    | 0 => rfl
    | 1 => exact Fin.ext (by show _ = 8 * g.val + h.val; simp [idx_main_v75, idx_main_v80, idx_main_v81, idx_main_v26]; omega)

end Cert.MixerReferenceIdeal.Rows
-- ==== Proof.SsdRef2.lean ====
module

public import proofs.«01_k».proof.Proof.SsdRef

/-! # What the reference of the mixer computes: the sum over the earlier times, and the output -/

@[expose] public section

set_option maxRecDepth 16384

noncomputable section

namespace Cert.MixerReferenceIdeal.Rows

open Idealize.ShloMosaic Cert.RowNorm Cert.Ssd Cert.MixerReferenceIdeal Cert.MixerReferenceIdeal.Gen Cert.MixerReferenceIdeal.Read

/-- The lower triangle, -/
theorem tril_at (i j : Fin 8192) : val_main_v84 (F := Ideal) (ix2 i j) = if j.val ≤ i.val then 1#1 else 0#1 := by
  rw [val_main_v84_apply]
  show Scalar.select (IntOp.cmpi .sge (BitVec.ofNat 32 i.val + 0#32) (BitVec.ofNat 32 j.val)) 1#1 0#1 = _
  rw [BitVec.add_zero]
  have hi : (BitVec.ofNat 32 i.val).toInt = i.val := by
    rw [BitVec.toInt_eq_toNat_of_lt (by rw [BitVec.toNat_ofNat]; omega), BitVec.toNat_ofNat, Nat.mod_eq_of_lt (by omega)]
  have hj : (BitVec.ofNat 32 j.val).toInt = j.val := by
    rw [BitVec.toInt_eq_toNat_of_lt (by rw [BitVec.toNat_ofNat]; omega), BitVec.toNat_ofNat, Nat.mod_eq_of_lt (by omega)]
  by_cases h : j.val ≤ i.val
  · rw [if_pos h]
    simp [Scalar.select, IntOp.cmpi, BitVec.sle, hi, hj, h]
  · rw [if_neg h]
    simp [Scalar.select, IntOp.cmpi, BitVec.sle, hi, hj, h]

/-- as numbers. -/
theorem one_at (i j : Fin 8192) : val_main_v85 (F := Ideal) (ix2 i j) = if j.val ≤ i.val then 1 else 0 := by
  rw [val_main_v85_apply, tril_at]
  by_cases h : j.val ≤ i.val
  · rw [if_pos h, if_pos h]
    show (((1#1 : BitVec 1).toNat : ℝ) : EReal) = 1
    simp
  · rw [if_neg h, if_neg h]
    show (((0#1 : BitVec 1).toNat : ℝ) : EReal) = 0
    simp

variable {I : In} {x0 : Vec Ideal S2x8192x2048 .f32} {x1 : Vec Ideal S1x2048 .f32} {x2 : Vec Ideal S1x2048x6672 .f32}
    {x4 : Vec Ideal S1x4x1536 .f32} {x5 : Vec Ideal S1x1536 .f32} {x6 x7 x8 : Vec Ideal S1x16 .f32} {x10 : Vec Ideal S1x1024 .f32}
    (H : Is I x0 x1 x2 x4 x5 x6 x7 x8 x10) (hI : I.Real)
include H hI

/-- The heads' decays, added up, -/
theorem cum_at (b : Fin 2) (g : Fin 2) (h : Fin 8) (t : Fin 8192) :
    val_main_v86 (F := Ideal) x0 x1 x2 x6 x7 (ix4 b g h t) = (cum (I.aR b.val (8 * g.val + h.val)) t.val : EReal) := by
  rw [val_main_v86_apply]
  unfold cum
  rw [coe_sum, ← sum_fin_le 8192 t.val t.isLt (fun s => ((I.aR b.val (8 * g.val + h.val) s : ℝ) : EReal))]
  refine Finset.sum_congr rfl fun s _ => ?_
  rw [show lidx_main_v86 (ix4 b g h t) s = ix4 b s g h from funext fun a => match a with | 0 => rfl | 1 => rfl | 2 => rfl | 3 => rfl,
    show ridx_main_v86 (ix4 b g h t) s = ix2 t s from funext fun a => match a with | 0 => rfl | 1 => rfl,
    a_at H, one_at, In.a_coe hI, mul_ite, mul_one, mul_zero]

/-- the decay from one time to a later one, -/
theorem decay_at (b : Fin 2) (t s : Fin 8192) (g : Fin 2) (h : Fin 8) :
    val_main_v95 (F := Ideal) x0 x1 x2 x6 x7 (ix5 b t s g h)
      = if s.val ≤ t.val then ((Real.exp (cum (I.aR b.val (8 * g.val + h.val)) t.val - cum (I.aR b.val (8 * g.val + h.val)) s.val) : ℝ) : EReal) else 0 := by
  rw [val_main_v95_apply, val_main_v94_apply, val_main_call4_v1_apply, val_main_v88_apply, val_main_v93_apply, val_main_v91_apply, val_main_v92_apply,
    val_main_v89_apply, val_main_v90_apply, val_main_v87_apply, val_main_v87_apply]
  rw [show idx_main_v88 (idx_main_call4_v1 (ix5 b t s g h)) = ix2 t s from funext fun a => match a with | 0 => rfl | 1 => rfl,
    show idx_main_v87 (idx_main_v89 (idx_main_v91 (ix5 b t s g h))) = ix4 b g h t from funext fun a => match a with | 0 => rfl | 1 => rfl | 2 => rfl | 3 => rfl,
    show idx_main_v87 (idx_main_v90 (idx_main_v92 (ix5 b t s g h))) = ix4 b g h s from funext fun a => match a with | 0 => rfl | 1 => rfl | 2 => rfl | 3 => rfl,
    cum_at H hI, cum_at H hI, tril_at]
  by_cases hs : s.val ≤ t.val
  · rw [if_pos hs, if_pos hs]
    show Ideal.exp (((cum (I.aR b.val (8 * g.val + h.val)) t.val : ℝ) : EReal) - ((cum (I.aR b.val (8 * g.val + h.val)) s.val : ℝ) : EReal)) = _
    rw [← EReal.coe_sub, Ideal.exp_coe]
  · rw [if_neg hs, if_neg hs]
    show Ideal.exp (val_main_call4_v2 (F := Ideal) (ix5 b t s g h)) = 0
    rw [val_main_call4_v2_apply]
    show Ideal.exp (Ideal.ofBits .f32 0xFF800000#32) = 0
    rw [show Ideal.ofBits .f32 0xFF800000#32 = ⊥ by simp [Ideal.ofBits, Ideal.ieee]]
    exact Ideal.exp_bot

/-- the group's product of the state's input and output, -/
theorem score_at (b : Fin 2) (t s : Fin 8192) (g : Fin 2) :
    val_main_v97 (F := Ideal) x0 x1 x2 x4 x5 (ix4 b t s g) = ((∑ n, I.CR b.val g.val t.val n * I.BR b.val g.val s.val n : ℝ) : EReal) := by
  rw [val_main_v97_apply, show idx_main_v97 (ix4 b t s g) = ix4 b g s t from funext fun a => match a with | 0 => rfl | 1 => rfl | 2 => rfl | 3 => rfl,
    val_main_v96_apply, coe_sum]
  refine Finset.sum_congr rfl fun n _ => ?_
  rw [show lidx_main_v96 (ix4 b g s t) n = ix4 b s g n from funext fun a => match a with | 0 => rfl | 1 => rfl | 2 => rfl | 3 => rfl,
    show ridx_main_v96 (ix4 b g s t) n = ix4 b t g n from funext fun a => match a with | 0 => rfl | 1 => rfl | 2 => rfl | 3 => rfl,
    EReal.coe_mul, ← In.B_coe hI, ← In.C_coe hI, mul_comm, val_main_v66_apply, val_main_v68_apply, val_main_v65_apply, val_main_v67_apply]
  refine congrArg₂ (· * ·) ?_ ?_
  · refine Eq.trans (congrArg _ (funext fun a => ?_)) (act_at H b t ⟨1280 + 128 * g.val + n.val, by omega⟩)
    match a with
    | 0 => exact Fin.ext (by show _ = b.val; simp [idx_main_v68, idx_main_v67]; omega)
    | 1 => exact Fin.ext (by show _ = t.val; simp [idx_main_v68, idx_main_v67]; omega)
    | 2 => exact Fin.ext (by show _ = 1280 + 128 * g.val + n.val; simp [idx_main_v68, idx_main_v67]; omega)
  · refine Eq.trans (congrArg _ (funext fun a => ?_)) (act_at H b s ⟨1024 + 128 * g.val + n.val, by omega⟩)
    match a with
    | 0 => exact Fin.ext (by show _ = b.val; simp [idx_main_v66, idx_main_v65]; omega)
    | 1 => exact Fin.ext (by show _ = s.val; simp [idx_main_v66, idx_main_v65]; omega)
    | 2 => exact Fin.ext (by show _ = 1024 + 128 * g.val + n.val; simp [idx_main_v66, idx_main_v65]; omega)

omit hI in
/-- a head's values, -/
theorem val_at (b : Fin 2) (s : Fin 8192) (g : Fin 2) (h : Fin 8) (p : Fin 64) :
    val_main_v64 (F := Ideal) x0 x1 x2 x4 x5 (ix5 b s g h p) = I.act b.val s.val (512 * g.val + 64 * h.val + p.val) := by
  rw [val_main_v64_apply, val_main_v63_apply]
  refine Eq.trans (congrArg _ (funext fun a => ?_)) (act_at H b s ⟨512 * g.val + 64 * h.val + p.val, by omega⟩)
  match a with
  | 0 => exact Fin.ext (by show _ = b.val; simp [idx_main_v64, idx_main_v63]; omega)
  | 1 => exact Fin.ext (by show _ = s.val; simp [idx_main_v64, idx_main_v63]; omega)
  | 2 => exact Fin.ext (by show _ = 512 * g.val + 64 * h.val + p.val; simp [idx_main_v64, idx_main_v63]; omega)

/-- its values by its step size, -/
theorem step_at (b : Fin 2) (s : Fin 8192) (g : Fin 2) (h : Fin 8) (p : Fin 64) :
    val_main_v79 (F := Ideal) x0 x1 x2 x4 x5 x6 (ix5 b s g h p) = (I.XR b.val (512 * g.val + 64 * h.val + p.val) s.val : EReal) := by
  rw [← In.X_coe hI, val_main_v79_apply, val_at H, val_main_v78_apply, val_main_v77_apply, val_main_v73_apply,
    show (512 * g.val + 64 * h.val + p.val) / 64 = 8 * g.val + h.val by omega]
  refine congrArg (_ * ·) (Eq.trans (congrArg _ (funext fun a => ?_)) (dt_at H b s ⟨8 * g.val + h.val, by omega⟩))
  match a with
  | 0 => exact Fin.ext (by show _ = b.val; simp [idx_main_v73, idx_main_v77, idx_main_v78]; omega)
  | 1 => exact Fin.ext (by show _ = s.val; simp [idx_main_v73, idx_main_v77, idx_main_v78]; omega)
  | 2 => exact Fin.ext (by show _ = 8 * g.val + h.val; simp [idx_main_v73, idx_main_v77, idx_main_v78]; omega)

/-- the sum over the earlier times. -/
theorem core_at (b : Fin 2) (g : Fin 2) (h : Fin 8) (p : Fin 64) (t : Fin 8192) :
    val_main_v101 (F := Ideal) x0 x1 x2 x4 x5 x6 x7 (ix5 b g h p t) = (I.core b.val t.val (512 * g.val + 64 * h.val + p.val) : EReal) := by
  rw [val_main_v101_apply]
  unfold In.core out
  rw [show (512 * g.val + 64 * h.val + p.val) / 64 = 8 * g.val + h.val by omega, show (512 * g.val + 64 * h.val + p.val) / 512 = g.val by omega,
    coe_sum, ← sum_fin_le 8192 t.val t.isLt (fun s => (((∑ n, I.CR b.val g.val t.val n * I.BR b.val g.val s n)
      * Real.exp (cum (I.aR b.val (8 * g.val + h.val)) t.val - cum (I.aR b.val (8 * g.val + h.val)) s) * I.XR b.val (512 * g.val + 64 * h.val + p.val) s : ℝ) : EReal))]
  refine Finset.sum_congr rfl fun s _ => ?_
  rw [show lidx_main_v101 (ix5 b g h p t) s = ix5 b s g h p from funext fun a => match a with | 0 => rfl | 1 => rfl | 2 => rfl | 3 => rfl | 4 => rfl,
    show ridx_main_v101 (ix5 b g h p t) s = ix5 b t s g h from funext fun a => match a with | 0 => rfl | 1 => rfl | 2 => rfl | 3 => rfl | 4 => rfl,
    step_at H hI, val_main_v100_apply, decay_at H hI, val_main_v99_apply, val_main_v98_apply,
    show idx_main_v98 (idx_main_v99 (ix5 b t s g h)) = ix4 b t s g from funext fun a => match a with | 0 => rfl | 1 => rfl | 2 => rfl | 3 => rfl,
    score_at H hI]
  show _ * (_ * _) = _
  by_cases hs : s.val ≤ t.val
  · rw [if_pos hs, if_pos hs, EReal.coe_mul, EReal.coe_mul, mul_comm]
  · rw [if_neg hs, if_neg hs, mul_zero, mul_zero]

/-- With the skip, and gated, -/
theorem yz_at (b : Fin 2) (l : Fin 8192) (c : Fin 1024) :
    val_main_v111 (F := Ideal) x0 x1 x2 x4 x5 x6 x7 x8 (ix3 b l c) = I.yz b.val l.val c.val := by
  have hc : 512 * (c.val / 512) + 64 * (c.val % 512 / 64) + c.val % 64 = c.val := by omega
  have e1 : val_main_v109 (F := Ideal) x0 x1 x2 x4 x5 x6 x7 x8 (ix3 b l c)
      = (I.core b.val l.val c.val : EReal) + I.ds (c.val / 64) * I.act b.val l.val c.val := by
    have k1 := core_at H hI b ⟨c.val / 512, by omega⟩ ⟨c.val % 512 / 64, by omega⟩ ⟨c.val % 64, by omega⟩ l
    have k2 := val_at H b l ⟨c.val / 512, by omega⟩ ⟨c.val % 512 / 64, by omega⟩ ⟨c.val % 64, by omega⟩
    have k3 := H.ds ⟨c.val / 64, by omega⟩
    simp only [hc] at k1 k2
    rw [val_main_v109_apply, show idx_main_v109 (ix3 b l c) = ix5 b l ⟨c.val / 512, by omega⟩ ⟨c.val % 512 / 64, by omega⟩ ⟨c.val % 64, by omega⟩ from
      funext fun a => match a with
        | 0 => Fin.ext (by show _ = b.val; simp [idx_main_v109]; omega)
        | 1 => Fin.ext (by show _ = l.val; simp [idx_main_v109]; omega)
        | 2 => Fin.ext (by show _ = c.val / 512; simp [idx_main_v109]; omega)
        | 3 => Fin.ext (by show _ = c.val % 512 / 64; simp [idx_main_v109]; omega)
        | 4 => Fin.ext (by show _ = c.val % 64; simp [idx_main_v109]; omega),
      val_main_v108_apply, val_main_v107_apply, val_main_v102_apply, k2, ← k1, ← k3]
    refine congrArg₂ (· + ·) (congrArg _ (funext fun a => match a with | 0 => rfl | 1 => rfl | 2 => rfl | 3 => rfl | 4 => rfl)) (congrArg (· * _) ?_)
    rw [val_main_v106_apply, val_main_v105_apply, val_main_v104_apply, val_main_v103_apply, val_main_v27_apply]
    refine congrArg _ (funext fun a => ?_)
    match a with
    | 0 => rfl
    | 1 => exact Fin.ext (by show _ = c.val / 64; simp [idx_main_v27, idx_main_v103, idx_main_v104, idx_main_v105, idx_main_v106]; omega)
  have e2 : val_main_v20 (F := Ideal) x0 x1 x2 (ix3 b l c) = I.proj b.val l.val (4096 + c.val) := by
    rw [val_main_v20_apply]
    refine Eq.trans (congrArg _ (funext fun a => ?_)) (proj_at H b l ⟨4096 + c.val, by omega⟩)
    match a with
    | 0 => exact Fin.ext (by show _ = b.val; simp [idx_main_v20])
    | 1 => exact Fin.ext (by show _ = l.val; simp [idx_main_v20])
    | 2 => exact Fin.ext (by show _ = 4096 + c.val; simp [idx_main_v20])
  unfold In.yz
  rw [← e1, ← e2]
  unfold val_main_v111 val_main_v110 val_main_call5_v5 val_main_call5_v4 val_main_call5_v3 val_main_call5_v2 val_main_call5_v1 val_main_call5_v0
  generalize val_main_v20 (F := Ideal) x0 x1 x2 = y
  generalize val_main_v109 (F := Ideal) x0 x1 x2 x4 x5 x6 x7 x8 = z
  pointwise [val_main_call5_cst, val_main_call5_cst_0]
  rfl

/-- and normalised over its group: **the reference's result**. -/
theorem out_at (r : Fin 16384) (c : Fin 1024) :
    val_main_v128 (F := Ideal) x0 x1 x2 x4 x5 x6 x7 x8 x10 (ix2 r c) = I.res (r.val / 8192) (r.val % 8192) c.val := by
  have e112 : ∀ k : Fin 512, val_main_v112 (F := Ideal) x0 x1 x2 x4 x5 x6 x7 x8 (ix4 ⟨r.val / 8192, by omega⟩ ⟨r.val % 8192, by omega⟩ ⟨c.val / 512, by omega⟩ k)
      = I.yz (r.val / 8192) (r.val % 8192) (512 * (c.val / 512) + k.val) := fun k => by
    rw [val_main_v112_apply]
    refine Eq.trans (congrArg _ (funext fun a => ?_)) (yz_at H hI ⟨r.val / 8192, by omega⟩ ⟨r.val % 8192, by omega⟩ ⟨512 * (c.val / 512) + k.val, by omega⟩)
    match a with
    | 0 => exact Fin.ext (by show _ = r.val / 8192; simp [idx_main_v112]; omega)
    | 1 => exact Fin.ext (by show _ = r.val % 8192; simp [idx_main_v112]; omega)
    | 2 => exact Fin.ext (by show _ = 512 * (c.val / 512) + k.val; simp [idx_main_v112]; omega)
  have e114 : ∀ i : S2x8192x2.Idx, i = ix3 ⟨r.val / 8192, by omega⟩ ⟨r.val % 8192, by omega⟩ ⟨c.val / 512, by omega⟩ →
      val_main_v114 (F := Ideal) x0 x1 x2 x4 x5 x6 x7 x8 i = ∑ k : Fin 512, I.yz (r.val / 8192) (r.val % 8192) (512 * (c.val / 512) + k.val)
        * I.yz (r.val / 8192) (r.val % 8192) (512 * (c.val / 512) + k.val) := by
    rintro _ rfl
    rw [val_main_v114_apply]
    refine (congrArg₂ (· + ·) ?_ (Finset.sum_congr rfl fun q _ => ?_)).trans (zero_add _)
    · show Ideal.ofBits .f32 0x00000000#32 = 0
      simp [Ideal.ofBits, Ideal.ieee, -EReal.coe_mul]
    · rw [← e112 q, val_main_v113_apply]
      rfl
  have k := e112 ⟨c.val % 512, by omega⟩
  simp only [Nat.div_add_mod] at k
  unfold In.res
  rw [← k, ← e114 _ rfl, ← H.nw]
  rw [val_main_v128_apply, val_main_v127_apply, show idx_main_v127 (ix2 r c) = ix3 ⟨r.val / 8192, by omega⟩ ⟨r.val % 8192, by omega⟩ c from
    funext fun a => match a with
      | 0 => Fin.ext (by show _ = r.val / 8192; simp [idx_main_v127]; omega)
      | 1 => Fin.ext (by show _ = r.val % 8192; simp [idx_main_v127]; omega)
      | 2 => Fin.ext (by show _ = c.val; simp [idx_main_v127]),
    val_main_v126_apply, val_main_v123_apply, show idx_main_v123 (ix3 ⟨r.val / 8192, by omega⟩ ⟨r.val % 8192, by omega⟩ c)
      = ix4 ⟨r.val / 8192, by omega⟩ ⟨r.val % 8192, by omega⟩ ⟨c.val / 512, by omega⟩ ⟨c.val % 512, by omega⟩ from
    funext fun a => match a with
      | 0 => Fin.ext (by show _ = r.val / 8192; simp [idx_main_v123]; omega)
      | 1 => Fin.ext (by show _ = r.val % 8192; simp [idx_main_v123]; omega)
      | 2 => Fin.ext (by show _ = c.val / 512; simp [idx_main_v123]; omega)
      | 3 => Fin.ext (by show _ = c.val % 512; simp [idx_main_v123]; omega)]
  unfold val_main_v125 val_main_v124 val_main_v122 val_main_v121 val_main_v120 val_main_v119 val_main_v118 val_main_v117 val_main_v116 val_main_v115
  generalize val_main_v114 (F := Ideal) x0 x1 x2 x4 x5 x6 x7 x8 = y
  generalize val_main_v112 (F := Ideal) x0 x1 x2 x4 x5 x6 x7 x8 = z
  pointwise [val_main_v28, val_main_cst_6, val_main_cst_7]

end Cert.MixerReferenceIdeal.Rows
-- ==== Proof.SsdFinite.lean ====
module

public import proofs.«01_k».proof.Defs
public import proofs.«01_k».proof.Proof.SsdRows
public import Idealize.ShloMosaic.Lib.ReduceAll
import Idealize.ShloMosaic.Lib.Pointwise

/-! # What the precondition of the mixer's claim says

`finite` asks that the entries of the operands of the state-space branch are finite: at the ideal floats they are reals. -/

@[expose] public section

noncomputable section

namespace Cert.Pre_finite.Rows

open Idealize.ShloMosaic Cert.Ssd Cert.Pre_finite

/-- A value whose magnitude is below infinity is a real. -/
theorem real_of_lt (x : EReal) (h : FloatOps.cmpf (F := Ideal) (φ := .f32) .olt (FloatOps.hostAbsf (F := Ideal) (φ := .f32) x)
    (FloatOps.ofBits (F := Ideal) .f32 0x7F800000#32) = 1#1) : IsReal x := by
  have htop : Ideal.ofBits .f32 0x7F800000#32 = ⊤ := by simp [Ideal.ofBits, Ideal.ieee]
  have h2 : Ideal.cmp .olt (max x (-x)) (Ideal.ofBits .f32 0x7F800000#32) = 1#1 := h
  rw [htop] at h2
  induction x with
  | bot => exact absurd h2 (by simp [Ideal.cmp])
  | top => exact absurd h2 (by simp [Ideal.cmp])
  | coe r => exact ⟨r, rfl⟩

instance : Subsingleton S_.Idx := ⟨fun _ _ => funext fun k => k.elim0⟩

/-- **Operands that meet the precondition hold reals.** -/
theorem real_of_fn [Facts] (x0 : FVec Ideal S2x8192x2048 .f32) (x1 : FVec Ideal S1x2048 .f32) (x2 : FVec Ideal S1x2048x6672 .f32) (x3 : FVec Ideal S2x1024 .f32) (x4 : FVec Ideal S1x4x1536 .f32) (x5 : FVec Ideal S1x1536 .f32) (x6 : FVec Ideal S1x16 .f32) (x7 : FVec Ideal S1x16 .f32) (x8 : FVec Ideal S1x16 .f32) (x9 : FVec Ideal S1x1024 .f32) (x10 : FVec Ideal S1x1024 .f32) (x11 : FVec Ideal S1x2048x5632 .f32) (x12 : FVec Ideal S1x2048x5632 .f32) (x13 : FVec Ideal S1x2048x2048 .f32)
    (h : fn (F := Ideal) x0 x1 x2 x3 x4 x5 x6 x7 x8 x9 x10 x11 x12 x13 = (fun _ => 1#1)) :
    (∀ i, IsReal (x0 i)) ∧ (∀ i, IsReal (x1 i)) ∧ (∀ i, IsReal (x2 i)) ∧ (∀ i, IsReal (x4 i)) ∧ (∀ i, IsReal (x5 i))
      ∧ (∀ i, IsReal (x6 i)) ∧ (∀ i, IsReal (x7 i)) := by
  have e := congrFun h (fun k => k.elim0)
  unfold fn fn_part1 at e
  obtain ⟨e, g7⟩ := IntOp.andi_eq_one.1 (show IntOp.andi _ _ = 1#1 from e)
  obtain ⟨e, g6⟩ := IntOp.andi_eq_one.1 (show IntOp.andi _ _ = 1#1 from e)
  obtain ⟨e, g5⟩ := IntOp.andi_eq_one.1 (show IntOp.andi _ _ = 1#1 from e)
  obtain ⟨e, g4⟩ := IntOp.andi_eq_one.1 (show IntOp.andi _ _ = 1#1 from e)
  obtain ⟨e, g2⟩ := IntOp.andi_eq_one.1 (show IntOp.andi _ _ = 1#1 from e)
  obtain ⟨g0, g1⟩ := IntOp.andi_eq_one.1 (show IntOp.andi _ _ = 1#1 from e)
  exact ⟨fun i => real_of_lt _ (Host.reduce_andi_all _ _ _ _ _ g0 i), fun i => real_of_lt _ (Host.reduce_andi_all _ _ _ _ _ g1 i),
    fun i => real_of_lt _ (Host.reduce_andi_all _ _ _ _ _ g2 i), fun i => real_of_lt _ (Host.reduce_andi_all _ _ _ _ _ g4 i),
    fun i => real_of_lt _ (Host.reduce_andi_all _ _ _ _ _ g5 i), fun i => real_of_lt _ (Host.reduce_andi_all _ _ _ _ _ g6 i),
    fun i => real_of_lt _ (Host.reduce_andi_all _ _ _ _ _ g7 i)⟩

end Cert.Pre_finite.Rows
-- ==== Proof.SsdClaims.lean ====
module

public import proofs.«01_k».proof.Defs
public import proofs.«01_k».proof.Proof.Gen.Mixer.Frame
public import proofs.«01_k».proof.Proof.Gen.MixerIdeal.Value
public import proofs.«01_k».proof.Proof.Gen.MixerReferenceIdeal.Run
public import proofs.«01_k».proof.Proof.Gen.MixerReferenceIdeal.Read
public import proofs.«01_k».proof.Proof.Gen.Pre_finite
public import proofs.«01_k».proof.Proof.SsdValue
public import proofs.«01_k».proof.Proof.SsdRef2
public import proofs.«01_k».proof.Proof.SsdFinite

/-! # The mixer's claims

Frames of the kernel and of the state-space branch's reference, and the equality of the branch's output with it. -/

@[expose] public section

noncomputable section

namespace Cert.SsdClaims

open Idealize.ShloMosaic Idealize.ShloMosaic.TcCoe Idealize.SL.Sem Cert.Ssd

/-- The kernel runs, at the machine's floats, -/
theorem frame_bits : Cert.quiescent_Mixer := fun m ρ _ => Cert.Mixer.Gen.frame m ρ

/-- and at the exact ones, -/
theorem frame_ideal : Cert.quiescent_MixerIdeal := fun m ρ _ => Cert.MixerIdeal.Gen.frame m ρ

theorem frame_ideal_finite : Cert.quiescent_MixerIdeal_pre_finite := fun m ρ _ => Cert.MixerIdeal.Gen.frame m ρ

/-- and so does the reference. -/
theorem frame_reference : Cert.quiescent_MixerReferenceIdeal := fun m ρ _ =>
  (θ_run _ _ _).mono (fun r h => ⟨fun c => (h c).2, sem_eq_zero_of_no_sems (by decide) r.2⟩)
    (Cert.MixerReferenceIdeal.Value.run (F := Ideal) m ρ)

theorem frame_reference_finite : Cert.quiescent_MixerReferenceIdeal_pre_finite := fun m ρ _ =>
  (θ_run _ _ _).mono (fun r h => ⟨fun c => (h c).2, sem_eq_zero_of_no_sems (by decide) r.2⟩)
    (Cert.MixerReferenceIdeal.Value.run (F := Ideal) m ρ)

/-- The named constants: -1/log 2 and 1/log 2 for their words, and the mask's large negative word for minus infinity. -/
theorem preserves : Cert.preserves_Mixer_MixerIdeal :=
  ⟨IdealRules.named_const.statement Cert.MixerIdeal.κ "neg_log2e" .f32 0xBFB8AA3B#32 ((-((Real.log 2)⁻¹) : ℝ) : EReal) rfl,
    IdealRules.named_const.statement Cert.MixerIdeal.κ "log2e" .f32 0x3FB8AA3B#32 (((Real.log 2)⁻¹ : ℝ) : EReal) rfl,
    IdealRules.named_const.statement Cert.MixerIdeal.κ "neg_big" .f32 0xF149F2CA#32 ⊥ rfl⟩

section Kernel

open Cert.MixerIdeal

variable (m : (ℓ : Loc nD τ sig) → Buf (Elt Ideal) ℓ) (c : Dev nD)

/-- The recurrence of a memory's operands. -/
def rec : In := input (m ((c : Thread nD τ).loc main_arg0)) (m ((c : Thread nD τ).loc main_arg1)) (m ((c : Thread nD τ).loc main_arg2))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg10))

theorem rec_is : Is (rec m c) (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg10)) :=
  input_is _ _ _ _ _ _ _ _ _

theorem rec_real (h : Cert.Pre_MixerIdeal_finite m) : (rec m c).Real := by
  obtain ⟨h0, h1, h2, h4, h5, h6, h7⟩ := Cert.Pre_finite.Rows.real_of_fn _ _ _ _ _ _ _ _ _ _ _ _ _ _ (h c)
  exact input_real _ _ _ _ _ _ _ _ _ h0 h1 h2 h4 h5 h6 h7

end Kernel

/-- **The branch's output is the reference's**, for operands whose entries are finite. -/
theorem algebraic : Cert.algebraic_MixerIdeal_MixerReferenceIdeal_pre_finite := by
  intro m ρ m' ρ' hpre hagree
  refine ⟨fun c => (Cert.MixerIdeal.Gen.dats m 0 c).arrAt 15 Cert.MixerIdeal.cfg0.N,
    (θ_run _ _ _).mono (fun _ h c => ⟨(h c).2.1, (h c).2.2.2.2.2⟩) (Cert.MixerIdeal.Value.run_blocks (F := Ideal) m ρ),
    (θ_run _ _ _).mono (fun _ h c => ⟨?_, (h c).2⟩) (Cert.MixerReferenceIdeal.Value.run (F := Ideal) m' ρ')⟩
  refine (h c).1.trans (Eq.trans ?_ (Cert.MixerIdeal.Ssd.final15 m c (rec_is m c) (rec_real m c hpre)).symm)
  refine (Cert.MixerReferenceIdeal.Read.val_main_v128_eq _).trans (funext fun i => ?_)
  obtain ⟨e0, e1, e2, -, e4, e5, e6, e7, e8, -, e10, -⟩ := hagree c
  have H := rec_is m c
  rw [← e0, ← e1, ← e2, ← e4, ← e5, ← e6, ← e7, ← e8, ← e10] at H
  obtain ⟨r, d, rfl⟩ : ∃ (r : Fin 16384) (d : Fin 1024), i = ix2 r d := ⟨i 0, i 1, eq_ix2 i⟩
  exact Cert.MixerReferenceIdeal.Rows.out_at H (rec_real m c hpre) r d

end Cert.SsdClaims
-- ==== Proof.OutProjValue.lean ====
module

public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.RowNorm
public import Idealize.ShloMosaic.Lib.Pipeline.ValueKit
public import Idealize.ShloMosaic.Lib.Pointwise

/-!
# What the output projection's kernel computes

The three results the kernel and its reference share, named row by row (`OutProjRows`); then what one row block of 128
rows holds, as a function of the blocks a grid point is given; then the three result arrays, whole.
-/

@[expose] public section

set_option maxRecDepth 16384

noncomputable section

namespace Cert.OutProjRows

open Idealize.ShloMosaic Cert.RowNorm

/-- Row `r` of the mixed heads times the output projection: the first 1024 rows of the weight meet the first head
    group's output, the last 1024 the second's. -/
def mix (oa ob : (⟨2, ![16384, 1024]⟩ : Shape).Idx → EReal) (w : (⟨3, ![1, 2048, 2048]⟩ : Shape).Idx → EReal)
    (r : Fin 16384) (d : Fin 2048) : EReal :=
  ∑ k : Fin 1024, oa (ix2 r k) * w (ix3 0 ⟨k.val, by omega⟩ d)
    + ∑ k : Fin 1024, ob (ix2 r k) * w (ix3 0 ⟨1024 + k.val, by omega⟩ d)

/-- The residual stream after the token mixer: the input row plus the normalised projection. -/
def x1 (oa ob : (⟨2, ![16384, 1024]⟩ : Shape).Idx → EReal) (w : (⟨3, ![1, 2048, 2048]⟩ : Shape).Idx → EReal)
    (x : (⟨3, ![2, 8192, 2048]⟩ : Shape).Idx → EReal) (p : (⟨2, ![1, 2048]⟩ : Shape).Idx → EReal)
    (r : Fin 16384) (d : Fin 2048) : EReal :=
  x (ix3 ⟨r.val / 8192, by omega⟩ ⟨r.val % 8192, by omega⟩ d)
    + mix oa ob w r d * rstd (mix oa ob w r) * p (ix2 0 d)

/-- The feed-forward's input: that row normalised. -/
def h2 (oa ob : (⟨2, ![16384, 1024]⟩ : Shape).Idx → EReal) (w : (⟨3, ![1, 2048, 2048]⟩ : Shape).Idx → EReal)
    (x : (⟨3, ![2, 8192, 2048]⟩ : Shape).Idx → EReal) (p q : (⟨2, ![1, 2048]⟩ : Shape).Idx → EReal)
    (r : Fin 16384) (d : Fin 2048) : EReal :=
  x1 oa ob w x p r d * rstd (x1 oa ob w x p r) * q (ix2 0 d)

end Cert.OutProjRows

namespace Cert.OutProjIdeal.Rows

open Cert.OutProjIdeal Cert.OutProjIdeal.Gen Idealize.ShloMosaic Idealize.ShloMosaic.TcCoe Idealize.SL.Sem
open Cert.RowNorm Cert.OutProjRows

/-! ## One block of 128 rows -/

section Payload

variable (a : Vec Ideal S128x1024 .bf16) (wa : Vec Ideal S1024x2048 .bf16) (b : Vec Ideal S128x1024 .bf16)
    (wb : Vec Ideal S1024x2048 .bf16) (x : Vec Ideal S128x2048 .f32) (p q : Vec Ideal S1x2048 .f32)

/-- A row of the block's projection. -/
def pmix (r : Fin 128) (d : Fin 2048) : EReal :=
  ∑ k, a (ix2 r k) * wa (ix2 k d) + ∑ k, b (ix2 r k) * wb (ix2 k d)

/-- The block's new residual row, -/
def px1 (r : Fin 128) (d : Fin 2048) : EReal :=
  x (ix2 r d) + pmix a wa b wb r d * rstd (pmix a wa b wb r) * p (ix2 0 d)

/-- What the body stores into the first result's buffer, read at an index. -/
theorem pay4_apply (r : Fin 128) (d : Fin 2048) : k0_pay4 a wa b wb x p (ix2 r d) = px1 a wa b wb x p r d := by
  pointwise [k0_pay4]
  rfl

/-- What the body stores into the second result's buffer, read at an index. -/
theorem pay6_apply (r : Fin 128) (d : Fin 2048) :
    k0_pay6 (k0_pay4 a wa b wb x p) (k0_pay5 a wa b wb x p) q (ix2 r d)
      = px1 a wa b wb x p r d * rstd (px1 a wa b wb x p r) * q (ix2 0 d) := by
  have h : ∀ k, k0_pay4 a wa b wb x p (ix2 r k) = px1 a wa b wb x p r k := fun k => pay4_apply a wa b wb x p r k
  unfold k0_pay6 k0_pay5
  generalize k0_pay4 a wa b wb x p = y at h
  pointwise []
  simp only [h]
  rfl

/-! The other row blocks store the same functions of their rows, cut into other operations. -/

theorem pay9_eq : k0_pay9 (k0_pay7 x) (k0_pay8 a wa b wb) p = k0_pay4 a wa b wb x p := rfl
theorem pay14_eq : k0_pay14 (k0_pay11 a wa b wb) (k0_pay12 x) (k0_pay13 a wa b wb) (Scalar.ofBits .f32 0x45000000#32) p
    = k0_pay4 a wa b wb x p := rfl
theorem pay1_eq : k0_pay1 (k0_pay16 a wa) b (k0_pay17 wb) (constant S128x2048 .f32 0x00000000#32) x p
    = k0_pay4 a wa b wb x p := rfl
theorem pay10_eq : k0_pay10 (k0_pay7 x) (k0_pay8 a wa b wb) p q
    = k0_pay6 (k0_pay4 a wa b wb x p) (k0_pay5 a wa b wb x p) q := rfl
theorem pay15_eq : k0_pay15 (k0_pay11 a wa b wb) (k0_pay12 x) (k0_pay13 a wa b wb) (Scalar.ofBits .f32 0x45000000#32) p q
    = k0_pay6 (k0_pay4 a wa b wb x p) (k0_pay5 a wa b wb x p) q := rfl
theorem pay2_eq : k0_pay2 (k0_pay16 a wa) b (k0_pay17 wb) (constant S128x2048 .f32 0x00000000#32) x p q
    = k0_pay6 (k0_pay4 a wa b wb x p) (k0_pay5 a wa b wb x p) q := rfl

/-- The third result's block is the weights' block. -/
theorem pay3_apply (v : Vec Ideal S176x2048 .f32) (i : S176x2048.Idx) : k0_pay3 v i = v i := by
  idx_vars i
  pointwise [k0_pay3]

end Payload

/-! ## The result arrays -/

variable (m : (ℓ : Loc nD τ sig) → Buf (Elt Ideal) ℓ)

theorem idx (t : Fin grid0.N) : win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0] := by
  revert t
  decide +kernel

variable (c : Dev nD) (t : Fin grid0.N)

theorem lt_rows (r : Fin 512) : 512 * t.val + r.val < 16384 := by
  have := t.isLt; have := N_0; omega

theorem lt_rows' (r : Fin 176) : 176 * t.val + r.val < 5632 := by
  have := t.isLt; have := N_0; omega

theorem blk0 (r : Fin 512) (k : Fin 1024) :
    iblk m c 0 t (ix2 r k) = m ((c : Thread nD τ).loc main_arg0) (ix2 ⟨512 * t.val + r.val, lt_rows t r⟩ k) := by
  blk_ext [iblk, V, idx t]

theorem blk1 (r : Fin 512) (k : Fin 1024) :
    iblk m c 1 t (ix2 r k) = m ((c : Thread nD τ).loc main_arg1) (ix2 ⟨512 * t.val + r.val, lt_rows t r⟩ k) := by
  blk_ext [iblk, V, idx t]

theorem blk2 (k : Fin 1024) (d : Fin 2048) :
    iblk m c 2 t (ix2 k d) = m ((c : Thread nD τ).loc main_arg2) (ix3 0 ⟨k.val, by omega⟩ d) := by
  blk_ext! [iblk, V, idx t]

theorem blk3 (k : Fin 1024) (d : Fin 2048) :
    iblk m c 3 t (ix2 k d) = m ((c : Thread nD τ).loc main_arg2) (ix3 0 ⟨1024 + k.val, by omega⟩ d) := by
  blk_ext! [iblk, V, idx t]

theorem blk4 (r : Fin 512) (d : Fin 2048) :
    iblk m c 4 t (ix2 r d) = m ((c : Thread nD τ).loc main_arg3) (ix3 ⟨(512 * t.val + r.val) / 8192, by have := lt_rows t r; omega⟩
      ⟨(512 * t.val + r.val) % 8192, by omega⟩ d) := by
  blk_ext! [iblk, V, idx t]

theorem blk5 (d : Fin 2048) : iblk m c 5 t (ix2 0 d) = m ((c : Thread nD τ).loc main_arg4) (ix2 0 d) := by
  blk_ext! [iblk, V, idx t]

theorem blk6 (d : Fin 2048) : iblk m c 6 t (ix2 0 d) = m ((c : Thread nD τ).loc main_arg5) (ix2 0 d) := by
  blk_ext! [iblk, V, idx t]

theorem blk7 (r : Fin 176) (d : Fin 2048) :
    iblk m c 7 t (ix2 r d) = m ((c : Thread nD τ).loc main_arg6) (ix3 0 ⟨176 * t.val + r.val, lt_rows' t r⟩ d) := by
  blk_ext! [iblk, V, idx t]

/-! ## The four row blocks of a point -/

section Piece

variable (o : Nat) (ho : o + 128 ≤ 512) (A B : Vec Ideal S128x1024 .bf16) (X : Vec Ideal S128x2048 .f32)
    (hA : ∀ (r : Fin 128) (k : Fin 1024), A (ix2 r k) = iblk m c 0 t (ix2 ⟨o + r.val, by omega⟩ k))
    (hB : ∀ (r : Fin 128) (k : Fin 1024), B (ix2 r k) = iblk m c 1 t (ix2 ⟨o + r.val, by omega⟩ k))
    (hX : ∀ (r : Fin 128) (d : Fin 2048), X (ix2 r d) = iblk m c 4 t (ix2 ⟨o + r.val, by omega⟩ d))

include hA hB in
/-- Row `r` of the block at offset `o` of point `t` is row `512 t + o + r` of the projection, -/
theorem pmix_eq (r : Fin 128) (d : Fin 2048) : pmix A (iblk m c 2 t) B (iblk m c 3 t) r d
    = mix (m ((c : Thread nD τ).loc main_arg0)) (m ((c : Thread nD τ).loc main_arg1)) (m ((c : Thread nD τ).loc main_arg2))
      ⟨512 * t.val + (o + r.val), lt_rows t ⟨o + r.val, by omega⟩⟩ d := by
  unfold pmix mix
  simp only [hA, hB, blk0, blk1, blk2, blk3]

include hA hB hX in
/-- and of the new residual row. -/
theorem px1_eq (r : Fin 128) (d : Fin 2048) : px1 A (iblk m c 2 t) B (iblk m c 3 t) X (iblk m c 5 t) r d
    = OutProjRows.x1 (m ((c : Thread nD τ).loc main_arg0)) (m ((c : Thread nD τ).loc main_arg1)) (m ((c : Thread nD τ).loc main_arg2))
      (m ((c : Thread nD τ).loc main_arg3)) (m ((c : Thread nD τ).loc main_arg4))
      ⟨512 * t.val + (o + r.val), lt_rows t ⟨o + r.val, by omega⟩⟩ d := by
  unfold px1 x1
  rw [hX, blk4, blk5, pmix_eq m c t o ho A B hA hB r d, funext (pmix_eq m c t o ho A B hA hB r)]

include hA hB hX in
/-- The block of the first result that these rows are written to, -/
theorem piece8 (x : S128x2048.Idx) (u : Fin 512) (v : Fin 2048) (h0 : u.val = o + (x 0).val) (h1 : v.val = (x 1).val) :
    k0_pay4 A (iblk m c 2 t) B (iblk m c 3 t) X (iblk m c 5 t) x
    = OutProjRows.x1 (m ((c : Thread nD τ).loc main_arg0)) (m ((c : Thread nD τ).loc main_arg1)) (m ((c : Thread nD τ).loc main_arg2))
      (m ((c : Thread nD τ).loc main_arg3)) (m ((c : Thread nD τ).loc main_arg4)) ⟨512 * t.val + u.val, lt_rows t u⟩ v := by
  idx_vars x
  obtain rfl : v = x1 := Fin.ext h1
  obtain ⟨u, hu⟩ := u
  obtain rfl : u = o + x0.val := h0
  rw [pay4_apply]
  exact px1_eq m c t o ho A B X hA hB hX x0 v

include hA hB hX in
/-- and the block of the second. -/
theorem piece9 (x : S128x2048.Idx) (u : Fin 512) (v : Fin 2048) (h0 : u.val = o + (x 0).val) (h1 : v.val = (x 1).val) :
    k0_pay6 (k0_pay4 A (iblk m c 2 t) B (iblk m c 3 t) X (iblk m c 5 t)) (k0_pay5 A (iblk m c 2 t) B (iblk m c 3 t) X (iblk m c 5 t))
      (iblk m c 6 t) x
    = OutProjRows.h2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) ⟨512 * t.val + u.val, lt_rows t u⟩ v := by
  idx_vars x
  obtain rfl : v = x1 := Fin.ext h1
  obtain ⟨u, hu⟩ := u
  obtain rfl : u = o + x0.val := h0
  have e := px1_eq m c t o ho A B X hA hB hX x0
  rw [pay6_apply, blk6, e, funext e]
  rfl

end Piece

theorem ld_a (o : Nat) (inb) (X : Vec Ideal S512x1024 .bf16) (r : Fin 128) (k : Fin 1024) (h : o + r.val < 512) :
    View.ld X (Rect.unit (s := S512x1024) ![o, 0] S128x1024.size inb) (ix2 r k) = X (ix2 ⟨o + r.val, h⟩ k) := by
  refine View.ld_unit_apply_of X _ _ inb _ _ fun a => ?_
  match a with
  | ⟨0, _⟩ => rfl
  | ⟨1, _⟩ => exact (Nat.zero_add _).symm

theorem ld_x (o : Nat) (inb) (X : Vec Ideal S512x2048 .f32) (r : Fin 128) (k : Fin 2048) (h : o + r.val < 512) :
    View.ld X (Rect.unit (s := S512x2048) ![o, 0] S128x2048.size inb) (ix2 r k) = X (ix2 ⟨o + r.val, h⟩ k) := by
  refine View.ld_unit_apply_of X _ _ inb _ _ fun a => ?_
  match a with
  | ⟨0, _⟩ => rfl
  | ⟨1, _⟩ => exact (Nat.zero_add _).symm

/-- **What the run leaves in the first result**: the residual stream after the output projection. -/
theorem final8 : (dats m 0 c).arrAt 8 cfg0.N = fun i => OutProjRows.x1 (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) := by
  refine (dats m 0 c).arrAt_eq_of_covers 8 _ (by decide +kernel) fun t hf y => ?_
  blk_simp
  rw [after0_8]
  unfold_out out0_8
  simp only [pay9_eq, pay14_eq, pay1_eq]
  frame_out
  have e0 : ((View.whole main_v8_0).slice (win0_8.rect t)).emb y 0 = ⟨512 * t.val + (y 0).val, lt_rows t (y 0)⟩ := by
    apply Fin.ext; blk_simp [idx t]; exact congrArg (· + (y 0).val) (Nat.mul_comm _ _)
  have e1 : ((View.whole main_v8_0).slice (win0_8.rect t)).emb y 1 = y 1 := by
    apply Fin.ext; blk_simp [idx t]
  rw [e0, e1]
  canon_tiles x h
  · exact piece8 m c t 384 (by decide) _ _ _ (fun r k => ld_a 384 _ _ r k _) (fun r k => ld_a 384 _ _ r k _)
      (fun r k => ld_x 384 _ _ r k _) x (y 0) (y 1) h0 h1
  · exact piece8 m c t 256 (by decide) _ _ _ (fun r k => ld_a 256 _ _ r k _) (fun r k => ld_a 256 _ _ r k _)
      (fun r k => ld_x 256 _ _ r k _) x (y 0) (y 1) h0 h1
  · exact piece8 m c t 128 (by decide) _ _ _ (fun r k => ld_a 128 _ _ r k _) (fun r k => ld_a 128 _ _ r k _)
      (fun r k => ld_x 128 _ _ r k _) x (y 0) (y 1) h0 h1
  · exact piece8 m c t 0 (by decide) _ _ _ (fun r k => ld_a 0 _ _ r k _) (fun r k => ld_a 0 _ _ r k _)
      (fun r k => ld_x 0 _ _ r k _) x (y 0) (y 1) (h0.trans (Nat.zero_add _).symm) h1

/-- **What it leaves in the second**: the normalised rows the feed-forward net reads. -/
theorem final9 : (dats m 0 c).arrAt 9 cfg0.N = fun i => OutProjRows.h2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) := by
  refine (dats m 0 c).arrAt_eq_of_covers 9 _ (by decide +kernel) fun t hf y => ?_
  blk_simp
  rw [after0_9]
  unfold_out out0_9
  simp only [pay10_eq, pay15_eq, pay2_eq]
  frame_out
  have e0 : ((View.whole main_v8_1).slice (win0_9.rect t)).emb y 0 = ⟨512 * t.val + (y 0).val, lt_rows t (y 0)⟩ := by
    apply Fin.ext; blk_simp [idx t]; exact congrArg (· + (y 0).val) (Nat.mul_comm _ _)
  have e1 : ((View.whole main_v8_1).slice (win0_9.rect t)).emb y 1 = y 1 := by
    apply Fin.ext; blk_simp [idx t]
  rw [e0, e1]
  canon_tiles x h
  · exact piece9 m c t 384 (by decide) _ _ _ (fun r k => ld_a 384 _ _ r k _) (fun r k => ld_a 384 _ _ r k _)
      (fun r k => ld_x 384 _ _ r k _) x (y 0) (y 1) h0 h1
  · exact piece9 m c t 256 (by decide) _ _ _ (fun r k => ld_a 256 _ _ r k _) (fun r k => ld_a 256 _ _ r k _)
      (fun r k => ld_x 256 _ _ r k _) x (y 0) (y 1) h0 h1
  · exact piece9 m c t 128 (by decide) _ _ _ (fun r k => ld_a 128 _ _ r k _) (fun r k => ld_a 128 _ _ r k _)
      (fun r k => ld_x 128 _ _ r k _) x (y 0) (y 1) h0 h1
  · exact piece9 m c t 0 (by decide) _ _ _ (fun r k => ld_a 0 _ _ r k _) (fun r k => ld_a 0 _ _ r k _)
      (fun r k => ld_x 0 _ _ r k _) x (y 0) (y 1) (h0.trans (Nat.zero_add _).symm) h1

/-- **What it leaves in the third**: the down projection's weights themselves. -/
theorem final10 : (dats m 0 c).arrAt 10 cfg0.N = fun i => m ((c : Thread nD τ).loc main_arg6) (ix3 0 (i 0) (i 1)) := by
  refine (dats m 0 c).arrAt_eq_of_covers 10 _ (by decide +kernel) fun t hf y => ?_
  blk_simp
  rw [after0_10]
  frame_out
  have e0 : ((View.whole main_v8_2).slice (win0_10.rect t)).emb y 0 = ⟨176 * t.val + (y 0).val, lt_rows' t (y 0)⟩ := by
    apply Fin.ext; blk_simp [idx t]; exact congrArg (· + (y 0).val) (Nat.mul_comm _ _)
  have e1 : ((View.whole main_v8_2).slice (win0_10.rect t)).emb y 1 = y 1 := by
    apply Fin.ext; blk_simp [idx t]
  rw [e0, e1]
  have key : ∀ z : S176x2048.Idx, k0_pay3 (iblk m c 7 t) z
      = m ((c : Thread nD τ).loc main_arg6) (ix3 0 ⟨176 * t.val + (z 0).val, lt_rows' t (z 0)⟩ (z 1)) := by
    intro z
    idx_vars z
    exact (pay3_apply _ _).trans (blk7 m c t z0 z1)
  exact key y

end Cert.OutProjIdeal.Rows
-- ==== Proof.OutProjRef.lean ====
module

public import proofs.«01_k».proof.Proof.Gen.OutProjReferenceIdeal.Read
public import proofs.«01_k».proof.Proof.OutProjValue
import Idealize.ShloMosaic.Lib.Pipeline.ValueKit
import Idealize.ShloMosaic.Lib.Pointwise

/-! # What the reference of the output projection computes

The reference's three results, read at an index, are the rows that `OutProjValue` names. -/

@[expose] public section

set_option maxRecDepth 16384

noncomputable section

namespace Cert.OutProjReferenceIdeal.Rows

open Idealize.ShloMosaic Cert.RowNorm Cert.OutProjRows Cert.OutProjReferenceIdeal Cert.OutProjReferenceIdeal.Gen Cert.OutProjReferenceIdeal.Read

variable (oa ob : Vec Ideal S16384x1024 .bf16) (w : Vec Ideal S1x2048x2048 .f32) (x : Vec Ideal S2x8192x2048 .f32)
    (p q : Vec Ideal S1x2048 .f32) (wd : Vec Ideal S1x5632x2048 .f32)

/-- The projection of a row of the two mixers' outputs, side by side, -/
theorem proj_apply (r : Fin 16384) (d : Fin 2048) : val_main_v4 (F := Ideal) oa ob w (ix2 r d) = mix oa ob w r d := by
  rw [val_main_v4_apply, Fin.sum_univ_two_halves 1024 1024 rfl]
  pointwise [val_main_v2, val_main_v1, val_main_v3]
  rfl

/-- the new residual row, -/
theorem res0_apply (r : Fin 16384) (d : Fin 2048) :
    val_main_v19 (F := Ideal) oa ob w x p (ix2 r d) = x1 oa ob w x p r d := by
  have h := proj_apply oa ob w
  unfold val_main_v19 val_main_v18 val_main_v15 val_main_v14 val_main_v13 val_main_v12 val_main_v10 val_main_v8 val_main_v7
    val_main_v6
  generalize val_main_v4 (F := Ideal) oa ob w = y at h
  pointwise [val_main_v0, val_main_v5, val_main_v16, val_main_v17, val_main_v9, val_main_v11, val_main_cst, val_main_cst_0,
    val_main_cst_1]
  simp only [h]
  rfl

/-- its normalisation, -/
theorem res1_apply (r : Fin 16384) (d : Fin 2048) :
    val_main_v34 (F := Ideal) oa ob w x p q (ix2 r d) = h2 oa ob w x p q r d := by
  have h := res0_apply oa ob w x p
  unfold val_main_v34 val_main_v33 val_main_v30 val_main_v29 val_main_v28 val_main_v27 val_main_v25 val_main_v23 val_main_v22
    val_main_v21
  generalize val_main_v19 (F := Ideal) oa ob w x p = y at h
  pointwise [val_main_v20, val_main_v31, val_main_v32, val_main_v24, val_main_v26, val_main_cst_2, val_main_cst_3,
    val_main_cst_4]
  simp only [h]
  rfl

/-- and the weights themselves. -/
theorem res2_apply (r : Fin 5632) (d : Fin 2048) : val_main_v36 (F := Ideal) wd (ix2 r d) = wd (ix3 0 r d) := by
  pointwise [val_main_v36, val_main_v35]

end Cert.OutProjReferenceIdeal.Rows
-- ==== Proof.OutProj.lean ====
module

public import proofs.«01_k».proof.Defs
public import proofs.«01_k».proof.Proof.Gen.OutProj.Frame
public import proofs.«01_k».proof.Proof.OutProjValue
public import proofs.«01_k».proof.Proof.OutProjRef

/-! # The output projection's claims

Frames of the kernel and of its reference, and the equality of their three results. -/

@[expose] public section

noncomputable section

namespace Cert.OutProjClaims

open Idealize.ShloMosaic Idealize.ShloMosaic.TcCoe Idealize.SL.Sem

/-- The kernel runs, at the machine's floats, -/
theorem frame_bits : Cert.quiescent_OutProj := fun m ρ _ => Cert.OutProj.Gen.frame m ρ

/-- and at the exact ones; -/
theorem frame_ideal : Cert.quiescent_OutProjIdeal := fun m ρ _ => Cert.OutProjIdeal.Gen.frame m ρ

/-- so does the reference. -/
theorem frame_reference : Cert.quiescent_OutProjReferenceIdeal := fun m ρ _ =>
  (θ_run _ _ _).mono (fun r h => ⟨fun c => (h c).2.2.2, sem_eq_zero_of_no_sems (by decide) r.2⟩)
    (Cert.OutProjReferenceIdeal.Value.run (F := Ideal) m ρ)

section Reference

open Cert.OutProjReferenceIdeal Cert.OutProjReferenceIdeal.Read Cert.OutProjRows

variable (m : (ℓ : Loc nD τ sig) → Buf (Elt Ideal) ℓ) (ρ : Dev nD → PrngReg)

/-- The reference's run with its results named row by row. -/
theorem run_reference : θ_run defs (onTc (τ := τ) (main (F := Ideal))) ⟨m, fun _ => 0, ρ⟩ fun r => ∀ c : Dev nD,
    (r.2.mem ((c : Thread nD τ).loc main_v19) = fun i => x1 (m ((c : Thread nD τ).loc main_arg0))
      (m ((c : Thread nD τ).loc main_arg1)) (m ((c : Thread nD τ).loc main_arg2)) (m ((c : Thread nD τ).loc main_arg3))
      (m ((c : Thread nD τ).loc main_arg4)) (i 0) (i 1))
    ∧ (r.2.mem ((c : Thread nD τ).loc main_v34) = fun i => h2 (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (i 0) (i 1))
    ∧ (r.2.mem ((c : Thread nD τ).loc main_v36) = fun i => m ((c : Thread nD τ).loc main_arg6) (ix3 0 (i 0) (i 1)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  refine (θ_run defs _ _).mono (fun _ h c => ⟨?_, ?_, ?_, (h c).2.2.2⟩) (Cert.OutProjReferenceIdeal.Value.run (F := Ideal) m ρ)
  · refine ((h c).1.trans (val_main_v19_eq _ _ _ _ _)).trans (funext fun i => ?_)
    idx_vars i
    exact Rows.res0_apply _ _ _ _ _ i0 i1
  · refine ((h c).2.1.trans (val_main_v34_eq _ _)).trans (funext fun i => ?_)
    idx_vars i
    exact Rows.res1_apply _ _ _ _ _ _ i0 i1
  · refine ((h c).2.2.1.trans (val_main_v36_eq _)).trans (funext fun i => ?_)
    idx_vars i
    exact Rows.res2_apply _ i0 i1

end Reference

/-- Nothing was rewritten between the two readings of the kernel. -/
theorem preserves : Cert.preserves_OutProj_OutProjIdeal := trivial

/-- **The kernel's three results are the reference's.** -/
theorem algebraic : Cert.algebraic_OutProjIdeal_OutProjReferenceIdeal := by
  intro m ρ m' ρ' _ hagree
  refine ⟨fun c => (Cert.OutProjIdeal.Gen.dats m 0 c).arrAt 8 Cert.OutProjIdeal.cfg0.N,
    fun c => (Cert.OutProjIdeal.Gen.dats m 0 c).arrAt 9 Cert.OutProjIdeal.cfg0.N,
    fun c => (Cert.OutProjIdeal.Gen.dats m 0 c).arrAt 10 Cert.OutProjIdeal.cfg0.N,
    Cert.OutProjIdeal.Value.run_blocks (F := Ideal) m ρ, (θ_run _ _ _).mono (fun _ h c => ?_) (run_reference m' ρ')⟩
  obtain ⟨e0, e1, e2, e3, e4, e5, e6⟩ := hagree c
  refine ⟨(h c).1.trans (Eq.trans ?_ (Cert.OutProjIdeal.Rows.final8 m c).symm),
    (h c).2.1.trans (Eq.trans ?_ (Cert.OutProjIdeal.Rows.final9 m c).symm),
    (h c).2.2.1.trans (Eq.trans ?_ (Cert.OutProjIdeal.Rows.final10 m c).symm), (h c).2.2.2⟩
  · rw [e0, e1, e2, e3, e4]; rfl
  · rw [e0, e1, e2, e3, e4, e5]; rfl
  · rw [e6]; rfl

end Cert.OutProjClaims
-- ==== Proof.FfnBody.lean ====
module

public import proofs.«01_k».proof.Proof.Gen.FfnIdeal.Frame
public import proofs.«01_k».proof.Proof.Gen.FfnIdeal.Skeleton
public import Idealize.ShloMosaic.Lib.Pipeline.ValueKit
public import Idealize.ShloMosaic.Lib.Pointwise
public import Idealize.ShloMosaic.Lib.WritesUnit
public import Idealize.ShloMosaic.Lib.VecWindow

/-!
# The feed-forward kernel's body, run case by case

The body of the feed-forward kernel has four branches, chosen by the step `j` of the hidden dimension: the first eight
steps copy a piece of the residual row block into the kernel's scratch; the first step stores its product in the output
block, the steps after it add theirs to what the output block holds, and the last step adds its own, normalises the sum
and adds the residual. Which branches are taken makes four cases. For each this module states what the body leaves in
the output block and in the scratch, as a function of what it found there and of the input blocks, and proves it by
running the body.
-/

@[expose] public section

set_option maxRecDepth 16384

noncomputable section

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Values

variable (x0 : Vec F S1024x2048 .bf16) (x1 : Vec F S1024x256 .f32) (x2 x3 : Vec F S2048x512 .bf16)
  (x4 : Vec F S512x2048 .bf16) (x5 : Vec F S1x2048 .f32) (o s : Vec F S1024x2048 .f32)

/-- `o` with its four bands of 512 columns replaced by `p0`, `p1`, `p2` and `p3`. -/
def bands (p0 p1 p2 p3 : Vec F S1024x512 .f32) : Vec F S1024x2048 .f32 :=
  VecWindow.put (VecWindow.put (VecWindow.put (VecWindow.put o ![0, 0] ![1024, 512] p0) ![0, 512] ![1024, 512] p1)
    ![0, 1024] ![1024, 512] p2) ![0, 1536] ![1024, 512] p3

/-- The band of 512 columns of `o` at column `k`, and of the down projection's block. -/
abbrev oBand (k : ℕ) (h : ∀ a, (![0, k] : Fin 2 → ℕ) a + ![1024, 512] a ≤ S1024x2048.size a) : Vec F S1024x512 .f32 :=
  VecWindow.window o ![0, k] ![1024, 512] h
/-- The band of 512 columns of the down projection's block at column `k`. -/
abbrev wBand (k : ℕ) (h : ∀ a, (![0, k] : Fin 2 → ℕ) a + ![512, 512] a ≤ S512x2048.size a) : Vec F S512x512 .bf16 :=
  VecWindow.window x4 ![0, k] ![512, 512] h
/-- The whole block of normalised rows, as the body loads it. -/
abbrev rows : Vec F S1024x2048 .bf16 :=
  VecWindow.window x0 ![0, 0] ![1024, 2048] inb_S1024x2048_S1024x2048_0_0
/-- The first half of a gate or up block: 256 columns. -/
abbrev half0 (x : Vec F S2048x512 .bf16) : Vec F S2048x256 .bf16 :=
  VecWindow.window x ![0, 0] ![2048, 256] inb_S2048x512_S2048x256_0_0
/-- The second half of a gate or up block. -/
abbrev half1 (x : Vec F S2048x512 .bf16) : Vec F S2048x256 .bf16 :=
  VecWindow.window x ![0, 256] ![2048, 256] inb_S2048x512_S2048x256_0_256

/-- The step's hidden values: 512 columns. -/
abbrev hidden : Vec F S1024x512 .bf16 := k0_pay11 (rows x0) (half0 x2) (half0 x3) (half1 x2) (half1 x3)
/-- The step's product in the first band of columns. -/
abbrev prod0 : Vec F S1024x512 .f32 :=
  k0_pay12 (rows x0) (half0 x2) (half0 x3) (half1 x2) (half1 x3) (wBand x4 0 inb_S512x2048_S512x512_0_0)

/-- The output block after the first step: the step's product. -/
def first : Vec F S1024x2048 .f32 :=
  bands o (prod0 x0 x2 x3 x4)
    (k0_pay2 (hidden x0 x2 x3) (wBand x4 512 inb_S512x2048_S512x512_0_512))
    (k0_pay3 (hidden x0 x2 x3) (wBand x4 1024 inb_S512x2048_S512x512_0_1024))
    (k0_pay4 (hidden x0 x2 x3) (wBand x4 1536 inb_S512x2048_S512x512_0_1536))

/-- The output block after a step that adds its product to what was there. -/
def added : Vec F S1024x2048 .f32 :=
  bands o (k0_pay5 (prod0 x0 x2 x3 x4) (oBand o 0 inb_S1024x2048_S1024x512_0_0))
    (k0_pay6 (hidden x0 x2 x3) (wBand x4 512 inb_S512x2048_S512x512_0_512) (oBand o 512 inb_S1024x2048_S1024x512_0_512))
    (k0_pay7 (hidden x0 x2 x3) (wBand x4 1024 inb_S512x2048_S512x512_0_1024) (oBand o 1024 inb_S1024x2048_S1024x512_0_1024))
    (k0_pay8 (hidden x0 x2 x3) (wBand x4 1536 inb_S512x2048_S512x512_0_1536) (oBand o 1536 inb_S1024x2048_S1024x512_0_1536))

/-- The output block after the last step: the sum normalised by its rows' mean squares, weighted, plus the residual. -/
def finished : Vec F S1024x2048 .f32 :=
  k0_pay10
    (k0_pay20 (hidden x0 x2 x3) (prod0 x0 x2 x3 x4) (oBand o 0 inb_S1024x2048_S1024x512_0_0)
      (wBand x4 512 inb_S512x2048_S512x512_0_512) (oBand o 512 inb_S1024x2048_S1024x512_0_512)
      (wBand x4 1024 inb_S512x2048_S512x512_0_1024) (oBand o 1024 inb_S1024x2048_S1024x512_0_1024))
    (k0_pay21 (hidden x0 x2 x3) (wBand x4 1536 inb_S512x2048_S512x512_0_1536))
    (oBand o 1536 inb_S1024x2048_S1024x512_0_1536)
    (VecWindow.window s ![0, 0] ![1024, 2048] inb_S1024x2048_S1024x2048_0_0)
    (VecWindow.window (added x0 x2 x3 x4 o) ![0, 0] ![1024, 2048] inb_S1024x2048_S1024x2048_0_0)
    (VecWindow.window x5 ![0, 0] ![1, 2048] inb_S1x2048_S1x2048_0_0)

/-- The scratch after a step that copies its piece of the residual's row block. -/
def copied (i : grid0.Coords) : Vec F S1024x2048 .f32 :=
  VecWindow.put s (k0_off1 i) ![1024, 256] (k0_pay1 (VecWindow.window x1 ![0, 0] ![1024, 256] inb_S1024x256_S1024x256_0_0))

end Values

/-- A band put into a block, read at a row and a column: inside the band the payload, outside what was there. -/
theorem put_cols (W k : ℕ) (o : Vec F S1024x2048 .f32) (p : ((a : Fin 2) → Fin ((![1024, W] : Fin 2 → ℕ) a)) → Elt F .f32) (r : Fin 1024) (d : Fin 2048) :
    VecWindow.put (s := S1024x2048) o ![0, k] ![1024, W] p (ix2 r d)
      = if h : k ≤ d.val ∧ d.val < k + W then p (ix2 r (⟨d.val - k, by omega⟩ : Fin W)) else o (ix2 r d) := by
  by_cases h : k ≤ d.val ∧ d.val < k + W
  · rw [dif_pos h]
    have hm : ∀ a : Fin 2, (![0, k] : Fin 2 → ℕ) a ≤ ((ix2 r d : S1024x2048.Idx) a).val
        ∧ ((ix2 r d : S1024x2048.Idx) a).val < (![0, k] : Fin 2 → ℕ) a + (![1024, W] : Fin 2 → ℕ) a := fun a => by
      match a with
      | 0 => exact ⟨Nat.zero_le _, by show r.val < 0 + 1024; omega⟩
      | 1 => exact h
    refine (dif_pos hm).trans (congrArg p (funext fun a => ?_))
    match a with
    | 0 => exact Fin.ext (Nat.sub_zero _)
    | 1 => rfl
  · rw [dif_neg h]
    exact dif_neg fun hm => h (hm 1)

/-- The four bands cover the block: what was there before does not matter. -/
theorem bands_base (o o' : Vec F S1024x2048 .f32) (p0 p1 p2 p3 : Vec F S1024x512 .f32) :
    bands o p0 p1 p2 p3 = bands o' p0 p1 p2 p3 := by
  funext y
  obtain ⟨r, d, rfl⟩ : ∃ (r : Fin 1024) (d : Fin 2048), y = ix2 r d := ⟨y 0, y 1, eq_ix2 y⟩
  unfold bands
  refine (put_cols 512 1536 _ p3 r d).trans (Eq.trans ?_ (put_cols 512 1536 _ p3 r d).symm)
  refine dite_congr rfl (fun _ => rfl) fun h3 => ?_
  refine (put_cols 512 1024 _ p2 r d).trans (Eq.trans ?_ (put_cols 512 1024 _ p2 r d).symm)
  refine dite_congr rfl (fun _ => rfl) fun h2 => ?_
  refine (put_cols 512 512 _ p1 r d).trans (Eq.trans ?_ (put_cols 512 512 _ p1 r d).symm)
  refine dite_congr rfl (fun _ => rfl) fun h1 => ?_
  refine (put_cols 512 0 _ p0 r d).trans (Eq.trans ?_ (put_cols 512 0 _ p0 r d).symm)
  refine dite_congr rfl (fun _ => rfl) fun h0 => ?_
  omega

set_option maxHeartbeats 1000000 in
/-- The first step: the scratch takes its piece, the output block the step's product. -/
theorem run_A (c : Dev nD) (i : grid0.Coords)
    (arg2 : Memref sig .tc .vmem S1024x2048 .bf16) (harg2 : arg2.IsWhole)
    (arg3 : Memref sig .tc .vmem S1024x256 .f32) (harg3 : arg3.IsWhole)
    (arg4 : Memref sig .tc .vmem S2048x512 .bf16) (harg4 : arg4.IsWhole)
    (arg5 : Memref sig .tc .vmem S2048x512 .bf16) (harg5 : arg5.IsWhole)
    (arg6 : Memref sig .tc .vmem S512x2048 .bf16) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x2048 .f32) (harg9 : arg9.IsWhole)
    (h1 : k0_cond1 i = 1#1) (h2 : k0_cond2 i = 1#1) (h3 : ¬k0_cond3 i = 1#1) (h4 : ¬k0_cond4 i = 1#1)
    (x0 : Vec F S1024x2048 .bf16) (x1 : Vec F S1024x256 .f32) (x2 : Vec F S2048x512 .bf16) (x3 : Vec F S2048x512 .bf16) (x4 : Vec F S512x2048 .bf16) (x5 : Vec F S1x2048 .f32)
    (o s : Vec F S1024x2048 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare o ∗ owns (c : Thread nD τ) arg9 fullShare s
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (first x0 x2 x3 x4 o)
        ∗ owns (c : Thread nD τ) arg9 fullShare (copied x1 s i)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl, View.read_writes_cons_put _ _ _ _ _ rfl,
      View.read_writes_cons_put _ _ _ _ _ rfl, View.read_writes_cons_put _ _ _ _ _ rfl, View.writes_nil]
    rfl
  iexists _; isplitr; swap; · iexact H7
  ipureintro
  rw [View.read_writes_cons_put _ _ _ _ _ rfl, View.writes_nil]
  rfl

set_option maxHeartbeats 1000000 in
/-- Steps 1 to 7: the scratch takes its piece, the step's product is added to the output block. -/
theorem run_B (c : Dev nD) (i : grid0.Coords)
    (arg2 : Memref sig .tc .vmem S1024x2048 .bf16) (harg2 : arg2.IsWhole)
    (arg3 : Memref sig .tc .vmem S1024x256 .f32) (harg3 : arg3.IsWhole)
    (arg4 : Memref sig .tc .vmem S2048x512 .bf16) (harg4 : arg4.IsWhole)
    (arg5 : Memref sig .tc .vmem S2048x512 .bf16) (harg5 : arg5.IsWhole)
    (arg6 : Memref sig .tc .vmem S512x2048 .bf16) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x2048 .f32) (harg9 : arg9.IsWhole)
    (h1 : k0_cond1 i = 1#1) (h2 : ¬k0_cond2 i = 1#1) (h3 : k0_cond3 i = 1#1) (h4 : ¬k0_cond4 i = 1#1)
    (x0 : Vec F S1024x2048 .bf16) (x1 : Vec F S1024x256 .f32) (x2 : Vec F S2048x512 .bf16) (x3 : Vec F S2048x512 .bf16) (x4 : Vec F S512x2048 .bf16) (x5 : Vec F S1x2048 .f32)
    (o s : Vec F S1024x2048 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare o ∗ owns (c : Thread nD τ) arg9 fullShare s
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (added x0 x2 x3 x4 o)
        ∗ owns (c : Thread nD τ) arg9 fullShare (copied x1 s i)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl, View.read_writes_cons_put _ _ _ _ _ rfl,
      View.read_writes_cons_put _ _ _ _ _ rfl, View.read_writes_cons_put _ _ _ _ _ rfl, View.writes_nil]
    rfl
  iexists _; isplitr; swap; · iexact H7
  ipureintro
  rw [View.read_writes_cons_put _ _ _ _ _ rfl, View.writes_nil]
  rfl

set_option maxHeartbeats 1000000 in
/-- Steps 8 and 9: the step's product is added to the output block. -/
theorem run_C (c : Dev nD) (i : grid0.Coords)
    (arg2 : Memref sig .tc .vmem S1024x2048 .bf16) (harg2 : arg2.IsWhole)
    (arg3 : Memref sig .tc .vmem S1024x256 .f32) (harg3 : arg3.IsWhole)
    (arg4 : Memref sig .tc .vmem S2048x512 .bf16) (harg4 : arg4.IsWhole)
    (arg5 : Memref sig .tc .vmem S2048x512 .bf16) (harg5 : arg5.IsWhole)
    (arg6 : Memref sig .tc .vmem S512x2048 .bf16) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x2048 .f32) (harg9 : arg9.IsWhole)
    (h1 : ¬k0_cond1 i = 1#1) (h2 : ¬k0_cond2 i = 1#1) (h3 : k0_cond3 i = 1#1) (h4 : ¬k0_cond4 i = 1#1)
    (x0 : Vec F S1024x2048 .bf16) (x1 : Vec F S1024x256 .f32) (x2 : Vec F S2048x512 .bf16) (x3 : Vec F S2048x512 .bf16) (x4 : Vec F S512x2048 .bf16) (x5 : Vec F S1x2048 .f32)
    (o s : Vec F S1024x2048 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare o ∗ owns (c : Thread nD τ) arg9 fullShare s
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (added x0 x2 x3 x4 o)
        ∗ owns (c : Thread nD τ) arg9 fullShare (s)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    rw [View.read_writes_cons_put _ _ _ _ _ rfl, View.read_writes_cons_put _ _ _ _ _ rfl,
      View.read_writes_cons_put _ _ _ _ _ rfl, View.read_writes_cons_put _ _ _ _ _ rfl, View.writes_nil]
    rfl
  iexists f7; isplitr; · ipureintro; rfl
  iexact H7

set_option maxHeartbeats 1000000 in
/-- The last step: the step's product is added, and the output block finished. -/
theorem run_D (c : Dev nD) (i : grid0.Coords)
    (arg2 : Memref sig .tc .vmem S1024x2048 .bf16) (harg2 : arg2.IsWhole)
    (arg3 : Memref sig .tc .vmem S1024x256 .f32) (harg3 : arg3.IsWhole)
    (arg4 : Memref sig .tc .vmem S2048x512 .bf16) (harg4 : arg4.IsWhole)
    (arg5 : Memref sig .tc .vmem S2048x512 .bf16) (harg5 : arg5.IsWhole)
    (arg6 : Memref sig .tc .vmem S512x2048 .bf16) (harg6 : arg6.IsWhole)
    (arg7 : Memref sig .tc .vmem S1x2048 .f32) (harg7 : arg7.IsWhole)
    (arg8 : Memref sig .tc .vmem S1024x2048 .f32) (harg8 : arg8.IsWhole)
    (arg9 : Memref sig .tc .vmem S1024x2048 .f32) (harg9 : arg9.IsWhole)
    (h1 : ¬k0_cond1 i = 1#1) (h2 : ¬k0_cond2 i = 1#1) (h3 : ¬k0_cond3 i = 1#1) (h4 : k0_cond4 i = 1#1)
    (x0 : Vec F S1024x2048 .bf16) (x1 : Vec F S1024x256 .f32) (x2 : Vec F S2048x512 .bf16) (x3 : Vec F S2048x512 .bf16) (x4 : Vec F S512x2048 .bf16) (x5 : Vec F S1x2048 .f32)
    (o s : Vec F S1024x2048 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare o ∗ owns (c : Thread nD τ) arg9 fullShare s
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (finished x0 x2 x3 x4 x5 o s)
        ∗ owns (c : Thread nD τ) arg9 fullShare (s)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (View.read_writes_full _ _ _ _ _).trans ?_
    refine congrArg (fun w => k0_pay10 _ _ _ _ (VecWindow.window w ![0, 0] ![1024, 2048] inb_S1024x2048_S1024x2048_0_0) _) (a₂ := added _ _ _ _ _) ?_
    unfold run_D.sl.H6_4
    rw [View.read_writes_cons_put _ _ _ _ _ rfl, View.read_writes_cons_put _ _ _ _ _ rfl,
      View.read_writes_cons_put _ _ _ _ _ rfl, View.read_writes_cons_put _ _ _ _ _ rfl, View.writes_nil]
    exact bands_base _ _ _ _ _ _
  iexists f7; isplitr; · ipureintro; rfl
  iexact H7

end Cert.FfnIdeal.Run

end
-- ==== Proof.FfnRows.lean ====
module

public import proofs.«01_k».proof.Proof.RowNorm

/-!
# The feed-forward net, row by row

What the feed-forward kernel and its reference both compute, over the extended reals: the gated hidden values of a row,
their down projection, and the residual plus its normalisation.
-/

@[expose] public section

noncomputable section

namespace Cert.FfnRows

open Idealize.ShloMosaic Cert.RowNorm

/-- A number times its logistic, the quotient as the reference writes it. -/
def silu (x : EReal) : EReal := x * Ideal.div 1 (1 + Ideal.exp (-x))

variable (x : (⟨2, ![16384, 2048]⟩ : Shape).Idx → EReal) (x1 : (⟨2, ![16384, 2048]⟩ : Shape).Idx → EReal)
  (wg wu : (⟨3, ![1, 2048, 5632]⟩ : Shape).Idx → EReal) (wd : (⟨3, ![1, 5632, 2048]⟩ : Shape).Idx → EReal)
  (p : (⟨2, ![1, 2048]⟩ : Shape).Idx → EReal)

/-- A row's product with the gate or the up weights. -/
def proj (w : (⟨3, ![1, 2048, 5632]⟩ : Shape).Idx → EReal) (r : Fin 16384) (h : Fin 5632) : EReal :=
  ∑ q : Fin 2048, x (ix2 r q) * w (ix3 0 q h)

/-- A hidden value of a row times a weight of the down projection. -/
def term (r : Fin 16384) (d : Fin 2048) (h : Fin 5632) : EReal :=
  silu (proj x wg r h) * proj x wu r h * wd (ix3 0 h d)

/-- The down projection of a row's hidden values. -/
def down (r : Fin 16384) (d : Fin 2048) : EReal := ∑ h : Fin 5632, term x wg wu wd r d h

/-- The layer's result: the residual plus the normalised, weighted projection. -/
def out (r : Fin 16384) (d : Fin 2048) : EReal :=
  x1 (ix2 r d) + down x wg wu wd r d * rstd (down x wg wu wd r) * p (ix2 0 d)

end Cert.FfnRows

end
-- ==== Proof.FfnBlock.lean ====
module

public import proofs.«01_k».proof.Proof.FfnBody
public import proofs.«01_k».proof.Proof.FfnRows
import Idealize.ShloMosaic.Lib.Pipeline.ValueKit
import Idealize.ShloMosaic.Lib.Pointwise

/-!
# What one step of the feed-forward kernel computes

The blocks that `FfnBody` names, read at a row and a column over the extended reals: a step's product is the gated
hidden values of its 512 columns times its rows of the down projection, and the last step's block is the residual plus
the normalised sum.
-/

@[expose] public section

set_option maxRecDepth 16384

noncomputable section

namespace Cert.FfnIdeal.Block

open Cert.FfnIdeal Cert.FfnIdeal.Gen Cert.FfnIdeal.Run Cert.RowNorm Cert.FfnRows
open Idealize.ShloMosaic Idealize.ShloMosaic.TcCoe

/-- A block whose four bands are the bands of a function of row and column is that function. -/
theorem bands_apply {F : FTy → Type} [FloatOps F] [Named F] (T : Fin 1024 → Fin 2048 → Elt F .f32) (o : Vec F S1024x2048 .f32) (p0 p1 p2 p3 : Vec F S1024x512 .f32)
    (h0 : ∀ r (d : Fin 512), p0 (ix2 r d) = T r ⟨d.val, by omega⟩) (h1 : ∀ r (d : Fin 512), p1 (ix2 r d) = T r ⟨512 + d.val, by omega⟩)
    (h2 : ∀ r (d : Fin 512), p2 (ix2 r d) = T r ⟨1024 + d.val, by omega⟩) (h3 : ∀ r (d : Fin 512), p3 (ix2 r d) = T r ⟨1536 + d.val, by omega⟩)
    (r : Fin 1024) (d : Fin 2048) : bands o p0 p1 p2 p3 (ix2 r d) = T r d := by
  unfold bands
  refine (put_cols 512 1536 _ p3 r d).trans ?_
  by_cases c3 : 1536 ≤ d.val ∧ d.val < 1536 + 512
  · exact (dif_pos c3).trans ((h3 r _).trans (congrArg (T r) (Fin.ext (Nat.add_sub_cancel' c3.1))))
  refine (dif_neg c3).trans ((put_cols 512 1024 _ p2 r d).trans ?_)
  by_cases c2 : 1024 ≤ d.val ∧ d.val < 1024 + 512
  · exact (dif_pos c2).trans ((h2 r _).trans (congrArg (T r) (Fin.ext (Nat.add_sub_cancel' c2.1))))
  refine (dif_neg c2).trans ((put_cols 512 512 _ p1 r d).trans ?_)
  by_cases c1 : 512 ≤ d.val ∧ d.val < 512 + 512
  · exact (dif_pos c1).trans ((h1 r _).trans (congrArg (T r) (Fin.ext (Nat.add_sub_cancel' c1.1))))
  refine (dif_neg c1).trans ((put_cols 512 0 _ p0 r d).trans ?_)
  have c0 : 0 ≤ d.val ∧ d.val < 0 + 512 := by omega
  exact (dif_pos c0).trans ((h0 r _).trans (congrArg (T r) (Fin.ext (Nat.sub_zero d.val))))

/-- A window of a block, read. -/
theorem window_apply {α : Type} {n0 n1 : ℕ} (x : (⟨2, ![n0, n1]⟩ : Shape).Idx → α) (a b k0 k1 : ℕ)
    (inb : ∀ i, (![k0, k1] : Fin 2 → ℕ) i + (![a, b] : Fin 2 → ℕ) i ≤ (⟨2, ![n0, n1]⟩ : Shape).size i) (r : Fin a) (d : Fin b) :
    VecWindow.window (s := ⟨2, ![n0, n1]⟩) x ![k0, k1] ![a, b] inb (ix2 r d)
      = x (ix2 ⟨k0 + r.val, by have : k0 + a ≤ n0 := inb 0; omega⟩ ⟨k1 + d.val, by have : k1 + b ≤ n1 := inb 1; omega⟩) := by
  refine congrArg x (funext fun i => ?_)
  match i with
  | 0 => exact Fin.ext (by show k0 + 1 * r.val = k0 + r.val; rw [Nat.one_mul])
  | 1 => exact Fin.ext (by show k1 + 1 * d.val = k1 + d.val; rw [Nat.one_mul])

/-- Two to the power of the named multiple is the exponential of the negated number, at the infinities too. -/
theorem exp2_named (x : EReal) :
    FloatOps.exp2 (F := Ideal) (φ := .f32) (x * Named.named (F := Ideal) (φ := .f32) κ "neg_log2e" 0xBFB8AA3B#32) = Ideal.exp (-x) := by
  have hn : Named.named (F := Ideal) (φ := .f32) κ "neg_log2e" 0xBFB8AA3B#32 = ((-((Real.log 2)⁻¹) : ℝ) : EReal) :=
    IdealRules.named_const.ideal_named_scalar _ _ _ _ rfl
  have hl : (0 : ℝ) < Real.log 2 := Real.log_pos one_lt_two
  have hneg : -((Real.log 2)⁻¹) < 0 := neg_lt_zero.mpr (inv_pos.mpr hl)
  rw [hn]
  show Ideal.exp2 _ = _
  induction x with
  | bot => rw [EReal.bot_mul_coe_of_neg hneg, EReal.neg_bot, Ideal.exp2_top, Ideal.exp_top]
  | top => rw [EReal.top_mul_coe_of_neg hneg, EReal.neg_top, Ideal.exp2_bot, Ideal.exp_bot]
  | coe x =>
    rw [← EReal.coe_mul, ← EReal.coe_neg, Ideal.exp2_coe, Ideal.exp_coe]
    refine congrArg _ ?_
    show (2 : ℝ) ^ (x * -((Real.log 2)⁻¹)) = Real.exp (-x)
    rw [Real.rpow_def_of_pos two_pos]
    refine congrArg _ ?_
    field_simp

section Step

variable (x0 : Vec Ideal S1024x2048 .bf16) (x2 x3 : Vec Ideal S2048x512 .bf16)
  (x4 : Vec Ideal S512x2048 .bf16) (x5 : Vec Ideal S1x2048 .f32) (o s : Vec Ideal S1024x2048 .f32)

/-- The step's hidden value: the gate's product through `silu`, times the up projection's. -/
def hid (r : Fin 1024) (k : Fin 512) : EReal :=
  silu (∑ q : Fin 2048, x0 (ix2 r q) * x2 (ix2 q k)) * ∑ q : Fin 2048, x0 (ix2 r q) * x3 (ix2 q k)

/-- The step's product. -/
def prod (r : Fin 1024) (d : Fin 2048) : EReal := ∑ k : Fin 512, hid x0 x2 x3 r k * x4 (ix2 k d)

theorem rows_apply (r : Fin 1024) (q : Fin 2048) : rows x0 (ix2 r q) = x0 (ix2 r q) :=
  (window_apply x0 1024 2048 0 0 inb_S1024x2048_S1024x2048_0_0 r q).trans (congrArg x0 (congrArg₂ ix2 (Fin.ext (Nat.zero_add _)) (Fin.ext (Nat.zero_add _))))
theorem half0_apply (x : Vec Ideal S2048x512 .bf16) (q : Fin 2048) (k : Fin 256) : half0 x (ix2 q k) = x (ix2 q ⟨k.val, by omega⟩) :=
  (window_apply x 2048 256 0 0 inb_S2048x512_S2048x256_0_0 q k).trans (congrArg x (congrArg₂ ix2 (Fin.ext (Nat.zero_add _)) (Fin.ext (Nat.zero_add _))))
theorem half1_apply (x : Vec Ideal S2048x512 .bf16) (q : Fin 2048) (k : Fin 256) : half1 x (ix2 q k) = x (ix2 q ⟨256 + k.val, by omega⟩) :=
  (window_apply x 2048 256 0 256 inb_S2048x512_S2048x256_0_256 q k).trans (congrArg x (congrArg₂ ix2 (Fin.ext (Nat.zero_add _)) rfl))
theorem wBand_apply (n : ℕ) (h) (k d : Fin 512) (hn : n + 512 ≤ 2048) : wBand x4 n h (ix2 k d) = x4 (ix2 k ⟨n + d.val, by omega⟩) :=
  (window_apply x4 512 512 0 n h k d).trans (congrArg x4 (congrArg₂ ix2 (Fin.ext (Nat.zero_add _)) rfl))
theorem oBand_apply (n : ℕ) (h) (r : Fin 1024) (d : Fin 512) (hn : n + 512 ≤ 2048) : oBand o n h (ix2 r d) = o (ix2 r ⟨n + d.val, by omega⟩) :=
  (window_apply o 1024 512 0 n h r d).trans (congrArg o (congrArg₂ ix2 (Fin.ext (Nat.zero_add _)) rfl))

theorem hidden_apply (r : Fin 1024) (k : Fin 512) : Run.hidden x0 x2 x3 (ix2 r k) = hid x0 x2 x3 r k := by
  unfold Run.hidden
  generalize hr : rows x0 = y0
  generalize hg0 : half0 x2 = g0
  generalize hu0 : half0 x3 = u0
  generalize hg1 : half1 x2 = g1
  generalize hu1 : half1 x3 = u1
  pointwise [k0_pay11]
  subst hr hg0 hu0 hg1 hu1
  by_cases hk : k.val < 256
  · refine (dif_pos hk).trans ?_
    rw [exp2_named]
    have e : ∀ x : Vec Ideal S2048x512 .bf16, (∑ q, rows x0 (ix2 r q) * half0 x (ix2 q ⟨k.val, hk⟩)) = ∑ q, x0 (ix2 r q) * x (ix2 q k) :=
      fun x => Finset.sum_congr rfl fun q _ => congrArg₂ (· * ·) (rows_apply x0 r q) (half0_apply x q ⟨k.val, hk⟩)
    exact congrArg₂ (· * ·) (congrArg silu (e x2)) (e x3)
  · have hk' : 256 + (k.val - 256) = k.val := Nat.add_sub_cancel' (Nat.le_of_not_lt hk)
    refine (dif_neg hk).trans ?_
    rw [exp2_named]
    have e : ∀ x : Vec Ideal S2048x512 .bf16, (∑ q, rows x0 (ix2 r q) * half1 x (ix2 q ⟨k.val - 256, by omega⟩)) = ∑ q, x0 (ix2 r q) * x (ix2 q k) :=
      fun x => Finset.sum_congr rfl fun q _ => congrArg₂ (· * ·) (rows_apply x0 r q)
        ((half1_apply x q ⟨k.val - 256, by omega⟩).trans (congrArg x (congrArg (ix2 q) (Fin.ext hk'))))
    exact congrArg₂ (· * ·) (congrArg silu (e x2)) (e x3)

/-- The products of the other three bands and what is added to them, for any hidden values that read as `hid`. -/
theorem band_apply (H : FVec Ideal S1024x512 .bf16) (hH : ∀ r k, H (ix2 r k) = hid x0 x2 x3 r k) (n : ℕ) (hn : n + 512 ≤ 2048) (h) (r : Fin 1024) (d : Fin 512) :
    ∑ k : Fin 512, H (ix2 r k) * wBand x4 n h (ix2 k d) = prod x0 x2 x3 x4 r ⟨n + d.val, by omega⟩ :=
  Finset.sum_congr rfl fun k _ => congrArg₂ (· * ·) (hH r k) (wBand_apply x4 n h k d hn)

theorem pay12_apply (r : Fin 1024) (d : Fin 512) : prod0 x0 x2 x3 x4 (ix2 r d) = prod x0 x2 x3 x4 r ⟨d.val, by omega⟩ := by
  show k0_pay2 (Run.hidden x0 x2 x3) (wBand x4 0 _) (ix2 r d) = _
  have hH := hidden_apply x0 x2 x3
  generalize Run.hidden x0 x2 x3 = H at hH ⊢
  pointwise [k0_pay2]
  exact (band_apply x0 x2 x3 x4 H hH 0 (by decide) _ r d).trans (congrArg _ (Fin.ext (Nat.zero_add _)))

theorem first_apply (r : Fin 1024) (d : Fin 2048) : first x0 x2 x3 x4 o (ix2 r d) = prod x0 x2 x3 x4 r d := by
  have hH := hidden_apply x0 x2 x3
  have hp := pay12_apply x0 x2 x3 x4
  unfold first
  generalize prod0 x0 x2 x3 x4 = p at hp ⊢
  generalize Run.hidden x0 x2 x3 = H at hH ⊢
  refine bands_apply (prod x0 x2 x3 x4) o _ _ _ _ hp (fun r d => ?_) (fun r d => ?_) (fun r d => ?_) r d
  · pointwise [k0_pay2]; exact band_apply x0 x2 x3 x4 H hH 512 (by decide) _ r d
  · pointwise [k0_pay3]; exact band_apply x0 x2 x3 x4 H hH 1024 (by decide) _ r d
  · pointwise [k0_pay4]; exact band_apply x0 x2 x3 x4 H hH 1536 (by decide) _ r d

/-- The block a step leaves when it adds its product. -/
def sums (r : Fin 1024) (d : Fin 2048) : EReal := o (ix2 r d) + prod x0 x2 x3 x4 r d

theorem pay0_apply (h) (r : Fin 1024) (d : Fin 512) :
    k0_pay17 (prod0 x0 x2 x3 x4) (oBand o 0 h) (ix2 r d) = sums x0 x2 x3 x4 o r ⟨d.val, by omega⟩ := by
  have hp := pay12_apply x0 x2 x3 x4
  generalize prod0 x0 x2 x3 x4 = p at hp ⊢
  pointwise [k0_pay17]
  exact congrArg₂ (· + ·) ((oBand_apply o 0 h r d (by decide)).trans (congrArg o (congrArg (ix2 r) (Fin.ext (Nat.zero_add _))))) (hp r d)
theorem pay1_apply (h h') (r : Fin 1024) (d : Fin 512) :
    k0_pay18 (Run.hidden x0 x2 x3) (wBand x4 512 h') (oBand o 512 h) (ix2 r d) = sums x0 x2 x3 x4 o r ⟨512 + d.val, by omega⟩ := by
  have hH := hidden_apply x0 x2 x3
  generalize Run.hidden x0 x2 x3 = H at hH ⊢
  pointwise [k0_pay18]
  exact congrArg₂ (· + ·) (oBand_apply o 512 h r d (by decide)) (band_apply x0 x2 x3 x4 H hH 512 (by decide) h' r d)
theorem pay2_apply (h h') (r : Fin 1024) (d : Fin 512) :
    k0_pay19 (Run.hidden x0 x2 x3) (wBand x4 1024 h') (oBand o 1024 h) (ix2 r d) = sums x0 x2 x3 x4 o r ⟨1024 + d.val, by omega⟩ := by
  have hH := hidden_apply x0 x2 x3
  generalize Run.hidden x0 x2 x3 = H at hH ⊢
  pointwise [k0_pay19]
  exact congrArg₂ (· + ·) (oBand_apply o 1024 h r d (by decide)) (band_apply x0 x2 x3 x4 H hH 1024 (by decide) h' r d)
theorem pay3_apply (h h') (r : Fin 1024) (d : Fin 512) :
    k0_pay9 (k0_pay21 (Run.hidden x0 x2 x3) (wBand x4 1536 h')) (oBand o 1536 h) (ix2 r d) = sums x0 x2 x3 x4 o r ⟨1536 + d.val, by omega⟩ := by
  have hH := hidden_apply x0 x2 x3
  generalize Run.hidden x0 x2 x3 = H at hH ⊢
  pointwise [k0_pay9, k0_pay21]
  exact congrArg₂ (· + ·) (oBand_apply o 1536 h r d (by decide)) (band_apply x0 x2 x3 x4 H hH 1536 (by decide) h' r d)

theorem added_apply (r : Fin 1024) (d : Fin 2048) :
    added x0 x2 x3 x4 o (ix2 r d) = sums x0 x2 x3 x4 o r d := by
  unfold added
  exact bands_apply (sums x0 x2 x3 x4 o) o _ _ _ _ (pay0_apply x0 x2 x3 x4 o _) (pay1_apply x0 x2 x3 x4 o _ _)
    (pay2_apply x0 x2 x3 x4 o _ _) (pay3_apply x0 x2 x3 x4 o _ _) r d

/-- The sums over the four bands of columns are the sum over the row. -/
theorem four_bands (f : Fin 2048 → EReal) :
    (∑ x : Fin 512, f ⟨x.val, by omega⟩ + ∑ x : Fin 512, f ⟨512 + x.val, by omega⟩ + ∑ x : Fin 512, f ⟨1024 + x.val, by omega⟩)
        + ∑ x : Fin 512, f ⟨1536 + x.val, by omega⟩ = ∑ x, f x := by
  rw [Fin.sum_univ_two_halves 1024 1024 rfl f, Fin.sum_univ_two_halves 512 512 rfl, Fin.sum_univ_two_halves 512 512 rfl, add_assoc, add_assoc, add_assoc]
  refine congrArg₂ (· + ·) rfl (congrArg₂ (· + ·) rfl (congrArg₂ (· + ·) rfl (Finset.sum_congr rfl fun x _ => congrArg f (Fin.ext ?_))))
  exact Nat.add_assoc 1024 512 x.val

theorem recip_2048 (x : EReal) : x * Ideal.ofBits FTy.f32 0x3A000000#32 = Ideal.div x (Ideal.ofBits FTy.f32 0x45000000#32) := by
  have h1 : Ideal.ofBits FTy.f32 0x45000000#32 = ((2048 : ℝ) : EReal) := by
    simp [Ideal.ofBits, Ideal.ieee, -EReal.coe_mul]; norm_num
  have h2 : Ideal.ofBits FTy.f32 0x3A000000#32 = ((1 / 2048 : ℝ) : EReal) := by
    simp [Ideal.ofBits, Ideal.ieee, -EReal.coe_mul]; norm_num
  rw [h1, h2, Ideal.div_coe (by norm_num)]

theorem finished_apply (r : Fin 1024) (d : Fin 2048) :
    finished x0 x2 x3 x4 x5 o s (ix2 r d)
      = s (ix2 r d) + sums x0 x2 x3 x4 o r d * rstd (sums x0 x2 x3 x4 o r) * x5 (ix2 0 d) := by
  unfold finished
  have h0 := pay0_apply x0 x2 x3 x4 o inb_S1024x2048_S1024x512_0_0 r
  have h1 := pay1_apply x0 x2 x3 x4 o inb_S1024x2048_S1024x512_0_512 inb_S512x2048_S512x512_0_512 r
  have h2 := pay2_apply x0 x2 x3 x4 o inb_S1024x2048_S1024x512_0_1024 inb_S512x2048_S512x512_0_1024 r
  have h3 := pay3_apply x0 x2 x3 x4 o inb_S1024x2048_S1024x512_0_1536 inb_S512x2048_S512x512_0_1536 r
  have ha := added_apply x0 x2 x3 x4 o r d
  generalize added x0 x2 x3 x4 o = A at ha ⊢
  generalize prod0 x0 x2 x3 x4 = p at h0 ⊢
  generalize Run.hidden x0 x2 x3 = H at h1 h2 h3 ⊢
  pointwise [k0_pay10, k0_pay20]
  simp only [h0, h1, h2, h3]
  rw [four_bands fun k => sums x0 x2 x3 x4 o r k * sums x0 x2 x3 x4 o r k, recip_2048]
  refine congrArg₂ (· + ·) ((window_apply s _ _ _ _ _ _ _).trans ?_) (congrArg₂ (· * ·) (congrArg₂ (· * ·) ((window_apply A _ _ _ _ _ _ _).trans (.trans ?_ ha)) rfl)
    ((window_apply x5 _ _ _ _ _ _ _).trans ?_))
  · exact congrArg s (congrArg₂ ix2 (Fin.ext (Nat.zero_add _)) (Fin.ext (Nat.zero_add _)))
  · exact congrArg A (congrArg₂ ix2 (Fin.ext (Nat.zero_add _)) (Fin.ext (Nat.zero_add _)))
  · exact congrArg x5 (congrArg₂ ix2 (Fin.ext (Nat.zero_add _)) (Fin.ext (Nat.zero_add _)))

end Step

end Cert.FfnIdeal.Block

end
-- ==== Proof.FfnRun.lean ====
module

public import proofs.«01_k».proof.Proof.FfnBody

/-!
# The feed-forward kernel's launch

The output block of a row block is carried over the eleven steps of the hidden dimension, and the kernel's scratch over
the same steps: after step `j` the first `256 * min (j + 1) 8` columns of the scratch hold those columns of the
residual's row block, which the last step reads. With that as the invariant of the scratch and the sums below as what
each step leaves in the output block, the library's theorem on a pipeline gives the launch's final arrays.
-/

@[expose] public section

set_option maxRecDepth 16384

noncomputable section

namespace Cert.FfnIdeal.Run

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which branches a point takes -/

theorem cond1_iff : ∀ t : Fin cfg0.N, k0_cond1 (grid0.coords t) = 1#1 ↔ t.val % 11 ≤ 7 :=
  (by decide +kernel : ∀ t : Fin grid0.N, k0_cond1 (grid0.coords t) = 1#1 ↔ t.val % 11 ≤ 7)
theorem cond2_iff : ∀ t : Fin cfg0.N, k0_cond2 (grid0.coords t) = 1#1 ↔ t.val % 11 = 0 :=
  (by decide +kernel : ∀ t : Fin grid0.N, k0_cond2 (grid0.coords t) = 1#1 ↔ t.val % 11 = 0)
theorem cond3_iff : ∀ t : Fin cfg0.N, k0_cond3 (grid0.coords t) = 1#1 ↔ 1 ≤ t.val % 11 ∧ t.val % 11 ≤ 9 :=
  (by decide +kernel : ∀ t : Fin grid0.N, k0_cond3 (grid0.coords t) = 1#1 ↔ 1 ≤ t.val % 11 ∧ t.val % 11 ≤ 9)
theorem cond4_iff : ∀ t : Fin cfg0.N, k0_cond4 (grid0.coords t) = 1#1 ↔ t.val % 11 = 10 :=
  (by decide +kernel : ∀ t : Fin grid0.N, k0_cond4 (grid0.coords t) = 1#1 ↔ t.val % 11 = 10)

/-- The column at which a step's piece goes into the scratch. -/
theorem piece_off : ∀ t : Fin cfg0.N, k0_off1 (grid0.coords t) = ![0, 256 * (t.val % 11)] :=
  (by decide +kernel : ∀ t : Fin grid0.N, k0_off1 (grid0.coords t) = ![0, 256 * (t.val % 11)])

/-- The block of the residual a step is given. -/
theorem piece_index : ∀ t : Fin cfg0.N, win0_1.index t = ![t.val / 11, min (t.val % 11) 7] :=
  (by decide +kernel : ∀ t : Fin grid0.N, win0_1.index t = ![t.val / 11, min (t.val % 11) 7])

/-- That block, read. -/
theorem piece_apply (c : Dev nD) (t : Fin cfg0.N) (r : Fin 1024) (k : Fin 256) :
    k0_pay1 (VecWindow.window (iblk m c 1 t) ![0, 0] ![1024, 256] inb_S1024x256_S1024x256_0_0) (ix2 r k)
      = V m c main_arg1 (ix2 (⟨1024 * (t.val / 11) + r.val, by
          have ht : t.val < 176 := t.isLt.trans_eq N_0
          omega⟩ : Fin 16384) (⟨256 * min (t.val % 11) 7 + k.val, by omega⟩ : Fin 2048)) := by
  have e : k0_pay1 (VecWindow.window (iblk m c 1 t) ![0, 0] ![1024, 256] inb_S1024x256_S1024x256_0_0) = iblk m c 1 t :=
    (shapeCast_self _ _).trans (funext fun y => congrArg (iblk m c 1 t) (Rect.emb_unit_full _ y))
  rw [e]
  blk_ext! [iblk, piece_index t]

/-! ## What the output block and the scratch hold -/

/-- Row block `t / 11` of the residual: what the last step of the row block must find in the scratch. -/
def resid (c : Dev nD) (t : Fin cfg0.N) : Vec F S1024x2048 .f32 := fun y =>
  V m c main_arg1 (ix2 (⟨1024 * (t.val / 11) + (y 0).val, by
    have ht : t.val < 176 := t.isLt.trans_eq N_0
    have hy : (y 0).val < 1024 := (y 0).isLt
    omega⟩ : Fin 16384) (y 1))

/-- The output block after point `t`. -/
def outAt (c : Dev nD) : (t : ℕ) → t < cfg0.N → Vec F S1024x2048 .f32
  | 0, h => first (iblk m c 0 ⟨0, h⟩) (iblk m c 2 ⟨0, h⟩) (iblk m c 3 ⟨0, h⟩) (iblk m c 4 ⟨0, h⟩) (resid m c ⟨0, h⟩)
  | t + 1, h =>
    if (t + 1) % 11 = 0 then
      first (iblk m c 0 ⟨t + 1, h⟩) (iblk m c 2 ⟨t + 1, h⟩) (iblk m c 3 ⟨t + 1, h⟩) (iblk m c 4 ⟨t + 1, h⟩) (resid m c ⟨t + 1, h⟩)
    else if (t + 1) % 11 = 10 then
      finished (iblk m c 0 ⟨t + 1, h⟩) (iblk m c 2 ⟨t + 1, h⟩) (iblk m c 3 ⟨t + 1, h⟩) (iblk m c 4 ⟨t + 1, h⟩) (iblk m c 5 ⟨t + 1, h⟩)
        (outAt c t (Nat.lt_of_succ_lt h)) (resid m c ⟨t + 1, h⟩)
    else
      added (iblk m c 0 ⟨t + 1, h⟩) (iblk m c 2 ⟨t + 1, h⟩) (iblk m c 3 ⟨t + 1, h⟩) (iblk m c 4 ⟨t + 1, h⟩)
        (outAt c t (Nat.lt_of_succ_lt h))

/-- The point before `t`. -/
abbrev prev (t : Fin cfg0.N) : Fin cfg0.N := ⟨t.val - 1, Nat.lt_of_le_of_lt (Nat.sub_le _ _) t.isLt⟩

/-- At a first step the block holds the step's product, whatever it held before. -/
theorem outAt_first (c : Dev nD) (t : Fin cfg0.N) (h : t.val % 11 = 0) (o : Vec F S1024x2048 .f32) :
    outAt m c t.val t.isLt = first (iblk m c 0 t) (iblk m c 2 t) (iblk m c 3 t) (iblk m c 4 t) o := by
  obtain ⟨n, hn⟩ := t
  cases n with
  | zero => exact bands_base _ _ _ _ _ _
  | succ n => exact (if_pos h).trans (bands_base _ _ _ _ _ _)

/-- At a last step the block is finished. -/
theorem outAt_finished (c : Dev nD) (t : Fin cfg0.N) (h : t.val % 11 = 10) :
    outAt m c t.val t.isLt = finished (iblk m c 0 t) (iblk m c 2 t) (iblk m c 3 t) (iblk m c 4 t) (iblk m c 5 t)
      (outAt m c (prev t).val (prev t).isLt) (resid m c t) := by
  obtain ⟨n, hn⟩ := t
  cases n with
  | zero => exact absurd (show 0 % 11 = 10 from h) (by decide)
  | succ n => exact (if_neg (by have h' : (n + 1) % 11 = 10 := h; omega)).trans (if_pos h)

/-- At the steps between, the step's product is added. -/
theorem outAt_added (c : Dev nD) (t : Fin cfg0.N) (h0 : t.val % 11 ≠ 0) (h : t.val % 11 ≠ 10) :
    outAt m c t.val t.isLt = added (iblk m c 0 t) (iblk m c 2 t) (iblk m c 3 t) (iblk m c 4 t)
      (outAt m c (prev t).val (prev t).isLt) := by
  obtain ⟨n, hn⟩ := t
  cases n with
  | zero => exact absurd rfl h0
  | succ n => exact (if_neg h0).trans (if_neg h)

/-- The scratch before point `k`: its first `256 * min (k % 11) 8` columns are the residual's. -/
def Holds (c : Dev nD) (k : ℕ) (s : Vec F S1024x2048 .f32) : Prop :=
  ∀ (t : Fin cfg0.N), t.val / 11 = k / 11 → ∀ (r : Fin 1024) (d : Fin 2048), d.val < 256 * min (k % 11) 8 → s (ix2 r d) = resid m c t (ix2 r d)

/-- Before a first step nothing is asked of the scratch. -/
theorem holds_start (c : Dev nD) (k : ℕ) (h : k % 11 = 0) (s : Vec F S1024x2048 .f32) : Holds m c k s := by
  intro t _ r d hd
  rw [h] at hd
  exact absurd hd (Nat.not_lt_zero _)

/-- A step that copies its piece extends what the scratch holds. -/
theorem holds_copied (c : Dev nD) (t : Fin cfg0.N) (h : t.val % 11 ≤ 7) (s : Vec F S1024x2048 .f32) (hs : Holds m c t.val s) :
    Holds m c (t.val + 1) (copied (iblk m c 1 t) s (grid0.coords t)) := by
  intro t' ht' r d hd
  have e : t'.val / 11 = t.val / 11 := by omega
  unfold copied
  rw [piece_off t]
  refine (put_cols 256 (256 * (t.val % 11)) s _ r d).trans ?_
  by_cases hm : 256 * (t.val % 11) ≤ d.val ∧ d.val < 256 * (t.val % 11) + 256
  · rw [dif_pos hm]
    refine (piece_apply m c t r _).trans (congrArg (V m c main_arg1) ?_)
    refine congrArg₂ ix2 (Fin.ext ?_) (Fin.ext ?_)
    · show 1024 * (t.val / 11) + r.val = 1024 * (t'.val / 11) + r.val
      rw [e]
    · show 256 * min (t.val % 11) 7 + (d.val - 256 * (t.val % 11)) = d.val
      omega
  · rw [dif_neg hm]
    exact hs t' (by omega) r d (by omega)

/-- A step that copies nothing keeps it. -/
theorem holds_kept (c : Dev nD) (t : Fin cfg0.N) (h : 8 ≤ t.val % 11) (s : Vec F S1024x2048 .f32) (hs : Holds m c t.val s) :
    Holds m c (t.val + 1) s := by
  intro t' ht' r d hd
  by_cases h10 : t.val % 11 = 10
  · exact absurd hd (by rw [show (t.val + 1) % 11 = 0 by omega]; exact Nat.not_lt_zero _)
  · exact hs t' (by omega) r d (by omega)

/-- At a last step the scratch is the whole row block. -/
theorem holds_all (c : Dev nD) (t : Fin cfg0.N) (h : t.val % 11 = 10) (s : Vec F S1024x2048 .f32) (hs : Holds m c t.val s) :
    s = resid m c t := by
  funext y
  obtain ⟨r, d, rfl⟩ : ∃ (r : Fin 1024) (d : Fin 2048), y = ix2 r d := ⟨y 0, y 1, eq_ix2 y⟩
  exact hs t rfl r d (by rw [h]; exact d.isLt)

/-! ## The pipeline's proof data -/

/-- The kernel's scratch. -/
abbrev scratch : Memref sig .tc .vmem S1024x2048 .f32 := Memref.whole cc0_scratch0

/-- Each input window keeps its block, the output window is left at `outAt`, the scratch holds what `Holds` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val t.isLt
  Φ k := iprop((∃ s, ⌜Holds m c k.val s⌝ ∗ owns (c : Thread nD τ) scratch fullShare s) ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
/-- Every point stores the output block. -/
theorem idle_6 : ∀ i : grid0.Coords, cfg0.idle 6 i = false :=
  (by decide +kernel : ∀ i : grid0.Coords, idle0 6 i = false)

theorem after_6 (c : Dev nD) (t : Fin cfg0.N) : (dats m 0 c).after 6 t = outAt m c t.val t.isLt := by dsimp only [dats]

/-- A later step finds in the output block what the step before left. -/
theorem before_6 (c : Dev nD) (t : Fin cfg0.N) (h : t.val % 11 ≠ 0) (d) :
    (dats m 0 c).before 6 t d = outAt m c (prev t).val (prev t).isLt := by
  refine ((dats m 0 c).before_out_kept 6 rfl t (fun h0 => h (by rw [h0])) ?_ idle_6 (fun _ _ => rfl) d).trans (after_6 m c (prev t))
  refine Bool.eq_false_iff.mpr fun hf => ?_
  have := (flush0_6 (prev t)).mp hf
  have hv : (prev t).val = t.val - 1 := rfl
  omega

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What a window's buffer must be left holding, as the buffer owned at its contents. -/
theorem leaves (c : Dev nD) (t : Fin cfg0.N) :
    bodyPost m c t = iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (outAt m c t.val t.isLt)) := by
  unfold bodyPost
  rw [show (dats m 0 c).leavesExact 0 t = owns (c : Thread nD τ) (win0_0.stage (cfg0.slots t 0)) fullShare (iblk m c 0 t) from by
    unfold Dat.leavesExact; rw [show cfg0.idle 0 (grid0.coords t) = false from rfl, after_0]]
  rw [show (dats m 0 c).leavesExact 1 t = owns (c : Thread nD τ) (win0_1.stage (cfg0.slots t 1)) fullShare (iblk m c 1 t) from by
    unfold Dat.leavesExact; rw [show cfg0.idle 1 (grid0.coords t) = false from rfl, after_1]]
  rw [show (dats m 0 c).leavesExact 2 t = owns (c : Thread nD τ) (win0_2.stage (cfg0.slots t 2)) fullShare (iblk m c 2 t) from by
    unfold Dat.leavesExact; rw [show cfg0.idle 2 (grid0.coords t) = false from rfl, after_2]]
  rw [show (dats m 0 c).leavesExact 3 t = owns (c : Thread nD τ) (win0_3.stage (cfg0.slots t 3)) fullShare (iblk m c 3 t) from by
    unfold Dat.leavesExact; rw [show cfg0.idle 3 (grid0.coords t) = false from rfl, after_3]]
  rw [show (dats m 0 c).leavesExact 4 t = owns (c : Thread nD τ) (win0_4.stage (cfg0.slots t 4)) fullShare (iblk m c 4 t) from by
    unfold Dat.leavesExact; rw [show cfg0.idle 4 (grid0.coords t) = false from rfl, after_4]]
  rw [show (dats m 0 c).leavesExact 5 t = owns (c : Thread nD τ) (win0_5.stage (cfg0.slots t 5)) fullShare (iblk m c 5 t) from by
    unfold Dat.leavesExact; rw [show cfg0.idle 5 (grid0.coords t) = false from rfl, after_5]]
  rw [show (dats m 0 c).leavesExact 6 t = owns (c : Thread nD τ) (win0_6.stage (cfg0.slots t 6)) fullShare (outAt m c t.val t.isLt) from by
    unfold Dat.leavesExact; rw [show cfg0.idle 6 (grid0.coords t) = false from idle_6 _, after_6]]

/-- The body at a point of case A. -/
theorem body_A (c : Dev nD) (t : Fin cfg0.N) (h0 : t.val % 11 = 0) :
    bodyPre m c t ⊢ wp frame (wpE (defs₀ (F := F)) Variants.none c none) Set.univ (bodyAt0 t) (fun _ => bodyPost m c t) := by
  rw [leaves]
  unfold bodyPre bodyAt0
  simp only [before_0, before_1, before_2, before_3, before_4, before_5]
  rw [show (dats m 0 c).owesAt () t.succ = (dats m 0 c).owesAt () t.castSucc from rfl]
  rw [show (dats m 0 c).Φ t.castSucc = iprop((∃ s, ⌜Holds m c t.val s⌝ ∗ owns (c : Thread nD τ) scratch fullShare s) ∗ (∃ r, prngReg c r)) from rfl,
    show (dats m 0 c).Φ t.succ = iprop((∃ s, ⌜Holds m c (t.val + 1) s⌝ ∗ owns (c : Thread nD τ) scratch fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  rw [outAt_first m c t h0 ((dats m 0 c).before 6 t d6)]
  iapply (run_A c (grid0.coords t) _ _ _ _ _ _ _ _ _ _ _ _ _ _ _ _ ((cond1_iff t).mpr (by omega)) ((cond2_iff t).mpr (by omega)) (fun h => absurd ((cond3_iff t).mp h) (by omega)) (fun h => absurd ((cond4_iff t).mp h) (by omega))
    (iblk m c 0 t) (iblk m c 1 t) (iblk m c 2 t) (iblk m c 3 t) (iblk m c 4 t) (iblk m c 5 t) _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; exact holds_copied m c t (by omega) s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a point of case B. -/
theorem body_B (c : Dev nD) (t : Fin cfg0.N) (h0 : t.val % 11 ≠ 0) (h : t.val % 11 ≤ 7) :
    bodyPre m c t ⊢ wp frame (wpE (defs₀ (F := F)) Variants.none c none) Set.univ (bodyAt0 t) (fun _ => bodyPost m c t) := by
  rw [leaves]
  unfold bodyPre bodyAt0
  simp only [before_0, before_1, before_2, before_3, before_4, before_5, before_6 m c t h0]
  rw [show (dats m 0 c).owesAt () t.succ = (dats m 0 c).owesAt () t.castSucc from rfl]
  rw [show (dats m 0 c).Φ t.castSucc = iprop((∃ s, ⌜Holds m c t.val s⌝ ∗ owns (c : Thread nD τ) scratch fullShare s) ∗ (∃ r, prngReg c r)) from rfl,
    show (dats m 0 c).Φ t.succ = iprop((∃ s, ⌜Holds m c (t.val + 1) s⌝ ∗ owns (c : Thread nD τ) scratch fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  rw [outAt_added m c t h0 (by omega)]
  iapply (run_B c (grid0.coords t) _ _ _ _ _ _ _ _ _ _ _ _ _ _ _ _ ((cond1_iff t).mpr (by omega)) (fun h => absurd ((cond2_iff t).mp h) (by omega)) ((cond3_iff t).mpr (by omega)) (fun h => absurd ((cond4_iff t).mp h) (by omega))
    (iblk m c 0 t) (iblk m c 1 t) (iblk m c 2 t) (iblk m c 3 t) (iblk m c 4 t) (iblk m c 5 t) _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; exact holds_copied m c t h s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a point of case C. -/
theorem body_C (c : Dev nD) (t : Fin cfg0.N) (h0 : t.val % 11 ≠ 0) (h : 8 ≤ t.val % 11) (h' : t.val % 11 ≤ 9) :
    bodyPre m c t ⊢ wp frame (wpE (defs₀ (F := F)) Variants.none c none) Set.univ (bodyAt0 t) (fun _ => bodyPost m c t) := by
  rw [leaves]
  unfold bodyPre bodyAt0
  simp only [before_0, before_1, before_2, before_3, before_4, before_5, before_6 m c t h0]
  rw [show (dats m 0 c).owesAt () t.succ = (dats m 0 c).owesAt () t.castSucc from rfl]
  rw [show (dats m 0 c).Φ t.castSucc = iprop((∃ s, ⌜Holds m c t.val s⌝ ∗ owns (c : Thread nD τ) scratch fullShare s) ∗ (∃ r, prngReg c r)) from rfl,
    show (dats m 0 c).Φ t.succ = iprop((∃ s, ⌜Holds m c (t.val + 1) s⌝ ∗ owns (c : Thread nD τ) scratch fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  rw [outAt_added m c t h0 (by omega)]
  iapply (run_C c (grid0.coords t) _ _ _ _ _ _ _ _ _ _ _ _ _ _ _ _ (fun h => absurd ((cond1_iff t).mp h) (by omega)) (fun h => absurd ((cond2_iff t).mp h) (by omega)) ((cond3_iff t).mpr (by omega)) (fun h => absurd ((cond4_iff t).mp h) (by omega))
    (iblk m c 0 t) (iblk m c 1 t) (iblk m c 2 t) (iblk m c 3 t) (iblk m c 4 t) (iblk m c 5 t) _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; exact holds_kept m c t h s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a point of case D. -/
theorem body_D (c : Dev nD) (t : Fin cfg0.N) (h0 : t.val % 11 ≠ 0) (h : t.val % 11 = 10) :
    bodyPre m c t ⊢ wp frame (wpE (defs₀ (F := F)) Variants.none c none) Set.univ (bodyAt0 t) (fun _ => bodyPost m c t) := by
  rw [leaves]
  unfold bodyPre bodyAt0
  simp only [before_0, before_1, before_2, before_3, before_4, before_5, before_6 m c t h0]
  rw [show (dats m 0 c).owesAt () t.succ = (dats m 0 c).owesAt () t.castSucc from rfl]
  rw [show (dats m 0 c).Φ t.castSucc = iprop((∃ s, ⌜Holds m c t.val s⌝ ∗ owns (c : Thread nD τ) scratch fullShare s) ∗ (∃ r, prngReg c r)) from rfl,
    show (dats m 0 c).Φ t.succ = iprop((∃ s, ⌜Holds m c (t.val + 1) s⌝ ∗ owns (c : Thread nD τ) scratch fullShare s) ∗ (∃ r, prngReg c r)) from rfl]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  rw [outAt_finished m c t h, ← holds_all m c t h s hs]
  iapply (run_D c (grid0.coords t) _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega))
    (iblk m c 0 t) (iblk m c 1 t) (iblk m c 2 t) (iblk m c 3 t) (iblk m c 4 t) (iblk m c 5 t) _ s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _; isplitr; swap; · iexact HS
      ipureintro; exact holds_kept m c t (by omega) s hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem body (c : Dev nD) (t : Fin cfg0.N) :
    bodyPre m c t ⊢ wp frame (wpE (defs₀ (F := F)) Variants.none c none) Set.univ (bodyAt0 t) (fun _ => bodyPost m c t) := by
  by_cases h0 : t.val % 11 = 0
  · exact body_A m c t h0
  · by_cases h7 : t.val % 11 ≤ 7
    · exact body_B m c t h0 h7
    · by_cases h9 : t.val % 11 ≤ 9
      · exact body_C m c t h0 (by omega) h9
      · exact body_D m c t h0 (by omega)

/-- The library's obligation on the body. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-! ## The launch -/

/-- The library's invariant at the two ends of a launch: the scratch at some contents and the generator register. -/
theorem ends (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

set_option backward.isDefEq.respectTransparency.types false in
set_option maxHeartbeats 800000 in
/-- Every run of the launch ends with the arrays the proof data says, and every counter zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [ends]
      show _ ⊢ iprop((∃ s, ⌜Holds m c 0 s⌝ ∗ owns (c : Thread nD τ) scratch fullShare s) ∗ (∃ r, prngReg c r))
      iintro ⟨⟨%d, HS⟩, Hg⟩
      isplitl [HS]
      · iexists d; isplitr; · ipureintro; exact holds_start m c 0 rfl d
        iexact HS
      iexact Hg)
    (hout := fun c => by
      rw [ends]
      show iprop((∃ s, ⌜Holds m c cfg0.N s⌝ ∗ owns (c : Thread nD τ) scratch fullShare s) ∗ (∃ r, prngReg c r)) ⊢ _
      iintro ⟨⟨%s, -, HS⟩, Hg⟩
      isplitl [HS]
      · iexists s; iexact HS
      iexact Hg)

end Cert.FfnIdeal.Run

end
-- ==== Proof.FfnValue.lean ====
module

public import proofs.«01_k».proof.Proof.FfnBlock
public import proofs.«01_k».proof.Proof.FfnRun
import Idealize.ShloMosaic.Lib.Pipeline.ValueKit
import Idealize.ShloMosaic.Lib.Pointwise

/-!
# The feed-forward kernel's result

The blocks of a point are rows and columns of the arguments, so a point's product is the part of the down projection
that its 512 hidden columns make. The first ten steps of a row block add those parts up, the last adds its own and
normalises: the result array holds `FfnRows.out`.
-/

@[expose] public section

set_option maxRecDepth 16384

noncomputable section

namespace Cert.FfnIdeal.Rows

open Cert.FfnIdeal Cert.FfnIdeal.Gen Cert.FfnIdeal.Run Cert.FfnIdeal.Block Cert.RowNorm Cert.FfnRows
open Idealize.ShloMosaic Idealize.ShloMosaic.TcCoe Idealize.SL.Sem

variable (m : (ℓ : Loc nD τ sig) → Buf (Elt Ideal) ℓ)

theorem idx (t : Fin grid0.N) : win0_0.index t = ![t.val / 11, 0] ∧ win0_2.index t = ![0, t.val % 11]
    ∧ win0_3.index t = ![0, t.val % 11] ∧ win0_4.index t = ![t.val % 11, 0] ∧ win0_5.index t = ![0, 0]
    ∧ win0_6.index t = ![t.val / 11, 0] := by
  revert t
  decide +kernel

variable (c : Dev nD) (t : Fin grid0.N)

theorem lt_rows (r : Fin 1024) : 1024 * (t.val / 11) + r.val < 16384 := by
  have := t.isLt; have := N_0; omega

/-- Row `r` of the row block of point `t`. -/
abbrev row (r : Fin 1024) : Fin 16384 := ⟨1024 * (t.val / 11) + r.val, lt_rows t r⟩

theorem blk0 (r : Fin 1024) (k : Fin 2048) :
    iblk m c 0 t (ix2 r k) = m ((c : Thread nD τ).loc main_arg0) (ix2 (row t r) k) := by
  blk_ext [iblk, V, idx t]

theorem blk2 (q : Fin 2048) (k : Fin 512) :
    iblk m c 2 t (ix2 q k) = m ((c : Thread nD τ).loc main_arg2) (ix3 0 q ⟨512 * (t.val % 11) + k.val, by omega⟩) := by
  blk_ext! [iblk, V, idx t]

theorem blk3 (q : Fin 2048) (k : Fin 512) :
    iblk m c 3 t (ix2 q k) = m ((c : Thread nD τ).loc main_arg3) (ix3 0 q ⟨512 * (t.val % 11) + k.val, by omega⟩) := by
  blk_ext! [iblk, V, idx t]

theorem blk4 (k : Fin 512) (d : Fin 2048) :
    iblk m c 4 t (ix2 k d) = m ((c : Thread nD τ).loc main_arg4) (ix3 0 ⟨512 * (t.val % 11) + k.val, by omega⟩ d) := by
  blk_ext! [iblk, V, idx t]

theorem blk5 (d : Fin 2048) : iblk m c 5 t (ix2 0 d) = m ((c : Thread nD τ).loc main_arg5) (ix2 0 d) := by
  blk_ext! [iblk, V, idx t]

theorem resid_apply (r : Fin 1024) (d : Fin 2048) :
    resid m c t (ix2 r d) = m ((c : Thread nD τ).loc main_arg1) (ix2 (row t r) d) := rfl

/-- The down projection's terms for a row and a column, of the arguments. -/
abbrev T (r : Fin 16384) (d : Fin 2048) : Fin 5632 → EReal :=
  term (m ((c : Thread nD τ).loc main_arg0)) (m ((c : Thread nD τ).loc main_arg2)) (m ((c : Thread nD τ).loc main_arg3))
    (m ((c : Thread nD τ).loc main_arg4)) r d

/-- The part of the down projection that step `j` makes. -/
def part (r : Fin 16384) (d : Fin 2048) (j : ℕ) : EReal :=
  if h : j < 11 then ∑ k : Fin 512, T m c r d ⟨512 * j + k.val, by omega⟩ else 0

theorem prod_eq (r : Fin 1024) (d : Fin 2048) :
    prod (iblk m c 0 t) (iblk m c 2 t) (iblk m c 3 t) (iblk m c 4 t) r d = part m c (row t r) d (t.val % 11) := by
  unfold prod hid part
  rw [dif_pos (Nat.mod_lt _ (by decide))]
  simp only [blk0, blk2, blk3, blk4]
  rfl

/-- Before the last step the output block holds the parts made so far. -/
theorem outAt_eq : ∀ (j : ℕ) (t : Fin cfg0.N), t.val % 11 = j → j < 10 → ∀ (r : Fin 1024) (d : Fin 2048),
    outAt m c t.val t.isLt (ix2 r d) = ∑ a ∈ Finset.range (j + 1), part m c (row t r) d a
  | 0, t, ht, _, r, d => by
    rw [outAt_first m c t ht (resid m c t), first_apply, prod_eq, ht, Finset.sum_range_one]
  | j + 1, t, ht, hj, r, d => by
    have hp : (prev t).val % 11 = j := by show (t.val - 1) % 11 = j; omega
    have hr : row (prev t) r = row t r := Fin.ext (by
      show 1024 * ((t.val - 1) / 11) + r.val = 1024 * (t.val / 11) + r.val
      have : (t.val - 1) / 11 = t.val / 11 := by omega
      rw [this])
    rw [outAt_added m c t (by omega) (by omega), added_apply]
    unfold sums
    rw [outAt_eq j (prev t) hp (by omega) r d, prod_eq, hr, ht, Finset.sum_range_succ _ (j + 1)]

/-- The eleven parts are the whole projection. -/
theorem parts (r : Fin 16384) (d : Fin 2048) : ∑ a ∈ Finset.range 11, part m c r d a
    = down (m ((c : Thread nD τ).loc main_arg0)) (m ((c : Thread nD τ).loc main_arg2)) (m ((c : Thread nD τ).loc main_arg3))
    (m ((c : Thread nD τ).loc main_arg4)) r d := by
  let f : ℕ → ℕ → EReal := fun a b => if h : 512 * a + b < 5632 then T m c r d ⟨512 * a + b, h⟩ else 0
  have e := Fin.sum_univ_mul_divmod 11 512 f
  have hd : ∑ t : Fin (11 * 512), f (t.val / 512) (t.val % 512) = ∑ h : Fin 5632, T m c r d h :=
    Finset.sum_congr rfl fun h _ => by
      have hm := Nat.div_add_mod h.val 512
      have hh : h.val < 5632 := h.isLt
      exact (dif_pos (hm.trans_lt hh)).trans (congrArg (T m c r d) (Fin.ext hm))
  rw [Finset.sum_range]
  refine Eq.trans (Finset.sum_congr rfl fun a _ => ?_) (e.symm.trans hd)
  unfold part
  rw [dif_pos a.isLt]
  refine Finset.sum_congr rfl fun k _ => ?_
  have hk : 512 * a.val + k.val < 5632 := by omega
  simp only [f]
  rw [dif_pos hk]

/-- After the last step it holds the layer's rows. -/
theorem outAt_last (ht : t.val % 11 = 10) (r : Fin 1024) (d : Fin 2048) : outAt m c t.val t.isLt (ix2 r d)
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t r) d := by
  have hp : (prev t).val % 11 = 9 := by show (t.val - 1) % 11 = 9; omega
  have hr : row (prev t) r = row t r := Fin.ext (by
    show 1024 * ((t.val - 1) / 11) + r.val = 1024 * (t.val / 11) + r.val
    have : (t.val - 1) / 11 = t.val / 11 := by omega
    rw [this])
  have hs : sums (iblk m c 0 t) (iblk m c 2 t) (iblk m c 3 t) (iblk m c 4 t) (outAt m c (prev t).val (prev t).isLt) r
      = down (m ((c : Thread nD τ).loc main_arg0)) (m ((c : Thread nD τ).loc main_arg2)) (m ((c : Thread nD τ).loc main_arg3))
          (m ((c : Thread nD τ).loc main_arg4)) (row t r) := funext fun d => by
    unfold sums
    rw [outAt_eq m c 9 (prev t) hp (by decide) r d, prod_eq, hr, ht, ← Finset.sum_range_succ, parts]
  rw [outAt_finished m c t ht, finished_apply, hs, blk5, resid_apply]
  rfl

/-- **The result array.** -/
theorem final : (dats m 0 c).arrAt 6 cfg0.N = fun i => out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (i 0) (i 1) := by
  refine (dats m 0 c).arrAt_eq_of_covers 6 _ (by decide +kernel) fun t hf y => ?_
  have ht := (flush0_6 t).mp hf
  blk_simp
  rw [after_6]
  have e0 : ((View.whole main_v8).slice (win0_6.rect t)).emb y 0 = row t (y 0) := by
    apply Fin.ext; blk_simp [idx t]; exact congrArg (· + (y 0).val) (Nat.mul_comm _ _)
  have e1 : ((View.whole main_v8).slice (win0_6.rect t)).emb y 1 = y 1 := by
    apply Fin.ext; blk_simp [idx t]
  rw [e0, e1]
  obtain ⟨r, d, rfl⟩ : ∃ (r : Fin 1024) (d : Fin 2048), y = ix2 r d := ⟨y 0, y 1, eq_ix2 y⟩
  exact outAt_last m c t ht r d

end Cert.FfnIdeal.Rows

end
-- ==== Proof.FfnRef.lean ====
module

public import proofs.«01_k».proof.Proof.Gen.FfnReferenceIdeal.Read
public import proofs.«01_k».proof.Proof.FfnRows
import Idealize.ShloMosaic.Lib.Pipeline.ValueKit
import Idealize.ShloMosaic.Lib.Pointwise

/-! # What the reference of the feed-forward net computes

The reference's result, read at an index, is the row that `FfnRows` names. -/

@[expose] public section

set_option maxRecDepth 16384

noncomputable section

namespace Cert.FfnReferenceIdeal.Rows

open Idealize.ShloMosaic Cert.RowNorm Cert.FfnRows Cert.FfnReferenceIdeal Cert.FfnReferenceIdeal.Gen Cert.FfnReferenceIdeal.Read

variable (x : Vec Ideal S16384x2048 .bf16) (x1 : Vec Ideal S16384x2048 .f32) (wg wu : Vec Ideal S1x2048x5632 .f32)
    (wd : Vec Ideal S1x5632x2048 .f32) (p : Vec Ideal S1x2048 .f32)

/-- A row's gate product, -/
theorem gate_apply (r : Fin 16384) (h : Fin 5632) : val_main_v2 (F := Ideal) x wg (ix2 r h) = proj x wg r h := by
  rw [val_main_v2_apply]
  refine Finset.sum_congr rfl fun q _ => ?_
  rw [show lidx_main_v2 (ix2 r h) q = ix2 r q from funext fun a => match a with | 0 => rfl | 1 => rfl,
    show ridx_main_v2 (ix2 r h) q = ix2 q h from funext fun a => match a with | 0 => rfl | 1 => rfl]
  pointwise [val_main_v0, val_main_v1]

/-- its up product, -/
theorem up_apply (r : Fin 16384) (h : Fin 5632) : val_main_v5 (F := Ideal) x wu (ix2 r h) = proj x wu r h := by
  rw [val_main_v5_apply]
  refine Finset.sum_congr rfl fun q _ => ?_
  rw [show lidx_main_v5 (ix2 r h) q = ix2 r q from funext fun a => match a with | 0 => rfl | 1 => rfl,
    show ridx_main_v5 (ix2 r h) q = ix2 q h from funext fun a => match a with | 0 => rfl | 1 => rfl]
  pointwise [val_main_v0, val_main_v4]

/-- the hidden value they make, -/
theorem hidden_apply (r : Fin 16384) (h : Fin 5632) :
    val_main_v6 (F := Ideal) x wg wu (ix2 r h) = silu (proj x wg r h) * proj x wu r h := by
  have hg := gate_apply x wg
  have hu := up_apply x wu
  unfold val_main_v6 val_main_v3 val_main_call0_v5 val_main_call0_v3 val_main_call0_v1 val_main_call0_v0
  generalize val_main_v2 (F := Ideal) x wg = g at hg ⊢
  generalize val_main_v5 (F := Ideal) x wu = u at hu ⊢
  pointwise [val_main_call0_v2, val_main_call0_v4, val_main_call0_cst, val_main_call0_cst_0]
  simp only [hg, hu]
  rfl

/-- the down projection of the row, -/
theorem down_apply (r : Fin 16384) (d : Fin 2048) :
    val_main_v8 (F := Ideal) x wg wu wd (ix2 r d) = down x wg wu wd r d := by
  have h := hidden_apply x wg wu
  rw [val_main_v8_apply]
  generalize val_main_v6 (F := Ideal) x wg wu = y at h ⊢
  refine Finset.sum_congr rfl fun q _ => ?_
  rw [show lidx_main_v8 (ix2 r d) q = ix2 r q from funext fun a => match a with | 0 => rfl | 1 => rfl,
    show ridx_main_v8 (ix2 r d) q = ix2 q d from funext fun a => match a with | 0 => rfl | 1 => rfl, h]
  pointwise [val_main_v7]
  rfl

/-- and the result. -/
theorem out_apply (r : Fin 16384) (d : Fin 2048) :
    val_main_v23 (F := Ideal) x x1 wg wu wd p (ix2 r d) = out x x1 wg wu wd p r d := by
  have h := down_apply x wg wu wd
  unfold val_main_v23 val_main_v22 val_main_v19 val_main_v18 val_main_v17 val_main_v16 val_main_v14 val_main_v12 val_main_v11
    val_main_v10
  generalize val_main_v8 (F := Ideal) x wg wu wd = y at h ⊢
  pointwise [val_main_v9, val_main_v20, val_main_v21, val_main_v13, val_main_v15, val_main_cst, val_main_cst_0,
    val_main_cst_1]
  simp only [h]
  rfl

end Cert.FfnReferenceIdeal.Rows

end
-- ==== Proof.Ffn.lean ====
module

public import proofs.«01_k».proof.Defs
public import proofs.«01_k».proof.Proof.Gen.Ffn
public import proofs.«01_k».proof.Proof.Gen.FfnReferenceIdeal.Run
public import proofs.«01_k».proof.Proof.FfnValue
public import proofs.«01_k».proof.Proof.FfnRef

/-! # The feed-forward net's claims

Frames of the kernel and of its reference, the named constant, and the equality of their results. -/

@[expose] public section

noncomputable section

namespace Cert.FfnClaims

open Idealize.ShloMosaic Idealize.ShloMosaic.TcCoe Idealize.SL.Sem

section Kernel

open Cert.FfnIdeal Cert.FfnIdeal.Gen Cert.FfnIdeal.Run

section Frame

variable {F : FTy → Type} [FloatOps F] [Named F] (m : (ℓ : Loc nD τ sig) → Buf (Elt F) ℓ) (ρ : Dev nD → PrngReg)

/-- The kernel's run, its final memory as the windows describe it. -/
theorem run_post : θ_run defs (onTc (τ := τ) (main (F := F))) (s₀ m ρ) (Pipeline.FramePost cfgs (dats m) 0 (V m)) :=
  (θ_run defs _ _).mono (fun _ h => h.1) (run_quiescent m ρ)

/-- The kernel's frame, at any floats. -/
theorem frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))
    ∧ r.2.sem = fun _ => 0) :=
  θ_run_and (frame_of m ρ (dats m) (A_eq m) (run_post m ρ)) ((θ_run defs _ _).mono (fun _ h => h.2) (run_quiescent m ρ))

end Frame

variable (m : (ℓ : Loc nD τ sig) → Buf (Elt Ideal) ℓ) (ρ : Dev nD → PrngReg)

/-- The kernel's run, its result array named and its arguments unchanged. -/
theorem run_kernel : θ_run defs (onTc (τ := τ) (main (F := Ideal))) ⟨m, fun _ => 0, ρ⟩ fun r => ∀ c : Dev nD,
    r.2.mem ((c : Thread nD τ).loc main_v8) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h.1 c).1 6, h.2 c⟩) (θ_run_and (run_post m ρ) (frame_of m ρ (dats m) (A_eq m) (run_post m ρ)))

end Kernel

/-- The kernel runs at the exact floats; -/
theorem frame_ideal : Cert.quiescent_FfnIdeal := fun m ρ _ => frame m ρ

set_option smartUnfolding false in
/-- so it does at the machine's, where a named constant is its word: the two programs then have the same text; -/
theorem frame_bits : Cert.quiescent_Ffn := fun m ρ _ =>
  letI : Named Bits := ⟨fun _ _ _ w => Scalar.ofBits _ w⟩
  frame (F := Bits) m ρ

/-- so does the reference. -/
theorem frame_reference : Cert.quiescent_FfnReferenceIdeal := fun m ρ _ =>
  (θ_run _ _ _).mono (fun r h => ⟨fun c => (h c).2, sem_eq_zero_of_no_sems (by decide) r.2⟩)
    (Cert.FfnReferenceIdeal.Value.run (F := Ideal) m ρ)

section Reference

open Cert.FfnReferenceIdeal Cert.FfnReferenceIdeal.Read Cert.FfnRows

variable (m : (ℓ : Loc nD τ sig) → Buf (Elt Ideal) ℓ) (ρ : Dev nD → PrngReg)

/-- The reference's run with its result named row by row. -/
theorem run_reference : θ_run defs (onTc (τ := τ) (main (F := Ideal))) ⟨m, fun _ => 0, ρ⟩ fun r => ∀ c : Dev nD,
    (r.2.mem ((c : Thread nD τ).loc main_v23) = fun i => out (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (i 0) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run defs _ _).mono (fun _ h c => ⟨?_, (h c).2⟩) (Cert.FfnReferenceIdeal.Value.run (F := Ideal) m ρ)
  refine ((h c).1.trans (val_main_v23_eq _ _ _ _ _ _)).trans (funext fun i => ?_)
  obtain ⟨r, d, rfl⟩ : ∃ (r : Fin 16384) (d : Fin 2048), i = ix2 r d := ⟨i 0, i 1, eq_ix2 i⟩
  exact Rows.out_apply _ _ _ _ _ _ r d

end Reference

/-- The multiplier of the exponent is the rounded reciprocal of the logarithm of two, negated. -/
theorem preserves : Cert.preserves_Ffn_FfnIdeal :=
  IdealRules.named_const.statement Cert.FfnIdeal.κ "neg_log2e" .f32 0xBFB8AA3B#32 ((-((Real.log 2)⁻¹) : ℝ) : EReal) rfl

/-- **The kernel's result is the reference's.** -/
theorem algebraic : Cert.algebraic_FfnIdeal_FfnReferenceIdeal := by
  intro m ρ m' ρ' _ hagree
  refine ⟨fun c => (Cert.FfnIdeal.Run.dats m 0 c).arrAt 6 Cert.FfnIdeal.cfg0.N,
    run_kernel m ρ, (θ_run _ _ _).mono (fun _ h c => ?_) (run_reference m' ρ')⟩
  obtain ⟨e0, e1, e2, e3, e4, e5⟩ := hagree c
  refine ⟨(h c).1.trans (Eq.trans ?_ (Cert.FfnIdeal.Rows.final m c).symm), (h c).2⟩
  rw [e0, e1, e2, e3, e4, e5]; rfl

end Cert.FfnClaims

end
-- ==== Proof.lean ====
module

public import proofs.«01_k».proof.Defs
public import proofs.«01_k».proof.Proof.SsdClaims
public import proofs.«01_k».proof.Proof.OutProj
public import proofs.«01_k».proof.Proof.Ffn

/-! # Everything claimed -/

@[expose] public section

noncomputable section

namespace Cert.Proof

open Idealize.ShloMosaic Idealize.SL.Sem

theorem claim : Cert.Claim :=
  ⟨Cert.Mixer.Gen.facts, Cert.MixerIdeal.Gen.facts, Cert.MixerReferenceIdeal.Gen.facts,
    Cert.OutProj.Gen.facts, Cert.OutProjIdeal.Gen.facts,
    Cert.OutProjReferenceIdeal.Gen.facts, Cert.Ffn.Gen.facts, Cert.FfnIdeal.Gen.facts, Cert.FfnReferenceIdeal.Gen.facts,
    Cert.Pre_finite.Gen.facts,
    Cert.SsdClaims.frame_bits, Cert.SsdClaims.frame_ideal, Cert.SsdClaims.frame_ideal_finite,
    Cert.SsdClaims.frame_reference, Cert.SsdClaims.frame_reference_finite,
    Cert.OutProjClaims.frame_bits, Cert.OutProjClaims.frame_ideal, Cert.OutProjClaims.frame_reference,
    Cert.FfnClaims.frame_bits, Cert.FfnClaims.frame_ideal, Cert.FfnClaims.frame_reference,
    Cert.SsdClaims.preserves, Cert.SsdClaims.algebraic, Cert.OutProjClaims.preserves, Cert.OutProjClaims.algebraic,
    Cert.FfnClaims.preserves, Cert.FfnClaims.algebraic⟩

end Cert.Proof

end
